-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_RefMlpIdeal (m : (ℓ : Loc Cert.RefMlpIdeal.nD Cert.RefMlpIdeal.τ Cert.RefMlpIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_RefOddIdeal (m : (ℓ : Loc Cert.RefOddIdeal.nD Cert.RefOddIdeal.τ Cert.RefOddIdeal.sig) → Buf (Elt Ideal) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinIdeal_finite_rows [hPre_finite_rows : Cert.Pre_finite_rows.Facts] (m : (ℓ : Loc Cert.JoinIdeal.nD Cert.JoinIdeal.τ Cert.JoinIdeal.sig) → Buf (Elt Ideal) ℓ) : Prop :=
  ∀ c : Dev Cert.JoinIdeal.nD,
    (Cert.Pre_finite_rows.fn (F := Ideal) (m ((c.tc : Thread Cert.JoinIdeal.nD Cert.JoinIdeal.τ).loc Cert.JoinIdeal.main_arg0)) (m ((c.tc : Thread Cert.JoinIdeal.nD Cert.JoinIdeal.τ).loc Cert.JoinIdeal.main_arg1)) (m ((c.tc : Thread Cert.JoinIdeal.nD Cert.JoinIdeal.τ).loc Cert.JoinIdeal.main_arg2)) (m ((c.tc : Thread Cert.JoinIdeal.nD Cert.JoinIdeal.τ).loc Cert.JoinIdeal.main_arg3)) (m ((c.tc : Thread Cert.JoinIdeal.nD Cert.JoinIdeal.τ).loc Cert.JoinIdeal.main_arg4)) (m ((c.tc : Thread Cert.JoinIdeal.nD Cert.JoinIdeal.τ).loc Cert.JoinIdeal.main_arg5)) (m ((c.tc : Thread Cert.JoinIdeal.nD Cert.JoinIdeal.τ).loc Cert.JoinIdeal.main_arg6)) (m ((c.tc : Thread Cert.JoinIdeal.nD Cert.JoinIdeal.τ).loc Cert.JoinIdeal.main_arg7)) (m ((c.tc : Thread Cert.JoinIdeal.nD Cert.JoinIdeal.τ).loc Cert.JoinIdeal.main_arg8)) (m ((c.tc : Thread Cert.JoinIdeal.nD Cert.JoinIdeal.τ).loc Cert.JoinIdeal.main_arg9)) (m ((c.tc : Thread Cert.JoinIdeal.nD Cert.JoinIdeal.τ).loc Cert.JoinIdeal.main_arg10)) (m ((c.tc : Thread Cert.JoinIdeal.nD Cert.JoinIdeal.τ).loc Cert.JoinIdeal.main_arg11)) (m ((c.tc : Thread Cert.JoinIdeal.nD Cert.JoinIdeal.τ).loc Cert.JoinIdeal.main_arg12))) = (fun _ => 1#1)

def Pre_RefJoinIdeal (m : (ℓ : Loc Cert.RefJoinIdeal.nD Cert.RefJoinIdeal.τ Cert.RefJoinIdeal.sig) → Buf (Elt Ideal) ℓ) : Prop :=
  True

def Pre_RefJoinIdeal_finite_rows [hPre_finite_rows : Cert.Pre_finite_rows.Facts] (m : (ℓ : Loc Cert.RefJoinIdeal.nD Cert.RefJoinIdeal.τ Cert.RefJoinIdeal.sig) → Buf (Elt Ideal) ℓ) : Prop :=
  ∀ c : Dev Cert.RefJoinIdeal.nD,
    (Cert.Pre_finite_rows.fn (F := Ideal) (m ((c.tc : Thread Cert.RefJoinIdeal.nD Cert.RefJoinIdeal.τ).loc Cert.RefJoinIdeal.main_arg0)) (m ((c.tc : Thread Cert.RefJoinIdeal.nD Cert.RefJoinIdeal.τ).loc Cert.RefJoinIdeal.main_arg1)) (m ((c.tc : Thread Cert.RefJoinIdeal.nD Cert.RefJoinIdeal.τ).loc Cert.RefJoinIdeal.main_arg2)) (m ((c.tc : Thread Cert.RefJoinIdeal.nD Cert.RefJoinIdeal.τ).loc Cert.RefJoinIdeal.main_arg3)) (m ((c.tc : Thread Cert.RefJoinIdeal.nD Cert.RefJoinIdeal.τ).loc Cert.RefJoinIdeal.main_arg4)) (m ((c.tc : Thread Cert.RefJoinIdeal.nD Cert.RefJoinIdeal.τ).loc Cert.RefJoinIdeal.main_arg5)) (m ((c.tc : Thread Cert.RefJoinIdeal.nD Cert.RefJoinIdeal.τ).loc Cert.RefJoinIdeal.main_arg6)) (m ((c.tc : Thread Cert.RefJoinIdeal.nD Cert.RefJoinIdeal.τ).loc Cert.RefJoinIdeal.main_arg7)) (m ((c.tc : Thread Cert.RefJoinIdeal.nD Cert.RefJoinIdeal.τ).loc Cert.RefJoinIdeal.main_arg8)) (m ((c.tc : Thread Cert.RefJoinIdeal.nD Cert.RefJoinIdeal.τ).loc Cert.RefJoinIdeal.main_arg9)) (m ((c.tc : Thread Cert.RefJoinIdeal.nD Cert.RefJoinIdeal.τ).loc Cert.RefJoinIdeal.main_arg10)) (m ((c.tc : Thread Cert.RefJoinIdeal.nD Cert.RefJoinIdeal.τ).loc Cert.RefJoinIdeal.main_arg11)) (m ((c.tc : Thread Cert.RefJoinIdeal.nD Cert.RefJoinIdeal.τ).loc Cert.RefJoinIdeal.main_arg12))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_RefModIdeal (m : (ℓ : Loc Cert.RefModIdeal.nD Cert.RefModIdeal.τ Cert.RefModIdeal.sig) → Buf (Elt Ideal) ℓ) : Prop :=
  True

def Pre_OutCtx (m : (ℓ : Loc Cert.OutCtx.nD Cert.OutCtx.τ Cert.OutCtx.sig) → Buf (Elt Bits) ℓ) : Prop :=
  True

def Pre_OutCtxIdeal (m : (ℓ : Loc Cert.OutCtxIdeal.nD Cert.OutCtxIdeal.τ Cert.OutCtxIdeal.sig) → Buf (Elt Ideal) ℓ) : Prop :=
  True

def Pre_RefOutCtxIdeal (m : (ℓ : Loc Cert.RefOutCtxIdeal.nD Cert.RefOutCtxIdeal.τ Cert.RefOutCtxIdeal.sig) → Buf (Elt Ideal) ℓ) : Prop :=
  True

def Pre_InCtx (m : (ℓ : Loc Cert.InCtx.nD Cert.InCtx.τ Cert.InCtx.sig) → Buf (Elt Bits) ℓ) : Prop :=
  True

def Pre_InCtxIdeal (m : (ℓ : Loc Cert.InCtxIdeal.nD Cert.InCtxIdeal.τ Cert.InCtxIdeal.sig) → Buf (Elt Ideal) ℓ) : Prop :=
  True

def Pre_RefInCtxIdeal (m : (ℓ : Loc Cert.RefInCtxIdeal.nD Cert.RefInCtxIdeal.τ Cert.RefInCtxIdeal.sig) → Buf (Elt Ideal) ℓ) : Prop :=
  True

def Pre_OddCtx (m : (ℓ : Loc Cert.OddCtx.nD Cert.OddCtx.τ Cert.OddCtx.sig) → Buf (Elt Bits) ℓ) : Prop :=
  True

def Pre_OddCtxIdeal (m : (ℓ : Loc Cert.OddCtxIdeal.nD Cert.OddCtxIdeal.τ Cert.OddCtxIdeal.sig) → Buf (Elt Ideal) ℓ) : Prop :=
  True

def Pre_RefOddCtxIdeal (m : (ℓ : Loc Cert.RefOddCtxIdeal.nD Cert.RefOddCtxIdeal.τ Cert.RefOddCtxIdeal.sig) → Buf (Elt Ideal) ℓ) : Prop :=
  True

def Pre_Feat (m : (ℓ : Loc Cert.Feat.nD Cert.Feat.τ Cert.Feat.sig) → Buf (Elt Bits) ℓ) : Prop :=
  True

def Pre_FeatIdeal (m : (ℓ : Loc Cert.FeatIdeal.nD Cert.FeatIdeal.τ Cert.FeatIdeal.sig) → Buf (Elt Ideal) ℓ) : Prop :=
  True

def Pre_FeatIdeal_finite_keys [hPre_finite_keys : Cert.Pre_finite_keys.Facts] (m : (ℓ : Loc Cert.FeatIdeal.nD Cert.FeatIdeal.τ Cert.FeatIdeal.sig) → Buf (Elt Ideal) ℓ) : Prop :=
  ∀ c : Dev Cert.FeatIdeal.nD,
    (Cert.Pre_finite_keys.fn (F := Ideal) (m ((c.tc : Thread Cert.FeatIdeal.nD Cert.FeatIdeal.τ).loc Cert.FeatIdeal.main_arg0)) (m ((c.tc : Thread Cert.FeatIdeal.nD Cert.FeatIdeal.τ).loc Cert.FeatIdeal.main_arg1)) (m ((c.tc : Thread Cert.FeatIdeal.nD Cert.FeatIdeal.τ).loc Cert.FeatIdeal.main_arg2)) (m ((c.tc : Thread Cert.FeatIdeal.nD Cert.FeatIdeal.τ).loc Cert.FeatIdeal.main_arg3)) (m ((c.tc : Thread Cert.FeatIdeal.nD Cert.FeatIdeal.τ).loc Cert.FeatIdeal.main_arg4)) (m ((c.tc : Thread Cert.FeatIdeal.nD Cert.FeatIdeal.τ).loc Cert.FeatIdeal.main_arg5)) (m ((c.tc : Thread Cert.FeatIdeal.nD Cert.FeatIdeal.τ).loc Cert.FeatIdeal.main_arg6)) (m ((c.tc : Thread Cert.FeatIdeal.nD Cert.FeatIdeal.τ).loc Cert.FeatIdeal.main_arg7)) (m ((c.tc : Thread Cert.FeatIdeal.nD Cert.FeatIdeal.τ).loc Cert.FeatIdeal.main_arg8)) (m ((c.tc : Thread Cert.FeatIdeal.nD Cert.FeatIdeal.τ).loc Cert.FeatIdeal.main_arg9))) = (fun _ => 1#1)

def Pre_RefFeatIdeal (m : (ℓ : Loc Cert.RefFeatIdeal.nD Cert.RefFeatIdeal.τ Cert.RefFeatIdeal.sig) → Buf (Elt Ideal) ℓ) : Prop :=
  True

def Pre_RefFeatIdeal_finite_keys [hPre_finite_keys : Cert.Pre_finite_keys.Facts] (m : (ℓ : Loc Cert.RefFeatIdeal.nD Cert.RefFeatIdeal.τ Cert.RefFeatIdeal.sig) → Buf (Elt Ideal) ℓ) : Prop :=
  ∀ c : Dev Cert.RefFeatIdeal.nD,
    (Cert.Pre_finite_keys.fn (F := Ideal) (m ((c.tc : Thread Cert.RefFeatIdeal.nD Cert.RefFeatIdeal.τ).loc Cert.RefFeatIdeal.main_arg0)) (m ((c.tc : Thread Cert.RefFeatIdeal.nD Cert.RefFeatIdeal.τ).loc Cert.RefFeatIdeal.main_arg1)) (m ((c.tc : Thread Cert.RefFeatIdeal.nD Cert.RefFeatIdeal.τ).loc Cert.RefFeatIdeal.main_arg2)) (m ((c.tc : Thread Cert.RefFeatIdeal.nD Cert.RefFeatIdeal.τ).loc Cert.RefFeatIdeal.main_arg3)) (m ((c.tc : Thread Cert.RefFeatIdeal.nD Cert.RefFeatIdeal.τ).loc Cert.RefFeatIdeal.main_arg4)) (m ((c.tc : Thread Cert.RefFeatIdeal.nD Cert.RefFeatIdeal.τ).loc Cert.RefFeatIdeal.main_arg5)) (m ((c.tc : Thread Cert.RefFeatIdeal.nD Cert.RefFeatIdeal.τ).loc Cert.RefFeatIdeal.main_arg6)) (m ((c.tc : Thread Cert.RefFeatIdeal.nD Cert.RefFeatIdeal.τ).loc Cert.RefFeatIdeal.main_arg7)) (m ((c.tc : Thread Cert.RefFeatIdeal.nD Cert.RefFeatIdeal.τ).loc Cert.RefFeatIdeal.main_arg8)) (m ((c.tc : Thread Cert.RefFeatIdeal.nD Cert.RefFeatIdeal.τ).loc Cert.RefFeatIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_RefMlpIdeal [hRefMlpIdeal : Cert.RefMlpIdeal.Facts] : Prop :=
  ∀ (m : (ℓ : Loc Cert.RefMlpIdeal.nD Cert.RefMlpIdeal.τ Cert.RefMlpIdeal.sig) → Buf (Elt Ideal) ℓ) (g : Dev Cert.RefMlpIdeal.nD → PrngReg), Pre_RefMlpIdeal m →
    θ_run (Cert.RefMlpIdeal.defs (F := Ideal)) (onTc (τ := Cert.RefMlpIdeal.τ) (Cert.RefMlpIdeal.main (F := Ideal))) ⟨m, fun _ => 0, g⟩ (fun r => (∀ c : Dev Cert.RefMlpIdeal.nD,
      r.2.mem ((c.tc : Thread Cert.RefMlpIdeal.nD Cert.RefMlpIdeal.τ).loc Cert.RefMlpIdeal.main_arg0) = m ((c.tc : Thread Cert.RefMlpIdeal.nD Cert.RefMlpIdeal.τ).loc Cert.RefMlpIdeal.main_arg0)
      ∧ r.2.mem ((c.tc : Thread Cert.RefMlpIdeal.nD Cert.RefMlpIdeal.τ).loc Cert.RefMlpIdeal.main_arg1) = m ((c.tc : Thread Cert.RefMlpIdeal.nD Cert.RefMlpIdeal.τ).loc Cert.RefMlpIdeal.main_arg1)
      ∧ r.2.mem ((c.tc : Thread Cert.RefMlpIdeal.nD Cert.RefMlpIdeal.τ).loc Cert.RefMlpIdeal.main_arg2) = m ((c.tc : Thread Cert.RefMlpIdeal.nD Cert.RefMlpIdeal.τ).loc Cert.RefMlpIdeal.main_arg2)
      ∧ r.2.mem ((c.tc : Thread Cert.RefMlpIdeal.nD Cert.RefMlpIdeal.τ).loc Cert.RefMlpIdeal.main_arg3) = m ((c.tc : Thread Cert.RefMlpIdeal.nD Cert.RefMlpIdeal.τ).loc Cert.RefMlpIdeal.main_arg3)
      ∧ r.2.mem ((c.tc : Thread Cert.RefMlpIdeal.nD Cert.RefMlpIdeal.τ).loc Cert.RefMlpIdeal.main_arg4) = m ((c.tc : Thread Cert.RefMlpIdeal.nD Cert.RefMlpIdeal.τ).loc Cert.RefMlpIdeal.main_arg4)
      ∧ r.2.mem ((c.tc : Thread Cert.RefMlpIdeal.nD Cert.RefMlpIdeal.τ).loc Cert.RefMlpIdeal.main_arg5) = m ((c.tc : Thread Cert.RefMlpIdeal.nD Cert.RefMlpIdeal.τ).loc Cert.RefMlpIdeal.main_arg5)
      ∧ r.2.mem ((c.tc : Thread Cert.RefMlpIdeal.nD Cert.RefMlpIdeal.τ).loc Cert.RefMlpIdeal.main_arg6) = m ((c.tc : Thread Cert.RefMlpIdeal.nD Cert.RefMlpIdeal.τ).loc Cert.RefMlpIdeal.main_arg6)
      ∧ r.2.mem ((c.tc : Thread Cert.RefMlpIdeal.nD Cert.RefMlpIdeal.τ).loc Cert.RefMlpIdeal.main_arg7) = m ((c.tc : Thread Cert.RefMlpIdeal.nD Cert.RefMlpIdeal.τ).loc Cert.RefMlpIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12)
      ∧ r.2.mem ((c.tc : Thread Cert.Out.nD Cert.Out.τ).loc Cert.Out.main_arg13) = m ((c.tc : Thread Cert.Out.nD Cert.Out.τ).loc Cert.Out.main_arg13))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
      ∧ r.2.mem ((c.tc : Thread Cert.OutIdeal.nD Cert.OutIdeal.τ).loc Cert.OutIdeal.main_arg13) = m ((c.tc : Thread Cert.OutIdeal.nD Cert.OutIdeal.τ).loc Cert.OutIdeal.main_arg13))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5)
      ∧ r.2.mem ((c.tc : Thread Cert.RefOutIdeal.nD Cert.RefOutIdeal.τ).loc Cert.RefOutIdeal.main_arg6) = m ((c.tc : Thread Cert.RefOutIdeal.nD Cert.RefOutIdeal.τ).loc Cert.RefOutIdeal.main_arg6)
      ∧ r.2.mem ((c.tc : Thread Cert.RefOutIdeal.nD Cert.RefOutIdeal.τ).loc Cert.RefOutIdeal.main_arg7) = m ((c.tc : Thread Cert.RefOutIdeal.nD Cert.RefOutIdeal.τ).loc Cert.RefOutIdeal.main_arg7)
      ∧ r.2.mem ((c.tc : Thread Cert.RefOutIdeal.nD Cert.RefOutIdeal.τ).loc Cert.RefOutIdeal.main_arg8) = m ((c.tc : Thread Cert.RefOutIdeal.nD Cert.RefOutIdeal.τ).loc Cert.RefOutIdeal.main_arg8)
      ∧ r.2.mem ((c.tc : Thread Cert.RefOutIdeal.nD Cert.RefOutIdeal.τ).loc Cert.RefOutIdeal.main_arg9) = m ((c.tc : Thread Cert.RefOutIdeal.nD Cert.RefOutIdeal.τ).loc Cert.RefOutIdeal.main_arg9)
      ∧ r.2.mem ((c.tc : Thread Cert.RefOutIdeal.nD Cert.RefOutIdeal.τ).loc Cert.RefOutIdeal.main_arg10) = m ((c.tc : Thread Cert.RefOutIdeal.nD Cert.RefOutIdeal.τ).loc Cert.RefOutIdeal.main_arg10)
      ∧ r.2.mem ((c.tc : Thread Cert.RefOutIdeal.nD Cert.RefOutIdeal.τ).loc Cert.RefOutIdeal.main_arg11) = m ((c.tc : Thread Cert.RefOutIdeal.nD Cert.RefOutIdeal.τ).loc Cert.RefOutIdeal.main_arg11)
      ∧ r.2.mem ((c.tc : Thread Cert.RefOutIdeal.nD Cert.RefOutIdeal.τ).loc Cert.RefOutIdeal.main_arg12) = m ((c.tc : Thread Cert.RefOutIdeal.nD Cert.RefOutIdeal.τ).loc Cert.RefOutIdeal.main_arg12)
      ∧ r.2.mem ((c.tc : Thread Cert.RefOutIdeal.nD Cert.RefOutIdeal.τ).loc Cert.RefOutIdeal.main_arg13) = m ((c.tc : Thread Cert.RefOutIdeal.nD Cert.RefOutIdeal.τ).loc Cert.RefOutIdeal.main_arg13))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ r.2.sem = fun _ => 0)

def quiescent_RefOddIdeal [hRefOddIdeal : Cert.RefOddIdeal.Facts] : Prop :=
  ∀ (m : (ℓ : Loc Cert.RefOddIdeal.nD Cert.RefOddIdeal.τ Cert.RefOddIdeal.sig) → Buf (Elt Ideal) ℓ) (g : Dev Cert.RefOddIdeal.nD → PrngReg), Pre_RefOddIdeal m →
    θ_run (Cert.RefOddIdeal.defs (F := Ideal)) (onTc (τ := Cert.RefOddIdeal.τ) (Cert.RefOddIdeal.main (F := Ideal))) ⟨m, fun _ => 0, g⟩ (fun r => (∀ c : Dev Cert.RefOddIdeal.nD,
      r.2.mem ((c.tc : Thread Cert.RefOddIdeal.nD Cert.RefOddIdeal.τ).loc Cert.RefOddIdeal.main_arg0) = m ((c.tc : Thread Cert.RefOddIdeal.nD Cert.RefOddIdeal.τ).loc Cert.RefOddIdeal.main_arg0)
      ∧ r.2.mem ((c.tc : Thread Cert.RefOddIdeal.nD Cert.RefOddIdeal.τ).loc Cert.RefOddIdeal.main_arg1) = m ((c.tc : Thread Cert.RefOddIdeal.nD Cert.RefOddIdeal.τ).loc Cert.RefOddIdeal.main_arg1)
      ∧ r.2.mem ((c.tc : Thread Cert.RefOddIdeal.nD Cert.RefOddIdeal.τ).loc Cert.RefOddIdeal.main_arg2) = m ((c.tc : Thread Cert.RefOddIdeal.nD Cert.RefOddIdeal.τ).loc Cert.RefOddIdeal.main_arg2)
      ∧ r.2.mem ((c.tc : Thread Cert.RefOddIdeal.nD Cert.RefOddIdeal.τ).loc Cert.RefOddIdeal.main_arg3) = m ((c.tc : Thread Cert.RefOddIdeal.nD Cert.RefOddIdeal.τ).loc Cert.RefOddIdeal.main_arg3))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4)
      ∧ r.2.mem ((c.tc : Thread Cert.Join.nD Cert.Join.τ).loc Cert.Join.main_arg5) = m ((c.tc : Thread Cert.Join.nD Cert.Join.τ).loc Cert.Join.main_arg5)
      ∧ r.2.mem ((c.tc : Thread Cert.Join.nD Cert.Join.τ).loc Cert.Join.main_arg6) = m ((c.tc : Thread Cert.Join.nD Cert.Join.τ).loc Cert.Join.main_arg6)
      ∧ r.2.mem ((c.tc : Thread Cert.Join.nD Cert.Join.τ).loc Cert.Join.main_arg7) = m ((c.tc : Thread Cert.Join.nD Cert.Join.τ).loc Cert.Join.main_arg7)
      ∧ r.2.mem ((c.tc : Thread Cert.Join.nD Cert.Join.τ).loc Cert.Join.main_arg8) = m ((c.tc : Thread Cert.Join.nD Cert.Join.τ).loc Cert.Join.main_arg8)
      ∧ r.2.mem ((c.tc : Thread Cert.Join.nD Cert.Join.τ).loc Cert.Join.main_arg9) = m ((c.tc : Thread Cert.Join.nD Cert.Join.τ).loc Cert.Join.main_arg9)
      ∧ r.2.mem ((c.tc : Thread Cert.Join.nD Cert.Join.τ).loc Cert.Join.main_arg10) = m ((c.tc : Thread Cert.Join.nD Cert.Join.τ).loc Cert.Join.main_arg10)
      ∧ r.2.mem ((c.tc : Thread Cert.Join.nD Cert.Join.τ).loc Cert.Join.main_arg11) = m ((c.tc : Thread Cert.Join.nD Cert.Join.τ).loc Cert.Join.main_arg11)
      ∧ r.2.mem ((c.tc : Thread Cert.Join.nD Cert.Join.τ).loc Cert.Join.main_arg12) = m ((c.tc : Thread Cert.Join.nD Cert.Join.τ).loc Cert.Join.main_arg12))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
      ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
      ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
      ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9)
      ∧ r.2.mem ((c.tc : Thread Cert.JoinIdeal.nD Cert.JoinIdeal.τ).loc Cert.JoinIdeal.main_arg10) = m ((c.tc : Thread Cert.JoinIdeal.nD Cert.JoinIdeal.τ).loc Cert.JoinIdeal.main_arg10)
      ∧ r.2.mem ((c.tc : Thread Cert.JoinIdeal.nD Cert.JoinIdeal.τ).loc Cert.JoinIdeal.main_arg11) = m ((c.tc : Thread Cert.JoinIdeal.nD Cert.JoinIdeal.τ).loc Cert.JoinIdeal.main_arg11)
      ∧ r.2.mem ((c.tc : Thread Cert.JoinIdeal.nD Cert.JoinIdeal.τ).loc Cert.JoinIdeal.main_arg12) = m ((c.tc : Thread Cert.JoinIdeal.nD Cert.JoinIdeal.τ).loc Cert.JoinIdeal.main_arg12))
      ∧ r.2.sem = fun _ => 0)

def quiescent_JoinIdeal_pre_finite_rows [hJoinIdeal : Cert.JoinIdeal.Facts] [hPre_finite_rows : Cert.Pre_finite_rows.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal_finite_rows m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
      ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
      ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
      ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9)
      ∧ r.2.mem ((c.tc : Thread Cert.JoinIdeal.nD Cert.JoinIdeal.τ).loc Cert.JoinIdeal.main_arg10) = m ((c.tc : Thread Cert.JoinIdeal.nD Cert.JoinIdeal.τ).loc Cert.JoinIdeal.main_arg10)
      ∧ r.2.mem ((c.tc : Thread Cert.JoinIdeal.nD Cert.JoinIdeal.τ).loc Cert.JoinIdeal.main_arg11) = m ((c.tc : Thread Cert.JoinIdeal.nD Cert.JoinIdeal.τ).loc Cert.JoinIdeal.main_arg11)
      ∧ r.2.mem ((c.tc : Thread Cert.JoinIdeal.nD Cert.JoinIdeal.τ).loc Cert.JoinIdeal.main_arg12) = m ((c.tc : Thread Cert.JoinIdeal.nD Cert.JoinIdeal.τ).loc Cert.JoinIdeal.main_arg12))
      ∧ r.2.sem = fun _ => 0)

def quiescent_RefJoinIdeal [hRefJoinIdeal : Cert.RefJoinIdeal.Facts] : Prop :=
  ∀ (m : (ℓ : Loc Cert.RefJoinIdeal.nD Cert.RefJoinIdeal.τ Cert.RefJoinIdeal.sig) → Buf (Elt Ideal) ℓ) (g : Dev Cert.RefJoinIdeal.nD → PrngReg), Pre_RefJoinIdeal m →
    θ_run (Cert.RefJoinIdeal.defs (F := Ideal)) (onTc (τ := Cert.RefJoinIdeal.τ) (Cert.RefJoinIdeal.main (F := Ideal))) ⟨m, fun _ => 0, g⟩ (fun r => (∀ c : Dev Cert.RefJoinIdeal.nD,
      r.2.mem ((c.tc : Thread Cert.RefJoinIdeal.nD Cert.RefJoinIdeal.τ).loc Cert.RefJoinIdeal.main_arg0) = m ((c.tc : Thread Cert.RefJoinIdeal.nD Cert.RefJoinIdeal.τ).loc Cert.RefJoinIdeal.main_arg0)
      ∧ r.2.mem ((c.tc : Thread Cert.RefJoinIdeal.nD Cert.RefJoinIdeal.τ).loc Cert.RefJoinIdeal.main_arg1) = m ((c.tc : Thread Cert.RefJoinIdeal.nD Cert.RefJoinIdeal.τ).loc Cert.RefJoinIdeal.main_arg1)
      ∧ r.2.mem ((c.tc : Thread Cert.RefJoinIdeal.nD Cert.RefJoinIdeal.τ).loc Cert.RefJoinIdeal.main_arg2) = m ((c.tc : Thread Cert.RefJoinIdeal.nD Cert.RefJoinIdeal.τ).loc Cert.RefJoinIdeal.main_arg2)
      ∧ r.2.mem ((c.tc : Thread Cert.RefJoinIdeal.nD Cert.RefJoinIdeal.τ).loc Cert.RefJoinIdeal.main_arg3) = m ((c.tc : Thread Cert.RefJoinIdeal.nD Cert.RefJoinIdeal.τ).loc Cert.RefJoinIdeal.main_arg3)
      ∧ r.2.mem ((c.tc : Thread Cert.RefJoinIdeal.nD Cert.RefJoinIdeal.τ).loc Cert.RefJoinIdeal.main_arg4) = m ((c.tc : Thread Cert.RefJoinIdeal.nD Cert.RefJoinIdeal.τ).loc Cert.RefJoinIdeal.main_arg4)
      ∧ r.2.mem ((c.tc : Thread Cert.RefJoinIdeal.nD Cert.RefJoinIdeal.τ).loc Cert.RefJoinIdeal.main_arg5) = m ((c.tc : Thread Cert.RefJoinIdeal.nD Cert.RefJoinIdeal.τ).loc Cert.RefJoinIdeal.main_arg5)
      ∧ r.2.mem ((c.tc : Thread Cert.RefJoinIdeal.nD Cert.RefJoinIdeal.τ).loc Cert.RefJoinIdeal.main_arg6) = m ((c.tc : Thread Cert.RefJoinIdeal.nD Cert.RefJoinIdeal.τ).loc Cert.RefJoinIdeal.main_arg6)
      ∧ r.2.mem ((c.tc : Thread Cert.RefJoinIdeal.nD Cert.RefJoinIdeal.τ).loc Cert.RefJoinIdeal.main_arg7) = m ((c.tc : Thread Cert.RefJoinIdeal.nD Cert.RefJoinIdeal.τ).loc Cert.RefJoinIdeal.main_arg7)
      ∧ r.2.mem ((c.tc : Thread Cert.RefJoinIdeal.nD Cert.RefJoinIdeal.τ).loc Cert.RefJoinIdeal.main_arg8) = m ((c.tc : Thread Cert.RefJoinIdeal.nD Cert.RefJoinIdeal.τ).loc Cert.RefJoinIdeal.main_arg8)
      ∧ r.2.mem ((c.tc : Thread Cert.RefJoinIdeal.nD Cert.RefJoinIdeal.τ).loc Cert.RefJoinIdeal.main_arg9) = m ((c.tc : Thread Cert.RefJoinIdeal.nD Cert.RefJoinIdeal.τ).loc Cert.RefJoinIdeal.main_arg9)
      ∧ r.2.mem ((c.tc : Thread Cert.RefJoinIdeal.nD Cert.RefJoinIdeal.τ).loc Cert.RefJoinIdeal.main_arg10) = m ((c.tc : Thread Cert.RefJoinIdeal.nD Cert.RefJoinIdeal.τ).loc Cert.RefJoinIdeal.main_arg10)
      ∧ r.2.mem ((c.tc : Thread Cert.RefJoinIdeal.nD Cert.RefJoinIdeal.τ).loc Cert.RefJoinIdeal.main_arg11) = m ((c.tc : Thread Cert.RefJoinIdeal.nD Cert.RefJoinIdeal.τ).loc Cert.RefJoinIdeal.main_arg11)
      ∧ r.2.mem ((c.tc : Thread Cert.RefJoinIdeal.nD Cert.RefJoinIdeal.τ).loc Cert.RefJoinIdeal.main_arg12) = m ((c.tc : Thread Cert.RefJoinIdeal.nD Cert.RefJoinIdeal.τ).loc Cert.RefJoinIdeal.main_arg12))
      ∧ r.2.sem = fun _ => 0)

def quiescent_RefJoinIdeal_pre_finite_rows [hRefJoinIdeal : Cert.RefJoinIdeal.Facts] [hPre_finite_rows : Cert.Pre_finite_rows.Facts] : Prop :=
  ∀ (m : (ℓ : Loc Cert.RefJoinIdeal.nD Cert.RefJoinIdeal.τ Cert.RefJoinIdeal.sig) → Buf (Elt Ideal) ℓ) (g : Dev Cert.RefJoinIdeal.nD → PrngReg), Pre_RefJoinIdeal_finite_rows m →
    θ_run (Cert.RefJoinIdeal.defs (F := Ideal)) (onTc (τ := Cert.RefJoinIdeal.τ) (Cert.RefJoinIdeal.main (F := Ideal))) ⟨m, fun _ => 0, g⟩ (fun r => (∀ c : Dev Cert.RefJoinIdeal.nD,
      r.2.mem ((c.tc : Thread Cert.RefJoinIdeal.nD Cert.RefJoinIdeal.τ).loc Cert.RefJoinIdeal.main_arg0) = m ((c.tc : Thread Cert.RefJoinIdeal.nD Cert.RefJoinIdeal.τ).loc Cert.RefJoinIdeal.main_arg0)
      ∧ r.2.mem ((c.tc : Thread Cert.RefJoinIdeal.nD Cert.RefJoinIdeal.τ).loc Cert.RefJoinIdeal.main_arg1) = m ((c.tc : Thread Cert.RefJoinIdeal.nD Cert.RefJoinIdeal.τ).loc Cert.RefJoinIdeal.main_arg1)
      ∧ r.2.mem ((c.tc : Thread Cert.RefJoinIdeal.nD Cert.RefJoinIdeal.τ).loc Cert.RefJoinIdeal.main_arg2) = m ((c.tc : Thread Cert.RefJoinIdeal.nD Cert.RefJoinIdeal.τ).loc Cert.RefJoinIdeal.main_arg2)
      ∧ r.2.mem ((c.tc : Thread Cert.RefJoinIdeal.nD Cert.RefJoinIdeal.τ).loc Cert.RefJoinIdeal.main_arg3) = m ((c.tc : Thread Cert.RefJoinIdeal.nD Cert.RefJoinIdeal.τ).loc Cert.RefJoinIdeal.main_arg3)
      ∧ r.2.mem ((c.tc : Thread Cert.RefJoinIdeal.nD Cert.RefJoinIdeal.τ).loc Cert.RefJoinIdeal.main_arg4) = m ((c.tc : Thread Cert.RefJoinIdeal.nD Cert.RefJoinIdeal.τ).loc Cert.RefJoinIdeal.main_arg4)
      ∧ r.2.mem ((c.tc : Thread Cert.RefJoinIdeal.nD Cert.RefJoinIdeal.τ).loc Cert.RefJoinIdeal.main_arg5) = m ((c.tc : Thread Cert.RefJoinIdeal.nD Cert.RefJoinIdeal.τ).loc Cert.RefJoinIdeal.main_arg5)
      ∧ r.2.mem ((c.tc : Thread Cert.RefJoinIdeal.nD Cert.RefJoinIdeal.τ).loc Cert.RefJoinIdeal.main_arg6) = m ((c.tc : Thread Cert.RefJoinIdeal.nD Cert.RefJoinIdeal.τ).loc Cert.RefJoinIdeal.main_arg6)
      ∧ r.2.mem ((c.tc : Thread Cert.RefJoinIdeal.nD Cert.RefJoinIdeal.τ).loc Cert.RefJoinIdeal.main_arg7) = m ((c.tc : Thread Cert.RefJoinIdeal.nD Cert.RefJoinIdeal.τ).loc Cert.RefJoinIdeal.main_arg7)
      ∧ r.2.mem ((c.tc : Thread Cert.RefJoinIdeal.nD Cert.RefJoinIdeal.τ).loc Cert.RefJoinIdeal.main_arg8) = m ((c.tc : Thread Cert.RefJoinIdeal.nD Cert.RefJoinIdeal.τ).loc Cert.RefJoinIdeal.main_arg8)
      ∧ r.2.mem ((c.tc : Thread Cert.RefJoinIdeal.nD Cert.RefJoinIdeal.τ).loc Cert.RefJoinIdeal.main_arg9) = m ((c.tc : Thread Cert.RefJoinIdeal.nD Cert.RefJoinIdeal.τ).loc Cert.RefJoinIdeal.main_arg9)
      ∧ r.2.mem ((c.tc : Thread Cert.RefJoinIdeal.nD Cert.RefJoinIdeal.τ).loc Cert.RefJoinIdeal.main_arg10) = m ((c.tc : Thread Cert.RefJoinIdeal.nD Cert.RefJoinIdeal.τ).loc Cert.RefJoinIdeal.main_arg10)
      ∧ r.2.mem ((c.tc : Thread Cert.RefJoinIdeal.nD Cert.RefJoinIdeal.τ).loc Cert.RefJoinIdeal.main_arg11) = m ((c.tc : Thread Cert.RefJoinIdeal.nD Cert.RefJoinIdeal.τ).loc Cert.RefJoinIdeal.main_arg11)
      ∧ r.2.mem ((c.tc : Thread Cert.RefJoinIdeal.nD Cert.RefJoinIdeal.τ).loc Cert.RefJoinIdeal.main_arg12) = m ((c.tc : Thread Cert.RefJoinIdeal.nD Cert.RefJoinIdeal.τ).loc Cert.RefJoinIdeal.main_arg12))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_RefModIdeal [hRefModIdeal : Cert.RefModIdeal.Facts] : Prop :=
  ∀ (m : (ℓ : Loc Cert.RefModIdeal.nD Cert.RefModIdeal.τ Cert.RefModIdeal.sig) → Buf (Elt Ideal) ℓ) (g : Dev Cert.RefModIdeal.nD → PrngReg), Pre_RefModIdeal m →
    θ_run (Cert.RefModIdeal.defs (F := Ideal)) (onTc (τ := Cert.RefModIdeal.τ) (Cert.RefModIdeal.main (F := Ideal))) ⟨m, fun _ => 0, g⟩ (fun r => (∀ c : Dev Cert.RefModIdeal.nD,
      r.2.mem ((c.tc : Thread Cert.RefModIdeal.nD Cert.RefModIdeal.τ).loc Cert.RefModIdeal.main_arg0) = m ((c.tc : Thread Cert.RefModIdeal.nD Cert.RefModIdeal.τ).loc Cert.RefModIdeal.main_arg0)
      ∧ r.2.mem ((c.tc : Thread Cert.RefModIdeal.nD Cert.RefModIdeal.τ).loc Cert.RefModIdeal.main_arg1) = m ((c.tc : Thread Cert.RefModIdeal.nD Cert.RefModIdeal.τ).loc Cert.RefModIdeal.main_arg1)
      ∧ r.2.mem ((c.tc : Thread Cert.RefModIdeal.nD Cert.RefModIdeal.τ).loc Cert.RefModIdeal.main_arg2) = m ((c.tc : Thread Cert.RefModIdeal.nD Cert.RefModIdeal.τ).loc Cert.RefModIdeal.main_arg2))
      ∧ r.2.sem = fun _ => 0)

def quiescent_OutCtx [hOutCtx : Cert.OutCtx.Facts] : Prop :=
  ∀ (m : (ℓ : Loc Cert.OutCtx.nD Cert.OutCtx.τ Cert.OutCtx.sig) → Buf (Elt Bits) ℓ) (g : Dev Cert.OutCtx.nD → PrngReg), Pre_OutCtx m →
    θ_run (Cert.OutCtx.defs (F := Bits)) (onTc (τ := Cert.OutCtx.τ) (Cert.OutCtx.main (F := Bits))) ⟨m, fun _ => 0, g⟩ (fun r => (∀ c : Dev Cert.OutCtx.nD,
      r.2.mem ((c.tc : Thread Cert.OutCtx.nD Cert.OutCtx.τ).loc Cert.OutCtx.main_arg0) = m ((c.tc : Thread Cert.OutCtx.nD Cert.OutCtx.τ).loc Cert.OutCtx.main_arg0)
      ∧ r.2.mem ((c.tc : Thread Cert.OutCtx.nD Cert.OutCtx.τ).loc Cert.OutCtx.main_arg1) = m ((c.tc : Thread Cert.OutCtx.nD Cert.OutCtx.τ).loc Cert.OutCtx.main_arg1)
      ∧ r.2.mem ((c.tc : Thread Cert.OutCtx.nD Cert.OutCtx.τ).loc Cert.OutCtx.main_arg2) = m ((c.tc : Thread Cert.OutCtx.nD Cert.OutCtx.τ).loc Cert.OutCtx.main_arg2)
      ∧ r.2.mem ((c.tc : Thread Cert.OutCtx.nD Cert.OutCtx.τ).loc Cert.OutCtx.main_arg3) = m ((c.tc : Thread Cert.OutCtx.nD Cert.OutCtx.τ).loc Cert.OutCtx.main_arg3)
      ∧ r.2.mem ((c.tc : Thread Cert.OutCtx.nD Cert.OutCtx.τ).loc Cert.OutCtx.main_arg4) = m ((c.tc : Thread Cert.OutCtx.nD Cert.OutCtx.τ).loc Cert.OutCtx.main_arg4)
      ∧ r.2.mem ((c.tc : Thread Cert.OutCtx.nD Cert.OutCtx.τ).loc Cert.OutCtx.main_arg5) = m ((c.tc : Thread Cert.OutCtx.nD Cert.OutCtx.τ).loc Cert.OutCtx.main_arg5)
      ∧ r.2.mem ((c.tc : Thread Cert.OutCtx.nD Cert.OutCtx.τ).loc Cert.OutCtx.main_arg6) = m ((c.tc : Thread Cert.OutCtx.nD Cert.OutCtx.τ).loc Cert.OutCtx.main_arg6)
      ∧ r.2.mem ((c.tc : Thread Cert.OutCtx.nD Cert.OutCtx.τ).loc Cert.OutCtx.main_arg7) = m ((c.tc : Thread Cert.OutCtx.nD Cert.OutCtx.τ).loc Cert.OutCtx.main_arg7)
      ∧ r.2.mem ((c.tc : Thread Cert.OutCtx.nD Cert.OutCtx.τ).loc Cert.OutCtx.main_arg8) = m ((c.tc : Thread Cert.OutCtx.nD Cert.OutCtx.τ).loc Cert.OutCtx.main_arg8)
      ∧ r.2.mem ((c.tc : Thread Cert.OutCtx.nD Cert.OutCtx.τ).loc Cert.OutCtx.main_arg9) = m ((c.tc : Thread Cert.OutCtx.nD Cert.OutCtx.τ).loc Cert.OutCtx.main_arg9)
      ∧ r.2.mem ((c.tc : Thread Cert.OutCtx.nD Cert.OutCtx.τ).loc Cert.OutCtx.main_arg10) = m ((c.tc : Thread Cert.OutCtx.nD Cert.OutCtx.τ).loc Cert.OutCtx.main_arg10)
      ∧ r.2.mem ((c.tc : Thread Cert.OutCtx.nD Cert.OutCtx.τ).loc Cert.OutCtx.main_arg11) = m ((c.tc : Thread Cert.OutCtx.nD Cert.OutCtx.τ).loc Cert.OutCtx.main_arg11)
      ∧ r.2.mem ((c.tc : Thread Cert.OutCtx.nD Cert.OutCtx.τ).loc Cert.OutCtx.main_arg12) = m ((c.tc : Thread Cert.OutCtx.nD Cert.OutCtx.τ).loc Cert.OutCtx.main_arg12)
      ∧ r.2.mem ((c.tc : Thread Cert.OutCtx.nD Cert.OutCtx.τ).loc Cert.OutCtx.main_arg13) = m ((c.tc : Thread Cert.OutCtx.nD Cert.OutCtx.τ).loc Cert.OutCtx.main_arg13))
      ∧ r.2.sem = fun _ => 0)

def quiescent_OutCtxIdeal [hOutCtxIdeal : Cert.OutCtxIdeal.Facts] : Prop :=
  ∀ (m : (ℓ : Loc Cert.OutCtxIdeal.nD Cert.OutCtxIdeal.τ Cert.OutCtxIdeal.sig) → Buf (Elt Ideal) ℓ) (g : Dev Cert.OutCtxIdeal.nD → PrngReg), Pre_OutCtxIdeal m →
    θ_run (Cert.OutCtxIdeal.defs (F := Ideal)) (onTc (τ := Cert.OutCtxIdeal.τ) (Cert.OutCtxIdeal.main (F := Ideal))) ⟨m, fun _ => 0, g⟩ (fun r => (∀ c : Dev Cert.OutCtxIdeal.nD,
      r.2.mem ((c.tc : Thread Cert.OutCtxIdeal.nD Cert.OutCtxIdeal.τ).loc Cert.OutCtxIdeal.main_arg0) = m ((c.tc : Thread Cert.OutCtxIdeal.nD Cert.OutCtxIdeal.τ).loc Cert.OutCtxIdeal.main_arg0)
      ∧ r.2.mem ((c.tc : Thread Cert.OutCtxIdeal.nD Cert.OutCtxIdeal.τ).loc Cert.OutCtxIdeal.main_arg1) = m ((c.tc : Thread Cert.OutCtxIdeal.nD Cert.OutCtxIdeal.τ).loc Cert.OutCtxIdeal.main_arg1)
      ∧ r.2.mem ((c.tc : Thread Cert.OutCtxIdeal.nD Cert.OutCtxIdeal.τ).loc Cert.OutCtxIdeal.main_arg2) = m ((c.tc : Thread Cert.OutCtxIdeal.nD Cert.OutCtxIdeal.τ).loc Cert.OutCtxIdeal.main_arg2)
      ∧ r.2.mem ((c.tc : Thread Cert.OutCtxIdeal.nD Cert.OutCtxIdeal.τ).loc Cert.OutCtxIdeal.main_arg3) = m ((c.tc : Thread Cert.OutCtxIdeal.nD Cert.OutCtxIdeal.τ).loc Cert.OutCtxIdeal.main_arg3)
      ∧ r.2.mem ((c.tc : Thread Cert.OutCtxIdeal.nD Cert.OutCtxIdeal.τ).loc Cert.OutCtxIdeal.main_arg4) = m ((c.tc : Thread Cert.OutCtxIdeal.nD Cert.OutCtxIdeal.τ).loc Cert.OutCtxIdeal.main_arg4)
      ∧ r.2.mem ((c.tc : Thread Cert.OutCtxIdeal.nD Cert.OutCtxIdeal.τ).loc Cert.OutCtxIdeal.main_arg5) = m ((c.tc : Thread Cert.OutCtxIdeal.nD Cert.OutCtxIdeal.τ).loc Cert.OutCtxIdeal.main_arg5)
      ∧ r.2.mem ((c.tc : Thread Cert.OutCtxIdeal.nD Cert.OutCtxIdeal.τ).loc Cert.OutCtxIdeal.main_arg6) = m ((c.tc : Thread Cert.OutCtxIdeal.nD Cert.OutCtxIdeal.τ).loc Cert.OutCtxIdeal.main_arg6)
      ∧ r.2.mem ((c.tc : Thread Cert.OutCtxIdeal.nD Cert.OutCtxIdeal.τ).loc Cert.OutCtxIdeal.main_arg7) = m ((c.tc : Thread Cert.OutCtxIdeal.nD Cert.OutCtxIdeal.τ).loc Cert.OutCtxIdeal.main_arg7)
      ∧ r.2.mem ((c.tc : Thread Cert.OutCtxIdeal.nD Cert.OutCtxIdeal.τ).loc Cert.OutCtxIdeal.main_arg8) = m ((c.tc : Thread Cert.OutCtxIdeal.nD Cert.OutCtxIdeal.τ).loc Cert.OutCtxIdeal.main_arg8)
      ∧ r.2.mem ((c.tc : Thread Cert.OutCtxIdeal.nD Cert.OutCtxIdeal.τ).loc Cert.OutCtxIdeal.main_arg9) = m ((c.tc : Thread Cert.OutCtxIdeal.nD Cert.OutCtxIdeal.τ).loc Cert.OutCtxIdeal.main_arg9)
      ∧ r.2.mem ((c.tc : Thread Cert.OutCtxIdeal.nD Cert.OutCtxIdeal.τ).loc Cert.OutCtxIdeal.main_arg10) = m ((c.tc : Thread Cert.OutCtxIdeal.nD Cert.OutCtxIdeal.τ).loc Cert.OutCtxIdeal.main_arg10)
      ∧ r.2.mem ((c.tc : Thread Cert.OutCtxIdeal.nD Cert.OutCtxIdeal.τ).loc Cert.OutCtxIdeal.main_arg11) = m ((c.tc : Thread Cert.OutCtxIdeal.nD Cert.OutCtxIdeal.τ).loc Cert.OutCtxIdeal.main_arg11)
      ∧ r.2.mem ((c.tc : Thread Cert.OutCtxIdeal.nD Cert.OutCtxIdeal.τ).loc Cert.OutCtxIdeal.main_arg12) = m ((c.tc : Thread Cert.OutCtxIdeal.nD Cert.OutCtxIdeal.τ).loc Cert.OutCtxIdeal.main_arg12)
      ∧ r.2.mem ((c.tc : Thread Cert.OutCtxIdeal.nD Cert.OutCtxIdeal.τ).loc Cert.OutCtxIdeal.main_arg13) = m ((c.tc : Thread Cert.OutCtxIdeal.nD Cert.OutCtxIdeal.τ).loc Cert.OutCtxIdeal.main_arg13))
      ∧ r.2.sem = fun _ => 0)

def quiescent_RefOutCtxIdeal [hRefOutCtxIdeal : Cert.RefOutCtxIdeal.Facts] : Prop :=
  ∀ (m : (ℓ : Loc Cert.RefOutCtxIdeal.nD Cert.RefOutCtxIdeal.τ Cert.RefOutCtxIdeal.sig) → Buf (Elt Ideal) ℓ) (g : Dev Cert.RefOutCtxIdeal.nD → PrngReg), Pre_RefOutCtxIdeal m →
    θ_run (Cert.RefOutCtxIdeal.defs (F := Ideal)) (onTc (τ := Cert.RefOutCtxIdeal.τ) (Cert.RefOutCtxIdeal.main (F := Ideal))) ⟨m, fun _ => 0, g⟩ (fun r => (∀ c : Dev Cert.RefOutCtxIdeal.nD,
      r.2.mem ((c.tc : Thread Cert.RefOutCtxIdeal.nD Cert.RefOutCtxIdeal.τ).loc Cert.RefOutCtxIdeal.main_arg0) = m ((c.tc : Thread Cert.RefOutCtxIdeal.nD Cert.RefOutCtxIdeal.τ).loc Cert.RefOutCtxIdeal.main_arg0)
      ∧ r.2.mem ((c.tc : Thread Cert.RefOutCtxIdeal.nD Cert.RefOutCtxIdeal.τ).loc Cert.RefOutCtxIdeal.main_arg1) = m ((c.tc : Thread Cert.RefOutCtxIdeal.nD Cert.RefOutCtxIdeal.τ).loc Cert.RefOutCtxIdeal.main_arg1)
      ∧ r.2.mem ((c.tc : Thread Cert.RefOutCtxIdeal.nD Cert.RefOutCtxIdeal.τ).loc Cert.RefOutCtxIdeal.main_arg2) = m ((c.tc : Thread Cert.RefOutCtxIdeal.nD Cert.RefOutCtxIdeal.τ).loc Cert.RefOutCtxIdeal.main_arg2)
      ∧ r.2.mem ((c.tc : Thread Cert.RefOutCtxIdeal.nD Cert.RefOutCtxIdeal.τ).loc Cert.RefOutCtxIdeal.main_arg3) = m ((c.tc : Thread Cert.RefOutCtxIdeal.nD Cert.RefOutCtxIdeal.τ).loc Cert.RefOutCtxIdeal.main_arg3)
      ∧ r.2.mem ((c.tc : Thread Cert.RefOutCtxIdeal.nD Cert.RefOutCtxIdeal.τ).loc Cert.RefOutCtxIdeal.main_arg4) = m ((c.tc : Thread Cert.RefOutCtxIdeal.nD Cert.RefOutCtxIdeal.τ).loc Cert.RefOutCtxIdeal.main_arg4)
      ∧ r.2.mem ((c.tc : Thread Cert.RefOutCtxIdeal.nD Cert.RefOutCtxIdeal.τ).loc Cert.RefOutCtxIdeal.main_arg5) = m ((c.tc : Thread Cert.RefOutCtxIdeal.nD Cert.RefOutCtxIdeal.τ).loc Cert.RefOutCtxIdeal.main_arg5)
      ∧ r.2.mem ((c.tc : Thread Cert.RefOutCtxIdeal.nD Cert.RefOutCtxIdeal.τ).loc Cert.RefOutCtxIdeal.main_arg6) = m ((c.tc : Thread Cert.RefOutCtxIdeal.nD Cert.RefOutCtxIdeal.τ).loc Cert.RefOutCtxIdeal.main_arg6)
      ∧ r.2.mem ((c.tc : Thread Cert.RefOutCtxIdeal.nD Cert.RefOutCtxIdeal.τ).loc Cert.RefOutCtxIdeal.main_arg7) = m ((c.tc : Thread Cert.RefOutCtxIdeal.nD Cert.RefOutCtxIdeal.τ).loc Cert.RefOutCtxIdeal.main_arg7)
      ∧ r.2.mem ((c.tc : Thread Cert.RefOutCtxIdeal.nD Cert.RefOutCtxIdeal.τ).loc Cert.RefOutCtxIdeal.main_arg8) = m ((c.tc : Thread Cert.RefOutCtxIdeal.nD Cert.RefOutCtxIdeal.τ).loc Cert.RefOutCtxIdeal.main_arg8)
      ∧ r.2.mem ((c.tc : Thread Cert.RefOutCtxIdeal.nD Cert.RefOutCtxIdeal.τ).loc Cert.RefOutCtxIdeal.main_arg9) = m ((c.tc : Thread Cert.RefOutCtxIdeal.nD Cert.RefOutCtxIdeal.τ).loc Cert.RefOutCtxIdeal.main_arg9)
      ∧ r.2.mem ((c.tc : Thread Cert.RefOutCtxIdeal.nD Cert.RefOutCtxIdeal.τ).loc Cert.RefOutCtxIdeal.main_arg10) = m ((c.tc : Thread Cert.RefOutCtxIdeal.nD Cert.RefOutCtxIdeal.τ).loc Cert.RefOutCtxIdeal.main_arg10)
      ∧ r.2.mem ((c.tc : Thread Cert.RefOutCtxIdeal.nD Cert.RefOutCtxIdeal.τ).loc Cert.RefOutCtxIdeal.main_arg11) = m ((c.tc : Thread Cert.RefOutCtxIdeal.nD Cert.RefOutCtxIdeal.τ).loc Cert.RefOutCtxIdeal.main_arg11)
      ∧ r.2.mem ((c.tc : Thread Cert.RefOutCtxIdeal.nD Cert.RefOutCtxIdeal.τ).loc Cert.RefOutCtxIdeal.main_arg12) = m ((c.tc : Thread Cert.RefOutCtxIdeal.nD Cert.RefOutCtxIdeal.τ).loc Cert.RefOutCtxIdeal.main_arg12)
      ∧ r.2.mem ((c.tc : Thread Cert.RefOutCtxIdeal.nD Cert.RefOutCtxIdeal.τ).loc Cert.RefOutCtxIdeal.main_arg13) = m ((c.tc : Thread Cert.RefOutCtxIdeal.nD Cert.RefOutCtxIdeal.τ).loc Cert.RefOutCtxIdeal.main_arg13))
      ∧ r.2.sem = fun _ => 0)

def quiescent_InCtx [hInCtx : Cert.InCtx.Facts] : Prop :=
  ∀ (m : (ℓ : Loc Cert.InCtx.nD Cert.InCtx.τ Cert.InCtx.sig) → Buf (Elt Bits) ℓ) (g : Dev Cert.InCtx.nD → PrngReg), Pre_InCtx m →
    θ_run (Cert.InCtx.defs (F := Bits)) (onTc (τ := Cert.InCtx.τ) (Cert.InCtx.main (F := Bits))) ⟨m, fun _ => 0, g⟩ (fun r => (∀ c : Dev Cert.InCtx.nD,
      r.2.mem ((c.tc : Thread Cert.InCtx.nD Cert.InCtx.τ).loc Cert.InCtx.main_arg0) = m ((c.tc : Thread Cert.InCtx.nD Cert.InCtx.τ).loc Cert.InCtx.main_arg0)
      ∧ r.2.mem ((c.tc : Thread Cert.InCtx.nD Cert.InCtx.τ).loc Cert.InCtx.main_arg1) = m ((c.tc : Thread Cert.InCtx.nD Cert.InCtx.τ).loc Cert.InCtx.main_arg1)
      ∧ r.2.mem ((c.tc : Thread Cert.InCtx.nD Cert.InCtx.τ).loc Cert.InCtx.main_arg2) = m ((c.tc : Thread Cert.InCtx.nD Cert.InCtx.τ).loc Cert.InCtx.main_arg2)
      ∧ r.2.mem ((c.tc : Thread Cert.InCtx.nD Cert.InCtx.τ).loc Cert.InCtx.main_arg3) = m ((c.tc : Thread Cert.InCtx.nD Cert.InCtx.τ).loc Cert.InCtx.main_arg3))
      ∧ r.2.sem = fun _ => 0)

def quiescent_InCtxIdeal [hInCtxIdeal : Cert.InCtxIdeal.Facts] : Prop :=
  ∀ (m : (ℓ : Loc Cert.InCtxIdeal.nD Cert.InCtxIdeal.τ Cert.InCtxIdeal.sig) → Buf (Elt Ideal) ℓ) (g : Dev Cert.InCtxIdeal.nD → PrngReg), Pre_InCtxIdeal m →
    θ_run (Cert.InCtxIdeal.defs (F := Ideal)) (onTc (τ := Cert.InCtxIdeal.τ) (Cert.InCtxIdeal.main (F := Ideal))) ⟨m, fun _ => 0, g⟩ (fun r => (∀ c : Dev Cert.InCtxIdeal.nD,
      r.2.mem ((c.tc : Thread Cert.InCtxIdeal.nD Cert.InCtxIdeal.τ).loc Cert.InCtxIdeal.main_arg0) = m ((c.tc : Thread Cert.InCtxIdeal.nD Cert.InCtxIdeal.τ).loc Cert.InCtxIdeal.main_arg0)
      ∧ r.2.mem ((c.tc : Thread Cert.InCtxIdeal.nD Cert.InCtxIdeal.τ).loc Cert.InCtxIdeal.main_arg1) = m ((c.tc : Thread Cert.InCtxIdeal.nD Cert.InCtxIdeal.τ).loc Cert.InCtxIdeal.main_arg1)
      ∧ r.2.mem ((c.tc : Thread Cert.InCtxIdeal.nD Cert.InCtxIdeal.τ).loc Cert.InCtxIdeal.main_arg2) = m ((c.tc : Thread Cert.InCtxIdeal.nD Cert.InCtxIdeal.τ).loc Cert.InCtxIdeal.main_arg2)
      ∧ r.2.mem ((c.tc : Thread Cert.InCtxIdeal.nD Cert.InCtxIdeal.τ).loc Cert.InCtxIdeal.main_arg3) = m ((c.tc : Thread Cert.InCtxIdeal.nD Cert.InCtxIdeal.τ).loc Cert.InCtxIdeal.main_arg3))
      ∧ r.2.sem = fun _ => 0)

def quiescent_RefInCtxIdeal [hRefInCtxIdeal : Cert.RefInCtxIdeal.Facts] : Prop :=
  ∀ (m : (ℓ : Loc Cert.RefInCtxIdeal.nD Cert.RefInCtxIdeal.τ Cert.RefInCtxIdeal.sig) → Buf (Elt Ideal) ℓ) (g : Dev Cert.RefInCtxIdeal.nD → PrngReg), Pre_RefInCtxIdeal m →
    θ_run (Cert.RefInCtxIdeal.defs (F := Ideal)) (onTc (τ := Cert.RefInCtxIdeal.τ) (Cert.RefInCtxIdeal.main (F := Ideal))) ⟨m, fun _ => 0, g⟩ (fun r => (∀ c : Dev Cert.RefInCtxIdeal.nD,
      r.2.mem ((c.tc : Thread Cert.RefInCtxIdeal.nD Cert.RefInCtxIdeal.τ).loc Cert.RefInCtxIdeal.main_arg0) = m ((c.tc : Thread Cert.RefInCtxIdeal.nD Cert.RefInCtxIdeal.τ).loc Cert.RefInCtxIdeal.main_arg0)
      ∧ r.2.mem ((c.tc : Thread Cert.RefInCtxIdeal.nD Cert.RefInCtxIdeal.τ).loc Cert.RefInCtxIdeal.main_arg1) = m ((c.tc : Thread Cert.RefInCtxIdeal.nD Cert.RefInCtxIdeal.τ).loc Cert.RefInCtxIdeal.main_arg1)
      ∧ r.2.mem ((c.tc : Thread Cert.RefInCtxIdeal.nD Cert.RefInCtxIdeal.τ).loc Cert.RefInCtxIdeal.main_arg2) = m ((c.tc : Thread Cert.RefInCtxIdeal.nD Cert.RefInCtxIdeal.τ).loc Cert.RefInCtxIdeal.main_arg2)
      ∧ r.2.mem ((c.tc : Thread Cert.RefInCtxIdeal.nD Cert.RefInCtxIdeal.τ).loc Cert.RefInCtxIdeal.main_arg3) = m ((c.tc : Thread Cert.RefInCtxIdeal.nD Cert.RefInCtxIdeal.τ).loc Cert.RefInCtxIdeal.main_arg3))
      ∧ r.2.sem = fun _ => 0)

def quiescent_OddCtx [hOddCtx : Cert.OddCtx.Facts] : Prop :=
  ∀ (m : (ℓ : Loc Cert.OddCtx.nD Cert.OddCtx.τ Cert.OddCtx.sig) → Buf (Elt Bits) ℓ) (g : Dev Cert.OddCtx.nD → PrngReg), Pre_OddCtx m →
    θ_run (Cert.OddCtx.defs (F := Bits)) (onTc (τ := Cert.OddCtx.τ) (Cert.OddCtx.main (F := Bits))) ⟨m, fun _ => 0, g⟩ (fun r => (∀ c : Dev Cert.OddCtx.nD,
      r.2.mem ((c.tc : Thread Cert.OddCtx.nD Cert.OddCtx.τ).loc Cert.OddCtx.main_arg0) = m ((c.tc : Thread Cert.OddCtx.nD Cert.OddCtx.τ).loc Cert.OddCtx.main_arg0)
      ∧ r.2.mem ((c.tc : Thread Cert.OddCtx.nD Cert.OddCtx.τ).loc Cert.OddCtx.main_arg1) = m ((c.tc : Thread Cert.OddCtx.nD Cert.OddCtx.τ).loc Cert.OddCtx.main_arg1)
      ∧ r.2.mem ((c.tc : Thread Cert.OddCtx.nD Cert.OddCtx.τ).loc Cert.OddCtx.main_arg2) = m ((c.tc : Thread Cert.OddCtx.nD Cert.OddCtx.τ).loc Cert.OddCtx.main_arg2)
      ∧ r.2.mem ((c.tc : Thread Cert.OddCtx.nD Cert.OddCtx.τ).loc Cert.OddCtx.main_arg3) = m ((c.tc : Thread Cert.OddCtx.nD Cert.OddCtx.τ).loc Cert.OddCtx.main_arg3))
      ∧ r.2.sem = fun _ => 0)

def quiescent_OddCtxIdeal [hOddCtxIdeal : Cert.OddCtxIdeal.Facts] : Prop :=
  ∀ (m : (ℓ : Loc Cert.OddCtxIdeal.nD Cert.OddCtxIdeal.τ Cert.OddCtxIdeal.sig) → Buf (Elt Ideal) ℓ) (g : Dev Cert.OddCtxIdeal.nD → PrngReg), Pre_OddCtxIdeal m →
    θ_run (Cert.OddCtxIdeal.defs (F := Ideal)) (onTc (τ := Cert.OddCtxIdeal.τ) (Cert.OddCtxIdeal.main (F := Ideal))) ⟨m, fun _ => 0, g⟩ (fun r => (∀ c : Dev Cert.OddCtxIdeal.nD,
      r.2.mem ((c.tc : Thread Cert.OddCtxIdeal.nD Cert.OddCtxIdeal.τ).loc Cert.OddCtxIdeal.main_arg0) = m ((c.tc : Thread Cert.OddCtxIdeal.nD Cert.OddCtxIdeal.τ).loc Cert.OddCtxIdeal.main_arg0)
      ∧ r.2.mem ((c.tc : Thread Cert.OddCtxIdeal.nD Cert.OddCtxIdeal.τ).loc Cert.OddCtxIdeal.main_arg1) = m ((c.tc : Thread Cert.OddCtxIdeal.nD Cert.OddCtxIdeal.τ).loc Cert.OddCtxIdeal.main_arg1)
      ∧ r.2.mem ((c.tc : Thread Cert.OddCtxIdeal.nD Cert.OddCtxIdeal.τ).loc Cert.OddCtxIdeal.main_arg2) = m ((c.tc : Thread Cert.OddCtxIdeal.nD Cert.OddCtxIdeal.τ).loc Cert.OddCtxIdeal.main_arg2)
      ∧ r.2.mem ((c.tc : Thread Cert.OddCtxIdeal.nD Cert.OddCtxIdeal.τ).loc Cert.OddCtxIdeal.main_arg3) = m ((c.tc : Thread Cert.OddCtxIdeal.nD Cert.OddCtxIdeal.τ).loc Cert.OddCtxIdeal.main_arg3))
      ∧ r.2.sem = fun _ => 0)

def quiescent_RefOddCtxIdeal [hRefOddCtxIdeal : Cert.RefOddCtxIdeal.Facts] : Prop :=
  ∀ (m : (ℓ : Loc Cert.RefOddCtxIdeal.nD Cert.RefOddCtxIdeal.τ Cert.RefOddCtxIdeal.sig) → Buf (Elt Ideal) ℓ) (g : Dev Cert.RefOddCtxIdeal.nD → PrngReg), Pre_RefOddCtxIdeal m →
    θ_run (Cert.RefOddCtxIdeal.defs (F := Ideal)) (onTc (τ := Cert.RefOddCtxIdeal.τ) (Cert.RefOddCtxIdeal.main (F := Ideal))) ⟨m, fun _ => 0, g⟩ (fun r => (∀ c : Dev Cert.RefOddCtxIdeal.nD,
      r.2.mem ((c.tc : Thread Cert.RefOddCtxIdeal.nD Cert.RefOddCtxIdeal.τ).loc Cert.RefOddCtxIdeal.main_arg0) = m ((c.tc : Thread Cert.RefOddCtxIdeal.nD Cert.RefOddCtxIdeal.τ).loc Cert.RefOddCtxIdeal.main_arg0)
      ∧ r.2.mem ((c.tc : Thread Cert.RefOddCtxIdeal.nD Cert.RefOddCtxIdeal.τ).loc Cert.RefOddCtxIdeal.main_arg1) = m ((c.tc : Thread Cert.RefOddCtxIdeal.nD Cert.RefOddCtxIdeal.τ).loc Cert.RefOddCtxIdeal.main_arg1)
      ∧ r.2.mem ((c.tc : Thread Cert.RefOddCtxIdeal.nD Cert.RefOddCtxIdeal.τ).loc Cert.RefOddCtxIdeal.main_arg2) = m ((c.tc : Thread Cert.RefOddCtxIdeal.nD Cert.RefOddCtxIdeal.τ).loc Cert.RefOddCtxIdeal.main_arg2)
      ∧ r.2.mem ((c.tc : Thread Cert.RefOddCtxIdeal.nD Cert.RefOddCtxIdeal.τ).loc Cert.RefOddCtxIdeal.main_arg3) = m ((c.tc : Thread Cert.RefOddCtxIdeal.nD Cert.RefOddCtxIdeal.τ).loc Cert.RefOddCtxIdeal.main_arg3))
      ∧ r.2.sem = fun _ => 0)

def quiescent_Feat [hFeat : Cert.Feat.Facts] : Prop :=
  ∀ (m : (ℓ : Loc Cert.Feat.nD Cert.Feat.τ Cert.Feat.sig) → Buf (Elt Bits) ℓ) (g : Dev Cert.Feat.nD → PrngReg), Pre_Feat m →
    θ_run (Cert.Feat.defs (F := Bits)) (onTc (τ := Cert.Feat.τ) (Cert.Feat.main (F := Bits))) ⟨m, fun _ => 0, g⟩ (fun r => (∀ c : Dev Cert.Feat.nD,
      r.2.mem ((c.tc : Thread Cert.Feat.nD Cert.Feat.τ).loc Cert.Feat.main_arg0) = m ((c.tc : Thread Cert.Feat.nD Cert.Feat.τ).loc Cert.Feat.main_arg0)
      ∧ r.2.mem ((c.tc : Thread Cert.Feat.nD Cert.Feat.τ).loc Cert.Feat.main_arg1) = m ((c.tc : Thread Cert.Feat.nD Cert.Feat.τ).loc Cert.Feat.main_arg1)
      ∧ r.2.mem ((c.tc : Thread Cert.Feat.nD Cert.Feat.τ).loc Cert.Feat.main_arg2) = m ((c.tc : Thread Cert.Feat.nD Cert.Feat.τ).loc Cert.Feat.main_arg2)
      ∧ r.2.mem ((c.tc : Thread Cert.Feat.nD Cert.Feat.τ).loc Cert.Feat.main_arg3) = m ((c.tc : Thread Cert.Feat.nD Cert.Feat.τ).loc Cert.Feat.main_arg3)
      ∧ r.2.mem ((c.tc : Thread Cert.Feat.nD Cert.Feat.τ).loc Cert.Feat.main_arg4) = m ((c.tc : Thread Cert.Feat.nD Cert.Feat.τ).loc Cert.Feat.main_arg4)
      ∧ r.2.mem ((c.tc : Thread Cert.Feat.nD Cert.Feat.τ).loc Cert.Feat.main_arg5) = m ((c.tc : Thread Cert.Feat.nD Cert.Feat.τ).loc Cert.Feat.main_arg5)
      ∧ r.2.mem ((c.tc : Thread Cert.Feat.nD Cert.Feat.τ).loc Cert.Feat.main_arg6) = m ((c.tc : Thread Cert.Feat.nD Cert.Feat.τ).loc Cert.Feat.main_arg6)
      ∧ r.2.mem ((c.tc : Thread Cert.Feat.nD Cert.Feat.τ).loc Cert.Feat.main_arg7) = m ((c.tc : Thread Cert.Feat.nD Cert.Feat.τ).loc Cert.Feat.main_arg7)
      ∧ r.2.mem ((c.tc : Thread Cert.Feat.nD Cert.Feat.τ).loc Cert.Feat.main_arg8) = m ((c.tc : Thread Cert.Feat.nD Cert.Feat.τ).loc Cert.Feat.main_arg8)
      ∧ r.2.mem ((c.tc : Thread Cert.Feat.nD Cert.Feat.τ).loc Cert.Feat.main_arg9) = m ((c.tc : Thread Cert.Feat.nD Cert.Feat.τ).loc Cert.Feat.main_arg9))
      ∧ r.2.sem = fun _ => 0)

def quiescent_FeatIdeal [hFeatIdeal : Cert.FeatIdeal.Facts] : Prop :=
  ∀ (m : (ℓ : Loc Cert.FeatIdeal.nD Cert.FeatIdeal.τ Cert.FeatIdeal.sig) → Buf (Elt Ideal) ℓ) (g : Dev Cert.FeatIdeal.nD → PrngReg), Pre_FeatIdeal m →
    θ_run (Cert.FeatIdeal.defs (F := Ideal)) (onTc (τ := Cert.FeatIdeal.τ) (Cert.FeatIdeal.main (F := Ideal))) ⟨m, fun _ => 0, g⟩ (fun r => (∀ c : Dev Cert.FeatIdeal.nD,
      r.2.mem ((c.tc : Thread Cert.FeatIdeal.nD Cert.FeatIdeal.τ).loc Cert.FeatIdeal.main_arg0) = m ((c.tc : Thread Cert.FeatIdeal.nD Cert.FeatIdeal.τ).loc Cert.FeatIdeal.main_arg0)
      ∧ r.2.mem ((c.tc : Thread Cert.FeatIdeal.nD Cert.FeatIdeal.τ).loc Cert.FeatIdeal.main_arg1) = m ((c.tc : Thread Cert.FeatIdeal.nD Cert.FeatIdeal.τ).loc Cert.FeatIdeal.main_arg1)
      ∧ r.2.mem ((c.tc : Thread Cert.FeatIdeal.nD Cert.FeatIdeal.τ).loc Cert.FeatIdeal.main_arg2) = m ((c.tc : Thread Cert.FeatIdeal.nD Cert.FeatIdeal.τ).loc Cert.FeatIdeal.main_arg2)
      ∧ r.2.mem ((c.tc : Thread Cert.FeatIdeal.nD Cert.FeatIdeal.τ).loc Cert.FeatIdeal.main_arg3) = m ((c.tc : Thread Cert.FeatIdeal.nD Cert.FeatIdeal.τ).loc Cert.FeatIdeal.main_arg3)
      ∧ r.2.mem ((c.tc : Thread Cert.FeatIdeal.nD Cert.FeatIdeal.τ).loc Cert.FeatIdeal.main_arg4) = m ((c.tc : Thread Cert.FeatIdeal.nD Cert.FeatIdeal.τ).loc Cert.FeatIdeal.main_arg4)
      ∧ r.2.mem ((c.tc : Thread Cert.FeatIdeal.nD Cert.FeatIdeal.τ).loc Cert.FeatIdeal.main_arg5) = m ((c.tc : Thread Cert.FeatIdeal.nD Cert.FeatIdeal.τ).loc Cert.FeatIdeal.main_arg5)
      ∧ r.2.mem ((c.tc : Thread Cert.FeatIdeal.nD Cert.FeatIdeal.τ).loc Cert.FeatIdeal.main_arg6) = m ((c.tc : Thread Cert.FeatIdeal.nD Cert.FeatIdeal.τ).loc Cert.FeatIdeal.main_arg6)
      ∧ r.2.mem ((c.tc : Thread Cert.FeatIdeal.nD Cert.FeatIdeal.τ).loc Cert.FeatIdeal.main_arg7) = m ((c.tc : Thread Cert.FeatIdeal.nD Cert.FeatIdeal.τ).loc Cert.FeatIdeal.main_arg7)
      ∧ r.2.mem ((c.tc : Thread Cert.FeatIdeal.nD Cert.FeatIdeal.τ).loc Cert.FeatIdeal.main_arg8) = m ((c.tc : Thread Cert.FeatIdeal.nD Cert.FeatIdeal.τ).loc Cert.FeatIdeal.main_arg8)
      ∧ r.2.mem ((c.tc : Thread Cert.FeatIdeal.nD Cert.FeatIdeal.τ).loc Cert.FeatIdeal.main_arg9) = m ((c.tc : Thread Cert.FeatIdeal.nD Cert.FeatIdeal.τ).loc Cert.FeatIdeal.main_arg9))
      ∧ r.2.sem = fun _ => 0)

def quiescent_FeatIdeal_pre_finite_keys [hFeatIdeal : Cert.FeatIdeal.Facts] [hPre_finite_keys : Cert.Pre_finite_keys.Facts] : Prop :=
  ∀ (m : (ℓ : Loc Cert.FeatIdeal.nD Cert.FeatIdeal.τ Cert.FeatIdeal.sig) → Buf (Elt Ideal) ℓ) (g : Dev Cert.FeatIdeal.nD → PrngReg), Pre_FeatIdeal_finite_keys m →
    θ_run (Cert.FeatIdeal.defs (F := Ideal)) (onTc (τ := Cert.FeatIdeal.τ) (Cert.FeatIdeal.main (F := Ideal))) ⟨m, fun _ => 0, g⟩ (fun r => (∀ c : Dev Cert.FeatIdeal.nD,
      r.2.mem ((c.tc : Thread Cert.FeatIdeal.nD Cert.FeatIdeal.τ).loc Cert.FeatIdeal.main_arg0) = m ((c.tc : Thread Cert.FeatIdeal.nD Cert.FeatIdeal.τ).loc Cert.FeatIdeal.main_arg0)
      ∧ r.2.mem ((c.tc : Thread Cert.FeatIdeal.nD Cert.FeatIdeal.τ).loc Cert.FeatIdeal.main_arg1) = m ((c.tc : Thread Cert.FeatIdeal.nD Cert.FeatIdeal.τ).loc Cert.FeatIdeal.main_arg1)
      ∧ r.2.mem ((c.tc : Thread Cert.FeatIdeal.nD Cert.FeatIdeal.τ).loc Cert.FeatIdeal.main_arg2) = m ((c.tc : Thread Cert.FeatIdeal.nD Cert.FeatIdeal.τ).loc Cert.FeatIdeal.main_arg2)
      ∧ r.2.mem ((c.tc : Thread Cert.FeatIdeal.nD Cert.FeatIdeal.τ).loc Cert.FeatIdeal.main_arg3) = m ((c.tc : Thread Cert.FeatIdeal.nD Cert.FeatIdeal.τ).loc Cert.FeatIdeal.main_arg3)
      ∧ r.2.mem ((c.tc : Thread Cert.FeatIdeal.nD Cert.FeatIdeal.τ).loc Cert.FeatIdeal.main_arg4) = m ((c.tc : Thread Cert.FeatIdeal.nD Cert.FeatIdeal.τ).loc Cert.FeatIdeal.main_arg4)
      ∧ r.2.mem ((c.tc : Thread Cert.FeatIdeal.nD Cert.FeatIdeal.τ).loc Cert.FeatIdeal.main_arg5) = m ((c.tc : Thread Cert.FeatIdeal.nD Cert.FeatIdeal.τ).loc Cert.FeatIdeal.main_arg5)
      ∧ r.2.mem ((c.tc : Thread Cert.FeatIdeal.nD Cert.FeatIdeal.τ).loc Cert.FeatIdeal.main_arg6) = m ((c.tc : Thread Cert.FeatIdeal.nD Cert.FeatIdeal.τ).loc Cert.FeatIdeal.main_arg6)
      ∧ r.2.mem ((c.tc : Thread Cert.FeatIdeal.nD Cert.FeatIdeal.τ).loc Cert.FeatIdeal.main_arg7) = m ((c.tc : Thread Cert.FeatIdeal.nD Cert.FeatIdeal.τ).loc Cert.FeatIdeal.main_arg7)
      ∧ r.2.mem ((c.tc : Thread Cert.FeatIdeal.nD Cert.FeatIdeal.τ).loc Cert.FeatIdeal.main_arg8) = m ((c.tc : Thread Cert.FeatIdeal.nD Cert.FeatIdeal.τ).loc Cert.FeatIdeal.main_arg8)
      ∧ r.2.mem ((c.tc : Thread Cert.FeatIdeal.nD Cert.FeatIdeal.τ).loc Cert.FeatIdeal.main_arg9) = m ((c.tc : Thread Cert.FeatIdeal.nD Cert.FeatIdeal.τ).loc Cert.FeatIdeal.main_arg9))
      ∧ r.2.sem = fun _ => 0)

def quiescent_RefFeatIdeal [hRefFeatIdeal : Cert.RefFeatIdeal.Facts] : Prop :=
  ∀ (m : (ℓ : Loc Cert.RefFeatIdeal.nD Cert.RefFeatIdeal.τ Cert.RefFeatIdeal.sig) → Buf (Elt Ideal) ℓ) (g : Dev Cert.RefFeatIdeal.nD → PrngReg), Pre_RefFeatIdeal m →
    θ_run (Cert.RefFeatIdeal.defs (F := Ideal)) (onTc (τ := Cert.RefFeatIdeal.τ) (Cert.RefFeatIdeal.main (F := Ideal))) ⟨m, fun _ => 0, g⟩ (fun r => (∀ c : Dev Cert.RefFeatIdeal.nD,
      r.2.mem ((c.tc : Thread Cert.RefFeatIdeal.nD Cert.RefFeatIdeal.τ).loc Cert.RefFeatIdeal.main_arg0) = m ((c.tc : Thread Cert.RefFeatIdeal.nD Cert.RefFeatIdeal.τ).loc Cert.RefFeatIdeal.main_arg0)
      ∧ r.2.mem ((c.tc : Thread Cert.RefFeatIdeal.nD Cert.RefFeatIdeal.τ).loc Cert.RefFeatIdeal.main_arg1) = m ((c.tc : Thread Cert.RefFeatIdeal.nD Cert.RefFeatIdeal.τ).loc Cert.RefFeatIdeal.main_arg1)
      ∧ r.2.mem ((c.tc : Thread Cert.RefFeatIdeal.nD Cert.RefFeatIdeal.τ).loc Cert.RefFeatIdeal.main_arg2) = m ((c.tc : Thread Cert.RefFeatIdeal.nD Cert.RefFeatIdeal.τ).loc Cert.RefFeatIdeal.main_arg2)
      ∧ r.2.mem ((c.tc : Thread Cert.RefFeatIdeal.nD Cert.RefFeatIdeal.τ).loc Cert.RefFeatIdeal.main_arg3) = m ((c.tc : Thread Cert.RefFeatIdeal.nD Cert.RefFeatIdeal.τ).loc Cert.RefFeatIdeal.main_arg3)
      ∧ r.2.mem ((c.tc : Thread Cert.RefFeatIdeal.nD Cert.RefFeatIdeal.τ).loc Cert.RefFeatIdeal.main_arg4) = m ((c.tc : Thread Cert.RefFeatIdeal.nD Cert.RefFeatIdeal.τ).loc Cert.RefFeatIdeal.main_arg4)
      ∧ r.2.mem ((c.tc : Thread Cert.RefFeatIdeal.nD Cert.RefFeatIdeal.τ).loc Cert.RefFeatIdeal.main_arg5) = m ((c.tc : Thread Cert.RefFeatIdeal.nD Cert.RefFeatIdeal.τ).loc Cert.RefFeatIdeal.main_arg5)
      ∧ r.2.mem ((c.tc : Thread Cert.RefFeatIdeal.nD Cert.RefFeatIdeal.τ).loc Cert.RefFeatIdeal.main_arg6) = m ((c.tc : Thread Cert.RefFeatIdeal.nD Cert.RefFeatIdeal.τ).loc Cert.RefFeatIdeal.main_arg6)
      ∧ r.2.mem ((c.tc : Thread Cert.RefFeatIdeal.nD Cert.RefFeatIdeal.τ).loc Cert.RefFeatIdeal.main_arg7) = m ((c.tc : Thread Cert.RefFeatIdeal.nD Cert.RefFeatIdeal.τ).loc Cert.RefFeatIdeal.main_arg7)
      ∧ r.2.mem ((c.tc : Thread Cert.RefFeatIdeal.nD Cert.RefFeatIdeal.τ).loc Cert.RefFeatIdeal.main_arg8) = m ((c.tc : Thread Cert.RefFeatIdeal.nD Cert.RefFeatIdeal.τ).loc Cert.RefFeatIdeal.main_arg8)
      ∧ r.2.mem ((c.tc : Thread Cert.RefFeatIdeal.nD Cert.RefFeatIdeal.τ).loc Cert.RefFeatIdeal.main_arg9) = m ((c.tc : Thread Cert.RefFeatIdeal.nD Cert.RefFeatIdeal.τ).loc Cert.RefFeatIdeal.main_arg9))
      ∧ r.2.sem = fun _ => 0)

def quiescent_RefFeatIdeal_pre_finite_keys [hRefFeatIdeal : Cert.RefFeatIdeal.Facts] [hPre_finite_keys : Cert.Pre_finite_keys.Facts] : Prop :=
  ∀ (m : (ℓ : Loc Cert.RefFeatIdeal.nD Cert.RefFeatIdeal.τ Cert.RefFeatIdeal.sig) → Buf (Elt Ideal) ℓ) (g : Dev Cert.RefFeatIdeal.nD → PrngReg), Pre_RefFeatIdeal_finite_keys m →
    θ_run (Cert.RefFeatIdeal.defs (F := Ideal)) (onTc (τ := Cert.RefFeatIdeal.τ) (Cert.RefFeatIdeal.main (F := Ideal))) ⟨m, fun _ => 0, g⟩ (fun r => (∀ c : Dev Cert.RefFeatIdeal.nD,
      r.2.mem ((c.tc : Thread Cert.RefFeatIdeal.nD Cert.RefFeatIdeal.τ).loc Cert.RefFeatIdeal.main_arg0) = m ((c.tc : Thread Cert.RefFeatIdeal.nD Cert.RefFeatIdeal.τ).loc Cert.RefFeatIdeal.main_arg0)
      ∧ r.2.mem ((c.tc : Thread Cert.RefFeatIdeal.nD Cert.RefFeatIdeal.τ).loc Cert.RefFeatIdeal.main_arg1) = m ((c.tc : Thread Cert.RefFeatIdeal.nD Cert.RefFeatIdeal.τ).loc Cert.RefFeatIdeal.main_arg1)
      ∧ r.2.mem ((c.tc : Thread Cert.RefFeatIdeal.nD Cert.RefFeatIdeal.τ).loc Cert.RefFeatIdeal.main_arg2) = m ((c.tc : Thread Cert.RefFeatIdeal.nD Cert.RefFeatIdeal.τ).loc Cert.RefFeatIdeal.main_arg2)
      ∧ r.2.mem ((c.tc : Thread Cert.RefFeatIdeal.nD Cert.RefFeatIdeal.τ).loc Cert.RefFeatIdeal.main_arg3) = m ((c.tc : Thread Cert.RefFeatIdeal.nD Cert.RefFeatIdeal.τ).loc Cert.RefFeatIdeal.main_arg3)
      ∧ r.2.mem ((c.tc : Thread Cert.RefFeatIdeal.nD Cert.RefFeatIdeal.τ).loc Cert.RefFeatIdeal.main_arg4) = m ((c.tc : Thread Cert.RefFeatIdeal.nD Cert.RefFeatIdeal.τ).loc Cert.RefFeatIdeal.main_arg4)
      ∧ r.2.mem ((c.tc : Thread Cert.RefFeatIdeal.nD Cert.RefFeatIdeal.τ).loc Cert.RefFeatIdeal.main_arg5) = m ((c.tc : Thread Cert.RefFeatIdeal.nD Cert.RefFeatIdeal.τ).loc Cert.RefFeatIdeal.main_arg5)
      ∧ r.2.mem ((c.tc : Thread Cert.RefFeatIdeal.nD Cert.RefFeatIdeal.τ).loc Cert.RefFeatIdeal.main_arg6) = m ((c.tc : Thread Cert.RefFeatIdeal.nD Cert.RefFeatIdeal.τ).loc Cert.RefFeatIdeal.main_arg6)
      ∧ r.2.mem ((c.tc : Thread Cert.RefFeatIdeal.nD Cert.RefFeatIdeal.τ).loc Cert.RefFeatIdeal.main_arg7) = m ((c.tc : Thread Cert.RefFeatIdeal.nD Cert.RefFeatIdeal.τ).loc Cert.RefFeatIdeal.main_arg7)
      ∧ r.2.mem ((c.tc : Thread Cert.RefFeatIdeal.nD Cert.RefFeatIdeal.τ).loc Cert.RefFeatIdeal.main_arg8) = m ((c.tc : Thread Cert.RefFeatIdeal.nD Cert.RefFeatIdeal.τ).loc Cert.RefFeatIdeal.main_arg8)
      ∧ r.2.mem ((c.tc : Thread Cert.RefFeatIdeal.nD Cert.RefFeatIdeal.τ).loc Cert.RefFeatIdeal.main_arg9) = m ((c.tc : Thread Cert.RefFeatIdeal.nD Cert.RefFeatIdeal.τ).loc Cert.RefFeatIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mlp_MlpIdeal : Prop :=
  True

def algebraic_MlpIdeal_RefMlpIdeal [hMlpIdeal : Cert.MlpIdeal.Facts] [hRefMlpIdeal : Cert.RefMlpIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.RefMlpIdeal.nD Cert.RefMlpIdeal.τ Cert.RefMlpIdeal.sig) → Buf (Elt Ideal) ℓ) (g' : Dev Cert.RefMlpIdeal.nD → PrngReg), Pre_MlpIdeal m →
    (∀ c : Dev Cert.MlpIdeal.nD,
      m' ((c.tc : Thread Cert.RefMlpIdeal.nD Cert.RefMlpIdeal.τ).loc Cert.RefMlpIdeal.main_arg0) = m ((c.tc : Thread Cert.MlpIdeal.nD Cert.MlpIdeal.τ).loc Cert.MlpIdeal.main_arg0)
      ∧ m' ((c.tc : Thread Cert.RefMlpIdeal.nD Cert.RefMlpIdeal.τ).loc Cert.RefMlpIdeal.main_arg1) = m ((c.tc : Thread Cert.MlpIdeal.nD Cert.MlpIdeal.τ).loc Cert.MlpIdeal.main_arg1)
      ∧ m' ((c.tc : Thread Cert.RefMlpIdeal.nD Cert.RefMlpIdeal.τ).loc Cert.RefMlpIdeal.main_arg2) = m ((c.tc : Thread Cert.MlpIdeal.nD Cert.MlpIdeal.τ).loc Cert.MlpIdeal.main_arg2)
      ∧ m' ((c.tc : Thread Cert.RefMlpIdeal.nD Cert.RefMlpIdeal.τ).loc Cert.RefMlpIdeal.main_arg3) = m ((c.tc : Thread Cert.MlpIdeal.nD Cert.MlpIdeal.τ).loc Cert.MlpIdeal.main_arg3)
      ∧ m' ((c.tc : Thread Cert.RefMlpIdeal.nD Cert.RefMlpIdeal.τ).loc Cert.RefMlpIdeal.main_arg4) = m ((c.tc : Thread Cert.MlpIdeal.nD Cert.MlpIdeal.τ).loc Cert.MlpIdeal.main_arg4)
      ∧ m' ((c.tc : Thread Cert.RefMlpIdeal.nD Cert.RefMlpIdeal.τ).loc Cert.RefMlpIdeal.main_arg5) = m ((c.tc : Thread Cert.MlpIdeal.nD Cert.MlpIdeal.τ).loc Cert.MlpIdeal.main_arg5)
      ∧ m' ((c.tc : Thread Cert.RefMlpIdeal.nD Cert.RefMlpIdeal.τ).loc Cert.RefMlpIdeal.main_arg6) = m ((c.tc : Thread Cert.MlpIdeal.nD Cert.MlpIdeal.τ).loc Cert.MlpIdeal.main_arg6)
      ∧ m' ((c.tc : Thread Cert.RefMlpIdeal.nD Cert.RefMlpIdeal.τ).loc Cert.RefMlpIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.RefMlpIdeal.defs (F := Ideal)) (onTc (τ := Cert.RefMlpIdeal.τ) (Cert.RefMlpIdeal.main (F := Ideal))) ⟨m', fun _ => 0, g'⟩ (fun r => ∀ c : Dev Cert.RefMlpIdeal.nD,
          r.2.mem ((c.tc : Thread Cert.RefMlpIdeal.nD Cert.RefMlpIdeal.τ).loc Cert.RefMlpIdeal.main_v39) = v0 c
          ∧ r.2.mem ((c.tc : Thread Cert.RefMlpIdeal.nD Cert.RefMlpIdeal.τ).loc Cert.RefMlpIdeal.main_arg0) = m' ((c.tc : Thread Cert.RefMlpIdeal.nD Cert.RefMlpIdeal.τ).loc Cert.RefMlpIdeal.main_arg0)
          ∧ r.2.mem ((c.tc : Thread Cert.RefMlpIdeal.nD Cert.RefMlpIdeal.τ).loc Cert.RefMlpIdeal.main_arg1) = m' ((c.tc : Thread Cert.RefMlpIdeal.nD Cert.RefMlpIdeal.τ).loc Cert.RefMlpIdeal.main_arg1)
          ∧ r.2.mem ((c.tc : Thread Cert.RefMlpIdeal.nD Cert.RefMlpIdeal.τ).loc Cert.RefMlpIdeal.main_arg2) = m' ((c.tc : Thread Cert.RefMlpIdeal.nD Cert.RefMlpIdeal.τ).loc Cert.RefMlpIdeal.main_arg2)
          ∧ r.2.mem ((c.tc : Thread Cert.RefMlpIdeal.nD Cert.RefMlpIdeal.τ).loc Cert.RefMlpIdeal.main_arg3) = m' ((c.tc : Thread Cert.RefMlpIdeal.nD Cert.RefMlpIdeal.τ).loc Cert.RefMlpIdeal.main_arg3)
          ∧ r.2.mem ((c.tc : Thread Cert.RefMlpIdeal.nD Cert.RefMlpIdeal.τ).loc Cert.RefMlpIdeal.main_arg4) = m' ((c.tc : Thread Cert.RefMlpIdeal.nD Cert.RefMlpIdeal.τ).loc Cert.RefMlpIdeal.main_arg4)
          ∧ r.2.mem ((c.tc : Thread Cert.RefMlpIdeal.nD Cert.RefMlpIdeal.τ).loc Cert.RefMlpIdeal.main_arg5) = m' ((c.tc : Thread Cert.RefMlpIdeal.nD Cert.RefMlpIdeal.τ).loc Cert.RefMlpIdeal.main_arg5)
          ∧ r.2.mem ((c.tc : Thread Cert.RefMlpIdeal.nD Cert.RefMlpIdeal.τ).loc Cert.RefMlpIdeal.main_arg6) = m' ((c.tc : Thread Cert.RefMlpIdeal.nD Cert.RefMlpIdeal.τ).loc Cert.RefMlpIdeal.main_arg6)
          ∧ r.2.mem ((c.tc : Thread Cert.RefMlpIdeal.nD Cert.RefMlpIdeal.τ).loc Cert.RefMlpIdeal.main_arg7) = m' ((c.tc : Thread Cert.RefMlpIdeal.nD Cert.RefMlpIdeal.τ).loc Cert.RefMlpIdeal.main_arg7))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)
      ∧ m' ((c.tc : Thread Cert.RefOutIdeal.nD Cert.RefOutIdeal.τ).loc Cert.RefOutIdeal.main_arg3) = m ((c.tc : Thread Cert.OutIdeal.nD Cert.OutIdeal.τ).loc Cert.OutIdeal.main_arg3)
      ∧ m' ((c.tc : Thread Cert.RefOutIdeal.nD Cert.RefOutIdeal.τ).loc Cert.RefOutIdeal.main_arg4) = m ((c.tc : Thread Cert.OutIdeal.nD Cert.OutIdeal.τ).loc Cert.OutIdeal.main_arg4)
      ∧ m' ((c.tc : Thread Cert.RefOutIdeal.nD Cert.RefOutIdeal.τ).loc Cert.RefOutIdeal.main_arg5) = m ((c.tc : Thread Cert.OutIdeal.nD Cert.OutIdeal.τ).loc Cert.OutIdeal.main_arg5)
      ∧ m' ((c.tc : Thread Cert.RefOutIdeal.nD Cert.RefOutIdeal.τ).loc Cert.RefOutIdeal.main_arg6) = m ((c.tc : Thread Cert.OutIdeal.nD Cert.OutIdeal.τ).loc Cert.OutIdeal.main_arg6)
      ∧ m' ((c.tc : Thread Cert.RefOutIdeal.nD Cert.RefOutIdeal.τ).loc Cert.RefOutIdeal.main_arg7) = m ((c.tc : Thread Cert.OutIdeal.nD Cert.OutIdeal.τ).loc Cert.OutIdeal.main_arg7)
      ∧ m' ((c.tc : Thread Cert.RefOutIdeal.nD Cert.RefOutIdeal.τ).loc Cert.RefOutIdeal.main_arg8) = m ((c.tc : Thread Cert.OutIdeal.nD Cert.OutIdeal.τ).loc Cert.OutIdeal.main_arg8)
      ∧ m' ((c.tc : Thread Cert.RefOutIdeal.nD Cert.RefOutIdeal.τ).loc Cert.RefOutIdeal.main_arg9) = m ((c.tc : Thread Cert.OutIdeal.nD Cert.OutIdeal.τ).loc Cert.OutIdeal.main_arg9)
      ∧ m' ((c.tc : Thread Cert.RefOutIdeal.nD Cert.RefOutIdeal.τ).loc Cert.RefOutIdeal.main_arg10) = m ((c.tc : Thread Cert.OutIdeal.nD Cert.OutIdeal.τ).loc Cert.OutIdeal.main_arg10)
      ∧ m' ((c.tc : Thread Cert.RefOutIdeal.nD Cert.RefOutIdeal.τ).loc Cert.RefOutIdeal.main_arg11) = m ((c.tc : Thread Cert.OutIdeal.nD Cert.OutIdeal.τ).loc Cert.OutIdeal.main_arg11)
      ∧ m' ((c.tc : Thread Cert.RefOutIdeal.nD Cert.RefOutIdeal.τ).loc Cert.RefOutIdeal.main_arg12) = m ((c.tc : Thread Cert.OutIdeal.nD Cert.OutIdeal.τ).loc Cert.OutIdeal.main_arg12)
      ∧ m' ((c.tc : Thread Cert.RefOutIdeal.nD Cert.RefOutIdeal.τ).loc Cert.RefOutIdeal.main_arg13) = m ((c.tc : Thread Cert.OutIdeal.nD Cert.OutIdeal.τ).loc Cert.OutIdeal.main_arg13)) →
    ∃ (v0 : (c : Dev Cert.OutIdeal.nD) → Buf (Elt Ideal) ((c.tc : Thread Cert.OutIdeal.nD Cert.OutIdeal.τ).loc Cert.OutIdeal.main_v9)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v9) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
          ∧ r.2.mem ((c.tc : Thread Cert.OutIdeal.nD Cert.OutIdeal.τ).loc Cert.OutIdeal.main_arg13) = m ((c.tc : Thread Cert.OutIdeal.nD Cert.OutIdeal.τ).loc Cert.OutIdeal.main_arg13))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v70) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4)
          ∧ r.2.mem ((c.tc : Thread Cert.RefOutIdeal.nD Cert.RefOutIdeal.τ).loc Cert.RefOutIdeal.main_arg5) = m' ((c.tc : Thread Cert.RefOutIdeal.nD Cert.RefOutIdeal.τ).loc Cert.RefOutIdeal.main_arg5)
          ∧ r.2.mem ((c.tc : Thread Cert.RefOutIdeal.nD Cert.RefOutIdeal.τ).loc Cert.RefOutIdeal.main_arg6) = m' ((c.tc : Thread Cert.RefOutIdeal.nD Cert.RefOutIdeal.τ).loc Cert.RefOutIdeal.main_arg6)
          ∧ r.2.mem ((c.tc : Thread Cert.RefOutIdeal.nD Cert.RefOutIdeal.τ).loc Cert.RefOutIdeal.main_arg7) = m' ((c.tc : Thread Cert.RefOutIdeal.nD Cert.RefOutIdeal.τ).loc Cert.RefOutIdeal.main_arg7)
          ∧ r.2.mem ((c.tc : Thread Cert.RefOutIdeal.nD Cert.RefOutIdeal.τ).loc Cert.RefOutIdeal.main_arg8) = m' ((c.tc : Thread Cert.RefOutIdeal.nD Cert.RefOutIdeal.τ).loc Cert.RefOutIdeal.main_arg8)
          ∧ r.2.mem ((c.tc : Thread Cert.RefOutIdeal.nD Cert.RefOutIdeal.τ).loc Cert.RefOutIdeal.main_arg9) = m' ((c.tc : Thread Cert.RefOutIdeal.nD Cert.RefOutIdeal.τ).loc Cert.RefOutIdeal.main_arg9)
          ∧ r.2.mem ((c.tc : Thread Cert.RefOutIdeal.nD Cert.RefOutIdeal.τ).loc Cert.RefOutIdeal.main_arg10) = m' ((c.tc : Thread Cert.RefOutIdeal.nD Cert.RefOutIdeal.τ).loc Cert.RefOutIdeal.main_arg10)
          ∧ r.2.mem ((c.tc : Thread Cert.RefOutIdeal.nD Cert.RefOutIdeal.τ).loc Cert.RefOutIdeal.main_arg11) = m' ((c.tc : Thread Cert.RefOutIdeal.nD Cert.RefOutIdeal.τ).loc Cert.RefOutIdeal.main_arg11)
          ∧ r.2.mem ((c.tc : Thread Cert.RefOutIdeal.nD Cert.RefOutIdeal.τ).loc Cert.RefOutIdeal.main_arg12) = m' ((c.tc : Thread Cert.RefOutIdeal.nD Cert.RefOutIdeal.τ).loc Cert.RefOutIdeal.main_arg12)
          ∧ r.2.mem ((c.tc : Thread Cert.RefOutIdeal.nD Cert.RefOutIdeal.τ).loc Cert.RefOutIdeal.main_arg13) = m' ((c.tc : Thread Cert.RefOutIdeal.nD Cert.RefOutIdeal.τ).loc Cert.RefOutIdeal.main_arg13))

def preserves_In_InIdeal : Prop :=
  True

def algebraic_InIdeal_RefInIdeal [hInIdeal : Cert.InIdeal.Facts] [hRefInIdeal : Cert.RefInIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.RefInIdeal.nD Cert.RefInIdeal.τ Cert.RefInIdeal.sig) → Buf (Elt Ideal) ℓ) (g' : Dev Cert.RefInIdeal.nD → PrngReg), Pre_InIdeal m →
    (∀ c : Dev Cert.InIdeal.nD,
      m' ((c.tc : Thread Cert.RefInIdeal.nD Cert.RefInIdeal.τ).loc Cert.RefInIdeal.main_arg0) = m ((c.tc : Thread Cert.InIdeal.nD Cert.InIdeal.τ).loc Cert.InIdeal.main_arg0)
      ∧ m' ((c.tc : Thread Cert.RefInIdeal.nD Cert.RefInIdeal.τ).loc Cert.RefInIdeal.main_arg1) = m ((c.tc : Thread Cert.InIdeal.nD Cert.InIdeal.τ).loc Cert.InIdeal.main_arg1)
      ∧ m' ((c.tc : Thread Cert.RefInIdeal.nD Cert.RefInIdeal.τ).loc Cert.RefInIdeal.main_arg2) = m ((c.tc : Thread Cert.InIdeal.nD Cert.InIdeal.τ).loc Cert.InIdeal.main_arg2)
      ∧ m' ((c.tc : Thread Cert.RefInIdeal.nD Cert.RefInIdeal.τ).loc Cert.RefInIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v3_0)) (v1 : (c : Dev Cert.InIdeal.nD) → Buf (Elt Ideal) ((c.tc : Thread Cert.InIdeal.nD Cert.InIdeal.τ).loc Cert.InIdeal.main_v3_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3_0) = v0 c
          ∧ r.2.mem ((c.tc : Thread Cert.InIdeal.nD Cert.InIdeal.τ).loc Cert.InIdeal.main_v3_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v7) = v0 c
          ∧ r.2.mem ((c.tc : Thread Cert.RefInIdeal.nD Cert.RefInIdeal.τ).loc Cert.RefInIdeal.main_v8) = v1 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3))

def preserves_Odd_OddIdeal : Prop :=
  True

def algebraic_OddIdeal_RefOddIdeal [hOddIdeal : Cert.OddIdeal.Facts] [hRefOddIdeal : Cert.RefOddIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.RefOddIdeal.nD Cert.RefOddIdeal.τ Cert.RefOddIdeal.sig) → Buf (Elt Ideal) ℓ) (g' : Dev Cert.RefOddIdeal.nD → PrngReg), Pre_OddIdeal m →
    (∀ c : Dev Cert.OddIdeal.nD,
      m' ((c.tc : Thread Cert.RefOddIdeal.nD Cert.RefOddIdeal.τ).loc Cert.RefOddIdeal.main_arg0) = m ((c.tc : Thread Cert.OddIdeal.nD Cert.OddIdeal.τ).loc Cert.OddIdeal.main_arg0)
      ∧ m' ((c.tc : Thread Cert.RefOddIdeal.nD Cert.RefOddIdeal.τ).loc Cert.RefOddIdeal.main_arg1) = m ((c.tc : Thread Cert.OddIdeal.nD Cert.OddIdeal.τ).loc Cert.OddIdeal.main_arg1)
      ∧ m' ((c.tc : Thread Cert.RefOddIdeal.nD Cert.RefOddIdeal.τ).loc Cert.RefOddIdeal.main_arg2) = m ((c.tc : Thread Cert.OddIdeal.nD Cert.OddIdeal.τ).loc Cert.OddIdeal.main_arg2)
      ∧ m' ((c.tc : Thread Cert.RefOddIdeal.nD Cert.RefOddIdeal.τ).loc Cert.RefOddIdeal.main_arg3) = m ((c.tc : Thread Cert.OddIdeal.nD Cert.OddIdeal.τ).loc Cert.OddIdeal.main_arg3)) →
    ∃ (v0 : (c : Dev Cert.OddIdeal.nD) → Buf (Elt Ideal) ((c.tc : Thread Cert.OddIdeal.nD Cert.OddIdeal.τ).loc Cert.OddIdeal.main_v11_0)) (v1 : (c : Dev Cert.OddIdeal.nD) → Buf (Elt Ideal) ((c.tc : Thread Cert.OddIdeal.nD Cert.OddIdeal.τ).loc Cert.OddIdeal.main_v11_1)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v11_0) = v0 c
          ∧ r.2.mem ((c.tc : Thread Cert.OddIdeal.nD Cert.OddIdeal.τ).loc Cert.OddIdeal.main_v11_1) = v1 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ θ_run (Cert.RefOddIdeal.defs (F := Ideal)) (onTc (τ := Cert.RefOddIdeal.τ) (Cert.RefOddIdeal.main (F := Ideal))) ⟨m', fun _ => 0, g'⟩ (fun r => ∀ c : Dev Cert.RefOddIdeal.nD,
          r.2.mem ((c.tc : Thread Cert.RefOddIdeal.nD Cert.RefOddIdeal.τ).loc Cert.RefOddIdeal.main_v12) = v0 c
          ∧ r.2.mem ((c.tc : Thread Cert.RefOddIdeal.nD Cert.RefOddIdeal.τ).loc Cert.RefOddIdeal.main_v11) = v1 c
          ∧ r.2.mem ((c.tc : Thread Cert.RefOddIdeal.nD Cert.RefOddIdeal.τ).loc Cert.RefOddIdeal.main_arg0) = m' ((c.tc : Thread Cert.RefOddIdeal.nD Cert.RefOddIdeal.τ).loc Cert.RefOddIdeal.main_arg0)
          ∧ r.2.mem ((c.tc : Thread Cert.RefOddIdeal.nD Cert.RefOddIdeal.τ).loc Cert.RefOddIdeal.main_arg1) = m' ((c.tc : Thread Cert.RefOddIdeal.nD Cert.RefOddIdeal.τ).loc Cert.RefOddIdeal.main_arg1)
          ∧ r.2.mem ((c.tc : Thread Cert.RefOddIdeal.nD Cert.RefOddIdeal.τ).loc Cert.RefOddIdeal.main_arg2) = m' ((c.tc : Thread Cert.RefOddIdeal.nD Cert.RefOddIdeal.τ).loc Cert.RefOddIdeal.main_arg2)
          ∧ r.2.mem ((c.tc : Thread Cert.RefOddIdeal.nD Cert.RefOddIdeal.τ).loc Cert.RefOddIdeal.main_arg3) = m' ((c.tc : Thread Cert.RefOddIdeal.nD Cert.RefOddIdeal.τ).loc Cert.RefOddIdeal.main_arg3))

def preserves_Join_JoinIdeal : Prop :=
  True

def algebraic_JoinIdeal_RefJoinIdeal_pre_finite_rows [hJoinIdeal : Cert.JoinIdeal.Facts] [hRefJoinIdeal : Cert.RefJoinIdeal.Facts] [hPre_finite_rows : Cert.Pre_finite_rows.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.RefJoinIdeal.nD Cert.RefJoinIdeal.τ Cert.RefJoinIdeal.sig) → Buf (Elt Ideal) ℓ) (g' : Dev Cert.RefJoinIdeal.nD → PrngReg), Pre_JoinIdeal_finite_rows m →
    (∀ c : Dev Cert.JoinIdeal.nD,
      m' ((c.tc : Thread Cert.RefJoinIdeal.nD Cert.RefJoinIdeal.τ).loc Cert.RefJoinIdeal.main_arg0) = m ((c.tc : Thread Cert.JoinIdeal.nD Cert.JoinIdeal.τ).loc Cert.JoinIdeal.main_arg0)
      ∧ m' ((c.tc : Thread Cert.RefJoinIdeal.nD Cert.RefJoinIdeal.τ).loc Cert.RefJoinIdeal.main_arg1) = m ((c.tc : Thread Cert.JoinIdeal.nD Cert.JoinIdeal.τ).loc Cert.JoinIdeal.main_arg1)
      ∧ m' ((c.tc : Thread Cert.RefJoinIdeal.nD Cert.RefJoinIdeal.τ).loc Cert.RefJoinIdeal.main_arg2) = m ((c.tc : Thread Cert.JoinIdeal.nD Cert.JoinIdeal.τ).loc Cert.JoinIdeal.main_arg2)
      ∧ m' ((c.tc : Thread Cert.RefJoinIdeal.nD Cert.RefJoinIdeal.τ).loc Cert.RefJoinIdeal.main_arg3) = m ((c.tc : Thread Cert.JoinIdeal.nD Cert.JoinIdeal.τ).loc Cert.JoinIdeal.main_arg3)
      ∧ m' ((c.tc : Thread Cert.RefJoinIdeal.nD Cert.RefJoinIdeal.τ).loc Cert.RefJoinIdeal.main_arg4) = m ((c.tc : Thread Cert.JoinIdeal.nD Cert.JoinIdeal.τ).loc Cert.JoinIdeal.main_arg4)
      ∧ m' ((c.tc : Thread Cert.RefJoinIdeal.nD Cert.RefJoinIdeal.τ).loc Cert.RefJoinIdeal.main_arg5) = m ((c.tc : Thread Cert.JoinIdeal.nD Cert.JoinIdeal.τ).loc Cert.JoinIdeal.main_arg5)
      ∧ m' ((c.tc : Thread Cert.RefJoinIdeal.nD Cert.RefJoinIdeal.τ).loc Cert.RefJoinIdeal.main_arg6) = m ((c.tc : Thread Cert.JoinIdeal.nD Cert.JoinIdeal.τ).loc Cert.JoinIdeal.main_arg6)
      ∧ m' ((c.tc : Thread Cert.RefJoinIdeal.nD Cert.RefJoinIdeal.τ).loc Cert.RefJoinIdeal.main_arg7) = m ((c.tc : Thread Cert.JoinIdeal.nD Cert.JoinIdeal.τ).loc Cert.JoinIdeal.main_arg7)
      ∧ m' ((c.tc : Thread Cert.RefJoinIdeal.nD Cert.RefJoinIdeal.τ).loc Cert.RefJoinIdeal.main_arg8) = m ((c.tc : Thread Cert.JoinIdeal.nD Cert.JoinIdeal.τ).loc Cert.JoinIdeal.main_arg8)
      ∧ m' ((c.tc : Thread Cert.RefJoinIdeal.nD Cert.RefJoinIdeal.τ).loc Cert.RefJoinIdeal.main_arg9) = m ((c.tc : Thread Cert.JoinIdeal.nD Cert.JoinIdeal.τ).loc Cert.JoinIdeal.main_arg9)
      ∧ m' ((c.tc : Thread Cert.RefJoinIdeal.nD Cert.RefJoinIdeal.τ).loc Cert.RefJoinIdeal.main_arg10) = m ((c.tc : Thread Cert.JoinIdeal.nD Cert.JoinIdeal.τ).loc Cert.JoinIdeal.main_arg10)
      ∧ m' ((c.tc : Thread Cert.RefJoinIdeal.nD Cert.RefJoinIdeal.τ).loc Cert.RefJoinIdeal.main_arg11) = m ((c.tc : Thread Cert.JoinIdeal.nD Cert.JoinIdeal.τ).loc Cert.JoinIdeal.main_arg11)
      ∧ m' ((c.tc : Thread Cert.RefJoinIdeal.nD Cert.RefJoinIdeal.τ).loc Cert.RefJoinIdeal.main_arg12) = m ((c.tc : Thread Cert.JoinIdeal.nD Cert.JoinIdeal.τ).loc Cert.JoinIdeal.main_arg12)) →
    ∃ (v0 : (c : Dev Cert.JoinIdeal.nD) → Buf (Elt Ideal) ((c.tc : Thread Cert.JoinIdeal.nD Cert.JoinIdeal.τ).loc Cert.JoinIdeal.main_v16)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v16) = v0 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
          ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
          ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
          ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
          ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
          ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9)
          ∧ r.2.mem ((c.tc : Thread Cert.JoinIdeal.nD Cert.JoinIdeal.τ).loc Cert.JoinIdeal.main_arg10) = m ((c.tc : Thread Cert.JoinIdeal.nD Cert.JoinIdeal.τ).loc Cert.JoinIdeal.main_arg10)
          ∧ r.2.mem ((c.tc : Thread Cert.JoinIdeal.nD Cert.JoinIdeal.τ).loc Cert.JoinIdeal.main_arg11) = m ((c.tc : Thread Cert.JoinIdeal.nD Cert.JoinIdeal.τ).loc Cert.JoinIdeal.main_arg11)
          ∧ r.2.mem ((c.tc : Thread Cert.JoinIdeal.nD Cert.JoinIdeal.τ).loc Cert.JoinIdeal.main_arg12) = m ((c.tc : Thread Cert.JoinIdeal.nD Cert.JoinIdeal.τ).loc Cert.JoinIdeal.main_arg12))
      ∧ θ_run (Cert.RefJoinIdeal.defs (F := Ideal)) (onTc (τ := Cert.RefJoinIdeal.τ) (Cert.RefJoinIdeal.main (F := Ideal))) ⟨m', fun _ => 0, g'⟩ (fun r => ∀ c : Dev Cert.RefJoinIdeal.nD,
          r.2.mem ((c.tc : Thread Cert.RefJoinIdeal.nD Cert.RefJoinIdeal.τ).loc Cert.RefJoinIdeal.main_v90) = v0 c
          ∧ r.2.mem ((c.tc : Thread Cert.RefJoinIdeal.nD Cert.RefJoinIdeal.τ).loc Cert.RefJoinIdeal.main_arg0) = m' ((c.tc : Thread Cert.RefJoinIdeal.nD Cert.RefJoinIdeal.τ).loc Cert.RefJoinIdeal.main_arg0)
          ∧ r.2.mem ((c.tc : Thread Cert.RefJoinIdeal.nD Cert.RefJoinIdeal.τ).loc Cert.RefJoinIdeal.main_arg1) = m' ((c.tc : Thread Cert.RefJoinIdeal.nD Cert.RefJoinIdeal.τ).loc Cert.RefJoinIdeal.main_arg1)
          ∧ r.2.mem ((c.tc : Thread Cert.RefJoinIdeal.nD Cert.RefJoinIdeal.τ).loc Cert.RefJoinIdeal.main_arg2) = m' ((c.tc : Thread Cert.RefJoinIdeal.nD Cert.RefJoinIdeal.τ).loc Cert.RefJoinIdeal.main_arg2)
          ∧ r.2.mem ((c.tc : Thread Cert.RefJoinIdeal.nD Cert.RefJoinIdeal.τ).loc Cert.RefJoinIdeal.main_arg3) = m' ((c.tc : Thread Cert.RefJoinIdeal.nD Cert.RefJoinIdeal.τ).loc Cert.RefJoinIdeal.main_arg3)
          ∧ r.2.mem ((c.tc : Thread Cert.RefJoinIdeal.nD Cert.RefJoinIdeal.τ).loc Cert.RefJoinIdeal.main_arg4) = m' ((c.tc : Thread Cert.RefJoinIdeal.nD Cert.RefJoinIdeal.τ).loc Cert.RefJoinIdeal.main_arg4)
          ∧ r.2.mem ((c.tc : Thread Cert.RefJoinIdeal.nD Cert.RefJoinIdeal.τ).loc Cert.RefJoinIdeal.main_arg5) = m' ((c.tc : Thread Cert.RefJoinIdeal.nD Cert.RefJoinIdeal.τ).loc Cert.RefJoinIdeal.main_arg5)
          ∧ r.2.mem ((c.tc : Thread Cert.RefJoinIdeal.nD Cert.RefJoinIdeal.τ).loc Cert.RefJoinIdeal.main_arg6) = m' ((c.tc : Thread Cert.RefJoinIdeal.nD Cert.RefJoinIdeal.τ).loc Cert.RefJoinIdeal.main_arg6)
          ∧ r.2.mem ((c.tc : Thread Cert.RefJoinIdeal.nD Cert.RefJoinIdeal.τ).loc Cert.RefJoinIdeal.main_arg7) = m' ((c.tc : Thread Cert.RefJoinIdeal.nD Cert.RefJoinIdeal.τ).loc Cert.RefJoinIdeal.main_arg7)
          ∧ r.2.mem ((c.tc : Thread Cert.RefJoinIdeal.nD Cert.RefJoinIdeal.τ).loc Cert.RefJoinIdeal.main_arg8) = m' ((c.tc : Thread Cert.RefJoinIdeal.nD Cert.RefJoinIdeal.τ).loc Cert.RefJoinIdeal.main_arg8)
          ∧ r.2.mem ((c.tc : Thread Cert.RefJoinIdeal.nD Cert.RefJoinIdeal.τ).loc Cert.RefJoinIdeal.main_arg9) = m' ((c.tc : Thread Cert.RefJoinIdeal.nD Cert.RefJoinIdeal.τ).loc Cert.RefJoinIdeal.main_arg9)
          ∧ r.2.mem ((c.tc : Thread Cert.RefJoinIdeal.nD Cert.RefJoinIdeal.τ).loc Cert.RefJoinIdeal.main_arg10) = m' ((c.tc : Thread Cert.RefJoinIdeal.nD Cert.RefJoinIdeal.τ).loc Cert.RefJoinIdeal.main_arg10)
          ∧ r.2.mem ((c.tc : Thread Cert.RefJoinIdeal.nD Cert.RefJoinIdeal.τ).loc Cert.RefJoinIdeal.main_arg11) = m' ((c.tc : Thread Cert.RefJoinIdeal.nD Cert.RefJoinIdeal.τ).loc Cert.RefJoinIdeal.main_arg11)
          ∧ r.2.mem ((c.tc : Thread Cert.RefJoinIdeal.nD Cert.RefJoinIdeal.τ).loc Cert.RefJoinIdeal.main_arg12) = m' ((c.tc : Thread Cert.RefJoinIdeal.nD Cert.RefJoinIdeal.τ).loc Cert.RefJoinIdeal.main_arg12))

def preserves_Mod_ModIdeal : Prop :=
  True

def algebraic_ModIdeal_RefModIdeal [hModIdeal : Cert.ModIdeal.Facts] [hRefModIdeal : Cert.RefModIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.RefModIdeal.nD Cert.RefModIdeal.τ Cert.RefModIdeal.sig) → Buf (Elt Ideal) ℓ) (g' : Dev Cert.RefModIdeal.nD → PrngReg), Pre_ModIdeal m →
    (∀ c : Dev Cert.ModIdeal.nD,
      m' ((c.tc : Thread Cert.RefModIdeal.nD Cert.RefModIdeal.τ).loc Cert.RefModIdeal.main_arg0) = m ((c.tc : Thread Cert.ModIdeal.nD Cert.ModIdeal.τ).loc Cert.ModIdeal.main_arg0)
      ∧ m' ((c.tc : Thread Cert.RefModIdeal.nD Cert.RefModIdeal.τ).loc Cert.RefModIdeal.main_arg1) = m ((c.tc : Thread Cert.ModIdeal.nD Cert.ModIdeal.τ).loc Cert.ModIdeal.main_arg1)
      ∧ m' ((c.tc : Thread Cert.RefModIdeal.nD Cert.RefModIdeal.τ).loc Cert.RefModIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.RefModIdeal.defs (F := Ideal)) (onTc (τ := Cert.RefModIdeal.τ) (Cert.RefModIdeal.main (F := Ideal))) ⟨m', fun _ => 0, g'⟩ (fun r => ∀ c : Dev Cert.RefModIdeal.nD,
          r.2.mem ((c.tc : Thread Cert.RefModIdeal.nD Cert.RefModIdeal.τ).loc Cert.RefModIdeal.main_v4) = v0 c
          ∧ r.2.mem ((c.tc : Thread Cert.RefModIdeal.nD Cert.RefModIdeal.τ).loc Cert.RefModIdeal.main_arg0) = m' ((c.tc : Thread Cert.RefModIdeal.nD Cert.RefModIdeal.τ).loc Cert.RefModIdeal.main_arg0)
          ∧ r.2.mem ((c.tc : Thread Cert.RefModIdeal.nD Cert.RefModIdeal.τ).loc Cert.RefModIdeal.main_arg1) = m' ((c.tc : Thread Cert.RefModIdeal.nD Cert.RefModIdeal.τ).loc Cert.RefModIdeal.main_arg1)
          ∧ r.2.mem ((c.tc : Thread Cert.RefModIdeal.nD Cert.RefModIdeal.τ).loc Cert.RefModIdeal.main_arg2) = m' ((c.tc : Thread Cert.RefModIdeal.nD Cert.RefModIdeal.τ).loc Cert.RefModIdeal.main_arg2))

def preserves_OutCtx_OutCtxIdeal : Prop :=
  True

def algebraic_OutCtxIdeal_RefOutCtxIdeal [hOutCtxIdeal : Cert.OutCtxIdeal.Facts] [hRefOutCtxIdeal : Cert.RefOutCtxIdeal.Facts] : Prop :=
  ∀ (m : (ℓ : Loc Cert.OutCtxIdeal.nD Cert.OutCtxIdeal.τ Cert.OutCtxIdeal.sig) → Buf (Elt Ideal) ℓ) (g : Dev Cert.OutCtxIdeal.nD → PrngReg)
    (m' : (ℓ : Loc Cert.RefOutCtxIdeal.nD Cert.RefOutCtxIdeal.τ Cert.RefOutCtxIdeal.sig) → Buf (Elt Ideal) ℓ) (g' : Dev Cert.RefOutCtxIdeal.nD → PrngReg), Pre_OutCtxIdeal m →
    (∀ c : Dev Cert.OutCtxIdeal.nD,
      m' ((c.tc : Thread Cert.RefOutCtxIdeal.nD Cert.RefOutCtxIdeal.τ).loc Cert.RefOutCtxIdeal.main_arg0) = m ((c.tc : Thread Cert.OutCtxIdeal.nD Cert.OutCtxIdeal.τ).loc Cert.OutCtxIdeal.main_arg0)
      ∧ m' ((c.tc : Thread Cert.RefOutCtxIdeal.nD Cert.RefOutCtxIdeal.τ).loc Cert.RefOutCtxIdeal.main_arg1) = m ((c.tc : Thread Cert.OutCtxIdeal.nD Cert.OutCtxIdeal.τ).loc Cert.OutCtxIdeal.main_arg1)
      ∧ m' ((c.tc : Thread Cert.RefOutCtxIdeal.nD Cert.RefOutCtxIdeal.τ).loc Cert.RefOutCtxIdeal.main_arg2) = m ((c.tc : Thread Cert.OutCtxIdeal.nD Cert.OutCtxIdeal.τ).loc Cert.OutCtxIdeal.main_arg2)
      ∧ m' ((c.tc : Thread Cert.RefOutCtxIdeal.nD Cert.RefOutCtxIdeal.τ).loc Cert.RefOutCtxIdeal.main_arg3) = m ((c.tc : Thread Cert.OutCtxIdeal.nD Cert.OutCtxIdeal.τ).loc Cert.OutCtxIdeal.main_arg3)
      ∧ m' ((c.tc : Thread Cert.RefOutCtxIdeal.nD Cert.RefOutCtxIdeal.τ).loc Cert.RefOutCtxIdeal.main_arg4) = m ((c.tc : Thread Cert.OutCtxIdeal.nD Cert.OutCtxIdeal.τ).loc Cert.OutCtxIdeal.main_arg4)
      ∧ m' ((c.tc : Thread Cert.RefOutCtxIdeal.nD Cert.RefOutCtxIdeal.τ).loc Cert.RefOutCtxIdeal.main_arg5) = m ((c.tc : Thread Cert.OutCtxIdeal.nD Cert.OutCtxIdeal.τ).loc Cert.OutCtxIdeal.main_arg5)
      ∧ m' ((c.tc : Thread Cert.RefOutCtxIdeal.nD Cert.RefOutCtxIdeal.τ).loc Cert.RefOutCtxIdeal.main_arg6) = m ((c.tc : Thread Cert.OutCtxIdeal.nD Cert.OutCtxIdeal.τ).loc Cert.OutCtxIdeal.main_arg6)
      ∧ m' ((c.tc : Thread Cert.RefOutCtxIdeal.nD Cert.RefOutCtxIdeal.τ).loc Cert.RefOutCtxIdeal.main_arg7) = m ((c.tc : Thread Cert.OutCtxIdeal.nD Cert.OutCtxIdeal.τ).loc Cert.OutCtxIdeal.main_arg7)
      ∧ m' ((c.tc : Thread Cert.RefOutCtxIdeal.nD Cert.RefOutCtxIdeal.τ).loc Cert.RefOutCtxIdeal.main_arg8) = m ((c.tc : Thread Cert.OutCtxIdeal.nD Cert.OutCtxIdeal.τ).loc Cert.OutCtxIdeal.main_arg8)
      ∧ m' ((c.tc : Thread Cert.RefOutCtxIdeal.nD Cert.RefOutCtxIdeal.τ).loc Cert.RefOutCtxIdeal.main_arg9) = m ((c.tc : Thread Cert.OutCtxIdeal.nD Cert.OutCtxIdeal.τ).loc Cert.OutCtxIdeal.main_arg9)
      ∧ m' ((c.tc : Thread Cert.RefOutCtxIdeal.nD Cert.RefOutCtxIdeal.τ).loc Cert.RefOutCtxIdeal.main_arg10) = m ((c.tc : Thread Cert.OutCtxIdeal.nD Cert.OutCtxIdeal.τ).loc Cert.OutCtxIdeal.main_arg10)
      ∧ m' ((c.tc : Thread Cert.RefOutCtxIdeal.nD Cert.RefOutCtxIdeal.τ).loc Cert.RefOutCtxIdeal.main_arg11) = m ((c.tc : Thread Cert.OutCtxIdeal.nD Cert.OutCtxIdeal.τ).loc Cert.OutCtxIdeal.main_arg11)
      ∧ m' ((c.tc : Thread Cert.RefOutCtxIdeal.nD Cert.RefOutCtxIdeal.τ).loc Cert.RefOutCtxIdeal.main_arg12) = m ((c.tc : Thread Cert.OutCtxIdeal.nD Cert.OutCtxIdeal.τ).loc Cert.OutCtxIdeal.main_arg12)
      ∧ m' ((c.tc : Thread Cert.RefOutCtxIdeal.nD Cert.RefOutCtxIdeal.τ).loc Cert.RefOutCtxIdeal.main_arg13) = m ((c.tc : Thread Cert.OutCtxIdeal.nD Cert.OutCtxIdeal.τ).loc Cert.OutCtxIdeal.main_arg13)) →
    ∃ (v0 : (c : Dev Cert.OutCtxIdeal.nD) → Buf (Elt Ideal) ((c.tc : Thread Cert.OutCtxIdeal.nD Cert.OutCtxIdeal.τ).loc Cert.OutCtxIdeal.main_v9)),
      θ_run (Cert.OutCtxIdeal.defs (F := Ideal)) (onTc (τ := Cert.OutCtxIdeal.τ) (Cert.OutCtxIdeal.main (F := Ideal))) ⟨m, fun _ => 0, g⟩ (fun r => ∀ c : Dev Cert.OutCtxIdeal.nD,
          r.2.mem ((c.tc : Thread Cert.OutCtxIdeal.nD Cert.OutCtxIdeal.τ).loc Cert.OutCtxIdeal.main_v9) = v0 c
          ∧ r.2.mem ((c.tc : Thread Cert.OutCtxIdeal.nD Cert.OutCtxIdeal.τ).loc Cert.OutCtxIdeal.main_arg0) = m ((c.tc : Thread Cert.OutCtxIdeal.nD Cert.OutCtxIdeal.τ).loc Cert.OutCtxIdeal.main_arg0)
          ∧ r.2.mem ((c.tc : Thread Cert.OutCtxIdeal.nD Cert.OutCtxIdeal.τ).loc Cert.OutCtxIdeal.main_arg1) = m ((c.tc : Thread Cert.OutCtxIdeal.nD Cert.OutCtxIdeal.τ).loc Cert.OutCtxIdeal.main_arg1)
          ∧ r.2.mem ((c.tc : Thread Cert.OutCtxIdeal.nD Cert.OutCtxIdeal.τ).loc Cert.OutCtxIdeal.main_arg2) = m ((c.tc : Thread Cert.OutCtxIdeal.nD Cert.OutCtxIdeal.τ).loc Cert.OutCtxIdeal.main_arg2)
          ∧ r.2.mem ((c.tc : Thread Cert.OutCtxIdeal.nD Cert.OutCtxIdeal.τ).loc Cert.OutCtxIdeal.main_arg3) = m ((c.tc : Thread Cert.OutCtxIdeal.nD Cert.OutCtxIdeal.τ).loc Cert.OutCtxIdeal.main_arg3)
          ∧ r.2.mem ((c.tc : Thread Cert.OutCtxIdeal.nD Cert.OutCtxIdeal.τ).loc Cert.OutCtxIdeal.main_arg4) = m ((c.tc : Thread Cert.OutCtxIdeal.nD Cert.OutCtxIdeal.τ).loc Cert.OutCtxIdeal.main_arg4)
          ∧ r.2.mem ((c.tc : Thread Cert.OutCtxIdeal.nD Cert.OutCtxIdeal.τ).loc Cert.OutCtxIdeal.main_arg5) = m ((c.tc : Thread Cert.OutCtxIdeal.nD Cert.OutCtxIdeal.τ).loc Cert.OutCtxIdeal.main_arg5)
          ∧ r.2.mem ((c.tc : Thread Cert.OutCtxIdeal.nD Cert.OutCtxIdeal.τ).loc Cert.OutCtxIdeal.main_arg6) = m ((c.tc : Thread Cert.OutCtxIdeal.nD Cert.OutCtxIdeal.τ).loc Cert.OutCtxIdeal.main_arg6)
          ∧ r.2.mem ((c.tc : Thread Cert.OutCtxIdeal.nD Cert.OutCtxIdeal.τ).loc Cert.OutCtxIdeal.main_arg7) = m ((c.tc : Thread Cert.OutCtxIdeal.nD Cert.OutCtxIdeal.τ).loc Cert.OutCtxIdeal.main_arg7)
          ∧ r.2.mem ((c.tc : Thread Cert.OutCtxIdeal.nD Cert.OutCtxIdeal.τ).loc Cert.OutCtxIdeal.main_arg8) = m ((c.tc : Thread Cert.OutCtxIdeal.nD Cert.OutCtxIdeal.τ).loc Cert.OutCtxIdeal.main_arg8)
          ∧ r.2.mem ((c.tc : Thread Cert.OutCtxIdeal.nD Cert.OutCtxIdeal.τ).loc Cert.OutCtxIdeal.main_arg9) = m ((c.tc : Thread Cert.OutCtxIdeal.nD Cert.OutCtxIdeal.τ).loc Cert.OutCtxIdeal.main_arg9)
          ∧ r.2.mem ((c.tc : Thread Cert.OutCtxIdeal.nD Cert.OutCtxIdeal.τ).loc Cert.OutCtxIdeal.main_arg10) = m ((c.tc : Thread Cert.OutCtxIdeal.nD Cert.OutCtxIdeal.τ).loc Cert.OutCtxIdeal.main_arg10)
          ∧ r.2.mem ((c.tc : Thread Cert.OutCtxIdeal.nD Cert.OutCtxIdeal.τ).loc Cert.OutCtxIdeal.main_arg11) = m ((c.tc : Thread Cert.OutCtxIdeal.nD Cert.OutCtxIdeal.τ).loc Cert.OutCtxIdeal.main_arg11)
          ∧ r.2.mem ((c.tc : Thread Cert.OutCtxIdeal.nD Cert.OutCtxIdeal.τ).loc Cert.OutCtxIdeal.main_arg12) = m ((c.tc : Thread Cert.OutCtxIdeal.nD Cert.OutCtxIdeal.τ).loc Cert.OutCtxIdeal.main_arg12)
          ∧ r.2.mem ((c.tc : Thread Cert.OutCtxIdeal.nD Cert.OutCtxIdeal.τ).loc Cert.OutCtxIdeal.main_arg13) = m ((c.tc : Thread Cert.OutCtxIdeal.nD Cert.OutCtxIdeal.τ).loc Cert.OutCtxIdeal.main_arg13))
      ∧ θ_run (Cert.RefOutCtxIdeal.defs (F := Ideal)) (onTc (τ := Cert.RefOutCtxIdeal.τ) (Cert.RefOutCtxIdeal.main (F := Ideal))) ⟨m', fun _ => 0, g'⟩ (fun r => ∀ c : Dev Cert.RefOutCtxIdeal.nD,
          r.2.mem ((c.tc : Thread Cert.RefOutCtxIdeal.nD Cert.RefOutCtxIdeal.τ).loc Cert.RefOutCtxIdeal.main_v70) = v0 c
          ∧ r.2.mem ((c.tc : Thread Cert.RefOutCtxIdeal.nD Cert.RefOutCtxIdeal.τ).loc Cert.RefOutCtxIdeal.main_arg0) = m' ((c.tc : Thread Cert.RefOutCtxIdeal.nD Cert.RefOutCtxIdeal.τ).loc Cert.RefOutCtxIdeal.main_arg0)
          ∧ r.2.mem ((c.tc : Thread Cert.RefOutCtxIdeal.nD Cert.RefOutCtxIdeal.τ).loc Cert.RefOutCtxIdeal.main_arg1) = m' ((c.tc : Thread Cert.RefOutCtxIdeal.nD Cert.RefOutCtxIdeal.τ).loc Cert.RefOutCtxIdeal.main_arg1)
          ∧ r.2.mem ((c.tc : Thread Cert.RefOutCtxIdeal.nD Cert.RefOutCtxIdeal.τ).loc Cert.RefOutCtxIdeal.main_arg2) = m' ((c.tc : Thread Cert.RefOutCtxIdeal.nD Cert.RefOutCtxIdeal.τ).loc Cert.RefOutCtxIdeal.main_arg2)
          ∧ r.2.mem ((c.tc : Thread Cert.RefOutCtxIdeal.nD Cert.RefOutCtxIdeal.τ).loc Cert.RefOutCtxIdeal.main_arg3) = m' ((c.tc : Thread Cert.RefOutCtxIdeal.nD Cert.RefOutCtxIdeal.τ).loc Cert.RefOutCtxIdeal.main_arg3)
          ∧ r.2.mem ((c.tc : Thread Cert.RefOutCtxIdeal.nD Cert.RefOutCtxIdeal.τ).loc Cert.RefOutCtxIdeal.main_arg4) = m' ((c.tc : Thread Cert.RefOutCtxIdeal.nD Cert.RefOutCtxIdeal.τ).loc Cert.RefOutCtxIdeal.main_arg4)
          ∧ r.2.mem ((c.tc : Thread Cert.RefOutCtxIdeal.nD Cert.RefOutCtxIdeal.τ).loc Cert.RefOutCtxIdeal.main_arg5) = m' ((c.tc : Thread Cert.RefOutCtxIdeal.nD Cert.RefOutCtxIdeal.τ).loc Cert.RefOutCtxIdeal.main_arg5)
          ∧ r.2.mem ((c.tc : Thread Cert.RefOutCtxIdeal.nD Cert.RefOutCtxIdeal.τ).loc Cert.RefOutCtxIdeal.main_arg6) = m' ((c.tc : Thread Cert.RefOutCtxIdeal.nD Cert.RefOutCtxIdeal.τ).loc Cert.RefOutCtxIdeal.main_arg6)
          ∧ r.2.mem ((c.tc : Thread Cert.RefOutCtxIdeal.nD Cert.RefOutCtxIdeal.τ).loc Cert.RefOutCtxIdeal.main_arg7) = m' ((c.tc : Thread Cert.RefOutCtxIdeal.nD Cert.RefOutCtxIdeal.τ).loc Cert.RefOutCtxIdeal.main_arg7)
          ∧ r.2.mem ((c.tc : Thread Cert.RefOutCtxIdeal.nD Cert.RefOutCtxIdeal.τ).loc Cert.RefOutCtxIdeal.main_arg8) = m' ((c.tc : Thread Cert.RefOutCtxIdeal.nD Cert.RefOutCtxIdeal.τ).loc Cert.RefOutCtxIdeal.main_arg8)
          ∧ r.2.mem ((c.tc : Thread Cert.RefOutCtxIdeal.nD Cert.RefOutCtxIdeal.τ).loc Cert.RefOutCtxIdeal.main_arg9) = m' ((c.tc : Thread Cert.RefOutCtxIdeal.nD Cert.RefOutCtxIdeal.τ).loc Cert.RefOutCtxIdeal.main_arg9)
          ∧ r.2.mem ((c.tc : Thread Cert.RefOutCtxIdeal.nD Cert.RefOutCtxIdeal.τ).loc Cert.RefOutCtxIdeal.main_arg10) = m' ((c.tc : Thread Cert.RefOutCtxIdeal.nD Cert.RefOutCtxIdeal.τ).loc Cert.RefOutCtxIdeal.main_arg10)
          ∧ r.2.mem ((c.tc : Thread Cert.RefOutCtxIdeal.nD Cert.RefOutCtxIdeal.τ).loc Cert.RefOutCtxIdeal.main_arg11) = m' ((c.tc : Thread Cert.RefOutCtxIdeal.nD Cert.RefOutCtxIdeal.τ).loc Cert.RefOutCtxIdeal.main_arg11)
          ∧ r.2.mem ((c.tc : Thread Cert.RefOutCtxIdeal.nD Cert.RefOutCtxIdeal.τ).loc Cert.RefOutCtxIdeal.main_arg12) = m' ((c.tc : Thread Cert.RefOutCtxIdeal.nD Cert.RefOutCtxIdeal.τ).loc Cert.RefOutCtxIdeal.main_arg12)
          ∧ r.2.mem ((c.tc : Thread Cert.RefOutCtxIdeal.nD Cert.RefOutCtxIdeal.τ).loc Cert.RefOutCtxIdeal.main_arg13) = m' ((c.tc : Thread Cert.RefOutCtxIdeal.nD Cert.RefOutCtxIdeal.τ).loc Cert.RefOutCtxIdeal.main_arg13))

def preserves_InCtx_InCtxIdeal : Prop :=
  True

def algebraic_InCtxIdeal_RefInCtxIdeal [hInCtxIdeal : Cert.InCtxIdeal.Facts] [hRefInCtxIdeal : Cert.RefInCtxIdeal.Facts] : Prop :=
  ∀ (m : (ℓ : Loc Cert.InCtxIdeal.nD Cert.InCtxIdeal.τ Cert.InCtxIdeal.sig) → Buf (Elt Ideal) ℓ) (g : Dev Cert.InCtxIdeal.nD → PrngReg)
    (m' : (ℓ : Loc Cert.RefInCtxIdeal.nD Cert.RefInCtxIdeal.τ Cert.RefInCtxIdeal.sig) → Buf (Elt Ideal) ℓ) (g' : Dev Cert.RefInCtxIdeal.nD → PrngReg), Pre_InCtxIdeal m →
    (∀ c : Dev Cert.InCtxIdeal.nD,
      m' ((c.tc : Thread Cert.RefInCtxIdeal.nD Cert.RefInCtxIdeal.τ).loc Cert.RefInCtxIdeal.main_arg0) = m ((c.tc : Thread Cert.InCtxIdeal.nD Cert.InCtxIdeal.τ).loc Cert.InCtxIdeal.main_arg0)
      ∧ m' ((c.tc : Thread Cert.RefInCtxIdeal.nD Cert.RefInCtxIdeal.τ).loc Cert.RefInCtxIdeal.main_arg1) = m ((c.tc : Thread Cert.InCtxIdeal.nD Cert.InCtxIdeal.τ).loc Cert.InCtxIdeal.main_arg1)
      ∧ m' ((c.tc : Thread Cert.RefInCtxIdeal.nD Cert.RefInCtxIdeal.τ).loc Cert.RefInCtxIdeal.main_arg2) = m ((c.tc : Thread Cert.InCtxIdeal.nD Cert.InCtxIdeal.τ).loc Cert.InCtxIdeal.main_arg2)
      ∧ m' ((c.tc : Thread Cert.RefInCtxIdeal.nD Cert.RefInCtxIdeal.τ).loc Cert.RefInCtxIdeal.main_arg3) = m ((c.tc : Thread Cert.InCtxIdeal.nD Cert.InCtxIdeal.τ).loc Cert.InCtxIdeal.main_arg3)) →
    ∃ (v0 : (c : Dev Cert.InCtxIdeal.nD) → Buf (Elt Ideal) ((c.tc : Thread Cert.InCtxIdeal.nD Cert.InCtxIdeal.τ).loc Cert.InCtxIdeal.main_v3_0)) (v1 : (c : Dev Cert.InCtxIdeal.nD) → Buf (Elt Ideal) ((c.tc : Thread Cert.InCtxIdeal.nD Cert.InCtxIdeal.τ).loc Cert.InCtxIdeal.main_v3_1)),
      θ_run (Cert.InCtxIdeal.defs (F := Ideal)) (onTc (τ := Cert.InCtxIdeal.τ) (Cert.InCtxIdeal.main (F := Ideal))) ⟨m, fun _ => 0, g⟩ (fun r => ∀ c : Dev Cert.InCtxIdeal.nD,
          r.2.mem ((c.tc : Thread Cert.InCtxIdeal.nD Cert.InCtxIdeal.τ).loc Cert.InCtxIdeal.main_v3_0) = v0 c
          ∧ r.2.mem ((c.tc : Thread Cert.InCtxIdeal.nD Cert.InCtxIdeal.τ).loc Cert.InCtxIdeal.main_v3_1) = v1 c
          ∧ r.2.mem ((c.tc : Thread Cert.InCtxIdeal.nD Cert.InCtxIdeal.τ).loc Cert.InCtxIdeal.main_arg0) = m ((c.tc : Thread Cert.InCtxIdeal.nD Cert.InCtxIdeal.τ).loc Cert.InCtxIdeal.main_arg0)
          ∧ r.2.mem ((c.tc : Thread Cert.InCtxIdeal.nD Cert.InCtxIdeal.τ).loc Cert.InCtxIdeal.main_arg1) = m ((c.tc : Thread Cert.InCtxIdeal.nD Cert.InCtxIdeal.τ).loc Cert.InCtxIdeal.main_arg1)
          ∧ r.2.mem ((c.tc : Thread Cert.InCtxIdeal.nD Cert.InCtxIdeal.τ).loc Cert.InCtxIdeal.main_arg2) = m ((c.tc : Thread Cert.InCtxIdeal.nD Cert.InCtxIdeal.τ).loc Cert.InCtxIdeal.main_arg2)
          ∧ r.2.mem ((c.tc : Thread Cert.InCtxIdeal.nD Cert.InCtxIdeal.τ).loc Cert.InCtxIdeal.main_arg3) = m ((c.tc : Thread Cert.InCtxIdeal.nD Cert.InCtxIdeal.τ).loc Cert.InCtxIdeal.main_arg3))
      ∧ θ_run (Cert.RefInCtxIdeal.defs (F := Ideal)) (onTc (τ := Cert.RefInCtxIdeal.τ) (Cert.RefInCtxIdeal.main (F := Ideal))) ⟨m', fun _ => 0, g'⟩ (fun r => ∀ c : Dev Cert.RefInCtxIdeal.nD,
          r.2.mem ((c.tc : Thread Cert.RefInCtxIdeal.nD Cert.RefInCtxIdeal.τ).loc Cert.RefInCtxIdeal.main_v7) = v0 c
          ∧ r.2.mem ((c.tc : Thread Cert.RefInCtxIdeal.nD Cert.RefInCtxIdeal.τ).loc Cert.RefInCtxIdeal.main_v8) = v1 c
          ∧ r.2.mem ((c.tc : Thread Cert.RefInCtxIdeal.nD Cert.RefInCtxIdeal.τ).loc Cert.RefInCtxIdeal.main_arg0) = m' ((c.tc : Thread Cert.RefInCtxIdeal.nD Cert.RefInCtxIdeal.τ).loc Cert.RefInCtxIdeal.main_arg0)
          ∧ r.2.mem ((c.tc : Thread Cert.RefInCtxIdeal.nD Cert.RefInCtxIdeal.τ).loc Cert.RefInCtxIdeal.main_arg1) = m' ((c.tc : Thread Cert.RefInCtxIdeal.nD Cert.RefInCtxIdeal.τ).loc Cert.RefInCtxIdeal.main_arg1)
          ∧ r.2.mem ((c.tc : Thread Cert.RefInCtxIdeal.nD Cert.RefInCtxIdeal.τ).loc Cert.RefInCtxIdeal.main_arg2) = m' ((c.tc : Thread Cert.RefInCtxIdeal.nD Cert.RefInCtxIdeal.τ).loc Cert.RefInCtxIdeal.main_arg2)
          ∧ r.2.mem ((c.tc : Thread Cert.RefInCtxIdeal.nD Cert.RefInCtxIdeal.τ).loc Cert.RefInCtxIdeal.main_arg3) = m' ((c.tc : Thread Cert.RefInCtxIdeal.nD Cert.RefInCtxIdeal.τ).loc Cert.RefInCtxIdeal.main_arg3))

def preserves_OddCtx_OddCtxIdeal : Prop :=
  True

def algebraic_OddCtxIdeal_RefOddCtxIdeal [hOddCtxIdeal : Cert.OddCtxIdeal.Facts] [hRefOddCtxIdeal : Cert.RefOddCtxIdeal.Facts] : Prop :=
  ∀ (m : (ℓ : Loc Cert.OddCtxIdeal.nD Cert.OddCtxIdeal.τ Cert.OddCtxIdeal.sig) → Buf (Elt Ideal) ℓ) (g : Dev Cert.OddCtxIdeal.nD → PrngReg)
    (m' : (ℓ : Loc Cert.RefOddCtxIdeal.nD Cert.RefOddCtxIdeal.τ Cert.RefOddCtxIdeal.sig) → Buf (Elt Ideal) ℓ) (g' : Dev Cert.RefOddCtxIdeal.nD → PrngReg), Pre_OddCtxIdeal m →
    (∀ c : Dev Cert.OddCtxIdeal.nD,
      m' ((c.tc : Thread Cert.RefOddCtxIdeal.nD Cert.RefOddCtxIdeal.τ).loc Cert.RefOddCtxIdeal.main_arg0) = m ((c.tc : Thread Cert.OddCtxIdeal.nD Cert.OddCtxIdeal.τ).loc Cert.OddCtxIdeal.main_arg0)
      ∧ m' ((c.tc : Thread Cert.RefOddCtxIdeal.nD Cert.RefOddCtxIdeal.τ).loc Cert.RefOddCtxIdeal.main_arg1) = m ((c.tc : Thread Cert.OddCtxIdeal.nD Cert.OddCtxIdeal.τ).loc Cert.OddCtxIdeal.main_arg1)
      ∧ m' ((c.tc : Thread Cert.RefOddCtxIdeal.nD Cert.RefOddCtxIdeal.τ).loc Cert.RefOddCtxIdeal.main_arg2) = m ((c.tc : Thread Cert.OddCtxIdeal.nD Cert.OddCtxIdeal.τ).loc Cert.OddCtxIdeal.main_arg2)
      ∧ m' ((c.tc : Thread Cert.RefOddCtxIdeal.nD Cert.RefOddCtxIdeal.τ).loc Cert.RefOddCtxIdeal.main_arg3) = m ((c.tc : Thread Cert.OddCtxIdeal.nD Cert.OddCtxIdeal.τ).loc Cert.OddCtxIdeal.main_arg3)) →
    ∃ (v0 : (c : Dev Cert.OddCtxIdeal.nD) → Buf (Elt Ideal) ((c.tc : Thread Cert.OddCtxIdeal.nD Cert.OddCtxIdeal.τ).loc Cert.OddCtxIdeal.main_v11_0)) (v1 : (c : Dev Cert.OddCtxIdeal.nD) → Buf (Elt Ideal) ((c.tc : Thread Cert.OddCtxIdeal.nD Cert.OddCtxIdeal.τ).loc Cert.OddCtxIdeal.main_v11_1)),
      θ_run (Cert.OddCtxIdeal.defs (F := Ideal)) (onTc (τ := Cert.OddCtxIdeal.τ) (Cert.OddCtxIdeal.main (F := Ideal))) ⟨m, fun _ => 0, g⟩ (fun r => ∀ c : Dev Cert.OddCtxIdeal.nD,
          r.2.mem ((c.tc : Thread Cert.OddCtxIdeal.nD Cert.OddCtxIdeal.τ).loc Cert.OddCtxIdeal.main_v11_0) = v0 c
          ∧ r.2.mem ((c.tc : Thread Cert.OddCtxIdeal.nD Cert.OddCtxIdeal.τ).loc Cert.OddCtxIdeal.main_v11_1) = v1 c
          ∧ r.2.mem ((c.tc : Thread Cert.OddCtxIdeal.nD Cert.OddCtxIdeal.τ).loc Cert.OddCtxIdeal.main_arg0) = m ((c.tc : Thread Cert.OddCtxIdeal.nD Cert.OddCtxIdeal.τ).loc Cert.OddCtxIdeal.main_arg0)
          ∧ r.2.mem ((c.tc : Thread Cert.OddCtxIdeal.nD Cert.OddCtxIdeal.τ).loc Cert.OddCtxIdeal.main_arg1) = m ((c.tc : Thread Cert.OddCtxIdeal.nD Cert.OddCtxIdeal.τ).loc Cert.OddCtxIdeal.main_arg1)
          ∧ r.2.mem ((c.tc : Thread Cert.OddCtxIdeal.nD Cert.OddCtxIdeal.τ).loc Cert.OddCtxIdeal.main_arg2) = m ((c.tc : Thread Cert.OddCtxIdeal.nD Cert.OddCtxIdeal.τ).loc Cert.OddCtxIdeal.main_arg2)
          ∧ r.2.mem ((c.tc : Thread Cert.OddCtxIdeal.nD Cert.OddCtxIdeal.τ).loc Cert.OddCtxIdeal.main_arg3) = m ((c.tc : Thread Cert.OddCtxIdeal.nD Cert.OddCtxIdeal.τ).loc Cert.OddCtxIdeal.main_arg3))
      ∧ θ_run (Cert.RefOddCtxIdeal.defs (F := Ideal)) (onTc (τ := Cert.RefOddCtxIdeal.τ) (Cert.RefOddCtxIdeal.main (F := Ideal))) ⟨m', fun _ => 0, g'⟩ (fun r => ∀ c : Dev Cert.RefOddCtxIdeal.nD,
          r.2.mem ((c.tc : Thread Cert.RefOddCtxIdeal.nD Cert.RefOddCtxIdeal.τ).loc Cert.RefOddCtxIdeal.main_v12) = v0 c
          ∧ r.2.mem ((c.tc : Thread Cert.RefOddCtxIdeal.nD Cert.RefOddCtxIdeal.τ).loc Cert.RefOddCtxIdeal.main_v11) = v1 c
          ∧ r.2.mem ((c.tc : Thread Cert.RefOddCtxIdeal.nD Cert.RefOddCtxIdeal.τ).loc Cert.RefOddCtxIdeal.main_arg0) = m' ((c.tc : Thread Cert.RefOddCtxIdeal.nD Cert.RefOddCtxIdeal.τ).loc Cert.RefOddCtxIdeal.main_arg0)
          ∧ r.2.mem ((c.tc : Thread Cert.RefOddCtxIdeal.nD Cert.RefOddCtxIdeal.τ).loc Cert.RefOddCtxIdeal.main_arg1) = m' ((c.tc : Thread Cert.RefOddCtxIdeal.nD Cert.RefOddCtxIdeal.τ).loc Cert.RefOddCtxIdeal.main_arg1)
          ∧ r.2.mem ((c.tc : Thread Cert.RefOddCtxIdeal.nD Cert.RefOddCtxIdeal.τ).loc Cert.RefOddCtxIdeal.main_arg2) = m' ((c.tc : Thread Cert.RefOddCtxIdeal.nD Cert.RefOddCtxIdeal.τ).loc Cert.RefOddCtxIdeal.main_arg2)
          ∧ r.2.mem ((c.tc : Thread Cert.RefOddCtxIdeal.nD Cert.RefOddCtxIdeal.τ).loc Cert.RefOddCtxIdeal.main_arg3) = m' ((c.tc : Thread Cert.RefOddCtxIdeal.nD Cert.RefOddCtxIdeal.τ).loc Cert.RefOddCtxIdeal.main_arg3))

def preserves_Feat_FeatIdeal : Prop :=
  True

def algebraic_FeatIdeal_RefFeatIdeal_pre_finite_keys [hFeatIdeal : Cert.FeatIdeal.Facts] [hRefFeatIdeal : Cert.RefFeatIdeal.Facts] [hPre_finite_keys : Cert.Pre_finite_keys.Facts] : Prop :=
  ∀ (m : (ℓ : Loc Cert.FeatIdeal.nD Cert.FeatIdeal.τ Cert.FeatIdeal.sig) → Buf (Elt Ideal) ℓ) (g : Dev Cert.FeatIdeal.nD → PrngReg)
    (m' : (ℓ : Loc Cert.RefFeatIdeal.nD Cert.RefFeatIdeal.τ Cert.RefFeatIdeal.sig) → Buf (Elt Ideal) ℓ) (g' : Dev Cert.RefFeatIdeal.nD → PrngReg), Pre_FeatIdeal_finite_keys m →
    (∀ c : Dev Cert.FeatIdeal.nD,
      m' ((c.tc : Thread Cert.RefFeatIdeal.nD Cert.RefFeatIdeal.τ).loc Cert.RefFeatIdeal.main_arg0) = m ((c.tc : Thread Cert.FeatIdeal.nD Cert.FeatIdeal.τ).loc Cert.FeatIdeal.main_arg0)
      ∧ m' ((c.tc : Thread Cert.RefFeatIdeal.nD Cert.RefFeatIdeal.τ).loc Cert.RefFeatIdeal.main_arg1) = m ((c.tc : Thread Cert.FeatIdeal.nD Cert.FeatIdeal.τ).loc Cert.FeatIdeal.main_arg1)
      ∧ m' ((c.tc : Thread Cert.RefFeatIdeal.nD Cert.RefFeatIdeal.τ).loc Cert.RefFeatIdeal.main_arg2) = m ((c.tc : Thread Cert.FeatIdeal.nD Cert.FeatIdeal.τ).loc Cert.FeatIdeal.main_arg2)
      ∧ m' ((c.tc : Thread Cert.RefFeatIdeal.nD Cert.RefFeatIdeal.τ).loc Cert.RefFeatIdeal.main_arg3) = m ((c.tc : Thread Cert.FeatIdeal.nD Cert.FeatIdeal.τ).loc Cert.FeatIdeal.main_arg3)
      ∧ m' ((c.tc : Thread Cert.RefFeatIdeal.nD Cert.RefFeatIdeal.τ).loc Cert.RefFeatIdeal.main_arg4) = m ((c.tc : Thread Cert.FeatIdeal.nD Cert.FeatIdeal.τ).loc Cert.FeatIdeal.main_arg4)
      ∧ m' ((c.tc : Thread Cert.RefFeatIdeal.nD Cert.RefFeatIdeal.τ).loc Cert.RefFeatIdeal.main_arg5) = m ((c.tc : Thread Cert.FeatIdeal.nD Cert.FeatIdeal.τ).loc Cert.FeatIdeal.main_arg5)
      ∧ m' ((c.tc : Thread Cert.RefFeatIdeal.nD Cert.RefFeatIdeal.τ).loc Cert.RefFeatIdeal.main_arg6) = m ((c.tc : Thread Cert.FeatIdeal.nD Cert.FeatIdeal.τ).loc Cert.FeatIdeal.main_arg6)
      ∧ m' ((c.tc : Thread Cert.RefFeatIdeal.nD Cert.RefFeatIdeal.τ).loc Cert.RefFeatIdeal.main_arg7) = m ((c.tc : Thread Cert.FeatIdeal.nD Cert.FeatIdeal.τ).loc Cert.FeatIdeal.main_arg7)
      ∧ m' ((c.tc : Thread Cert.RefFeatIdeal.nD Cert.RefFeatIdeal.τ).loc Cert.RefFeatIdeal.main_arg8) = m ((c.tc : Thread Cert.FeatIdeal.nD Cert.FeatIdeal.τ).loc Cert.FeatIdeal.main_arg8)
      ∧ m' ((c.tc : Thread Cert.RefFeatIdeal.nD Cert.RefFeatIdeal.τ).loc Cert.RefFeatIdeal.main_arg9) = m ((c.tc : Thread Cert.FeatIdeal.nD Cert.FeatIdeal.τ).loc Cert.FeatIdeal.main_arg9)) →
    ∃ (v0 : (c : Dev Cert.FeatIdeal.nD) → Buf (Elt Ideal) ((c.tc : Thread Cert.FeatIdeal.nD Cert.FeatIdeal.τ).loc Cert.FeatIdeal.main_v43_0)) (v1 : (c : Dev Cert.FeatIdeal.nD) → Buf (Elt Ideal) ((c.tc : Thread Cert.FeatIdeal.nD Cert.FeatIdeal.τ).loc Cert.FeatIdeal.main_v43_1)),
      θ_run (Cert.FeatIdeal.defs (F := Ideal)) (onTc (τ := Cert.FeatIdeal.τ) (Cert.FeatIdeal.main (F := Ideal))) ⟨m, fun _ => 0, g⟩ (fun r => ∀ c : Dev Cert.FeatIdeal.nD,
          r.2.mem ((c.tc : Thread Cert.FeatIdeal.nD Cert.FeatIdeal.τ).loc Cert.FeatIdeal.main_v43_0) = v0 c
          ∧ r.2.mem ((c.tc : Thread Cert.FeatIdeal.nD Cert.FeatIdeal.τ).loc Cert.FeatIdeal.main_v43_1) = v1 c
          ∧ r.2.mem ((c.tc : Thread Cert.FeatIdeal.nD Cert.FeatIdeal.τ).loc Cert.FeatIdeal.main_arg0) = m ((c.tc : Thread Cert.FeatIdeal.nD Cert.FeatIdeal.τ).loc Cert.FeatIdeal.main_arg0)
          ∧ r.2.mem ((c.tc : Thread Cert.FeatIdeal.nD Cert.FeatIdeal.τ).loc Cert.FeatIdeal.main_arg1) = m ((c.tc : Thread Cert.FeatIdeal.nD Cert.FeatIdeal.τ).loc Cert.FeatIdeal.main_arg1)
          ∧ r.2.mem ((c.tc : Thread Cert.FeatIdeal.nD Cert.FeatIdeal.τ).loc Cert.FeatIdeal.main_arg2) = m ((c.tc : Thread Cert.FeatIdeal.nD Cert.FeatIdeal.τ).loc Cert.FeatIdeal.main_arg2)
          ∧ r.2.mem ((c.tc : Thread Cert.FeatIdeal.nD Cert.FeatIdeal.τ).loc Cert.FeatIdeal.main_arg3) = m ((c.tc : Thread Cert.FeatIdeal.nD Cert.FeatIdeal.τ).loc Cert.FeatIdeal.main_arg3)
          ∧ r.2.mem ((c.tc : Thread Cert.FeatIdeal.nD Cert.FeatIdeal.τ).loc Cert.FeatIdeal.main_arg4) = m ((c.tc : Thread Cert.FeatIdeal.nD Cert.FeatIdeal.τ).loc Cert.FeatIdeal.main_arg4)
          ∧ r.2.mem ((c.tc : Thread Cert.FeatIdeal.nD Cert.FeatIdeal.τ).loc Cert.FeatIdeal.main_arg5) = m ((c.tc : Thread Cert.FeatIdeal.nD Cert.FeatIdeal.τ).loc Cert.FeatIdeal.main_arg5)
          ∧ r.2.mem ((c.tc : Thread Cert.FeatIdeal.nD Cert.FeatIdeal.τ).loc Cert.FeatIdeal.main_arg6) = m ((c.tc : Thread Cert.FeatIdeal.nD Cert.FeatIdeal.τ).loc Cert.FeatIdeal.main_arg6)
          ∧ r.2.mem ((c.tc : Thread Cert.FeatIdeal.nD Cert.FeatIdeal.τ).loc Cert.FeatIdeal.main_arg7) = m ((c.tc : Thread Cert.FeatIdeal.nD Cert.FeatIdeal.τ).loc Cert.FeatIdeal.main_arg7)
          ∧ r.2.mem ((c.tc : Thread Cert.FeatIdeal.nD Cert.FeatIdeal.τ).loc Cert.FeatIdeal.main_arg8) = m ((c.tc : Thread Cert.FeatIdeal.nD Cert.FeatIdeal.τ).loc Cert.FeatIdeal.main_arg8)
          ∧ r.2.mem ((c.tc : Thread Cert.FeatIdeal.nD Cert.FeatIdeal.τ).loc Cert.FeatIdeal.main_arg9) = m ((c.tc : Thread Cert.FeatIdeal.nD Cert.FeatIdeal.τ).loc Cert.FeatIdeal.main_arg9))
      ∧ θ_run (Cert.RefFeatIdeal.defs (F := Ideal)) (onTc (τ := Cert.RefFeatIdeal.τ) (Cert.RefFeatIdeal.main (F := Ideal))) ⟨m', fun _ => 0, g'⟩ (fun r => ∀ c : Dev Cert.RefFeatIdeal.nD,
          r.2.mem ((c.tc : Thread Cert.RefFeatIdeal.nD Cert.RefFeatIdeal.τ).loc Cert.RefFeatIdeal.main_v36) = v0 c
          ∧ r.2.mem ((c.tc : Thread Cert.RefFeatIdeal.nD Cert.RefFeatIdeal.τ).loc Cert.RefFeatIdeal.main_v34) = v1 c
          ∧ r.2.mem ((c.tc : Thread Cert.RefFeatIdeal.nD Cert.RefFeatIdeal.τ).loc Cert.RefFeatIdeal.main_arg0) = m' ((c.tc : Thread Cert.RefFeatIdeal.nD Cert.RefFeatIdeal.τ).loc Cert.RefFeatIdeal.main_arg0)
          ∧ r.2.mem ((c.tc : Thread Cert.RefFeatIdeal.nD Cert.RefFeatIdeal.τ).loc Cert.RefFeatIdeal.main_arg1) = m' ((c.tc : Thread Cert.RefFeatIdeal.nD Cert.RefFeatIdeal.τ).loc Cert.RefFeatIdeal.main_arg1)
          ∧ r.2.mem ((c.tc : Thread Cert.RefFeatIdeal.nD Cert.RefFeatIdeal.τ).loc Cert.RefFeatIdeal.main_arg2) = m' ((c.tc : Thread Cert.RefFeatIdeal.nD Cert.RefFeatIdeal.τ).loc Cert.RefFeatIdeal.main_arg2)
          ∧ r.2.mem ((c.tc : Thread Cert.RefFeatIdeal.nD Cert.RefFeatIdeal.τ).loc Cert.RefFeatIdeal.main_arg3) = m' ((c.tc : Thread Cert.RefFeatIdeal.nD Cert.RefFeatIdeal.τ).loc Cert.RefFeatIdeal.main_arg3)
          ∧ r.2.mem ((c.tc : Thread Cert.RefFeatIdeal.nD Cert.RefFeatIdeal.τ).loc Cert.RefFeatIdeal.main_arg4) = m' ((c.tc : Thread Cert.RefFeatIdeal.nD Cert.RefFeatIdeal.τ).loc Cert.RefFeatIdeal.main_arg4)
          ∧ r.2.mem ((c.tc : Thread Cert.RefFeatIdeal.nD Cert.RefFeatIdeal.τ).loc Cert.RefFeatIdeal.main_arg5) = m' ((c.tc : Thread Cert.RefFeatIdeal.nD Cert.RefFeatIdeal.τ).loc Cert.RefFeatIdeal.main_arg5)
          ∧ r.2.mem ((c.tc : Thread Cert.RefFeatIdeal.nD Cert.RefFeatIdeal.τ).loc Cert.RefFeatIdeal.main_arg6) = m' ((c.tc : Thread Cert.RefFeatIdeal.nD Cert.RefFeatIdeal.τ).loc Cert.RefFeatIdeal.main_arg6)
          ∧ r.2.mem ((c.tc : Thread Cert.RefFeatIdeal.nD Cert.RefFeatIdeal.τ).loc Cert.RefFeatIdeal.main_arg7) = m' ((c.tc : Thread Cert.RefFeatIdeal.nD Cert.RefFeatIdeal.τ).loc Cert.RefFeatIdeal.main_arg7)
          ∧ r.2.mem ((c.tc : Thread Cert.RefFeatIdeal.nD Cert.RefFeatIdeal.τ).loc Cert.RefFeatIdeal.main_arg8) = m' ((c.tc : Thread Cert.RefFeatIdeal.nD Cert.RefFeatIdeal.τ).loc Cert.RefFeatIdeal.main_arg8)
          ∧ r.2.mem ((c.tc : Thread Cert.RefFeatIdeal.nD Cert.RefFeatIdeal.τ).loc Cert.RefFeatIdeal.main_arg9) = m' ((c.tc : Thread Cert.RefFeatIdeal.nD Cert.RefFeatIdeal.τ).loc Cert.RefFeatIdeal.main_arg9))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hRefMlpIdeal : Cert.RefMlpIdeal.Facts) (hOut : Cert.Out.Facts) (hOutIdeal : Cert.OutIdeal.Facts) (hRefOutIdeal : Cert.RefOutIdeal.Facts) (hIn : Cert.In.Facts) (hInIdeal : Cert.InIdeal.Facts) (hRefInIdeal : Cert.RefInIdeal.Facts) (hOdd : Cert.Odd.Facts) (hOddIdeal : Cert.OddIdeal.Facts) (hRefOddIdeal : Cert.RefOddIdeal.Facts) (hJoin : Cert.Join.Facts) (hJoinIdeal : Cert.JoinIdeal.Facts) (hRefJoinIdeal : Cert.RefJoinIdeal.Facts) (hMod : Cert.Mod.Facts) (hModIdeal : Cert.ModIdeal.Facts) (hRefModIdeal : Cert.RefModIdeal.Facts) (hOutCtx : Cert.OutCtx.Facts) (hOutCtxIdeal : Cert.OutCtxIdeal.Facts) (hRefOutCtxIdeal : Cert.RefOutCtxIdeal.Facts) (hInCtx : Cert.InCtx.Facts) (hInCtxIdeal : Cert.InCtxIdeal.Facts) (hRefInCtxIdeal : Cert.RefInCtxIdeal.Facts) (hOddCtx : Cert.OddCtx.Facts) (hOddCtxIdeal : Cert.OddCtxIdeal.Facts) (hRefOddCtxIdeal : Cert.RefOddCtxIdeal.Facts) (hFeat : Cert.Feat.Facts) (hFeatIdeal : Cert.FeatIdeal.Facts) (hRefFeatIdeal : Cert.RefFeatIdeal.Facts) (hPre_finite : Cert.Pre_finite.Facts) (hPre_finite_rows : Cert.Pre_finite_rows.Facts) (hPre_finite_keys : Cert.Pre_finite_keys.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_RefMlpIdeal (hRefMlpIdeal := hRefMlpIdeal)
    ∧ quiescent_Out (hOut := hOut)
    ∧ quiescent_OutIdeal (hOutIdeal := hOutIdeal)
    ∧ quiescent_RefOutIdeal (hRefOutIdeal := hRefOutIdeal)
    ∧ quiescent_In (hIn := hIn)
    ∧ quiescent_InIdeal (hInIdeal := hInIdeal)
    ∧ quiescent_RefInIdeal (hRefInIdeal := hRefInIdeal)
    ∧ quiescent_Odd (hOdd := hOdd)
    ∧ quiescent_OddIdeal (hOddIdeal := hOddIdeal)
    ∧ quiescent_RefOddIdeal (hRefOddIdeal := hRefOddIdeal)
    ∧ quiescent_Join (hJoin := hJoin)
    ∧ quiescent_JoinIdeal (hJoinIdeal := hJoinIdeal)
    ∧ quiescent_JoinIdeal_pre_finite_rows (hJoinIdeal := hJoinIdeal) (hPre_finite_rows := hPre_finite_rows)
    ∧ quiescent_RefJoinIdeal (hRefJoinIdeal := hRefJoinIdeal)
    ∧ quiescent_RefJoinIdeal_pre_finite_rows (hRefJoinIdeal := hRefJoinIdeal) (hPre_finite_rows := hPre_finite_rows)
    ∧ quiescent_Mod (hMod := hMod)
    ∧ quiescent_ModIdeal (hModIdeal := hModIdeal)
    ∧ quiescent_RefModIdeal (hRefModIdeal := hRefModIdeal)
    ∧ quiescent_OutCtx (hOutCtx := hOutCtx)
    ∧ quiescent_OutCtxIdeal (hOutCtxIdeal := hOutCtxIdeal)
    ∧ quiescent_RefOutCtxIdeal (hRefOutCtxIdeal := hRefOutCtxIdeal)
    ∧ quiescent_InCtx (hInCtx := hInCtx)
    ∧ quiescent_InCtxIdeal (hInCtxIdeal := hInCtxIdeal)
    ∧ quiescent_RefInCtxIdeal (hRefInCtxIdeal := hRefInCtxIdeal)
    ∧ quiescent_OddCtx (hOddCtx := hOddCtx)
    ∧ quiescent_OddCtxIdeal (hOddCtxIdeal := hOddCtxIdeal)
    ∧ quiescent_RefOddCtxIdeal (hRefOddCtxIdeal := hRefOddCtxIdeal)
    ∧ quiescent_Feat (hFeat := hFeat)
    ∧ quiescent_FeatIdeal (hFeatIdeal := hFeatIdeal)
    ∧ quiescent_FeatIdeal_pre_finite_keys (hFeatIdeal := hFeatIdeal) (hPre_finite_keys := hPre_finite_keys)
    ∧ quiescent_RefFeatIdeal (hRefFeatIdeal := hRefFeatIdeal)
    ∧ quiescent_RefFeatIdeal_pre_finite_keys (hRefFeatIdeal := hRefFeatIdeal) (hPre_finite_keys := hPre_finite_keys)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_RefMlpIdeal (hMlpIdeal := hMlpIdeal) (hRefMlpIdeal := hRefMlpIdeal)
    ∧ preserves_Out_OutIdeal
    ∧ algebraic_OutIdeal_RefOutIdeal (hOutIdeal := hOutIdeal) (hRefOutIdeal := hRefOutIdeal)
    ∧ preserves_In_InIdeal
    ∧ algebraic_InIdeal_RefInIdeal (hInIdeal := hInIdeal) (hRefInIdeal := hRefInIdeal)
    ∧ preserves_Odd_OddIdeal
    ∧ algebraic_OddIdeal_RefOddIdeal (hOddIdeal := hOddIdeal) (hRefOddIdeal := hRefOddIdeal)
    ∧ preserves_Join_JoinIdeal
    ∧ algebraic_JoinIdeal_RefJoinIdeal_pre_finite_rows (hJoinIdeal := hJoinIdeal) (hRefJoinIdeal := hRefJoinIdeal) (hPre_finite_rows := hPre_finite_rows)
    ∧ preserves_Mod_ModIdeal
    ∧ algebraic_ModIdeal_RefModIdeal (hModIdeal := hModIdeal) (hRefModIdeal := hRefModIdeal)
    ∧ preserves_OutCtx_OutCtxIdeal
    ∧ algebraic_OutCtxIdeal_RefOutCtxIdeal (hOutCtxIdeal := hOutCtxIdeal) (hRefOutCtxIdeal := hRefOutCtxIdeal)
    ∧ preserves_InCtx_InCtxIdeal
    ∧ algebraic_InCtxIdeal_RefInCtxIdeal (hInCtxIdeal := hInCtxIdeal) (hRefInCtxIdeal := hRefInCtxIdeal)
    ∧ preserves_OddCtx_OddCtxIdeal
    ∧ algebraic_OddCtxIdeal_RefOddCtxIdeal (hOddCtxIdeal := hOddCtxIdeal) (hRefOddCtxIdeal := hRefOddCtxIdeal)
    ∧ preserves_Feat_FeatIdeal
    ∧ algebraic_FeatIdeal_RefFeatIdeal_pre_finite_keys (hFeatIdeal := hFeatIdeal) (hRefFeatIdeal := hRefFeatIdeal) (hPre_finite_keys := hPre_finite_keys)
-- ==== Pre_finite.lean ====
abbrev S32x2048x768 : Shape := ⟨3, ![32, 2048, 768]⟩
abbrev S32x256x768 : Shape := ⟨3, ![32, 256, 768]⟩
abbrev S8 : Shape := ⟨1, ![8]⟩
abbrev S_ : Shape := ⟨0, ![]⟩

class Facts : Prop where
  bcast_S_S32x2048x768 : S_.BroadcastsInDim S32x2048x768 (![] : Fin 0 → Fin S32x2048x768.rank)
  reducesTo_S32x2048x768_S_d0_1_2 : S32x2048x768.ReducesTo [0, 1, 2] S_
  h_S_ : 0 < S_.numel
  bcast_S_S32x256x768 : S_.BroadcastsInDim S32x256x768 (![] : Fin 0 → Fin S32x256x768.rank)
  reducesTo_S32x256x768_S_d0_1_2 : S32x256x768.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S32x2048x768 .f32) (main_arg1 : FVec F S32x256x768 .f32) (main_arg2 : FVec F S8 .f32) : IVec S_ 1 :=
  let main_v0 : FVec F S32x2048x768 .f32 := Host.absf main_arg0
  let main_cst : FVec F S_ .f32 := constant S_ .f32 0x7F800000#32
  let main_v1 : FVec F S32x2048x768 .f32 := broadcastInDim S32x2048x768 ![] bcast_S_S32x2048x768 main_cst
  let main_v2 : IVec S32x2048x768 1 := cmpf .olt main_v0 main_v1
  let main_c : IVec S_ 1 := constantI S_ 1 1#1
  let main_v3 : IVec S_ 1 := (fun x v => Host.reduce IntOp.andi x v reducesTo_S32x2048x768_S_d0_1_2 h_S_) main_v2 main_c
  let main_v4 : FVec F S32x256x768 .f32 := Host.absf main_arg1
  let main_cst_0 : FVec F S_ .f32 := constant S_ .f32 0x7F800000#32
  let main_v5 : FVec F S32x256x768 .f32 := broadcastInDim S32x256x768 ![] bcast_S_S32x256x768 main_cst_0
  let main_v6 : IVec S32x256x768 1 := cmpf .olt main_v4 main_v5
  let main_c_1 : IVec S_ 1 := constantI S_ 1 1#1
  let main_v7 : IVec S_ 1 := (fun x v => Host.reduce IntOp.andi x v reducesTo_S32x256x768_S_d0_1_2 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_finite_keys.lean ====
abbrev S32x2048x1920 : Shape := ⟨3, ![32, 2048, 1920]⟩
abbrev S1920 : Shape := ⟨1, ![1920]⟩
abbrev S2x512 : Shape := ⟨2, ![2, 512]⟩
abbrev S2x64x512 : Shape := ⟨3, ![2, 64, 512]⟩
abbrev S128x512 : Shape := ⟨2, ![128, 512]⟩
abbrev S512 : Shape := ⟨1, ![512]⟩
abbrev S8x64 : Shape := ⟨2, ![8, 64]⟩
abbrev S_ : Shape := ⟨0, ![]⟩

class Facts : Prop where
  bcast_S_S32x2048x1920 : S_.BroadcastsInDim S32x2048x1920 (![] : Fin 0 → Fin S32x2048x1920.rank)
  reducesTo_S32x2048x1920_S_d0_1_2 : S32x2048x1920.ReducesTo [0, 1, 2] S_
  h_S_ : 0 < S_.numel
  bcast_S_S1920 : S_.BroadcastsInDim S1920 (![] : Fin 0 → Fin S1920.rank)
  reducesTo_S1920_S_d0 : S1920.ReducesTo [0] S_
  bcast_S_S512 : S_.BroadcastsInDim S512 (![] : Fin 0 → Fin S512.rank)
  reducesTo_S512_S_d0 : S512.ReducesTo [0] S_

variable [Facts]

def fn {F : FTy → Type} [FloatOps F] (main_arg0 : FVec F S32x2048x1920 .f32) (main_arg1 : FVec F S1920 .f32) (main_arg2 : FVec F S2x512 .f32) (main_arg3 : FVec F S2x64x512 .f32) (main_arg4 : FVec F S2x512 .f32) (main_arg5 : FVec F S2x64x512 .f32) (main_arg6 : FVec F S128x512 .f32) (main_arg7 : FVec F S512 .f32) (main_arg8 : FVec F S512 .f32) (main_arg9 : FVec F S8x64 .f32) : IVec S_ 1 :=
  let main_v0 : FVec F S32x2048x1920 .f32 := Host.absf main_arg0
  let main_cst : FVec F S_ .f32 := constant S_ .f32 0x7F800000#32
  let main_v1 : FVec F S32x2048x1920 .f32 := broadcastInDim S32x2048x1920 ![] bcast_S_S32x2048x1920 main_cst
  let main_v2 : IVec S32x2048x1920 1 := cmpf .olt main_v0 main_v1
  let main_c : IVec S_ 1 := constantI S_ 1 1#1
  let main_v3 : IVec S_ 1 := (fun x v => Host.reduce IntOp.andi x v reducesTo_S32x2048x1920_S_d0_1_2 h_S_) main_v2 main_c
  let main_v4 : FVec F S1920 .f32 := Host.absf main_arg1
  let main_cst_0 : FVec F S_ .f32 := constant S_ .f32 0x7F800000#32
  let main_v5 : FVec F S1920 .f32 := broadcastInDim S1920 ![] bcast_S_S1920 main_cst_0
  let main_v6 : IVec S1920 1 := cmpf .olt main_v4 main_v5
  let main_c_1 : IVec S_ 1 := constantI S_ 1 1#1
  let main_v7 : IVec S_ 1 := (fun x v => Host.reduce IntOp.andi x v reducesTo_S1920_S_d0 h_S_) main_v6 main_c_1
  let main_v8 : IVec S_ 1 := andi main_v3 main_v7
  let main_v9 : FVec F S512 .f32 := Host.absf main_arg7
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Pre_finite_rows.lean ====
abbrev S2x32x2048x512 : Shape := ⟨4, ![2, 32, 2048, 512]⟩
abbrev S32x2048x512 : Shape := ⟨3, ![32, 2048, 512]⟩
abbrev S512 : Shape := ⟨1, ![512]⟩
abbrev S32x2048x2304 : Shape := ⟨3, ![32, 2048, 2304]⟩
abbrev S128 : Shape := ⟨1, ![128]⟩
abbrev S1024x1024 : Shape := ⟨2, ![1024, 1024]⟩
abbrev S32x2048x1024 : Shape := ⟨3, ![32, 2048, 1024]⟩
abbrev S32x1x1024 : Shape := ⟨3, ![32, 1, 1024]⟩
abbrev S1024 : Shape := ⟨1, ![1024]⟩
abbrev S_ : Shape := ⟨0, ![]⟩

class Facts : Prop where
  bcast_S_S2x32x2048x512 : S_.BroadcastsInDim S2x32x2048x512 (![] : Fin 0 → Fin S2x32x2048x512.rank)
  reducesTo_S2x32x2048x512_S_d0_1_2_3 : S2x32x2048x512.ReducesTo [0, 1, 2, 3] S_
  h_S_ : 0 < S_.numel

variable [Facts]

def fn {F : FTy → Type} [FloatOps F] (main_arg0 : FVec F S2x32x2048x512 .bf16) (main_arg1 : FVec F S32x2048x512 .f32) (main_arg2 : FVec F S32x2048x512 .f32) (main_arg3 : FVec F S512 .f32) (main_arg4 : FVec F S512 .f32) (main_arg5 : FVec F S2x32x2048x512 .bf16) (main_arg6 : FVec F S32x2048x2304 .f32) (main_arg7 : FVec F S128 .f32) (main_arg8 : FVec F S1024x1024 .f32) (main_arg9 : FVec F S32x2048x1024 .f32) (main_arg10 : FVec F S32x1x1024 .f32) (main_arg11 : FVec F S1024 .f32) (main_arg12 : FVec F S1024 .f32) : IVec S_ 1 :=
  let main_v0 : FVec F S2x32x2048x512 .bf16 := Host.absf main_arg0
  let main_cst : FVec F S_ .bf16 := constant S_ .bf16 0x7F80#16
  let main_v1 : FVec F S2x32x2048x512 .bf16 := broadcastInDim S2x32x2048x512 ![] bcast_S_S2x32x2048x512 main_cst
  let main_v2 : IVec S2x32x2048x512 1 := cmpf .olt main_v0 main_v1
  let main_c : IVec S_ 1 := constantI S_ 1 1#1
  let main_v3 : IVec S_ 1 := (fun x v => Host.reduce IntOp.andi x v reducesTo_S2x32x2048x512_S_d0_1_2_3 h_S_) main_v2 main_c
  main_v3
-- ==== Kernel.lean ====
abbrev S32x2048x768 : Shape := ⟨3, ![32, 2048, 768]⟩
abbrev S32x256x768 : Shape := ⟨3, ![32, 256, 768]⟩
abbrev S8 : Shape := ⟨1, ![8]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S32 : Shape := ⟨1, ![32]⟩
abbrev S1x32 : Shape := ⟨2, ![1, 32]⟩
abbrev S2x32 : Shape := ⟨2, ![2, 32]⟩
abbrev S64 : Shape := ⟨1, ![64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x64 : Shape := ⟨2, ![1, 64]⟩
abbrev S8x1 : Shape := ⟨2, ![8, 1]⟩
abbrev S8x128 : Shape := ⟨2, ![8, 128]⟩
abbrev S32x2048x512 : Shape := ⟨3, ![32, 2048, 512]⟩
abbrev S1x128x512 : Shape := ⟨3, ![1, 128, 512]⟩
abbrev S1x2048x256 : Shape := ⟨3, ![1, 2048, 256]⟩
abbrev S1x256x256 : Shape := ⟨3, ![1, 256, 256]⟩
abbrev S1x128 : Shape := ⟨2, ![1, 128]⟩
abbrev S128x512 : Shape := ⟨2, ![128, 512]⟩
abbrev S256x256 : Shape := ⟨2, ![256, 256]⟩
abbrev S256x128 : Shape := ⟨2, ![256, 128]⟩
abbrev S128x128 : Shape := ⟨2, ![128, 128]⟩
abbrev S1x384x256 : Shape := ⟨3, ![1, 384, 256]⟩
abbrev S384x256 : Shape := ⟨2, ![384, 256]⟩
abbrev S384x128 : Shape := ⟨2, ![384, 128]⟩
abbrev S128x384 : Shape := ⟨2, ![128, 384]⟩
abbrev S256x384 : Shape := ⟨2, ![256, 384]⟩
abbrev S1x1 : Shape := ⟨2, ![1, 1]⟩
abbrev S128x1 : Shape := ⟨2, ![128, 1]⟩
abbrev S256x1 : Shape := ⟨2, ![256, 1]⟩
abbrev S256 : Shape := ⟨1, ![256]⟩
abbrev S1x128x128 : Shape := ⟨3, ![1, 128, 128]⟩

abbrev nBuf : Space → Nat
  | .hbm => 88
  | .vmem => 11
  | .smem => 0
  | _ => 0

abbrev bufTy : (tb : Table) → Fin (tcTables nBuf tb) → BufTy
  | .hbm, ⟨0, _⟩ => ⟨S32x2048x768, .f32⟩
  | .hbm, ⟨1, _⟩ => ⟨S32x256x768, .f32⟩
  | .hbm, ⟨2, _⟩ => ⟨S8, .f32⟩
  | .hbm, ⟨3, _⟩ => ⟨S2048, .i32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S2048, .f32⟩
  | .hbm, ⟨31, _⟩ => ⟨S2048x1, .f32⟩
  | .hbm, ⟨32, _⟩ => ⟨S1x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S_, .i32⟩
  | .hbm, ⟨51, _⟩ => ⟨S_, .i1⟩
  | .hbm, ⟨52, _⟩ => ⟨S2048, .i1⟩
  | .hbm, ⟨53, _⟩ => ⟨S2048, .i1⟩
  | .hbm, ⟨54, _⟩ => ⟨S2048, .i1⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S2048, .f32⟩
  | .hbm, ⟨59, _⟩ => ⟨S2048x1, .f32⟩
  | .hbm, ⟨60, _⟩ => ⟨S1x16, .f32⟩
  | .hbm, ⟨61, _⟩ => ⟨S2048x16, .f32⟩
  | .hbm, ⟨62, _⟩ => ⟨S2048x16, .f32⟩
  | .hbm, ⟨63, _⟩ => ⟨S2048x16, .f32⟩
  | .hbm, ⟨64, _⟩ => ⟨S2048x64, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S32, .f32⟩
  | .hbm, ⟨71, _⟩ => ⟨S1x32, .f32⟩
  | .hbm, ⟨72, _⟩ => ⟨S2x32, .f32⟩
  | .hbm, ⟨73, _⟩ => ⟨S64, .f32⟩
  | .hbm, ⟨74, _⟩ => ⟨S2048x64, .f32⟩
  | .hbm, ⟨75, _⟩ => ⟨S1x2048x1x64, .f32⟩
  | .hbm, ⟨76, _⟩ => ⟨S1x2048x2x64, .f32⟩
  | .hbm, ⟨77, _⟩ => ⟨S2048x128, .f32⟩
  | .hbm, ⟨78, _⟩ => ⟨S2048x64, .f32⟩
  | .hbm, ⟨79, _⟩ => ⟨S1x64, .f32⟩
  | .hbm, ⟨80, _⟩ => ⟨S2048x64, .f32⟩
  | .hbm, ⟨81, _⟩ => ⟨S2048x64, .f32⟩
  | .hbm, ⟨82, _⟩ => ⟨S1x2048x1x64, .f32⟩
  | .hbm, ⟨83, _⟩ => ⟨S1x2048x2x64, .f32⟩
  | .hbm, ⟨84, _⟩ => ⟨S2048x128, .f32⟩
  | .hbm, ⟨85, _⟩ => ⟨S8x1, .f32⟩
  | .hbm, ⟨86, _⟩ => ⟨S8x128, .f32⟩
  | .hbm, ⟨87, _⟩ => ⟨S32x2048x512, .f32⟩
  | .local _ .vmem, ⟨0, _⟩ => ⟨S1x128x512, .f32⟩
  | .local _ .vmem, ⟨1, _⟩ => ⟨S1x128x512, .f32⟩
  | .local _ .vmem, ⟨2, _⟩ => ⟨S1x2048x256, .f32⟩
  | .local _ .vmem, ⟨3, _⟩ => ⟨S1x2048x256, .f32⟩
  | .local _ .vmem, ⟨4, _⟩ => ⟨S1x256x256, .f32⟩
  | .local _ .vmem, ⟨5, _⟩ => ⟨S1x256x256, .f32⟩
  | .local _ .vmem, ⟨6, _⟩ => ⟨S2048x128, .f32⟩
  | .local _ .vmem, ⟨7, _⟩ => ⟨S2048x128, .f32⟩
  | .local _ .vmem, ⟨8, _⟩ => ⟨S8x128, .f32⟩
  | .local _ .vmem, ⟨9, _⟩ => ⟨S1x128x512, .f32⟩
  | .local _ .vmem, ⟨10, _⟩ => ⟨S1x128x512, .f32⟩
  | _, _ => ⟨S32x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_2 : Ref sig .tc := ⟨.hbm, 65, rfl⟩
abbrev main_v22 : Ref sig .tc := ⟨.hbm, 66, rfl⟩
abbrev main_v23 : Ref sig .tc := ⟨.hbm, 67, rfl⟩
abbrev main_cst_3 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 16], ![false, false]⟩

def k0_mult1 (i : grid0.Coords) : BitVec 32 :=
  let arg1 : BitVec 32 := BitVec.ofNat 32 (i 1).val
  let c128_i32 : BitVec 32 := 128#32
  let v13 : BitVec 32 := Scalar.muli arg1 c128_i32
  v13
def k0_off1 (i : grid0.Coords) : Fin 2 → Nat :=
  let arg1 : BitVec 32 := BitVec.ofNat 32 (i 1).val
  let c128_i32 : BitVec 32 := 128#32
  let v13 : BitVec 32 := Scalar.muli arg1 c128_i32
  let v14 : BitVec 32 := v13
  let v15 : Index := Scalar.indexCast v14
  let c0_5 : Index := 0#32
  ![v15.toNat, 0]
def k0_mult2 (i : grid0.Coords) : BitVec 32 :=
  let c1664_i32 : BitVec 32 := 1664#32
  let c0_i32 : BitVec 32 := 0#32
  let arg1 : BitVec 32 := BitVec.ofNat 32 (i 1).val
  let c128_i32_7 : BitVec 32 := 128#32
  let v21 : BitVec 32 := Scalar.muli arg1 c128_i32_7
  let c128_i32_8 : BitVec 32 := 128#32
  let v22 : BitVec 32 := Scalar.subi v21 c128_i32_8
  let v23 : BitVec 32 := Scalar.maxsi c0_i32 v22
  let v24 : BitVec 32 := Scalar.minsi c1664_i32 v23
  v24
def k0_off2 (i : grid0.Coords) : Fin 3 → Nat :=
  let c0_9 : Index := 0#32
  let c1664_i32 : BitVec 32 := 1664#32
  let c0_i32 : BitVec 32 := 0#32
  let arg1 : BitVec 32 := BitVec.ofNat 32 (i 1).val
  let c128_i32_7 : BitVec 32 := 128#32
  let v21 : BitVec 32 := Scalar.muli arg1 c128_i32_7
  let c128_i32_8 : BitVec 32 := 128#32
  let v22 : BitVec 32 := Scalar.subi v21 c128_i32_8
  let v23 : BitVec 32 := Scalar.maxsi c0_i32 v22
  let v24 : BitVec 32 := Scalar.minsi c1664_i32 v23
  let v25 : BitVec 32 := v24
  let v26 : Index := Scalar.indexCast v25
  let c0_10 : Index := 0#32
  ![0, v26.toNat, 0]
def k0_off3 (i : grid0.Coords) : Fin 2 → Nat :=
  let c1664_i32 : BitVec 32 := 1664#32
  let c0_i32 : BitVec 32 := 0#32
  let arg1 : BitVec 32 := BitVec.ofNat 32 (i 1).val
  let c128_i32_7 : BitVec 32 := 128#32
  let v21 : BitVec 32 := Scalar.muli arg1 c128_i32_7
  let c128_i32_8 : BitVec 32 := 128#32
  let v22 : BitVec 32 := Scalar.subi v21 c128_i32_8
  let v23 : BitVec 32 := Scalar.maxsi c0_i32 v22
  let v24 : BitVec 32 := Scalar.minsi c1664_i32 v23
  let v25 : BitVec 32 := v24
  let v30 : Index := Scalar.indexCast v25
  let c0_11 : Index := 0#32
  ![v30.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32x2048x768 : Shape := ⟨3, ![32, 2048, 768]⟩
abbrev S32x256x768 : Shape := ⟨3, ![32, 256, 768]⟩
abbrev S8 : Shape := ⟨1, ![8]⟩
abbrev S32x2048x512 : Shape := ⟨3, ![32, 2048, 512]⟩
abbrev S32x2048x8x64 : Shape := ⟨4, ![32, 2048, 8, 64]⟩
abbrev S32x2048x128 : Shape := ⟨3, ![32, 2048, 128]⟩
abbrev S32x2048x2x64 : Shape := ⟨4, ![32, 2048, 2, 64]⟩
abbrev S32x256x512 : Shape := ⟨3, ![32, 256, 512]⟩
abbrev S32x256x8x64 : Shape := ⟨4, ![32, 256, 8, 64]⟩
abbrev S32x256x128 : Shape := ⟨3, ![32, 256, 128]⟩
abbrev S32x256x2x64 : Shape := ⟨4, ![32, 256, 2, 64]⟩
abbrev S2048 : Shape := ⟨1, ![2048]⟩
abbrev S16 : Shape := ⟨1, ![16]⟩
abbrev S_ : Shape := ⟨0, ![]⟩
abbrev S32x2048x8x32 : Shape := ⟨4, ![32, 2048, 8, 32]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S32x2048x8x16 : Shape := ⟨4, ![32, 2048, 8, 16]⟩
abbrev S32x2048x2x4x64 : Shape := ⟨5, ![32, 2048, 2, 4, 64]⟩
abbrev S32x2048x2x32 : Shape := ⟨4, ![32, 2048, 2, 32]⟩
abbrev S32x2048x2x16 : Shape := ⟨4, ![32, 2048, 2, 16]⟩
abbrev S1x2048 : Shape := ⟨2, ![1, 2048]⟩
abbrev S2048x2048 : Shape := ⟨2, ![2048, 2048]⟩
abbrev S32x2x2048x2048x4 : Shape := ⟨5, ![32, 2, 2048, 2048, 4]⟩
abbrev S32x2x4x2048x2048 : Shape := ⟨5, ![32, 2, 4, 2048, 2048]⟩
abbrev S32x2x256x2048x4 : Shape := ⟨5, ![32, 2, 256, 2048, 4]⟩
abbrev S32x2x4x2048x256 : Shape := ⟨5, ![32, 2, 4, 2048, 256]⟩
abbrev S32x2x4x2048x2304 : Shape := ⟨5, ![32, 2, 4, 2048, 2304]⟩
abbrev S2x4 : Shape := ⟨2, ![2, 4]⟩
abbrev S1x2x4x1x1 : Shape := ⟨5, ![1, 2, 4, 1, 1]⟩
abbrev S32x2x4x2048 : Shape := ⟨4, ![32, 2, 4, 2048]⟩
abbrev S32x2x4x2048x1 : Shape := ⟨5, ![32, 2, 4, 2048, 1]⟩
abbrev S32x2x64x4x2048 : Shape := ⟨5, ![32, 2, 64, 4, 2048]⟩

abbrev nBuf : Space → Nat
  | .hbm => 265
  | .vmem => 0
  | .smem => 0
  | _ => 0

abbrev hbmTy0_0 (i : Nat) : BufTy := match i % 128 with
  | 0 => ⟨S32x2048x768, .f32⟩
  | 1 => ⟨S32x256x768, .f32⟩
  | 2 => ⟨S8, .f32⟩
  | 3 => ⟨S32x2048x512, .f32⟩
  | 4 => ⟨S32x2048x8x64, .f32⟩
  | 5 => ⟨S32x2048x128, .f32⟩
  | 6 => ⟨S32x2048x2x64, .f32⟩
  | 7 => ⟨S32x2048x128, .f32⟩
  | 8 => ⟨S32x2048x2x64, .f32⟩
  | 9 => ⟨S32x256x512, .f32⟩
  | 10 => ⟨S32x256x8x64, .f32⟩
  | 11 => ⟨S32x256x128, .f32⟩
  | 12 => ⟨S32x256x2x64, .f32⟩
  | 13 => ⟨S32x256x128, .f32⟩
  | 14 => ⟨S32x256x2x64, .f32⟩
  | 15 => ⟨S2048, .i32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S32x2048x8x32, .f32⟩
  | 25 => ⟨S_, .i32⟩
  | 26 => ⟨S_, .i32⟩
  | 27 => ⟨S2048, .i32⟩
  | 28 => ⟨S2048, .i32⟩
  | 29 => ⟨S2048, .i32⟩
  | 30 => ⟨S_, .i32⟩
  | 31 => ⟨S2048, .i32⟩
  | 32 => ⟨S2048, .i1⟩
  | 33 => ⟨S2048, .i32⟩
  | 34 => ⟨S2048, .i32⟩
  | 35 => ⟨S_, .i32⟩
  | 36 => ⟨S2048, .i32⟩
  | 37 => ⟨S2048, .i1⟩
  | 38 => ⟨S2048, .i1⟩
  | 39 => ⟨S_, .i32⟩
  | 40 => ⟨S2048, .i32⟩
  | 41 => ⟨S2048, .i32⟩
  | 42 => ⟨S2048, .i32⟩
  | 43 => ⟨S2048, .f32⟩
  | 44 => ⟨S2048x1, .f32⟩
  | 45 => ⟨S1x16, .f32⟩
  | 46 => ⟨S2048x16, .f32⟩
  | 47 => ⟨S2048x16, .f32⟩
  | 48 => ⟨S2048x16, .f32⟩
  | 49 => ⟨S2048x16, .f32⟩
  | 50 => ⟨S1x2048x1x16, .f32⟩
  | 51 => ⟨S2048x16, .f32⟩
  | 52 => ⟨S1x2048x1x16, .f32⟩
  | 53 => ⟨S32x2048x8x16, .f32⟩
  | 54 => ⟨S32x2048x8x16, .f32⟩
  | 55 => ⟨S32x2048x8x16, .f32⟩
  | 56 => ⟨S32x2048x8x16, .f32⟩
  | 57 => ⟨S32x2048x8x16, .f32⟩
  | 58 => ⟨S32x2048x8x16, .f32⟩
  | 59 => ⟨S32x2048x8x16, .f32⟩
  | 60 => ⟨S32x2048x8x16, .f32⟩
  | 61 => ⟨S32x2048x8x16, .f32⟩
  | 62 => ⟨S32x2048x8x16, .f32⟩
  | 63 => ⟨S32x2048x8x16, .f32⟩
  | 64 => ⟨S32x2048x8x16, .f32⟩
  | 65 => ⟨S32x2048x8x32, .f32⟩
  | 66 => ⟨S32x2048x8x32, .f32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S2048, .i32⟩
  | 74 => ⟨S2048, .i32⟩
  | 75 => ⟨S_, .i32⟩
  | 76 => ⟨S2048, .i32⟩
  | 77 => ⟨S2048, .i1⟩
  | 78 => ⟨S_, .i32⟩
  | 79 => ⟨S2048, .i32⟩
  | 80 => ⟨S2048, .i1⟩
  | 81 => ⟨S_, .i32⟩
  | 82 => ⟨S_, .i1⟩
  | 83 => ⟨S2048, .i1⟩
  | 84 => ⟨S2048, .i1⟩
  | 85 => ⟨S2048, .i1⟩
  | 86 => ⟨S2048, .i32⟩
  | 87 => ⟨S2048, .i32⟩
  | 88 => ⟨S2048, .i32⟩
  | 89 => ⟨S2048, .f32⟩
  | 90 => ⟨S2048x1, .f32⟩
  | 91 => ⟨S1x16, .f32⟩
  | 92 => ⟨S2048x16, .f32⟩
  | 93 => ⟨S2048x16, .f32⟩
  | 94 => ⟨S2048x16, .f32⟩
  | 95 => ⟨S2048x16, .f32⟩
  | 96 => ⟨S1x2048x1x16, .f32⟩
  | 97 => ⟨S2048x16, .f32⟩
  | 98 => ⟨S1x2048x1x16, .f32⟩
  | 99 => ⟨S32x2048x8x16, .f32⟩
  | 100 => ⟨S32x2048x8x16, .f32⟩
  | 101 => ⟨S32x2048x8x16, .f32⟩
  | 102 => ⟨S32x2048x8x16, .f32⟩
  | 103 => ⟨S32x2048x8x16, .f32⟩
  | 104 => ⟨S32x2048x8x16, .f32⟩
  | 105 => ⟨S32x2048x8x16, .f32⟩
  | 106 => ⟨S32x2048x8x16, .f32⟩
  | 107 => ⟨S32x2048x8x16, .f32⟩
  | 108 => ⟨S32x2048x8x16, .f32⟩
  | 109 => ⟨S32x2048x8x16, .f32⟩
  | 110 => ⟨S32x2048x8x16, .f32⟩
  | 111 => ⟨S32x2048x8x32, .f32⟩
  | 112 => ⟨S32x2048x8x64, .f32⟩
  | 113 => ⟨S32x2048x2x4x64, .f32⟩
  | 114 => ⟨S2048, .i32⟩
  | 115 => ⟨S16, .f32⟩
  | 116 => ⟨S16, .f32⟩
  | 117 => ⟨S_, .f32⟩
  | 118 => ⟨S16, .f32⟩
  | 119 => ⟨S16, .f32⟩
  | 120 => ⟨S_, .f32⟩
  | 121 => ⟨S16, .f32⟩
  | 122 => ⟨S16, .f32⟩
  | 123 => ⟨S32x2048x2x32, .f32⟩
  | 124 => ⟨S_, .i32⟩
  | 125 => ⟨S_, .i32⟩
  | 126 => ⟨S2048, .i32⟩
  | 127 => ⟨S2048, .i32⟩
  | _ => ⟨S32x2048x768, .f32⟩

abbrev hbmTy0_1 (i : Nat) : BufTy := match i % 128 with
  | 0 => ⟨S2048, .i32⟩
  | 1 => ⟨S_, .i32⟩
  | 2 => ⟨S2048, .i32⟩
  | 3 => ⟨S2048, .i1⟩
  | 4 => ⟨S2048, .i32⟩
  | 5 => ⟨S2048, .i32⟩
  | 6 => ⟨S_, .i32⟩
  | 7 => ⟨S2048, .i32⟩
  | 8 => ⟨S2048, .i1⟩
  | 9 => ⟨S2048, .i1⟩
  | 10 => ⟨S_, .i32⟩
  | 11 => ⟨S2048, .i32⟩
  | 12 => ⟨S2048, .i32⟩
  | 13 => ⟨S2048, .i32⟩
  | 14 => ⟨S2048, .f32⟩
  | 15 => ⟨S2048x1, .f32⟩
  | 16 => ⟨S1x16, .f32⟩
  | 17 => ⟨S2048x16, .f32⟩
  | 18 => ⟨S2048x16, .f32⟩
  | 19 => ⟨S2048x16, .f32⟩
  | 20 => ⟨S2048x16, .f32⟩
  | 21 => ⟨S1x2048x1x16, .f32⟩
  | 22 => ⟨S2048x16, .f32⟩
  | 23 => ⟨S1x2048x1x16, .f32⟩
  | 24 => ⟨S32x2048x2x16, .f32⟩
  | 25 => ⟨S32x2048x2x16, .f32⟩
  | 26 => ⟨S32x2048x2x16, .f32⟩
  | 27 => ⟨S32x2048x2x16, .f32⟩
  | 28 => ⟨S32x2048x2x16, .f32⟩
  | 29 => ⟨S32x2048x2x16, .f32⟩
  | 30 => ⟨S32x2048x2x16, .f32⟩
  | 31 => ⟨S32x2048x2x16, .f32⟩
  | 32 => ⟨S32x2048x2x16, .f32⟩
  | 33 => ⟨S32x2048x2x16, .f32⟩
  | 34 => ⟨S32x2048x2x16, .f32⟩
  | 35 => ⟨S32x2048x2x16, .f32⟩
  | 36 => ⟨S32x2048x2x32, .f32⟩
  | 37 => ⟨S32x2048x2x32, .f32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S2048, .i32⟩
  | 45 => ⟨S2048, .i32⟩
  | 46 => ⟨S_, .i32⟩
  | 47 => ⟨S2048, .i32⟩
  | 48 => ⟨S2048, .i1⟩
  | 49 => ⟨S_, .i32⟩
  | 50 => ⟨S2048, .i32⟩
  | 51 => ⟨S2048, .i1⟩
  | 52 => ⟨S_, .i32⟩
  | 53 => ⟨S_, .i1⟩
  | 54 => ⟨S2048, .i1⟩
  | 55 => ⟨S2048, .i1⟩
  | 56 => ⟨S2048, .i1⟩
  | 57 => ⟨S2048, .i32⟩
  | 58 => ⟨S2048, .i32⟩
  | 59 => ⟨S2048, .i32⟩
  | 60 => ⟨S2048, .f32⟩
  | 61 => ⟨S2048x1, .f32⟩
  | 62 => ⟨S1x16, .f32⟩
  | 63 => ⟨S2048x16, .f32⟩
  | 64 => ⟨S2048x16, .f32⟩
  | 65 => ⟨S2048x16, .f32⟩
  | 66 => ⟨S2048x16, .f32⟩
  | 67 => ⟨S1x2048x1x16, .f32⟩
  | 68 => ⟨S2048x16, .f32⟩
  | 69 => ⟨S1x2048x1x16, .f32⟩
  | 70 => ⟨S32x2048x2x16, .f32⟩
  | 71 => ⟨S32x2048x2x16, .f32⟩
  | 72 => ⟨S32x2048x2x16, .f32⟩
  | 73 => ⟨S32x2048x2x16, .f32⟩
  | 74 => ⟨S32x2048x2x16, .f32⟩
  | 75 => ⟨S32x2048x2x16, .f32⟩
  | 76 => ⟨S32x2048x2x16, .f32⟩
  | 77 => ⟨S32x2048x2x16, .f32⟩
  | 78 => ⟨S32x2048x2x16, .f32⟩
  | 79 => ⟨S32x2048x2x16, .f32⟩
  | 80 => ⟨S32x2048x2x16, .f32⟩
  | 81 => ⟨S32x2048x2x16, .f32⟩
  | 82 => ⟨S32x2048x2x32, .f32⟩
  | 83 => ⟨S32x2048x2x64, .f32⟩
  | 84 => ⟨S2048, .i32⟩
  | 85 => ⟨S2048x1, .i32⟩
  | 86 => ⟨S1x2048, .i32⟩
  | 87 => ⟨S2048x2048, .i32⟩
  | 88 => ⟨S2048x2048, .i32⟩
  | 89 => ⟨S2048x2048, .i32⟩
  | 90 => ⟨S2048x2048, .i32⟩
  | 91 => ⟨S_, .i32⟩
  | 92 => ⟨S2048x2048, .i32⟩
  | 93 => ⟨S2048x2048, .i1⟩
  | 94 => ⟨S32x2x2048x2048x4, .f32⟩
  | 95 => ⟨S32x2x4x2048x2048, .f32⟩
  | 96 => ⟨S_, .f32⟩
  | 97 => ⟨S32x2x4x2048x2048, .f32⟩
  | 98 => ⟨S32x2x4x2048x2048, .f32⟩
  | 99 => ⟨S_, .f32⟩
  | 100 => ⟨S_, .f32⟩
  | 101 => ⟨S32x2x4x2048x2048, .i1⟩
  | 102 => ⟨S32x2x4x2048x2048, .f32⟩
  | 103 => ⟨S32x2x4x2048x2048, .f32⟩
  | 104 => ⟨S32x2x256x2048x4, .f32⟩
  | 105 => ⟨S32x2x4x2048x256, .f32⟩
  | 106 => ⟨S_, .f32⟩
  | 107 => ⟨S32x2x4x2048x256, .f32⟩
  | 108 => ⟨S32x2x4x2048x256, .f32⟩
  | 109 => ⟨S32x2x4x2048x2304, .f32⟩
  | 110 => ⟨S2x4, .f32⟩
  | 111 => ⟨S1x2x4x1x1, .f32⟩
  | 112 => ⟨S_, .f32⟩
  | 113 => ⟨S32x2x4x2048, .f32⟩
  | 114 => ⟨S32x2x4x2048x1, .f32⟩
  | 115 => ⟨S32x2x4x2048x1, .f32⟩
  | 116 => ⟨S32x2x4x2048x1, .f32⟩
  | 117 => ⟨S32x2x4x2048x2304, .f32⟩
  | 118 => ⟨S32x2x4x2048x2304, .f32⟩
  | 119 => ⟨S32x2x4x2048x2304, .f32⟩
  | 120 => ⟨S_, .f32⟩
  | 121 => ⟨S32x2x4x2048, .f32⟩
  | 122 => ⟨S32x2x4x2048x1, .f32⟩
  | 123 => ⟨S32x2x4x2048x1, .f32⟩
  | 124 => ⟨S32x2x4x2048x1, .f32⟩
  | 125 => ⟨S32x2x4x2048x1, .f32⟩
  | 126 => ⟨S32x2x4x2048x1, .f32⟩
  | 127 => ⟨S32x2x4x2048x2304, .f32⟩
  | _ => ⟨S32x2048x768, .f32⟩

abbrev hbmTy0_2 (i : Nat) : BufTy := match i % 128 with
  | 0 => ⟨S32x2x4x2048x2304, .f32⟩
  | 1 => ⟨S32x2x4x2048x2048, .f32⟩
  | 2 => ⟨S32x2x64x4x2048, .f32⟩
  | 3 => ⟨S32x2048x2x4x64, .f32⟩
  | 4 => ⟨S32x2x4x2048x256, .f32⟩
  | 5 => ⟨S32x2x64x4x2048, .f32⟩
  | 6 => ⟨S32x2048x2x4x64, .f32⟩
  | 7 => ⟨S32x2048x2x4x64, .f32⟩
  | 8 => ⟨S32x2048x512, .f32⟩
  | _ => ⟨S32x2048x768, .f32⟩

abbrev hbmTy (i : Nat) : BufTy := match i / 128 with
  | 0 => hbmTy0_0 i
  | 1 => hbmTy0_1 i
  | 2 => hbmTy0_2 i
  | _ => ⟨S32x2048x768, .f32⟩

abbrev bufTy : (tb : Table) → Fin (tcTables nBuf tb) → BufTy
  | .hbm, ⟨i, _⟩ => hbmTy i
  | _, _ => ⟨S32x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_1 : Ref sig .tc := ⟨.hbm, 67, rfl⟩
abbrev main_call1_v0 : Ref sig .tc := ⟨.hbm, 68, rfl⟩
abbrev main_call1_c : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_c_1 : Ref sig .tc := ⟨.hbm, 75, rfl⟩
abbrev main_call1_v5 : Ref sig .tc := ⟨.hbm, 76, rfl⟩
abbrev main_call1_v6 : Ref sig .tc := ⟨.hbm, 77, rfl⟩
abbrev main_call1_c_2 : Ref sig .tc := ⟨.hbm, 78, rfl⟩
abbrev main_call1_v7 : Ref sig .tc := ⟨.hbm, 79, rfl⟩
abbrev main_call1_v8 : Ref sig .tc := ⟨.hbm, 80, rfl⟩
abbrev main_call1_c_3 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_2 : Ref sig .tc := ⟨.hbm, 117, rfl⟩
abbrev main_v74 : Ref sig .tc := ⟨.hbm, 118, rfl⟩
abbrev main_v75 : Ref sig .tc := ⟨.hbm, 119, rfl⟩
abbrev main_cst_3 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_4 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_v6 : Ref sig .tc := ⟨.hbm, 131, rfl⟩
abbrev main_call2_v7 : Ref sig .tc := ⟨.hbm, 132, rfl⟩
abbrev main_call2_v8 : Ref sig .tc := ⟨.hbm, 133, rfl⟩
abbrev main_call2_c : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_c_0 : Ref sig .tc := ⟨.hbm, 138, rfl⟩
abbrev main_call2_v12 : Ref sig .tc := ⟨.hbm, 139, rfl⟩
abbrev main_call2_v13 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_c_5 : Ref sig .tc := ⟨.hbm, 166, rfl⟩
abbrev main_call3_v0 : Ref sig .tc := ⟨.hbm, 167, rfl⟩
abbrev main_call3_c : Ref sig .tc := ⟨.hbm, 168, rfl⟩
abbrev main_call3_v1 : Ref sig .tc := ⟨.hbm, 169, rfl⟩
abbrev main_call3_c_0 : Ref sig .tc := ⟨.hbm, 170, rfl⟩
abbrev main_call3_v2 : Ref sig .tc := ⟨.hbm, 171, rfl⟩
abbrev main_call3_v3 : Ref sig .tc := ⟨.hbm, 172, rfl⟩
abbrev main_call3_v4 : Ref sig .tc := ⟨.hbm, 173, rfl⟩
abbrev main_call3_c_1 : Ref sig .tc := ⟨.hbm, 174, rfl⟩
abbrev main_call3_v5 : Ref sig .tc := ⟨.hbm, 175, rfl⟩
abbrev main_call3_v6 : Ref sig .tc := ⟨.hbm, 176, rfl⟩
abbrev main_call3_c_2 : Ref sig .tc := ⟨.hbm, 177, rfl⟩
abbrev main_call3_v7 : Ref sig .tc := ⟨.hbm, 178, rfl⟩
abbrev main_call3_v8 : Ref sig .tc := ⟨.hbm, 179, rfl⟩
abbrev main_call3_c_3 : Ref sig .tc := ⟨.hbm, 180, rfl⟩
abbrev main_call3_v9 : Ref sig .tc := ⟨.hbm, 181, rfl⟩
abbrev main_call3_v10 : Ref sig .tc := ⟨.hbm, 182, rfl⟩
abbrev main_call3_v11 : Ref sig .tc := ⟨.hbm, 183, rfl⟩
abbrev main_call3_v12 : Ref sig .tc := ⟨.hbm, 184, rfl⟩
abbrev main_call3_v13 : Ref sig .tc := ⟨.hbm, 185, rfl⟩
abbrev main_call3_v14 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_c_6 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_cst_7 : Ref sig .tc := ⟨.hbm, 224, rfl⟩
abbrev main_v140 : Ref sig .tc := ⟨.hbm, 225, rfl⟩
abbrev main_v141 : Ref sig .tc := ⟨.hbm, 226, rfl⟩
abbrev main_cst_8 : Ref sig .tc := ⟨.hbm, 227, rfl⟩
abbrev main_call4_v0 : Ref sig .tc := ⟨.hbm, 228, rfl⟩
abbrev main_call4_v1 : Ref sig .tc := ⟨.hbm, 229, rfl⟩
abbrev main_call4_v2 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_cst_9 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_cst_10 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_cst_11 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩

abbrev nD : Nat := 1
abbrev τ : Topo := Topo.v7x

variable {F : FTy → Type} [FloatOps F]
-- ==== Mlp.lean ====
abbrev S32x2048x1024 : Shape := ⟨3, ![32, 2048, 1024]⟩
abbrev S32x1x1024 : Shape := ⟨3, ![32, 1, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S32x1x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024x4096, .bf16⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefMlpIdeal.lean ====
abbrev S32x2048x1024 : Shape := ⟨3, ![32, 2048, 1024]⟩
abbrev S32x1x1024 : Shape := ⟨3, ![32, 1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S32x2048x4096 : Shape := ⟨3, ![32, 2048, 4096]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S32x1x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S32x2048x1024, .f32⟩
  | .hbm, ⟨10, _⟩ => ⟨S32x2048x1024, .f32⟩
  | .hbm, ⟨11, _⟩ => ⟨S_, .f32⟩
  | .hbm, ⟨12, _⟩ => ⟨S32x1x1024, .f32⟩
  | .hbm, ⟨13, _⟩ => ⟨S32x1x1024, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S32x2048x4096, .f32⟩
  | .hbm, ⟨19, _⟩ => ⟨S_, .f32⟩
  | .hbm, ⟨20, _⟩ => ⟨S32x2048x4096, .f32⟩
  | .hbm, ⟨21, _⟩ => ⟨S32x2048x4096, .f32⟩
  | .hbm, ⟨22, _⟩ => ⟨S32x2048x4096, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S_, .f32⟩
  | .hbm, ⟨28, _⟩ => ⟨S32x2048, .f32⟩
  | .hbm, ⟨29, _⟩ => ⟨S32x2048x1, .f32⟩
  | .hbm, ⟨30, _⟩ => ⟨S_, .f32⟩
  | .hbm, ⟨31, _⟩ => ⟨S32x2048x1, .f32⟩
  | .hbm, ⟨32, _⟩ => ⟨S32x2048x1, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S_, .f32⟩
  | .hbm, ⟨37, _⟩ => ⟨S32x2048, .f32⟩
  | .hbm, ⟨38, _⟩ => ⟨S32x2048x1, .f32⟩
  | .hbm, ⟨39, _⟩ => ⟨S_, .f32⟩
  | .hbm, ⟨40, _⟩ => ⟨S32x2048x1, .f32⟩
  | .hbm, ⟨41, _⟩ => ⟨S32x2048x1, .f32⟩
  | .hbm, ⟨42, _⟩ => ⟨S32x2048x1024, .f32⟩
  | .hbm, ⟨43, _⟩ => ⟨S32x2048x1024, .f32⟩
  | .hbm, ⟨44, _⟩ => ⟨S_, .f32⟩
  | .hbm, ⟨45, _⟩ => ⟨S32x2048x1, .f32⟩
  | .hbm, ⟨46, _⟩ => ⟨S32x2048x1, .f32⟩
  | .hbm, ⟨47, _⟩ => ⟨S32x2048x1, .f32⟩
  | .hbm, ⟨48, _⟩ => ⟨S32x2048x1024, .f32⟩
  | .hbm, ⟨49, _⟩ => ⟨S32x2048x1024, .f32⟩
  | .hbm, ⟨50, _⟩ => ⟨S1x1x1024, .f32⟩
  | .hbm, ⟨51, _⟩ => ⟨S32x2048x1024, .f32⟩
  | .hbm, ⟨52, _⟩ => ⟨S32x2048x1024, .f32⟩
  | .hbm, ⟨53, _⟩ => ⟨S1x1x1024, .f32⟩
  | .hbm, ⟨54, _⟩ => ⟨S32x2048x1024, .f32⟩
  | .hbm, ⟨55, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Out.lean ====
abbrev S32x2048x512 : Shape := ⟨3, ![32, 2048, 512]⟩
abbrev S1024x1024 : Shape := ⟨2, ![1024, 1024]⟩
abbrev S32x2048x1024 : Shape := ⟨3, ![32, 2048, 1024]⟩
abbrev S32x1x1024 : Shape := ⟨3, ![32, 1, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S1x1024 : Shape := ⟨2, ![1, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 24
  | .vmem => 24
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S1024x1024, .f32⟩
  | .hbm, ⟨3, _⟩ => ⟨S32x2048x1024, .f32⟩
  | .hbm, ⟨4, _⟩ => ⟨S32x1x1024, .f32⟩
  | .hbm, ⟨5, _⟩ => ⟨S1024, .f32⟩
  | .hbm, ⟨6, _⟩ => ⟨S1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S1024, .f32⟩
  | .hbm, ⟨14, _⟩ => ⟨S1024x1024, .bf16⟩
  | .hbm, ⟨15, _⟩ => ⟨S1024x4096, .bf16⟩
  | .hbm, ⟨16, _⟩ => ⟨S4096x1024, .bf16⟩
  | .hbm, ⟨17, _⟩ => ⟨S512x1024, .bf16⟩
  | .hbm, ⟨18, _⟩ => ⟨S512x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S32x2048x1024, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x4096, .bf16⟩
  | .local _ .vmem, ⟨19, _⟩ => ⟨S4096x1024, .bf16⟩
  | .local _ .vmem, ⟨20, _⟩ => ⟨S1x1024, .f32⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== OutIdeal.lean ====
abbrev S32x2048x512 : Shape := ⟨3, ![32, 2048, 512]⟩
abbrev S1024x1024 : Shape := ⟨2, ![1024, 1024]⟩
abbrev S32x2048x1024 : Shape := ⟨3, ![32, 2048, 1024]⟩
abbrev S32x1x1024 : Shape := ⟨3, ![32, 1, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S1x1024 : Shape := ⟨2, ![1, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 24
  | .vmem => 24
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S1024x1024, .f32⟩
  | .hbm, ⟨3, _⟩ => ⟨S32x2048x1024, .f32⟩
  | .hbm, ⟨4, _⟩ => ⟨S32x1x1024, .f32⟩
  | .hbm, ⟨5, _⟩ => ⟨S1024, .f32⟩
  | .hbm, ⟨6, _⟩ => ⟨S1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S1024, .f32⟩
  | .hbm, ⟨14, _⟩ => ⟨S1024x1024, .bf16⟩
  | .hbm, ⟨15, _⟩ => ⟨S1024x4096, .bf16⟩
  | .hbm, ⟨16, _⟩ => ⟨S4096x1024, .bf16⟩
  | .hbm, ⟨17, _⟩ => ⟨S512x1024, .bf16⟩
  | .hbm, ⟨18, _⟩ => ⟨S512x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S32x2048x1024, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x4096, .bf16⟩
  | .local _ .vmem, ⟨19, _⟩ => ⟨S4096x1024, .bf16⟩
  | .local _ .vmem, ⟨20, _⟩ => ⟨S1x1024, .f32⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== RefOutIdeal.lean ====
abbrev S32x2048x512 : Shape := ⟨3, ![32, 2048, 512]⟩
abbrev S1024x1024 : Shape := ⟨2, ![1024, 1024]⟩
abbrev S32x2048x1024 : Shape := ⟨3, ![32, 2048, 1024]⟩
abbrev S32x1x1024 : Shape := ⟨3, ![32, 1, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩

abbrev nBuf : Space → Nat
  | .hbm => 99
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S1024x1024, .f32⟩
  | .hbm, ⟨3, _⟩ => ⟨S32x2048x1024, .f32⟩
  | .hbm, ⟨4, _⟩ => ⟨S32x1x1024, .f32⟩
  | .hbm, ⟨5, _⟩ => ⟨S1024, .f32⟩
  | .hbm, ⟨6, _⟩ => ⟨S1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S1024, .f32⟩
  | .hbm, ⟨14, _⟩ => ⟨S32x2048x1024, .f32⟩
  | .hbm, ⟨15, _⟩ => ⟨S32x2048x1024, .f32⟩
  | .hbm, ⟨16, _⟩ => ⟨S_, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S_, .f32⟩
  | .hbm, ⟨23, _⟩ => ⟨S32x2048, .f32⟩
  | .hbm, ⟨24, _⟩ => ⟨S32x2048x1, .f32⟩
  | .hbm, ⟨25, _⟩ => ⟨S_, .f32⟩
  | .hbm, ⟨26, _⟩ => ⟨S32x2048x1, .f32⟩
  | .hbm, ⟨27, _⟩ => ⟨S32x2048x1, .f32⟩
  | .hbm, ⟨28, _⟩ => ⟨S32x2048x1024, .f32⟩
  | .hbm, ⟨29, _⟩ => ⟨S32x2048x1024, .f32⟩
  | .hbm, ⟨30, _⟩ => ⟨S32x2048x1024, .f32⟩
  | .hbm, ⟨31, _⟩ => ⟨S_, .f32⟩
  | .hbm, ⟨32, _⟩ => ⟨S32x2048, .f32⟩
  | .hbm, ⟨33, _⟩ => ⟨S32x2048x1, .f32⟩
  | .hbm, ⟨34, _⟩ => ⟨S_, .f32⟩
  | .hbm, ⟨35, _⟩ => ⟨S32x2048x1, .f32⟩
  | .hbm, ⟨36, _⟩ => ⟨S32x2048x1, .f32⟩
  | .hbm, ⟨37, _⟩ => ⟨S32x2048x1024, .f32⟩
  | .hbm, ⟨38, _⟩ => ⟨S32x2048x1024, .f32⟩
  | .hbm, ⟨39, _⟩ => ⟨S_, .f32⟩
  | .hbm, ⟨40, _⟩ => ⟨S32x2048x1, .f32⟩
  | .hbm, ⟨41, _⟩ => ⟨S32x2048x1, .f32⟩
  | .hbm, ⟨42, _⟩ => ⟨S32x2048x1, .f32⟩
  | .hbm, ⟨43, _⟩ => ⟨S32x2048x1024, .f32⟩
  | .hbm, ⟨44, _⟩ => ⟨S32x2048x1024, .f32⟩
  | .hbm, ⟨45, _⟩ => ⟨S1x1x1024, .f32⟩
  | .hbm, ⟨46, _⟩ => ⟨S32x2048x1024, .f32⟩
  | .hbm, ⟨47, _⟩ => ⟨S32x2048x1024, .f32⟩
  | .hbm, ⟨48, _⟩ => ⟨S1x1x1024, .f32⟩
  | .hbm, ⟨49, _⟩ => ⟨S32x2048x1024, .f32⟩
  | .hbm, ⟨50, _⟩ => ⟨S32x2048x1024, .f32⟩
  | .hbm, ⟨51, _⟩ => ⟨S_, .f32⟩
  | .hbm, ⟨52, _⟩ => ⟨S32x2048x1024, .f32⟩
  | .hbm, ⟨53, _⟩ => ⟨S32x2048x1024, .f32⟩
  | .hbm, ⟨54, _⟩ => ⟨S_, .f32⟩
  | .hbm, ⟨55, _⟩ => ⟨S32x1x1024, .f32⟩
  | .hbm, ⟨56, _⟩ => ⟨S32x1x1024, .f32⟩
  | .hbm, ⟨57, _⟩ => ⟨S32x2048x1024, .f32⟩
  | .hbm, ⟨58, _⟩ => ⟨S32x2048x1024, .f32⟩
  | .hbm, ⟨59, _⟩ => ⟨S32x2048x1024, .f32⟩
  | .hbm, ⟨60, _⟩ => ⟨S32x2048x1024, .f32⟩
  | .hbm, ⟨61, _⟩ => ⟨S32x2048x4096, .f32⟩
  | .hbm, ⟨62, _⟩ => ⟨S_, .f32⟩
  | .hbm, ⟨63, _⟩ => ⟨S32x2048x4096, .f32⟩
  | .hbm, ⟨64, _⟩ => ⟨S32x2048x4096, .f32⟩
  | .hbm, ⟨65, _⟩ => ⟨S32x2048x4096, .f32⟩
  | .hbm, ⟨66, _⟩ => ⟨S32x2048x1024, .f32⟩
  | .hbm, ⟨67, _⟩ => ⟨S32x2048x1024, .f32⟩
  | .hbm, ⟨68, _⟩ => ⟨S32x2048x1024, .f32⟩
  | .hbm, ⟨69, _⟩ => ⟨S32x2048x1024, .f32⟩
  | .hbm, ⟨70, _⟩ => ⟨S_, .f32⟩
  | .hbm, ⟨71, _⟩ => ⟨S32x2048, .f32⟩
  | .hbm, ⟨72, _⟩ => ⟨S32x2048x1, .f32⟩
  | .hbm, ⟨73, _⟩ => ⟨S_, .f32⟩
  | .hbm, ⟨74, _⟩ => ⟨S32x2048x1, .f32⟩
  | .hbm, ⟨75, _⟩ => ⟨S32x2048x1, .f32⟩
  | .hbm, ⟨76, _⟩ => ⟨S32x2048x1024, .f32⟩
  | .hbm, ⟨77, _⟩ => ⟨S32x2048x1024, .f32⟩
  | .hbm, ⟨78, _⟩ => ⟨S32x2048x1024, .f32⟩
  | .hbm, ⟨79, _⟩ => ⟨S_, .f32⟩
  | .hbm, ⟨80, _⟩ => ⟨S32x2048, .f32⟩
  | .hbm, ⟨81, _⟩ => ⟨S32x2048x1, .f32⟩
  | .hbm, ⟨82, _⟩ => ⟨S_, .f32⟩
  | .hbm, ⟨83, _⟩ => ⟨S32x2048x1, .f32⟩
  | .hbm, ⟨84, _⟩ => ⟨S32x2048x1, .f32⟩
  | .hbm, ⟨85, _⟩ => ⟨S32x2048x1024, .f32⟩
  | .hbm, ⟨86, _⟩ => ⟨S32x2048x1024, .f32⟩
  | .hbm, ⟨87, _⟩ => ⟨S_, .f32⟩
  | .hbm, ⟨88, _⟩ => ⟨S32x2048x1, .f32⟩
  | .hbm, ⟨89, _⟩ => ⟨S32x2048x1, .f32⟩
  | .hbm, ⟨90, _⟩ => ⟨S32x2048x1, .f32⟩
  | .hbm, ⟨91, _⟩ => ⟨S32x2048x1024, .f32⟩
  | .hbm, ⟨92, _⟩ => ⟨S32x2048x1024, .f32⟩
  | .hbm, ⟨93, _⟩ => ⟨S1x1x1024, .f32⟩
  | .hbm, ⟨94, _⟩ => ⟨S32x2048x1024, .f32⟩
  | .hbm, ⟨95, _⟩ => ⟨S32x2048x1024, .f32⟩
  | .hbm, ⟨96, _⟩ => ⟨S1x1x1024, .f32⟩
  | .hbm, ⟨97, _⟩ => ⟨S32x2048x1024, .f32⟩
  | .hbm, ⟨98, _⟩ => ⟨S32x2048x1024, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]
-- ==== In.lean ====
abbrev S32x2048x1024 : Shape := ⟨3, ![32, 2048, 1024]⟩
abbrev S32x1x1024 : Shape := ⟨3, ![32, 1, 1024]⟩
abbrev S1024x2304 : Shape := ⟨2, ![1024, 2304]⟩
abbrev S1024x1536 : Shape := ⟨2, ![1024, 1536]⟩
abbrev S1024x768 : Shape := ⟨2, ![1024, 768]⟩
abbrev S32x2048x1536 : Shape := ⟨3, ![32, 2048, 1536]⟩
abbrev S32x2048x768 : Shape := ⟨3, ![32, 2048, 768]⟩
abbrev S1x512x1024 : Shape := ⟨3, ![1, 512, 1024]⟩
abbrev S1x1x1024 : Shape := ⟨3, ![1, 1, 1024]⟩
abbrev S1x512x1536 : Shape := ⟨3, ![1, 512, 1536]⟩
abbrev S1x512x768 : Shape := ⟨3, ![1, 512, 768]⟩
abbrev S512x1024 : Shape := ⟨2, ![512, 1024]⟩
abbrev S1x1024 : Shape := ⟨2, ![1, 1024]⟩
abbrev S512x1536 : Shape := ⟨2, ![512, 1536]⟩
abbrev S512x768 : Shape := ⟨2, ![512, 768]⟩

abbrev nBuf : Space → Nat
  | .hbm => 9
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x2304, .f32⟩
  | .hbm, ⟨4, _⟩ => ⟨S1024x2304, .bf16⟩
  | .hbm, ⟨5, _⟩ => ⟨S1024x1536, .bf16⟩
  | .hbm, ⟨6, _⟩ => ⟨S1024x768, .bf16⟩
  | .hbm, ⟨7, _⟩ => ⟨S32x2048x1536, .f32⟩
  | .hbm, ⟨8, _⟩ => ⟨S32x2048x768, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1024x768, .bf16⟩
  | .local _ .vmem, ⟨8, _⟩ => ⟨S1x512x1536, .f32⟩
  | .local _ .vmem, ⟨9, _⟩ => ⟨S1x512x1536, .f32⟩
  | .local _ .vmem, ⟨10, _⟩ => ⟨S1x512x768, .f32⟩
  | .local _ .vmem, ⟨11, _⟩ => ⟨S1x512x768, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InIdeal.lean ====
abbrev S32x2048x1024 : Shape := ⟨3, ![32, 2048, 1024]⟩
abbrev S32x1x1024 : Shape := ⟨3, ![32, 1, 1024]⟩
abbrev S1024x2304 : Shape := ⟨2, ![1024, 2304]⟩
abbrev S1024x1536 : Shape := ⟨2, ![1024, 1536]⟩
abbrev S1024x768 : Shape := ⟨2, ![1024, 768]⟩
abbrev S32x2048x1536 : Shape := ⟨3, ![32, 2048, 1536]⟩
abbrev S32x2048x768 : Shape := ⟨3, ![32, 2048, 768]⟩
abbrev S1x512x1024 : Shape := ⟨3, ![1, 512, 1024]⟩
abbrev S1x1x1024 : Shape := ⟨3, ![1, 1, 1024]⟩
abbrev S1x512x1536 : Shape := ⟨3, ![1, 512, 1536]⟩
abbrev S1x512x768 : Shape := ⟨3, ![1, 512, 768]⟩
abbrev S512x1024 : Shape := ⟨2, ![512, 1024]⟩
abbrev S1x1024 : Shape := ⟨2, ![1, 1024]⟩
abbrev S512x1536 : Shape := ⟨2, ![512, 1536]⟩
abbrev S512x768 : Shape := ⟨2, ![512, 768]⟩

abbrev nBuf : Space → Nat
  | .hbm => 9
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x2304, .f32⟩
  | .hbm, ⟨4, _⟩ => ⟨S1024x2304, .bf16⟩
  | .hbm, ⟨5, _⟩ => ⟨S1024x1536, .bf16⟩
  | .hbm, ⟨6, _⟩ => ⟨S1024x768, .bf16⟩
  | .hbm, ⟨7, _⟩ => ⟨S32x2048x1536, .f32⟩
  | .hbm, ⟨8, _⟩ => ⟨S32x2048x768, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1024x768, .bf16⟩
  | .local _ .vmem, ⟨8, _⟩ => ⟨S1x512x1536, .f32⟩
  | .local _ .vmem, ⟨9, _⟩ => ⟨S1x512x1536, .f32⟩
  | .local _ .vmem, ⟨10, _⟩ => ⟨S1x512x768, .f32⟩
  | .local _ .vmem, ⟨11, _⟩ => ⟨S1x512x768, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefInIdeal.lean ====
abbrev S32x2048x1024 : Shape := ⟨3, ![32, 2048, 1024]⟩
abbrev S32x1x1024 : Shape := ⟨3, ![32, 1, 1024]⟩
abbrev S1024x2304 : Shape := ⟨2, ![1024, 2304]⟩
abbrev S_ : Shape := ⟨0, ![]⟩
abbrev S32x2048x2304 : Shape := ⟨3, ![32, 2048, 2304]⟩
abbrev S32x2048x1536 : Shape := ⟨3, ![32, 2048, 1536]⟩
abbrev S32x2048x768 : Shape := ⟨3, ![32, 2048, 768]⟩

abbrev nBuf : Space → Nat
  | .hbm => 14
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x2304, .f32⟩
  | .hbm, ⟨4, _⟩ => ⟨S_, .f32⟩
  | .hbm, ⟨5, _⟩ => ⟨S32x1x1024, .f32⟩
  | .hbm, ⟨6, _⟩ => ⟨S32x1x1024, .f32⟩
  | .hbm, ⟨7, _⟩ => ⟨S32x2048x1024, .f32⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S32x2048x2304, .f32⟩
  | .hbm, ⟨12, _⟩ => ⟨S32x2048x1536, .f32⟩
  | .hbm, ⟨13, _⟩ => ⟨S32x2048x768, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Odd.lean ====
abbrev S32x2048x1024 : Shape := ⟨3, ![32, 2048, 1024]⟩
abbrev S32x1x1024 : Shape := ⟨3, ![32, 1, 1024]⟩
abbrev S1024x3984 : Shape := ⟨2, ![1024, 3984]⟩
abbrev S1024x1920 : Shape := ⟨2, ![1024, 1920]⟩
abbrev S1024x2064 : Shape := ⟨2, ![1024, 2064]⟩
abbrev S1024x16 : Shape := ⟨2, ![1024, 16]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S1024x2304 : Shape := ⟨2, ![1024, 2304]⟩
abbrev S32x2048x1920 : Shape := ⟨3, ![32, 2048, 1920]⟩
abbrev S32x2048x2304 : Shape := ⟨3, ![32, 2048, 2304]⟩
abbrev S1x512x1024 : Shape := ⟨3, ![1, 512, 1024]⟩
abbrev S1x1x1024 : Shape := ⟨3, ![1, 1, 1024]⟩
abbrev S1x512x1920 : Shape := ⟨3, ![1, 512, 1920]⟩
abbrev S1x512x2304 : Shape := ⟨3, ![1, 512, 2304]⟩
abbrev S512x1024 : Shape := ⟨2, ![512, 1024]⟩
abbrev S1x1024 : Shape := ⟨2, ![1, 1024]⟩
abbrev S512x1920 : Shape := ⟨2, ![512, 1920]⟩
abbrev S512x2304 : Shape := ⟨2, ![512, 2304]⟩

abbrev nBuf : Space → Nat
  | .hbm => 21
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x3984, .f32⟩
  | .hbm, ⟨4, _⟩ => ⟨S1024x1920, .f32⟩
  | .hbm, ⟨5, _⟩ => ⟨S1024x1920, .bf16⟩
  | .hbm, ⟨6, _⟩ => ⟨S1024x2064, .f32⟩
  | .hbm, ⟨7, _⟩ => ⟨S1024x16, .f32⟩
  | .hbm, ⟨8, _⟩ => ⟨S1024x2048, .f32⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x8, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x2304, .f32⟩
  | .hbm, ⟨18, _⟩ => ⟨S1024x2304, .bf16⟩
  | .hbm, ⟨19, _⟩ => ⟨S32x2048x1920, .f32⟩
  | .hbm, ⟨20, _⟩ => ⟨S32x2048x2304, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1920, .bf16⟩
  | .local _ .vmem, ⟨7, _⟩ => ⟨S1024x2304, .bf16⟩
  | .local _ .vmem, ⟨8, _⟩ => ⟨S1x512x1920, .f32⟩
  | .local _ .vmem, ⟨9, _⟩ => ⟨S1x512x1920, .f32⟩
  | .local _ .vmem, ⟨10, _⟩ => ⟨S1x512x2304, .f32⟩
  | .local _ .vmem, ⟨11, _⟩ => ⟨S1x512x2304, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OddIdeal.lean ====
abbrev S32x2048x1024 : Shape := ⟨3, ![32, 2048, 1024]⟩
abbrev S32x1x1024 : Shape := ⟨3, ![32, 1, 1024]⟩
abbrev S1024x3984 : Shape := ⟨2, ![1024, 3984]⟩
abbrev S1024x1920 : Shape := ⟨2, ![1024, 1920]⟩
abbrev S1024x2064 : Shape := ⟨2, ![1024, 2064]⟩
abbrev S1024x16 : Shape := ⟨2, ![1024, 16]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S1024x2304 : Shape := ⟨2, ![1024, 2304]⟩
abbrev S32x2048x1920 : Shape := ⟨3, ![32, 2048, 1920]⟩
abbrev S32x2048x2304 : Shape := ⟨3, ![32, 2048, 2304]⟩
abbrev S1x512x1024 : Shape := ⟨3, ![1, 512, 1024]⟩
abbrev S1x1x1024 : Shape := ⟨3, ![1, 1, 1024]⟩
abbrev S1x512x1920 : Shape := ⟨3, ![1, 512, 1920]⟩
abbrev S1x512x2304 : Shape := ⟨3, ![1, 512, 2304]⟩
abbrev S512x1024 : Shape := ⟨2, ![512, 1024]⟩
abbrev S1x1024 : Shape := ⟨2, ![1, 1024]⟩
abbrev S512x1920 : Shape := ⟨2, ![512, 1920]⟩
abbrev S512x2304 : Shape := ⟨2, ![512, 2304]⟩

abbrev nBuf : Space → Nat
  | .hbm => 21
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x3984, .f32⟩
  | .hbm, ⟨4, _⟩ => ⟨S1024x1920, .f32⟩
  | .hbm, ⟨5, _⟩ => ⟨S1024x1920, .bf16⟩
  | .hbm, ⟨6, _⟩ => ⟨S1024x2064, .f32⟩
  | .hbm, ⟨7, _⟩ => ⟨S1024x16, .f32⟩
  | .hbm, ⟨8, _⟩ => ⟨S1024x2048, .f32⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x8, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x2304, .f32⟩
  | .hbm, ⟨18, _⟩ => ⟨S1024x2304, .bf16⟩
  | .hbm, ⟨19, _⟩ => ⟨S32x2048x1920, .f32⟩
  | .hbm, ⟨20, _⟩ => ⟨S32x2048x2304, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1920, .bf16⟩
  | .local _ .vmem, ⟨7, _⟩ => ⟨S1024x2304, .bf16⟩
  | .local _ .vmem, ⟨8, _⟩ => ⟨S1x512x1920, .f32⟩
  | .local _ .vmem, ⟨9, _⟩ => ⟨S1x512x1920, .f32⟩
  | .local _ .vmem, ⟨10, _⟩ => ⟨S1x512x2304, .f32⟩
  | .local _ .vmem, ⟨11, _⟩ => ⟨S1x512x2304, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefOddIdeal.lean ====
abbrev S32x2048x1024 : Shape := ⟨3, ![32, 2048, 1024]⟩
abbrev S32x1x1024 : Shape := ⟨3, ![32, 1, 1024]⟩
abbrev S1024x3984 : Shape := ⟨2, ![1024, 3984]⟩
abbrev S_ : Shape := ⟨0, ![]⟩
abbrev S32x2048x3984 : Shape := ⟨3, ![32, 2048, 3984]⟩
abbrev S32x2048x120 : Shape := ⟨3, ![32, 2048, 120]⟩
abbrev S32x2048x2048 : Shape := ⟨3, ![32, 2048, 2048]⟩
abbrev S32x2048x8 : Shape := ⟨3, ![32, 2048, 8]⟩
abbrev S32x2048x2304 : Shape := ⟨3, ![32, 2048, 2304]⟩
abbrev S32x2048x1920 : Shape := ⟨3, ![32, 2048, 1920]⟩

abbrev nBuf : Space → Nat
  | .hbm => 19
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x3984, .f32⟩
  | .hbm, ⟨4, _⟩ => ⟨S_, .f32⟩
  | .hbm, ⟨5, _⟩ => ⟨S32x1x1024, .f32⟩
  | .hbm, ⟨6, _⟩ => ⟨S32x1x1024, .f32⟩
  | .hbm, ⟨7, _⟩ => ⟨S32x2048x1024, .f32⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S32x2048x3984, .f32⟩
  | .hbm, ⟨12, _⟩ => ⟨S_, .f32⟩
  | .hbm, ⟨13, _⟩ => ⟨S32x2048x120, .f32⟩
  | .hbm, ⟨14, _⟩ => ⟨S32x2048x2048, .f32⟩
  | .hbm, ⟨15, _⟩ => ⟨S32x2048x8, .f32⟩
  | .hbm, ⟨16, _⟩ => ⟨S32x2048x8, .f32⟩
  | .hbm, ⟨17, _⟩ => ⟨S32x2048x2304, .f32⟩
  | .hbm, ⟨18, _⟩ => ⟨S32x2048x1920, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Join.lean ====
abbrev S2x32x2048x512 : Shape := ⟨4, ![2, 32, 2048, 512]⟩
abbrev S32x2048x512 : Shape := ⟨3, ![32, 2048, 512]⟩
abbrev S512 : Shape := ⟨1, ![512]⟩
abbrev S32x2048x2304 : Shape := ⟨3, ![32, 2048, 2304]⟩
abbrev S128 : Shape := ⟨1, ![128]⟩
abbrev S1024x1024 : Shape := ⟨2, ![1024, 1024]⟩
abbrev S32x2048x1024 : Shape := ⟨3, ![32, 2048, 1024]⟩
abbrev S32x1x1024 : Shape := ⟨3, ![32, 1, 1024]⟩
abbrev S1024 : Shape := ⟨1, ![1024]⟩
abbrev S512x1024 : Shape := ⟨2, ![512, 1024]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x128 : Shape := ⟨2, ![1, 128]⟩
abbrev S1x1024 : Shape := ⟨2, ![1, 1024]⟩
abbrev S2x1x256x512 : Shape := ⟨4, ![2, 1, 256, 512]⟩
abbrev S1x256x512 : Shape := ⟨3, ![1, 256, 512]⟩
abbrev S1x256x1024 : Shape := ⟨3, ![1, 256, 1024]⟩
abbrev S1x1x1024 : Shape := ⟨3, ![1, 1, 1024]⟩
abbrev S1x1x256x512 : Shape := ⟨4, ![1, 1, 256, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩

abbrev nBuf : Space → Nat
  | .hbm => 47
  | .vmem => 24
  | .smem => 0
  | _ => 0

abbrev bufTy : (tb : Table) → Fin (tcTables nBuf tb) → BufTy
  | .hbm, ⟨0, _⟩ => ⟨S2x32x2048x512, .bf16⟩
  | .hbm, ⟨1, _⟩ => ⟨S32x2048x512, .f32⟩
  | .hbm, ⟨2, _⟩ => ⟨S32x2048x512, .f32⟩
  | .hbm, ⟨3, _⟩ => ⟨S512, .f32⟩
  | .hbm, ⟨4, _⟩ => ⟨S512, .f32⟩
  | .hbm, ⟨5, _⟩ => ⟨S2x32x2048x512, .bf16⟩
  | .hbm, ⟨6, _⟩ => ⟨S32x2048x2304, .f32⟩
  | .hbm, ⟨7, _⟩ => ⟨S128, .f32⟩
  | .hbm, ⟨8, _⟩ => ⟨S1024x1024, .f32⟩
  | .hbm, ⟨9, _⟩ => ⟨S32x2048x1024, .f32⟩
  | .hbm, ⟨10, _⟩ => ⟨S32x1x1024, .f32⟩
  | .hbm, ⟨11, _⟩ => ⟨S1024, .f32⟩
  | .hbm, ⟨12, _⟩ => ⟨S1024, .f32⟩
  | .hbm, ⟨13, _⟩ => ⟨S1024x1024, .bf16⟩
  | .hbm, ⟨14, _⟩ => ⟨S512x1024, .bf16⟩
  | .hbm, ⟨15, _⟩ => ⟨S512x1024, .bf16⟩
  | .hbm, ⟨16, _⟩ => ⟨S512, .i32⟩
  | .hbm, ⟨17, _⟩ => ⟨S_, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S1x512, .i32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S512x512, .bf16⟩
  | .hbm, ⟨41, _⟩ => ⟨S1x512, .f32⟩
  | .hbm, ⟨42, _⟩ => ⟨S1x512, .f32⟩
  | .hbm, ⟨43, _⟩ => ⟨S1x128, .f32⟩
  | .hbm, ⟨44, _⟩ => ⟨S1x1024, .f32⟩
  | .hbm, ⟨45, _⟩ => ⟨S1x1024, .f32⟩
  | .hbm, ⟨46, _⟩ => ⟨S32x2048x1024, .f32⟩
  | .local _ .vmem, ⟨0, _⟩ => ⟨S2x1x256x512, .bf16⟩
  | .local _ .vmem, ⟨1, _⟩ => ⟨S2x1x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S2x1x256x512, .bf16⟩
  | .local _ .vmem, ⟨10, _⟩ => ⟨S2x1x256x512, .bf16⟩
  | .local _ .vmem, ⟨11, _⟩ => ⟨S1x256x512, .f32⟩
  | .local _ .vmem, ⟨12, _⟩ => ⟨S1x256x512, .f32⟩
  | .local _ .vmem, ⟨13, _⟩ => ⟨S1x128, .f32⟩
  | .local _ .vmem, ⟨14, _⟩ => ⟨S512x1024, .bf16⟩
  | .local _ .vmem, ⟨15, _⟩ => ⟨S512x1024, .bf16⟩
  | .local _ .vmem, ⟨16, _⟩ => ⟨S1x256x1024, .f32⟩
  | .local _ .vmem, ⟨17, _⟩ => ⟨S1x256x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1x1024, .f32⟩
  | .local _ .vmem, ⟨22, _⟩ => ⟨S1x256x1024, .f32⟩
  | .local _ .vmem, ⟨23, _⟩ => ⟨S1x256x1024, .f32⟩
  | _, _ => ⟨S2x32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![32, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== RefJoinIdeal.lean ====
abbrev S2x32x2048x512 : Shape := ⟨4, ![2, 32, 2048, 512]⟩
abbrev S32x2048x512 : Shape := ⟨3, ![32, 2048, 512]⟩
abbrev S512 : Shape := ⟨1, ![512]⟩
abbrev S32x2048x2304 : Shape := ⟨3, ![32, 2048, 2304]⟩
abbrev S128 : Shape := ⟨1, ![128]⟩
abbrev S1024x1024 : Shape := ⟨2, ![1024, 1024]⟩
abbrev S32x2048x1024 : Shape := ⟨3, ![32, 2048, 1024]⟩
abbrev S32x1x1024 : Shape := ⟨3, ![32, 1, 1024]⟩
abbrev S1024 : Shape := ⟨1, ![1024]⟩
abbrev S1x32x2048x512 : Shape := ⟨4, ![1, 32, 2048, 512]⟩
abbrev S32x2048x8x64 : Shape := ⟨4, ![32, 2048, 8, 64]⟩
abbrev S_ : Shape := ⟨0, ![]⟩
abbrev S32x2048x8 : Shape := ⟨3, ![32, 2048, 8]⟩
abbrev S32x2048x8x1 : Shape := ⟨4, ![32, 2048, 8, 1]⟩
abbrev S1x1x512 : Shape := ⟨3, ![1, 1, 512]⟩
abbrev S32x2048x4x128 : Shape := ⟨4, ![32, 2048, 4, 128]⟩
abbrev S32x2048x4 : Shape := ⟨3, ![32, 2048, 4]⟩
abbrev S32x2048x4x1 : Shape := ⟨4, ![32, 2048, 4, 1]⟩
abbrev S1x1x1x128 : Shape := ⟨4, ![1, 1, 1, 128]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 126
  | .vmem => 0
  | .smem => 0
  | _ => 0

abbrev bufTy : (tb : Table) → Fin (tcTables nBuf tb) → BufTy
  | .hbm, ⟨0, _⟩ => ⟨S2x32x2048x512, .bf16⟩
  | .hbm, ⟨1, _⟩ => ⟨S32x2048x512, .f32⟩
  | .hbm, ⟨2, _⟩ => ⟨S32x2048x512, .f32⟩
  | .hbm, ⟨3, _⟩ => ⟨S512, .f32⟩
  | .hbm, ⟨4, _⟩ => ⟨S512, .f32⟩
  | .hbm, ⟨5, _⟩ => ⟨S2x32x2048x512, .bf16⟩
  | .hbm, ⟨6, _⟩ => ⟨S32x2048x2304, .f32⟩
  | .hbm, ⟨7, _⟩ => ⟨S128, .f32⟩
  | .hbm, ⟨8, _⟩ => ⟨S1024x1024, .f32⟩
  | .hbm, ⟨9, _⟩ => ⟨S32x2048x1024, .f32⟩
  | .hbm, ⟨10, _⟩ => ⟨S32x1x1024, .f32⟩
  | .hbm, ⟨11, _⟩ => ⟨S1024, .f32⟩
  | .hbm, ⟨12, _⟩ => ⟨S1024, .f32⟩
  | .hbm, ⟨13, _⟩ => ⟨S1x32x2048x512, .bf16⟩
  | .hbm, ⟨14, _⟩ => ⟨S32x2048x512, .bf16⟩
  | .hbm, ⟨15, _⟩ => ⟨S32x2048x512, .f32⟩
  | .hbm, ⟨16, _⟩ => ⟨S1x32x2048x512, .bf16⟩
  | .hbm, ⟨17, _⟩ => ⟨S32x2048x512, .bf16⟩
  | .hbm, ⟨18, _⟩ => ⟨S32x2048x512, .f32⟩
  | .hbm, ⟨19, _⟩ => ⟨S32x2048x512, .f32⟩
  | .hbm, ⟨20, _⟩ => ⟨S32x2048x8x64, .f32⟩
  | .hbm, ⟨21, _⟩ => ⟨S_, .f32⟩
  | .hbm, ⟨22, _⟩ => ⟨S32x2048x8, .f32⟩
  | .hbm, ⟨23, _⟩ => ⟨S32x2048x8x1, .f32⟩
  | .hbm, ⟨24, _⟩ => ⟨S_, .f32⟩
  | .hbm, ⟨25, _⟩ => ⟨S32x2048x8x1, .f32⟩
  | .hbm, ⟨26, _⟩ => ⟨S32x2048x8x1, .f32⟩
  | .hbm, ⟨27, _⟩ => ⟨S32x2048x8x64, .f32⟩
  | .hbm, ⟨28, _⟩ => ⟨S32x2048x8x64, .f32⟩
  | .hbm, ⟨29, _⟩ => ⟨S32x2048x8x64, .f32⟩
  | .hbm, ⟨30, _⟩ => ⟨S_, .f32⟩
  | .hbm, ⟨31, _⟩ => ⟨S32x2048x8, .f32⟩
  | .hbm, ⟨32, _⟩ => ⟨S32x2048x8x1, .f32⟩
  | .hbm, ⟨33, _⟩ => ⟨S_, .f32⟩
  | .hbm, ⟨34, _⟩ => ⟨S32x2048x8x1, .f32⟩
  | .hbm, ⟨35, _⟩ => ⟨S32x2048x8x1, .f32⟩
  | .hbm, ⟨36, _⟩ => ⟨S32x2048x8x64, .f32⟩
  | .hbm, ⟨37, _⟩ => ⟨S32x2048x8x64, .f32⟩
  | .hbm, ⟨38, _⟩ => ⟨S_, .f32⟩
  | .hbm, ⟨39, _⟩ => ⟨S32x2048x8x1, .f32⟩
  | .hbm, ⟨40, _⟩ => ⟨S32x2048x8x1, .f32⟩
  | .hbm, ⟨41, _⟩ => ⟨S32x2048x8x1, .f32⟩
  | .hbm, ⟨42, _⟩ => ⟨S32x2048x8x64, .f32⟩
  | .hbm, ⟨43, _⟩ => ⟨S32x2048x8x64, .f32⟩
  | .hbm, ⟨44, _⟩ => ⟨S32x2048x512, .f32⟩
  | .hbm, ⟨45, _⟩ => ⟨S1x1x512, .f32⟩
  | .hbm, ⟨46, _⟩ => ⟨S32x2048x512, .f32⟩
  | .hbm, ⟨47, _⟩ => ⟨S32x2048x512, .f32⟩
  | .hbm, ⟨48, _⟩ => ⟨S1x1x512, .f32⟩
  | .hbm, ⟨49, _⟩ => ⟨S32x2048x512, .f32⟩
  | .hbm, ⟨50, _⟩ => ⟨S32x2048x512, .f32⟩
  | .hbm, ⟨51, _⟩ => ⟨S32x2048x512, .f32⟩
  | .hbm, ⟨52, _⟩ => ⟨S32x2048x512, .f32⟩
  | .hbm, ⟨53, _⟩ => ⟨S1x32x2048x512, .bf16⟩
  | .hbm, ⟨54, _⟩ => ⟨S32x2048x512, .bf16⟩
  | .hbm, ⟨55, _⟩ => ⟨S32x2048x512, .f32⟩
  | .hbm, ⟨56, _⟩ => ⟨S1x32x2048x512, .bf16⟩
  | .hbm, ⟨57, _⟩ => ⟨S32x2048x512, .bf16⟩
  | .hbm, ⟨58, _⟩ => ⟨S32x2048x512, .f32⟩
  | .hbm, ⟨59, _⟩ => ⟨S32x2048x512, .f32⟩
  | .hbm, ⟨60, _⟩ => ⟨S32x2048x4x128, .f32⟩
  | .hbm, ⟨61, _⟩ => ⟨S32x2048x4x128, .f32⟩
  | .hbm, ⟨62, _⟩ => ⟨S_, .f32⟩
  | .hbm, ⟨63, _⟩ => ⟨S32x2048x4, .f32⟩
  | .hbm, ⟨64, _⟩ => ⟨S32x2048x4x1, .f32⟩
  | .hbm, ⟨65, _⟩ => ⟨S_, .f32⟩
  | .hbm, ⟨66, _⟩ => ⟨S32x2048x4x1, .f32⟩
  | .hbm, ⟨67, _⟩ => ⟨S32x2048x4x1, .f32⟩
  | .hbm, ⟨68, _⟩ => ⟨S_, .f32⟩
  | .hbm, ⟨69, _⟩ => ⟨S32x2048x4x1, .f32⟩
  | .hbm, ⟨70, _⟩ => ⟨S32x2048x4x1, .f32⟩
  | .hbm, ⟨71, _⟩ => ⟨S32x2048x4x1, .f32⟩
  | .hbm, ⟨72, _⟩ => ⟨S32x2048x4x128, .f32⟩
  | .hbm, ⟨73, _⟩ => ⟨S32x2048x4x128, .f32⟩
  | .hbm, ⟨74, _⟩ => ⟨S1x1x1x128, .f32⟩
  | .hbm, ⟨75, _⟩ => ⟨S32x2048x4x128, .f32⟩
  | .hbm, ⟨76, _⟩ => ⟨S32x2048x4x128, .f32⟩
  | .hbm, ⟨77, _⟩ => ⟨S32x2048x512, .f32⟩
  | .hbm, ⟨78, _⟩ => ⟨S32x2048x512, .f32⟩
  | .hbm, ⟨79, _⟩ => ⟨S32x2048x512, .f32⟩
  | .hbm, ⟨80, _⟩ => ⟨S32x2048x512, .f32⟩
  | .hbm, ⟨81, _⟩ => ⟨S_, .f32⟩
  | .hbm, ⟨82, _⟩ => ⟨S32x2048x512, .f32⟩
  | .hbm, ⟨83, _⟩ => ⟨S32x2048x512, .f32⟩
  | .hbm, ⟨84, _⟩ => ⟨S_, .f32⟩
  | .hbm, ⟨85, _⟩ => ⟨S32x2048x512, .f32⟩
  | .hbm, ⟨86, _⟩ => ⟨S32x2048x512, .f32⟩
  | .hbm, ⟨87, _⟩ => ⟨S32x2048x512, .f32⟩
  | .hbm, ⟨88, _⟩ => ⟨S32x2048x512, .f32⟩
  | .hbm, ⟨89, _⟩ => ⟨S32x2048x1024, .f32⟩
  | .hbm, ⟨90, _⟩ => ⟨S32x2048x1024, .f32⟩
  | .hbm, ⟨91, _⟩ => ⟨S_, .f32⟩
  | .hbm, ⟨92, _⟩ => ⟨S32x2048x1024, .f32⟩
  | .hbm, ⟨93, _⟩ => ⟨S32x2048x1024, .f32⟩
  | .hbm, ⟨94, _⟩ => ⟨S32x2048x1024, .f32⟩
  | .hbm, ⟨95, _⟩ => ⟨S32x2048x1024, .f32⟩
  | .hbm, ⟨96, _⟩ => ⟨S32x2048x1024, .f32⟩
  | .hbm, ⟨97, _⟩ => ⟨S_, .f32⟩
  | .hbm, ⟨98, _⟩ => ⟨S32x2048, .f32⟩
  | .hbm, ⟨99, _⟩ => ⟨S32x2048x1, .f32⟩
  | .hbm, ⟨100, _⟩ => ⟨S_, .f32⟩
  | .hbm, ⟨101, _⟩ => ⟨S32x2048x1, .f32⟩
  | .hbm, ⟨102, _⟩ => ⟨S32x2048x1, .f32⟩
  | .hbm, ⟨103, _⟩ => ⟨S32x2048x1024, .f32⟩
  | .hbm, ⟨104, _⟩ => ⟨S32x2048x1024, .f32⟩
  | .hbm, ⟨105, _⟩ => ⟨S32x2048x1024, .f32⟩
  | .hbm, ⟨106, _⟩ => ⟨S_, .f32⟩
  | .hbm, ⟨107, _⟩ => ⟨S32x2048, .f32⟩
  | .hbm, ⟨108, _⟩ => ⟨S32x2048x1, .f32⟩
  | .hbm, ⟨109, _⟩ => ⟨S_, .f32⟩
  | .hbm, ⟨110, _⟩ => ⟨S32x2048x1, .f32⟩
  | .hbm, ⟨111, _⟩ => ⟨S32x2048x1, .f32⟩
  | .hbm, ⟨112, _⟩ => ⟨S32x2048x1024, .f32⟩
  | .hbm, ⟨113, _⟩ => ⟨S32x2048x1024, .f32⟩
  | .hbm, ⟨114, _⟩ => ⟨S_, .f32⟩
  | .hbm, ⟨115, _⟩ => ⟨S32x2048x1, .f32⟩
  | .hbm, ⟨116, _⟩ => ⟨S32x2048x1, .f32⟩
  | .hbm, ⟨117, _⟩ => ⟨S32x2048x1, .f32⟩
  | .hbm, ⟨118, _⟩ => ⟨S32x2048x1024, .f32⟩
  | .hbm, ⟨119, _⟩ => ⟨S32x2048x1024, .f32⟩
  | .hbm, ⟨120, _⟩ => ⟨S1x1x1024, .f32⟩
  | .hbm, ⟨121, _⟩ => ⟨S32x2048x1024, .f32⟩
  | .hbm, ⟨122, _⟩ => ⟨S32x2048x1024, .f32⟩
  | .hbm, ⟨123, _⟩ => ⟨S1x1x1024, .f32⟩
  | .hbm, ⟨124, _⟩ => ⟨S32x2048x1024, .f32⟩
  | .hbm, ⟨125, _⟩ => ⟨S32x2048x1024, .f32⟩
  | _, _ => ⟨S2x32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_7 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_8 : Ref sig .tc := ⟨.hbm, 97, rfl⟩
abbrev main_v67 : Ref sig .tc := ⟨.hbm, 98, rfl⟩
abbrev main_v68 : Ref sig .tc := ⟨.hbm, 99, rfl⟩
abbrev main_cst_9 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_10 : Ref sig .tc := ⟨.hbm, 106, rfl⟩
abbrev main_v74 : Ref sig .tc := ⟨.hbm, 107, rfl⟩
abbrev main_v75 : Ref sig .tc := ⟨.hbm, 108, rfl⟩
abbrev main_cst_11 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_12 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩

abbrev nD : Nat := 1
abbrev τ : Topo := Topo.v7x

variable {F : FTy → Type} [FloatOps F]
-- ==== Mod.lean ====
abbrev S40x1024 : Shape := ⟨2, ![40, 1024]⟩
abbrev S1024x6144 : Shape := ⟨2, ![1024, 6144]⟩
abbrev S6144 : Shape := ⟨1, ![6144]⟩
abbrev S1x6144 : Shape := ⟨2, ![1, 6144]⟩
abbrev S40x6144 : Shape := ⟨2, ![40, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S40x6144, .f32⟩
  | .local _ .vmem, ⟨0, _⟩ => ⟨S40x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefModIdeal.lean ====
abbrev S40x1024 : Shape := ⟨2, ![40, 1024]⟩
abbrev S1024x6144 : Shape := ⟨2, ![1024, 6144]⟩
abbrev S6144 : Shape := ⟨1, ![6144]⟩
abbrev S_ : Shape := ⟨0, ![]⟩
abbrev S40x6144 : Shape := ⟨2, ![40, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S1024x6144, .f32⟩
  | .hbm, ⟨2, _⟩ => ⟨S6144, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S40x6144, .f32⟩
  | .hbm, ⟨13, _⟩ => ⟨S1x6144, .f32⟩
  | .hbm, ⟨14, _⟩ => ⟨S40x6144, .f32⟩
  | .hbm, ⟨15, _⟩ => ⟨S40x6144, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== OutCtx.lean ====
abbrev S32x256x512 : Shape := ⟨3, ![32, 256, 512]⟩
abbrev S1024x1024 : Shape := ⟨2, ![1024, 1024]⟩
abbrev S32x256x1024 : Shape := ⟨3, ![32, 256, 1024]⟩
abbrev S32x1x1024 : Shape := ⟨3, ![32, 1, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S1x1024 : Shape := ⟨2, ![1, 1024]⟩
abbrev S1x256x512 : Shape := ⟨3, ![1, 256, 512]⟩
abbrev S1x256x1024 : Shape := ⟨3, ![1, 256, 1024]⟩
abbrev S1x1x1024 : Shape := ⟨3, ![1, 1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 24
  | .vmem => 24
  | .smem => 0
  | _ => 0

abbrev bufTy : (tb : Table) → Fin (tcTables nBuf tb) → BufTy
  | .hbm, ⟨0, _⟩ => ⟨S32x256x512, .f32⟩
  | .hbm, ⟨1, _⟩ => ⟨S32x256x512, .f32⟩
  | .hbm, ⟨2, _⟩ => ⟨S1024x1024, .f32⟩
  | .hbm, ⟨3, _⟩ => ⟨S32x256x1024, .f32⟩
  | .hbm, ⟨4, _⟩ => ⟨S32x1x1024, .f32⟩
  | .hbm, ⟨5, _⟩ => ⟨S1024, .f32⟩
  | .hbm, ⟨6, _⟩ => ⟨S1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S1024, .f32⟩
  | .hbm, ⟨14, _⟩ => ⟨S1024x1024, .bf16⟩
  | .hbm, ⟨15, _⟩ => ⟨S1024x4096, .bf16⟩
  | .hbm, ⟨16, _⟩ => ⟨S4096x1024, .bf16⟩
  | .hbm, ⟨17, _⟩ => ⟨S512x1024, .bf16⟩
  | .hbm, ⟨18, _⟩ => ⟨S512x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S32x256x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S512x1024, .bf16⟩
  | .local _ .vmem, ⟨5, _⟩ => ⟨S512x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x4096, .bf16⟩
  | .local _ .vmem, ⟨19, _⟩ => ⟨S4096x1024, .bf16⟩
  | .local _ .vmem, ⟨20, _⟩ => ⟨S1x1024, .f32⟩
  | .local _ .vmem, ⟨21, _⟩ => ⟨S1x1024, .f32⟩
  | .local _ .vmem, ⟨22, _⟩ => ⟨S1x256x1024, .f32⟩
  | .local _ .vmem, ⟨23, _⟩ => ⟨S1x256x1024, .f32⟩
  | _, _ => ⟨S32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== RefOutCtxIdeal.lean ====
abbrev S32x256x512 : Shape := ⟨3, ![32, 256, 512]⟩
abbrev S1024x1024 : Shape := ⟨2, ![1024, 1024]⟩
abbrev S32x256x1024 : Shape := ⟨3, ![32, 256, 1024]⟩
abbrev S32x1x1024 : Shape := ⟨3, ![32, 1, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x4096 : Shape := ⟨3, ![32, 256, 4096]⟩

abbrev nBuf : Space → Nat
  | .hbm => 99
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S32x256x512, .f32⟩
  | .hbm, ⟨2, _⟩ => ⟨S1024x1024, .f32⟩
  | .hbm, ⟨3, _⟩ => ⟨S32x256x1024, .f32⟩
  | .hbm, ⟨4, _⟩ => ⟨S32x1x1024, .f32⟩
  | .hbm, ⟨5, _⟩ => ⟨S1024, .f32⟩
  | .hbm, ⟨6, _⟩ => ⟨S1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S1024, .f32⟩
  | .hbm, ⟨14, _⟩ => ⟨S32x256x1024, .f32⟩
  | .hbm, ⟨15, _⟩ => ⟨S32x256x1024, .f32⟩
  | .hbm, ⟨16, _⟩ => ⟨S_, .f32⟩
  | .hbm, ⟨17, _⟩ => ⟨S32x256x1024, .f32⟩
  | .hbm, ⟨18, _⟩ => ⟨S32x256x1024, .f32⟩
  | .hbm, ⟨19, _⟩ => ⟨S32x256x1024, .f32⟩
  | .hbm, ⟨20, _⟩ => ⟨S32x256x1024, .f32⟩
  | .hbm, ⟨21, _⟩ => ⟨S32x256x1024, .f32⟩
  | .hbm, ⟨22, _⟩ => ⟨S_, .f32⟩
  | .hbm, ⟨23, _⟩ => ⟨S32x256, .f32⟩
  | .hbm, ⟨24, _⟩ => ⟨S32x256x1, .f32⟩
  | .hbm, ⟨25, _⟩ => ⟨S_, .f32⟩
  | .hbm, ⟨26, _⟩ => ⟨S32x256x1, .f32⟩
  | .hbm, ⟨27, _⟩ => ⟨S32x256x1, .f32⟩
  | .hbm, ⟨28, _⟩ => ⟨S32x256x1024, .f32⟩
  | .hbm, ⟨29, _⟩ => ⟨S32x256x1024, .f32⟩
  | .hbm, ⟨30, _⟩ => ⟨S32x256x1024, .f32⟩
  | .hbm, ⟨31, _⟩ => ⟨S_, .f32⟩
  | .hbm, ⟨32, _⟩ => ⟨S32x256, .f32⟩
  | .hbm, ⟨33, _⟩ => ⟨S32x256x1, .f32⟩
  | .hbm, ⟨34, _⟩ => ⟨S_, .f32⟩
  | .hbm, ⟨35, _⟩ => ⟨S32x256x1, .f32⟩
  | .hbm, ⟨36, _⟩ => ⟨S32x256x1, .f32⟩
  | .hbm, ⟨37, _⟩ => ⟨S32x256x1024, .f32⟩
  | .hbm, ⟨38, _⟩ => ⟨S32x256x1024, .f32⟩
  | .hbm, ⟨39, _⟩ => ⟨S_, .f32⟩
  | .hbm, ⟨40, _⟩ => ⟨S32x256x1, .f32⟩
  | .hbm, ⟨41, _⟩ => ⟨S32x256x1, .f32⟩
  | .hbm, ⟨42, _⟩ => ⟨S32x256x1, .f32⟩
  | .hbm, ⟨43, _⟩ => ⟨S32x256x1024, .f32⟩
  | .hbm, ⟨44, _⟩ => ⟨S32x256x1024, .f32⟩
  | .hbm, ⟨45, _⟩ => ⟨S1x1x1024, .f32⟩
  | .hbm, ⟨46, _⟩ => ⟨S32x256x1024, .f32⟩
  | .hbm, ⟨47, _⟩ => ⟨S32x256x1024, .f32⟩
  | .hbm, ⟨48, _⟩ => ⟨S1x1x1024, .f32⟩
  | .hbm, ⟨49, _⟩ => ⟨S32x256x1024, .f32⟩
  | .hbm, ⟨50, _⟩ => ⟨S32x256x1024, .f32⟩
  | .hbm, ⟨51, _⟩ => ⟨S_, .f32⟩
  | .hbm, ⟨52, _⟩ => ⟨S32x256x1024, .f32⟩
  | .hbm, ⟨53, _⟩ => ⟨S32x256x1024, .f32⟩
  | .hbm, ⟨54, _⟩ => ⟨S_, .f32⟩
  | .hbm, ⟨55, _⟩ => ⟨S32x1x1024, .f32⟩
  | .hbm, ⟨56, _⟩ => ⟨S32x1x1024, .f32⟩
  | .hbm, ⟨57, _⟩ => ⟨S32x256x1024, .f32⟩
  | .hbm, ⟨58, _⟩ => ⟨S32x256x1024, .f32⟩
  | .hbm, ⟨59, _⟩ => ⟨S32x256x1024, .f32⟩
  | .hbm, ⟨60, _⟩ => ⟨S32x256x1024, .f32⟩
  | .hbm, ⟨61, _⟩ => ⟨S32x256x4096, .f32⟩
  | .hbm, ⟨62, _⟩ => ⟨S_, .f32⟩
  | .hbm, ⟨63, _⟩ => ⟨S32x256x4096, .f32⟩
  | .hbm, ⟨64, _⟩ => ⟨S32x256x4096, .f32⟩
  | .hbm, ⟨65, _⟩ => ⟨S32x256x4096, .f32⟩
  | .hbm, ⟨66, _⟩ => ⟨S32x256x1024, .f32⟩
  | .hbm, ⟨67, _⟩ => ⟨S32x256x1024, .f32⟩
  | .hbm, ⟨68, _⟩ => ⟨S32x256x1024, .f32⟩
  | .hbm, ⟨69, _⟩ => ⟨S32x256x1024, .f32⟩
  | .hbm, ⟨70, _⟩ => ⟨S_, .f32⟩
  | .hbm, ⟨71, _⟩ => ⟨S32x256, .f32⟩
  | .hbm, ⟨72, _⟩ => ⟨S32x256x1, .f32⟩
  | .hbm, ⟨73, _⟩ => ⟨S_, .f32⟩
  | .hbm, ⟨74, _⟩ => ⟨S32x256x1, .f32⟩
  | .hbm, ⟨75, _⟩ => ⟨S32x256x1, .f32⟩
  | .hbm, ⟨76, _⟩ => ⟨S32x256x1024, .f32⟩
  | .hbm, ⟨77, _⟩ => ⟨S32x256x1024, .f32⟩
  | .hbm, ⟨78, _⟩ => ⟨S32x256x1024, .f32⟩
  | .hbm, ⟨79, _⟩ => ⟨S_, .f32⟩
  | .hbm, ⟨80, _⟩ => ⟨S32x256, .f32⟩
  | .hbm, ⟨81, _⟩ => ⟨S32x256x1, .f32⟩
  | .hbm, ⟨82, _⟩ => ⟨S_, .f32⟩
  | .hbm, ⟨83, _⟩ => ⟨S32x256x1, .f32⟩
  | .hbm, ⟨84, _⟩ => ⟨S32x256x1, .f32⟩
  | .hbm, ⟨85, _⟩ => ⟨S32x256x1024, .f32⟩
  | .hbm, ⟨86, _⟩ => ⟨S32x256x1024, .f32⟩
  | .hbm, ⟨87, _⟩ => ⟨S_, .f32⟩
  | .hbm, ⟨88, _⟩ => ⟨S32x256x1, .f32⟩
  | .hbm, ⟨89, _⟩ => ⟨S32x256x1, .f32⟩
  | .hbm, ⟨90, _⟩ => ⟨S32x256x1, .f32⟩
  | .hbm, ⟨91, _⟩ => ⟨S32x256x1024, .f32⟩
  | .hbm, ⟨92, _⟩ => ⟨S32x256x1024, .f32⟩
  | .hbm, ⟨93, _⟩ => ⟨S1x1x1024, .f32⟩
  | .hbm, ⟨94, _⟩ => ⟨S32x256x1024, .f32⟩
  | .hbm, ⟨95, _⟩ => ⟨S32x256x1024, .f32⟩
  | .hbm, ⟨96, _⟩ => ⟨S1x1x1024, .f32⟩
  | .hbm, ⟨97, _⟩ => ⟨S32x256x1024, .f32⟩
  | .hbm, ⟨98, _⟩ => ⟨S32x256x1024, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]
-- ==== InCtx.lean ====
abbrev S32x256x1024 : Shape := ⟨3, ![32, 256, 1024]⟩
abbrev S32x1x1024 : Shape := ⟨3, ![32, 1, 1024]⟩
abbrev S1024x2304 : Shape := ⟨2, ![1024, 2304]⟩
abbrev S1024x1536 : Shape := ⟨2, ![1024, 1536]⟩
abbrev S1024x768 : Shape := ⟨2, ![1024, 768]⟩
abbrev S32x256x1536 : Shape := ⟨3, ![32, 256, 1536]⟩
abbrev S32x256x768 : Shape := ⟨3, ![32, 256, 768]⟩
abbrev S1x256x1024 : Shape := ⟨3, ![1, 256, 1024]⟩
abbrev S1x1x1024 : Shape := ⟨3, ![1, 1, 1024]⟩
abbrev S1x256x1536 : Shape := ⟨3, ![1, 256, 1536]⟩
abbrev S1x256x768 : Shape := ⟨3, ![1, 256, 768]⟩
abbrev S256x1024 : Shape := ⟨2, ![256, 1024]⟩
abbrev S1x1024 : Shape := ⟨2, ![1, 1024]⟩
abbrev S256x1536 : Shape := ⟨2, ![256, 1536]⟩
abbrev S256x768 : Shape := ⟨2, ![256, 768]⟩

abbrev nBuf : Space → Nat
  | .hbm => 9
  | .vmem => 12
  | .smem => 0
  | _ => 0

abbrev bufTy : (tb : Table) → Fin (tcTables nBuf tb) → BufTy
  | .hbm, ⟨0, _⟩ => ⟨S32x256x1024, .f32⟩
  | .hbm, ⟨1, _⟩ => ⟨S32x1x1024, .f32⟩
  | .hbm, ⟨2, _⟩ => ⟨S32x1x1024, .f32⟩
  | .hbm, ⟨3, _⟩ => ⟨S1024x2304, .f32⟩
  | .hbm, ⟨4, _⟩ => ⟨S1024x2304, .bf16⟩
  | .hbm, ⟨5, _⟩ => ⟨S1024x1536, .bf16⟩
  | .hbm, ⟨6, _⟩ => ⟨S1024x768, .bf16⟩
  | .hbm, ⟨7, _⟩ => ⟨S32x256x1536, .f32⟩
  | .hbm, ⟨8, _⟩ => ⟨S32x256x768, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1024x768, .bf16⟩
  | .local _ .vmem, ⟨8, _⟩ => ⟨S1x256x1536, .f32⟩
  | .local _ .vmem, ⟨9, _⟩ => ⟨S1x256x1536, .f32⟩
  | .local _ .vmem, ⟨10, _⟩ => ⟨S1x256x768, .f32⟩
  | .local _ .vmem, ⟨11, _⟩ => ⟨S1x256x768, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefInCtxIdeal.lean ====
abbrev S32x256x1024 : Shape := ⟨3, ![32, 256, 1024]⟩
abbrev S32x1x1024 : Shape := ⟨3, ![32, 1, 1024]⟩
abbrev S1024x2304 : Shape := ⟨2, ![1024, 2304]⟩
abbrev S_ : Shape := ⟨0, ![]⟩
abbrev S32x256x2304 : Shape := ⟨3, ![32, 256, 2304]⟩
abbrev S32x256x1536 : Shape := ⟨3, ![32, 256, 1536]⟩
abbrev S32x256x768 : Shape := ⟨3, ![32, 256, 768]⟩

abbrev nBuf : Space → Nat
  | .hbm => 14
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x1x1024, .f32⟩
  | .hbm, ⟨2, _⟩ => ⟨S32x1x1024, .f32⟩
  | .hbm, ⟨3, _⟩ => ⟨S1024x2304, .f32⟩
  | .hbm, ⟨4, _⟩ => ⟨S_, .f32⟩
  | .hbm, ⟨5, _⟩ => ⟨S32x1x1024, .f32⟩
  | .hbm, ⟨6, _⟩ => ⟨S32x1x1024, .f32⟩
  | .hbm, ⟨7, _⟩ => ⟨S32x256x1024, .f32⟩
  | .hbm, ⟨8, _⟩ => ⟨S32x256x1024, .f32⟩
  | .hbm, ⟨9, _⟩ => ⟨S32x256x1024, .f32⟩
  | .hbm, ⟨10, _⟩ => ⟨S32x256x1024, .f32⟩
  | .hbm, ⟨11, _⟩ => ⟨S32x256x2304, .f32⟩
  | .hbm, ⟨12, _⟩ => ⟨S32x256x1536, .f32⟩
  | .hbm, ⟨13, _⟩ => ⟨S32x256x768, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== OddCtx.lean ====
abbrev S32x256x1024 : Shape := ⟨3, ![32, 256, 1024]⟩
abbrev S32x1x1024 : Shape := ⟨3, ![32, 1, 1024]⟩
abbrev S1024x3984 : Shape := ⟨2, ![1024, 3984]⟩
abbrev S1024x1920 : Shape := ⟨2, ![1024, 1920]⟩
abbrev S1024x2064 : Shape := ⟨2, ![1024, 2064]⟩
abbrev S1024x16 : Shape := ⟨2, ![1024, 16]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S1024x2304 : Shape := ⟨2, ![1024, 2304]⟩
abbrev S32x256x1920 : Shape := ⟨3, ![32, 256, 1920]⟩
abbrev S32x256x2304 : Shape := ⟨3, ![32, 256, 2304]⟩
abbrev S1x256x1024 : Shape := ⟨3, ![1, 256, 1024]⟩
abbrev S1x1x1024 : Shape := ⟨3, ![1, 1, 1024]⟩
abbrev S1x256x1920 : Shape := ⟨3, ![1, 256, 1920]⟩
abbrev S1x256x2304 : Shape := ⟨3, ![1, 256, 2304]⟩
abbrev S256x1024 : Shape := ⟨2, ![256, 1024]⟩
abbrev S1x1024 : Shape := ⟨2, ![1, 1024]⟩
abbrev S256x1920 : Shape := ⟨2, ![256, 1920]⟩
abbrev S256x2304 : Shape := ⟨2, ![256, 2304]⟩

abbrev nBuf : Space → Nat
  | .hbm => 21
  | .vmem => 12
  | .smem => 0
  | _ => 0

abbrev bufTy : (tb : Table) → Fin (tcTables nBuf tb) → BufTy
  | .hbm, ⟨0, _⟩ => ⟨S32x256x1024, .f32⟩
  | .hbm, ⟨1, _⟩ => ⟨S32x1x1024, .f32⟩
  | .hbm, ⟨2, _⟩ => ⟨S32x1x1024, .f32⟩
  | .hbm, ⟨3, _⟩ => ⟨S1024x3984, .f32⟩
  | .hbm, ⟨4, _⟩ => ⟨S1024x1920, .f32⟩
  | .hbm, ⟨5, _⟩ => ⟨S1024x1920, .bf16⟩
  | .hbm, ⟨6, _⟩ => ⟨S1024x2064, .f32⟩
  | .hbm, ⟨7, _⟩ => ⟨S1024x16, .f32⟩
  | .hbm, ⟨8, _⟩ => ⟨S1024x2048, .f32⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x8, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x2304, .f32⟩
  | .hbm, ⟨18, _⟩ => ⟨S1024x2304, .bf16⟩
  | .hbm, ⟨19, _⟩ => ⟨S32x256x1920, .f32⟩
  | .hbm, ⟨20, _⟩ => ⟨S32x256x2304, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1920, .bf16⟩
  | .local _ .vmem, ⟨7, _⟩ => ⟨S1024x2304, .bf16⟩
  | .local _ .vmem, ⟨8, _⟩ => ⟨S1x256x1920, .f32⟩
  | .local _ .vmem, ⟨9, _⟩ => ⟨S1x256x1920, .f32⟩
  | .local _ .vmem, ⟨10, _⟩ => ⟨S1x256x2304, .f32⟩
  | .local _ .vmem, ⟨11, _⟩ => ⟨S1x256x2304, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefOddCtxIdeal.lean ====
abbrev S32x256x1024 : Shape := ⟨3, ![32, 256, 1024]⟩
abbrev S32x1x1024 : Shape := ⟨3, ![32, 1, 1024]⟩
abbrev S1024x3984 : Shape := ⟨2, ![1024, 3984]⟩
abbrev S_ : Shape := ⟨0, ![]⟩
abbrev S32x256x3984 : Shape := ⟨3, ![32, 256, 3984]⟩
abbrev S32x256x120 : Shape := ⟨3, ![32, 256, 120]⟩
abbrev S32x256x2048 : Shape := ⟨3, ![32, 256, 2048]⟩
abbrev S32x256x8 : Shape := ⟨3, ![32, 256, 8]⟩
abbrev S32x256x2304 : Shape := ⟨3, ![32, 256, 2304]⟩
abbrev S32x256x1920 : Shape := ⟨3, ![32, 256, 1920]⟩

abbrev nBuf : Space → Nat
  | .hbm => 19
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x1x1024, .f32⟩
  | .hbm, ⟨2, _⟩ => ⟨S32x1x1024, .f32⟩
  | .hbm, ⟨3, _⟩ => ⟨S1024x3984, .f32⟩
  | .hbm, ⟨4, _⟩ => ⟨S_, .f32⟩
  | .hbm, ⟨5, _⟩ => ⟨S32x1x1024, .f32⟩
  | .hbm, ⟨6, _⟩ => ⟨S32x1x1024, .f32⟩
  | .hbm, ⟨7, _⟩ => ⟨S32x256x1024, .f32⟩
  | .hbm, ⟨8, _⟩ => ⟨S32x256x1024, .f32⟩
  | .hbm, ⟨9, _⟩ => ⟨S32x256x1024, .f32⟩
  | .hbm, ⟨10, _⟩ => ⟨S32x256x1024, .f32⟩
  | .hbm, ⟨11, _⟩ => ⟨S32x256x3984, .f32⟩
  | .hbm, ⟨12, _⟩ => ⟨S_, .f32⟩
  | .hbm, ⟨13, _⟩ => ⟨S32x256x120, .f32⟩
  | .hbm, ⟨14, _⟩ => ⟨S32x256x2048, .f32⟩
  | .hbm, ⟨15, _⟩ => ⟨S32x256x8, .f32⟩
  | .hbm, ⟨16, _⟩ => ⟨S32x256x8, .f32⟩
  | .hbm, ⟨17, _⟩ => ⟨S32x256x2304, .f32⟩
  | .hbm, ⟨18, _⟩ => ⟨S32x256x1920, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Feat.lean ====
abbrev S32x2048x1920 : Shape := ⟨3, ![32, 2048, 1920]⟩
abbrev S1920 : Shape := ⟨1, ![1920]⟩
abbrev S2x512 : Shape := ⟨2, ![2, 512]⟩
abbrev S2x64x512 : Shape := ⟨3, ![2, 64, 512]⟩
abbrev S128x512 : Shape := ⟨2, ![128, 512]⟩
abbrev S512 : Shape := ⟨1, ![512]⟩
abbrev S8x64 : Shape := ⟨2, ![8, 64]⟩
abbrev S_ : Shape := ⟨0, ![]⟩
abbrev S128x1024 : Shape := ⟨2, ![128, 1024]⟩
abbrev S1x64x512 : Shape := ⟨3, ![1, 64, 512]⟩
abbrev S64x512 : Shape := ⟨2, ![64, 512]⟩
abbrev S1 : Shape := ⟨1, ![1]⟩
abbrev S2 : Shape := ⟨1, ![2]⟩
abbrev S1x1920 : Shape := ⟨2, ![1, 1920]⟩
abbrev S1x1024 : Shape := ⟨2, ![1, 1024]⟩
abbrev S1x512 : Shape := ⟨2, ![1, 512]⟩
abbrev S512x1 : Shape := ⟨2, ![512, 1]⟩
abbrev S512x512 : Shape := ⟨2, ![512, 512]⟩
abbrev S32x2048x1536 : Shape := ⟨3, ![32, 2048, 1536]⟩
abbrev S32x2048x512 : Shape := ⟨3, ![32, 2048, 512]⟩
abbrev S2x32x2048x512 : Shape := ⟨4, ![2, 32, 2048, 512]⟩
abbrev S2x32x2048x1024 : Shape := ⟨4, ![2, 32, 2048, 1024]⟩
abbrev S1x256x1920 : Shape := ⟨3, ![1, 256, 1920]⟩
abbrev S1x8x1920 : Shape := ⟨3, ![1, 8, 1920]⟩
abbrev S1x256x1536 : Shape := ⟨3, ![1, 256, 1536]⟩
abbrev S1x256x512 : Shape := ⟨3, ![1, 256, 512]⟩
abbrev S2x1x256x512 : Shape := ⟨4, ![2, 1, 256, 512]⟩
abbrev S2x1x256x1024 : Shape := ⟨4, ![2, 1, 256, 1024]⟩
abbrev S256x1920 : Shape := ⟨2, ![256, 1920]⟩
abbrev S8x1920 : Shape := ⟨2, ![8, 1920]⟩
abbrev S256x1 : Shape := ⟨2, ![256, 1]⟩
abbrev S256x512 : Shape := ⟨2, ![256, 512]⟩
abbrev S256x128 : Shape := ⟨2, ![256, 128]⟩
abbrev S256x1024 : Shape := ⟨2, ![256, 1024]⟩
abbrev S256x1536 : Shape := ⟨2, ![256, 1536]⟩
abbrev S1x1x256x512 : Shape := ⟨4, ![1, 1, 256, 512]⟩
abbrev S1x1x256x1024 : Shape := ⟨4, ![1, 1, 256, 1024]⟩

abbrev nBuf : Space → Nat
  | .hbm => 85
  | .vmem => 26
  | .smem => 0
  | _ => 0

abbrev bufTy : (tb : Table) → Fin (tcTables nBuf tb) → BufTy
  | .hbm, ⟨0, _⟩ => ⟨S32x2048x1920, .f32⟩
  | .hbm, ⟨1, _⟩ => ⟨S1920, .f32⟩
  | .hbm, ⟨2, _⟩ => ⟨S2x512, .f32⟩
  | .hbm, ⟨3, _⟩ => ⟨S2x64x512, .f32⟩
  | .hbm, ⟨4, _⟩ => ⟨S2x512, .f32⟩
  | .hbm, ⟨5, _⟩ => ⟨S2x64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S8x64, .f32⟩
  | .hbm, ⟨10, _⟩ => ⟨S_, .f32⟩
  | .hbm, ⟨11, _⟩ => ⟨S128x1024, .f32⟩
  | .hbm, ⟨12, _⟩ => ⟨S1x64x512, .f32⟩
  | .hbm, ⟨13, _⟩ => ⟨S64x512, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S128x1024, .f32⟩
  | .hbm, ⟨20, _⟩ => ⟨S1x64x512, .f32⟩
  | .hbm, ⟨21, _⟩ => ⟨S64x512, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S128x1024, .f32⟩
  | .hbm, ⟨28, _⟩ => ⟨S128x1024, .bf16⟩
  | .hbm, ⟨29, _⟩ => ⟨S_, .f32⟩
  | .hbm, ⟨30, _⟩ => ⟨S128x1024, .f32⟩
  | .hbm, ⟨31, _⟩ => ⟨S1x64x512, .f32⟩
  | .hbm, ⟨32, _⟩ => ⟨S64x512, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S128x1024, .f32⟩
  | .hbm, ⟨39, _⟩ => ⟨S1x64x512, .f32⟩
  | .hbm, ⟨40, _⟩ => ⟨S64x512, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S128x1024, .f32⟩
  | .hbm, ⟨47, _⟩ => ⟨S128x1024, .bf16⟩
  | .hbm, ⟨48, _⟩ => ⟨S1x1920, .f32⟩
  | .hbm, ⟨49, _⟩ => ⟨S1x1024, .f32⟩
  | .hbm, ⟨50, _⟩ => ⟨S1x1024, .f32⟩
  | .hbm, ⟨51, _⟩ => ⟨S128x512, .bf16⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S512, .i32⟩
  | .hbm, ⟨56, _⟩ => ⟨S_, .i32⟩
  | .hbm, ⟨57, _⟩ => ⟨S_, .i32⟩
  | .hbm, ⟨58, _⟩ => ⟨S512, .i32⟩
  | .hbm, ⟨59, _⟩ => ⟨S512, .i32⟩
  | .hbm, ⟨60, _⟩ => ⟨S512, .i32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S512, .i32⟩
  | .hbm, ⟨65, _⟩ => ⟨S512, .i32⟩
  | .hbm, ⟨66, _⟩ => ⟨S_, .i32⟩
  | .hbm, ⟨67, _⟩ => ⟨S512, .i32⟩
  | .hbm, ⟨68, _⟩ => ⟨S512, .i1⟩
  | .hbm, ⟨69, _⟩ => ⟨S512, .i1⟩
  | .hbm, ⟨70, _⟩ => ⟨S_, .i32⟩
  | .hbm, ⟨71, _⟩ => ⟨S512, .i32⟩
  | .hbm, ⟨72, _⟩ => ⟨S512, .i32⟩
  | .hbm, ⟨73, _⟩ => ⟨S512, .i32⟩
  | .hbm, ⟨74, _⟩ => ⟨S512x1, .i32⟩
  | .hbm, ⟨75, _⟩ => ⟨S1x512, .i32⟩
  | .hbm, ⟨76, _⟩ => ⟨S512x512, .i32⟩
  | .hbm, ⟨77, _⟩ => ⟨S512x512, .i32⟩
  | .hbm, ⟨78, _⟩ => ⟨S512x512, .i1⟩
  | .hbm, ⟨79, _⟩ => ⟨S512x512, .bf16⟩
  | .hbm, ⟨80, _⟩ => ⟨S32x2048x1536, .bf16⟩
  | .hbm, ⟨81, _⟩ => ⟨S32x2048x512, .f32⟩
  | .hbm, ⟨82, _⟩ => ⟨S32x2048x512, .f32⟩
  | .hbm, ⟨83, _⟩ => ⟨S2x32x2048x512, .f32⟩
  | .hbm, ⟨84, _⟩ => ⟨S2x32x2048x1024, .bf16⟩
  | .local _ .vmem, ⟨0, _⟩ => ⟨S1x256x1920, .f32⟩
  | .local _ .vmem, ⟨1, _⟩ => ⟨S1x256x1920, .f32⟩
  | .local _ .vmem, ⟨2, _⟩ => ⟨S1x8x1920, .f32⟩
  | .local _ .vmem, ⟨3, _⟩ => ⟨S1x8x1920, .f32⟩
  | .local _ .vmem, ⟨4, _⟩ => ⟨S1x8x1920, .f32⟩
  | .local _ .vmem, ⟨5, _⟩ => ⟨S1x8x1920, .f32⟩
  | .local _ .vmem, ⟨6, _⟩ => ⟨S1x1920, .f32⟩
  | .local _ .vmem, ⟨7, _⟩ => ⟨S1x1024, .f32⟩
  | .local _ .vmem, ⟨8, _⟩ => ⟨S128x1024, .bf16⟩
  | .local _ .vmem, ⟨9, _⟩ => ⟨S1x1024, .f32⟩
  | .local _ .vmem, ⟨10, _⟩ => ⟨S128x1024, .bf16⟩
  | .local _ .vmem, ⟨11, _⟩ => ⟨S128x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .bf16⟩
  | .local _ .vmem, ⟨16, _⟩ => ⟨S1x256x1536, .bf16⟩
  | .local _ .vmem, ⟨17, _⟩ => ⟨S1x256x1536, .bf16⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S2x1x256x512, .f32⟩
  | .local _ .vmem, ⟨23, _⟩ => ⟨S2x1x256x512, .f32⟩
  | .local _ .vmem, ⟨24, _⟩ => ⟨S2x1x256x1024, .bf16⟩
  | .local _ .vmem, ⟨25, _⟩ => ⟨S2x1x256x1024, .bf16⟩
  | _, _ => ⟨S32x2048x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_c_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_c : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_0 : Ref sig .tc := ⟨.hbm, 70, rfl⟩
abbrev main_call0_v12 : Ref sig .tc := ⟨.hbm, 71, rfl⟩
abbrev main_call0_v13 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43_0 : Ref sig .tc := ⟨.hbm, 80, rfl⟩
abbrev main_v43_1 : Ref sig .tc := ⟨.hbm, 81, rfl⟩
abbrev main_v43_2 : Ref sig .tc := ⟨.hbm, 82, rfl⟩
abbrev main_v43_3 : Ref sig .tc := ⟨.hbm, 83, rfl⟩
abbrev main_v43_4 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2x1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2x1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== RefFeatIdeal.lean ====
abbrev S32x2048x1920 : Shape := ⟨3, ![32, 2048, 1920]⟩
abbrev S1920 : Shape := ⟨1, ![1920]⟩
abbrev S2x512 : Shape := ⟨2, ![2, 512]⟩
abbrev S2x64x512 : Shape := ⟨3, ![2, 64, 512]⟩
abbrev S128x512 : Shape := ⟨2, ![128, 512]⟩
abbrev S512 : Shape := ⟨1, ![512]⟩
abbrev S8x64 : Shape := ⟨2, ![8, 64]⟩
abbrev S_ : Shape := ⟨0, ![]⟩
abbrev S32x2050x1920 : Shape := ⟨3, ![32, 2050, 1920]⟩
abbrev S1x1x1920 : Shape := ⟨3, ![1, 1, 1920]⟩
abbrev S32x2048x512 : Shape := ⟨3, ![32, 2048, 512]⟩
abbrev S1x1x512 : Shape := ⟨3, ![1, 1, 512]⟩
abbrev S32x2048x8x64 : Shape := ⟨4, ![32, 2048, 8, 64]⟩
abbrev S32x2048x8 : Shape := ⟨3, ![32, 2048, 8]⟩
abbrev S32x2048x8x1 : Shape := ⟨4, ![32, 2048, 8, 1]⟩
abbrev S32x2048x128 : Shape := ⟨3, ![32, 2048, 128]⟩
abbrev S32x2048x1536 : Shape := ⟨3, ![32, 2048, 1536]⟩

abbrev nBuf : Space → Nat
  | .hbm => 54
  | .vmem => 0
  | .smem => 0
  | _ => 0

abbrev bufTy : (tb : Table) → Fin (tcTables nBuf tb) → BufTy
  | .hbm, ⟨0, _⟩ => ⟨S32x2048x1920, .f32⟩
  | .hbm, ⟨1, _⟩ => ⟨S1920, .f32⟩
  | .hbm, ⟨2, _⟩ => ⟨S2x512, .f32⟩
  | .hbm, ⟨3, _⟩ => ⟨S2x64x512, .f32⟩
  | .hbm, ⟨4, _⟩ => ⟨S2x512, .f32⟩
  | .hbm, ⟨5, _⟩ => ⟨S2x64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S8x64, .f32⟩
  | .hbm, ⟨10, _⟩ => ⟨S_, .i32⟩
  | .hbm, ⟨11, _⟩ => ⟨S_, .f32⟩
  | .hbm, ⟨12, _⟩ => ⟨S32x2050x1920, .f32⟩
  | .hbm, ⟨13, _⟩ => ⟨S32x2048x1920, .f32⟩
  | .hbm, ⟨14, _⟩ => ⟨S32x2048x1920, .f32⟩
  | .hbm, ⟨15, _⟩ => ⟨S32x2048x1920, .f32⟩
  | .hbm, ⟨16, _⟩ => ⟨S_, .f32⟩
  | .hbm, ⟨17, _⟩ => ⟨S32x2048x1920, .f32⟩
  | .hbm, ⟨18, _⟩ => ⟨S32x2048x1920, .f32⟩
  | .hbm, ⟨19, _⟩ => ⟨S32x2048x1920, .f32⟩
  | .hbm, ⟨20, _⟩ => ⟨S1x1x1920, .f32⟩
  | .hbm, ⟨21, _⟩ => ⟨S32x2048x1920, .f32⟩
  | .hbm, ⟨22, _⟩ => ⟨S32x2048x1920, .f32⟩
  | .hbm, ⟨23, _⟩ => ⟨S32x2048x1920, .f32⟩
  | .hbm, ⟨24, _⟩ => ⟨S32x2048x512, .f32⟩
  | .hbm, ⟨25, _⟩ => ⟨S32x2048x512, .f32⟩
  | .hbm, ⟨26, _⟩ => ⟨S32x2048x512, .f32⟩
  | .hbm, ⟨27, _⟩ => ⟨S1x1x512, .f32⟩
  | .hbm, ⟨28, _⟩ => ⟨S32x2048x512, .f32⟩
  | .hbm, ⟨29, _⟩ => ⟨S32x2048x512, .f32⟩
  | .hbm, ⟨30, _⟩ => ⟨S32x2048x8x64, .f32⟩
  | .hbm, ⟨31, _⟩ => ⟨S32x2048x8x64, .f32⟩
  | .hbm, ⟨32, _⟩ => ⟨S_, .f32⟩
  | .hbm, ⟨33, _⟩ => ⟨S32x2048x8, .f32⟩
  | .hbm, ⟨34, _⟩ => ⟨S32x2048x8x1, .f32⟩
  | .hbm, ⟨35, _⟩ => ⟨S_, .f32⟩
  | .hbm, ⟨36, _⟩ => ⟨S32x2048x8x1, .f32⟩
  | .hbm, ⟨37, _⟩ => ⟨S32x2048x8x1, .f32⟩
  | .hbm, ⟨38, _⟩ => ⟨S32x2048x8x1, .f32⟩
  | .hbm, ⟨39, _⟩ => ⟨S32x2048x8x64, .f32⟩
  | .hbm, ⟨40, _⟩ => ⟨S32x2048x8x64, .f32⟩
  | .hbm, ⟨41, _⟩ => ⟨S32x2048x512, .f32⟩
  | .hbm, ⟨42, _⟩ => ⟨S32x2048x128, .f32⟩
  | .hbm, ⟨43, _⟩ => ⟨S32x2048x128, .f32⟩
  | .hbm, ⟨44, _⟩ => ⟨S32x2048x128, .f32⟩
  | .hbm, ⟨45, _⟩ => ⟨S_, .f32⟩
  | .hbm, ⟨46, _⟩ => ⟨S32x2048x128, .f32⟩
  | .hbm, ⟨47, _⟩ => ⟨S32x2048x128, .f32⟩
  | .hbm, ⟨48, _⟩ => ⟨S_, .f32⟩
  | .hbm, ⟨49, _⟩ => ⟨S32x2048x128, .f32⟩
  | .hbm, ⟨50, _⟩ => ⟨S32x2048x128, .f32⟩
  | .hbm, ⟨51, _⟩ => ⟨S32x2048x512, .f32⟩
  | .hbm, ⟨52, _⟩ => ⟨S32x2048x1536, .f32⟩
  | .hbm, ⟨53, _⟩ => ⟨S32x2048x1536, .bf16⟩
  | _, _ => ⟨S32x2048x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Proof.Common.lean ====
/-
  Small facts about indices used by every part: zero offsets, and the indices of a block with a leading axis of extent one.
-/
module

public import Idealize.ShloMosaic.Lib.Pointwise
public import Idealize.ShloMosaic.Lib.ValueIdx

@[expose] public section

open Idealize.ShloMosaic

namespace Cert.Proof

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- An index of a rank-three array by its coordinates. -/
theorem idx_three {a b c : Nat} (j : (⟨3, ![a, b, c]⟩ : Shape).Idx) : ∃ (p : Fin a) (r : Fin b) (n : Fin c), j = ix3 p r n :=
  ⟨j 0, j 1, j 2, ValueIdx.eq_ix3 j⟩

/-- An index of a block whose leading axis has extent one. -/
theorem idx_unit {a b : Nat} (j : (⟨3, ![1, a, b]⟩ : Shape).Idx) : ∃ (r : Fin a) (n : Fin b), j = ix3 (0 : Fin 1) r n := by
  obtain ⟨p, r, n, rfl⟩ := idx_three j
  exact ⟨r, n, by rw [Subsingleton.elim p 0]⟩

end Cert.Proof
-- ==== Proof.Mod.lean ====
/-
  The modulation vectors: `silu(c) · W + b`, where `silu(x) = x / (1 + exp(−x))`. Each grid point computes 1024 of the 6144 columns for
  all 40 rows.
-/
module

public import proofs.«01_k».proof.Defs
public import proofs.«01_k».proof.Proof.Gen.ModIdeal.Value
public import proofs.«01_k».proof.Proof.Gen.RefModIdeal.Run
public import proofs.«01_k».proof.Proof.Gen.RefModIdeal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Proof.Mod

open Cert.ModIdeal Cert.ModIdeal.Gen

/-- `x` times its logistic value. -/
def silu (x : EReal) : EReal := x * Ideal.div (Ideal.ofBits .f32 0x3F800000#32) (Ideal.ofBits .f32 0x3F800000#32 + Ideal.exp (-x))

/-- The logistic value written with `0 − x` for `−x`. -/
theorem silu_sub (x : EReal) : x * Ideal.div (Ideal.ofBits .f32 0x3F800000#32) (Ideal.ofBits .f32 0x3F800000#32 + Ideal.exp (0 - x)) = silu x := by
  rw [sub_eq_add_neg, zero_add]; rfl

/-- One element: the row `x`, through `silu`, against the column `w`, and the column's offset. -/
def vec (x w : Fin 1024 → EReal) (b : EReal) : EReal := (∑ k, silu (x k) * w k) + b

theorem pay1_apply (x0 : Vec Ideal S40x1024 .f32) (w : Vec Ideal S1024x1024 .f32) (b : Vec Ideal S1x1024 .f32) (r : Fin 40) (n : Fin 1024) :
    k0_pay1 x0 w b (ix2 r n) = vec (fun k => x0 (ix2 r k)) (fun k => w (ix2 k n)) (b (ix2 0 n)) := by
  unfold vec
  simp only [← silu_sub]
  unfold_payloads
  pointwise

variable (m : (ℓ : Loc nD τ sig) → Buf (Elt Ideal) ℓ) (ρ : Dev nD → PrngReg)

/-- Grid point `t` takes column tile `t` of the weights, of the offsets and of the result, and the whole of `c`. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)

theorem N_eq : cfg0.N = 6 := N_0

/-- The array column of column `n` of grid point `t`'s block. -/
def col (t : Fin cfg0.N) (n : Fin 1024) : Fin 6144 := ⟨t.val * 1024 + n.val, by have := t.isLt; have := N_eq; omega⟩

theorem iblk0 (c : Dev nD) (t : Fin cfg0.N) (r : Fin 40) (k : Fin 1024) :
    iblk m c 0 t (ix2 r k) = m ((c : Thread nD τ).loc main_arg0) (ix2 r k) := by
  rw [← V_main_arg0 m c]
  show V m c main_arg0 (((cfg0.win 0).blk t).view.emb (ix2 r k)) = _
  obtain ⟨e0, e1⟩ := idx0 t
  congr 1; funext a; apply Fin.ext
  match a with
  | ⟨0, _⟩ => show win0_0.index t (0 : Fin 2) * 40 + 1 * r.val = r.val; omega
  | ⟨1, _⟩ => show win0_0.index t (1 : Fin 2) * 1024 + 1 * k.val = k.val; omega

theorem iblk1 (c : Dev nD) (t : Fin cfg0.N) (k n : Fin 1024) :
    iblk m c 1 t (ix2 k n) = m ((c : Thread nD τ).loc main_arg1) (ix2 k (col t n)) := by
  rw [← V_main_arg1 m c]
  show V m c main_arg1 (((cfg0.win 1).blk t).view.emb (ix2 k n)) = _
  obtain ⟨e0, e1⟩ := idx1 t
  congr 1; funext a; apply Fin.ext
  match a with
  | ⟨0, _⟩ => show win0_1.index t (0 : Fin 2) * 1024 + 1 * k.val = k.val; omega
  | ⟨1, _⟩ => show win0_1.index t (1 : Fin 2) * 1024 + 1 * n.val = t.val * 1024 + n.val; omega

/-- The offsets as a row: what the host leaves for the launch. -/
theorem V_main_v0 (c : Dev nD) : V m c main_v0 = shapeCast (α := EReal) S1x6144 (m ((c : Thread nD τ).loc main_arg2)) shapeCasts_S6144_S1x6144 := by
  unfold V hostOps0
  after_results
  rfl

theorem iblk2 (c : Dev nD) (t : Fin cfg0.N) (n : Fin 1024) :
    iblk m c 2 t (ix2 0 n) = m ((c : Thread nD τ).loc main_arg2) (ix1 (col t n)) := by
  have h : iblk m c 2 t (ix2 0 n) = V m c main_v0 (ix2 0 (col t n)) := by
    show V m c main_v0 (((cfg0.win 2).blk t).view.emb (ix2 0 n)) = _
    obtain ⟨e0, e1⟩ := idx2 t
    congr 1; funext a; apply Fin.ext
    match a with
    | ⟨0, _⟩ => show win0_2.index t (0 : Fin 2) * 1 + 1 * 0 = 0; omega
    | ⟨1, _⟩ => show win0_2.index t (1 : Fin 2) * 1024 + 1 * n.val = t.val * 1024 + n.val; omega
  rw [h, V_main_v0]
  exact (shapeCast_addUnit_apply ![6144] (m ((c : Thread nD τ).loc main_arg2)) shapeCasts_S6144_S1x6144 (ix2 0 (col t n))).trans
    (congrArg (m ((c : Thread nD τ).loc main_arg2)) (funext fun a => by fin_cases a; rfl))

/-- The result array. -/
def G (x : Vec Ideal S40x1024 .f32) (w : Vec Ideal S1024x6144 .f32) (b : Vec Ideal S6144 .f32) : Vec Ideal S40x6144 .f32 :=
  fun i => vec (fun k => x (ix2 (i 0) k)) (fun k => w (ix2 k (i 1))) (b (ix1 (i 1)))

theorem emb3 (t : Fin cfg0.N) (r : Fin 40) (n : Fin 1024) : ((cfg0.win 3).blk t).view.emb (ix2 r n) = ix2 r (col t n) := by
  obtain ⟨e0, e1⟩ := idx3 t
  funext a; apply Fin.ext
  match a with
  | ⟨0, _⟩ => show win0_3.index t (0 : Fin 2) * 40 + 1 * r.val = r.val; omega
  | ⟨1, _⟩ => show win0_3.index t (1 : Fin 2) * 1024 + 1 * n.val = t.val * 1024 + n.val; omega

/-- Every point writes back its block of the result. -/
theorem flushed3_eq (c : Dev nD) (t : Fin cfg0.N) : (dats m 0 c).flushed 3 t = ((cfg0.win 3).blk t).view.read (Elt Ideal)
    (G (m ((c : Thread nD τ).loc main_arg0)) (m ((c : Thread nD τ).loc main_arg1)) (m ((c : Thread nD τ).loc main_arg2))) := by
  rw [Cert.ModIdeal.Value.flushed3]
  unfold out0_3
  rw [View.canon_unit_zero hz2]
  simp only [View.ld_unit_zero (S := S40x1024) hz2, View.ld_unit_zero (S := S1024x1024) hz2, View.ld_unit_zero (S := S1x1024) hz2]
  suffices h : ∀ j : S40x1024.Idx, k0_pay1 (F := Ideal) (iblk m c 0 t) (iblk m c 1 t) (iblk m c 2 t) j
      = G (m ((c : Thread nD τ).loc main_arg0)) (m ((c : Thread nD τ).loc main_arg1)) (m ((c : Thread nD τ).loc main_arg2))
        (((cfg0.win 3).blk t).view.emb j) from funext h
  intro j
  obtain ⟨r, n, rfl⟩ : ∃ (r : Fin 40) (n : Fin 1024), j = ix2 r n := ⟨j 0, j 1, ValueIdx.eq_ix2 j⟩
  rw [emb3, pay1_apply]
  unfold G
  congr 1
  · funext k; exact iblk0 m c t r k
  · funext k; exact iblk1 m c t k n
  · exact iblk2 m c t n

/-- The point whose block holds column `n`. -/
def pt (n : Fin 6144) : Fin cfg0.N := ⟨n.val / 1024, by have := n.isLt; have := N_eq; omega⟩
theorem col_pt (n : Fin 6144) : col (pt n) ⟨n.val % 1024, Nat.mod_lt _ (by decide)⟩ = n := Fin.ext (by simp only [col, pt]; omega)

theorem cover3 (i : S40x6144.Idx) : ∃ t : Fin cfg0.N, (cfg0.win 3).flush t = true ∧ i ∈ ((cfg0.win 3).blk t).view.set := by
  obtain ⟨r, n, rfl⟩ : ∃ (r : Fin 40) (n : Fin 6144), i = ix2 r n := ⟨i 0, i 1, ValueIdx.eq_ix2 i⟩
  refine ⟨pt n, flush0_3 _, ?_⟩
  have h := ((cfg0.win 3).blk (pt n)).view.emb_mem_set (ix2 r (⟨n.val % 1024, Nat.mod_lt _ (by decide)⟩ : Fin 1024))
  rw [emb3, col_pt] at h
  exact h

end Cert.Proof.Mod

/-! ## The reference -/

namespace Cert.Proof.Mod

open Cert.RefModIdeal Cert.RefModIdeal.Read

theorem ref4 (x : Vec Ideal Cert.ModIdeal.S40x1024 .f32) (w : Vec Ideal Cert.ModIdeal.S1024x6144 .f32) (b : Vec Ideal Cert.ModIdeal.S6144 .f32) :
    val_main_v4 (F := Ideal) x w b = G x w b := by
  funext i
  unfold val_main_v4 val_main_v3 val_main_v2 val_main_v1 val_main_v0 val_main_call0_v5 val_main_call0_v4 val_main_call0_cst_0 val_main_call0_v3 val_main_call0_v2
    val_main_call0_cst val_main_call0_v1 val_main_call0_v0 G vec silu
  pointwise

/-- Both programs run, from equal arguments, to equal results. -/
theorem algebraic : Cert.algebraic_ModIdeal_RefModIdeal (hModIdeal := Cert.ModIdeal.Gen.facts) (hRefModIdeal := Cert.RefModIdeal.Gen.facts) := by
  intro m g m' g' _ hargs
  refine ⟨fun c => G (m ((c.tc : Thread _ _).loc Cert.ModIdeal.main_arg0)) (m ((c.tc : Thread _ _).loc Cert.ModIdeal.main_arg1)) (m ((c.tc : Thread _ _).loc Cert.ModIdeal.main_arg2)), ?_, ?_⟩
  · refine (θ_run (Cert.ModIdeal.defs (F := Ideal)) _ _).mono (fun r h c => ?_) (Cert.ModIdeal.Value.run_blocks (F := Ideal) m g)
    obtain ⟨h3, hk⟩ := h c
    exact ⟨h3.trans ((Cert.ModIdeal.Gen.dats m 0 c).arrAt_eq_of_cover 3 _ (fun t _ => flushed3_eq m c t) cover3), hk⟩
  · refine (θ_run (Cert.RefModIdeal.defs (F := Ideal)) _ _).mono (fun r h c => ?_) (Cert.RefModIdeal.Value.run (F := Ideal) m' g')
    obtain ⟨h4, hk⟩ := h c
    refine ⟨h4.trans ?_, hk⟩
    rw [val_main_v4_eq, ref4, (hargs c).1, (hargs c).2.1, (hargs c).2.2]

end Cert.Proof.Mod
end
-- ==== Proof.Rows.lean ====
/-
  One row of the network's feed-forward part, as plain sums: the layer norm of a row, the squared-ReLU hidden units, and the sum over
  the 4096 hidden units taken in four stretches of 1024.
-/
module

public import proofs.«01_k».proof.Proof.Common
public import Idealize.ShloMosaic.PureOps.Ideal

@[expose] public section

noncomputable section

open Idealize.ShloMosaic

namespace Cert.Proof

/-- The layer norm of the row `h` at column `n`, with gain `g` and offset `b`: the row's mean taken off, over the square root of its
    variance plus the small constant. -/
def lnorm (h g b : Fin 1024 → EReal) (n : Fin 1024) : EReal :=
  (h n - Ideal.div (∑ k, h k) (Ideal.ofBits .f32 0x44800000#32))
    * Ideal.rsqrt (Ideal.div (∑ k, (h k - Ideal.div (∑ k', h k') (Ideal.ofBits .f32 0x44800000#32)) * (h k - Ideal.div (∑ k', h k') (Ideal.ofBits .f32 0x44800000#32)))
        (Ideal.ofBits .f32 0x44800000#32) + Ideal.ofBits .f32 0x3727C5AC#32)
    * g n + b n

/-- A hidden unit: the squared ReLU of the row `x`, modulated by `sc` and `sh`, against the column `w`. -/
def hid (x sc sh w : Fin 1024 → EReal) : EReal :=
  max (∑ k, (x k * (1 + sc k) + sh k) * w k) 0 * max (∑ k, (x k * (1 + sc k) + sh k) * w k) 0

/-- The row before its layer norm: the residual `√2 · x` and the gated feed-forward part. -/
def mlpRow (x sc sh g : Fin 1024 → EReal) (w1 : Fin 1024 → Fin 4096 → EReal) (w2 : Fin 4096 → Fin 1024 → EReal) (n : Fin 1024) : EReal :=
  Ideal.ofBits .f32 0x3FB504F3#32 * x n + g n * ∑ f, hid x sc sh (fun k => w1 k f) * w2 f n

theorem lnorm_congr {h h' g g' b b' : Fin 1024 → EReal} (e : ∀ k, h k = h' k) (eg : ∀ k, g k = g' k) (eb : ∀ k, b k = b' k) (n : Fin 1024) :
    lnorm h g b n = lnorm h' g' b' n := by
  rw [funext e, funext eg, funext eb]

theorem mlpRow_congr {x x' sc sc' sh sh' g g' : Fin 1024 → EReal} {w1 w1' : Fin 1024 → Fin 4096 → EReal} {w2 w2' : Fin 4096 → Fin 1024 → EReal}
    (ex : ∀ k, x k = x' k) (esc : ∀ k, sc k = sc' k) (esh : ∀ k, sh k = sh' k) (eg : ∀ k, g k = g' k)
    (e1 : ∀ k f, w1 k f = w1' k f) (e2 : ∀ f k, w2 f k = w2' f k) (n : Fin 1024) :
    mlpRow x sc sh g w1 w2 n = mlpRow x' sc' sh' g' w1' w2' n := by
  rw [funext ex, funext esc, funext esh, funext eg, funext fun k => funext (e1 k), funext fun k => funext (e2 k)]

/-- A sum over 4096 units is the sum of its four stretches. -/
theorem sum_four {M : Type*} [AddCommMonoid M] (F : Fin 4096 → M) :
    ∑ f, F f = ((∑ f : Fin 1024, F ⟨f.val, by omega⟩ + ∑ f : Fin 1024, F ⟨1024 + f.val, by omega⟩)
      + ∑ f : Fin 1024, F ⟨2048 + f.val, by omega⟩) + ∑ f : Fin 1024, F ⟨3072 + f.val, by omega⟩ := by
  have e3 := Fin.sum_univ_add (a := 3072) (b := 1024) F
  have e2 := Fin.sum_univ_add (a := 2048) (b := 1024) (fun i : Fin 3072 => F (Fin.castAdd 1024 i))
  have e1 := Fin.sum_univ_add (a := 1024) (b := 1024) (fun i : Fin 2048 => F (Fin.castAdd 1024 (Fin.castAdd 1024 i)))
  exact e3.trans (congrArg (· + _) (e2.trans (congrArg (· + _) e1)))

end Cert.Proof
end
-- ==== Proof.OutCtx.lean ====
/-
  On the context rows: the output projection followed by the feed-forward part:
  `h = layer_norm(√2·x + gate₁ · [y_a, y_b]·W)` and then `layer_norm(√2·h + gate₂ · relu²((h·(1 + scale) + shift)·W1)·W2)`.
  Each grid point computes the 256 context rows of one batch entry, with the two halves of the branch output against the two halves of `W`; the
  reference joins the halves and contracts over all 1024 columns.
-/
module

public import proofs.«01_k».proof.Defs
public import proofs.«01_k».proof.Proof.Gen.OutCtxIdeal.Value
public import proofs.«01_k».proof.Proof.Gen.RefOutCtxIdeal.Run
public import proofs.«01_k».proof.Proof.Gen.RefOutCtxIdeal.Read
public import proofs.«01_k».proof.Proof.Rows

@[expose] public section

noncomputable section

open Idealize.ShloMosaic Idealize.ShloMosaic.TcCoe Idealize.SL.Sem
open Idealize.ShloMosaic.Pipeline (Dat)

namespace Cert.Proof.OutCtx

open Cert.OutCtxIdeal Cert.OutCtxIdeal.Gen

/-- The row before the first layer norm: the residual and the gated projection of the two halves of the branch output. -/
def outRow (ya yb : Fin 512 → EReal) (w : Fin 1024 → Fin 1024 → EReal) (x g : Fin 1024 → EReal) (n : Fin 1024) : EReal :=
  Ideal.ofBits .f32 0x3FB504F3#32 * x n
    + g n * (∑ k : Fin 512, ya k * w ⟨k.val, by omega⟩ n + ∑ k : Fin 512, yb k * w ⟨512 + k.val, by omega⟩ n)

/-- The projection's row with the weights' halves apart. -/
def halfRow (ya yb : Fin 512 → EReal) (wa wb : Fin 512 → Fin 1024 → EReal) (x g : Fin 1024 → EReal) (n : Fin 1024) : EReal :=
  Ideal.ofBits .f32 0x3FB504F3#32 * x n + g n * (∑ k, ya k * wa k n + ∑ k, yb k * wb k n)

theorem halfRow_eq {ya ya' yb yb' : Fin 512 → EReal} {wa wb : Fin 512 → Fin 1024 → EReal} {w : Fin 1024 → Fin 1024 → EReal} {x x' g g' : Fin 1024 → EReal}
    (ea : ∀ k, ya k = ya' k) (eb : ∀ k, yb k = yb' k) (ewa : ∀ k n, wa k n = w ⟨k.val, by omega⟩ n) (ewb : ∀ k n, wb k n = w ⟨512 + k.val, by omega⟩ n)
    (ex : ∀ k, x k = x' k) (eg : ∀ k, g k = g' k) (n : Fin 1024) : halfRow ya yb wa wb x g n = outRow ya' yb' w x' g' n := by
  rw [funext ea, funext eb, funext fun k => funext (ewa k), funext fun k => funext (ewb k), funext ex, funext eg]
  rfl

/-- The first normalized row. -/
theorem pay6_apply (v23 v25 : FVec Ideal S1x1024 .f32) (x0 x1 : Vec Ideal S1x256x512 .f32) (x2 x3 : Vec Ideal S512x1024 .bf16)
    (x4 : Vec Ideal S1x256x1024 .f32) (x5 : Vec Ideal S1x1x1024 .f32) (r : Fin 256) (n : Fin 1024) :
    k0_pay6 v23 v25 (k0_pay4 x0 x2 x1 x3 x4 x5) (k0_pay5 x0 x2 x1 x3 x4 x5) (ix2 r n)
      = lnorm (halfRow (fun k => x0 (ix3 0 r k)) (fun k => x1 (ix3 0 r k)) (fun k n => x2 (ix2 k n)) (fun k n => x3 (ix2 k n))
          (fun k => x4 (ix3 0 r k)) (fun k => x5 (ix3 0 0 k))) (fun k => v23 (ix2 0 k)) (fun k => v25 (ix2 0 k)) n := by
  unfold lnorm halfRow
  unfold_payloads
  pointwise

set_option maxHeartbeats 1000000 in
/-- The feed-forward sum of a row, from the normalized rows `h`. -/
theorem ffn_apply (v23 v25 : FVec Ideal S1x1024 .f32) (v31 v32 : FVec Ideal S256x1024 .f32) (x8 x9 : Vec Ideal S1x1x1024 .f32)
    (x11 : Vec Ideal S1024x4096 .bf16) (x12 : Vec Ideal S4096x1024 .bf16) (r : Fin 256) (n : Fin 1024) :
    k0_pay13 (k0_pay10 v23 v25 v31 v32 x8 x9) (k0_pay11 (F := Ideal)) (k0_pay12 v23 v25 v31 v32 x8 x9 (View.ld x11 r0_5))
        (View.ld x12 r0_6) (View.ld x11 r0_7) (View.ld x12 r0_8) (View.ld x11 r0_9) (View.ld x12 r0_10) (ix2 r n)
      + k0_pay14 (k0_pay10 v23 v25 v31 v32 x8 x9) (View.ld x11 r0_11) (View.ld x12 r0_12) (ix2 r n)
      = ∑ f, hid (fun k => k0_pay6 v23 v25 v31 v32 (ix2 r k)) (fun k => x8 (ix3 0 0 k)) (fun k => x9 (ix3 0 0 k)) (fun k => x11 (ix2 k f))
          * x12 (ix2 f n) := by
  unfold hid
  rw [sum_four]
  unfold k0_pay12 k0_pay10
  generalize k0_pay6 v23 v25 v31 v32 = h
  unfold_payloads
  pointwise

/-- The last payload is the layer norm of the row it is given. -/
theorem pay1_apply (v45 v96 v106 : FVec Ideal S256x1024 .f32) (v51 v53 v55 : FVec Ideal S1x1024 .f32) (r : Fin 256) (n : Fin 1024) :
    k0_pay1 v45 v51 v53 v55 v96 v106 (ix3 0 r n)
      = lnorm (fun k => Ideal.ofBits .f32 0x3FB504F3#32 * v45 (ix2 r k) + v51 (ix2 0 k) * (v96 (ix2 r k) + v106 (ix2 r k)))
          (fun k => v53 (ix2 0 k)) (fun k => v55 (ix2 0 k)) n := by
  unfold lnorm
  unfold_payloads
  pointwise

set_option maxHeartbeats 1000000 in
/-- What a grid point leaves in the result's block. -/
theorem out_apply (x0 x1 : Vec Ideal S1x256x512 .f32) (x2 x3 : Vec Ideal S512x1024 .bf16) (x4 : Vec Ideal S1x256x1024 .f32)
    (x5 : Vec Ideal S1x1x1024 .f32) (x6 x7 : Vec Ideal S1x1024 .f32) (x8 x9 x10 : Vec Ideal S1x1x1024 .f32) (x11 : Vec Ideal S1024x4096 .bf16)
    (x12 : Vec Ideal S4096x1024 .bf16) (x13 x14 : Vec Ideal S1x1024 .f32) (r : Fin 256) (n : Fin 1024) :
    out0_15 x0 x1 x2 x3 x4 x5 x6 x7 x8 x9 x10 x11 x12 x13 x14 (ix3 0 r n)
      = lnorm (mlpRow (lnorm (halfRow (fun k => x0 (ix3 0 r k)) (fun k => x1 (ix3 0 r k)) (fun k n => x2 (ix2 k n)) (fun k n => x3 (ix2 k n))
            (fun k => x4 (ix3 0 r k)) (fun k => x5 (ix3 0 0 k))) (fun k => x6 (ix2 0 k)) (fun k => x7 (ix2 0 k)))
          (fun k => x8 (ix3 0 0 k)) (fun k => x9 (ix3 0 0 k)) (fun k => x10 (ix3 0 0 k)) (fun k f => x11 (ix2 k f)) (fun f k => x12 (ix2 f k)))
        (fun k => x13 (ix2 0 k)) (fun k => x14 (ix2 0 k)) n := by
  have c2 : ∀ x : Vec Ideal S1x1024 .f32, k0_pay2 x = x := fun x => by unfold_payloads; funext i; pointwise
  have c3 : ∀ x : Vec Ideal S1x1024 .f32, k0_pay3 x = x := fun x => by unfold_payloads; funext i; pointwise
  have c8 : ∀ x : Vec Ideal S1x1024 .f32, k0_pay8 x = x := fun x => by unfold_payloads; funext i; pointwise
  have c9 : ∀ x : Vec Ideal S1x1024 .f32, k0_pay9 x = x := fun x => by unfold_payloads; funext i; pointwise
  have c7 : ∀ (x : Vec Ideal S1x1x1024 .f32) (k : Fin 1024), k0_pay7 x (ix2 0 k) = x (ix3 0 0 k) := fun x k => by unfold_payloads; pointwise
  have h6 : (fun k => k0_pay6 x6 x7 (k0_pay4 x0 x2 x1 x3 x4 x5) (k0_pay5 x0 x2 x1 x3 x4 x5) (ix2 r k))
      = lnorm (halfRow (fun k => x0 (ix3 0 r k)) (fun k => x1 (ix3 0 r k)) (fun k n => x2 (ix2 k n)) (fun k n => x3 (ix2 k n))
            (fun k => x4 (ix3 0 r k)) (fun k => x5 (ix3 0 0 k))) (fun k => x6 (ix2 0 k)) (fun k => x7 (ix2 0 k)) :=
    funext fun k => pay6_apply x6 x7 x0 x1 x2 x3 x4 x5 r k
  unfold_out out0_15
  rw [View.canon_unit_zero hz3]
  simp only [View.ld_unit_zero (S := S1x256x1024) hz3, View.ld_unit_zero (S := S1x256x512) hz3, View.ld_unit_zero (S := S1x1x1024) hz3,
    View.ld_unit_zero (S := S1x1024) hz2, View.ld_unit_zero (S := S512x1024) hz2, c2, c3, c8, c9]
  refine (pay1_apply _ _ _ _ _ _ r n).trans (lnorm_congr (fun k => ?_) (fun k => rfl) (fun k => rfl) n)
  rw [c7]
  unfold mlpRow
  rw [← h6]
  exact congrArg (fun z => _ + _ * z) (ffn_apply x6 x7 _ _ x8 x9 x11 x12 r k)

theorem N_eq : cfg0.N = 32 := N_0

/-! Each window's block index at a grid point. -/

theorem idx0 : ∀ t : Fin cfg0.N, win0_0.index t ((0 : Fin 3)) = t.val / 1 ∧ win0_0.index t ((1 : Fin 3)) = t.val % 1 ∧ win0_0.index t ((2 : Fin 3)) = 0 :=
  (by decide +kernel : ∀ t : Fin grid0.N, win0_0.index t ((0 : Fin 3)) = t.val / 1 ∧ win0_0.index t ((1 : Fin 3)) = t.val % 1 ∧ win0_0.index t ((2 : Fin 3)) = 0)
theorem idx1 : ∀ t : Fin cfg0.N, win0_1.index t ((0 : Fin 3)) = t.val / 1 ∧ win0_1.index t ((1 : Fin 3)) = t.val % 1 ∧ win0_1.index t ((2 : Fin 3)) = 0 :=
  (by decide +kernel : ∀ t : Fin grid0.N, win0_1.index t ((0 : Fin 3)) = t.val / 1 ∧ win0_1.index t ((1 : Fin 3)) = t.val % 1 ∧ win0_1.index t ((2 : Fin 3)) = 0)
theorem idx4 : ∀ t : Fin cfg0.N, win0_4.index t ((0 : Fin 3)) = t.val / 1 ∧ win0_4.index t ((1 : Fin 3)) = t.val % 1 ∧ win0_4.index t ((2 : Fin 3)) = 0 :=
  (by decide +kernel : ∀ t : Fin grid0.N, win0_4.index t ((0 : Fin 3)) = t.val / 1 ∧ win0_4.index t ((1 : Fin 3)) = t.val % 1 ∧ win0_4.index t ((2 : Fin 3)) = 0)
theorem idx15 : ∀ t : Fin cfg0.N, win0_15.index t ((0 : Fin 3)) = t.val / 1 ∧ win0_15.index t ((1 : Fin 3)) = t.val % 1 ∧ win0_15.index t ((2 : Fin 3)) = 0 :=
  (by decide +kernel : ∀ t : Fin grid0.N, win0_15.index t ((0 : Fin 3)) = t.val / 1 ∧ win0_15.index t ((1 : Fin 3)) = t.val % 1 ∧ win0_15.index t ((2 : Fin 3)) = 0)
theorem idx5 : ∀ t : Fin cfg0.N, win0_5.index t ((0 : Fin 3)) = t.val / 1 ∧ win0_5.index t ((1 : Fin 3)) = 0 ∧ win0_5.index t ((2 : Fin 3)) = 0 :=
  (by decide +kernel : ∀ t : Fin grid0.N, win0_5.index t ((0 : Fin 3)) = t.val / 1 ∧ win0_5.index t ((1 : Fin 3)) = 0 ∧ win0_5.index t ((2 : Fin 3)) = 0)
theorem idx8 : ∀ t : Fin cfg0.N, win0_8.index t ((0 : Fin 3)) = t.val / 1 ∧ win0_8.index t ((1 : Fin 3)) = 0 ∧ win0_8.index t ((2 : Fin 3)) = 0 :=
  (by decide +kernel : ∀ t : Fin grid0.N, win0_8.index t ((0 : Fin 3)) = t.val / 1 ∧ win0_8.index t ((1 : Fin 3)) = 0 ∧ win0_8.index t ((2 : Fin 3)) = 0)
theorem idx9 : ∀ t : Fin cfg0.N, win0_9.index t ((0 : Fin 3)) = t.val / 1 ∧ win0_9.index t ((1 : Fin 3)) = 0 ∧ win0_9.index t ((2 : Fin 3)) = 0 :=
  (by decide +kernel : ∀ t : Fin grid0.N, win0_9.index t ((0 : Fin 3)) = t.val / 1 ∧ win0_9.index t ((1 : Fin 3)) = 0 ∧ win0_9.index t ((2 : Fin 3)) = 0)
theorem idx10 : ∀ t : Fin cfg0.N, win0_10.index t ((0 : Fin 3)) = t.val / 1 ∧ win0_10.index t ((1 : Fin 3)) = 0 ∧ win0_10.index t ((2 : Fin 3)) = 0 :=
  (by decide +kernel : ∀ t : Fin grid0.N, win0_10.index t ((0 : Fin 3)) = t.val / 1 ∧ win0_10.index t ((1 : Fin 3)) = 0 ∧ win0_10.index t ((2 : Fin 3)) = 0)
theorem idx2 : ∀ t : Fin cfg0.N, win0_2.index t ((0 : Fin 2)) = 0 ∧ win0_2.index t ((1 : Fin 2)) = 0 :=
  (by decide +kernel : ∀ t : Fin grid0.N, win0_2.index t ((0 : Fin 2)) = 0 ∧ win0_2.index t ((1 : Fin 2)) = 0)
theorem idx3 : ∀ t : Fin cfg0.N, win0_3.index t ((0 : Fin 2)) = 0 ∧ win0_3.index t ((1 : Fin 2)) = 0 :=
  (by decide +kernel : ∀ t : Fin grid0.N, win0_3.index t ((0 : Fin 2)) = 0 ∧ win0_3.index t ((1 : Fin 2)) = 0)
theorem idx6 : ∀ t : Fin cfg0.N, win0_6.index t ((0 : Fin 2)) = 0 ∧ win0_6.index t ((1 : Fin 2)) = 0 :=
  (by decide +kernel : ∀ t : Fin grid0.N, win0_6.index t ((0 : Fin 2)) = 0 ∧ win0_6.index t ((1 : Fin 2)) = 0)
theorem idx7 : ∀ t : Fin cfg0.N, win0_7.index t ((0 : Fin 2)) = 0 ∧ win0_7.index t ((1 : Fin 2)) = 0 :=
  (by decide +kernel : ∀ t : Fin grid0.N, win0_7.index t ((0 : Fin 2)) = 0 ∧ win0_7.index t ((1 : Fin 2)) = 0)
theorem idx11 : ∀ t : Fin cfg0.N, win0_11.index t ((0 : Fin 2)) = 0 ∧ win0_11.index t ((1 : Fin 2)) = 0 :=
  (by decide +kernel : ∀ t : Fin grid0.N, win0_11.index t ((0 : Fin 2)) = 0 ∧ win0_11.index t ((1 : Fin 2)) = 0)
theorem idx12 : ∀ t : Fin cfg0.N, win0_12.index t ((0 : Fin 2)) = 0 ∧ win0_12.index t ((1 : Fin 2)) = 0 :=
  (by decide +kernel : ∀ t : Fin grid0.N, win0_12.index t ((0 : Fin 2)) = 0 ∧ win0_12.index t ((1 : Fin 2)) = 0)
theorem idx13 : ∀ t : Fin cfg0.N, win0_13.index t ((0 : Fin 2)) = 0 ∧ win0_13.index t ((1 : Fin 2)) = 0 :=
  (by decide +kernel : ∀ t : Fin grid0.N, win0_13.index t ((0 : Fin 2)) = 0 ∧ win0_13.index t ((1 : Fin 2)) = 0)
theorem idx14 : ∀ t : Fin cfg0.N, win0_14.index t ((0 : Fin 2)) = 0 ∧ win0_14.index t ((1 : Fin 2)) = 0 :=
  (by decide +kernel : ∀ t : Fin grid0.N, win0_14.index t ((0 : Fin 2)) = 0 ∧ win0_14.index t ((1 : Fin 2)) = 0)

variable (m : (ℓ : Loc nD τ sig) → Buf (Elt Ideal) ℓ)

/-- The batch entry and the array row of row `r` of grid point `t`'s block. -/
def bat (t : Fin cfg0.N) : Fin 32 := ⟨t.val / 1, by have := t.isLt; have := N_eq; omega⟩
def row (t : Fin cfg0.N) (r : Fin 256) : Fin 256 := ⟨t.val % 1 * 256 + r.val, by have := r.isLt; omega⟩

/-! The input blocks at an index, in the arrays as the launch finds them. -/

theorem iblk0 (c : Dev nD) (t : Fin cfg0.N) (r : Fin 256) (k : Fin 512) :
    iblk m c 0 t (ix3 0 r k) = m ((c : Thread nD τ).loc main_arg0) (ix3 (bat t) (row t r) k) := by
  rw [← V_main_arg0 m c]
  show V m c main_arg0 (((cfg0.win 0).blk t).view.emb (ix3 0 r k)) = _
  obtain ⟨e0, e1, e2⟩ := idx0 t
  congr 1; funext a; apply Fin.ext
  match a with
  | ⟨0, _⟩ => show win0_0.index t (0 : Fin 3) * 1 + 1 * 0 = t.val / 1; omega
  | ⟨1, _⟩ => show win0_0.index t (1 : Fin 3) * 256 + 1 * r.val = t.val % 1 * 256 + r.val; omega
  | ⟨2, _⟩ => show win0_0.index t (2 : Fin 3) * 512 + 1 * k.val = k.val; omega

theorem iblk1 (c : Dev nD) (t : Fin cfg0.N) (r : Fin 256) (k : Fin 512) :
    iblk m c 1 t (ix3 0 r k) = m ((c : Thread nD τ).loc main_arg1) (ix3 (bat t) (row t r) k) := by
  rw [← V_main_arg1 m c]
  show V m c main_arg1 (((cfg0.win 1).blk t).view.emb (ix3 0 r k)) = _
  obtain ⟨e0, e1, e2⟩ := idx1 t
  congr 1; funext a; apply Fin.ext
  match a with
  | ⟨0, _⟩ => show win0_1.index t (0 : Fin 3) * 1 + 1 * 0 = t.val / 1; omega
  | ⟨1, _⟩ => show win0_1.index t (1 : Fin 3) * 256 + 1 * r.val = t.val % 1 * 256 + r.val; omega
  | ⟨2, _⟩ => show win0_1.index t (2 : Fin 3) * 512 + 1 * k.val = k.val; omega

theorem iblk4 (c : Dev nD) (t : Fin cfg0.N) (r : Fin 256) (k : Fin 1024) :
    iblk m c 4 t (ix3 0 r k) = m ((c : Thread nD τ).loc main_arg3) (ix3 (bat t) (row t r) k) := by
  rw [← V_main_arg3 m c]
  show V m c main_arg3 (((cfg0.win 4).blk t).view.emb (ix3 0 r k)) = _
  obtain ⟨e0, e1, e2⟩ := idx4 t
  congr 1; funext a; apply Fin.ext
  match a with
  | ⟨0, _⟩ => show win0_4.index t (0 : Fin 3) * 1 + 1 * 0 = t.val / 1; omega
  | ⟨1, _⟩ => show win0_4.index t (1 : Fin 3) * 256 + 1 * r.val = t.val % 1 * 256 + r.val; omega
  | ⟨2, _⟩ => show win0_4.index t (2 : Fin 3) * 1024 + 1 * k.val = k.val; omega

theorem iblk5 (c : Dev nD) (t : Fin cfg0.N) (k : Fin 1024) :
    iblk m c 5 t (ix3 0 0 k) = m ((c : Thread nD τ).loc main_arg4) (ix3 (bat t) 0 k) := by
  rw [← V_main_arg4 m c]
  show V m c main_arg4 (((cfg0.win 5).blk t).view.emb (ix3 0 0 k)) = _
  obtain ⟨e0, e1, e2⟩ := idx5 t
  congr 1; funext a; apply Fin.ext
  match a with
  | ⟨0, _⟩ => show win0_5.index t (0 : Fin 3) * 1 + 1 * 0 = t.val / 1; omega
  | ⟨1, _⟩ => show win0_5.index t (1 : Fin 3) * 1 + 1 * 0 = 0; omega
  | ⟨2, _⟩ => show win0_5.index t (2 : Fin 3) * 1024 + 1 * k.val = k.val; omega

theorem iblk8 (c : Dev nD) (t : Fin cfg0.N) (k : Fin 1024) :
    iblk m c 8 t (ix3 0 0 k) = m ((c : Thread nD τ).loc main_arg7) (ix3 (bat t) 0 k) := by
  rw [← V_main_arg7 m c]
  show V m c main_arg7 (((cfg0.win 8).blk t).view.emb (ix3 0 0 k)) = _
  obtain ⟨e0, e1, e2⟩ := idx8 t
  congr 1; funext a; apply Fin.ext
  match a with
  | ⟨0, _⟩ => show win0_8.index t (0 : Fin 3) * 1 + 1 * 0 = t.val / 1; omega
  | ⟨1, _⟩ => show win0_8.index t (1 : Fin 3) * 1 + 1 * 0 = 0; omega
  | ⟨2, _⟩ => show win0_8.index t (2 : Fin 3) * 1024 + 1 * k.val = k.val; omega

theorem iblk9 (c : Dev nD) (t : Fin cfg0.N) (k : Fin 1024) :
    iblk m c 9 t (ix3 0 0 k) = m ((c : Thread nD τ).loc main_arg8) (ix3 (bat t) 0 k) := by
  rw [← V_main_arg8 m c]
  show V m c main_arg8 (((cfg0.win 9).blk t).view.emb (ix3 0 0 k)) = _
  obtain ⟨e0, e1, e2⟩ := idx9 t
  congr 1; funext a; apply Fin.ext
  match a with
  | ⟨0, _⟩ => show win0_9.index t (0 : Fin 3) * 1 + 1 * 0 = t.val / 1; omega
  | ⟨1, _⟩ => show win0_9.index t (1 : Fin 3) * 1 + 1 * 0 = 0; omega
  | ⟨2, _⟩ => show win0_9.index t (2 : Fin 3) * 1024 + 1 * k.val = k.val; omega

theorem iblk10 (c : Dev nD) (t : Fin cfg0.N) (k : Fin 1024) :
    iblk m c 10 t (ix3 0 0 k) = m ((c : Thread nD τ).loc main_arg9) (ix3 (bat t) 0 k) := by
  rw [← V_main_arg9 m c]
  show V m c main_arg9 (((cfg0.win 10).blk t).view.emb (ix3 0 0 k)) = _
  obtain ⟨e0, e1, e2⟩ := idx10 t
  congr 1; funext a; apply Fin.ext
  match a with
  | ⟨0, _⟩ => show win0_10.index t (0 : Fin 3) * 1 + 1 * 0 = t.val / 1; omega
  | ⟨1, _⟩ => show win0_10.index t (1 : Fin 3) * 1 + 1 * 0 = 0; omega
  | ⟨2, _⟩ => show win0_10.index t (2 : Fin 3) * 1024 + 1 * k.val = k.val; omega

/-! The weights rounded to bf16 (the projection's in two halves) and the layer norms' vectors as rows: what the host leaves for the launch. -/

theorem V_main_v1 (c : Dev nD) : V m c main_v1 = truncf (F := Ideal) .bf16 (m ((c : Thread nD τ).loc main_arg10)) bitsLt_bf16_f32 := by
  unfold V hostOps0
  after_results
theorem iblk11 (c : Dev nD) (t : Fin cfg0.N) (k : Fin 1024) (n : Fin 4096) :
    iblk m c 11 t (ix2 k n) = m ((c : Thread nD τ).loc main_arg10) (ix2 k n) := by
  have h : iblk m c 11 t (ix2 k n) = V m c main_v1 (ix2 k n) := by
    show V m c main_v1 (((cfg0.win 11).blk t).view.emb (ix2 k n)) = _
    obtain ⟨e0, e1⟩ := idx11 t
    congr 1; funext a; apply Fin.ext
    match a with
    | ⟨0, _⟩ => show win0_11.index t (0 : Fin 2) * 1024 + 1 * k.val = k.val; omega
    | ⟨1, _⟩ => show win0_11.index t (1 : Fin 2) * 4096 + 1 * n.val = n.val; omega
  rw [h, V_main_v1]
  pointwise

theorem V_main_v2 (c : Dev nD) : V m c main_v2 = truncf (F := Ideal) .bf16 (m ((c : Thread nD τ).loc main_arg11)) bitsLt_bf16_f32 := by
  unfold V hostOps0
  after_results
theorem iblk12 (c : Dev nD) (t : Fin cfg0.N) (k : Fin 4096) (n : Fin 1024) :
    iblk m c 12 t (ix2 k n) = m ((c : Thread nD τ).loc main_arg11) (ix2 k n) := by
  have h : iblk m c 12 t (ix2 k n) = V m c main_v2 (ix2 k n) := by
    show V m c main_v2 (((cfg0.win 12).blk t).view.emb (ix2 k n)) = _
    obtain ⟨e0, e1⟩ := idx12 t
    congr 1; funext a; apply Fin.ext
    match a with
    | ⟨0, _⟩ => show win0_12.index t (0 : Fin 2) * 4096 + 1 * k.val = k.val; omega
    | ⟨1, _⟩ => show win0_12.index t (1 : Fin 2) * 1024 + 1 * n.val = n.val; omega
  rw [h, V_main_v2]
  pointwise

theorem V_main_v3 (c : Dev nD) : V m c main_v3 = extractStridedSlice (α := EReal) S512x1024 ![0, 0] (truncf (F := Ideal) .bf16 (m ((c : Thread nD τ).loc main_arg2)) bitsLt_bf16_f32) slices_S1024x1024_S512x1024_0_0 := by
  unfold V hostOps0
  after_results
theorem iblk2 (c : Dev nD) (t : Fin cfg0.N) (k : Fin 512) (n : Fin 1024) :
    iblk m c 2 t (ix2 k n) = m ((c : Thread nD τ).loc main_arg2) (ix2 ⟨k.val, by omega⟩ n) := by
  have h : iblk m c 2 t (ix2 k n) = V m c main_v3 (ix2 k n) := by
    show V m c main_v3 (((cfg0.win 2).blk t).view.emb (ix2 k n)) = _
    obtain ⟨e0, e1⟩ := idx2 t
    congr 1; funext a; apply Fin.ext
    match a with
    | ⟨0, _⟩ => show win0_2.index t (0 : Fin 2) * 512 + 1 * k.val = k.val; omega
    | ⟨1, _⟩ => show win0_2.index t (1 : Fin 2) * 1024 + 1 * n.val = n.val; omega
  rw [h, V_main_v3]
  pointwise

theorem V_main_v4 (c : Dev nD) : V m c main_v4 = extractStridedSlice (α := EReal) S512x1024 ![512, 0] (truncf (F := Ideal) .bf16 (m ((c : Thread nD τ).loc main_arg2)) bitsLt_bf16_f32) slices_S1024x1024_S512x1024_512_0 := by
  unfold V hostOps0
  after_results
theorem iblk3 (c : Dev nD) (t : Fin cfg0.N) (k : Fin 512) (n : Fin 1024) :
    iblk m c 3 t (ix2 k n) = m ((c : Thread nD τ).loc main_arg2) (ix2 ⟨512 + k.val, by omega⟩ n) := by
  have h : iblk m c 3 t (ix2 k n) = V m c main_v4 (ix2 k n) := by
    show V m c main_v4 (((cfg0.win 3).blk t).view.emb (ix2 k n)) = _
    obtain ⟨e0, e1⟩ := idx3 t
    congr 1; funext a; apply Fin.ext
    match a with
    | ⟨0, _⟩ => show win0_3.index t (0 : Fin 2) * 512 + 1 * k.val = k.val; omega
    | ⟨1, _⟩ => show win0_3.index t (1 : Fin 2) * 1024 + 1 * n.val = n.val; omega
  rw [h, V_main_v4]
  pointwise

theorem V_main_v5 (c : Dev nD) : V m c main_v5 = shapeCast (α := EReal) S1x1024 (m ((c : Thread nD τ).loc main_arg5)) shapeCasts_S1024_S1x1024 := by
  unfold V hostOps0
  after_results
  rfl
theorem iblk6 (c : Dev nD) (t : Fin cfg0.N) (n : Fin 1024) :
    iblk m c 6 t (ix2 0 n) = m ((c : Thread nD τ).loc main_arg5) (ix1 n) := by
  have h : iblk m c 6 t (ix2 0 n) = V m c main_v5 (ix2 0 n) := by
    show V m c main_v5 (((cfg0.win 6).blk t).view.emb (ix2 0 n)) = _
    obtain ⟨e0, e1⟩ := idx6 t
    congr 1; funext a; apply Fin.ext
    match a with
    | ⟨0, _⟩ => show win0_6.index t (0 : Fin 2) * 1 + 1 * 0 = 0; omega
    | ⟨1, _⟩ => show win0_6.index t (1 : Fin 2) * 1024 + 1 * n.val = n.val; omega
  rw [h, V_main_v5]
  pointwise

theorem V_main_v6 (c : Dev nD) : V m c main_v6 = shapeCast (α := EReal) S1x1024 (m ((c : Thread nD τ).loc main_arg6)) shapeCasts_S1024_S1x1024 := by
  unfold V hostOps0
  after_results
  rfl
theorem iblk7 (c : Dev nD) (t : Fin cfg0.N) (n : Fin 1024) :
    iblk m c 7 t (ix2 0 n) = m ((c : Thread nD τ).loc main_arg6) (ix1 n) := by
  have h : iblk m c 7 t (ix2 0 n) = V m c main_v6 (ix2 0 n) := by
    show V m c main_v6 (((cfg0.win 7).blk t).view.emb (ix2 0 n)) = _
    obtain ⟨e0, e1⟩ := idx7 t
    congr 1; funext a; apply Fin.ext
    match a with
    | ⟨0, _⟩ => show win0_7.index t (0 : Fin 2) * 1 + 1 * 0 = 0; omega
    | ⟨1, _⟩ => show win0_7.index t (1 : Fin 2) * 1024 + 1 * n.val = n.val; omega
  rw [h, V_main_v6]
  pointwise

theorem V_main_v7 (c : Dev nD) : V m c main_v7 = shapeCast (α := EReal) S1x1024 (m ((c : Thread nD τ).loc main_arg12)) shapeCasts_S1024_S1x1024 := by
  unfold V hostOps0
  after_results
  rfl
theorem iblk13 (c : Dev nD) (t : Fin cfg0.N) (n : Fin 1024) :
    iblk m c 13 t (ix2 0 n) = m ((c : Thread nD τ).loc main_arg12) (ix1 n) := by
  have h : iblk m c 13 t (ix2 0 n) = V m c main_v7 (ix2 0 n) := by
    show V m c main_v7 (((cfg0.win 13).blk t).view.emb (ix2 0 n)) = _
    obtain ⟨e0, e1⟩ := idx13 t
    congr 1; funext a; apply Fin.ext
    match a with
    | ⟨0, _⟩ => show win0_13.index t (0 : Fin 2) * 1 + 1 * 0 = 0; omega
    | ⟨1, _⟩ => show win0_13.index t (1 : Fin 2) * 1024 + 1 * n.val = n.val; omega
  rw [h, V_main_v7]
  pointwise

theorem V_main_v8 (c : Dev nD) : V m c main_v8 = shapeCast (α := EReal) S1x1024 (m ((c : Thread nD τ).loc main_arg13)) shapeCasts_S1024_S1x1024 := by
  unfold V hostOps0
  after_results
  rfl
theorem iblk14 (c : Dev nD) (t : Fin cfg0.N) (n : Fin 1024) :
    iblk m c 14 t (ix2 0 n) = m ((c : Thread nD τ).loc main_arg13) (ix1 n) := by
  have h : iblk m c 14 t (ix2 0 n) = V m c main_v8 (ix2 0 n) := by
    show V m c main_v8 (((cfg0.win 14).blk t).view.emb (ix2 0 n)) = _
    obtain ⟨e0, e1⟩ := idx14 t
    congr 1; funext a; apply Fin.ext
    match a with
    | ⟨0, _⟩ => show win0_14.index t (0 : Fin 2) * 1 + 1 * 0 = 0; omega
    | ⟨1, _⟩ => show win0_14.index t (1 : Fin 2) * 1024 + 1 * n.val = n.val; omega
  rw [h, V_main_v8]
  pointwise

/-- The first normalized row of batch entry `b` at array row `r`. -/
def mid (ya yb : Vec Ideal S32x256x512 .f32) (w : Vec Ideal S1024x1024 .f32) (x : Vec Ideal S32x256x1024 .f32)
    (g1 : Vec Ideal S32x1x1024 .f32) (lg1 lb1 : Vec Ideal S1024 .f32) (b : Fin 32) (r : Fin 256) : Fin 1024 → EReal :=
  lnorm (outRow (fun k => ya (ix3 b r k)) (fun k => yb (ix3 b r k)) (fun k n => w (ix2 k n)) (fun k => x (ix3 b r k)) (fun k => g1 (ix3 b 0 k)))
    (fun k => lg1 (ix1 k)) (fun k => lb1 (ix1 k))

/-- The result array: each row's second layer norm. -/
def G15 (ya yb : Vec Ideal S32x256x512 .f32) (w : Vec Ideal S1024x1024 .f32) (x : Vec Ideal S32x256x1024 .f32)
    (g1 : Vec Ideal S32x1x1024 .f32) (lg1 lb1 : Vec Ideal S1024 .f32) (sc sh g2 : Vec Ideal S32x1x1024 .f32)
    (w1 : Vec Ideal S1024x4096 .f32) (w2 : Vec Ideal S4096x1024 .f32) (lg2 lb2 : Vec Ideal S1024 .f32) : Vec Ideal S32x256x1024 .f32 :=
  fun i => lnorm (mlpRow (mid ya yb w x g1 lg1 lb1 (i 0) (i 1)) (fun k => sc (ix3 (i 0) 0 k)) (fun k => sh (ix3 (i 0) 0 k)) (fun k => g2 (ix3 (i 0) 0 k))
      (fun k f => w1 (ix2 k f)) (fun f k => w2 (ix2 f k))) (fun k => lg2 (ix1 k)) (fun k => lb2 (ix1 k)) (i 2)

theorem emb15 (t : Fin cfg0.N) (r : Fin 256) (n : Fin 1024) : ((cfg0.win 15).blk t).view.emb (ix3 (0 : Fin 1) r n) = ix3 (bat t) (row t r) n := by
  obtain ⟨e0, e1, e2⟩ := idx15 t
  funext a; apply Fin.ext
  match a with
  | ⟨0, _⟩ => show win0_15.index t (0 : Fin 3) * 1 + 1 * 0 = t.val / 1; omega
  | ⟨1, _⟩ => show win0_15.index t (1 : Fin 3) * 256 + 1 * r.val = t.val % 1 * 256 + r.val; omega
  | ⟨2, _⟩ => show win0_15.index t (2 : Fin 3) * 1024 + 1 * n.val = n.val; omega

/-- Every point writes back its block of the result. -/
theorem flushed15_eq (c : Dev nD) (t : Fin cfg0.N) : (dats m 0 c).flushed 15 t = ((cfg0.win 15).blk t).view.read (Elt Ideal)
    (G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [Cert.OutCtxIdeal.Value.flushed15]
  suffices h : ∀ j : S1x256x1024.Idx, out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) j
      = G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (((cfg0.win 15).blk t).view.emb j) from funext h
  intro j
  obtain ⟨r, n, rfl⟩ := idx_unit j
  rw [emb15]
  exact (out_apply _ _ _ _ _ _ _ _ _ _ _ _ _ _ _ r n).trans (lnorm_congr (fun k =>
      mlpRow_congr (fun k => lnorm_congr (fun k =>
          halfRow_eq (fun k => iblk0 m c t r k) (fun k => iblk1 m c t r k) (w := fun k n => m ((c : Thread nD τ).loc main_arg2) (ix2 k n))
            (fun k n => iblk2 m c t k n) (fun k n => iblk3 m c t k n) (fun k => iblk4 m c t r k) (fun k => iblk5 m c t k) k)
          (fun k => iblk6 m c t k) (fun k => iblk7 m c t k) k)
        (fun k => iblk8 m c t k) (fun k => iblk9 m c t k) (fun k => iblk10 m c t k)
        (fun k f => iblk11 m c t k f) (fun f k => iblk12 m c t f k) k)
    (fun k => iblk13 m c t k) (fun k => iblk14 m c t k) n)

/-- The point whose block holds batch entry `b` and row `r`. -/
def pt (b : Fin 32) (r : Fin 256) : Fin cfg0.N := ⟨b.val * 1 + r.val / 256, by have := b.isLt; have := r.isLt; have := N_eq; omega⟩
theorem bat_pt (b : Fin 32) (r : Fin 256) : bat (pt b r) = b := Fin.ext (by simp only [bat, pt]; have := r.isLt; omega)
theorem row_pt (b : Fin 32) (r : Fin 256) : row (pt b r) ⟨r.val % 256, Nat.mod_lt _ (by decide)⟩ = r :=
  Fin.ext (by simp only [row, pt]; have := r.isLt; omega)

theorem cover15 (i : S32x256x1024.Idx) : ∃ t : Fin cfg0.N, (cfg0.win 15).flush t = true ∧ i ∈ ((cfg0.win 15).blk t).view.set := by
  obtain ⟨b, r, n, rfl⟩ := idx_three i
  refine ⟨pt b r, flush0_15 _, ?_⟩
  have h := ((cfg0.win 15).blk (pt b r)).view.emb_mem_set (ix3 0 (⟨r.val % 256, Nat.mod_lt _ (by decide)⟩ : Fin 256) n)
  rw [emb15, bat_pt, row_pt] at h
  exact h

end Cert.Proof.OutCtx

/-! ## The reference -/

namespace Cert.Proof.OutCtx

open Cert.RefOutCtxIdeal Cert.RefOutCtxIdeal.Read

/-- The joined halves contracted with the weights: the two halves' sums. -/
theorem ref_proj (ya yb : Vec Ideal Cert.OutCtxIdeal.S32x256x512 .f32) (w : Vec Ideal Cert.OutCtxIdeal.S1024x1024 .f32) (b : Fin 32) (r : Fin 256) (n : Fin 1024) :
    val_main_v1 (F := Ideal) ya yb w (ix3 b r n)
      = ∑ k : Fin 512, ya (ix3 b r k) * w (ix2 ⟨k.val, by omega⟩ n) + ∑ k : Fin 512, yb (ix3 b r k) * w (ix2 ⟨512 + k.val, by omega⟩ n) := by
  have e : val_main_v1 (F := Ideal) ya yb w (ix3 b r n) = ∑ k : Fin 1024, val_main_v0 (F := Ideal) ya yb (ix3 b r k) * w (ix2 k n) := by
    unfold val_main_v1
    generalize val_main_v0 (F := Ideal) ya yb = h
    pointwise
  rw [e]
  refine (Fin.sum_univ_add (a := 512) (b := 512) (fun k : Fin 1024 => val_main_v0 (F := Ideal) ya yb (ix3 b r k) * w (ix2 k n))).trans ?_
  congr 1 <;> refine Finset.sum_congr rfl fun k _ => congrArg (· * _) ?_
  · unfold val_main_v0
    pointwise
    rw [dif_pos (show (Fin.castAdd 512 k).val < 512 from k.isLt)]
    rfl
  · unfold val_main_v0
    pointwise
    rw [dif_neg (show ¬ (Fin.natAdd 512 k).val < 512 from by simp)]
    exact congrArg (fun q => yb (ix3 b r q)) (Fin.ext (by simp))

/-- The reference's row before the first layer norm. -/
theorem ref_row1 (ya yb : Vec Ideal Cert.OutCtxIdeal.S32x256x512 .f32) (w : Vec Ideal Cert.OutCtxIdeal.S1024x1024 .f32) (x : Vec Ideal Cert.OutCtxIdeal.S32x256x1024 .f32)
    (g1 : Vec Ideal Cert.OutCtxIdeal.S32x1x1024 .f32) (b : Fin 32) (r : Fin 256) (n : Fin 1024) :
    val_main_v6 (F := Ideal) ya yb w x g1 (ix3 b r n)
      = outRow (fun k => ya (ix3 b r k)) (fun k => yb (ix3 b r k)) (fun k n => w (ix2 k n)) (fun k => x (ix3 b r k)) (fun k => g1 (ix3 b 0 k)) n := by
  unfold outRow
  rw [← ref_proj]
  unfold val_main_v6 val_main_v5 val_main_v4 val_main_v3 val_main_v2 val_main_cst
  generalize val_main_v1 (F := Ideal) ya yb w = h
  pointwise

theorem ref_mid (ya yb : Vec Ideal Cert.OutCtxIdeal.S32x256x512 .f32) (w : Vec Ideal Cert.OutCtxIdeal.S1024x1024 .f32) (x : Vec Ideal Cert.OutCtxIdeal.S32x256x1024 .f32)
    (g1 : Vec Ideal Cert.OutCtxIdeal.S32x1x1024 .f32) (lg1 lb1 : Vec Ideal Cert.OutCtxIdeal.S1024 .f32) (b : Fin 32) (r : Fin 256) (n : Fin 1024) :
    val_main_v30 (F := Ideal) ya yb w x g1 lg1 lb1 (ix3 b r n) = mid ya yb w x g1 lg1 lb1 b r n := by
  have e : val_main_v30 (F := Ideal) ya yb w x g1 lg1 lb1 (ix3 b r n)
      = lnorm (fun k => val_main_v6 (F := Ideal) ya yb w x g1 (ix3 b r k)) (fun k => lg1 (ix1 k)) (fun k => lb1 (ix1 k)) n := by
    unfold val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_cst_1 val_main_cst_4 val_main_cst_0 val_main_cst_3 val_main_cst_2 lnorm
    generalize val_main_v6 (F := Ideal) ya yb w x g1 = h
    pointwise
  exact e.trans (lnorm_congr (fun k => ref_row1 ya yb w x g1 b r k) (fun _ => rfl) (fun _ => rfl) n)

set_option maxHeartbeats 1000000 in
/-- The reference's row before the second layer norm. -/
theorem ref_row2 (ya yb : Vec Ideal Cert.OutCtxIdeal.S32x256x512 .f32) (w : Vec Ideal Cert.OutCtxIdeal.S1024x1024 .f32) (x : Vec Ideal Cert.OutCtxIdeal.S32x256x1024 .f32)
    (g1 : Vec Ideal Cert.OutCtxIdeal.S32x1x1024 .f32) (lg1 lb1 : Vec Ideal Cert.OutCtxIdeal.S1024 .f32) (sc sh g2 : Vec Ideal Cert.OutCtxIdeal.S32x1x1024 .f32)
    (w1 : Vec Ideal Cert.OutCtxIdeal.S1024x4096 .f32) (w2 : Vec Ideal Cert.OutCtxIdeal.S4096x1024 .f32) (b : Fin 32) (r : Fin 256) (n : Fin 1024) :
    val_main_v46 (F := Ideal) ya yb w x g1 lg1 lb1 sc sh g2 w1 w2 (ix3 b r n)
      = mlpRow (mid ya yb w x g1 lg1 lb1 b r) (fun k => sc (ix3 b 0 k)) (fun k => sh (ix3 b 0 k)) (fun k => g2 (ix3 b 0 k))
          (fun k f => w1 (ix2 k f)) (fun f k => w2 (ix2 f k)) n := by
  rw [← (funext fun k => ref_mid ya yb w x g1 lg1 lb1 b r k : (fun k => val_main_v30 (F := Ideal) ya yb w x g1 lg1 lb1 (ix3 b r k)) = mid ya yb w x g1 lg1 lb1 b r)]
  unfold val_main_v46 val_main_v45 val_main_v44 val_main_v43 val_main_v42 val_main_v41 val_main_v40 val_main_v39 val_main_v38 val_main_v37 val_main_v36 val_main_v35 val_main_v34 val_main_v33 val_main_v32 val_main_v31 val_main_cst_5 val_main_cst_7 val_main_cst_6 mlpRow hid
  generalize val_main_v30 (F := Ideal) ya yb w x g1 lg1 lb1 = h
  pointwise

theorem ref15 (ya yb : Vec Ideal Cert.OutCtxIdeal.S32x256x512 .f32) (w : Vec Ideal Cert.OutCtxIdeal.S1024x1024 .f32) (x : Vec Ideal Cert.OutCtxIdeal.S32x256x1024 .f32)
    (g1 : Vec Ideal Cert.OutCtxIdeal.S32x1x1024 .f32) (lg1 lb1 : Vec Ideal Cert.OutCtxIdeal.S1024 .f32) (sc sh g2 : Vec Ideal Cert.OutCtxIdeal.S32x1x1024 .f32)
    (w1 : Vec Ideal Cert.OutCtxIdeal.S1024x4096 .f32) (w2 : Vec Ideal Cert.OutCtxIdeal.S4096x1024 .f32) (lg2 lb2 : Vec Ideal Cert.OutCtxIdeal.S1024 .f32) :
    val_main_v70 (F := Ideal) ya yb w x g1 lg1 lb1 sc sh g2 w1 w2 lg2 lb2 = G15 ya yb w x g1 lg1 lb1 sc sh g2 w1 w2 lg2 lb2 := by
  funext i
  obtain ⟨b, r, n, rfl⟩ := idx_three i
  have e : val_main_v70 (F := Ideal) ya yb w x g1 lg1 lb1 sc sh g2 w1 w2 lg2 lb2 (ix3 b r n)
      = lnorm (fun k => val_main_v46 (F := Ideal) ya yb w x g1 lg1 lb1 sc sh g2 w1 w2 (ix3 b r k)) (fun k => lg2 (ix1 k)) (fun k => lb2 (ix1 k)) n := by
    unfold val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_cst_9 val_main_cst_12 val_main_cst_8 val_main_cst_11 val_main_cst_10 lnorm
    generalize val_main_v46 (F := Ideal) ya yb w x g1 lg1 lb1 sc sh g2 w1 w2 = h
    pointwise
  exact e.trans (lnorm_congr (fun k => ref_row2 ya yb w x g1 lg1 lb1 sc sh g2 w1 w2 b r k) (fun _ => rfl) (fun _ => rfl) n)

/-- Both programs run, from equal arguments, to equal results. -/
theorem algebraic : Cert.algebraic_OutCtxIdeal_RefOutCtxIdeal (hOutCtxIdeal := Cert.OutCtxIdeal.Gen.facts) (hRefOutCtxIdeal := Cert.RefOutCtxIdeal.Gen.facts) := by
  intro m g m' g' _ hargs
  refine ⟨fun c => G15 (m ((c.tc : Thread _ _).loc Cert.OutCtxIdeal.main_arg0)) (m ((c.tc : Thread _ _).loc Cert.OutCtxIdeal.main_arg1)) (m ((c.tc : Thread _ _).loc Cert.OutCtxIdeal.main_arg2)) (m ((c.tc : Thread _ _).loc Cert.OutCtxIdeal.main_arg3)) (m ((c.tc : Thread _ _).loc Cert.OutCtxIdeal.main_arg4)) (m ((c.tc : Thread _ _).loc Cert.OutCtxIdeal.main_arg5)) (m ((c.tc : Thread _ _).loc Cert.OutCtxIdeal.main_arg6)) (m ((c.tc : Thread _ _).loc Cert.OutCtxIdeal.main_arg7)) (m ((c.tc : Thread _ _).loc Cert.OutCtxIdeal.main_arg8)) (m ((c.tc : Thread _ _).loc Cert.OutCtxIdeal.main_arg9)) (m ((c.tc : Thread _ _).loc Cert.OutCtxIdeal.main_arg10)) (m ((c.tc : Thread _ _).loc Cert.OutCtxIdeal.main_arg11)) (m ((c.tc : Thread _ _).loc Cert.OutCtxIdeal.main_arg12)) (m ((c.tc : Thread _ _).loc Cert.OutCtxIdeal.main_arg13)), ?_, ?_⟩
  · refine (θ_run (Cert.OutCtxIdeal.defs (F := Ideal)) _ _).mono (fun r h c => ?_) (Cert.OutCtxIdeal.Value.run_blocks (F := Ideal) m g)
    obtain ⟨h15, hk⟩ := h c
    exact ⟨h15.trans ((Cert.OutCtxIdeal.Gen.dats m 0 c).arrAt_eq_of_cover 15 _ (fun t _ => flushed15_eq m c t) cover15), hk⟩
  · refine (θ_run (Cert.RefOutCtxIdeal.defs (F := Ideal)) _ _).mono (fun r h c => ?_) (Cert.RefOutCtxIdeal.Value.run (F := Ideal) m' g')
    obtain ⟨h70, hk⟩ := h c
    obtain ⟨a0, a1, a2, a3, a4, a5, a6, a7, a8, a9, a10, a11, a12, a13⟩ := hargs c
    refine ⟨h70.trans ?_, hk⟩
    rw [val_main_v70_eq, ref15]
    show G15 (m' ((c.tc : Thread _ _).loc main_arg0)) (m' ((c.tc : Thread _ _).loc main_arg1)) (m' ((c.tc : Thread _ _).loc main_arg2)) (m' ((c.tc : Thread _ _).loc main_arg3)) (m' ((c.tc : Thread _ _).loc main_arg4)) (m' ((c.tc : Thread _ _).loc main_arg5)) (m' ((c.tc : Thread _ _).loc main_arg6)) (m' ((c.tc : Thread _ _).loc main_arg7)) (m' ((c.tc : Thread _ _).loc main_arg8)) (m' ((c.tc : Thread _ _).loc main_arg9)) (m' ((c.tc : Thread _ _).loc main_arg10)) (m' ((c.tc : Thread _ _).loc main_arg11)) (m' ((c.tc : Thread _ _).loc main_arg12)) (m' ((c.tc : Thread _ _).loc main_arg13)) = G15 (m ((c.tc : Thread _ _).loc Cert.OutCtxIdeal.main_arg0)) (m ((c.tc : Thread _ _).loc Cert.OutCtxIdeal.main_arg1)) (m ((c.tc : Thread _ _).loc Cert.OutCtxIdeal.main_arg2)) (m ((c.tc : Thread _ _).loc Cert.OutCtxIdeal.main_arg3)) (m ((c.tc : Thread _ _).loc Cert.OutCtxIdeal.main_arg4)) (m ((c.tc : Thread _ _).loc Cert.OutCtxIdeal.main_arg5)) (m ((c.tc : Thread _ _).loc Cert.OutCtxIdeal.main_arg6)) (m ((c.tc : Thread _ _).loc Cert.OutCtxIdeal.main_arg7)) (m ((c.tc : Thread _ _).loc Cert.OutCtxIdeal.main_arg8)) (m ((c.tc : Thread _ _).loc Cert.OutCtxIdeal.main_arg9)) (m ((c.tc : Thread _ _).loc Cert.OutCtxIdeal.main_arg10)) (m ((c.tc : Thread _ _).loc Cert.OutCtxIdeal.main_arg11)) (m ((c.tc : Thread _ _).loc Cert.OutCtxIdeal.main_arg12)) (m ((c.tc : Thread _ _).loc Cert.OutCtxIdeal.main_arg13))
    rw [a0, a1, a2, a3, a4, a5, a6, a7, a8, a9, a10, a11, a12, a13]

end Cert.Proof.OutCtx
end
-- ==== Proof.InCtx.lean ====
/-
  On the context rows: the modulated input projection: `out = (x·(1 + scale) + shift) · W`, W's columns split into two results. Each grid point computes
  256 context rows of one batch entry, against the two slices of W; the reference contracts against the whole of W and slices the product.
-/
module

public import proofs.«01_k».proof.Defs
public import proofs.«01_k».proof.Proof.Gen.InCtxIdeal.Value
public import proofs.«01_k».proof.Proof.Gen.RefInCtxIdeal.Run
public import proofs.«01_k».proof.Proof.Gen.RefInCtxIdeal.Read
public import proofs.«01_k».proof.Proof.Common

@[expose] public section

noncomputable section

open Idealize.ShloMosaic Idealize.ShloMosaic.TcCoe Idealize.SL.Sem
open Idealize.ShloMosaic.Pipeline (Dat)

namespace Cert.Proof.InCtx

open Cert.InCtxIdeal Cert.InCtxIdeal.Gen

/-- One element of the projection: row `x`, modulated by `sc` and `sh`, against one column. -/
def proj (x sc sh w : Fin 1024 → EReal) : EReal := ∑ k, (x k * (1 + sc k) + sh k) * w k

/-- The first payload at an index. -/
theorem pay2_apply (x0 : Vec Ideal S1x256x1024 .f32) (x1 x2 : Vec Ideal S1x1x1024 .f32) (w : Vec Ideal S1024x1536 .bf16) (j : S1x256x1536.Idx) :
    k0_pay2 x0 x1 x2 w j = proj (fun k => x0 (ix3 0 (j 1) k)) (fun k => x1 (ix3 0 0 k)) (fun k => x2 (ix3 0 0 k)) (fun k => w (ix2 k (j 2))) := by
  unfold_payloads
  pointwise [proj]

/-- The second payload at an index. -/
theorem pay3_apply (x0 : Vec Ideal S1x256x1024 .f32) (x1 x2 : Vec Ideal S1x1x1024 .f32) (w : Vec Ideal S1024x768 .bf16) (j : S1x256x768.Idx) :
    k0_pay3 x0 x1 x2 w j = proj (fun k => x0 (ix3 0 (j 1) k)) (fun k => x1 (ix3 0 0 k)) (fun k => x2 (ix3 0 0 k)) (fun k => w (ix2 k (j 2))) := by
  unfold_payloads
  pointwise [proj]

variable (m : (ℓ : Loc nD τ sig) → Buf (Elt Ideal) ℓ) (ρ : Dev nD → PrngReg)

/-- The block indices at grid point `t`: batch entry `t / 1`, row tile `t % 1`; the weights' blocks do not move. -/
theorem idx0 : ∀ t : Fin cfg0.N, win0_0.index t (0 : Fin 3) = t.val / 1 ∧ win0_0.index t (1 : Fin 3) = t.val % 1 ∧ win0_0.index t (2 : Fin 3) = 0 :=
  (by decide +kernel : ∀ t : Fin grid0.N, _)
theorem idx1 : ∀ t : Fin cfg0.N, win0_1.index t (0 : Fin 3) = t.val / 1 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 1 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val / 1 ∧ win0_5.index t (1 : Fin 3) = t.val % 1 ∧ win0_5.index t (2 : Fin 3) = 0 :=
  (by decide +kernel : ∀ t : Fin grid0.N, _)
theorem idx6 : ∀ t : Fin cfg0.N, win0_6.index t (0 : Fin 3) = t.val / 1 ∧ win0_6.index t (1 : Fin 3) = t.val % 1 ∧ win0_6.index t (2 : Fin 3) = 0 :=
  (by decide +kernel : ∀ t : Fin grid0.N, _)

theorem N_eq : cfg0.N = 32 := N_0

/-- The batch entry and the array row of row `r` of grid point `t`'s block. -/
def bat (t : Fin cfg0.N) : Fin 32 := ⟨t.val / 1, by have := t.isLt; have := N_eq; omega⟩
def row (t : Fin cfg0.N) (r : Fin 256) : Fin 256 := ⟨t.val % 1 * 256 + r.val, by have := r.isLt; omega⟩

/-- The input blocks at an index, in the arrays as the launch finds them. -/
theorem iblk0 (c : Dev nD) (t : Fin cfg0.N) (r : Fin 256) (k : Fin 1024) :
    iblk m c 0 t (ix3 0 r k) = m ((c : Thread nD τ).loc main_arg0) (ix3 (bat t) (row t r) k) := by
  rw [← V_main_arg0 m c]
  show V m c main_arg0 (((cfg0.win 0).blk t).view.emb (ix3 0 r k)) = _
  obtain ⟨e0, e1, e2⟩ := idx0 t
  congr 1; funext a; apply Fin.ext
  match a with
  | ⟨0, _⟩ => show win0_0.index t (0 : Fin 3) * 1 + 1 * 0 = t.val / 1; omega
  | ⟨1, _⟩ => show win0_0.index t (1 : Fin 3) * 256 + 1 * r.val = t.val % 1 * 256 + r.val; omega
  | ⟨2, _⟩ => show win0_0.index t (2 : Fin 3) * 1024 + 1 * k.val = k.val; omega

theorem iblk1 (c : Dev nD) (t : Fin cfg0.N) (k : Fin 1024) :
    iblk m c 1 t (ix3 0 0 k) = m ((c : Thread nD τ).loc main_arg1) (ix3 (bat t) 0 k) := by
  rw [← V_main_arg1 m c]
  show V m c main_arg1 (((cfg0.win 1).blk t).view.emb (ix3 0 0 k)) = _
  obtain ⟨e0, e1, e2⟩ := idx1 t
  congr 1; funext a; apply Fin.ext
  match a with
  | ⟨0, _⟩ => show win0_1.index t (0 : Fin 3) * 1 + 1 * 0 = t.val / 1; omega
  | ⟨1, _⟩ => show win0_1.index t (1 : Fin 3) * 1 + 1 * 0 = 0; omega
  | ⟨2, _⟩ => show win0_1.index t (2 : Fin 3) * 1024 + 1 * k.val = k.val; omega

theorem iblk2 (c : Dev nD) (t : Fin cfg0.N) (k : Fin 1024) :
    iblk m c 2 t (ix3 0 0 k) = m ((c : Thread nD τ).loc main_arg2) (ix3 (bat t) 0 k) := by
  rw [← V_main_arg2 m c]
  show V m c main_arg2 (((cfg0.win 2).blk t).view.emb (ix3 0 0 k)) = _
  obtain ⟨e0, e1, e2⟩ := idx2 t
  congr 1; funext a; apply Fin.ext
  match a with
  | ⟨0, _⟩ => show win0_2.index t (0 : Fin 3) * 1 + 1 * 0 = t.val / 1; omega
  | ⟨1, _⟩ => show win0_2.index t (1 : Fin 3) * 1 + 1 * 0 = 0; omega
  | ⟨2, _⟩ => show win0_2.index t (2 : Fin 3) * 1024 + 1 * k.val = k.val; omega

/-- The two slices of the weights the region finds. -/
theorem V_main_v1 (c : Dev nD) : V m c main_v1
    = extractStridedSlice (α := EReal) S1024x1536 ![0, 0] (truncf (F := Ideal) .bf16 (m ((c : Thread nD τ).loc main_arg3)) bitsLt_bf16_f32) slices_S1024x2304_S1024x1536_0_0 := by
  unfold V hostOps0
  after_results
theorem V_main_v2 (c : Dev nD) : V m c main_v2
    = extractStridedSlice (α := EReal) S1024x768 ![0, 1536] (truncf (F := Ideal) .bf16 (m ((c : Thread nD τ).loc main_arg3)) bitsLt_bf16_f32) slices_S1024x2304_S1024x768_0_1536 := by
  unfold V hostOps0
  after_results

theorem iblk3 (c : Dev nD) (t : Fin cfg0.N) (k : Fin 1024) (n : Fin 1536) :
    iblk m c 3 t (ix2 k n) = m ((c : Thread nD τ).loc main_arg3) (ix2 k ⟨n.val, by omega⟩) := by
  have h : iblk m c 3 t (ix2 k n) = V m c main_v1 (ix2 k n) := by
    show V m c main_v1 (((cfg0.win 3).blk t).view.emb (ix2 k n)) = _
    obtain ⟨e0, e1⟩ := idx3 t
    congr 1; funext a; apply Fin.ext
    match a with
    | ⟨0, _⟩ => show win0_3.index t (0 : Fin 2) * 1024 + 1 * k.val = k.val; omega
    | ⟨1, _⟩ => show win0_3.index t (1 : Fin 2) * 1536 + 1 * n.val = n.val; omega
  rw [h, V_main_v1]
  pointwise

theorem iblk4 (c : Dev nD) (t : Fin cfg0.N) (k : Fin 1024) (n : Fin 768) :
    iblk m c 4 t (ix2 k n) = m ((c : Thread nD τ).loc main_arg3) (ix2 k ⟨1536 + n.val, by omega⟩) := by
  have h : iblk m c 4 t (ix2 k n) = V m c main_v2 (ix2 k n) := by
    show V m c main_v2 (((cfg0.win 4).blk t).view.emb (ix2 k n)) = _
    obtain ⟨e0, e1⟩ := idx4 t
    congr 1; funext a; apply Fin.ext
    match a with
    | ⟨0, _⟩ => show win0_4.index t (0 : Fin 2) * 1024 + 1 * k.val = k.val; omega
    | ⟨1, _⟩ => show win0_4.index t (1 : Fin 2) * 768 + 1 * n.val = n.val; omega
  rw [h, V_main_v2]
  pointwise

/-- The projection at batch entry `b`, row `r`, column `n` of W. -/
def at_ (x : Vec Ideal S32x256x1024 .f32) (sc sh : Vec Ideal S32x1x1024 .f32) (w : Vec Ideal S1024x2304 .f32)
    (b : Fin 32) (r : Fin 256) (n : Fin 2304) : EReal :=
  proj (fun k => x (ix3 b r k)) (fun k => sc (ix3 b 0 k)) (fun k => sh (ix3 b 0 k)) (fun k => w (ix2 k n))

/-- The two result arrays. -/
def G5 (x : Vec Ideal S32x256x1024 .f32) (sc sh : Vec Ideal S32x1x1024 .f32) (w : Vec Ideal S1024x2304 .f32) : Vec Ideal S32x256x1536 .f32 :=
  fun i => at_ x sc sh w (i 0) (i 1) ⟨(i 2).val, by have : (i 2).val < 1536 := (i 2).isLt; omega⟩
def G6 (x : Vec Ideal S32x256x1024 .f32) (sc sh : Vec Ideal S32x1x1024 .f32) (w : Vec Ideal S1024x2304 .f32) : Vec Ideal S32x256x768 .f32 :=
  fun i => at_ x sc sh w (i 0) (i 1) ⟨1536 + (i 2).val, by have : (i 2).val < 768 := (i 2).isLt; omega⟩

theorem emb5 (t : Fin cfg0.N) (r : Fin 256) (n : Fin 1536) : ((cfg0.win 5).blk t).view.emb (ix3 (0 : Fin 1) r n) = ix3 (bat t) (row t r) n := by
  obtain ⟨e0, e1, e2⟩ := idx5 t
  funext a; apply Fin.ext
  match a with
  | ⟨0, _⟩ => show win0_5.index t (0 : Fin 3) * 1 + 1 * 0 = t.val / 1; omega
  | ⟨1, _⟩ => show win0_5.index t (1 : Fin 3) * 256 + 1 * r.val = t.val % 1 * 256 + r.val; omega
  | ⟨2, _⟩ => show win0_5.index t (2 : Fin 3) * 1536 + 1 * n.val = n.val; omega
theorem emb6 (t : Fin cfg0.N) (r : Fin 256) (n : Fin 768) : ((cfg0.win 6).blk t).view.emb (ix3 (0 : Fin 1) r n) = ix3 (bat t) (row t r) n := by
  obtain ⟨e0, e1, e2⟩ := idx6 t
  funext a; apply Fin.ext
  match a with
  | ⟨0, _⟩ => show win0_6.index t (0 : Fin 3) * 1 + 1 * 0 = t.val / 1; omega
  | ⟨1, _⟩ => show win0_6.index t (1 : Fin 3) * 256 + 1 * r.val = t.val % 1 * 256 + r.val; omega
  | ⟨2, _⟩ => show win0_6.index t (2 : Fin 3) * 768 + 1 * n.val = n.val; omega

/-- Every point writes back its block of the result. -/
theorem flushed5_eq (c : Dev nD) (t : Fin cfg0.N) : (dats m 0 c).flushed 5 t = ((cfg0.win 5).blk t).view.read (Elt Ideal)
    (G5 (m ((c : Thread nD τ).loc main_arg0)) (m ((c : Thread nD τ).loc main_arg1)) (m ((c : Thread nD τ).loc main_arg2)) (m ((c : Thread nD τ).loc main_arg3))) := by
  rw [Cert.InCtxIdeal.Value.flushed5]
  unfold out0_5
  rw [View.canon_unit_zero hz3]
  simp only [View.ld_unit_zero (S := S1x256x1024) hz3, View.ld_unit_zero (S := S1x1x1024) hz3, View.ld_unit_zero (S := S1024x1536) hz2]
  suffices h : ∀ j : S1x256x1536.Idx, k0_pay2 (F := Ideal) (iblk m c 0 t) (iblk m c 1 t) (iblk m c 2 t) (iblk m c 3 t) j
      = G5 (m ((c : Thread nD τ).loc main_arg0)) (m ((c : Thread nD τ).loc main_arg1)) (m ((c : Thread nD τ).loc main_arg2)) (m ((c : Thread nD τ).loc main_arg3))
        (((cfg0.win 5).blk t).view.emb j) from funext h
  intro j
  obtain ⟨r, n, rfl⟩ := idx_unit j
  rw [emb5, pay2_apply]
  unfold G5 at_
  congr 1 <;> funext k
  · exact iblk0 m c t r k
  · exact iblk1 m c t k
  · exact iblk2 m c t k
  · exact iblk3 m c t k n

theorem flushed6_eq (c : Dev nD) (t : Fin cfg0.N) : (dats m 0 c).flushed 6 t = ((cfg0.win 6).blk t).view.read (Elt Ideal)
    (G6 (m ((c : Thread nD τ).loc main_arg0)) (m ((c : Thread nD τ).loc main_arg1)) (m ((c : Thread nD τ).loc main_arg2)) (m ((c : Thread nD τ).loc main_arg3))) := by
  rw [Cert.InCtxIdeal.Value.flushed6]
  unfold out0_6
  rw [View.canon_unit_zero hz3]
  simp only [View.ld_unit_zero (S := S1x256x1024) hz3, View.ld_unit_zero (S := S1x1x1024) hz3, View.ld_unit_zero (S := S1024x768) hz2]
  suffices h : ∀ j : S1x256x768.Idx, k0_pay3 (F := Ideal) (iblk m c 0 t) (iblk m c 1 t) (iblk m c 2 t) (iblk m c 4 t) j
      = G6 (m ((c : Thread nD τ).loc main_arg0)) (m ((c : Thread nD τ).loc main_arg1)) (m ((c : Thread nD τ).loc main_arg2)) (m ((c : Thread nD τ).loc main_arg3))
        (((cfg0.win 6).blk t).view.emb j) from funext h
  intro j
  obtain ⟨r, n, rfl⟩ := idx_unit j
  rw [emb6, pay3_apply]
  unfold G6 at_
  congr 1 <;> funext k
  · exact iblk0 m c t r k
  · exact iblk1 m c t k
  · exact iblk2 m c t k
  · exact iblk4 m c t k n

/-- The point whose block holds batch entry `b` and row `r`. -/
def pt (b : Fin 32) (r : Fin 256) : Fin cfg0.N := ⟨b.val * 1 + r.val / 256, by have := b.isLt; have := r.isLt; have := N_eq; omega⟩
theorem bat_pt (b : Fin 32) (r : Fin 256) : bat (pt b r) = b := Fin.ext (by simp only [bat, pt]; have := r.isLt; omega)
theorem row_pt (b : Fin 32) (r : Fin 256) : row (pt b r) ⟨r.val % 256, Nat.mod_lt _ (by decide)⟩ = r :=
  Fin.ext (by simp only [row, pt]; have := r.isLt; omega)

theorem cover5 (i : S32x256x1536.Idx) : ∃ t : Fin cfg0.N, (cfg0.win 5).flush t = true ∧ i ∈ ((cfg0.win 5).blk t).view.set := by
  obtain ⟨b, r, n, rfl⟩ := idx_three i
  refine ⟨pt b r, flush0_5 _, ?_⟩
  have h := ((cfg0.win 5).blk (pt b r)).view.emb_mem_set (ix3 0 (⟨r.val % 256, Nat.mod_lt _ (by decide)⟩ : Fin 256) n)
  rw [emb5, bat_pt, row_pt] at h
  exact h
theorem cover6 (i : S32x256x768.Idx) : ∃ t : Fin cfg0.N, (cfg0.win 6).flush t = true ∧ i ∈ ((cfg0.win 6).blk t).view.set := by
  obtain ⟨b, r, n, rfl⟩ := idx_three i
  refine ⟨pt b r, flush0_6 _, ?_⟩
  have h := ((cfg0.win 6).blk (pt b r)).view.emb_mem_set (ix3 0 (⟨r.val % 256, Nat.mod_lt _ (by decide)⟩ : Fin 256) n)
  rw [emb6, bat_pt, row_pt] at h
  exact h

end Cert.Proof.InCtx

/-! ## The reference -/

namespace Cert.Proof.InCtx

open Cert.RefInCtxIdeal Cert.RefInCtxIdeal.Read

theorem ref5 (x : Vec Ideal Cert.InCtxIdeal.S32x256x1024 .f32) (sc sh : Vec Ideal Cert.InCtxIdeal.S32x1x1024 .f32) (w : Vec Ideal Cert.InCtxIdeal.S1024x2304 .f32) :
    val_main_v7 (F := Ideal) x sc sh w = G5 x sc sh w := by
  funext i
  unfold val_main_v7 val_main_v6 val_main_v5 val_main_v4 val_main_v3 val_main_v2 val_main_v1 val_main_v0 val_main_cst G5 at_ proj
  pointwise

theorem ref6 (x : Vec Ideal Cert.InCtxIdeal.S32x256x1024 .f32) (sc sh : Vec Ideal Cert.InCtxIdeal.S32x1x1024 .f32) (w : Vec Ideal Cert.InCtxIdeal.S1024x2304 .f32) :
    val_main_v8 (F := Ideal) x sc sh w = G6 x sc sh w := by
  funext i
  unfold val_main_v8 val_main_v6 val_main_v5 val_main_v4 val_main_v3 val_main_v2 val_main_v1 val_main_v0 val_main_cst G6 at_ proj
  pointwise

/-- Both programs run, from equal arguments, to equal results. -/
theorem algebraic : Cert.algebraic_InCtxIdeal_RefInCtxIdeal (hInCtxIdeal := Cert.InCtxIdeal.Gen.facts) (hRefInCtxIdeal := Cert.RefInCtxIdeal.Gen.facts) := by
  intro m g m' g' _ hargs
  refine ⟨fun c => G5 (m ((c.tc : Thread _ _).loc Cert.InCtxIdeal.main_arg0)) (m ((c.tc : Thread _ _).loc Cert.InCtxIdeal.main_arg1)) (m ((c.tc : Thread _ _).loc Cert.InCtxIdeal.main_arg2)) (m ((c.tc : Thread _ _).loc Cert.InCtxIdeal.main_arg3)),
    fun c => G6 (m ((c.tc : Thread _ _).loc Cert.InCtxIdeal.main_arg0)) (m ((c.tc : Thread _ _).loc Cert.InCtxIdeal.main_arg1)) (m ((c.tc : Thread _ _).loc Cert.InCtxIdeal.main_arg2)) (m ((c.tc : Thread _ _).loc Cert.InCtxIdeal.main_arg3)), ?_, ?_⟩
  · refine (θ_run (Cert.InCtxIdeal.defs (F := Ideal)) _ _).mono (fun r h c => ?_) (Cert.InCtxIdeal.Value.run_blocks (F := Ideal) m g)
    obtain ⟨h5, h6, hk⟩ := h c
    exact ⟨h5.trans ((Cert.InCtxIdeal.Gen.dats m 0 c).arrAt_eq_of_cover 5 _ (fun t _ => flushed5_eq m c t) cover5),
      h6.trans ((Cert.InCtxIdeal.Gen.dats m 0 c).arrAt_eq_of_cover 6 _ (fun t _ => flushed6_eq m c t) cover6), hk⟩
  · refine (θ_run (Cert.RefInCtxIdeal.defs (F := Ideal)) _ _).mono (fun r h c => ?_) (Cert.RefInCtxIdeal.Value.run (F := Ideal) m' g')
    obtain ⟨h7, h8, hk⟩ := h c
    refine ⟨h7.trans ?_, h8.trans ?_, hk⟩
    · rw [val_main_v7_eq, ref5, (hargs c).1, (hargs c).2.1, (hargs c).2.2.1, (hargs c).2.2.2]
    · rw [val_main_v8_eq, ref6, (hargs c).1, (hargs c).2.1, (hargs c).2.2.1, (hargs c).2.2.2]

end Cert.Proof.InCtx
end
-- ==== Proof.OddCtx.lean ====
/-
  On the context rows: the modulated input projection of the second layer: `(x·(1 + scale) + shift) · W`, in two results. The first is W's first 1920 columns.
  The second is W's other 2064 columns, of which the last 16 are the gates: eight for the decay, eight for the step. The kernel wants each
  eight in a tile of 128 lanes, so it lays the weights out with columns of zeros between; the reference lays out the product instead. A
  column of zeros contracts to zero, whatever the row (`proj_zero`), which makes the two the same array.
-/
module

public import proofs.«01_k».proof.Defs
public import proofs.«01_k».proof.Proof.Gen.OddCtxIdeal.Value
public import proofs.«01_k».proof.Proof.Gen.RefOddCtxIdeal.Run
public import proofs.«01_k».proof.Proof.Gen.RefOddCtxIdeal.Read
public import Idealize.ShloMosaic.Lib.KernelVsHost
public import proofs.«01_k».proof.Proof.Common

@[expose] public section

noncomputable section

open Idealize.ShloMosaic Idealize.ShloMosaic.TcCoe Idealize.SL.Sem
open Idealize.ShloMosaic.Pipeline (Dat)

namespace Cert.Proof.OddCtx

open Cert.OddCtxIdeal Cert.OddCtxIdeal.Gen

/-- One element of the projection: row `x`, modulated by `sc` and `sh`, against one column. -/
def proj (x sc sh w : Fin 1024 → EReal) : EReal := ∑ k, (x k * (1 + sc k) + sh k) * w k

/-- The first payload at an index. -/
theorem pay2_apply (x0 : Vec Ideal S1x256x1024 .f32) (x1 x2 : Vec Ideal S1x1x1024 .f32) (w : Vec Ideal S1024x1920 .bf16) (j : S1x256x1920.Idx) :
    k0_pay2 x0 x1 x2 w j = proj (fun k => x0 (ix3 0 (j 1) k)) (fun k => x1 (ix3 0 0 k)) (fun k => x2 (ix3 0 0 k)) (fun k => w (ix2 k (j 2))) := by
  unfold_payloads
  pointwise [proj]

/-- The second payload at an index. -/
theorem pay3_apply (x0 : Vec Ideal S1x256x1024 .f32) (x1 x2 : Vec Ideal S1x1x1024 .f32) (w : Vec Ideal S1024x2304 .bf16) (j : S1x256x2304.Idx) :
    k0_pay3 x0 x1 x2 w j = proj (fun k => x0 (ix3 0 (j 1) k)) (fun k => x1 (ix3 0 0 k)) (fun k => x2 (ix3 0 0 k)) (fun k => w (ix2 k (j 2))) := by
  unfold_payloads
  pointwise [proj]

variable (m : (ℓ : Loc nD τ sig) → Buf (Elt Ideal) ℓ) (ρ : Dev nD → PrngReg)

/-- The block indices at grid point `t`: batch entry `t / 1`, row tile `t % 1`; the weights' blocks do not move. -/
theorem idx0 : ∀ t : Fin cfg0.N, win0_0.index t (0 : Fin 3) = t.val / 1 ∧ win0_0.index t (1 : Fin 3) = t.val % 1 ∧ win0_0.index t (2 : Fin 3) = 0 :=
  (by decide +kernel : ∀ t : Fin grid0.N, _)
theorem idx1 : ∀ t : Fin cfg0.N, win0_1.index t (0 : Fin 3) = t.val / 1 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 1 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val / 1 ∧ win0_5.index t (1 : Fin 3) = t.val % 1 ∧ win0_5.index t (2 : Fin 3) = 0 :=
  (by decide +kernel : ∀ t : Fin grid0.N, _)
theorem idx6 : ∀ t : Fin cfg0.N, win0_6.index t (0 : Fin 3) = t.val / 1 ∧ win0_6.index t (1 : Fin 3) = t.val % 1 ∧ win0_6.index t (2 : Fin 3) = 0 :=
  (by decide +kernel : ∀ t : Fin grid0.N, _)

theorem N_eq : cfg0.N = 32 := N_0

/-- The batch entry and the array row of row `r` of grid point `t`'s block. -/
def bat (t : Fin cfg0.N) : Fin 32 := ⟨t.val / 1, by have := t.isLt; have := N_eq; omega⟩
def row (t : Fin cfg0.N) (r : Fin 256) : Fin 256 := ⟨t.val % 1 * 256 + r.val, by have := r.isLt; omega⟩

/-- The input blocks at an index, in the arrays as the launch finds them. -/
theorem iblk0 (c : Dev nD) (t : Fin cfg0.N) (r : Fin 256) (k : Fin 1024) :
    iblk m c 0 t (ix3 0 r k) = m ((c : Thread nD τ).loc main_arg0) (ix3 (bat t) (row t r) k) := by
  rw [← V_main_arg0 m c]
  show V m c main_arg0 (((cfg0.win 0).blk t).view.emb (ix3 0 r k)) = _
  obtain ⟨e0, e1, e2⟩ := idx0 t
  congr 1; funext a; apply Fin.ext
  match a with
  | ⟨0, _⟩ => show win0_0.index t (0 : Fin 3) * 1 + 1 * 0 = t.val / 1; omega
  | ⟨1, _⟩ => show win0_0.index t (1 : Fin 3) * 256 + 1 * r.val = t.val % 1 * 256 + r.val; omega
  | ⟨2, _⟩ => show win0_0.index t (2 : Fin 3) * 1024 + 1 * k.val = k.val; omega

theorem iblk1 (c : Dev nD) (t : Fin cfg0.N) (k : Fin 1024) :
    iblk m c 1 t (ix3 0 0 k) = m ((c : Thread nD τ).loc main_arg1) (ix3 (bat t) 0 k) := by
  rw [← V_main_arg1 m c]
  show V m c main_arg1 (((cfg0.win 1).blk t).view.emb (ix3 0 0 k)) = _
  obtain ⟨e0, e1, e2⟩ := idx1 t
  congr 1; funext a; apply Fin.ext
  match a with
  | ⟨0, _⟩ => show win0_1.index t (0 : Fin 3) * 1 + 1 * 0 = t.val / 1; omega
  | ⟨1, _⟩ => show win0_1.index t (1 : Fin 3) * 1 + 1 * 0 = 0; omega
  | ⟨2, _⟩ => show win0_1.index t (2 : Fin 3) * 1024 + 1 * k.val = k.val; omega

theorem iblk2 (c : Dev nD) (t : Fin cfg0.N) (k : Fin 1024) :
    iblk m c 2 t (ix3 0 0 k) = m ((c : Thread nD τ).loc main_arg2) (ix3 (bat t) 0 k) := by
  rw [← V_main_arg2 m c]
  show V m c main_arg2 (((cfg0.win 2).blk t).view.emb (ix3 0 0 k)) = _
  obtain ⟨e0, e1, e2⟩ := idx2 t
  congr 1; funext a; apply Fin.ext
  match a with
  | ⟨0, _⟩ => show win0_2.index t (0 : Fin 3) * 1 + 1 * 0 = t.val / 1; omega
  | ⟨1, _⟩ => show win0_2.index t (1 : Fin 3) * 1 + 1 * 0 = 0; omega
  | ⟨2, _⟩ => show win0_2.index t (2 : Fin 3) * 1024 + 1 * k.val = k.val; omega

/-- The weights the region finds: the first 1920 columns, and the laid-out rest. -/
theorem V_main_v1 (c : Dev nD) : V m c main_v1
    = truncf (F := Ideal) .bf16 (extractStridedSlice S1024x1920 ![0, 0] (m ((c : Thread nD τ).loc main_arg3)) slices_S1024x3984_S1024x1920_0_0) bitsLt_bf16_f32 := by
  unfold V
  simp only [hostOps0, hostOps0_1, hostOps0_2, hostOps0_3, hostOps0_4, List.flatten_cons, List.flatten_nil, List.append_nil, List.cons_append, List.nil_append]
  after_results_simp

/-- The last 2064 columns, and the gates among them. -/
def rest (w : Vec Ideal S1024x3984 .f32) : Vec Ideal S1024x2064 .f32 := extractStridedSlice S1024x2064 ![0, 1920] w slices_S1024x3984_S1024x2064_0_1920
def gates (w : Vec Ideal S1024x3984 .f32) : Vec Ideal S1024x16 .f32 := extractStridedSlice S1024x16 ![0, 2048] (rest w) slices_S1024x2064_S1024x16_0_2048
/-- Eight columns in a tile of 128 lanes. -/
def tile (g : Vec Ideal S1024x8 .f32) : Vec Ideal S1024x128 .f32 :=
  pad S1024x128 ![0, 0] ![0, 120] ![0, 0] g (sitofp (F := Ideal) .f32 (constantI S_ 32 0#32)) pads_S1024x8_S1024x128_000_01200 h_S_
/-- The layout of the last 2064 columns. -/
def lay (w : Vec Ideal S1024x3984 .f32) : Vec Ideal S1024x2304 .f32 :=
  concatenate S1024x2304 1 [⟨S1024x2048, extractStridedSlice S1024x2048 ![0, 0] (rest w) slices_S1024x2064_S1024x2048_0_0⟩,
    ⟨S1024x128, tile (extractStridedSlice S1024x8 ![0, 0] (gates w) slices_S1024x16_S1024x8_0_0)⟩,
    ⟨S1024x128, tile (extractStridedSlice S1024x8 ![0, 8] (gates w) slices_S1024x16_S1024x8_0_8)⟩] concatenates_S1024x2048_S1024x128_S1024x128_S1024x2304_d1

theorem V_main_v10 (c : Dev nD) : V m c main_v10 = truncf (F := Ideal) .bf16 (lay (m ((c : Thread nD τ).loc main_arg3))) bitsLt_bf16_f32 := by
  unfold V
  simp only [hostOps0, hostOps0_1, hostOps0_2, hostOps0_3, hostOps0_4, List.flatten_cons, List.flatten_nil, List.append_nil, List.cons_append, List.nil_append]
  after_results_simp
  rfl

/-- Column `n` of the layout, at row `k`. -/
def lcol (w : Vec Ideal S1024x3984 .f32) (n : Fin 2304) (k : Fin 1024) : EReal :=
  if h : n.val < 2056 then w (ix2 k ⟨1920 + n.val, by omega⟩)
  else if n.val < 2176 then 0
  else if h : n.val < 2184 then w (ix2 k ⟨n.val + 1800, by omega⟩)
  else 0

theorem lcol_lo (w : Vec Ideal S1024x3984 .f32) (n : Fin 2304) (k : Fin 1024) (h : n.val < 2056) : lcol w n k = w (ix2 k ⟨1920 + n.val, by omega⟩) := by
  unfold lcol; rw [dif_pos h]
theorem lcol_gap (w : Vec Ideal S1024x3984 .f32) (n : Fin 2304) (k : Fin 1024) (h : ¬ n.val < 2056) (h' : n.val < 2176) : lcol w n k = 0 := by
  unfold lcol; rw [dif_neg h, if_pos h']
theorem lcol_hi (w : Vec Ideal S1024x3984 .f32) (n : Fin 2304) (k : Fin 1024) (h : ¬ n.val < 2176) (h' : n.val < 2184) : lcol w n k = w (ix2 k ⟨n.val + 1800, by omega⟩) := by
  unfold lcol; rw [dif_neg (by omega), if_neg h, dif_pos h']
theorem lcol_end (w : Vec Ideal S1024x3984 .f32) (n : Fin 2304) (k : Fin 1024) (h : ¬ n.val < 2184) : lcol w n k = 0 := by
  unfold lcol; rw [dif_neg (by omega), if_neg (by omega), dif_neg h]

theorem tile_apply (g : Vec Ideal S1024x8 .f32) (k : Fin 1024) (n : Fin 128) : tile g (ix2 k n) = if h : n.val < 8 then g (ix2 k ⟨n.val, h⟩) else 0 := by
  unfold tile
  split
  · next h =>
    exact pad_apply_of_inside (s := S1024x8) ![0, 0] ![0, 120] ![0, 0] g _ _ _ (ix2 k n) (ix2 k ⟨n.val, h⟩) (fun a => match a with
      | ⟨0, _⟩ => by show k.val = 0 + k.val * 1; omega
      | ⟨1, _⟩ => by show n.val = 0 + n.val * 1; omega)
  · next h =>
    refine (pad_apply_of_not_inside (s := S1024x8) ![0, 0] ![0, 120] ![0, 0] g _ _ _ (ix2 k n) 1 (fun e => h ?_)).trans ?_
    · have := e.2.2
      change (n.val - 0) / 1 < 8 at this
      omega
    · pointwise
      show (((0#32 : BitVec 32).toInt : ℝ) : EReal) = 0
      simp

/-- The pieces of the layout: the first 2048 columns, the eight of the decay, the eight of the step. -/
theorem rest_apply (w : Vec Ideal S1024x3984 .f32) (k : Fin 1024) (n : Fin 2048) :
    extractStridedSlice S1024x2048 ![0, 0] (rest w) slices_S1024x2064_S1024x2048_0_0 (ix2 k n) = w (ix2 k ⟨1920 + n.val, by omega⟩) := by
  unfold rest
  pointwise
theorem decay_apply (w : Vec Ideal S1024x3984 .f32) (k : Fin 1024) (n : Fin 8) :
    extractStridedSlice S1024x8 ![0, 0] (gates w) slices_S1024x16_S1024x8_0_0 (ix2 k n) = w (ix2 k ⟨3968 + n.val, by omega⟩) := by
  unfold gates rest
  pointwise
  exact congrArg (fun e => w (ix2 k e)) (Fin.ext (by show 1920 + (2048 + n.val) = 3968 + n.val; omega))
theorem step_apply (w : Vec Ideal S1024x3984 .f32) (k : Fin 1024) (n : Fin 8) :
    extractStridedSlice S1024x8 ![0, 8] (gates w) slices_S1024x16_S1024x8_0_8 (ix2 k n) = w (ix2 k ⟨3976 + n.val, by omega⟩) := by
  unfold gates rest
  pointwise
  exact congrArg (fun e => w (ix2 k e)) (Fin.ext (by show 1920 + (2048 + (8 + n.val)) = 3976 + n.val; omega))

theorem lay_apply (w : Vec Ideal S1024x3984 .f32) (k : Fin 1024) (n : Fin 2304) : lay w (ix2 k n) = lcol w n k := by
  unfold lay
  have hA : ∀ q : Fin 128, tile (extractStridedSlice S1024x8 ![0, 0] (gates w) slices_S1024x16_S1024x8_0_0) (ix2 k q)
      = if h : q.val < 8 then w (ix2 k ⟨3968 + q.val, by omega⟩) else 0 := fun q => by
    rw [tile_apply]
    split
    · exact decay_apply w k _
    · rfl
  have hB : ∀ q : Fin 128, tile (extractStridedSlice S1024x8 ![0, 8] (gates w) slices_S1024x16_S1024x8_0_8) (ix2 k q)
      = if h : q.val < 8 then w (ix2 k ⟨3976 + q.val, by omega⟩) else 0 := fun q => by
    rw [tile_apply]
    split
    · exact step_apply w k _
    · rfl
  have hC := rest_apply w k
  generalize tile (extractStridedSlice S1024x8 ![0, 0] (gates w) slices_S1024x16_S1024x8_0_0) = A at hA ⊢
  generalize tile (extractStridedSlice S1024x8 ![0, 8] (gates w) slices_S1024x16_S1024x8_0_8) = B at hB ⊢
  generalize extractStridedSlice S1024x2048 ![0, 0] (rest w) slices_S1024x2064_S1024x2048_0_0 = C at hC ⊢
  pointwise
  by_cases h1 : n.val < 2048
  · exact (dif_pos h1).trans ((hC _).trans (lcol_lo w n k (by omega)).symm)
  refine (dif_neg h1).trans ?_
  by_cases h2 : n.val - 2048 < 128
  · refine (dif_pos h2).trans ((hA _).trans ?_)
    by_cases h3 : n.val - 2048 < 8
    · refine (dif_pos h3).trans (Eq.trans ?_ (lcol_lo w n k (by omega)).symm)
      exact congrArg (fun e => w (ix2 k e)) (Fin.ext (by show 3968 + (n.val - 2048) = 1920 + n.val; omega))
    · exact (dif_neg h3).trans (lcol_gap w n k (by omega) (by omega)).symm
  · refine (dif_neg h2).trans ((hB _).trans ?_)
    by_cases h3 : n.val - 2048 - 128 < 8
    · refine (dif_pos h3).trans (Eq.trans ?_ (lcol_hi w n k (by omega) (by omega)).symm)
      exact congrArg (fun e => w (ix2 k e)) (Fin.ext (by show 3976 + (n.val - 2048 - 128) = n.val + 1800; omega))
    · exact (dif_neg h3).trans (lcol_end w n k (by omega)).symm

theorem iblk3 (c : Dev nD) (t : Fin cfg0.N) (k : Fin 1024) (n : Fin 1920) :
    iblk m c 3 t (ix2 k n) = m ((c : Thread nD τ).loc main_arg3) (ix2 k ⟨n.val, by omega⟩) := by
  have h : iblk m c 3 t (ix2 k n) = V m c main_v1 (ix2 k n) := by
    show V m c main_v1 (((cfg0.win 3).blk t).view.emb (ix2 k n)) = _
    obtain ⟨e0, e1⟩ := idx3 t
    congr 1; funext a; apply Fin.ext
    match a with
    | ⟨0, _⟩ => show win0_3.index t (0 : Fin 2) * 1024 + 1 * k.val = k.val; omega
    | ⟨1, _⟩ => show win0_3.index t (1 : Fin 2) * 1920 + 1 * n.val = n.val; omega
  rw [h, V_main_v1]
  pointwise

theorem iblk4 (c : Dev nD) (t : Fin cfg0.N) (k : Fin 1024) (n : Fin 2304) :
    iblk m c 4 t (ix2 k n) = lcol (m ((c : Thread nD τ).loc main_arg3)) n k := by
  have h : iblk m c 4 t (ix2 k n) = V m c main_v10 (ix2 k n) := by
    show V m c main_v10 (((cfg0.win 4).blk t).view.emb (ix2 k n)) = _
    obtain ⟨e0, e1⟩ := idx4 t
    congr 1; funext a; apply Fin.ext
    match a with
    | ⟨0, _⟩ => show win0_4.index t (0 : Fin 2) * 1024 + 1 * k.val = k.val; omega
    | ⟨1, _⟩ => show win0_4.index t (1 : Fin 2) * 2304 + 1 * n.val = n.val; omega
  rw [h, V_main_v10]
  exact lay_apply _ k n

/-- The projection of batch entry `b`, row `r`, against one column. -/
def at_ (x : Vec Ideal S32x256x1024 .f32) (sc sh : Vec Ideal S32x1x1024 .f32) (b : Fin 32) (r : Fin 256) (v : Fin 1024 → EReal) : EReal :=
  proj (fun k => x (ix3 b r k)) (fun k => sc (ix3 b 0 k)) (fun k => sh (ix3 b 0 k)) v

/-- The two result arrays. -/
def G5 (x : Vec Ideal S32x256x1024 .f32) (sc sh : Vec Ideal S32x1x1024 .f32) (w : Vec Ideal S1024x3984 .f32) : Vec Ideal S32x256x1920 .f32 :=
  fun i => at_ x sc sh (i 0) (i 1) (fun k => w (ix2 k ⟨(i 2).val, by have : (i 2).val < 1920 := (i 2).isLt; omega⟩))
def G6 (x : Vec Ideal S32x256x1024 .f32) (sc sh : Vec Ideal S32x1x1024 .f32) (w : Vec Ideal S1024x3984 .f32) : Vec Ideal S32x256x2304 .f32 :=
  fun i => at_ x sc sh (i 0) (i 1) (lcol w (i 2))

theorem emb5 (t : Fin cfg0.N) (r : Fin 256) (n : Fin 1920) : ((cfg0.win 5).blk t).view.emb (ix3 (0 : Fin 1) r n) = ix3 (bat t) (row t r) n := by
  obtain ⟨e0, e1, e2⟩ := idx5 t
  funext a; apply Fin.ext
  match a with
  | ⟨0, _⟩ => show win0_5.index t (0 : Fin 3) * 1 + 1 * 0 = t.val / 1; omega
  | ⟨1, _⟩ => show win0_5.index t (1 : Fin 3) * 256 + 1 * r.val = t.val % 1 * 256 + r.val; omega
  | ⟨2, _⟩ => show win0_5.index t (2 : Fin 3) * 1920 + 1 * n.val = n.val; omega
theorem emb6 (t : Fin cfg0.N) (r : Fin 256) (n : Fin 2304) : ((cfg0.win 6).blk t).view.emb (ix3 (0 : Fin 1) r n) = ix3 (bat t) (row t r) n := by
  obtain ⟨e0, e1, e2⟩ := idx6 t
  funext a; apply Fin.ext
  match a with
  | ⟨0, _⟩ => show win0_6.index t (0 : Fin 3) * 1 + 1 * 0 = t.val / 1; omega
  | ⟨1, _⟩ => show win0_6.index t (1 : Fin 3) * 256 + 1 * r.val = t.val % 1 * 256 + r.val; omega
  | ⟨2, _⟩ => show win0_6.index t (2 : Fin 3) * 2304 + 1 * n.val = n.val; omega

/-- Every point writes back its block of the result. -/
theorem flushed5_eq (c : Dev nD) (t : Fin cfg0.N) : (dats m 0 c).flushed 5 t = ((cfg0.win 5).blk t).view.read (Elt Ideal)
    (G5 (m ((c : Thread nD τ).loc main_arg0)) (m ((c : Thread nD τ).loc main_arg1)) (m ((c : Thread nD τ).loc main_arg2)) (m ((c : Thread nD τ).loc main_arg3))) := by
  rw [Cert.OddCtxIdeal.Value.flushed5]
  unfold out0_5
  rw [View.canon_unit_zero hz3]
  simp only [View.ld_unit_zero (S := S1x256x1024) hz3, View.ld_unit_zero (S := S1x1x1024) hz3, View.ld_unit_zero (S := S1024x1920) hz2]
  suffices h : ∀ j : S1x256x1920.Idx, k0_pay2 (F := Ideal) (iblk m c 0 t) (iblk m c 1 t) (iblk m c 2 t) (iblk m c 3 t) j
      = G5 (m ((c : Thread nD τ).loc main_arg0)) (m ((c : Thread nD τ).loc main_arg1)) (m ((c : Thread nD τ).loc main_arg2)) (m ((c : Thread nD τ).loc main_arg3))
        (((cfg0.win 5).blk t).view.emb j) from funext h
  intro j
  obtain ⟨r, n, rfl⟩ := idx_unit j
  rw [emb5, pay2_apply]
  unfold G5 at_
  congr 1 <;> funext k
  · exact iblk0 m c t r k
  · exact iblk1 m c t k
  · exact iblk2 m c t k
  · exact iblk3 m c t k n

theorem flushed6_eq (c : Dev nD) (t : Fin cfg0.N) : (dats m 0 c).flushed 6 t = ((cfg0.win 6).blk t).view.read (Elt Ideal)
    (G6 (m ((c : Thread nD τ).loc main_arg0)) (m ((c : Thread nD τ).loc main_arg1)) (m ((c : Thread nD τ).loc main_arg2)) (m ((c : Thread nD τ).loc main_arg3))) := by
  rw [Cert.OddCtxIdeal.Value.flushed6]
  unfold out0_6
  rw [View.canon_unit_zero hz3]
  simp only [View.ld_unit_zero (S := S1x256x1024) hz3, View.ld_unit_zero (S := S1x1x1024) hz3, View.ld_unit_zero (S := S1024x2304) hz2]
  suffices h : ∀ j : S1x256x2304.Idx, k0_pay3 (F := Ideal) (iblk m c 0 t) (iblk m c 1 t) (iblk m c 2 t) (iblk m c 4 t) j
      = G6 (m ((c : Thread nD τ).loc main_arg0)) (m ((c : Thread nD τ).loc main_arg1)) (m ((c : Thread nD τ).loc main_arg2)) (m ((c : Thread nD τ).loc main_arg3))
        (((cfg0.win 6).blk t).view.emb j) from funext h
  intro j
  obtain ⟨r, n, rfl⟩ := idx_unit j
  rw [emb6, pay3_apply]
  unfold G6 at_
  congr 1 <;> funext k
  · exact iblk0 m c t r k
  · exact iblk1 m c t k
  · exact iblk2 m c t k
  · exact iblk4 m c t k n

/-- The point whose block holds batch entry `b` and row `r`. -/
def pt (b : Fin 32) (r : Fin 256) : Fin cfg0.N := ⟨b.val * 1 + r.val / 256, by have := b.isLt; have := r.isLt; have := N_eq; omega⟩
theorem bat_pt (b : Fin 32) (r : Fin 256) : bat (pt b r) = b := Fin.ext (by simp only [bat, pt]; have := r.isLt; omega)
theorem row_pt (b : Fin 32) (r : Fin 256) : row (pt b r) ⟨r.val % 256, Nat.mod_lt _ (by decide)⟩ = r :=
  Fin.ext (by simp only [row, pt]; have := r.isLt; omega)

theorem cover5 (i : S32x256x1920.Idx) : ∃ t : Fin cfg0.N, (cfg0.win 5).flush t = true ∧ i ∈ ((cfg0.win 5).blk t).view.set := by
  obtain ⟨b, r, n, rfl⟩ := idx_three i
  refine ⟨pt b r, flush0_5 _, ?_⟩
  have h := ((cfg0.win 5).blk (pt b r)).view.emb_mem_set (ix3 0 (⟨r.val % 256, Nat.mod_lt _ (by decide)⟩ : Fin 256) n)
  rw [emb5, bat_pt, row_pt] at h
  exact h
theorem cover6 (i : S32x256x2304.Idx) : ∃ t : Fin cfg0.N, (cfg0.win 6).flush t = true ∧ i ∈ ((cfg0.win 6).blk t).view.set := by
  obtain ⟨b, r, n, rfl⟩ := idx_three i
  refine ⟨pt b r, flush0_6 _, ?_⟩
  have h := ((cfg0.win 6).blk (pt b r)).view.emb_mem_set (ix3 0 (⟨r.val % 256, Nat.mod_lt _ (by decide)⟩ : Fin 256) n)
  rw [emb6, bat_pt, row_pt] at h
  exact h

end Cert.Proof.OddCtx

/-! ## The reference -/

namespace Cert.Proof.OddCtx

open Cert.RefOddCtxIdeal Cert.RefOddCtxIdeal.Read

/-- A column of zeros. -/
theorem proj_zero (x sc sh : Fin 1024 → EReal) : proj x sc sh (fun _ => 0) = 0 := by
  unfold proj
  exact Finset.sum_eq_zero fun k _ => mul_zero _

theorem ref5 (x : Vec Ideal Cert.OddCtxIdeal.S32x256x1024 .f32) (sc sh : Vec Ideal Cert.OddCtxIdeal.S32x1x1024 .f32) (w : Vec Ideal Cert.OddCtxIdeal.S1024x3984 .f32) :
    val_main_v12 (F := Ideal) x sc sh w = G5 x sc sh w := by
  funext i
  unfold val_main_v12 val_main_v6 val_main_v5 val_main_v4 val_main_v3 val_main_v2 val_main_v1 val_main_v0 val_main_cst G5 at_ proj
  pointwise

/-- The product, its slices, and the zeros. -/
theorem prod_apply (x : Vec Ideal Cert.OddCtxIdeal.S32x256x1024 .f32) (sc sh : Vec Ideal Cert.OddCtxIdeal.S32x1x1024 .f32) (w : Vec Ideal Cert.OddCtxIdeal.S1024x3984 .f32) (b : Fin 32) (r : Fin 256) (n : Fin 3984) :
    val_main_v6 (F := Ideal) x sc sh w (ix3 b r n) = at_ x sc sh b r (fun k => w (ix2 k n)) := by
  unfold val_main_v6 val_main_v5 val_main_v4 val_main_v3 val_main_v2 val_main_v1 val_main_v0 val_main_cst at_ proj
  pointwise
theorem v8_apply (x : Vec Ideal Cert.OddCtxIdeal.S32x256x1024 .f32) (sc sh : Vec Ideal Cert.OddCtxIdeal.S32x1x1024 .f32) (w : Vec Ideal Cert.OddCtxIdeal.S1024x3984 .f32) (b : Fin 32) (r : Fin 256) (n : Fin 2048) :
    val_main_v8 (F := Ideal) x sc sh w (ix3 b r n) = at_ x sc sh b r (fun k => w (ix2 k ⟨1920 + n.val, by omega⟩)) := by
  rw [← prod_apply]
  unfold val_main_v8
  generalize val_main_v6 (F := Ideal) x sc sh w = y
  pointwise
theorem v9_apply (x : Vec Ideal Cert.OddCtxIdeal.S32x256x1024 .f32) (sc sh : Vec Ideal Cert.OddCtxIdeal.S32x1x1024 .f32) (w : Vec Ideal Cert.OddCtxIdeal.S1024x3984 .f32) (b : Fin 32) (r : Fin 256) (n : Fin 8) :
    val_main_v9 (F := Ideal) x sc sh w (ix3 b r n) = at_ x sc sh b r (fun k => w (ix2 k ⟨3968 + n.val, by omega⟩)) := by
  rw [← prod_apply]
  unfold val_main_v9
  generalize val_main_v6 (F := Ideal) x sc sh w = y
  pointwise
theorem v10_apply (x : Vec Ideal Cert.OddCtxIdeal.S32x256x1024 .f32) (sc sh : Vec Ideal Cert.OddCtxIdeal.S32x1x1024 .f32) (w : Vec Ideal Cert.OddCtxIdeal.S1024x3984 .f32) (b : Fin 32) (r : Fin 256) (n : Fin 8) :
    val_main_v10 (F := Ideal) x sc sh w (ix3 b r n) = at_ x sc sh b r (fun k => w (ix2 k ⟨3976 + n.val, by omega⟩)) := by
  rw [← prod_apply]
  unfold val_main_v10
  generalize val_main_v6 (F := Ideal) x sc sh w = y
  pointwise
theorem v7_apply (b : Fin 32) (r : Fin 256) (n : Fin 120) : val_main_v7 (F := Ideal) (ix3 b r n) = 0 := by
  unfold val_main_v7 val_main_cst_0
  pointwise

/-- A column past the gates is zero. -/
theorem at_zero (x : Vec Ideal Cert.OddCtxIdeal.S32x256x1024 .f32) (sc sh : Vec Ideal Cert.OddCtxIdeal.S32x1x1024 .f32) (b : Fin 32) (r : Fin 256)
    (v : Fin 1024 → EReal) (hv : v = fun _ => 0) : 0 = at_ x sc sh b r v := by
  subst hv
  exact (proj_zero _ _ _).symm

theorem ref6 (x : Vec Ideal Cert.OddCtxIdeal.S32x256x1024 .f32) (sc sh : Vec Ideal Cert.OddCtxIdeal.S32x1x1024 .f32) (w : Vec Ideal Cert.OddCtxIdeal.S1024x3984 .f32) :
    val_main_v11 (F := Ideal) x sc sh w = G6 x sc sh w := by
  funext i
  obtain ⟨b, r, n, rfl⟩ := idx_three i
  show _ = at_ x sc sh b r (lcol w n)
  unfold val_main_v11
  have hA := v8_apply x sc sh w b r
  have hB := v9_apply x sc sh w b r
  have hC := v10_apply x sc sh w b r
  have hD := v7_apply b r
  generalize val_main_v8 (F := Ideal) x sc sh w = A at hA ⊢
  generalize val_main_v9 (F := Ideal) x sc sh w = B at hB ⊢
  generalize val_main_v10 (F := Ideal) x sc sh w = C at hC ⊢
  generalize val_main_v7 (F := Ideal) = D at hD ⊢
  pointwise
  by_cases h1 : n.val < 2048
  · exact (dif_pos h1).trans ((hA _).trans (congrArg _ (funext fun k => (lcol_lo w n k (by omega)).symm)))
  refine (dif_neg h1).trans ?_
  by_cases h2 : n.val - 2048 < 8
  · refine (dif_pos h2).trans ((hB _).trans (congrArg _ (funext fun k => Eq.trans ?_ (lcol_lo w n k (by omega)).symm)))
    exact congrArg (fun e => w (ix2 k e)) (Fin.ext (by show 3968 + (n.val - 2048) = 1920 + n.val; omega))
  refine (dif_neg h2).trans ?_
  by_cases h3 : n.val - 2048 - 8 < 120
  · exact (dif_pos h3).trans ((hD _).trans (at_zero x sc sh b r _ (funext fun k => lcol_gap w n k (by omega) (by omega))))
  refine (dif_neg h3).trans ?_
  by_cases h4 : n.val - 2048 - 8 - 120 < 8
  · refine (dif_pos h4).trans ((hC _).trans (congrArg _ (funext fun k => Eq.trans ?_ (lcol_hi w n k (by omega) (by omega)).symm)))
    exact congrArg (fun e => w (ix2 k e)) (Fin.ext (by show 3976 + (n.val - 2048 - 8 - 120) = n.val + 1800; omega))
  · exact (dif_neg h4).trans ((hD _).trans (at_zero x sc sh b r _ (funext fun k => lcol_end w n k (by omega))))

/-- Both programs run, from equal arguments, to equal results. -/
theorem algebraic : Cert.algebraic_OddCtxIdeal_RefOddCtxIdeal (hOddCtxIdeal := Cert.OddCtxIdeal.Gen.facts) (hRefOddCtxIdeal := Cert.RefOddCtxIdeal.Gen.facts) := by
  intro m g m' g' _ hargs
  refine ⟨fun c => G5 (m ((c.tc : Thread _ _).loc Cert.OddCtxIdeal.main_arg0)) (m ((c.tc : Thread _ _).loc Cert.OddCtxIdeal.main_arg1)) (m ((c.tc : Thread _ _).loc Cert.OddCtxIdeal.main_arg2)) (m ((c.tc : Thread _ _).loc Cert.OddCtxIdeal.main_arg3)),
    fun c => G6 (m ((c.tc : Thread _ _).loc Cert.OddCtxIdeal.main_arg0)) (m ((c.tc : Thread _ _).loc Cert.OddCtxIdeal.main_arg1)) (m ((c.tc : Thread _ _).loc Cert.OddCtxIdeal.main_arg2)) (m ((c.tc : Thread _ _).loc Cert.OddCtxIdeal.main_arg3)), ?_, ?_⟩
  · refine (θ_run (Cert.OddCtxIdeal.defs (F := Ideal)) _ _).mono (fun r h c => ?_) (Cert.OddCtxIdeal.Value.run_blocks (F := Ideal) m g)
    obtain ⟨h5, h6, hk⟩ := h c
    exact ⟨h5.trans ((Cert.OddCtxIdeal.Gen.dats m 0 c).arrAt_eq_of_cover 5 _ (fun t _ => flushed5_eq m c t) cover5),
      h6.trans ((Cert.OddCtxIdeal.Gen.dats m 0 c).arrAt_eq_of_cover 6 _ (fun t _ => flushed6_eq m c t) cover6), hk⟩
  · refine (θ_run (Cert.RefOddCtxIdeal.defs (F := Ideal)) _ _).mono (fun r h c => ?_) (Cert.RefOddCtxIdeal.Value.run (F := Ideal) m' g')
    obtain ⟨h7, h8, hk⟩ := h c
    refine ⟨h7.trans ?_, h8.trans ?_, hk⟩
    · rw [val_main_v12_eq, ref5, (hargs c).1, (hargs c).2.1, (hargs c).2.2.1, (hargs c).2.2.2]
    · rw [val_main_v11_eq, ref6, (hargs c).1, (hargs c).2.1, (hargs c).2.2.1, (hargs c).2.2.2]

end Cert.Proof.OddCtx
end
-- ==== Proof.JoinRows.lean ====
/-
  One row of the layer-1 recurrences' outputs, as plain sums: the group norm of the first recurrence over its eight heads of 64
  columns, and the root-mean-square norm and gate of the second over its four heads of 128.
  The kernel takes a sum over a head's columns as a product with the 512 × 512 indicator of equal heads, of the row's rounded part and
  of the remainder apart. On real rows that is the head's sum.
-/
module

public import proofs.«01_k».proof.Proof.Common
public import Idealize.ShloMosaic.PureOps.Ideal

@[expose] public section

noncomputable section

open Idealize.ShloMosaic

namespace Cert.Proof.Join

/-- Column `d` of the 64-column head that holds column `n`. -/
def hcol (n : Fin 512) (d : Fin 64) : Fin 512 := ⟨64 * (n.val / 64) + d.val, by omega⟩

/-- Whether two columns lie in one head. -/
def ind (k n : Fin 512) : EReal := if k.val / 64 = n.val / 64 then 1 else 0

/-- The kernel's sum over a head: the rounded part and the remainder, each against the indicator `e`. -/
def hsum (x : Fin 512 → EReal) (e : Fin 512 → Fin 512 → EReal) (n : Fin 512) : EReal :=
  (0 + ∑ k, x k * e k n) + ∑ k, (x k - x k) * e k n

/-- The kernel's centred row. -/
def kctr (y : Fin 512 → EReal) (e : Fin 512 → Fin 512 → EReal) (n : Fin 512) : EReal :=
  y n - hsum y e n * Ideal.ofBits .f32 0x3C800000#32

/-- The kernel's output row of the first recurrence. -/
def krow (y : Fin 512 → EReal) (e : Fin 512 → Fin 512 → EReal) (gg gb bonus g : Fin 512 → EReal) (n : Fin 512) : EReal :=
  (kctr y e n * Ideal.rsqrt (hsum (fun k => kctr y e k * kctr y e k) e n * Ideal.ofBits .f32 0x3C800000#32 + Ideal.ofBits .f32 0x3A27C5AC#32)
    * gg n + gb n + bonus n) * g n

/-- The row less its head's mean. -/
def ctr (y : Fin 512 → EReal) (n : Fin 512) : EReal :=
  y n - Ideal.div (∑ d, y (hcol n d)) (Ideal.ofBits .f32 0x42800000#32)

/-- The output row of the first recurrence: group norm, gain and offset, bonus, gate. -/
def yrow (y : Fin 512 → EReal) (gg gb bonus g : Fin 512 → EReal) (n : Fin 512) : EReal :=
  (ctr y n * Ideal.rsqrt (Ideal.div (∑ d, ctr y (hcol n d) * ctr y (hcol n d)) (Ideal.ofBits .f32 0x42800000#32) + Ideal.ofBits .f32 0x3A27C5AC#32)
    * gg n + gb n + bonus n) * g n

/-- Column `d` of the 128-column head that holds column `n`. -/
def dcol (n : Fin 512) (d : Fin 128) : Fin 512 := ⟨128 * (n.val / 128) + d.val, by omega⟩

/-- The output row of the second recurrence: the root-mean-square norm of a head and the gate `z · σ(z)`. -/
def drow (o z : Fin 512 → EReal) (ng : Fin 128 → EReal) (n : Fin 512) : EReal :=
  o n * Ideal.rsqrt (Ideal.div (∑ d, o (dcol n d) * o (dcol n d)) (Ideal.ofBits .f32 0x43000000#32) + Ideal.ofBits .f32 0x358637BD#32)
    * ng ⟨n.val % 128, Nat.mod_lt _ (by decide)⟩ * (z n * Ideal.div (Ideal.ofBits .f32 0x3F800000#32) (Ideal.ofBits .f32 0x3F800000#32 + Ideal.exp (-z n)))

theorem yrow_congr {y y' gg gg' gb gb' bonus bonus' g g' : Fin 512 → EReal} (ey : ∀ k, y k = y' k) (e1 : ∀ k, gg k = gg' k) (e2 : ∀ k, gb k = gb' k)
    (e3 : ∀ k, bonus k = bonus' k) (e4 : ∀ k, g k = g' k) (n : Fin 512) : yrow y gg gb bonus g n = yrow y' gg' gb' bonus' g' n := by
  rw [funext ey, funext e1, funext e2, funext e3, funext e4]
theorem krow_congr {y y' gg gg' gb gb' bonus bonus' g g' : Fin 512 → EReal} {e e' : Fin 512 → Fin 512 → EReal} (ey : ∀ k, y k = y' k) (ee : ∀ k n, e k n = e' k n)
    (e1 : ∀ k, gg k = gg' k) (e2 : ∀ k, gb k = gb' k) (e3 : ∀ k, bonus k = bonus' k) (e4 : ∀ k, g k = g' k) (n : Fin 512) :
    krow y e gg gb bonus g n = krow y' e' gg' gb' bonus' g' n := by
  rw [funext ey, funext fun k => funext (ee k), funext e1, funext e2, funext e3, funext e4]
theorem drow_congr {o o' z z' : Fin 512 → EReal} {ng ng' : Fin 128 → EReal} (eo : ∀ k, o k = o' k) (ez : ∀ k, z k = z' k) (en : ∀ k, ng k = ng' k) (n : Fin 512) :
    drow o z ng n = drow o' z' ng' n := by
  rw [funext eo, funext ez, funext en]

/-- An extended real that is a real number. -/
def IsReal (x : EReal) : Prop := ∃ a : ℝ, x = a

theorem lit_inv64 : Ideal.ofBits .f32 0x3C800000#32 = ((1 / 64 : ℝ) : EReal) := by
  simp [Ideal.ofBits, Ideal.ieee, -EReal.coe_mul]
  norm_num
theorem lit_64 : Ideal.ofBits .f32 0x42800000#32 = ((64 : ℝ) : EReal) := by
  simp [Ideal.ofBits, Ideal.ieee, -EReal.coe_mul]
  norm_num

/-- A sum against the indicator is the head's sum. -/
theorem sum_ind (x : Fin 512 → EReal) (n : Fin 512) : ∑ k, x k * ind k n = ∑ d, x (hcol n d) := by
  have e : ∀ k : Fin 512, x k * ind k n = if k.val / 64 = n.val / 64 then x k else 0 := fun k => by
    unfold ind
    split
    · rw [mul_one]
    · rw [mul_zero]
  rw [Finset.sum_congr rfl fun k _ => e k, ← Finset.sum_filter]
  symm
  refine Finset.sum_bij (fun d _ => hcol n d) (fun d _ => ?_) (fun a _ b _ h => ?_) (fun k hk => ?_) (fun d _ => rfl)
  · rw [Finset.mem_filter]
    refine ⟨Finset.mem_univ _, ?_⟩
    show (64 * (n.val / 64) + d.val) / 64 = n.val / 64
    omega
  · have h' : 64 * (n.val / 64) + a.val = 64 * (n.val / 64) + b.val := congrArg Fin.val h
    exact Fin.ext (by omega)
  · have hk' := (Finset.mem_filter.1 hk).2
    exact ⟨⟨k.val % 64, Nat.mod_lt _ (by decide)⟩, Finset.mem_univ _, Fin.ext (show 64 * (n.val / 64) + k.val % 64 = k.val by omega)⟩

/-- On a real row the kernel's sum over a head, scaled, is the head's mean. -/
theorem hsum_mean (x : Fin 512 → EReal) (hx : ∀ k, IsReal (x k)) (n : Fin 512) :
    hsum x ind n * Ideal.ofBits .f32 0x3C800000#32 = Ideal.div (∑ d, x (hcol n d)) (Ideal.ofBits .f32 0x42800000#32) := by
  have z : ∀ k, (x k - x k) * ind k n = 0 := fun k => by
    obtain ⟨a, e⟩ := hx k
    rw [e, ← EReal.coe_sub, sub_self, EReal.coe_zero, zero_mul]
  unfold hsum
  rw [Finset.sum_congr rfl fun k _ => z k, Finset.sum_const_zero, add_zero, zero_add, sum_ind, lit_inv64, lit_64, Ideal.div_coe (by norm_num)]

theorem sum_real {n : Nat} (f : Fin n → EReal) (h : ∀ i, IsReal (f i)) : IsReal (∑ i, f i) := by
  induction n with
  | zero => exact ⟨0, by simp⟩
  | succ n ih =>
    obtain ⟨a, ea⟩ := h 0
    obtain ⟨b, eb⟩ := ih (fun i => f i.succ) fun i => h _
    rw [Fin.sum_univ_succ, ea, eb]
    exact ⟨a + b, (EReal.coe_add a b).symm⟩

theorem mean_real (x : Fin 512 → EReal) (hx : ∀ k, IsReal (x k)) (n : Fin 512) :
    IsReal (Ideal.div (∑ d, x (hcol n d)) (Ideal.ofBits .f32 0x42800000#32)) := by
  obtain ⟨a, e⟩ := sum_real (fun d => x (hcol n d)) fun d => hx _
  rw [lit_64, Ideal.div_coe (by norm_num)]
  exact ⟨a * (1 / 64), (congrArg (· * _) e).trans (EReal.coe_mul _ _).symm⟩

/-- The two rows agree on a real row. -/
theorem krow_eq (y : Fin 512 → EReal) (hy : ∀ k, IsReal (y k)) (gg gb bonus g : Fin 512 → EReal) (n : Fin 512) :
    krow y ind gg gb bonus g n = yrow y gg gb bonus g n := by
  have hc : kctr y ind = ctr y := funext fun k => by unfold kctr ctr; rw [hsum_mean y hy]
  have hr : ∀ k, IsReal (ctr y k * ctr y k) := fun k => by
    obtain ⟨a, ea⟩ := hy k
    obtain ⟨b, eb⟩ := mean_real y hy k
    unfold ctr
    rw [ea, eb, ← EReal.coe_sub, ← EReal.coe_mul]
    exact ⟨_, rfl⟩
  unfold krow yrow
  rw [hc, hsum_mean _ hr]

end Cert.Proof.Join
end
-- ==== Proof.FeatRows.lean ====
/-
  One row of the recurrence's features, as plain sums: the centred token shift, the keys normalised over their heads of 64 columns,
  and the gate.
-/
module

public import proofs.«01_k».proof.Proof.JoinRows

@[expose] public section

noncomputable section

open Idealize.ShloMosaic

namespace Cert.Proof.Feat

open Cert.Proof.Join (IsReal hsum ind sum_ind hcol)

/-- The kernel's token shift of one entry `p` with its neighbours `a` and `b`. -/
def kshift (p a b mu : EReal) : EReal :=
  p * (Ideal.ofBits .f32 0x3F800000#32 - mu) + (a + b) * (Ideal.ofBits .f32 0x3F000000#32 * mu)

/-- The token shift: `p` moved by `mu` towards the mean of its neighbours. -/
def shift (p a b mu : EReal) : EReal :=
  p + mu * (Ideal.ofBits .f32 0x3F000000#32 * (a + b) - p)

theorem lit_one : Ideal.ofBits .f32 0x3F800000#32 = ((1 : ℝ) : EReal) := by
  simp [Ideal.ofBits, Ideal.ieee, -EReal.coe_mul]
  norm_num
theorem lit_half : Ideal.ofBits .f32 0x3F000000#32 = ((1 / 2 : ℝ) : EReal) := by
  simp [Ideal.ofBits, Ideal.ieee, -EReal.coe_mul]
  norm_num

/-- The two are the same on real entries. -/
theorem kshift_eq {p a b mu : EReal} (hp : IsReal p) (ha : IsReal a) (hb : IsReal b) (hm : IsReal mu) : kshift p a b mu = shift p a b mu := by
  obtain ⟨p, rfl⟩ := hp
  obtain ⟨a, rfl⟩ := ha
  obtain ⟨b, rfl⟩ := hb
  obtain ⟨mu, rfl⟩ := hm
  unfold kshift shift
  rw [lit_one, lit_half]
  simp only [← EReal.coe_add, ← EReal.coe_sub, ← EReal.coe_mul]
  congr 1
  ring

theorem shift_real {p a b mu : EReal} (hp : IsReal p) (ha : IsReal a) (hb : IsReal b) (hm : IsReal mu) : IsReal (shift p a b mu) := by
  obtain ⟨p, rfl⟩ := hp
  obtain ⟨a, rfl⟩ := ha
  obtain ⟨b, rfl⟩ := hb
  obtain ⟨mu, rfl⟩ := hm
  unfold shift
  rw [lit_half]
  simp only [← EReal.coe_add, ← EReal.coe_sub, ← EReal.coe_mul]
  exact ⟨_, rfl⟩

/-- The kernel's normalised keys: the squares summed over a head by way of the indicator `e`. -/
def kkey (q : Fin 512 → EReal) (e : Fin 512 → Fin 512 → EReal) (n : Fin 512) : EReal :=
  q n * Ideal.rsqrt (hsum (fun k => q k * q k) e n + Ideal.ofBits .f32 0x358637BD#32)

/-- The normalised keys: each over the root of its head's sum of squares. -/
def key (q : Fin 512 → EReal) (n : Fin 512) : EReal :=
  q n * Ideal.rsqrt (∑ d, q (hcol n d) * q (hcol n d) + Ideal.ofBits .f32 0x358637BD#32)

/-- On a real row the kernel's sum over a head is the head's sum. -/
theorem hsum_ind (x : Fin 512 → EReal) (hx : ∀ k, IsReal (x k)) (n : Fin 512) : hsum x ind n = ∑ d, x (hcol n d) := by
  have z : ∀ k, (x k - x k) * ind k n = 0 := fun k => by
    obtain ⟨a, e⟩ := hx k
    rw [e, ← EReal.coe_sub, sub_self, EReal.coe_zero, zero_mul]
  unfold hsum
  rw [Finset.sum_congr rfl fun k _ => z k, Finset.sum_const_zero, add_zero, zero_add, sum_ind]

theorem kkey_eq (q : Fin 512 → EReal) (hq : ∀ k, IsReal (q k)) (n : Fin 512) : kkey q ind n = key q n := by
  unfold kkey key
  rw [hsum_ind]
  intro k
  obtain ⟨a, e⟩ := hq k
  exact ⟨a * a, by rw [e, EReal.coe_mul]⟩

/-- The logistic value. -/
def sigm (x : EReal) : EReal := Ideal.div (Ideal.ofBits .f32 0x3F800000#32) (Ideal.ofBits .f32 0x3F800000#32 + Ideal.exp (-x))

/-- A result row from the shifted row `x` and the keys `q`: the columns of r, of v, and the keys. -/
def put (x : Fin 1920 → EReal) (q : Fin 512 → EReal) (n : Fin 1536) : EReal :=
  if h : n.val < 512 then x ⟨n.val, by omega⟩ else if h2 : n.val < 1024 then x ⟨512 + n.val, by omega⟩ else q ⟨n.val - 1024, by omega⟩

theorem put_congr {x x' : Fin 1920 → EReal} {q q' : Fin 512 → EReal} (hx : ∀ k, x k = x' k) (hq : ∀ k, q k = q' k) (n : Fin 1536) : put x q n = put x' q' n := by
  rw [funext hx, funext hq]

/-- The gate: a row's logistic values against a column. -/
def gate (x w : Fin 128 → EReal) : EReal := ∑ k, sigm (x k) * w k

end Cert.Proof.Feat
end
-- ==== Proof.FeatBody.lean ====
/-
  What a grid point of the recurrence's features computes, read at an index: the centred token shift of its 256 rows, with the row
  before and the row after taken from the neighbouring tiles, and from the shifted rows the normalised keys and the gate.
-/
module

public import proofs.«01_k».proof.Proof.Gen.FeatIdeal.Value
public import proofs.«01_k».proof.Proof.FeatRows

@[expose] public section

set_option maxRecDepth 16384

noncomputable section

open Idealize.ShloMosaic Idealize.ShloMosaic.TcCoe

namespace Cert.Proof.Feat

open Cert.FeatIdeal Cert.FeatIdeal.Gen
open Cert.Proof.Join (hsum ind)

/-- The entry one row up, in the tile or at the end of the eight rows before it; zero before the first row of all. -/
def kbefore (g : Nat) (x0 : Vec Ideal S1x256x1920 .f32) (x1 : Vec Ideal S1x8x1920 .f32) (r : Fin 256) (n : Fin 1920) : EReal :=
  if r.val = 0 then (if 0 < g then x1 (ix3 0 7 n) else 0) else x0 (ix3 0 ⟨r.val - 1, by omega⟩ n)

/-- The entry one row down, in the tile or at the start of the eight rows after it; zero after the last row of all. -/
def kafter (g : Nat) (x0 : Vec Ideal S1x256x1920 .f32) (x2 : Vec Ideal S1x8x1920 .f32) (r : Fin 256) (n : Fin 1920) : EReal :=
  if r.val = 255 then (if g < 7 then x2 (ix3 0 0 n) else 0) else x0 (ix3 0 ⟨(r.val + 1) % 256, Nat.mod_lt _ (by decide)⟩ n)

theorem sgt_zero (g : Fin 8) : Scalar.cmpi .sgt (BitVec.ofNat 32 g.val) 0#32 = if 0 < g.val then 1#1 else 0#1 := by
  revert g
  decide +kernel
theorem slt_seven (g : Fin 8) : Scalar.cmpi .slt (BitVec.ofNat 32 g.val) 7#32 = if g.val < 7 then 1#1 else 0#1 := by
  revert g
  decide +kernel
theorem eq_zero (r : Fin 256) : IntOp.cmpi .eq (BitVec.ofNat 32 r.val) 0#32 = if r.val = 0 then 1#1 else 0#1 := by
  revert r
  decide +kernel
theorem eq_last (r : Fin 256) : IntOp.cmpi .eq (BitVec.ofNat 32 r.val) 255#32 = if r.val = 255 then 1#1 else 0#1 := by
  revert r
  decide +kernel

theorem pick (p : Prop) [Decidable p] (a b : EReal) : Scalar.select (if p then 1#1 else 0#1) a b = if p then a else b := by
  by_cases h : p
  · rw [if_pos h, if_pos h]; rfl
  · rw [if_neg h, if_neg h]; rfl
theorem if_congr_else {p : Prop} [Decidable p] {a b b' : EReal} (h : ¬ p → b = b') : (if p then a else b) = if p then a else b' := by
  by_cases hp : p
  · rw [if_pos hp, if_pos hp]
  · rw [if_neg hp, if_neg hp, h hp]

theorem pay9_apply (i : grid0.Coords) (x0 : Vec Ideal S1x256x1920 .f32) (x1 x2 : Vec Ideal S1x8x1920 .f32) (r : Fin 256) (n : Fin 1920) :
    k0_pay9 i x0 x1 x2 (ix2 r n) = kbefore (i 1).val x0 x1 r n + kafter (i 1).val x0 x2 r n := by
  unfold k0_pay9 k0_pay6 kbefore kafter
  pointwise
  have hi : (i 1).val < 8 := (i 1).isLt
  have es := sgt_zero ⟨(i 1).val, hi⟩
  have el := slt_seven ⟨(i 1).val, hi⟩
  dsimp only at es el
  rw [eq_zero, eq_last, es, el, pick, pick, pick, pick]
  refine congrArg₂ (fun a b : EReal => a + b) (if_congr_else fun h => ?_) (if_congr_else fun h => ?_)
  · exact congrArg (fun e => x0 (ix3 0 e n)) (Fin.ext (by show (r.val + 256 - 1) % 256 = r.val - 1; have := r.isLt; omega))
  · exact congrArg (fun e => x0 (ix3 0 e n)) (Fin.ext (by show (r.val + 256 - 255) % 256 = (r.val + 1) % 256; omega))

/-- The kernel's shifted rows. -/
def kx (g : Nat) (x0 : Vec Ideal S1x256x1920 .f32) (x1 x2 : Vec Ideal S1x8x1920 .f32) (mu : Vec Ideal S1x1920 .f32) (r : Fin 256) (n : Fin 1920) : EReal :=
  kshift (x0 (ix3 0 r n)) (kbefore g x0 x1 r n) (kafter g x0 x2 r n) (mu (ix2 0 n))

theorem pay10_apply (i : grid0.Coords) (x0 : Vec Ideal S1x256x1920 .f32) (x1 x2 : Vec Ideal S1x8x1920 .f32) (mu : Vec Ideal S1x1920 .f32) (r : Fin 256) (n : Fin 1920) :
    k0_pay10 (k0_pay7 mu) (k0_pay8 x0 mu) (k0_pay9 i x0 x1 x2) (ix2 r n) = kx (i 1).val x0 x1 x2 mu r n := by
  unfold kx kshift
  rw [← pay9_apply i]
  unfold k0_pay10
  generalize k0_pay9 i x0 x1 x2 = h
  unfold k0_pay8 k0_pay7 k0_pay6
  pointwise

theorem pay21_apply (k : FVec Ideal S256x512 .f32) (e : Vec Ideal S512x512 .bf16) (kk : Vec Ideal S1x512 .f32) (r : Fin 256) (n : Fin 512) :
    k0_pay21 k e kk (ix2 r n) = kkey (fun d => k (ix2 r d) * kk (ix2 0 d)) (fun a b => e (ix2 a b)) n := by
  unfold kkey hsum k0_pay21 k0_pay20
  pointwise

theorem pay22_apply (a k v : FVec Ideal S256x512 .f32) (e : Vec Ideal S512x512 .bf16) (kk : Vec Ideal S1x512 .f32) (h : FVec Ideal S256x1920 .f32) (r : Fin 256) (n : Fin 1536)
    (ha : ∀ n : Fin 512, a (ix2 r n) = h (ix2 r ⟨n.val, by omega⟩)) (hk : ∀ n : Fin 512, k (ix2 r n) = h (ix2 r ⟨512 + n.val, by omega⟩))
    (hv : ∀ n : Fin 512, v (ix2 r n) = h (ix2 r ⟨1024 + n.val, by omega⟩)) :
    k0_pay22 a k v e kk (ix3 0 r n)
      = put (fun n => h (ix2 r n)) (kkey (fun d => h (ix2 r ⟨512 + d.val, by omega⟩) * kk (ix2 0 d)) (fun a b => e (ix2 a b))) n := by
  have e21 : kkey (fun d => h (ix2 r ⟨512 + d.val, by omega⟩) * kk (ix2 0 d)) (fun a b => e (ix2 a b)) = fun n => k0_pay21 k e kk (ix2 r n) :=
    funext fun n => by rw [pay21_apply]; simp only [hk]
  rw [e21]
  unfold put k0_pay22
  generalize k0_pay21 k e kk = q
  pointwise
  by_cases h1 : n.val < 512
  · refine (dif_pos h1).trans ((ha _).trans (Eq.trans ?_ (dif_pos h1).symm))
    rfl
  refine (dif_neg h1).trans (Eq.trans ?_ (dif_neg h1).symm)
  by_cases h2 : n.val < 1024
  · refine (dif_pos (by omega)).trans ((hv _).trans (Eq.trans ?_ (dif_pos h2).symm))
    exact congrArg (fun e => h (ix2 r e)) (Fin.ext (by show 1024 + (n.val - 512) = 512 + n.val; omega))
  · refine (dif_neg (by omega)).trans (Eq.trans ?_ (dif_neg h2).symm)
    exact congrArg (fun e => q (ix2 r e)) (Fin.ext (by show n.val - 512 - 512 = n.val - 1024; omega))

theorem out13_apply (i : grid0.Coords) (x0 : Vec Ideal S1x256x1920 .f32) (x1 x2 : Vec Ideal S1x8x1920 .f32) (x3 : Vec Ideal S1x1920 .f32) (x4 : Vec Ideal S1x1024 .f32) (x5 : Vec Ideal S128x1024 .bf16) (x6 : Vec Ideal S1x1024 .f32) (x7 : Vec Ideal S128x1024 .bf16) (x8 : Vec Ideal S128x512 .bf16) (x9 x10 x11 : Vec Ideal S1x512 .f32) (x12 : Vec Ideal S512x512 .bf16)
    (r : Fin 256) (n : Fin 1536) :
    out0_13 i x0 x1 x2 x3 x4 x5 x6 x7 x8 x9 x10 x11 x12 (ix3 0 r n)
      = put (kx (i 1).val x0 x1 x2 x3 r) (kkey (fun d => kx (i 1).val x0 x1 x2 x3 r ⟨512 + d.val, by omega⟩ * x9 (ix2 0 d)) (fun a b => x12 (ix2 a b))) n := by
  have e10 : kx (i 1).val x0 x1 x2 x3 r = fun n => k0_pay10 (k0_pay7 x3) (k0_pay8 x0 x3) (k0_pay9 i x0 x1 x2) (ix2 r n) :=
    funext fun n => (pay10_apply i x0 x1 x2 x3 r n).symm
  rw [e10]
  unfold out0_13 k0_pay37 k0_pay36 k0_pay35 k0_pay34 k0_pay33 k0_pay32
  rw [View.canon_unit_zero hz3]
  simp only [View.ld_unit_zero (S := S1x256x1920) hz3, View.ld_unit_zero (S := S1x8x1920) hz3, View.ld_unit_zero (S := S1x1920) hz2,
    View.ld_unit_zero (S := S512x512) hz2, View.ld_unit_zero (S := S1x512) hz2]
  refine pay22_apply _ _ _ _ _ _ r n (fun n => ?_) (fun n => ?_) (fun n => ?_)
  · unfold k0_pay11
    generalize k0_pay10 (k0_pay7 x3) (k0_pay8 x0 x3) (k0_pay9 i x0 x1 x2) = h
    pointwise
  · unfold k0_pay12
    generalize k0_pay10 (k0_pay7 x3) (k0_pay8 x0 x3) (k0_pay9 i x0 x1 x2) = h
    pointwise
  · unfold k0_pay13
    generalize k0_pay10 (k0_pay7 x3) (k0_pay8 x0 x3) (k0_pay9 i x0 x1 x2) = h
    pointwise

theorem out14_apply (i : grid0.Coords) (x0 : Vec Ideal S1x256x1920 .f32) (x1 x2 : Vec Ideal S1x8x1920 .f32) (x3 : Vec Ideal S1x1920 .f32) (x4 : Vec Ideal S1x1024 .f32) (x5 : Vec Ideal S128x1024 .bf16) (x6 : Vec Ideal S1x1024 .f32) (x7 : Vec Ideal S128x1024 .bf16) (x8 : Vec Ideal S128x512 .bf16) (x9 x10 x11 : Vec Ideal S1x512 .f32) (x12 : Vec Ideal S512x512 .bf16)
    (r : Fin 256) (n : Fin 512) :
    out0_14 i x0 x1 x2 x3 x4 x5 x6 x7 x8 x9 x10 x11 x12 (ix3 0 r n)
      = gate (fun k => kx (i 1).val x0 x1 x2 x3 r ⟨1792 + k.val, by omega⟩) (fun k => x8 (ix2 k n)) := by
  have e10 : kx (i 1).val x0 x1 x2 x3 r = fun n => k0_pay10 (k0_pay7 x3) (k0_pay8 x0 x3) (k0_pay9 i x0 x1 x2) (ix2 r n) :=
    funext fun n => (pay10_apply i x0 x1 x2 x3 r n).symm
  rw [e10]
  unfold out0_14 k0_pay34 k0_pay33 k0_pay32
  rw [View.canon_unit_zero hz3]
  simp only [View.ld_unit_zero (S := S1x256x1920) hz3, View.ld_unit_zero (S := S1x8x1920) hz3, View.ld_unit_zero (S := S1x1920) hz2,
    View.ld_unit_zero (S := S128x512) hz2]
  unfold k0_pay15
  generalize k0_pay10 (k0_pay7 x3) (k0_pay8 x0 x3) (k0_pay9 i x0 x1 x2) = h
  have es : ∀ x : EReal, sigm x = Ideal.div (Ideal.ofBits .f32 0x3F800000#32) (Ideal.ofBits .f32 0x3F800000#32 + Ideal.exp (0 - x)) := fun x => by
    rw [sub_eq_add_neg, zero_add]; rfl
  unfold gate
  simp only [es]
  unfold k0_pay24 k0_pay23
  pointwise

end Cert.Proof.Feat
end
-- ==== Proof.FeatRef.lean ====
/-
  The reference of the recurrence's features, read at an index: the shifted rows, the normalised keys, and the gate.
-/
module

public import proofs.«01_k».proof.Proof.Gen.RefFeatIdeal.Run
public import proofs.«01_k».proof.Proof.Gen.RefFeatIdeal.Read
public import proofs.«01_k».proof.FeatIdeal
public import proofs.«01_k».proof.Proof.FeatRows

@[expose] public section

set_option maxRecDepth 16384

noncomputable section

open Idealize.ShloMosaic Idealize.ShloMosaic.TcCoe

namespace Cert.Proof.Feat

open Cert.RefFeatIdeal Cert.RefFeatIdeal.Read
open Cert.Proof.Join (hcol)

/-- The entry one row up, zero before the first row. -/
def before (p : Vec Ideal Cert.FeatIdeal.S32x2048x1920 .f32) (b : Fin 32) (r : Fin 2048) (n : Fin 1920) : EReal :=
  if r.val = 0 then 0 else p (ix3 b ⟨r.val - 1, by omega⟩ n)

/-- The entry one row down, zero after the last row. -/
def after (p : Vec Ideal Cert.FeatIdeal.S32x2048x1920 .f32) (b : Fin 32) (r : Fin 2048) (n : Fin 1920) : EReal :=
  if h : r.val = 2047 then 0 else p (ix3 b ⟨r.val + 1, by omega⟩ n)

/-- The shifted rows. -/
def sx (p : Vec Ideal Cert.FeatIdeal.S32x2048x1920 .f32) (mu : Vec Ideal Cert.FeatIdeal.S1920 .f32) (b : Fin 32) (r : Fin 2048) (n : Fin 1920) : EReal :=
  shift (p (ix3 b r n)) (before p b r n) (after p b r n) (mu (ix1 n))

/-- The rows of r, v and the normalised keys, side by side. -/
def G13 (p : Vec Ideal Cert.FeatIdeal.S32x2048x1920 .f32) (mu : Vec Ideal Cert.FeatIdeal.S1920 .f32) (kk : Vec Ideal Cert.FeatIdeal.S512 .f32) : Vec Ideal Cert.FeatIdeal.S32x2048x1536 .bf16 :=
  fun i => put (sx p mu (i 0) (i 1)) (key fun d => sx p mu (i 0) (i 1) ⟨512 + d.val, by omega⟩ * kk (ix1 d)) (i 2)

/-- The gate. -/
def G14 (p : Vec Ideal Cert.FeatIdeal.S32x2048x1920 .f32) (mu : Vec Ideal Cert.FeatIdeal.S1920 .f32) (w : Vec Ideal Cert.FeatIdeal.S128x512 .f32) : Vec Ideal Cert.FeatIdeal.S32x2048x512 .f32 :=
  fun i => gate (fun k => sx p mu (i 0) (i 1) ⟨1792 + k.val, by omega⟩) (fun k => w (ix2 k (i 2)))

theorem zero_int : (FloatOps.sitofp .f32 (0#32 : BitVec 32) : Ideal .f32) = (0 : EReal) := by
  show (((0#32 : BitVec 32).toInt : ℝ) : EReal) = 0
  simp

theorem ref1 (p : Vec Ideal Cert.FeatIdeal.S32x2048x1920 .f32) (b : Fin 32) (r : Fin 2048) (n : Fin 1920) :
    val_main_v1 (F := Ideal) p (ix3 b r n) = before p b r n := by
  unfold val_main_v1 val_main_v0 val_main_call0_v0 val_main_c before
  pointwise
  have hr := r.isLt
  by_cases h : r.val = 0
  · exact (dif_neg (by omega)).trans (zero_int.trans (if_pos h).symm)
  · exact (dif_pos (by omega)).trans (if_neg h).symm

theorem ref2 (p : Vec Ideal Cert.FeatIdeal.S32x2048x1920 .f32) (b : Fin 32) (r : Fin 2048) (n : Fin 1920) :
    val_main_v2 (F := Ideal) p (ix3 b r n) = after p b r n := by
  unfold val_main_v2 val_main_v0 val_main_call0_v0 val_main_c after
  pointwise
  have hr := r.isLt
  by_cases h : r.val = 2047
  · refine (dif_neg (by omega)).trans (zero_int.trans ?_)
    rw [dif_pos h]
  · refine (dif_pos (by omega)).trans (Eq.trans ?_ (dif_neg h).symm)
    exact congrArg (fun e => p (ix3 b e n)) (Fin.ext (by show 2 + r.val - 1 = r.val + 1; omega))

theorem ref10 (p : Vec Ideal Cert.FeatIdeal.S32x2048x1920 .f32) (mu : Vec Ideal Cert.FeatIdeal.S1920 .f32) (b : Fin 32) (r : Fin 2048) (n : Fin 1920) :
    val_main_v10 (F := Ideal) p mu (ix3 b r n) = sx p mu b r n := by
  unfold sx shift
  rw [← ref1, ← ref2]
  unfold val_main_v10 val_main_v9 val_main_v8 val_main_v7 val_main_v6 val_main_v5 val_main_v4 val_main_v3 val_main_cst
  generalize val_main_v1 (F := Ideal) p = u
  generalize val_main_v2 (F := Ideal) p = v
  pointwise

theorem ref34 (p : Vec Ideal Cert.FeatIdeal.S32x2048x1920 .f32) (mu : Vec Ideal Cert.FeatIdeal.S1920 .f32) (w : Vec Ideal Cert.FeatIdeal.S128x512 .f32) :
    val_main_v34 (F := Ideal) p mu w = G14 p mu w := by
  funext i
  obtain ⟨b, r, n, rfl⟩ := idx_three i
  show _ = gate (fun k => sx p mu b r ⟨1792 + k.val, by omega⟩) (fun k => w (ix2 k n))
  simp only [← ref10]
  unfold val_main_v34 val_main_v33 val_main_v32 val_main_v31 val_main_v30 val_main_v29 val_main_v28 val_main_v27 val_main_cst_2 val_main_cst_3 gate sigm
  generalize val_main_v10 (F := Ideal) p mu = h
  pointwise

theorem ref17 (p : Vec Ideal Cert.FeatIdeal.S32x2048x1920 .f32) (mu : Vec Ideal Cert.FeatIdeal.S1920 .f32) (kk : Vec Ideal Cert.FeatIdeal.S512 .f32) (b : Fin 32) (r : Fin 2048) (h : Fin 8) (d : Fin 64) :
    val_main_v17 (F := Ideal) p mu kk (ix4 b r h d)
      = sx p mu b r ⟨512 + (64 * h.val + d.val), by omega⟩ * kk (ix1 ⟨64 * h.val + d.val, by omega⟩) := by
  rw [← ref10]
  have e : h.val * 64 + d.val = 64 * h.val + d.val := by omega
  unfold val_main_v17 val_main_v16 val_main_v15 val_main_v14 val_main_v12
  generalize val_main_v10 (F := Ideal) p mu = u
  pointwise
  simp only [e]

theorem ref25 (p : Vec Ideal Cert.FeatIdeal.S32x2048x1920 .f32) (mu : Vec Ideal Cert.FeatIdeal.S1920 .f32) (kk : Vec Ideal Cert.FeatIdeal.S512 .f32) (b : Fin 32) (r : Fin 2048) (h : Fin 8) (d : Fin 64) :
    val_main_v25 (F := Ideal) p mu kk (ix4 b r h d)
      = val_main_v17 (F := Ideal) p mu kk (ix4 b r h d) * Ideal.rsqrt (∑ d, val_main_v17 (F := Ideal) p mu kk (ix4 b r h d) * val_main_v17 (F := Ideal) p mu kk (ix4 b r h d) + Ideal.ofBits .f32 0x358637BD#32) := by
  unfold val_main_v25 val_main_v24 val_main_v23 val_main_v22 val_main_v21 val_main_v20 val_main_v19 val_main_v18 val_main_cst_0 val_main_cst_1
  generalize val_main_v17 (F := Ideal) p mu kk = u
  pointwise

theorem ref26 (p : Vec Ideal Cert.FeatIdeal.S32x2048x1920 .f32) (mu : Vec Ideal Cert.FeatIdeal.S1920 .f32) (kk : Vec Ideal Cert.FeatIdeal.S512 .f32) (b : Fin 32) (r : Fin 2048) (n : Fin 512) :
    val_main_v26 (F := Ideal) p mu kk (ix3 b r n) = key (fun d => sx p mu b r ⟨512 + d.val, by omega⟩ * kk (ix1 d)) n := by
  have e : val_main_v26 (F := Ideal) p mu kk (ix3 b r n) = val_main_v25 (F := Ideal) p mu kk (ix4 b r ⟨n.val / 64, by omega⟩ ⟨n.val % 64, Nat.mod_lt _ (by decide)⟩) := by
    unfold val_main_v26
    generalize val_main_v25 (F := Ideal) p mu kk = u
    pointwise
  rw [e, ref25]
  simp only [ref17]
  unfold key hcol
  have en : 64 * (n.val / 64) + n.val % 64 = n.val := by omega
  simp only [en]

theorem ref36 (p : Vec Ideal Cert.FeatIdeal.S32x2048x1920 .f32) (mu : Vec Ideal Cert.FeatIdeal.S1920 .f32) (kk : Vec Ideal Cert.FeatIdeal.S512 .f32) :
    val_main_v36 (F := Ideal) p mu kk = G13 p mu kk := by
  funext i
  obtain ⟨b, r, n, rfl⟩ := idx_three i
  show _ = put (sx p mu b r) (key fun d => sx p mu b r ⟨512 + d.val, by omega⟩ * kk (ix1 d)) n
  refine Eq.trans ?_ (put_congr (fun k => ref10 p mu b r k) (fun k => ref26 p mu kk b r k) n)
  unfold val_main_v36 val_main_v35 val_main_v13 val_main_v11 put
  generalize val_main_v26 (F := Ideal) p mu kk = q
  generalize val_main_v10 (F := Ideal) p mu = h
  pointwise
  by_cases h1 : n.val < 512
  · refine (dif_pos h1).trans ?_
    rw [dif_pos h1]
  refine (dif_neg h1).trans (Eq.trans ?_ (dif_neg h1).symm)
  by_cases h2 : n.val < 1024
  · refine (dif_pos (by omega)).trans (Eq.trans ?_ (dif_pos h2).symm)
    exact congrArg (fun e => h (ix3 b r e)) (Fin.ext (by show 1024 + (n.val - 512) = 512 + n.val; omega))
  · refine (dif_neg (by omega)).trans (Eq.trans ?_ (dif_neg h2).symm)
    exact congrArg (fun e => q (ix3 b r e)) (Fin.ext (by show n.val - 512 - 512 = n.val - 1024; omega))

end Cert.Proof.Feat
end
-- ==== Proof.FeatBlocks.lean ====
/-
  The blocks of the grid points of the recurrence's features: what the host leaves for the launch (the shift's weights and the keys'
  scale as rows, the gate's rounded weights, the indicator of equal heads), and each window's block at an index.
-/
module

public import proofs.«01_k».proof.Proof.FeatBody
public import proofs.«01_k».proof.Proof.FeatRef
public import Idealize.ShloMosaic.Lib.KernelVsHost

@[expose] public section

set_option maxRecDepth 16384

noncomputable section

open Idealize.ShloMosaic Idealize.ShloMosaic.TcCoe

namespace Cert.Proof.Feat

open Cert.FeatIdeal Cert.FeatIdeal.Gen
open Cert.Proof.Join (ind)

variable (m : (ℓ : Loc nD τ sig) → Buf (Elt Ideal) ℓ)

theorem N_eq : cfg0.N = 256 := N_0

/-- The batch entry and the array row of row `r` of grid point `t`'s block. -/
def bat (t : Fin cfg0.N) : Fin 32 := ⟨t.val / 8, by have := t.isLt; have := N_eq; omega⟩
def row (t : Fin cfg0.N) (r : Fin 256) : Fin 2048 := ⟨t.val % 8 * 256 + r.val, by have := r.isLt; omega⟩

/-- The grid point's row tile. -/
theorem tile_eq : ∀ t : Fin cfg0.N, (grid0.coords t 1).val = t.val % 8 :=
  (by decide +kernel : ∀ t : Fin grid0.N, (grid0.coords t 1).val = t.val % 8)

/-! ## Each window's block index at a grid point -/

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, win0_0.index t (0 : Fin 3) = t.val / 8 ∧ win0_0.index t (1 : Fin 3) = t.val % 8 ∧ win0_0.index t (2 : Fin 3) = 0)
theorem idx1 : ∀ t : Fin cfg0.N, win0_1.index t (0 : Fin 3) = t.val / 8 ∧ win0_1.index t (1 : Fin 3) = t.val % 8 * 32 - 1 ∧ win0_1.index t (2 : Fin 3) = 0 :=
  (by decide +kernel : ∀ t : Fin grid0.N, win0_1.index t (0 : Fin 3) = t.val / 8 ∧ win0_1.index t (1 : Fin 3) = t.val % 8 * 32 - 1 ∧ win0_1.index t (2 : Fin 3) = 0)
theorem idx2 : ∀ t : Fin cfg0.N, win0_2.index t (0 : Fin 3) = t.val / 8 ∧ win0_2.index t (1 : Fin 3) = min ((t.val % 8 + 1) * 32) 255 ∧ win0_2.index t (2 : Fin 3) = 0 :=
  (by decide +kernel : ∀ t : Fin grid0.N, win0_2.index t (0 : Fin 3) = t.val / 8 ∧ win0_2.index t (1 : Fin 3) = min ((t.val % 8 + 1) * 32) 255 ∧ win0_2.index t (2 : Fin 3) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 3) = t.val / 8 ∧ win0_13.index t (1 : Fin 3) = t.val % 8 ∧ win0_13.index t (2 : Fin 3) = 0 :=
  (by decide +kernel : ∀ t : Fin grid0.N, win0_13.index t (0 : Fin 3) = t.val / 8 ∧ win0_13.index t (1 : Fin 3) = t.val % 8 ∧ win0_13.index t (2 : Fin 3) = 0)
theorem idx14 : ∀ t : Fin cfg0.N, win0_14.index t (0 : Fin 3) = t.val / 8 ∧ win0_14.index t (1 : Fin 3) = t.val % 8 ∧ win0_14.index t (2 : Fin 3) = 0 :=
  (by decide +kernel : ∀ t : Fin grid0.N, win0_14.index t (0 : Fin 3) = t.val / 8 ∧ win0_14.index t (1 : Fin 3) = t.val % 8 ∧ win0_14.index t (2 : Fin 3) = 0)

/-! ## What the host leaves for the launch -/

theorem V_main_v28 (c : Dev nD) : V m c main_v28 = shapeCast (α := EReal) S1x1920 (m ((c : Thread nD τ).loc main_arg1)) shapeCasts_S1920_S1x1920 := by
  unfold V
  simp only [hostOps0, hostOps0_1, hostOps0_2, List.flatten_cons, List.flatten_nil, List.append_nil, List.cons_append, List.nil_append]
  after_results_simp
  rfl
theorem V_main_v31 (c : Dev nD) : V m c main_v31 = truncf (F := Ideal) .bf16 (m ((c : Thread nD τ).loc main_arg6)) bitsLt_bf16_f32 := by
  unfold V
  simp only [hostOps0, hostOps0_1, hostOps0_2, List.flatten_cons, List.flatten_nil, List.append_nil, List.cons_append, List.nil_append]
  after_results_simp
theorem V_main_v32 (c : Dev nD) : V m c main_v32 = shapeCast (α := EReal) S1x512 (m ((c : Thread nD τ).loc main_arg7)) shapeCasts_S512_S1x512 := by
  unfold V
  simp only [hostOps0, hostOps0_1, hostOps0_2, List.flatten_cons, List.flatten_nil, List.append_nil, List.cons_append, List.nil_append]
  after_results_simp
  rfl

/-- The head of a column: the host's floor division of the column's number by 64. -/
def grp : IVec S512 32 :=
  let x : IVec S512 32 := iotaInDim S512 32 0
  let c : IVec S_ 32 := constantI S_ 32 64#32
  select (andi (cmpi .ne (signi x) (broadcastInDim S512 ![] bcast_S_S512 (signi c)))
      (cmpi .ne (Host.remsi x (broadcastInDim S512 ![] bcast_S_S512 c)) (broadcastInDim S512 ![] bcast_S_S512 (constantI S_ 32 0#32))))
    (subi (Host.divsi x (broadcastInDim S512 ![] bcast_S_S512 c)) (broadcastInDim S512 ![] bcast_S_S512 (constantI S_ 32 1#32)))
    (Host.divsi x (broadcastInDim S512 ![] bcast_S_S512 c))

theorem V_main_v42 (c : Dev nD) : V m c main_v42
    = uitofp (F := Ideal) .bf16 (cmpi .eq (broadcastInDim S512x512 ![0, 1] bcast_S512x1_S512x512_0_1 (broadcastInDim S512x1 ![0] bcast_S512_S512x1_0 grp))
        (broadcastInDim S512x512 ![0, 1] bcast_S1x512_S512x512_0_1 (broadcastInDim S1x512 ![1] bcast_S512_S1x512_1 grp))) := by
  unfold V
  simp only [hostOps0, hostOps0_1, hostOps0_2, List.flatten_cons, List.flatten_nil, List.append_nil, List.cons_append, List.nil_append]
  after_results_simp
  rfl

theorem grp_apply (k : Fin 512) : grp (ix1 k) = BitVec.ofNat 32 (k.val / 64) := by
  unfold grp
  pointwise
  revert k
  decide +kernel

theorem ind_apply (c : Dev nD) (k n : Fin 512) : V m c main_v42 (ix2 k n) = ind k n := by
  rw [V_main_v42]
  have hk := grp_apply k
  have hn := grp_apply n
  revert hk hn
  generalize grp = w
  intro hk hn
  unfold ind
  pointwise
  rw [hk, hn]
  by_cases h : k.val / 64 = n.val / 64
  · rw [h, if_pos rfl]
    have e : IntOp.cmpi .eq (BitVec.ofNat 32 (n.val / 64)) (BitVec.ofNat 32 (n.val / 64)) = 1#1 := by simp [IntOp.cmpi]
    rw [e]
    show (((1#1 : BitVec 1).toNat : ℝ) : EReal) = 1
    simp
  · rw [if_neg h]
    have hne : BitVec.ofNat 32 (k.val / 64) ≠ BitVec.ofNat 32 (n.val / 64) := fun q => h (by
      have q' := congrArg BitVec.toNat q
      simp only [BitVec.toNat_ofNat] at q'
      omega)
    have e : IntOp.cmpi .eq (BitVec.ofNat 32 (k.val / 64)) (BitVec.ofNat 32 (n.val / 64)) = 0#1 := by
      simp only [IntOp.cmpi]
      rw [beq_eq_false_iff_ne.2 hne]
      rfl
    rw [e]
    show (((0#1 : BitVec 1).toNat : ℝ) : EReal) = 0
    simp

/-! ## The input blocks at an index -/

theorem iblk0 (c : Dev nD) (t : Fin cfg0.N) (r : Fin 256) (k : Fin 1920) :
    iblk m c 0 t (ix3 0 r k) = m ((c : Thread nD τ).loc main_arg0) (ix3 (bat t) (row t r) k) := by
  rw [← V_main_arg0 m c]
  show V m c main_arg0 (((cfg0.win 0).blk t).view.emb (ix3 0 r k)) = _
  obtain ⟨e0, e1, e2⟩ := idx0 t
  congr 1; funext a; apply Fin.ext
  match a with
  | ⟨0, _⟩ => show win0_0.index t (0 : Fin 3) * 1 + 1 * 0 = t.val / 8; omega
  | ⟨1, _⟩ => show win0_0.index t (1 : Fin 3) * 256 + 1 * r.val = t.val % 8 * 256 + r.val; omega
  | ⟨2, _⟩ => show win0_0.index t (2 : Fin 3) * 1920 + 1 * k.val = k.val; omega

/-- The last of the eight rows before the tile is the row before it. -/
theorem iblk1 (c : Dev nD) (t : Fin cfg0.N) (h : 0 < t.val % 8) (k : Fin 1920) :
    iblk m c 1 t (ix3 0 7 k) = m ((c : Thread nD τ).loc main_arg0) (ix3 (bat t) ⟨t.val % 8 * 256 - 1, by omega⟩ k) := by
  rw [← V_main_arg0 m c]
  show V m c main_arg0 (((cfg0.win 1).blk t).view.emb (ix3 0 7 k)) = _
  obtain ⟨e0, e1, e2⟩ := idx1 t
  congr 1; funext a; apply Fin.ext
  match a with
  | ⟨0, _⟩ => show win0_1.index t (0 : Fin 3) * 1 + 1 * 0 = t.val / 8; omega
  | ⟨1, _⟩ => show win0_1.index t (1 : Fin 3) * 8 + 1 * 7 = t.val % 8 * 256 - 1; omega
  | ⟨2, _⟩ => show win0_1.index t (2 : Fin 3) * 1920 + 1 * k.val = k.val; omega

/-- The first of the eight rows after the tile is the row after it. -/
theorem iblk2 (c : Dev nD) (t : Fin cfg0.N) (h : t.val % 8 < 7) (k : Fin 1920) :
    iblk m c 2 t (ix3 0 0 k) = m ((c : Thread nD τ).loc main_arg0) (ix3 (bat t) ⟨t.val % 8 * 256 + 256, by omega⟩ k) := by
  rw [← V_main_arg0 m c]
  show V m c main_arg0 (((cfg0.win 2).blk t).view.emb (ix3 0 0 k)) = _
  obtain ⟨e0, e1, e2⟩ := idx2 t
  congr 1; funext a; apply Fin.ext
  match a with
  | ⟨0, _⟩ => show win0_2.index t (0 : Fin 3) * 1 + 1 * 0 = t.val / 8; omega
  | ⟨1, _⟩ => show win0_2.index t (1 : Fin 3) * 8 + 1 * 0 = t.val % 8 * 256 + 256; omega
  | ⟨2, _⟩ => show win0_2.index t (2 : Fin 3) * 1920 + 1 * k.val = k.val; omega

theorem iblk3 (c : Dev nD) (t : Fin cfg0.N) (n : Fin 1920) :
    iblk m c 3 t (ix2 0 n) = m ((c : Thread nD τ).loc main_arg1) (ix1 n) := by
  have h : iblk m c 3 t (ix2 0 n) = V m c main_v28 (ix2 0 n) := by
    show V m c main_v28 (((cfg0.win 3).blk t).view.emb (ix2 0 n)) = _
    obtain ⟨e0, e1⟩ := idx3 t
    congr 1; funext a; apply Fin.ext
    match a with
    | ⟨0, _⟩ => show win0_3.index t (0 : Fin 2) * 1 + 1 * 0 = 0; omega
    | ⟨1, _⟩ => show win0_3.index t (1 : Fin 2) * 1920 + 1 * n.val = n.val; omega
  rw [h, V_main_v28]
  exact (shapeCast_addUnit_apply ![1920] (m ((c : Thread nD τ).loc main_arg1)) shapeCasts_S1920_S1x1920 (ix2 0 n)).trans
    (congrArg (m ((c : Thread nD τ).loc main_arg1)) (funext fun a => by fin_cases a; rfl))

theorem iblk9 (c : Dev nD) (t : Fin cfg0.N) (n : Fin 512) :
    iblk m c 9 t (ix2 0 n) = m ((c : Thread nD τ).loc main_arg7) (ix1 n) := by
  have h : iblk m c 9 t (ix2 0 n) = V m c main_v32 (ix2 0 n) := by
    show V m c main_v32 (((cfg0.win 9).blk t).view.emb (ix2 0 n)) = _
    obtain ⟨e0, e1⟩ := idx9 t
    congr 1; funext a; apply Fin.ext
    match a with
    | ⟨0, _⟩ => show win0_9.index t (0 : Fin 2) * 1 + 1 * 0 = 0; omega
    | ⟨1, _⟩ => show win0_9.index t (1 : Fin 2) * 512 + 1 * n.val = n.val; omega
  rw [h, V_main_v32]
  pointwise

theorem iblk8 (c : Dev nD) (t : Fin cfg0.N) (k : Fin 128) (n : Fin 512) :
    iblk m c 8 t (ix2 k n) = m ((c : Thread nD τ).loc main_arg6) (ix2 k n) := by
  have h : iblk m c 8 t (ix2 k n) = V m c main_v31 (ix2 k n) := by
    show V m c main_v31 (((cfg0.win 8).blk t).view.emb (ix2 k n)) = _
    obtain ⟨e0, e1⟩ := idx8 t
    congr 1; funext a; apply Fin.ext
    match a with
    | ⟨0, _⟩ => show win0_8.index t (0 : Fin 2) * 128 + 1 * k.val = k.val; omega
    | ⟨1, _⟩ => show win0_8.index t (1 : Fin 2) * 512 + 1 * n.val = n.val; omega
  rw [h, V_main_v31]
  pointwise

theorem iblk12 (c : Dev nD) (t : Fin cfg0.N) (k : Fin 512) (n : Fin 512) :
    iblk m c 12 t (ix2 k n) = ind k n := by
  have h : iblk m c 12 t (ix2 k n) = V m c main_v42 (ix2 k n) := by
    show V m c main_v42 (((cfg0.win 12).blk t).view.emb (ix2 k n)) = _
    obtain ⟨e0, e1⟩ := idx12 t
    congr 1; funext a; apply Fin.ext
    match a with
    | ⟨0, _⟩ => show win0_12.index t (0 : Fin 2) * 512 + 1 * k.val = k.val; omega
    | ⟨1, _⟩ => show win0_12.index t (1 : Fin 2) * 512 + 1 * n.val = n.val; omega
  rw [h, ind_apply]

theorem emb13 (t : Fin cfg0.N) (r : Fin 256) (n : Fin 1536) : ((cfg0.win 13).blk t).view.emb (ix3 (0 : Fin 1) r n) = ix3 (bat t) (row t r) n := by
  obtain ⟨e0, e1, e2⟩ := idx13 t
  funext a; apply Fin.ext
  match a with
  | ⟨0, _⟩ => show win0_13.index t (0 : Fin 3) * 1 + 1 * 0 = t.val / 8; omega
  | ⟨1, _⟩ => show win0_13.index t (1 : Fin 3) * 256 + 1 * r.val = t.val % 8 * 256 + r.val; omega
  | ⟨2, _⟩ => show win0_13.index t (2 : Fin 3) * 1536 + 1 * n.val = n.val; omega

theorem emb14 (t : Fin cfg0.N) (r : Fin 256) (n : Fin 512) : ((cfg0.win 14).blk t).view.emb (ix3 (0 : Fin 1) r n) = ix3 (bat t) (row t r) n := by
  obtain ⟨e0, e1, e2⟩ := idx14 t
  funext a; apply Fin.ext
  match a with
  | ⟨0, _⟩ => show win0_14.index t (0 : Fin 3) * 1 + 1 * 0 = t.val / 8; omega
  | ⟨1, _⟩ => show win0_14.index t (1 : Fin 3) * 256 + 1 * r.val = t.val % 8 * 256 + r.val; omega
  | ⟨2, _⟩ => show win0_14.index t (2 : Fin 3) * 512 + 1 * n.val = n.val; omega

/-- The point whose block holds batch entry `b` and row `r`. -/
def pt (b : Fin 32) (r : Fin 2048) : Fin cfg0.N := ⟨b.val * 8 + r.val / 256, by have := b.isLt; have := r.isLt; have := N_eq; omega⟩
theorem bat_pt (b : Fin 32) (r : Fin 2048) : bat (pt b r) = b := Fin.ext (by simp only [bat, pt]; have := r.isLt; omega)
theorem row_pt (b : Fin 32) (r : Fin 2048) : row (pt b r) ⟨r.val % 256, Nat.mod_lt _ (by decide)⟩ = r :=
  Fin.ext (by simp only [row, pt]; have := r.isLt; omega)

theorem cover13 (i : S32x2048x1536.Idx) : ∃ t : Fin cfg0.N, (cfg0.win 13).flush t = true ∧ i ∈ ((cfg0.win 13).blk t).view.set := by
  obtain ⟨b, r, n, rfl⟩ := idx_three i
  refine ⟨pt b r, flush0_13 _, ?_⟩
  have h := ((cfg0.win 13).blk (pt b r)).view.emb_mem_set (ix3 0 (⟨r.val % 256, Nat.mod_lt _ (by decide)⟩ : Fin 256) n)
  rw [emb13, bat_pt, row_pt] at h
  exact h

theorem cover14 (i : S32x2048x512.Idx) : ∃ t : Fin cfg0.N, (cfg0.win 14).flush t = true ∧ i ∈ ((cfg0.win 14).blk t).view.set := by
  obtain ⟨b, r, n, rfl⟩ := idx_three i
  refine ⟨pt b r, flush0_14 _, ?_⟩
  have h := ((cfg0.win 14).blk (pt b r)).view.emb_mem_set (ix3 0 (⟨r.val % 256, Nat.mod_lt _ (by decide)⟩ : Fin 256) n)
  rw [emb14, bat_pt, row_pt] at h
  exact h

/-! ## The shifted rows of a grid point -/

theorem before_eq (c : Dev nD) (t : Fin cfg0.N) (r : Fin 256) (n : Fin 1920) :
    kbefore (t.val % 8) (iblk m c 0 t) (iblk m c 1 t) r n = before (m ((c : Thread nD τ).loc main_arg0)) (bat t) (row t r) n := by
  have hrow : (row t r).val = t.val % 8 * 256 + r.val := rfl
  unfold kbefore before
  by_cases h : r.val = 0
  · rw [if_pos h]
    by_cases h' : 0 < t.val % 8
    · rw [if_pos h', if_neg (by omega), iblk1 m c t h']
      congr 2; apply Fin.ext; show t.val % 8 * 256 - 1 = t.val % 8 * 256 + r.val - 1; omega
    · rw [if_neg h', if_pos (by omega)]
  · rw [if_neg h, if_neg (by omega), iblk0]
    congr 2; apply Fin.ext; show t.val % 8 * 256 + (r.val - 1) = t.val % 8 * 256 + r.val - 1; omega

theorem after_eq (c : Dev nD) (t : Fin cfg0.N) (r : Fin 256) (n : Fin 1920) :
    kafter (t.val % 8) (iblk m c 0 t) (iblk m c 2 t) r n = after (m ((c : Thread nD τ).loc main_arg0)) (bat t) (row t r) n := by
  have hrow : (row t r).val = t.val % 8 * 256 + r.val := rfl
  have hr := r.isLt
  unfold kafter after
  by_cases h : r.val = 255
  · rw [if_pos h]
    by_cases h' : t.val % 8 < 7
    · rw [if_pos h', dif_neg (by omega), iblk2 m c t h']
      congr 2; apply Fin.ext; show t.val % 8 * 256 + 256 = t.val % 8 * 256 + r.val + 1; omega
    · rw [if_neg h', dif_pos (by omega)]
  · rw [if_neg h, dif_neg (by omega), iblk0]
    congr 2; apply Fin.ext; show t.val % 8 * 256 + (r.val + 1) % 256 = t.val % 8 * 256 + r.val + 1; omega

end Cert.Proof.Feat
end
-- ==== Proof.Feat.lean ====
/-
  The features of the first recurrence: the centred token shift, then the rows of r, of v and of the normalised keys, and the gate.
  The kernel computes 256 rows at a grid point, takes the rows on either side from the neighbouring tiles, and sums the keys' squares
  over a head by a contraction with an indicator matrix; that agrees with the reference where the rows, the shift's weights and the
  keys' scale are finite.
-/
module

public import proofs.«01_k».proof.Defs
public import proofs.«01_k».proof.Proof.FeatBlocks
public import proofs.«01_k».proof.Proof.Gen.Pre_finite_keys
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Proof.Feat

open Cert.FeatIdeal Cert.FeatIdeal.Gen
open Cert.Proof.Join (IsReal ind)

variable (m : (ℓ : Loc nD τ sig) → Buf (Elt Ideal) ℓ)

/-! ## Finite rows, weights and scale -/

theorem inf_lit : Ideal.ofBits .f32 0x7F800000#32 = ⊤ := by
  simp [Ideal.ofBits, Ideal.ieee, -EReal.coe_mul]

theorem real_of_lt {x : EReal} (h : Ideal.cmp .olt (max x (-x)) (Ideal.ofBits .f32 0x7F800000#32) = 1#1) : IsReal x := by
  rw [inf_lit] at h
  induction x with
  | bot => simp [Ideal.cmp] at h
  | top => simp [Ideal.cmp] at h
  | coe a => exact ⟨a, rfl⟩

instance : Subsingleton Cert.Pre_finite_keys.S_.Idx := ⟨fun a b => funext fun i => i.elim0⟩

theorem and_one : ∀ {a b : BitVec 1}, IntOp.andi a b = 1#1 → a = 1#1 ∧ b = 1#1 := by decide

theorem finite_keys (p : Vec Ideal S32x2048x1920 .f32) (mu : Vec Ideal S1920 .f32) (w0 : Vec Ideal S2x512 .f32) (w2 : Vec Ideal S2x64x512 .f32) (a0 : Vec Ideal S2x512 .f32) (a2 : Vec Ideal S2x64x512 .f32) (g2 : Vec Ideal S128x512 .f32) (kk : Vec Ideal S512 .f32) (ka : Vec Ideal S512 .f32) (rk : Vec Ideal S8x64 .f32)
    (h : @Cert.Pre_finite_keys.fn Cert.Pre_finite_keys.Gen.facts Ideal _ p mu w0 w2 a0 a2 g2 kk ka rk = fun _ => 1#1) :
    (∀ i, IsReal (p i)) ∧ (∀ i, IsReal (mu i)) ∧ ∀ i, IsReal (kk i) := by
  have h := congrFun h ix0
  unfold Cert.Pre_finite_keys.fn at h
  dsimp only at h
  obtain ⟨h12, h3⟩ := and_one h
  obtain ⟨h1, h2⟩ := and_one h12
  exact ⟨fun i => real_of_lt (Host.reduce_andi_all _ _ _ _ _ h1 i), fun i => real_of_lt (Host.reduce_andi_all _ _ _ _ _ h2 i),
    fun i => real_of_lt (Host.reduce_andi_all _ _ _ _ _ h3 i)⟩

/-! ## On finite entries the kernel's rows are the reference's -/

theorem zero_real : IsReal 0 := ⟨0, rfl⟩

theorem before_real (p : Vec Ideal S32x2048x1920 .f32) (hp : ∀ i, IsReal (p i)) (b : Fin 32) (r : Fin 2048) (n : Fin 1920) : IsReal (before p b r n) := by
  unfold before
  split
  · exact zero_real
  · exact hp _
theorem after_real (p : Vec Ideal S32x2048x1920 .f32) (hp : ∀ i, IsReal (p i)) (b : Fin 32) (r : Fin 2048) (n : Fin 1920) : IsReal (after p b r n) := by
  unfold after
  split
  · exact zero_real
  · exact hp _
theorem sx_real (p : Vec Ideal S32x2048x1920 .f32) (mu : Vec Ideal S1920 .f32) (hp : ∀ i, IsReal (p i)) (hm : ∀ i, IsReal (mu i)) (b : Fin 32) (r : Fin 2048) (n : Fin 1920) : IsReal (sx p mu b r n) :=
  shift_real (hp _) (before_real p hp b r n) (after_real p hp b r n) (hm _)

theorem kx_eq (c : Dev nD) (hp : ∀ i, IsReal (m ((c : Thread nD τ).loc main_arg0) i)) (hm : ∀ i, IsReal (m ((c : Thread nD τ).loc main_arg1) i)) (t : Fin cfg0.N) (r : Fin 256) (n : Fin 1920) :
    kx (grid0.coords t 1).val (iblk m c 0 t) (iblk m c 1 t) (iblk m c 2 t) (iblk m c 3 t) r n
      = sx (m ((c : Thread nD τ).loc main_arg0)) (m ((c : Thread nD τ).loc main_arg1)) (bat t) (row t r) n := by
  unfold kx sx
  rw [tile_eq, before_eq, after_eq, iblk0, iblk3]
  exact kshift_eq (hp _) (before_real _ hp _ _ _) (after_real _ hp _ _ _) (hm _)

/-! ## The run -/

theorem flushed13_eq (c : Dev nD) (hp : ∀ i, IsReal (m ((c : Thread nD τ).loc main_arg0) i)) (hm : ∀ i, IsReal (m ((c : Thread nD τ).loc main_arg1) i)) (hk : ∀ i, IsReal (m ((c : Thread nD τ).loc main_arg7) i)) (t : Fin cfg0.N) :
    (dats m 0 c).flushed 13 t = ((cfg0.win 13).blk t).view.read (Elt Ideal) (G13 (m ((c : Thread nD τ).loc main_arg0)) (m ((c : Thread nD τ).loc main_arg1)) (m ((c : Thread nD τ).loc main_arg7))) := by
  rw [Cert.FeatIdeal.Value.flushed13]
  suffices h : ∀ j : S1x256x1536.Idx, out0_13 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G13 (m ((c : Thread nD τ).loc main_arg0)) (m ((c : Thread nD τ).loc main_arg1)) (m ((c : Thread nD τ).loc main_arg7)) (((cfg0.win 13).blk t).view.emb j) from funext h
  intro j
  obtain ⟨r, n, rfl⟩ := idx_unit j
  rw [emb13, out13_apply]
  show _ = put (sx _ _ (bat t) (row t r)) (key fun d => sx _ _ (bat t) (row t r) ⟨512 + d.val, by omega⟩ * m ((c : Thread nD τ).loc main_arg7) (ix1 d)) n
  refine put_congr (fun k => kx_eq m c hp hm t r k) (fun k => ?_) n
  have e : (fun a b => iblk m c 12 t (ix2 a b)) = ind := funext fun a => funext fun b => iblk12 m c t a b
  have eq : (fun d : Fin 512 => kx (grid0.coords t 1).val (iblk m c 0 t) (iblk m c 1 t) (iblk m c 2 t) (iblk m c 3 t) r ⟨512 + d.val, by omega⟩ * iblk m c 9 t (ix2 0 d))
      = fun d => sx (m ((c : Thread nD τ).loc main_arg0)) (m ((c : Thread nD τ).loc main_arg1)) (bat t) (row t r) ⟨512 + d.val, by omega⟩ * m ((c : Thread nD τ).loc main_arg7) (ix1 d) :=
    funext fun d => congrArg₂ (fun a b : EReal => a * b) (kx_eq m c hp hm t r _) (iblk9 m c t d)
  refine (congrArg₂ (fun q e => kkey q e k) eq e).trans (kkey_eq _ (fun d => ?_) k)
  obtain ⟨x, ex⟩ := sx_real _ _ hp hm (bat t) (row t r) ⟨512 + d.val, by omega⟩
  obtain ⟨y, ey⟩ := hk (ix1 d)
  exact ⟨x * y, by rw [ex, ey, EReal.coe_mul]⟩

theorem flushed14_eq (c : Dev nD) (hp : ∀ i, IsReal (m ((c : Thread nD τ).loc main_arg0) i)) (hm : ∀ i, IsReal (m ((c : Thread nD τ).loc main_arg1) i)) (t : Fin cfg0.N) :
    (dats m 0 c).flushed 14 t = ((cfg0.win 14).blk t).view.read (Elt Ideal) (G14 (m ((c : Thread nD τ).loc main_arg0)) (m ((c : Thread nD τ).loc main_arg1)) (m ((c : Thread nD τ).loc main_arg6))) := by
  rw [Cert.FeatIdeal.Value.flushed14]
  suffices h : ∀ j : S1x256x512.Idx, out0_14 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G14 (m ((c : Thread nD τ).loc main_arg0)) (m ((c : Thread nD τ).loc main_arg1)) (m ((c : Thread nD τ).loc main_arg6)) (((cfg0.win 14).blk t).view.emb j) from funext h
  intro j
  obtain ⟨r, n, rfl⟩ := idx_unit j
  rw [emb14, out14_apply]
  show _ = gate (fun k => sx _ _ (bat t) (row t r) ⟨1792 + k.val, by omega⟩) (fun k => m ((c : Thread nD τ).loc main_arg6) (ix2 k n))
  exact congrArg₂ gate (funext fun k => kx_eq m c hp hm t r _) (funext fun k => iblk8 m c t k n)

/-- Both programs run, from equal arguments with finite rows, weights and scale, to equal results. -/
theorem algebraic : Cert.algebraic_FeatIdeal_RefFeatIdeal_pre_finite_keys (hFeatIdeal := Cert.FeatIdeal.Gen.facts) (hRefFeatIdeal := Cert.RefFeatIdeal.Gen.facts) (hPre_finite_keys := Cert.Pre_finite_keys.Gen.facts) := by
  intro m g m' g' hpre hargs
  refine ⟨fun c => G13 (m ((c.tc : Thread _ _).loc Cert.FeatIdeal.main_arg0)) (m ((c.tc : Thread _ _).loc Cert.FeatIdeal.main_arg1)) (m ((c.tc : Thread _ _).loc Cert.FeatIdeal.main_arg7)),
    fun c => G14 (m ((c.tc : Thread _ _).loc Cert.FeatIdeal.main_arg0)) (m ((c.tc : Thread _ _).loc Cert.FeatIdeal.main_arg1)) (m ((c.tc : Thread _ _).loc Cert.FeatIdeal.main_arg6)), ?_, ?_⟩
  · refine (θ_run (Cert.FeatIdeal.defs (F := Ideal)) _ _).mono (fun r h c => ?_) (Cert.FeatIdeal.Value.run_blocks (F := Ideal) m g)
    obtain ⟨h13, h14, -, -, -, hk⟩ := h c
    obtain ⟨hp, hm, hkk⟩ := finite_keys _ _ _ _ _ _ _ _ _ _ (hpre c)
    exact ⟨h13.trans ((Cert.FeatIdeal.Gen.dats m 0 c).arrAt_eq_of_cover 13 _ (fun t _ => flushed13_eq m c hp hm hkk t) cover13),
      h14.trans ((Cert.FeatIdeal.Gen.dats m 0 c).arrAt_eq_of_cover 14 _ (fun t _ => flushed14_eq m c hp hm t) cover14), hk⟩
  · refine (θ_run (Cert.RefFeatIdeal.defs (F := Ideal)) _ _).mono (fun r h c => ?_) (Cert.RefFeatIdeal.Value.run (F := Ideal) m' g')
    obtain ⟨h36, h34, hk⟩ := h c
    obtain ⟨a0, a1, a2, a3, a4, a5, a6, a7, a8, a9⟩ := hargs c
    refine ⟨h36.trans ?_, h34.trans ?_, hk⟩
    · rw [Cert.RefFeatIdeal.Read.val_main_v36_eq, ref36]
      show G13 (m' ((c.tc : Thread _ _).loc Cert.RefFeatIdeal.main_arg0)) (m' ((c.tc : Thread _ _).loc Cert.RefFeatIdeal.main_arg1)) (m' ((c.tc : Thread _ _).loc Cert.RefFeatIdeal.main_arg7)) = G13 (m ((c.tc : Thread _ _).loc Cert.FeatIdeal.main_arg0)) (m ((c.tc : Thread _ _).loc Cert.FeatIdeal.main_arg1)) (m ((c.tc : Thread _ _).loc Cert.FeatIdeal.main_arg7))
      rw [a0, a1, a7]
    · refine (Cert.RefFeatIdeal.Read.val_main_v34_eq (F := Ideal) _ _ _).trans ?_
      rw [ref34]
      show G14 (m' ((c.tc : Thread _ _).loc Cert.RefFeatIdeal.main_arg0)) (m' ((c.tc : Thread _ _).loc Cert.RefFeatIdeal.main_arg1)) (m' ((c.tc : Thread _ _).loc Cert.RefFeatIdeal.main_arg6)) = G14 (m ((c.tc : Thread _ _).loc Cert.FeatIdeal.main_arg0)) (m ((c.tc : Thread _ _).loc Cert.FeatIdeal.main_arg1)) (m ((c.tc : Thread _ _).loc Cert.FeatIdeal.main_arg6))
      rw [a0, a1, a6]

end Cert.Proof.Feat
end
-- ==== Proof.In.lean ====
/-
  The modulated input projection: `out = (x·(1 + scale) + shift) · W`, W's columns split into two results. Each grid point computes
  512 rows of one batch entry, against the two slices of W; the reference contracts against the whole of W and slices the product.
-/
module

public import proofs.«01_k».proof.Defs
public import proofs.«01_k».proof.Proof.Gen.InIdeal.Value
public import proofs.«01_k».proof.Proof.Gen.RefInIdeal.Run
public import proofs.«01_k».proof.Proof.Gen.RefInIdeal.Read
public import proofs.«01_k».proof.Proof.Common

@[expose] public section

noncomputable section

open Idealize.ShloMosaic Idealize.ShloMosaic.TcCoe Idealize.SL.Sem
open Idealize.ShloMosaic.Pipeline (Dat)

namespace Cert.Proof.In

open Cert.InIdeal Cert.InIdeal.Gen

/-- One element of the projection: row `x`, modulated by `sc` and `sh`, against one column. -/
def proj (x sc sh w : Fin 1024 → EReal) : EReal := ∑ k, (x k * (1 + sc k) + sh k) * w k

/-- The first payload at an index. -/
theorem pay2_apply (x0 : Vec Ideal S1x512x1024 .f32) (x1 x2 : Vec Ideal S1x1x1024 .f32) (w : Vec Ideal S1024x1536 .bf16) (j : S1x512x1536.Idx) :
    k0_pay2 x0 x1 x2 w j = proj (fun k => x0 (ix3 0 (j 1) k)) (fun k => x1 (ix3 0 0 k)) (fun k => x2 (ix3 0 0 k)) (fun k => w (ix2 k (j 2))) := by
  unfold_payloads
  pointwise [proj]

/-- The second payload at an index. -/
theorem pay3_apply (x0 : Vec Ideal S1x512x1024 .f32) (x1 x2 : Vec Ideal S1x1x1024 .f32) (w : Vec Ideal S1024x768 .bf16) (j : S1x512x768.Idx) :
    k0_pay3 x0 x1 x2 w j = proj (fun k => x0 (ix3 0 (j 1) k)) (fun k => x1 (ix3 0 0 k)) (fun k => x2 (ix3 0 0 k)) (fun k => w (ix2 k (j 2))) := by
  unfold_payloads
  pointwise [proj]

variable (m : (ℓ : Loc nD τ sig) → Buf (Elt Ideal) ℓ) (ρ : Dev nD → PrngReg)

/-- The block indices at grid point `t`: batch entry `t / 4`, row tile `t % 4`; the weights' blocks do not move. -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val / 4 ∧ win0_5.index t (1 : Fin 3) = t.val % 4 ∧ win0_5.index t (2 : Fin 3) = 0 :=
  (by decide +kernel : ∀ t : Fin grid0.N, _)
theorem idx6 : ∀ t : Fin cfg0.N, win0_6.index t (0 : Fin 3) = t.val / 4 ∧ win0_6.index t (1 : Fin 3) = t.val % 4 ∧ win0_6.index t (2 : Fin 3) = 0 :=
  (by decide +kernel : ∀ t : Fin grid0.N, _)

theorem N_eq : cfg0.N = 128 := N_0

/-- The batch entry and the array row of row `r` of grid point `t`'s block. -/
def bat (t : Fin cfg0.N) : Fin 32 := ⟨t.val / 4, by have := t.isLt; have := N_eq; omega⟩
def row (t : Fin cfg0.N) (r : Fin 512) : Fin 2048 := ⟨t.val % 4 * 512 + r.val, by have := r.isLt; omega⟩

/-- The input blocks at an index, in the arrays as the launch finds them. -/
theorem iblk0 (c : Dev nD) (t : Fin cfg0.N) (r : Fin 512) (k : Fin 1024) :
    iblk m c 0 t (ix3 0 r k) = m ((c : Thread nD τ).loc main_arg0) (ix3 (bat t) (row t r) k) := by
  rw [← V_main_arg0 m c]
  show V m c main_arg0 (((cfg0.win 0).blk t).view.emb (ix3 0 r k)) = _
  obtain ⟨e0, e1, e2⟩ := idx0 t
  congr 1; funext a; apply Fin.ext
  match a with
  | ⟨0, _⟩ => show win0_0.index t (0 : Fin 3) * 1 + 1 * 0 = t.val / 4; omega
  | ⟨1, _⟩ => show win0_0.index t (1 : Fin 3) * 512 + 1 * r.val = t.val % 4 * 512 + r.val; omega
  | ⟨2, _⟩ => show win0_0.index t (2 : Fin 3) * 1024 + 1 * k.val = k.val; omega

theorem iblk1 (c : Dev nD) (t : Fin cfg0.N) (k : Fin 1024) :
    iblk m c 1 t (ix3 0 0 k) = m ((c : Thread nD τ).loc main_arg1) (ix3 (bat t) 0 k) := by
  rw [← V_main_arg1 m c]
  show V m c main_arg1 (((cfg0.win 1).blk t).view.emb (ix3 0 0 k)) = _
  obtain ⟨e0, e1, e2⟩ := idx1 t
  congr 1; funext a; apply Fin.ext
  match a with
  | ⟨0, _⟩ => show win0_1.index t (0 : Fin 3) * 1 + 1 * 0 = t.val / 4; omega
  | ⟨1, _⟩ => show win0_1.index t (1 : Fin 3) * 1 + 1 * 0 = 0; omega
  | ⟨2, _⟩ => show win0_1.index t (2 : Fin 3) * 1024 + 1 * k.val = k.val; omega

theorem iblk2 (c : Dev nD) (t : Fin cfg0.N) (k : Fin 1024) :
    iblk m c 2 t (ix3 0 0 k) = m ((c : Thread nD τ).loc main_arg2) (ix3 (bat t) 0 k) := by
  rw [← V_main_arg2 m c]
  show V m c main_arg2 (((cfg0.win 2).blk t).view.emb (ix3 0 0 k)) = _
  obtain ⟨e0, e1, e2⟩ := idx2 t
  congr 1; funext a; apply Fin.ext
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 1024 + 1 * k.val = k.val; omega

/-- The two slices of the weights the region finds. -/
theorem V_main_v1 (c : Dev nD) : V m c main_v1
    = extractStridedSlice (α := EReal) S1024x1536 ![0, 0] (truncf (F := Ideal) .bf16 (m ((c : Thread nD τ).loc main_arg3)) bitsLt_bf16_f32) slices_S1024x2304_S1024x1536_0_0 := by
  unfold V hostOps0
  after_results
theorem V_main_v2 (c : Dev nD) : V m c main_v2
    = extractStridedSlice (α := EReal) S1024x768 ![0, 1536] (truncf (F := Ideal) .bf16 (m ((c : Thread nD τ).loc main_arg3)) bitsLt_bf16_f32) slices_S1024x2304_S1024x768_0_1536 := by
  unfold V hostOps0
  after_results

theorem iblk3 (c : Dev nD) (t : Fin cfg0.N) (k : Fin 1024) (n : Fin 1536) :
    iblk m c 3 t (ix2 k n) = m ((c : Thread nD τ).loc main_arg3) (ix2 k ⟨n.val, by omega⟩) := by
  have h : iblk m c 3 t (ix2 k n) = V m c main_v1 (ix2 k n) := by
    show V m c main_v1 (((cfg0.win 3).blk t).view.emb (ix2 k n)) = _
    obtain ⟨e0, e1⟩ := idx3 t
    congr 1; funext a; apply Fin.ext
    match a with
    | ⟨0, _⟩ => show win0_3.index t (0 : Fin 2) * 1024 + 1 * k.val = k.val; omega
    | ⟨1, _⟩ => show win0_3.index t (1 : Fin 2) * 1536 + 1 * n.val = n.val; omega
  rw [h, V_main_v1]
  pointwise

theorem iblk4 (c : Dev nD) (t : Fin cfg0.N) (k : Fin 1024) (n : Fin 768) :
    iblk m c 4 t (ix2 k n) = m ((c : Thread nD τ).loc main_arg3) (ix2 k ⟨1536 + n.val, by omega⟩) := by
  have h : iblk m c 4 t (ix2 k n) = V m c main_v2 (ix2 k n) := by
    show V m c main_v2 (((cfg0.win 4).blk t).view.emb (ix2 k n)) = _
    obtain ⟨e0, e1⟩ := idx4 t
    congr 1; funext a; apply Fin.ext
    match a with
    | ⟨0, _⟩ => show win0_4.index t (0 : Fin 2) * 1024 + 1 * k.val = k.val; omega
    | ⟨1, _⟩ => show win0_4.index t (1 : Fin 2) * 768 + 1 * n.val = n.val; omega
  rw [h, V_main_v2]
  pointwise

/-- The projection at batch entry `b`, row `r`, column `n` of W. -/
def at_ (x : Vec Ideal S32x2048x1024 .f32) (sc sh : Vec Ideal S32x1x1024 .f32) (w : Vec Ideal S1024x2304 .f32)
    (b : Fin 32) (r : Fin 2048) (n : Fin 2304) : EReal :=
  proj (fun k => x (ix3 b r k)) (fun k => sc (ix3 b 0 k)) (fun k => sh (ix3 b 0 k)) (fun k => w (ix2 k n))

/-- The two result arrays. -/
def G5 (x : Vec Ideal S32x2048x1024 .f32) (sc sh : Vec Ideal S32x1x1024 .f32) (w : Vec Ideal S1024x2304 .f32) : Vec Ideal S32x2048x1536 .f32 :=
  fun i => at_ x sc sh w (i 0) (i 1) ⟨(i 2).val, by have : (i 2).val < 1536 := (i 2).isLt; omega⟩
def G6 (x : Vec Ideal S32x2048x1024 .f32) (sc sh : Vec Ideal S32x1x1024 .f32) (w : Vec Ideal S1024x2304 .f32) : Vec Ideal S32x2048x768 .f32 :=
  fun i => at_ x sc sh w (i 0) (i 1) ⟨1536 + (i 2).val, by have : (i 2).val < 768 := (i 2).isLt; omega⟩

theorem emb5 (t : Fin cfg0.N) (r : Fin 512) (n : Fin 1536) : ((cfg0.win 5).blk t).view.emb (ix3 (0 : Fin 1) r n) = ix3 (bat t) (row t r) n := by
  obtain ⟨e0, e1, e2⟩ := idx5 t
  funext a; apply Fin.ext
  match a with
  | ⟨0, _⟩ => show win0_5.index t (0 : Fin 3) * 1 + 1 * 0 = t.val / 4; omega
  | ⟨1, _⟩ => show win0_5.index t (1 : Fin 3) * 512 + 1 * r.val = t.val % 4 * 512 + r.val; omega
  | ⟨2, _⟩ => show win0_5.index t (2 : Fin 3) * 1536 + 1 * n.val = n.val; omega
theorem emb6 (t : Fin cfg0.N) (r : Fin 512) (n : Fin 768) : ((cfg0.win 6).blk t).view.emb (ix3 (0 : Fin 1) r n) = ix3 (bat t) (row t r) n := by
  obtain ⟨e0, e1, e2⟩ := idx6 t
  funext a; apply Fin.ext
  match a with
  | ⟨0, _⟩ => show win0_6.index t (0 : Fin 3) * 1 + 1 * 0 = t.val / 4; omega
  | ⟨1, _⟩ => show win0_6.index t (1 : Fin 3) * 512 + 1 * r.val = t.val % 4 * 512 + r.val; omega
  | ⟨2, _⟩ => show win0_6.index t (2 : Fin 3) * 768 + 1 * n.val = n.val; omega

/-- Every point writes back its block of the result. -/
theorem flushed5_eq (c : Dev nD) (t : Fin cfg0.N) : (dats m 0 c).flushed 5 t = ((cfg0.win 5).blk t).view.read (Elt Ideal)
    (G5 (m ((c : Thread nD τ).loc main_arg0)) (m ((c : Thread nD τ).loc main_arg1)) (m ((c : Thread nD τ).loc main_arg2)) (m ((c : Thread nD τ).loc main_arg3))) := by
  rw [Cert.InIdeal.Value.flushed5]
  unfold out0_5
  rw [View.canon_unit_zero hz3]
  simp only [View.ld_unit_zero (S := S1x512x1024) hz3, View.ld_unit_zero (S := S1x1x1024) hz3, View.ld_unit_zero (S := S1024x1536) hz2]
  suffices h : ∀ j : S1x512x1536.Idx, k0_pay2 (F := Ideal) (iblk m c 0 t) (iblk m c 1 t) (iblk m c 2 t) (iblk m c 3 t) j
      = G5 (m ((c : Thread nD τ).loc main_arg0)) (m ((c : Thread nD τ).loc main_arg1)) (m ((c : Thread nD τ).loc main_arg2)) (m ((c : Thread nD τ).loc main_arg3))
        (((cfg0.win 5).blk t).view.emb j) from funext h
  intro j
  obtain ⟨r, n, rfl⟩ := idx_unit j
  rw [emb5, pay2_apply]
  unfold G5 at_
  congr 1 <;> funext k
  · exact iblk0 m c t r k
  · exact iblk1 m c t k
  · exact iblk2 m c t k
  · exact iblk3 m c t k n

theorem flushed6_eq (c : Dev nD) (t : Fin cfg0.N) : (dats m 0 c).flushed 6 t = ((cfg0.win 6).blk t).view.read (Elt Ideal)
    (G6 (m ((c : Thread nD τ).loc main_arg0)) (m ((c : Thread nD τ).loc main_arg1)) (m ((c : Thread nD τ).loc main_arg2)) (m ((c : Thread nD τ).loc main_arg3))) := by
  rw [Cert.InIdeal.Value.flushed6]
  unfold out0_6
  rw [View.canon_unit_zero hz3]
  simp only [View.ld_unit_zero (S := S1x512x1024) hz3, View.ld_unit_zero (S := S1x1x1024) hz3, View.ld_unit_zero (S := S1024x768) hz2]
  suffices h : ∀ j : S1x512x768.Idx, k0_pay3 (F := Ideal) (iblk m c 0 t) (iblk m c 1 t) (iblk m c 2 t) (iblk m c 4 t) j
      = G6 (m ((c : Thread nD τ).loc main_arg0)) (m ((c : Thread nD τ).loc main_arg1)) (m ((c : Thread nD τ).loc main_arg2)) (m ((c : Thread nD τ).loc main_arg3))
        (((cfg0.win 6).blk t).view.emb j) from funext h
  intro j
  obtain ⟨r, n, rfl⟩ := idx_unit j
  rw [emb6, pay3_apply]
  unfold G6 at_
  congr 1 <;> funext k
  · exact iblk0 m c t r k
  · exact iblk1 m c t k
  · exact iblk2 m c t k
  · exact iblk4 m c t k n

/-- The point whose block holds batch entry `b` and row `r`. -/
def pt (b : Fin 32) (r : Fin 2048) : Fin cfg0.N := ⟨b.val * 4 + r.val / 512, by have := b.isLt; have := r.isLt; have := N_eq; omega⟩
theorem bat_pt (b : Fin 32) (r : Fin 2048) : bat (pt b r) = b := Fin.ext (by simp only [bat, pt]; have := r.isLt; omega)
theorem row_pt (b : Fin 32) (r : Fin 2048) : row (pt b r) ⟨r.val % 512, Nat.mod_lt _ (by decide)⟩ = r :=
  Fin.ext (by simp only [row, pt]; have := r.isLt; omega)

theorem cover5 (i : S32x2048x1536.Idx) : ∃ t : Fin cfg0.N, (cfg0.win 5).flush t = true ∧ i ∈ ((cfg0.win 5).blk t).view.set := by
  obtain ⟨b, r, n, rfl⟩ := idx_three i
  refine ⟨pt b r, flush0_5 _, ?_⟩
  have h := ((cfg0.win 5).blk (pt b r)).view.emb_mem_set (ix3 0 (⟨r.val % 512, Nat.mod_lt _ (by decide)⟩ : Fin 512) n)
  rw [emb5, bat_pt, row_pt] at h
  exact h
theorem cover6 (i : S32x2048x768.Idx) : ∃ t : Fin cfg0.N, (cfg0.win 6).flush t = true ∧ i ∈ ((cfg0.win 6).blk t).view.set := by
  obtain ⟨b, r, n, rfl⟩ := idx_three i
  refine ⟨pt b r, flush0_6 _, ?_⟩
  have h := ((cfg0.win 6).blk (pt b r)).view.emb_mem_set (ix3 0 (⟨r.val % 512, Nat.mod_lt _ (by decide)⟩ : Fin 512) n)
  rw [emb6, bat_pt, row_pt] at h
  exact h

end Cert.Proof.In

/-! ## The reference -/

namespace Cert.Proof.In

open Cert.RefInIdeal Cert.RefInIdeal.Read

theorem ref5 (x : Vec Ideal Cert.InIdeal.S32x2048x1024 .f32) (sc sh : Vec Ideal Cert.InIdeal.S32x1x1024 .f32) (w : Vec Ideal Cert.InIdeal.S1024x2304 .f32) :
    val_main_v7 (F := Ideal) x sc sh w = G5 x sc sh w := by
  funext i
  unfold val_main_v7 val_main_v6 val_main_v5 val_main_v4 val_main_v3 val_main_v2 val_main_v1 val_main_v0 val_main_cst G5 at_ proj
  pointwise

theorem ref6 (x : Vec Ideal Cert.InIdeal.S32x2048x1024 .f32) (sc sh : Vec Ideal Cert.InIdeal.S32x1x1024 .f32) (w : Vec Ideal Cert.InIdeal.S1024x2304 .f32) :
    val_main_v8 (F := Ideal) x sc sh w = G6 x sc sh w := by
  funext i
  unfold val_main_v8 val_main_v6 val_main_v5 val_main_v4 val_main_v3 val_main_v2 val_main_v1 val_main_v0 val_main_cst G6 at_ proj
  pointwise

/-- Both programs run, from equal arguments, to equal results. -/
theorem algebraic : Cert.algebraic_InIdeal_RefInIdeal (hInIdeal := Cert.InIdeal.Gen.facts) (hRefInIdeal := Cert.RefInIdeal.Gen.facts) := by
  intro m g m' g' _ hargs
  refine ⟨fun c => G5 (m ((c.tc : Thread _ _).loc Cert.InIdeal.main_arg0)) (m ((c.tc : Thread _ _).loc Cert.InIdeal.main_arg1)) (m ((c.tc : Thread _ _).loc Cert.InIdeal.main_arg2)) (m ((c.tc : Thread _ _).loc Cert.InIdeal.main_arg3)),
    fun c => G6 (m ((c.tc : Thread _ _).loc Cert.InIdeal.main_arg0)) (m ((c.tc : Thread _ _).loc Cert.InIdeal.main_arg1)) (m ((c.tc : Thread _ _).loc Cert.InIdeal.main_arg2)) (m ((c.tc : Thread _ _).loc Cert.InIdeal.main_arg3)), ?_, ?_⟩
  · refine (θ_run (Cert.InIdeal.defs (F := Ideal)) _ _).mono (fun r h c => ?_) (Cert.InIdeal.Value.run_blocks (F := Ideal) m g)
    obtain ⟨h5, h6, hk⟩ := h c
    exact ⟨h5.trans ((Cert.InIdeal.Gen.dats m 0 c).arrAt_eq_of_cover 5 _ (fun t _ => flushed5_eq m c t) cover5),
      h6.trans ((Cert.InIdeal.Gen.dats m 0 c).arrAt_eq_of_cover 6 _ (fun t _ => flushed6_eq m c t) cover6), hk⟩
  · refine (θ_run (Cert.RefInIdeal.defs (F := Ideal)) _ _).mono (fun r h c => ?_) (Cert.RefInIdeal.Value.run (F := Ideal) m' g')
    obtain ⟨h7, h8, hk⟩ := h c
    refine ⟨h7.trans ?_, h8.trans ?_, hk⟩
    · rw [val_main_v7_eq, ref5, (hargs c).1, (hargs c).2.1, (hargs c).2.2.1, (hargs c).2.2.2]
    · rw [val_main_v8_eq, ref6, (hargs c).1, (hargs c).2.1, (hargs c).2.2.1, (hargs c).2.2.2]

end Cert.Proof.In
end
-- ==== Proof.Out.lean ====
/-
  The output projection followed by the feed-forward part:
  `h = layer_norm(√2·x + gate₁ · [y_a, y_b]·W)` and then `layer_norm(√2·h + gate₂ · relu²((h·(1 + scale) + shift)·W1)·W2)`.
  Each grid point computes 512 rows of one batch entry, with the two halves of the branch output against the two halves of `W`; the
  reference joins the halves and contracts over all 1024 columns.
-/
module

public import proofs.«01_k».proof.Defs
public import proofs.«01_k».proof.Proof.Gen.OutIdeal.Value
public import proofs.«01_k».proof.Proof.Gen.RefOutIdeal.Run
public import proofs.«01_k».proof.Proof.Gen.RefOutIdeal.Read
public import proofs.«01_k».proof.Proof.Rows

@[expose] public section

noncomputable section

open Idealize.ShloMosaic Idealize.ShloMosaic.TcCoe Idealize.SL.Sem
open Idealize.ShloMosaic.Pipeline (Dat)

namespace Cert.Proof.Out

open Cert.OutIdeal Cert.OutIdeal.Gen

/-- The row before the first layer norm: the residual and the gated projection of the two halves of the branch output. -/
def outRow (ya yb : Fin 512 → EReal) (w : Fin 1024 → Fin 1024 → EReal) (x g : Fin 1024 → EReal) (n : Fin 1024) : EReal :=
  Ideal.ofBits .f32 0x3FB504F3#32 * x n
    + g n * (∑ k : Fin 512, ya k * w ⟨k.val, by omega⟩ n + ∑ k : Fin 512, yb k * w ⟨512 + k.val, by omega⟩ n)

/-- The projection's row with the weights' halves apart. -/
def halfRow (ya yb : Fin 512 → EReal) (wa wb : Fin 512 → Fin 1024 → EReal) (x g : Fin 1024 → EReal) (n : Fin 1024) : EReal :=
  Ideal.ofBits .f32 0x3FB504F3#32 * x n + g n * (∑ k, ya k * wa k n + ∑ k, yb k * wb k n)

theorem halfRow_eq {ya ya' yb yb' : Fin 512 → EReal} {wa wb : Fin 512 → Fin 1024 → EReal} {w : Fin 1024 → Fin 1024 → EReal} {x x' g g' : Fin 1024 → EReal}
    (ea : ∀ k, ya k = ya' k) (eb : ∀ k, yb k = yb' k) (ewa : ∀ k n, wa k n = w ⟨k.val, by omega⟩ n) (ewb : ∀ k n, wb k n = w ⟨512 + k.val, by omega⟩ n)
    (ex : ∀ k, x k = x' k) (eg : ∀ k, g k = g' k) (n : Fin 1024) : halfRow ya yb wa wb x g n = outRow ya' yb' w x' g' n := by
  rw [funext ea, funext eb, funext fun k => funext (ewa k), funext fun k => funext (ewb k), funext ex, funext eg]
  rfl

/-- The first normalized row. -/
theorem pay6_apply (v23 v25 : FVec Ideal S1x1024 .f32) (x0 x1 : Vec Ideal S1x512x512 .f32) (x2 x3 : Vec Ideal S512x1024 .bf16)
    (x4 : Vec Ideal S1x512x1024 .f32) (x5 : Vec Ideal S1x1x1024 .f32) (r : Fin 512) (n : Fin 1024) :
    k0_pay6 v23 v25 (k0_pay4 x0 x2 x1 x3 x4 x5) (k0_pay5 x0 x2 x1 x3 x4 x5) (ix2 r n)
      = lnorm (halfRow (fun k => x0 (ix3 0 r k)) (fun k => x1 (ix3 0 r k)) (fun k n => x2 (ix2 k n)) (fun k n => x3 (ix2 k n))
          (fun k => x4 (ix3 0 r k)) (fun k => x5 (ix3 0 0 k))) (fun k => v23 (ix2 0 k)) (fun k => v25 (ix2 0 k)) n := by
  unfold lnorm halfRow
  unfold_payloads
  pointwise

set_option maxHeartbeats 1000000 in
/-- The feed-forward sum of a row, from the normalized rows `h`. -/
theorem ffn_apply (v23 v25 : FVec Ideal S1x1024 .f32) (v31 v32 : FVec Ideal S512x1024 .f32) (x8 x9 : Vec Ideal S1x1x1024 .f32)
    (x11 : Vec Ideal S1024x4096 .bf16) (x12 : Vec Ideal S4096x1024 .bf16) (r : Fin 512) (n : Fin 1024) :
    k0_pay13 (k0_pay10 v23 v25 v31 v32 x8 x9) (k0_pay11 (F := Ideal)) (k0_pay12 v23 v25 v31 v32 x8 x9 (View.ld x11 r0_5))
        (View.ld x12 r0_6) (View.ld x11 r0_7) (View.ld x12 r0_8) (View.ld x11 r0_9) (View.ld x12 r0_10) (ix2 r n)
      + k0_pay14 (k0_pay10 v23 v25 v31 v32 x8 x9) (View.ld x11 r0_11) (View.ld x12 r0_12) (ix2 r n)
      = ∑ f, hid (fun k => k0_pay6 v23 v25 v31 v32 (ix2 r k)) (fun k => x8 (ix3 0 0 k)) (fun k => x9 (ix3 0 0 k)) (fun k => x11 (ix2 k f))
          * x12 (ix2 f n) := by
  unfold hid
  rw [sum_four]
  unfold k0_pay12 k0_pay10
  generalize k0_pay6 v23 v25 v31 v32 = h
  unfold_payloads
  pointwise

/-- The last payload is the layer norm of the row it is given. -/
theorem pay1_apply (v45 v96 v106 : FVec Ideal S512x1024 .f32) (v51 v53 v55 : FVec Ideal S1x1024 .f32) (r : Fin 512) (n : Fin 1024) :
    k0_pay1 v45 v51 v53 v55 v96 v106 (ix3 0 r n)
      = lnorm (fun k => Ideal.ofBits .f32 0x3FB504F3#32 * v45 (ix2 r k) + v51 (ix2 0 k) * (v96 (ix2 r k) + v106 (ix2 r k)))
          (fun k => v53 (ix2 0 k)) (fun k => v55 (ix2 0 k)) n := by
  unfold lnorm
  unfold_payloads
  pointwise

set_option maxHeartbeats 1000000 in
/-- What a grid point leaves in the result's block. -/
theorem out_apply (x0 x1 : Vec Ideal S1x512x512 .f32) (x2 x3 : Vec Ideal S512x1024 .bf16) (x4 : Vec Ideal S1x512x1024 .f32)
    (x5 : Vec Ideal S1x1x1024 .f32) (x6 x7 : Vec Ideal S1x1024 .f32) (x8 x9 x10 : Vec Ideal S1x1x1024 .f32) (x11 : Vec Ideal S1024x4096 .bf16)
    (x12 : Vec Ideal S4096x1024 .bf16) (x13 x14 : Vec Ideal S1x1024 .f32) (r : Fin 512) (n : Fin 1024) :
    out0_15 x0 x1 x2 x3 x4 x5 x6 x7 x8 x9 x10 x11 x12 x13 x14 (ix3 0 r n)
      = lnorm (mlpRow (lnorm (halfRow (fun k => x0 (ix3 0 r k)) (fun k => x1 (ix3 0 r k)) (fun k n => x2 (ix2 k n)) (fun k n => x3 (ix2 k n))
            (fun k => x4 (ix3 0 r k)) (fun k => x5 (ix3 0 0 k))) (fun k => x6 (ix2 0 k)) (fun k => x7 (ix2 0 k)))
          (fun k => x8 (ix3 0 0 k)) (fun k => x9 (ix3 0 0 k)) (fun k => x10 (ix3 0 0 k)) (fun k f => x11 (ix2 k f)) (fun f k => x12 (ix2 f k)))
        (fun k => x13 (ix2 0 k)) (fun k => x14 (ix2 0 k)) n := by
  have c2 : ∀ x : Vec Ideal S1x1024 .f32, k0_pay2 x = x := fun x => by unfold_payloads; funext i; pointwise
  have c3 : ∀ x : Vec Ideal S1x1024 .f32, k0_pay3 x = x := fun x => by unfold_payloads; funext i; pointwise
  have c8 : ∀ x : Vec Ideal S1x1024 .f32, k0_pay8 x = x := fun x => by unfold_payloads; funext i; pointwise
  have c9 : ∀ x : Vec Ideal S1x1024 .f32, k0_pay9 x = x := fun x => by unfold_payloads; funext i; pointwise
  have c7 : ∀ (x : Vec Ideal S1x1x1024 .f32) (k : Fin 1024), k0_pay7 x (ix2 0 k) = x (ix3 0 0 k) := fun x k => by unfold_payloads; pointwise
  have h6 : (fun k => k0_pay6 x6 x7 (k0_pay4 x0 x2 x1 x3 x4 x5) (k0_pay5 x0 x2 x1 x3 x4 x5) (ix2 r k))
      = lnorm (halfRow (fun k => x0 (ix3 0 r k)) (fun k => x1 (ix3 0 r k)) (fun k n => x2 (ix2 k n)) (fun k n => x3 (ix2 k n))
            (fun k => x4 (ix3 0 r k)) (fun k => x5 (ix3 0 0 k))) (fun k => x6 (ix2 0 k)) (fun k => x7 (ix2 0 k)) :=
    funext fun k => pay6_apply x6 x7 x0 x1 x2 x3 x4 x5 r k
  unfold_out out0_15
  rw [View.canon_unit_zero hz3]
  simp only [View.ld_unit_zero (S := S1x512x1024) hz3, View.ld_unit_zero (S := S1x512x512) hz3, View.ld_unit_zero (S := S1x1x1024) hz3,
    View.ld_unit_zero (S := S1x1024) hz2, View.ld_unit_zero (S := S512x1024) hz2, c2, c3, c8, c9]
  refine (pay1_apply _ _ _ _ _ _ r n).trans (lnorm_congr (fun k => ?_) (fun k => rfl) (fun k => rfl) n)
  rw [c7]
  unfold mlpRow
  rw [← h6]
  exact congrArg (fun z => _ + _ * z) (ffn_apply x6 x7 _ _ x8 x9 x11 x12 r k)

theorem N_eq : cfg0.N = 128 := N_0

/-! Each window's block index at a grid point. -/

theorem idx0 : ∀ t : Fin cfg0.N, win0_0.index t ((0 : Fin 3)) = t.val / 4 ∧ win0_0.index t ((1 : Fin 3)) = t.val % 4 ∧ win0_0.index t ((2 : Fin 3)) = 0 :=
  (by decide +kernel : ∀ t : Fin grid0.N, win0_0.index t ((0 : Fin 3)) = t.val / 4 ∧ win0_0.index t ((1 : Fin 3)) = t.val % 4 ∧ win0_0.index t ((2 : Fin 3)) = 0)
theorem idx1 : ∀ t : Fin cfg0.N, win0_1.index t ((0 : Fin 3)) = t.val / 4 ∧ win0_1.index t ((1 : Fin 3)) = t.val % 4 ∧ win0_1.index t ((2 : Fin 3)) = 0 :=
  (by decide +kernel : ∀ t : Fin grid0.N, win0_1.index t ((0 : Fin 3)) = t.val / 4 ∧ win0_1.index t ((1 : Fin 3)) = t.val % 4 ∧ win0_1.index t ((2 : Fin 3)) = 0)
theorem idx4 : ∀ t : Fin cfg0.N, win0_4.index t ((0 : Fin 3)) = t.val / 4 ∧ win0_4.index t ((1 : Fin 3)) = t.val % 4 ∧ win0_4.index t ((2 : Fin 3)) = 0 :=
  (by decide +kernel : ∀ t : Fin grid0.N, win0_4.index t ((0 : Fin 3)) = t.val / 4 ∧ win0_4.index t ((1 : Fin 3)) = t.val % 4 ∧ win0_4.index t ((2 : Fin 3)) = 0)
theorem idx15 : ∀ t : Fin cfg0.N, win0_15.index t ((0 : Fin 3)) = t.val / 4 ∧ win0_15.index t ((1 : Fin 3)) = t.val % 4 ∧ win0_15.index t ((2 : Fin 3)) = 0 :=
  (by decide +kernel : ∀ t : Fin grid0.N, win0_15.index t ((0 : Fin 3)) = t.val / 4 ∧ win0_15.index t ((1 : Fin 3)) = t.val % 4 ∧ win0_15.index t ((2 : Fin 3)) = 0)
theorem idx5 : ∀ t : Fin cfg0.N, win0_5.index t ((0 : Fin 3)) = t.val / 4 ∧ win0_5.index t ((1 : Fin 3)) = 0 ∧ win0_5.index t ((2 : Fin 3)) = 0 :=
  (by decide +kernel : ∀ t : Fin grid0.N, win0_5.index t ((0 : Fin 3)) = t.val / 4 ∧ win0_5.index t ((1 : Fin 3)) = 0 ∧ win0_5.index t ((2 : Fin 3)) = 0)
theorem idx8 : ∀ t : Fin cfg0.N, win0_8.index t ((0 : Fin 3)) = t.val / 4 ∧ win0_8.index t ((1 : Fin 3)) = 0 ∧ win0_8.index t ((2 : Fin 3)) = 0 :=
  (by decide +kernel : ∀ t : Fin grid0.N, win0_8.index t ((0 : Fin 3)) = t.val / 4 ∧ win0_8.index t ((1 : Fin 3)) = 0 ∧ win0_8.index t ((2 : Fin 3)) = 0)
theorem idx9 : ∀ t : Fin cfg0.N, win0_9.index t ((0 : Fin 3)) = t.val / 4 ∧ win0_9.index t ((1 : Fin 3)) = 0 ∧ win0_9.index t ((2 : Fin 3)) = 0 :=
  (by decide +kernel : ∀ t : Fin grid0.N, win0_9.index t ((0 : Fin 3)) = t.val / 4 ∧ win0_9.index t ((1 : Fin 3)) = 0 ∧ win0_9.index t ((2 : Fin 3)) = 0)
theorem idx10 : ∀ t : Fin cfg0.N, win0_10.index t ((0 : Fin 3)) = t.val / 4 ∧ win0_10.index t ((1 : Fin 3)) = 0 ∧ win0_10.index t ((2 : Fin 3)) = 0 :=
  (by decide +kernel : ∀ t : Fin grid0.N, win0_10.index t ((0 : Fin 3)) = t.val / 4 ∧ win0_10.index t ((1 : Fin 3)) = 0 ∧ win0_10.index t ((2 : Fin 3)) = 0)
theorem idx2 : ∀ t : Fin cfg0.N, win0_2.index t ((0 : Fin 2)) = 0 ∧ win0_2.index t ((1 : Fin 2)) = 0 :=
  (by decide +kernel : ∀ t : Fin grid0.N, win0_2.index t ((0 : Fin 2)) = 0 ∧ win0_2.index t ((1 : Fin 2)) = 0)
theorem idx3 : ∀ t : Fin cfg0.N, win0_3.index t ((0 : Fin 2)) = 0 ∧ win0_3.index t ((1 : Fin 2)) = 0 :=
  (by decide +kernel : ∀ t : Fin grid0.N, win0_3.index t ((0 : Fin 2)) = 0 ∧ win0_3.index t ((1 : Fin 2)) = 0)
theorem idx6 : ∀ t : Fin cfg0.N, win0_6.index t ((0 : Fin 2)) = 0 ∧ win0_6.index t ((1 : Fin 2)) = 0 :=
  (by decide +kernel : ∀ t : Fin grid0.N, win0_6.index t ((0 : Fin 2)) = 0 ∧ win0_6.index t ((1 : Fin 2)) = 0)
theorem idx7 : ∀ t : Fin cfg0.N, win0_7.index t ((0 : Fin 2)) = 0 ∧ win0_7.index t ((1 : Fin 2)) = 0 :=
  (by decide +kernel : ∀ t : Fin grid0.N, win0_7.index t ((0 : Fin 2)) = 0 ∧ win0_7.index t ((1 : Fin 2)) = 0)
theorem idx11 : ∀ t : Fin cfg0.N, win0_11.index t ((0 : Fin 2)) = 0 ∧ win0_11.index t ((1 : Fin 2)) = 0 :=
  (by decide +kernel : ∀ t : Fin grid0.N, win0_11.index t ((0 : Fin 2)) = 0 ∧ win0_11.index t ((1 : Fin 2)) = 0)
theorem idx12 : ∀ t : Fin cfg0.N, win0_12.index t ((0 : Fin 2)) = 0 ∧ win0_12.index t ((1 : Fin 2)) = 0 :=
  (by decide +kernel : ∀ t : Fin grid0.N, win0_12.index t ((0 : Fin 2)) = 0 ∧ win0_12.index t ((1 : Fin 2)) = 0)
theorem idx13 : ∀ t : Fin cfg0.N, win0_13.index t ((0 : Fin 2)) = 0 ∧ win0_13.index t ((1 : Fin 2)) = 0 :=
  (by decide +kernel : ∀ t : Fin grid0.N, win0_13.index t ((0 : Fin 2)) = 0 ∧ win0_13.index t ((1 : Fin 2)) = 0)
theorem idx14 : ∀ t : Fin cfg0.N, win0_14.index t ((0 : Fin 2)) = 0 ∧ win0_14.index t ((1 : Fin 2)) = 0 :=
  (by decide +kernel : ∀ t : Fin grid0.N, win0_14.index t ((0 : Fin 2)) = 0 ∧ win0_14.index t ((1 : Fin 2)) = 0)

variable (m : (ℓ : Loc nD τ sig) → Buf (Elt Ideal) ℓ)

/-- The batch entry and the array row of row `r` of grid point `t`'s block. -/
def bat (t : Fin cfg0.N) : Fin 32 := ⟨t.val / 4, by have := t.isLt; have := N_eq; omega⟩
def row (t : Fin cfg0.N) (r : Fin 512) : Fin 2048 := ⟨t.val % 4 * 512 + r.val, by have := r.isLt; omega⟩

/-! The input blocks at an index, in the arrays as the launch finds them. -/

theorem iblk0 (c : Dev nD) (t : Fin cfg0.N) (r : Fin 512) (k : Fin 512) :
    iblk m c 0 t (ix3 0 r k) = m ((c : Thread nD τ).loc main_arg0) (ix3 (bat t) (row t r) k) := by
  rw [← V_main_arg0 m c]
  show V m c main_arg0 (((cfg0.win 0).blk t).view.emb (ix3 0 r k)) = _
  obtain ⟨e0, e1, e2⟩ := idx0 t
  congr 1; funext a; apply Fin.ext
  match a with
  | ⟨0, _⟩ => show win0_0.index t (0 : Fin 3) * 1 + 1 * 0 = t.val / 4; omega
  | ⟨1, _⟩ => show win0_0.index t (1 : Fin 3) * 512 + 1 * r.val = t.val % 4 * 512 + r.val; omega
  | ⟨2, _⟩ => show win0_0.index t (2 : Fin 3) * 512 + 1 * k.val = k.val; omega

theorem iblk1 (c : Dev nD) (t : Fin cfg0.N) (r : Fin 512) (k : Fin 512) :
    iblk m c 1 t (ix3 0 r k) = m ((c : Thread nD τ).loc main_arg1) (ix3 (bat t) (row t r) k) := by
  rw [← V_main_arg1 m c]
  show V m c main_arg1 (((cfg0.win 1).blk t).view.emb (ix3 0 r k)) = _
  obtain ⟨e0, e1, e2⟩ := idx1 t
  congr 1; funext a; apply Fin.ext
  match a with
  | ⟨0, _⟩ => show win0_1.index t (0 : Fin 3) * 1 + 1 * 0 = t.val / 4; omega
  | ⟨1, _⟩ => show win0_1.index t (1 : Fin 3) * 512 + 1 * r.val = t.val % 4 * 512 + r.val; omega
  | ⟨2, _⟩ => show win0_1.index t (2 : Fin 3) * 512 + 1 * k.val = k.val; omega

theorem iblk4 (c : Dev nD) (t : Fin cfg0.N) (r : Fin 512) (k : Fin 1024) :
    iblk m c 4 t (ix3 0 r k) = m ((c : Thread nD τ).loc main_arg3) (ix3 (bat t) (row t r) k) := by
  rw [← V_main_arg3 m c]
  show V m c main_arg3 (((cfg0.win 4).blk t).view.emb (ix3 0 r k)) = _
  obtain ⟨e0, e1, e2⟩ := idx4 t
  congr 1; funext a; apply Fin.ext
  match a with
  | ⟨0, _⟩ => show win0_4.index t (0 : Fin 3) * 1 + 1 * 0 = t.val / 4; omega
  | ⟨1, _⟩ => show win0_4.index t (1 : Fin 3) * 512 + 1 * r.val = t.val % 4 * 512 + r.val; omega
  | ⟨2, _⟩ => show win0_4.index t (2 : Fin 3) * 1024 + 1 * k.val = k.val; omega

theorem iblk5 (c : Dev nD) (t : Fin cfg0.N) (k : Fin 1024) :
    iblk m c 5 t (ix3 0 0 k) = m ((c : Thread nD τ).loc main_arg4) (ix3 (bat t) 0 k) := by
  rw [← V_main_arg4 m c]
  show V m c main_arg4 (((cfg0.win 5).blk t).view.emb (ix3 0 0 k)) = _
  obtain ⟨e0, e1, e2⟩ := idx5 t
  congr 1; funext a; apply Fin.ext
  match a with
  | ⟨0, _⟩ => show win0_5.index t (0 : Fin 3) * 1 + 1 * 0 = t.val / 4; omega
  | ⟨1, _⟩ => show win0_5.index t (1 : Fin 3) * 1 + 1 * 0 = 0; omega
  | ⟨2, _⟩ => show win0_5.index t (2 : Fin 3) * 1024 + 1 * k.val = k.val; omega

theorem iblk8 (c : Dev nD) (t : Fin cfg0.N) (k : Fin 1024) :
    iblk m c 8 t (ix3 0 0 k) = m ((c : Thread nD τ).loc main_arg7) (ix3 (bat t) 0 k) := by
  rw [← V_main_arg7 m c]
  show V m c main_arg7 (((cfg0.win 8).blk t).view.emb (ix3 0 0 k)) = _
  obtain ⟨e0, e1, e2⟩ := idx8 t
  congr 1; funext a; apply Fin.ext
  match a with
  | ⟨0, _⟩ => show win0_8.index t (0 : Fin 3) * 1 + 1 * 0 = t.val / 4; omega
  | ⟨1, _⟩ => show win0_8.index t (1 : Fin 3) * 1 + 1 * 0 = 0; omega
  | ⟨2, _⟩ => show win0_8.index t (2 : Fin 3) * 1024 + 1 * k.val = k.val; omega

theorem iblk9 (c : Dev nD) (t : Fin cfg0.N) (k : Fin 1024) :
    iblk m c 9 t (ix3 0 0 k) = m ((c : Thread nD τ).loc main_arg8) (ix3 (bat t) 0 k) := by
  rw [← V_main_arg8 m c]
  show V m c main_arg8 (((cfg0.win 9).blk t).view.emb (ix3 0 0 k)) = _
  obtain ⟨e0, e1, e2⟩ := idx9 t
  congr 1; funext a; apply Fin.ext
  match a with
  | ⟨0, _⟩ => show win0_9.index t (0 : Fin 3) * 1 + 1 * 0 = t.val / 4; omega
  | ⟨1, _⟩ => show win0_9.index t (1 : Fin 3) * 1 + 1 * 0 = 0; omega
  | ⟨2, _⟩ => show win0_9.index t (2 : Fin 3) * 1024 + 1 * k.val = k.val; omega

theorem iblk10 (c : Dev nD) (t : Fin cfg0.N) (k : Fin 1024) :
    iblk m c 10 t (ix3 0 0 k) = m ((c : Thread nD τ).loc main_arg9) (ix3 (bat t) 0 k) := by
  rw [← V_main_arg9 m c]
  show V m c main_arg9 (((cfg0.win 10).blk t).view.emb (ix3 0 0 k)) = _
  obtain ⟨e0, e1, e2⟩ := idx10 t
  congr 1; funext a; apply Fin.ext
  match a with
  | ⟨0, _⟩ => show win0_10.index t (0 : Fin 3) * 1 + 1 * 0 = t.val / 4; omega
  | ⟨1, _⟩ => show win0_10.index t (1 : Fin 3) * 1 + 1 * 0 = 0; omega
  | ⟨2, _⟩ => show win0_10.index t (2 : Fin 3) * 1024 + 1 * k.val = k.val; omega

/-! The weights rounded to bf16 (the projection's in two halves) and the layer norms' vectors as rows: what the host leaves for the launch. -/

theorem V_main_v1 (c : Dev nD) : V m c main_v1 = truncf (F := Ideal) .bf16 (m ((c : Thread nD τ).loc main_arg10)) bitsLt_bf16_f32 := by
  unfold V hostOps0
  after_results
theorem iblk11 (c : Dev nD) (t : Fin cfg0.N) (k : Fin 1024) (n : Fin 4096) :
    iblk m c 11 t (ix2 k n) = m ((c : Thread nD τ).loc main_arg10) (ix2 k n) := by
  have h : iblk m c 11 t (ix2 k n) = V m c main_v1 (ix2 k n) := by
    show V m c main_v1 (((cfg0.win 11).blk t).view.emb (ix2 k n)) = _
    obtain ⟨e0, e1⟩ := idx11 t
    congr 1; funext a; apply Fin.ext
    match a with
    | ⟨0, _⟩ => show win0_11.index t (0 : Fin 2) * 1024 + 1 * k.val = k.val; omega
    | ⟨1, _⟩ => show win0_11.index t (1 : Fin 2) * 4096 + 1 * n.val = n.val; omega
  rw [h, V_main_v1]
  pointwise

theorem V_main_v2 (c : Dev nD) : V m c main_v2 = truncf (F := Ideal) .bf16 (m ((c : Thread nD τ).loc main_arg11)) bitsLt_bf16_f32 := by
  unfold V hostOps0
  after_results
theorem iblk12 (c : Dev nD) (t : Fin cfg0.N) (k : Fin 4096) (n : Fin 1024) :
    iblk m c 12 t (ix2 k n) = m ((c : Thread nD τ).loc main_arg11) (ix2 k n) := by
  have h : iblk m c 12 t (ix2 k n) = V m c main_v2 (ix2 k n) := by
    show V m c main_v2 (((cfg0.win 12).blk t).view.emb (ix2 k n)) = _
    obtain ⟨e0, e1⟩ := idx12 t
    congr 1; funext a; apply Fin.ext
    match a with
    | ⟨0, _⟩ => show win0_12.index t (0 : Fin 2) * 4096 + 1 * k.val = k.val; omega
    | ⟨1, _⟩ => show win0_12.index t (1 : Fin 2) * 1024 + 1 * n.val = n.val; omega
  rw [h, V_main_v2]
  pointwise

theorem V_main_v3 (c : Dev nD) : V m c main_v3 = extractStridedSlice (α := EReal) S512x1024 ![0, 0] (truncf (F := Ideal) .bf16 (m ((c : Thread nD τ).loc main_arg2)) bitsLt_bf16_f32) slices_S1024x1024_S512x1024_0_0 := by
  unfold V hostOps0
  after_results
theorem iblk2 (c : Dev nD) (t : Fin cfg0.N) (k : Fin 512) (n : Fin 1024) :
    iblk m c 2 t (ix2 k n) = m ((c : Thread nD τ).loc main_arg2) (ix2 ⟨k.val, by omega⟩ n) := by
  have h : iblk m c 2 t (ix2 k n) = V m c main_v3 (ix2 k n) := by
    show V m c main_v3 (((cfg0.win 2).blk t).view.emb (ix2 k n)) = _
    obtain ⟨e0, e1⟩ := idx2 t
    congr 1; funext a; apply Fin.ext
    match a with
    | ⟨0, _⟩ => show win0_2.index t (0 : Fin 2) * 512 + 1 * k.val = k.val; omega
    | ⟨1, _⟩ => show win0_2.index t (1 : Fin 2) * 1024 + 1 * n.val = n.val; omega
  rw [h, V_main_v3]
  pointwise

theorem V_main_v4 (c : Dev nD) : V m c main_v4 = extractStridedSlice (α := EReal) S512x1024 ![512, 0] (truncf (F := Ideal) .bf16 (m ((c : Thread nD τ).loc main_arg2)) bitsLt_bf16_f32) slices_S1024x1024_S512x1024_512_0 := by
  unfold V hostOps0
  after_results
theorem iblk3 (c : Dev nD) (t : Fin cfg0.N) (k : Fin 512) (n : Fin 1024) :
    iblk m c 3 t (ix2 k n) = m ((c : Thread nD τ).loc main_arg2) (ix2 ⟨512 + k.val, by omega⟩ n) := by
  have h : iblk m c 3 t (ix2 k n) = V m c main_v4 (ix2 k n) := by
    show V m c main_v4 (((cfg0.win 3).blk t).view.emb (ix2 k n)) = _
    obtain ⟨e0, e1⟩ := idx3 t
    congr 1; funext a; apply Fin.ext
    match a with
    | ⟨0, _⟩ => show win0_3.index t (0 : Fin 2) * 512 + 1 * k.val = k.val; omega
    | ⟨1, _⟩ => show win0_3.index t (1 : Fin 2) * 1024 + 1 * n.val = n.val; omega
  rw [h, V_main_v4]
  pointwise

theorem V_main_v5 (c : Dev nD) : V m c main_v5 = shapeCast (α := EReal) S1x1024 (m ((c : Thread nD τ).loc main_arg5)) shapeCasts_S1024_S1x1024 := by
  unfold V hostOps0
  after_results
  rfl
theorem iblk6 (c : Dev nD) (t : Fin cfg0.N) (n : Fin 1024) :
    iblk m c 6 t (ix2 0 n) = m ((c : Thread nD τ).loc main_arg5) (ix1 n) := by
  have h : iblk m c 6 t (ix2 0 n) = V m c main_v5 (ix2 0 n) := by
    show V m c main_v5 (((cfg0.win 6).blk t).view.emb (ix2 0 n)) = _
    obtain ⟨e0, e1⟩ := idx6 t
    congr 1; funext a; apply Fin.ext
    match a with
    | ⟨0, _⟩ => show win0_6.index t (0 : Fin 2) * 1 + 1 * 0 = 0; omega
    | ⟨1, _⟩ => show win0_6.index t (1 : Fin 2) * 1024 + 1 * n.val = n.val; omega
  rw [h, V_main_v5]
  pointwise

theorem V_main_v6 (c : Dev nD) : V m c main_v6 = shapeCast (α := EReal) S1x1024 (m ((c : Thread nD τ).loc main_arg6)) shapeCasts_S1024_S1x1024 := by
  unfold V hostOps0
  after_results
  rfl
theorem iblk7 (c : Dev nD) (t : Fin cfg0.N) (n : Fin 1024) :
    iblk m c 7 t (ix2 0 n) = m ((c : Thread nD τ).loc main_arg6) (ix1 n) := by
  have h : iblk m c 7 t (ix2 0 n) = V m c main_v6 (ix2 0 n) := by
    show V m c main_v6 (((cfg0.win 7).blk t).view.emb (ix2 0 n)) = _
    obtain ⟨e0, e1⟩ := idx7 t
    congr 1; funext a; apply Fin.ext
    match a with
    | ⟨0, _⟩ => show win0_7.index t (0 : Fin 2) * 1 + 1 * 0 = 0; omega
    | ⟨1, _⟩ => show win0_7.index t (1 : Fin 2) * 1024 + 1 * n.val = n.val; omega
  rw [h, V_main_v6]
  pointwise

theorem V_main_v7 (c : Dev nD) : V m c main_v7 = shapeCast (α := EReal) S1x1024 (m ((c : Thread nD τ).loc main_arg12)) shapeCasts_S1024_S1x1024 := by
  unfold V hostOps0
  after_results
  rfl
theorem iblk13 (c : Dev nD) (t : Fin cfg0.N) (n : Fin 1024) :
    iblk m c 13 t (ix2 0 n) = m ((c : Thread nD τ).loc main_arg12) (ix1 n) := by
  have h : iblk m c 13 t (ix2 0 n) = V m c main_v7 (ix2 0 n) := by
    show V m c main_v7 (((cfg0.win 13).blk t).view.emb (ix2 0 n)) = _
    obtain ⟨e0, e1⟩ := idx13 t
    congr 1; funext a; apply Fin.ext
    match a with
    | ⟨0, _⟩ => show win0_13.index t (0 : Fin 2) * 1 + 1 * 0 = 0; omega
    | ⟨1, _⟩ => show win0_13.index t (1 : Fin 2) * 1024 + 1 * n.val = n.val; omega
  rw [h, V_main_v7]
  pointwise

theorem V_main_v8 (c : Dev nD) : V m c main_v8 = shapeCast (α := EReal) S1x1024 (m ((c : Thread nD τ).loc main_arg13)) shapeCasts_S1024_S1x1024 := by
  unfold V hostOps0
  after_results
  rfl
theorem iblk14 (c : Dev nD) (t : Fin cfg0.N) (n : Fin 1024) :
    iblk m c 14 t (ix2 0 n) = m ((c : Thread nD τ).loc main_arg13) (ix1 n) := by
  have h : iblk m c 14 t (ix2 0 n) = V m c main_v8 (ix2 0 n) := by
    show V m c main_v8 (((cfg0.win 14).blk t).view.emb (ix2 0 n)) = _
    obtain ⟨e0, e1⟩ := idx14 t
    congr 1; funext a; apply Fin.ext
    match a with
    | ⟨0, _⟩ => show win0_14.index t (0 : Fin 2) * 1 + 1 * 0 = 0; omega
    | ⟨1, _⟩ => show win0_14.index t (1 : Fin 2) * 1024 + 1 * n.val = n.val; omega
  rw [h, V_main_v8]
  pointwise

/-- The first normalized row of batch entry `b` at array row `r`. -/
def mid (ya yb : Vec Ideal S32x2048x512 .f32) (w : Vec Ideal S1024x1024 .f32) (x : Vec Ideal S32x2048x1024 .f32)
    (g1 : Vec Ideal S32x1x1024 .f32) (lg1 lb1 : Vec Ideal S1024 .f32) (b : Fin 32) (r : Fin 2048) : Fin 1024 → EReal :=
  lnorm (outRow (fun k => ya (ix3 b r k)) (fun k => yb (ix3 b r k)) (fun k n => w (ix2 k n)) (fun k => x (ix3 b r k)) (fun k => g1 (ix3 b 0 k)))
    (fun k => lg1 (ix1 k)) (fun k => lb1 (ix1 k))

/-- The result array: each row's second layer norm. -/
def G15 (ya yb : Vec Ideal S32x2048x512 .f32) (w : Vec Ideal S1024x1024 .f32) (x : Vec Ideal S32x2048x1024 .f32)
    (g1 : Vec Ideal S32x1x1024 .f32) (lg1 lb1 : Vec Ideal S1024 .f32) (sc sh g2 : Vec Ideal S32x1x1024 .f32)
    (w1 : Vec Ideal S1024x4096 .f32) (w2 : Vec Ideal S4096x1024 .f32) (lg2 lb2 : Vec Ideal S1024 .f32) : Vec Ideal S32x2048x1024 .f32 :=
  fun i => lnorm (mlpRow (mid ya yb w x g1 lg1 lb1 (i 0) (i 1)) (fun k => sc (ix3 (i 0) 0 k)) (fun k => sh (ix3 (i 0) 0 k)) (fun k => g2 (ix3 (i 0) 0 k))
      (fun k f => w1 (ix2 k f)) (fun f k => w2 (ix2 f k))) (fun k => lg2 (ix1 k)) (fun k => lb2 (ix1 k)) (i 2)

theorem emb15 (t : Fin cfg0.N) (r : Fin 512) (n : Fin 1024) : ((cfg0.win 15).blk t).view.emb (ix3 (0 : Fin 1) r n) = ix3 (bat t) (row t r) n := by
  obtain ⟨e0, e1, e2⟩ := idx15 t
  funext a; apply Fin.ext
  match a with
  | ⟨0, _⟩ => show win0_15.index t (0 : Fin 3) * 1 + 1 * 0 = t.val / 4; omega
  | ⟨1, _⟩ => show win0_15.index t (1 : Fin 3) * 512 + 1 * r.val = t.val % 4 * 512 + r.val; omega
  | ⟨2, _⟩ => show win0_15.index t (2 : Fin 3) * 1024 + 1 * n.val = n.val; omega

/-- Every point writes back its block of the result. -/
theorem flushed15_eq (c : Dev nD) (t : Fin cfg0.N) : (dats m 0 c).flushed 15 t = ((cfg0.win 15).blk t).view.read (Elt Ideal)
    (G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [Cert.OutIdeal.Value.flushed15]
  suffices h : ∀ j : S1x512x1024.Idx, out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) j
      = G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (((cfg0.win 15).blk t).view.emb j) from funext h
  intro j
  obtain ⟨r, n, rfl⟩ := idx_unit j
  rw [emb15]
  exact (out_apply _ _ _ _ _ _ _ _ _ _ _ _ _ _ _ r n).trans (lnorm_congr (fun k =>
      mlpRow_congr (fun k => lnorm_congr (fun k =>
          halfRow_eq (fun k => iblk0 m c t r k) (fun k => iblk1 m c t r k) (w := fun k n => m ((c : Thread nD τ).loc main_arg2) (ix2 k n))
            (fun k n => iblk2 m c t k n) (fun k n => iblk3 m c t k n) (fun k => iblk4 m c t r k) (fun k => iblk5 m c t k) k)
          (fun k => iblk6 m c t k) (fun k => iblk7 m c t k) k)
        (fun k => iblk8 m c t k) (fun k => iblk9 m c t k) (fun k => iblk10 m c t k)
        (fun k f => iblk11 m c t k f) (fun f k => iblk12 m c t f k) k)
    (fun k => iblk13 m c t k) (fun k => iblk14 m c t k) n)

/-- The point whose block holds batch entry `b` and row `r`. -/
def pt (b : Fin 32) (r : Fin 2048) : Fin cfg0.N := ⟨b.val * 4 + r.val / 512, by have := b.isLt; have := r.isLt; have := N_eq; omega⟩
theorem bat_pt (b : Fin 32) (r : Fin 2048) : bat (pt b r) = b := Fin.ext (by simp only [bat, pt]; have := r.isLt; omega)
theorem row_pt (b : Fin 32) (r : Fin 2048) : row (pt b r) ⟨r.val % 512, Nat.mod_lt _ (by decide)⟩ = r :=
  Fin.ext (by simp only [row, pt]; have := r.isLt; omega)

theorem cover15 (i : S32x2048x1024.Idx) : ∃ t : Fin cfg0.N, (cfg0.win 15).flush t = true ∧ i ∈ ((cfg0.win 15).blk t).view.set := by
  obtain ⟨b, r, n, rfl⟩ := idx_three i
  refine ⟨pt b r, flush0_15 _, ?_⟩
  have h := ((cfg0.win 15).blk (pt b r)).view.emb_mem_set (ix3 0 (⟨r.val % 512, Nat.mod_lt _ (by decide)⟩ : Fin 512) n)
  rw [emb15, bat_pt, row_pt] at h
  exact h

end Cert.Proof.Out

/-! ## The reference -/

namespace Cert.Proof.Out

open Cert.RefOutIdeal Cert.RefOutIdeal.Read

/-- The joined halves contracted with the weights: the two halves' sums. -/
theorem ref_proj (ya yb : Vec Ideal Cert.OutIdeal.S32x2048x512 .f32) (w : Vec Ideal Cert.OutIdeal.S1024x1024 .f32) (b : Fin 32) (r : Fin 2048) (n : Fin 1024) :
    val_main_v1 (F := Ideal) ya yb w (ix3 b r n)
      = ∑ k : Fin 512, ya (ix3 b r k) * w (ix2 ⟨k.val, by omega⟩ n) + ∑ k : Fin 512, yb (ix3 b r k) * w (ix2 ⟨512 + k.val, by omega⟩ n) := by
  have e : val_main_v1 (F := Ideal) ya yb w (ix3 b r n) = ∑ k : Fin 1024, val_main_v0 (F := Ideal) ya yb (ix3 b r k) * w (ix2 k n) := by
    unfold val_main_v1
    generalize val_main_v0 (F := Ideal) ya yb = h
    pointwise
  rw [e]
  refine (Fin.sum_univ_add (a := 512) (b := 512) (fun k : Fin 1024 => val_main_v0 (F := Ideal) ya yb (ix3 b r k) * w (ix2 k n))).trans ?_
  congr 1 <;> refine Finset.sum_congr rfl fun k _ => congrArg (· * _) ?_
  · unfold val_main_v0
    pointwise
    rw [dif_pos (show (Fin.castAdd 512 k).val < 512 from k.isLt)]
    rfl
  · unfold val_main_v0
    pointwise
    rw [dif_neg (show ¬ (Fin.natAdd 512 k).val < 512 from by simp)]
    exact congrArg (fun q => yb (ix3 b r q)) (Fin.ext (by simp))

/-- The reference's row before the first layer norm. -/
theorem ref_row1 (ya yb : Vec Ideal Cert.OutIdeal.S32x2048x512 .f32) (w : Vec Ideal Cert.OutIdeal.S1024x1024 .f32) (x : Vec Ideal Cert.OutIdeal.S32x2048x1024 .f32)
    (g1 : Vec Ideal Cert.OutIdeal.S32x1x1024 .f32) (b : Fin 32) (r : Fin 2048) (n : Fin 1024) :
    val_main_v6 (F := Ideal) ya yb w x g1 (ix3 b r n)
      = outRow (fun k => ya (ix3 b r k)) (fun k => yb (ix3 b r k)) (fun k n => w (ix2 k n)) (fun k => x (ix3 b r k)) (fun k => g1 (ix3 b 0 k)) n := by
  unfold outRow
  rw [← ref_proj]
  unfold val_main_v6 val_main_v5 val_main_v4 val_main_v3 val_main_v2 val_main_cst
  generalize val_main_v1 (F := Ideal) ya yb w = h
  pointwise

theorem ref_mid (ya yb : Vec Ideal Cert.OutIdeal.S32x2048x512 .f32) (w : Vec Ideal Cert.OutIdeal.S1024x1024 .f32) (x : Vec Ideal Cert.OutIdeal.S32x2048x1024 .f32)
    (g1 : Vec Ideal Cert.OutIdeal.S32x1x1024 .f32) (lg1 lb1 : Vec Ideal Cert.OutIdeal.S1024 .f32) (b : Fin 32) (r : Fin 2048) (n : Fin 1024) :
    val_main_v30 (F := Ideal) ya yb w x g1 lg1 lb1 (ix3 b r n) = mid ya yb w x g1 lg1 lb1 b r n := by
  have e : val_main_v30 (F := Ideal) ya yb w x g1 lg1 lb1 (ix3 b r n)
      = lnorm (fun k => val_main_v6 (F := Ideal) ya yb w x g1 (ix3 b r k)) (fun k => lg1 (ix1 k)) (fun k => lb1 (ix1 k)) n := by
    unfold val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_cst_1 val_main_cst_4 val_main_cst_0 val_main_cst_3 val_main_cst_2 lnorm
    generalize val_main_v6 (F := Ideal) ya yb w x g1 = h
    pointwise
  exact e.trans (lnorm_congr (fun k => ref_row1 ya yb w x g1 b r k) (fun _ => rfl) (fun _ => rfl) n)

set_option maxHeartbeats 1000000 in
/-- The reference's row before the second layer norm. -/
theorem ref_row2 (ya yb : Vec Ideal Cert.OutIdeal.S32x2048x512 .f32) (w : Vec Ideal Cert.OutIdeal.S1024x1024 .f32) (x : Vec Ideal Cert.OutIdeal.S32x2048x1024 .f32)
    (g1 : Vec Ideal Cert.OutIdeal.S32x1x1024 .f32) (lg1 lb1 : Vec Ideal Cert.OutIdeal.S1024 .f32) (sc sh g2 : Vec Ideal Cert.OutIdeal.S32x1x1024 .f32)
    (w1 : Vec Ideal Cert.OutIdeal.S1024x4096 .f32) (w2 : Vec Ideal Cert.OutIdeal.S4096x1024 .f32) (b : Fin 32) (r : Fin 2048) (n : Fin 1024) :
    val_main_v46 (F := Ideal) ya yb w x g1 lg1 lb1 sc sh g2 w1 w2 (ix3 b r n)
      = mlpRow (mid ya yb w x g1 lg1 lb1 b r) (fun k => sc (ix3 b 0 k)) (fun k => sh (ix3 b 0 k)) (fun k => g2 (ix3 b 0 k))
          (fun k f => w1 (ix2 k f)) (fun f k => w2 (ix2 f k)) n := by
  rw [← (funext fun k => ref_mid ya yb w x g1 lg1 lb1 b r k : (fun k => val_main_v30 (F := Ideal) ya yb w x g1 lg1 lb1 (ix3 b r k)) = mid ya yb w x g1 lg1 lb1 b r)]
  unfold val_main_v46 val_main_v45 val_main_v44 val_main_v43 val_main_v42 val_main_v41 val_main_v40 val_main_v39 val_main_v38 val_main_v37 val_main_v36 val_main_v35 val_main_v34 val_main_v33 val_main_v32 val_main_v31 val_main_cst_5 val_main_cst_7 val_main_cst_6 mlpRow hid
  generalize val_main_v30 (F := Ideal) ya yb w x g1 lg1 lb1 = h
  pointwise

theorem ref15 (ya yb : Vec Ideal Cert.OutIdeal.S32x2048x512 .f32) (w : Vec Ideal Cert.OutIdeal.S1024x1024 .f32) (x : Vec Ideal Cert.OutIdeal.S32x2048x1024 .f32)
    (g1 : Vec Ideal Cert.OutIdeal.S32x1x1024 .f32) (lg1 lb1 : Vec Ideal Cert.OutIdeal.S1024 .f32) (sc sh g2 : Vec Ideal Cert.OutIdeal.S32x1x1024 .f32)
    (w1 : Vec Ideal Cert.OutIdeal.S1024x4096 .f32) (w2 : Vec Ideal Cert.OutIdeal.S4096x1024 .f32) (lg2 lb2 : Vec Ideal Cert.OutIdeal.S1024 .f32) :
    val_main_v70 (F := Ideal) ya yb w x g1 lg1 lb1 sc sh g2 w1 w2 lg2 lb2 = G15 ya yb w x g1 lg1 lb1 sc sh g2 w1 w2 lg2 lb2 := by
  funext i
  obtain ⟨b, r, n, rfl⟩ := idx_three i
  have e : val_main_v70 (F := Ideal) ya yb w x g1 lg1 lb1 sc sh g2 w1 w2 lg2 lb2 (ix3 b r n)
      = lnorm (fun k => val_main_v46 (F := Ideal) ya yb w x g1 lg1 lb1 sc sh g2 w1 w2 (ix3 b r k)) (fun k => lg2 (ix1 k)) (fun k => lb2 (ix1 k)) n := by
    unfold val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_cst_9 val_main_cst_12 val_main_cst_8 val_main_cst_11 val_main_cst_10 lnorm
    generalize val_main_v46 (F := Ideal) ya yb w x g1 lg1 lb1 sc sh g2 w1 w2 = h
    pointwise
  exact e.trans (lnorm_congr (fun k => ref_row2 ya yb w x g1 lg1 lb1 sc sh g2 w1 w2 b r k) (fun _ => rfl) (fun _ => rfl) n)

/-- Both programs run, from equal arguments, to equal results. -/
theorem algebraic : Cert.algebraic_OutIdeal_RefOutIdeal (hOutIdeal := Cert.OutIdeal.Gen.facts) (hRefOutIdeal := Cert.RefOutIdeal.Gen.facts) := by
  intro m g m' g' _ hargs
  refine ⟨fun c => G15 (m ((c.tc : Thread _ _).loc Cert.OutIdeal.main_arg0)) (m ((c.tc : Thread _ _).loc Cert.OutIdeal.main_arg1)) (m ((c.tc : Thread _ _).loc Cert.OutIdeal.main_arg2)) (m ((c.tc : Thread _ _).loc Cert.OutIdeal.main_arg3)) (m ((c.tc : Thread _ _).loc Cert.OutIdeal.main_arg4)) (m ((c.tc : Thread _ _).loc Cert.OutIdeal.main_arg5)) (m ((c.tc : Thread _ _).loc Cert.OutIdeal.main_arg6)) (m ((c.tc : Thread _ _).loc Cert.OutIdeal.main_arg7)) (m ((c.tc : Thread _ _).loc Cert.OutIdeal.main_arg8)) (m ((c.tc : Thread _ _).loc Cert.OutIdeal.main_arg9)) (m ((c.tc : Thread _ _).loc Cert.OutIdeal.main_arg10)) (m ((c.tc : Thread _ _).loc Cert.OutIdeal.main_arg11)) (m ((c.tc : Thread _ _).loc Cert.OutIdeal.main_arg12)) (m ((c.tc : Thread _ _).loc Cert.OutIdeal.main_arg13)), ?_, ?_⟩
  · refine (θ_run (Cert.OutIdeal.defs (F := Ideal)) _ _).mono (fun r h c => ?_) (Cert.OutIdeal.Value.run_blocks (F := Ideal) m g)
    obtain ⟨h15, hk⟩ := h c
    exact ⟨h15.trans ((Cert.OutIdeal.Gen.dats m 0 c).arrAt_eq_of_cover 15 _ (fun t _ => flushed15_eq m c t) cover15), hk⟩
  · refine (θ_run (Cert.RefOutIdeal.defs (F := Ideal)) _ _).mono (fun r h c => ?_) (Cert.RefOutIdeal.Value.run (F := Ideal) m' g')
    obtain ⟨h70, hk⟩ := h c
    obtain ⟨a0, a1, a2, a3, a4, a5, a6, a7, a8, a9, a10, a11, a12, a13⟩ := hargs c
    refine ⟨h70.trans ?_, hk⟩
    rw [val_main_v70_eq, ref15]
    show G15 (m' ((c.tc : Thread _ _).loc main_arg0)) (m' ((c.tc : Thread _ _).loc main_arg1)) (m' ((c.tc : Thread _ _).loc main_arg2)) (m' ((c.tc : Thread _ _).loc main_arg3)) (m' ((c.tc : Thread _ _).loc main_arg4)) (m' ((c.tc : Thread _ _).loc main_arg5)) (m' ((c.tc : Thread _ _).loc main_arg6)) (m' ((c.tc : Thread _ _).loc main_arg7)) (m' ((c.tc : Thread _ _).loc main_arg8)) (m' ((c.tc : Thread _ _).loc main_arg9)) (m' ((c.tc : Thread _ _).loc main_arg10)) (m' ((c.tc : Thread _ _).loc main_arg11)) (m' ((c.tc : Thread _ _).loc main_arg12)) (m' ((c.tc : Thread _ _).loc main_arg13)) = G15 (m ((c.tc : Thread _ _).loc Cert.OutIdeal.main_arg0)) (m ((c.tc : Thread _ _).loc Cert.OutIdeal.main_arg1)) (m ((c.tc : Thread _ _).loc Cert.OutIdeal.main_arg2)) (m ((c.tc : Thread _ _).loc Cert.OutIdeal.main_arg3)) (m ((c.tc : Thread _ _).loc Cert.OutIdeal.main_arg4)) (m ((c.tc : Thread _ _).loc Cert.OutIdeal.main_arg5)) (m ((c.tc : Thread _ _).loc Cert.OutIdeal.main_arg6)) (m ((c.tc : Thread _ _).loc Cert.OutIdeal.main_arg7)) (m ((c.tc : Thread _ _).loc Cert.OutIdeal.main_arg8)) (m ((c.tc : Thread _ _).loc Cert.OutIdeal.main_arg9)) (m ((c.tc : Thread _ _).loc Cert.OutIdeal.main_arg10)) (m ((c.tc : Thread _ _).loc Cert.OutIdeal.main_arg11)) (m ((c.tc : Thread _ _).loc Cert.OutIdeal.main_arg12)) (m ((c.tc : Thread _ _).loc Cert.OutIdeal.main_arg13))
    rw [a0, a1, a2, a3, a4, a5, a6, a7, a8, a9, a10, a11, a12, a13]

end Cert.Proof.Out
end
-- ==== Proof.JoinBody.lean ====
/-
  What a grid point of the layer-1 output projection computes, read at an index: the two recurrences' output rows, their projection, and
  the layer norm.
-/
module

public import proofs.«01_k».proof.Proof.Gen.JoinIdeal.Value
public import proofs.«01_k».proof.Proof.Out
public import proofs.«01_k».proof.Proof.JoinRows

@[expose] public section

set_option maxRecDepth 16384

noncomputable section

open Idealize.ShloMosaic Idealize.ShloMosaic.TcCoe

namespace Cert.Proof.Join

open Cert.JoinIdeal Cert.JoinIdeal.Gen
open Cert.Proof.Out (halfRow)

/-! ## The first recurrence -/

theorem pay7_apply (v0 v3 : Vec Ideal S1x1x256x512 .bf16) (v15 : Vec Ideal S512x512 .bf16) (r : Fin 256) (n : Fin 512) :
    k0_pay7 v0 v3 v15 (ix2 r n) = kctr (fun k => v0 (ix4 0 0 r k) + v3 (ix4 0 0 r k)) (fun k n => v15 (ix2 k n)) n := by
  unfold kctr hsum k0_pay7 k0_pay6
  pointwise

theorem pay8_apply (v0 v3 : Vec Ideal S1x1x256x512 .bf16) (v15 : Vec Ideal S512x512 .bf16) (r : Fin 256) (n : Fin 512) :
    k0_pay8 v0 v3 v15 (ix2 r n) = k0_pay7 v0 v3 v15 (ix2 r n) * k0_pay7 v0 v3 v15 (ix2 r n) := by
  unfold k0_pay8
  generalize k0_pay7 v0 v3 v15 = h
  pointwise

theorem pay11_apply (v7 v9 : Vec Ideal S1x256x512 .f32) (v11 v13 : Vec Ideal S1x512 .f32) (v0 v3 : Vec Ideal S1x1x256x512 .bf16)
    (v15 : Vec Ideal S512x512 .bf16) (r : Fin 256) (n : Fin 512) :
    k0_pay11 (k0_pay2 v7) (k0_pay3 v9) (k0_pay4 v11) (k0_pay5 v13) (k0_pay6 v15) (k0_pay7 v0 v3 v15) (k0_pay9 v0 v3 v15) (k0_pay10 v0 v3 v15) (ix2 r n)
      = krow (fun k => v0 (ix4 0 0 r k) + v3 (ix4 0 0 r k)) (fun k n => v15 (ix2 k n)) (fun k => v11 (ix2 0 k)) (fun k => v13 (ix2 0 k))
          (fun k => v7 (ix3 0 r k)) (fun k => v9 (ix3 0 r k)) n := by
  have e7 : kctr (fun k => v0 (ix4 0 0 r k) + v3 (ix4 0 0 r k)) (fun k n => v15 (ix2 k n)) = fun n => k0_pay7 v0 v3 v15 (ix2 r n) :=
    funext fun n => (pay7_apply v0 v3 v15 r n).symm
  have e8 : (fun n => k0_pay7 v0 v3 v15 (ix2 r n) * k0_pay7 v0 v3 v15 (ix2 r n)) = fun n => k0_pay8 v0 v3 v15 (ix2 r n) :=
    funext fun n => (pay8_apply v0 v3 v15 r n).symm
  unfold krow
  rw [e7]
  rw [e8]
  unfold k0_pay10 k0_pay9 hsum
  generalize k0_pay8 v0 v3 v15 = q
  generalize k0_pay7 v0 v3 v15 = h
  unfold k0_pay11 k0_pay2 k0_pay3 k0_pay4 k0_pay5 k0_pay6
  pointwise

/-! ## The second recurrence -/

/-- One head of the second recurrence: its norm, gain and gate. -/
def headOut (o z : FVec Ideal S256x128 .f32) (ng : FVec Ideal S1x128 .f32) : FVec Ideal S256x128 .f32 :=
  mulf (mulf (mulf o (broadcastTo S256x128 (rsqrt (addf (divf (shapeCast S256x1 (multiReduction .add [1] S256 (mulf o o) 0x00000000#32 reduces_S256x128_S256 (.inl rfl) rfl) shapeCasts_S256_S256x1)
      (broadcast S256x1 (Scalar.ofBits (F := Ideal) .f32 0x43000000#32))) (broadcast S256x1 (Scalar.ofBits (F := Ideal) .f32 0x358637BD#32)))) broadcasts_S256x1_S256x128))
    (broadcastTo S256x128 ng broadcasts_S1x128_S256x128))
    (mulf z (divf (broadcast S256x128 (Scalar.ofBits (F := Ideal) .f32 0x3F800000#32)) (addf (broadcast S256x128 (Scalar.ofBits (F := Ideal) .f32 0x3F800000#32))
      (exp (subf (broadcast S256x128 (Scalar.ofBits (F := Ideal) .f32 0x00000000#32)) z)))))

theorem headOut_apply (o z : FVec Ideal S256x128 .f32) (ng : FVec Ideal S1x128 .f32) (r : Fin 256) (d : Fin 128) :
    headOut o z ng (ix2 r d) = o (ix2 r d) * Ideal.rsqrt (Ideal.div (∑ d, o (ix2 r d) * o (ix2 r d)) (Ideal.ofBits .f32 0x43000000#32) + Ideal.ofBits .f32 0x358637BD#32)
      * ng (ix2 0 d) * (z (ix2 r d) * Ideal.div (Ideal.ofBits .f32 0x3F800000#32) (Ideal.ofBits .f32 0x3F800000#32 + Ideal.exp (-z (ix2 r d)))) := by
  have hz : (0 : EReal) - z (ix2 r d) = -z (ix2 r d) := by rw [sub_eq_add_neg, zero_add]
  rw [← hz]
  unfold headOut
  pointwise

/-- Four heads side by side. -/
def cat4 (a b c d : FVec Ideal S256x128 .f32) : FVec Ideal S256x512 .f32 :=
  concatenate S256x512 1 [⟨S256x128, a⟩, ⟨S256x128, b⟩, ⟨S256x128, c⟩, ⟨S256x128, d⟩] concatenates_S256x128_S256x128_S256x128_S256x128_S256x512_d1

theorem at_col (v : FVec Ideal S256x128 .f32) (r : Fin 256) (i j : Fin 128) (h : i.val = j.val) : v (ix2 r i) = v (ix2 r j) := by
  rw [Fin.ext h]

theorem cat4_apply (a b c d v : FVec Ideal S256x128 .f32) (r : Fin 256) (n : Fin 512)
    (ha : n.val < 128 → v = a) (hb : 128 ≤ n.val → n.val < 256 → v = b) (hc : 256 ≤ n.val → n.val < 384 → v = c) (hd : 384 ≤ n.val → v = d) :
    cat4 a b c d (ix2 r n) = v (ix2 r ⟨n.val % 128, Nat.mod_lt _ (by decide)⟩) := by
  unfold cat4
  pointwise
  split_ifs <;> first
    | exact absurd rfl ‹_›
    | (refine (at_col a r _ _ ?_).trans (congrFun (ha (by omega)).symm _); dsimp only; omega)
    | (refine (at_col b r _ _ ?_).trans (congrFun (hb (by omega) (by omega)).symm _); dsimp only; omega)
    | (refine (at_col c r _ _ ?_).trans (congrFun (hc (by omega) (by omega)).symm _); dsimp only; omega)
    | (refine (at_col d r _ _ ?_).trans (congrFun (hd (by omega)).symm _); dsimp only; omega)

theorem headOut_slice (o z : FVec Ideal S256x512 .f32) (ng : FVec Ideal S1x128 .f32) (j off : ℕ) (hj : j < 4) (ho : off = 128 * j)
    (h : S256x512.Slices ![0, off] S256x128) (r : Fin 256) (n : Fin 512) (hn : n.val / 128 = j) :
    headOut (extractStridedSlice S256x128 ![0, off] o h) (extractStridedSlice S256x128 ![0, off] z h) ng (ix2 r ⟨n.val % 128, Nat.mod_lt _ (by decide)⟩)
      = drow (fun k => o (ix2 r k)) (fun k => z (ix2 r k)) (fun k => ng (ix2 0 k)) n := by
  subst hn
  subst ho
  have es : ∀ (v : FVec Ideal S256x512 .f32) (d : Fin 128), extractStridedSlice S256x128 ![0, 128 * (n.val / 128)] v h (ix2 r d) = v (ix2 r (dcol n d)) := fun v d => by
    pointwise
    rfl
  have en : dcol n ⟨n.val % 128, Nat.mod_lt _ (by decide)⟩ = n := Fin.ext (show 128 * (n.val / 128) + n.val % 128 = n.val by omega)
  rw [headOut_apply]
  simp only [es]
  rw [en]
  rfl

/-- The four heads' outputs. -/
def heads (o z : FVec Ideal S256x512 .f32) (ng : FVec Ideal S1x128 .f32) : FVec Ideal S256x512 .f32 :=
  cat4 (headOut (extractStridedSlice S256x128 ![0, 0] o slices_S256x512_o0_0_S256x128) (extractStridedSlice S256x128 ![0, 0] z slices_S256x512_o0_0_S256x128) ng)
    (headOut (extractStridedSlice S256x128 ![0, 128] o slices_S256x512_o0_128_S256x128) (extractStridedSlice S256x128 ![0, 128] z slices_S256x512_o0_128_S256x128) ng)
    (headOut (extractStridedSlice S256x128 ![0, 256] o slices_S256x512_o0_256_S256x128) (extractStridedSlice S256x128 ![0, 256] z slices_S256x512_o0_256_S256x128) ng)
    (headOut (extractStridedSlice S256x128 ![0, 384] o slices_S256x512_o0_384_S256x128) (extractStridedSlice S256x128 ![0, 384] z slices_S256x512_o0_384_S256x128) ng)

theorem heads_apply (o z : FVec Ideal S256x512 .f32) (ng : FVec Ideal S1x128 .f32) (r : Fin 256) (n : Fin 512) :
    heads o z ng (ix2 r n) = drow (fun k => o (ix2 r k)) (fun k => z (ix2 r k)) (fun k => ng (ix2 0 k)) n := by
  unfold heads
  have hn := n.isLt
  by_cases h0 : n.val < 128
  · refine (cat4_apply _ _ _ _ _ r n (fun _ => rfl) (fun _ _ => by omega) (fun _ _ => by omega) (fun _ => by omega)).trans ?_
    exact headOut_slice o z ng 0 0 (by omega) rfl _ r n (by omega)
  by_cases h1 : n.val < 256
  · refine (cat4_apply _ _ _ _ _ r n (fun _ => by omega) (fun _ _ => rfl) (fun _ _ => by omega) (fun _ => by omega)).trans ?_
    exact headOut_slice o z ng 1 128 (by omega) rfl _ r n (by omega)
  by_cases h2 : n.val < 384
  · refine (cat4_apply _ _ _ _ _ r n (fun _ => by omega) (fun _ _ => by omega) (fun _ _ => rfl) (fun _ => by omega)).trans ?_
    exact headOut_slice o z ng 2 256 (by omega) rfl _ r n (by omega)
  · refine (cat4_apply _ _ _ _ _ r n (fun _ => by omega) (fun _ _ => by omega) (fun _ _ => by omega) (fun _ => rfl)).trans ?_
    exact headOut_slice o z ng 3 384 (by omega) rfl _ r n (by omega)

/-! ## The projection -/

theorem pay23_eq (v50 : FVec Ideal S256x512 .f32) (v51 v54 : Vec Ideal S1x1x256x512 .bf16) (v58 : Vec Ideal S1x256x512 .f32) (v60 : Vec Ideal S1x128 .f32)
    (v155 v159 : Vec Ideal S512x1024 .bf16) :
    k0_pay23 v50 (k0_pay12 v51 v54) (k0_pay13 v58) (k0_pay14 v60) (k0_pay18 (k0_pay14 v60) (k0_pay15 v51 v54) (k0_pay16 v58) (k0_pay17 v51 v54))
        (k0_pay19 (k0_pay12 v51 v54) (k0_pay13 v58) (k0_pay14 v60)) (k0_pay20 (k0_pay13 v58)) (k0_pay21 (k0_pay12 v51 v54)) (k0_pay22 (k0_pay14 v60)) v155 v159
      = addf (matmul (φ₂ := .bf16) dot_S256x512_S512x1024_S256x1024_1_0_0_1_n_n none (truncf .bf16 v50 bitsLt_bf16_f32) (shapeCast S512x1024 v155 shapeCasts_S512x1024_S512x1024) (constant (F := Ideal) S256x1024 .f32 0x00000000#32))
          (matmul (φ₂ := .bf16) dot_S256x512_S512x1024_S256x1024_1_0_0_1_n_n none (truncf .bf16 (heads (k0_pay12 v51 v54) (k0_pay13 v58) (k0_pay14 v60)) bitsLt_bf16_f32) (shapeCast S512x1024 v159 shapeCasts_S512x1024_S512x1024) (constant (F := Ideal) S256x1024 .f32 0x00000000#32)) := rfl

theorem pay23_apply (v50 : FVec Ideal S256x512 .f32) (v51 v54 : Vec Ideal S1x1x256x512 .bf16) (v58 : Vec Ideal S1x256x512 .f32) (v60 : Vec Ideal S1x128 .f32)
    (v155 v159 : Vec Ideal S512x1024 .bf16) (r : Fin 256) (n : Fin 1024) :
    k0_pay23 v50 (k0_pay12 v51 v54) (k0_pay13 v58) (k0_pay14 v60) (k0_pay18 (k0_pay14 v60) (k0_pay15 v51 v54) (k0_pay16 v58) (k0_pay17 v51 v54))
        (k0_pay19 (k0_pay12 v51 v54) (k0_pay13 v58) (k0_pay14 v60)) (k0_pay20 (k0_pay13 v58)) (k0_pay21 (k0_pay12 v51 v54)) (k0_pay22 (k0_pay14 v60)) v155 v159 (ix2 r n)
      = ∑ k, v50 (ix2 r k) * v155 (ix2 k n)
        + ∑ k, drow (fun k => v51 (ix4 0 0 r k) + v54 (ix4 0 0 r k)) (fun k => v58 (ix3 0 r k)) (fun k => v60 (ix2 0 k)) k * v159 (ix2 k n) := by
  have eh : drow (fun k => v51 (ix4 0 0 r k) + v54 (ix4 0 0 r k)) (fun k => v58 (ix3 0 r k)) (fun k => v60 (ix2 0 k))
      = fun k => heads (k0_pay12 v51 v54) (k0_pay13 v58) (k0_pay14 v60) (ix2 r k) := funext fun k => by
    rw [heads_apply]
    refine (drow_congr (fun k => ?_) (fun k => ?_) (fun k => ?_) k).symm
    · unfold k0_pay12; pointwise
    · unfold k0_pay13; pointwise
    · unfold k0_pay14; pointwise
  rw [pay23_eq, eh]
  generalize heads (k0_pay12 v51 v54) (k0_pay13 v58) (k0_pay14 v60) = h
  pointwise

/-- The last payload is the layer norm of the residual and the gated projection. -/
theorem pay1_apply (v163 : FVec Ideal S256x1024 .f32) (v164 : Vec Ideal S1x256x1024 .f32) (v168 : Vec Ideal S1x1x1024 .f32) (v173 v175 : Vec Ideal S1x1024 .f32) (r : Fin 256) (n : Fin 1024) :
    k0_pay1 v163 v164 v168 v173 v175 (ix3 0 r n)
      = lnorm (fun k => Ideal.ofBits .f32 0x3FB504F3#32 * v164 (ix3 0 r k) + v168 (ix3 0 0 k) * v163 (ix2 r k))
          (fun k => v173 (ix2 0 k)) (fun k => v175 (ix2 0 k)) n := by
  unfold lnorm k0_pay1
  pointwise

/-! ## The grid point -/

/-- The whole computation of a grid point from its loaded blocks. -/
def body (y0 y1 : Vec Ideal S1x1x256x512 .bf16) (bo g : Vec Ideal S1x256x512 .f32) (gg gb : Vec Ideal S1x512 .f32) (e : Vec Ideal S512x512 .bf16)
    (o0 o1 : Vec Ideal S1x1x256x512 .bf16) (z : Vec Ideal S1x256x512 .f32) (ng : Vec Ideal S1x128 .f32) (wa wb : Vec Ideal S512x1024 .bf16)
    (x : Vec Ideal S1x256x1024 .f32) (gate : Vec Ideal S1x1x1024 .f32) (lg lb : Vec Ideal S1x1024 .f32) : FVec Ideal S1x256x1024 .f32 :=
  k0_pay1 (k0_pay23 (k0_pay11 (k0_pay2 bo) (k0_pay3 g) (k0_pay4 gg) (k0_pay5 gb) (k0_pay6 e) (k0_pay7 y0 y1 e) (k0_pay9 y0 y1 e) (k0_pay10 y0 y1 e))
      (k0_pay12 o0 o1) (k0_pay13 z) (k0_pay14 ng) (k0_pay18 (k0_pay14 ng) (k0_pay15 o0 o1) (k0_pay16 z) (k0_pay17 o0 o1))
      (k0_pay19 (k0_pay12 o0 o1) (k0_pay13 z) (k0_pay14 ng)) (k0_pay20 (k0_pay13 z)) (k0_pay21 (k0_pay12 o0 o1)) (k0_pay22 (k0_pay14 ng)) wa wb) x gate lg lb

theorem body_apply (y0 y1 : Vec Ideal S1x1x256x512 .bf16) (bo g : Vec Ideal S1x256x512 .f32) (gg gb : Vec Ideal S1x512 .f32) (e : Vec Ideal S512x512 .bf16)
    (o0 o1 : Vec Ideal S1x1x256x512 .bf16) (z : Vec Ideal S1x256x512 .f32) (ng : Vec Ideal S1x128 .f32) (wa wb : Vec Ideal S512x1024 .bf16)
    (x : Vec Ideal S1x256x1024 .f32) (gate : Vec Ideal S1x1x1024 .f32) (lg lb : Vec Ideal S1x1024 .f32) (r : Fin 256) (n : Fin 1024) :
    body y0 y1 bo g gg gb e o0 o1 z ng wa wb x gate lg lb (ix3 0 r n)
      = lnorm (halfRow (krow (fun k => y0 (ix4 0 0 r k) + y1 (ix4 0 0 r k)) (fun k n => e (ix2 k n)) (fun k => gg (ix2 0 k)) (fun k => gb (ix2 0 k))
            (fun k => bo (ix3 0 r k)) (fun k => g (ix3 0 r k)))
          (drow (fun k => o0 (ix4 0 0 r k) + o1 (ix4 0 0 r k)) (fun k => z (ix3 0 r k)) (fun k => ng (ix2 0 k)))
          (fun k n => wa (ix2 k n)) (fun k n => wb (ix2 k n)) (fun k => x (ix3 0 r k)) (fun k => gate (ix3 0 0 k)))
        (fun k => lg (ix2 0 k)) (fun k => lb (ix2 0 k)) n := by
  unfold body
  rw [pay1_apply]
  refine lnorm_congr (fun k => ?_) (fun _ => rfl) (fun _ => rfl) n
  rw [pay23_apply]
  unfold halfRow
  refine congrArg (fun s => _ + _ * (s + _)) (Finset.sum_congr rfl fun q _ => congrArg (· * _) ?_)
  exact pay11_apply bo g gg gb y0 y1 e r q

end Cert.Proof.Join
end
-- ==== Proof.JoinRun.lean ====
/-
  What a grid point of the layer-1 output projection leaves in the result's staging buffer: `body` of the loaded blocks.
-/
module

public import proofs.«01_k».proof.Proof.JoinBody

@[expose] public section

set_option maxRecDepth 16384

noncomputable section

open Idealize.ShloMosaic Idealize.ShloMosaic.TcCoe

namespace Cert.Proof.Join

open Cert.JoinIdeal Cert.JoinIdeal.Gen

/-- The two directions' rows of a block. -/
def part0 (x : Vec Ideal S2x1x256x512 .bf16) : Vec Ideal S1x1x256x512 .bf16 :=
  View.ld x (Rect.unit (s := S2x1x256x512) ![0, 0, 0, 0] S1x1x256x512.size inb_S2x1x256x512_S1x1x256x512_0_0_0_0)
def part1 (x : Vec Ideal S2x1x256x512 .bf16) : Vec Ideal S1x1x256x512 .bf16 :=
  View.ld x (Rect.unit (s := S2x1x256x512) ![1, 0, 0, 0] S1x1x256x512.size inb_S2x1x256x512_S1x1x256x512_1_0_0_0)

theorem part0_apply (x : Vec Ideal S2x1x256x512 .bf16) (r : Fin 256) (k : Fin 512) : part0 x (ix4 0 0 r k) = x (ix4 0 0 r k) := by
  unfold part0
  pointwise
theorem part1_apply (x : Vec Ideal S2x1x256x512 .bf16) (r : Fin 256) (k : Fin 512) : part1 x (ix4 0 0 r k) = x (ix4 1 0 r k) := by
  unfold part1
  pointwise

theorem out_eq (c : Dev nD) (i : grid0.Coords) (arg2 : Memref sig .tc .vmem S2x1x256x512 .bf16) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S2x1x256x512 .bf16) (harg8 : arg8.IsWhole) (arg9 : Memref sig .tc .vmem S1x256x512 .f32) (harg9 : arg9.IsWhole) (arg10 : Memref sig .tc .vmem S1x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1x256x1024 .f32) (harg13 : arg13.IsWhole) (arg14 : Memref sig .tc .vmem S1x1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x256x1024 .f32) (harg17 : arg17.IsWhole)
    (x0 : Vec Ideal S2x1x256x512 .bf16) (x1 : Vec Ideal S1x256x512 .f32) (x2 : Vec Ideal S1x256x512 .f32) (x3 : Vec Ideal S1x512 .f32) (x4 : Vec Ideal S1x512 .f32) (x5 : Vec Ideal S512x512 .bf16) (x6 : Vec Ideal S2x1x256x512 .bf16) (x7 : Vec Ideal S1x256x512 .f32) (x8 : Vec Ideal S1x128 .f32) (x9 : Vec Ideal S512x1024 .bf16) (x10 : Vec Ideal S512x1024 .bf16) (x11 : Vec Ideal S1x256x1024 .f32) (x12 : Vec Ideal S1x1x1024 .f32) (x13 : Vec Ideal S1x1024 .f32) (x14 : Vec Ideal S1x1024 .f32) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14
      = body (part0 x0) (part1 x0) x1 x2 x3 x4 x5 (part0 x6) (part1 x6) x7 x8 x9 x10 x11 x12 x13 x14 := by
  have e0 : View.readAt (Elt Ideal) arg2.view (Rect.unit (s := S2x1x256x512) ![0, 0, 0, 0] S1x1x256x512.size inb_S2x1x256x512_S1x1x256x512_0_0_0_0).toLoadRect (harg2.unread x0) = part0 x0 := by
    rw [View.readAt_eq_ld, harg2.read_unread]; rfl
  have e0' : View.readAt (Elt Ideal) arg2.view (Rect.unit (s := S2x1x256x512) ![1, 0, 0, 0] S1x1x256x512.size inb_S2x1x256x512_S1x1x256x512_1_0_0_0).toLoadRect (harg2.unread x0) = part1 x0 := by
    rw [View.readAt_eq_ld, harg2.read_unread]; rfl
  have e6 : View.readAt (Elt Ideal) arg8.view (Rect.unit (s := S2x1x256x512) ![0, 0, 0, 0] S1x1x256x512.size inb_S2x1x256x512_S1x1x256x512_0_0_0_0).toLoadRect (harg8.unread x6) = part0 x6 := by
    rw [View.readAt_eq_ld, harg8.read_unread]; rfl
  have e6' : View.readAt (Elt Ideal) arg8.view (Rect.unit (s := S2x1x256x512) ![1, 0, 0, 0] S1x1x256x512.size inb_S2x1x256x512_S1x1x256x512_1_0_0_0).toLoadRect (harg8.unread x6) = part1 x6 := by
    rw [View.readAt_eq_ld, harg8.read_unread]; rfl
  have e1 : View.readAt (Elt Ideal) arg3.view (Rect.unit (s := S1x256x512) ![0, 0, 0] S1x256x512.size inb_S1x256x512_S1x256x512_0_0_0).toLoadRect (harg3.unread x1) = x1 := by
    rw [View.readAt_eq_ld, harg3.read_unread]; exact View.ld_unit_zero hz3 _ _
  have e2 : View.readAt (Elt Ideal) arg4.view (Rect.unit (s := S1x256x512) ![0, 0, 0] S1x256x512.size inb_S1x256x512_S1x256x512_0_0_0).toLoadRect (harg4.unread x2) = x2 := by
    rw [View.readAt_eq_ld, harg4.read_unread]; exact View.ld_unit_zero hz3 _ _
  have e3 : View.readAt (Elt Ideal) arg5.view (Rect.unit (s := S1x512) ![0, 0] S1x512.size inb_S1x512_S1x512_0_0).toLoadRect (harg5.unread x3) = x3 := by
    rw [View.readAt_eq_ld, harg5.read_unread]; exact View.ld_unit_zero hz2 _ _
  have e4 : View.readAt (Elt Ideal) arg6.view (Rect.unit (s := S1x512) ![0, 0] S1x512.size inb_S1x512_S1x512_0_0).toLoadRect (harg6.unread x4) = x4 := by
    rw [View.readAt_eq_ld, harg6.read_unread]; exact View.ld_unit_zero hz2 _ _
  have e5 : View.readAt (Elt Ideal) arg7.view (Rect.unit (s := S512x512) ![0, 0] S512x512.size inb_S512x512_S512x512_0_0).toLoadRect (harg7.unread x5) = x5 := by
    rw [View.readAt_eq_ld, harg7.read_unread]; exact View.ld_unit_zero hz2 _ _
  have e7 : View.readAt (Elt Ideal) arg9.view (Rect.unit (s := S1x256x512) ![0, 0, 0] S1x256x512.size inb_S1x256x512_S1x256x512_0_0_0).toLoadRect (harg9.unread x7) = x7 := by
    rw [View.readAt_eq_ld, harg9.read_unread]; exact View.ld_unit_zero hz3 _ _
  have e8 : View.readAt (Elt Ideal) arg10.view (Rect.unit (s := S1x128) ![0, 0] S1x128.size inb_S1x128_S1x128_0_0).toLoadRect (harg10.unread x8) = x8 := by
    rw [View.readAt_eq_ld, harg10.read_unread]; exact View.ld_unit_zero hz2 _ _
  have e9 : View.readAt (Elt Ideal) arg11.view (Rect.unit (s := S512x1024) ![0, 0] S512x1024.size inb_S512x1024_S512x1024_0_0).toLoadRect (harg11.unread x9) = x9 := by
    rw [View.readAt_eq_ld, harg11.read_unread]; exact View.ld_unit_zero hz2 _ _
  have e10 : View.readAt (Elt Ideal) arg12.view (Rect.unit (s := S512x1024) ![0, 0] S512x1024.size inb_S512x1024_S512x1024_0_0).toLoadRect (harg12.unread x10) = x10 := by
    rw [View.readAt_eq_ld, harg12.read_unread]; exact View.ld_unit_zero hz2 _ _
  have e11 : View.readAt (Elt Ideal) arg13.view (Rect.unit (s := S1x256x1024) ![0, 0, 0] S1x256x1024.size inb_S1x256x1024_S1x256x1024_0_0_0).toLoadRect (harg13.unread x11) = x11 := by
    rw [View.readAt_eq_ld, harg13.read_unread]; exact View.ld_unit_zero hz3 _ _
  have e12 : View.readAt (Elt Ideal) arg14.view (Rect.unit (s := S1x1x1024) ![0, 0, 0] S1x1x1024.size inb_S1x1x1024_S1x1x1024_0_0_0).toLoadRect (harg14.unread x12) = x12 := by
    rw [View.readAt_eq_ld, harg14.read_unread]; exact View.ld_unit_zero hz3 _ _
  have e13 : View.readAt (Elt Ideal) arg15.view (Rect.unit (s := S1x1024) ![0, 0] S1x1024.size inb_S1x1024_S1x1024_0_0).toLoadRect (harg15.unread x13) = x13 := by
    rw [View.readAt_eq_ld, harg15.read_unread]; exact View.ld_unit_zero hz2 _ _
  have e14 : View.readAt (Elt Ideal) arg16.view (Rect.unit (s := S1x1024) ![0, 0] S1x1024.size inb_S1x1024_S1x1024_0_0).toLoadRect (harg16.unread x14) = x14 := by
    rw [View.readAt_eq_ld, harg16.read_unread]; exact View.ld_unit_zero hz2 _ _
  unfold out0_A_15
  rw [View.read_writes_junk_eq_canon]
  unfold kernelRun0_A
  dsimp only
  rw [View.canon_unit_zero hz3]
  refine Eq.trans (b := body (View.readAt (Elt Ideal) arg2.view (Rect.unit (s := S2x1x256x512) ![0, 0, 0, 0] S1x1x256x512.size inb_S2x1x256x512_S1x1x256x512_0_0_0_0).toLoadRect (harg2.unread x0)) (View.readAt (Elt Ideal) arg2.view (Rect.unit (s := S2x1x256x512) ![1, 0, 0, 0] S1x1x256x512.size inb_S2x1x256x512_S1x1x256x512_1_0_0_0).toLoadRect (harg2.unread x0)) (View.readAt (Elt Ideal) arg3.view (Rect.unit (s := S1x256x512) ![0, 0, 0] S1x256x512.size inb_S1x256x512_S1x256x512_0_0_0).toLoadRect (harg3.unread x1)) (View.readAt (Elt Ideal) arg4.view (Rect.unit (s := S1x256x512) ![0, 0, 0] S1x256x512.size inb_S1x256x512_S1x256x512_0_0_0).toLoadRect (harg4.unread x2)) (View.readAt (Elt Ideal) arg5.view (Rect.unit (s := S1x512) ![0, 0] S1x512.size inb_S1x512_S1x512_0_0).toLoadRect (harg5.unread x3)) (View.readAt (Elt Ideal) arg6.view (Rect.unit (s := S1x512) ![0, 0] S1x512.size inb_S1x512_S1x512_0_0).toLoadRect (harg6.unread x4)) (View.readAt (Elt Ideal) arg7.view (Rect.unit (s := S512x512) ![0, 0] S512x512.size inb_S512x512_S512x512_0_0).toLoadRect (harg7.unread x5)) (View.readAt (Elt Ideal) arg8.view (Rect.unit (s := S2x1x256x512) ![0, 0, 0, 0] S1x1x256x512.size inb_S2x1x256x512_S1x1x256x512_0_0_0_0).toLoadRect (harg8.unread x6)) (View.readAt (Elt Ideal) arg8.view (Rect.unit (s := S2x1x256x512) ![1, 0, 0, 0] S1x1x256x512.size inb_S2x1x256x512_S1x1x256x512_1_0_0_0).toLoadRect (harg8.unread x6)) (View.readAt (Elt Ideal) arg9.view (Rect.unit (s := S1x256x512) ![0, 0, 0] S1x256x512.size inb_S1x256x512_S1x256x512_0_0_0).toLoadRect (harg9.unread x7)) (View.readAt (Elt Ideal) arg10.view (Rect.unit (s := S1x128) ![0, 0] S1x128.size inb_S1x128_S1x128_0_0).toLoadRect (harg10.unread x8)) (View.readAt (Elt Ideal) arg11.view (Rect.unit (s := S512x1024) ![0, 0] S512x1024.size inb_S512x1024_S512x1024_0_0).toLoadRect (harg11.unread x9)) (View.readAt (Elt Ideal) arg12.view (Rect.unit (s := S512x1024) ![0, 0] S512x1024.size inb_S512x1024_S512x1024_0_0).toLoadRect (harg12.unread x10)) (View.readAt (Elt Ideal) arg13.view (Rect.unit (s := S1x256x1024) ![0, 0, 0] S1x256x1024.size inb_S1x256x1024_S1x256x1024_0_0_0).toLoadRect (harg13.unread x11)) (View.readAt (Elt Ideal) arg14.view (Rect.unit (s := S1x1x1024) ![0, 0, 0] S1x1x1024.size inb_S1x1x1024_S1x1x1024_0_0_0).toLoadRect (harg14.unread x12)) (View.readAt (Elt Ideal) arg15.view (Rect.unit (s := S1x1024) ![0, 0] S1x1024.size inb_S1x1024_S1x1024_0_0).toLoadRect (harg15.unread x13)) (View.readAt (Elt Ideal) arg16.view (Rect.unit (s := S1x1024) ![0, 0] S1x1024.size inb_S1x1024_S1x1024_0_0).toLoadRect (harg16.unread x14))) rfl ?_
  rw [e0, e0', e6, e6', e1, e2, e3, e4, e5, e7, e8, e9, e10, e11, e12, e13, e14]

end Cert.Proof.Join
end
-- ==== Proof.JoinRef.lean ====
/-
  The reference of the layer-1 output projection, read at an index: the group-normed first recurrence, the gated second, the joined
  projection, and the layer norm.
-/
module

public import proofs.«01_k».proof.Proof.Gen.RefJoinIdeal.Run
public import proofs.«01_k».proof.Proof.Gen.RefJoinIdeal.Read
public import proofs.«01_k».proof.JoinIdeal
public import proofs.«01_k».proof.Proof.Out
public import proofs.«01_k».proof.Proof.JoinRows

@[expose] public section

set_option maxRecDepth 16384

noncomputable section

open Idealize.ShloMosaic Idealize.ShloMosaic.TcCoe

namespace Cert.Proof.Join

open Cert.RefJoinIdeal Cert.RefJoinIdeal.Read
open Cert.Proof.Out (outRow)

/-- The two directions' sum at batch entry `b` and row `r`. -/
def both (y : Vec Ideal Cert.JoinIdeal.S2x32x2048x512 .bf16) (b : Fin 32) (r : Fin 2048) (k : Fin 512) : EReal := y (ix4 0 b r k) + y (ix4 1 b r k)

theorem ref_y (y : Vec Ideal Cert.JoinIdeal.S2x32x2048x512 .bf16) (b : Fin 32) (r : Fin 2048) (h : Fin 8) (d : Fin 64) :
    val_main_v7 (F := Ideal) y (ix4 b r h d) = both y b r ⟨64 * h.val + d.val, by omega⟩ := by
  unfold val_main_v7 val_main_v6 val_main_v5 val_main_v4 val_main_v3 val_main_v2 val_main_v1 val_main_v0 both
  pointwise
  rw [show (⟨h.val * 64 + d.val, by omega⟩ : Fin 512) = ⟨64 * h.val + d.val, by omega⟩ from Fin.ext (congrArg (· + d.val) (Nat.mul_comm _ _))]

theorem ref_norm (y : Vec Ideal Cert.JoinIdeal.S2x32x2048x512 .bf16) (b : Fin 32) (r : Fin 2048) (h : Fin 8) (d : Fin 64) (q : Fin 64 → EReal)
    (hq : ∀ d, val_main_v7 (F := Ideal) y (ix4 b r h d) = q d) :
    val_main_v25 (F := Ideal) y (ix4 b r h d)
      = (q d - Ideal.div (∑ d, q d) (Ideal.ofBits .f32 0x42800000#32))
          * Ideal.rsqrt (Ideal.div (∑ d', (q d' - Ideal.div (∑ d, q d) (Ideal.ofBits .f32 0x42800000#32)) * (q d' - Ideal.div (∑ d, q d) (Ideal.ofBits .f32 0x42800000#32)))
              (Ideal.ofBits .f32 0x42800000#32) + Ideal.ofBits .f32 0x3A27C5AC#32) := by
  rw [← (funext hq : (fun d => val_main_v7 (F := Ideal) y (ix4 b r h d)) = q)]
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_cst val_main_cst_0 val_main_cst_1 val_main_cst_2 val_main_cst_3
  generalize val_main_v7 (F := Ideal) y = u
  pointwise

theorem ref_flat (y : Vec Ideal Cert.JoinIdeal.S2x32x2048x512 .bf16) (b : Fin 32) (r : Fin 2048) (n : Fin 512) :
    val_main_v26 (F := Ideal) y (ix3 b r n) = val_main_v25 (F := Ideal) y (ix4 b r ⟨n.val / 64, by omega⟩ ⟨n.val % 64, Nat.mod_lt _ (by decide)⟩) := by
  unfold val_main_v26
  generalize val_main_v25 (F := Ideal) y = u
  pointwise

theorem ref_yrow (y : Vec Ideal Cert.JoinIdeal.S2x32x2048x512 .bf16) (bo g : Vec Ideal Cert.JoinIdeal.S32x2048x512 .f32) (gg gb : Vec Ideal Cert.JoinIdeal.S512 .f32) (b : Fin 32) (r : Fin 2048) (n : Fin 512) :
    val_main_v34 (F := Ideal) y bo g gg gb (ix3 b r n)
      = yrow (both y b r) (fun k => gg (ix1 k)) (fun k => gb (ix1 k)) (fun k => bo (ix3 b r k)) (fun k => g (ix3 b r k)) n := by
  have e : val_main_v34 (F := Ideal) y bo g gg gb (ix3 b r n)
      = (val_main_v26 (F := Ideal) y (ix3 b r n) * gg (ix1 n) + gb (ix1 n) + bo (ix3 b r n)) * g (ix3 b r n) := by
    unfold val_main_v34 val_main_v33 val_main_v32 val_main_v31 val_main_v30 val_main_v29 val_main_v28 val_main_v27
    generalize val_main_v26 (F := Ideal) y = u
    pointwise
  have hc : ∀ d : Fin 64, hcol n d = ⟨64 * (n.val / 64) + d.val, by omega⟩ := fun _ => rfl
  have hh : ∀ d d' : Fin 64, hcol (hcol n d) d' = hcol n d' := fun d d' => Fin.ext (by
    show 64 * ((64 * (n.val / 64) + d.val) / 64) + d'.val = 64 * (n.val / 64) + d'.val
    omega)
  have hn : hcol n ⟨n.val % 64, Nat.mod_lt _ (by decide)⟩ = n := Fin.ext (show 64 * (n.val / 64) + n.val % 64 = n.val by omega)
  rw [e, ref_flat, ref_norm y b r _ _ (fun d => both y b r (hcol n d)) (fun d => ref_y y b r _ d)]
  unfold yrow ctr
  simp only [hh, hn]

theorem ref_o (o : Vec Ideal Cert.JoinIdeal.S2x32x2048x512 .bf16) (b : Fin 32) (r : Fin 2048) (h : Fin 4) (d : Fin 128) :
    val_main_v42 (F := Ideal) o (ix4 b r h d) = both o b r ⟨128 * h.val + d.val, by omega⟩ := by
  unfold val_main_v42 val_main_v41 val_main_v40 val_main_v39 val_main_v38 val_main_v37 val_main_v36 val_main_v35 both
  pointwise
  rw [show (⟨h.val * 128 + d.val, by omega⟩ : Fin 512) = ⟨128 * h.val + d.val, by omega⟩ from Fin.ext (congrArg (· + d.val) (Nat.mul_comm _ _))]

theorem ref_rms (o : Vec Ideal Cert.JoinIdeal.S2x32x2048x512 .bf16) (ng : Vec Ideal Cert.JoinIdeal.S128 .f32) (b : Fin 32) (r : Fin 2048) (h : Fin 4) (d : Fin 128) (q : Fin 128 → EReal)
    (hq : ∀ d, val_main_v42 (F := Ideal) o (ix4 b r h d) = q d) :
    val_main_v55 (F := Ideal) o ng (ix4 b r h d)
      = q d * Ideal.rsqrt (Ideal.div (∑ d', q d' * q d') (Ideal.ofBits .f32 0x43000000#32) + Ideal.ofBits .f32 0x358637BD#32) * ng (ix1 d) := by
  rw [← (funext hq : (fun d => val_main_v42 (F := Ideal) o (ix4 b r h d)) = q)]
  unfold val_main_v55 val_main_v54 val_main_v53 val_main_v52 val_main_v51 val_main_v50 val_main_v49 val_main_v48 val_main_v47 val_main_v46 val_main_v45 val_main_v44 val_main_v43 val_main_cst_4 val_main_cst_5 val_main_cst_6
  generalize val_main_v42 (F := Ideal) o = u
  pointwise

theorem ref_oflat (o : Vec Ideal Cert.JoinIdeal.S2x32x2048x512 .bf16) (ng : Vec Ideal Cert.JoinIdeal.S128 .f32) (b : Fin 32) (r : Fin 2048) (n : Fin 512) :
    val_main_v56 (F := Ideal) o ng (ix3 b r n) = val_main_v55 (F := Ideal) o ng (ix4 b r ⟨n.val / 128, by omega⟩ ⟨n.val % 128, Nat.mod_lt _ (by decide)⟩) := by
  unfold val_main_v56
  generalize val_main_v55 (F := Ideal) o ng = u
  pointwise

theorem ref_drow (o : Vec Ideal Cert.JoinIdeal.S2x32x2048x512 .bf16) (z : Vec Ideal Cert.JoinIdeal.S32x2048x2304 .f32) (ng : Vec Ideal Cert.JoinIdeal.S128 .f32) (b : Fin 32) (r : Fin 2048) (n : Fin 512) :
    val_main_v59 (F := Ideal) o z ng (ix3 b r n)
      = drow (both o b r) (fun k => z (ix3 b r ⟨1536 + k.val, by omega⟩)) (fun k => ng (ix1 k)) n := by
  have e : val_main_v59 (F := Ideal) o z ng (ix3 b r n)
      = val_main_v56 (F := Ideal) o ng (ix3 b r n) * (z (ix3 b r ⟨1536 + n.val, by omega⟩)
          * Ideal.div (Ideal.ofBits .f32 0x3F800000#32) (Ideal.ofBits .f32 0x3F800000#32 + Ideal.exp (-z (ix3 b r ⟨1536 + n.val, by omega⟩)))) := by
    unfold val_main_v59 val_main_v58 val_main_call0_v5 val_main_call0_v4 val_main_call0_cst_0 val_main_call0_v3 val_main_call0_v2 val_main_call0_cst val_main_call0_v1 val_main_call0_v0 val_main_v57
    generalize val_main_v56 (F := Ideal) o ng = u
    pointwise
  have hn : dcol n ⟨n.val % 128, Nat.mod_lt _ (by decide)⟩ = n := Fin.ext (show 128 * (n.val / 128) + n.val % 128 = n.val by omega)
  rw [e, ref_oflat, ref_rms o ng b r _ _ (fun d => both o b r (dcol n d)) (fun d => ref_o o b r _ d)]
  unfold drow
  simp only [hn]

/-- The joined outputs contracted with the weights: the two recurrences' sums. -/
theorem ref_proj (y : Vec Ideal Cert.JoinIdeal.S2x32x2048x512 .bf16) (bo g : Vec Ideal Cert.JoinIdeal.S32x2048x512 .f32) (gg gb : Vec Ideal Cert.JoinIdeal.S512 .f32) (o : Vec Ideal Cert.JoinIdeal.S2x32x2048x512 .bf16) (z : Vec Ideal Cert.JoinIdeal.S32x2048x2304 .f32) (ng : Vec Ideal Cert.JoinIdeal.S128 .f32) (w : Vec Ideal Cert.JoinIdeal.S1024x1024 .f32) (b : Fin 32) (r : Fin 2048) (n : Fin 1024) :
    val_main_v61 (F := Ideal) y bo g gg gb o z ng w (ix3 b r n)
      = ∑ k : Fin 512, val_main_v34 (F := Ideal) y bo g gg gb (ix3 b r k) * w (ix2 ⟨k.val, by omega⟩ n)
        + ∑ k : Fin 512, val_main_v59 (F := Ideal) o z ng (ix3 b r k) * w (ix2 ⟨512 + k.val, by omega⟩ n) := by
  have e : val_main_v61 (F := Ideal) y bo g gg gb o z ng w (ix3 b r n) = ∑ k : Fin 1024, val_main_v60 (F := Ideal) y bo g gg gb o z ng (ix3 b r k) * w (ix2 k n) := by
    unfold val_main_v61
    generalize val_main_v60 (F := Ideal) y bo g gg gb o z ng = h
    pointwise
  rw [e]
  refine (Fin.sum_univ_add (a := 512) (b := 512) (fun k : Fin 1024 => val_main_v60 (F := Ideal) y bo g gg gb o z ng (ix3 b r k) * w (ix2 k n))).trans ?_
  congr 1 <;> refine Finset.sum_congr rfl fun k _ => congrArg (· * _) ?_
  · unfold val_main_v60
    generalize val_main_v34 (F := Ideal) y bo g gg gb = u
    generalize val_main_v59 (F := Ideal) o z ng = v
    pointwise
    rw [dif_pos (show (Fin.castAdd 512 k).val < 512 from k.isLt)]
    rfl
  · unfold val_main_v60
    generalize val_main_v34 (F := Ideal) y bo g gg gb = u
    generalize val_main_v59 (F := Ideal) o z ng = v
    pointwise
    rw [dif_neg (show ¬ (Fin.natAdd 512 k).val < 512 from by simp)]
    exact congrArg (fun q => v (ix3 b r q)) (Fin.ext (by simp))

/-- The result array: each row's layer norm. -/
def G15 (y : Vec Ideal Cert.JoinIdeal.S2x32x2048x512 .bf16) (bo : Vec Ideal Cert.JoinIdeal.S32x2048x512 .f32) (g : Vec Ideal Cert.JoinIdeal.S32x2048x512 .f32) (gg : Vec Ideal Cert.JoinIdeal.S512 .f32) (gb : Vec Ideal Cert.JoinIdeal.S512 .f32) (o : Vec Ideal Cert.JoinIdeal.S2x32x2048x512 .bf16) (z : Vec Ideal Cert.JoinIdeal.S32x2048x2304 .f32) (ng : Vec Ideal Cert.JoinIdeal.S128 .f32) (w : Vec Ideal Cert.JoinIdeal.S1024x1024 .f32) (x : Vec Ideal Cert.JoinIdeal.S32x2048x1024 .f32) (gt : Vec Ideal Cert.JoinIdeal.S32x1x1024 .f32) (lg : Vec Ideal Cert.JoinIdeal.S1024 .f32) (lb : Vec Ideal Cert.JoinIdeal.S1024 .f32) : Vec Ideal Cert.JoinIdeal.S32x2048x1024 .f32 :=
  fun i => lnorm (outRow (yrow (both y (i 0) (i 1)) (fun k => gg (ix1 k)) (fun k => gb (ix1 k)) (fun k => bo (ix3 (i 0) (i 1) k)) (fun k => g (ix3 (i 0) (i 1) k)))
      (drow (both o (i 0) (i 1)) (fun k => z (ix3 (i 0) (i 1) ⟨1536 + k.val, by omega⟩)) (fun k => ng (ix1 k)))
      (fun k n => w (ix2 k n)) (fun k => x (ix3 (i 0) (i 1) k)) (fun k => gt (ix3 (i 0) 0 k)))
    (fun k => lg (ix1 k)) (fun k => lb (ix1 k)) (i 2)

theorem ref15 (y : Vec Ideal Cert.JoinIdeal.S2x32x2048x512 .bf16) (bo : Vec Ideal Cert.JoinIdeal.S32x2048x512 .f32) (g : Vec Ideal Cert.JoinIdeal.S32x2048x512 .f32) (gg : Vec Ideal Cert.JoinIdeal.S512 .f32) (gb : Vec Ideal Cert.JoinIdeal.S512 .f32) (o : Vec Ideal Cert.JoinIdeal.S2x32x2048x512 .bf16) (z : Vec Ideal Cert.JoinIdeal.S32x2048x2304 .f32) (ng : Vec Ideal Cert.JoinIdeal.S128 .f32) (w : Vec Ideal Cert.JoinIdeal.S1024x1024 .f32) (x : Vec Ideal Cert.JoinIdeal.S32x2048x1024 .f32) (gt : Vec Ideal Cert.JoinIdeal.S32x1x1024 .f32) (lg : Vec Ideal Cert.JoinIdeal.S1024 .f32) (lb : Vec Ideal Cert.JoinIdeal.S1024 .f32) :
    val_main_v90 (F := Ideal) y bo g gg gb o z ng w x gt lg lb = G15 y bo g gg gb o z ng w x gt lg lb := by
  funext i
  obtain ⟨b, r, n, rfl⟩ := idx_three i
  have e : val_main_v90 (F := Ideal) y bo g gg gb o z ng w x gt lg lb (ix3 b r n)
      = lnorm (fun k => val_main_v66 (F := Ideal) y bo g gg gb o z ng w x gt (ix3 b r k)) (fun k => lg (ix1 k)) (fun k => lb (ix1 k)) n := by
    unfold val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_cst_8 val_main_cst_9 val_main_cst_10 val_main_cst_11 val_main_cst_12 lnorm
    generalize val_main_v66 (F := Ideal) y bo g gg gb o z ng w x gt = h
    pointwise
  refine e.trans (lnorm_congr (fun k => ?_) (fun _ => rfl) (fun _ => rfl) n)
  have e' : val_main_v66 (F := Ideal) y bo g gg gb o z ng w x gt (ix3 b r k)
      = Ideal.ofBits .f32 0x3FB504F3#32 * x (ix3 b r k) + gt (ix3 b 0 k) * val_main_v61 (F := Ideal) y bo g gg gb o z ng w (ix3 b r k) := by
    unfold val_main_v66 val_main_v65 val_main_v64 val_main_v63 val_main_v62 val_main_cst_7
    generalize val_main_v61 (F := Ideal) y bo g gg gb o z ng w = h
    pointwise
  rw [e', ref_proj, Finset.sum_congr rfl fun q _ => congrArg (· * _) (ref_yrow y bo g gg gb b r q),
    Finset.sum_congr rfl fun q _ => congrArg (· * _) (ref_drow o z ng b r q)]
  rfl

end Cert.Proof.Join
end
-- ==== Proof.JoinBlocks.lean ====
/-
  The blocks of the layer-1 output projection's grid points: what the host leaves for the launch (the indicator of equal heads, the two
  halves of the rounded weights, the vectors as rows), and each window's block at an index.
-/
module

public import proofs.«01_k».proof.Proof.JoinBody

@[expose] public section

set_option maxRecDepth 16384

noncomputable section

open Idealize.ShloMosaic Idealize.ShloMosaic.TcCoe

namespace Cert.Proof.Join

open Cert.JoinIdeal Cert.JoinIdeal.Gen

variable (m : (ℓ : Loc nD τ sig) → Buf (Elt Ideal) ℓ)

theorem N_eq : cfg0.N = 256 := N_0

/-- The batch entry and the array row of row `r` of grid point `t`'s block. -/
def bat (t : Fin cfg0.N) : Fin 32 := ⟨t.val / 8, by have := t.isLt; have := N_eq; omega⟩
def row (t : Fin cfg0.N) (r : Fin 256) : Fin 2048 := ⟨t.val % 8 * 256 + r.val, by have := r.isLt; omega⟩

/-! ## The indicator of equal heads -/

/-- The head of a column: the host's floor division of the column's number by 64. -/
def grp : IVec S512 32 :=
  let x : IVec S512 32 := iotaInDim S512 32 0
  let c : IVec S_ 32 := constantI S_ 32 64#32
  select (andi (cmpi .ne (signi x) (broadcastInDim S512 ![] bcast_S_S512 (signi c)))
      (cmpi .ne (Host.remsi x (broadcastInDim S512 ![] bcast_S_S512 c)) (broadcastInDim S512 ![] bcast_S_S512 (constantI S_ 32 0#32))))
    (subi (Host.divsi x (broadcastInDim S512 ![] bcast_S_S512 c)) (broadcastInDim S512 ![] bcast_S_S512 (constantI S_ 32 1#32)))
    (Host.divsi x (broadcastInDim S512 ![] bcast_S_S512 c))

theorem V_main_v10 (c : Dev nD) : V m c main_v10
    = uitofp (F := Ideal) .bf16 (cmpi .eq (broadcastInDim S512x512 ![0, 1] bcast_S512x1_S512x512_0_1 (broadcastInDim S512x1 ![0] bcast_S512_S512x1_0 grp))
        (broadcastInDim S512x512 ![0, 1] bcast_S1x512_S512x512_0_1 (broadcastInDim S1x512 ![1] bcast_S512_S1x512_1 grp))) := by
  unfold V
  simp only [hostOps0, hostOps0_1, hostOps0_2, List.flatten_cons, List.flatten_nil, List.append_nil, List.cons_append, List.nil_append]
  after_results_simp
  rfl

theorem grp_apply (k : Fin 512) : grp (ix1 k) = BitVec.ofNat 32 (k.val / 64) := by
  unfold grp
  pointwise
  revert k
  decide +kernel

theorem ind_apply (c : Dev nD) (k n : Fin 512) : V m c main_v10 (ix2 k n) = ind k n := by
  rw [V_main_v10]
  have hk := grp_apply k
  have hn := grp_apply n
  revert hk hn
  generalize grp = w
  intro hk hn
  unfold ind
  pointwise
  rw [hk, hn]
  by_cases h : k.val / 64 = n.val / 64
  · rw [h, if_pos rfl]
    have e : IntOp.cmpi .eq (BitVec.ofNat 32 (n.val / 64)) (BitVec.ofNat 32 (n.val / 64)) = 1#1 := by simp [IntOp.cmpi]
    rw [e]
    show (((1#1 : BitVec 1).toNat : ℝ) : EReal) = 1
    simp
  · rw [if_neg h]
    have hne : BitVec.ofNat 32 (k.val / 64) ≠ BitVec.ofNat 32 (n.val / 64) := fun q => h (by
      have q' := congrArg BitVec.toNat q
      simp only [BitVec.toNat_ofNat] at q'
      omega)
    have e : IntOp.cmpi .eq (BitVec.ofNat 32 (k.val / 64)) (BitVec.ofNat 32 (n.val / 64)) = 0#1 := by
      simp only [IntOp.cmpi]
      rw [beq_eq_false_iff_ne.2 hne]
      rfl
    rw [e]
    show (((0#1 : BitVec 1).toNat : ℝ) : EReal) = 0
    simp

/-! ## Each window's block index at a grid point -/

theorem idx0 : ∀ t : Fin cfg0.N, win0_0.index t ((0 : Fin 4)) = 0 ∧ win0_0.index t ((1 : Fin 4)) = t.val / 8 ∧ win0_0.index t ((2 : Fin 4)) = t.val % 8 ∧ win0_0.index t ((3 : Fin 4)) = 0 :=
  (by decide +kernel : ∀ t : Fin grid0.N, win0_0.index t ((0 : Fin 4)) = 0 ∧ win0_0.index t ((1 : Fin 4)) = t.val / 8 ∧ win0_0.index t ((2 : Fin 4)) = t.val % 8 ∧ win0_0.index t ((3 : Fin 4)) = 0)
theorem idx1 : ∀ t : Fin cfg0.N, win0_1.index t ((0 : Fin 3)) = t.val / 8 ∧ win0_1.index t ((1 : Fin 3)) = t.val % 8 ∧ win0_1.index t ((2 : Fin 3)) = 0 :=
  (by decide +kernel : ∀ t : Fin grid0.N, win0_1.index t ((0 : Fin 3)) = t.val / 8 ∧ win0_1.index t ((1 : Fin 3)) = t.val % 8 ∧ win0_1.index t ((2 : Fin 3)) = 0)
theorem idx2 : ∀ t : Fin cfg0.N, win0_2.index t ((0 : Fin 3)) = t.val / 8 ∧ win0_2.index t ((1 : Fin 3)) = t.val % 8 ∧ win0_2.index t ((2 : Fin 3)) = 0 :=
  (by decide +kernel : ∀ t : Fin grid0.N, win0_2.index t ((0 : Fin 3)) = t.val / 8 ∧ win0_2.index t ((1 : Fin 3)) = t.val % 8 ∧ win0_2.index t ((2 : Fin 3)) = 0)
theorem idx3 : ∀ t : Fin cfg0.N, win0_3.index t ((0 : Fin 2)) = 0 ∧ win0_3.index t ((1 : Fin 2)) = 0 :=
  (by decide +kernel : ∀ t : Fin grid0.N, win0_3.index t ((0 : Fin 2)) = 0 ∧ win0_3.index t ((1 : Fin 2)) = 0)
theorem idx4 : ∀ t : Fin cfg0.N, win0_4.index t ((0 : Fin 2)) = 0 ∧ win0_4.index t ((1 : Fin 2)) = 0 :=
  (by decide +kernel : ∀ t : Fin grid0.N, win0_4.index t ((0 : Fin 2)) = 0 ∧ win0_4.index t ((1 : Fin 2)) = 0)
theorem idx5 : ∀ t : Fin cfg0.N, win0_5.index t ((0 : Fin 2)) = 0 ∧ win0_5.index t ((1 : Fin 2)) = 0 :=
  (by decide +kernel : ∀ t : Fin grid0.N, win0_5.index t ((0 : Fin 2)) = 0 ∧ win0_5.index t ((1 : Fin 2)) = 0)
theorem idx6 : ∀ t : Fin cfg0.N, win0_6.index t ((0 : Fin 4)) = 0 ∧ win0_6.index t ((1 : Fin 4)) = t.val / 8 ∧ win0_6.index t ((2 : Fin 4)) = t.val % 8 ∧ win0_6.index t ((3 : Fin 4)) = 0 :=
  (by decide +kernel : ∀ t : Fin grid0.N, win0_6.index t ((0 : Fin 4)) = 0 ∧ win0_6.index t ((1 : Fin 4)) = t.val / 8 ∧ win0_6.index t ((2 : Fin 4)) = t.val % 8 ∧ win0_6.index t ((3 : Fin 4)) = 0)
theorem idx7 : ∀ t : Fin cfg0.N, win0_7.index t ((0 : Fin 3)) = t.val / 8 ∧ win0_7.index t ((1 : Fin 3)) = t.val % 8 ∧ win0_7.index t ((2 : Fin 3)) = 3 :=
  (by decide +kernel : ∀ t : Fin grid0.N, win0_7.index t ((0 : Fin 3)) = t.val / 8 ∧ win0_7.index t ((1 : Fin 3)) = t.val % 8 ∧ win0_7.index t ((2 : Fin 3)) = 3)
theorem idx8 : ∀ t : Fin cfg0.N, win0_8.index t ((0 : Fin 2)) = 0 ∧ win0_8.index t ((1 : Fin 2)) = 0 :=
  (by decide +kernel : ∀ t : Fin grid0.N, win0_8.index t ((0 : Fin 2)) = 0 ∧ win0_8.index t ((1 : Fin 2)) = 0)
theorem idx9 : ∀ t : Fin cfg0.N, win0_9.index t ((0 : Fin 2)) = 0 ∧ win0_9.index t ((1 : Fin 2)) = 0 :=
  (by decide +kernel : ∀ t : Fin grid0.N, win0_9.index t ((0 : Fin 2)) = 0 ∧ win0_9.index t ((1 : Fin 2)) = 0)
theorem idx10 : ∀ t : Fin cfg0.N, win0_10.index t ((0 : Fin 2)) = 0 ∧ win0_10.index t ((1 : Fin 2)) = 0 :=
  (by decide +kernel : ∀ t : Fin grid0.N, win0_10.index t ((0 : Fin 2)) = 0 ∧ win0_10.index t ((1 : Fin 2)) = 0)
theorem idx11 : ∀ t : Fin cfg0.N, win0_11.index t ((0 : Fin 3)) = t.val / 8 ∧ win0_11.index t ((1 : Fin 3)) = t.val % 8 ∧ win0_11.index t ((2 : Fin 3)) = 0 :=
  (by decide +kernel : ∀ t : Fin grid0.N, win0_11.index t ((0 : Fin 3)) = t.val / 8 ∧ win0_11.index t ((1 : Fin 3)) = t.val % 8 ∧ win0_11.index t ((2 : Fin 3)) = 0)
theorem idx12 : ∀ t : Fin cfg0.N, win0_12.index t ((0 : Fin 3)) = t.val / 8 ∧ win0_12.index t ((1 : Fin 3)) = 0 ∧ win0_12.index t ((2 : Fin 3)) = 0 :=
  (by decide +kernel : ∀ t : Fin grid0.N, win0_12.index t ((0 : Fin 3)) = t.val / 8 ∧ win0_12.index t ((1 : Fin 3)) = 0 ∧ win0_12.index t ((2 : Fin 3)) = 0)
theorem idx13 : ∀ t : Fin cfg0.N, win0_13.index t ((0 : Fin 2)) = 0 ∧ win0_13.index t ((1 : Fin 2)) = 0 :=
  (by decide +kernel : ∀ t : Fin grid0.N, win0_13.index t ((0 : Fin 2)) = 0 ∧ win0_13.index t ((1 : Fin 2)) = 0)
theorem idx14 : ∀ t : Fin cfg0.N, win0_14.index t ((0 : Fin 2)) = 0 ∧ win0_14.index t ((1 : Fin 2)) = 0 :=
  (by decide +kernel : ∀ t : Fin grid0.N, win0_14.index t ((0 : Fin 2)) = 0 ∧ win0_14.index t ((1 : Fin 2)) = 0)
theorem idx15 : ∀ t : Fin cfg0.N, win0_15.index t ((0 : Fin 3)) = t.val / 8 ∧ win0_15.index t ((1 : Fin 3)) = t.val % 8 ∧ win0_15.index t ((2 : Fin 3)) = 0 :=
  (by decide +kernel : ∀ t : Fin grid0.N, win0_15.index t ((0 : Fin 3)) = t.val / 8 ∧ win0_15.index t ((1 : Fin 3)) = t.val % 8 ∧ win0_15.index t ((2 : Fin 3)) = 0)

/-! ## The input blocks at an index, in the arrays as the launch finds them -/

theorem iblk0 (c : Dev nD) (t : Fin cfg0.N) (p : Fin 2) (r : Fin 256) (k : Fin 512) :
    iblk m c 0 t (ix4 p 0 r k) = m ((c : Thread nD τ).loc main_arg0) (ix4 p (bat t) (row t r) k) := by
  rw [← V_main_arg0 m c]
  show V m c main_arg0 (((cfg0.win 0).blk t).view.emb (ix4 p 0 r k)) = _
  obtain ⟨e0, e1, e2, e3⟩ := idx0 t
  congr 1; funext a; apply Fin.ext
  match a with
  | ⟨0, _⟩ => show win0_0.index t (0 : Fin 4) * 2 + 1 * p.val = p.val; omega
  | ⟨1, _⟩ => show win0_0.index t (1 : Fin 4) * 1 + 1 * 0 = t.val / 8; omega
  | ⟨2, _⟩ => show win0_0.index t (2 : Fin 4) * 256 + 1 * r.val = t.val % 8 * 256 + r.val; omega
  | ⟨3, _⟩ => show win0_0.index t (3 : Fin 4) * 512 + 1 * k.val = k.val; omega

theorem iblk1 (c : Dev nD) (t : Fin cfg0.N) (r : Fin 256) (k : Fin 512) :
    iblk m c 1 t (ix3 0 r k) = m ((c : Thread nD τ).loc main_arg1) (ix3 (bat t) (row t r) k) := by
  rw [← V_main_arg1 m c]
  show V m c main_arg1 (((cfg0.win 1).blk t).view.emb (ix3 0 r k)) = _
  obtain ⟨e0, e1, e2⟩ := idx1 t
  congr 1; funext a; apply Fin.ext
  match a with
  | ⟨0, _⟩ => show win0_1.index t (0 : Fin 3) * 1 + 1 * 0 = t.val / 8; omega
  | ⟨1, _⟩ => show win0_1.index t (1 : Fin 3) * 256 + 1 * r.val = t.val % 8 * 256 + r.val; omega
  | ⟨2, _⟩ => show win0_1.index t (2 : Fin 3) * 512 + 1 * k.val = k.val; omega

theorem iblk2 (c : Dev nD) (t : Fin cfg0.N) (r : Fin 256) (k : Fin 512) :
    iblk m c 2 t (ix3 0 r k) = m ((c : Thread nD τ).loc main_arg2) (ix3 (bat t) (row t r) k) := by
  rw [← V_main_arg2 m c]
  show V m c main_arg2 (((cfg0.win 2).blk t).view.emb (ix3 0 r k)) = _
  obtain ⟨e0, e1, e2⟩ := idx2 t
  congr 1; funext a; apply Fin.ext
  match a with
  | ⟨0, _⟩ => show win0_2.index t (0 : Fin 3) * 1 + 1 * 0 = t.val / 8; omega
  | ⟨1, _⟩ => show win0_2.index t (1 : Fin 3) * 256 + 1 * r.val = t.val % 8 * 256 + r.val; omega
  | ⟨2, _⟩ => show win0_2.index t (2 : Fin 3) * 512 + 1 * k.val = k.val; omega

theorem iblk6 (c : Dev nD) (t : Fin cfg0.N) (p : Fin 2) (r : Fin 256) (k : Fin 512) :
    iblk m c 6 t (ix4 p 0 r k) = m ((c : Thread nD τ).loc main_arg5) (ix4 p (bat t) (row t r) k) := by
  rw [← V_main_arg5 m c]
  show V m c main_arg5 (((cfg0.win 6).blk t).view.emb (ix4 p 0 r k)) = _
  obtain ⟨e0, e1, e2, e3⟩ := idx6 t
  congr 1; funext a; apply Fin.ext
  match a with
  | ⟨0, _⟩ => show win0_6.index t (0 : Fin 4) * 2 + 1 * p.val = p.val; omega
  | ⟨1, _⟩ => show win0_6.index t (1 : Fin 4) * 1 + 1 * 0 = t.val / 8; omega
  | ⟨2, _⟩ => show win0_6.index t (2 : Fin 4) * 256 + 1 * r.val = t.val % 8 * 256 + r.val; omega
  | ⟨3, _⟩ => show win0_6.index t (3 : Fin 4) * 512 + 1 * k.val = k.val; omega

theorem iblk11 (c : Dev nD) (t : Fin cfg0.N) (r : Fin 256) (k : Fin 1024) :
    iblk m c 11 t (ix3 0 r k) = m ((c : Thread nD τ).loc main_arg9) (ix3 (bat t) (row t r) k) := by
  rw [← V_main_arg9 m c]
  show V m c main_arg9 (((cfg0.win 11).blk t).view.emb (ix3 0 r k)) = _
  obtain ⟨e0, e1, e2⟩ := idx11 t
  congr 1; funext a; apply Fin.ext
  match a with
  | ⟨0, _⟩ => show win0_11.index t (0 : Fin 3) * 1 + 1 * 0 = t.val / 8; omega
  | ⟨1, _⟩ => show win0_11.index t (1 : Fin 3) * 256 + 1 * r.val = t.val % 8 * 256 + r.val; omega
  | ⟨2, _⟩ => show win0_11.index t (2 : Fin 3) * 1024 + 1 * k.val = k.val; omega

theorem iblk7 (c : Dev nD) (t : Fin cfg0.N) (r : Fin 256) (k : Fin 512) :
    X0_7 m c t (ix3 0 r k) = m ((c : Thread nD τ).loc main_arg6) (ix3 (bat t) (row t r) ⟨1536 + k.val, by omega⟩) := by
  rw [← V_main_arg6 m c]
  unfold X0_7 Pipeline.Window.fill
  rw [dif_pos (moved0_7 t _)]
  show V m c main_arg6 (((cfg0.win 7).blk t).view.emb _) = _
  obtain ⟨e0, e1, e2⟩ := idx7 t
  congr 1; funext a; apply Fin.ext
  match a with
  | ⟨0, _⟩ => show win0_7.index t (0 : Fin 3) * 1 + 1 * 0 = t.val / 8; omega
  | ⟨1, _⟩ => show win0_7.index t (1 : Fin 3) * 256 + 1 * r.val = t.val % 8 * 256 + r.val; omega
  | ⟨2, _⟩ => show win0_7.index t (2 : Fin 3) * 512 + 1 * k.val = 1536 + k.val; omega

theorem iblk12 (c : Dev nD) (t : Fin cfg0.N) (k : Fin 1024) :
    iblk m c 12 t (ix3 0 0 k) = m ((c : Thread nD τ).loc main_arg10) (ix3 (bat t) 0 k) := by
  rw [← V_main_arg10 m c]
  show V m c main_arg10 (((cfg0.win 12).blk t).view.emb (ix3 0 0 k)) = _
  obtain ⟨e0, e1, e2⟩ := idx12 t
  congr 1; funext a; apply Fin.ext
  match a with
  | ⟨0, _⟩ => show win0_12.index t (0 : Fin 3) * 1 + 1 * 0 = t.val / 8; omega
  | ⟨1, _⟩ => show win0_12.index t (1 : Fin 3) * 1 + 1 * 0 = 0; omega
  | ⟨2, _⟩ => show win0_12.index t (2 : Fin 3) * 1024 + 1 * k.val = k.val; omega

theorem V_main_v11 (c : Dev nD) : V m c main_v11 = shapeCast (α := EReal) S1x512 (m ((c : Thread nD τ).loc main_arg3)) shapeCasts_S512_S1x512 := by
  unfold V
  simp only [hostOps0, hostOps0_1, hostOps0_2, List.flatten_cons, List.flatten_nil, List.append_nil, List.cons_append, List.nil_append]
  after_results_simp
  rfl
theorem iblk3 (c : Dev nD) (t : Fin cfg0.N) (n : Fin 512) :
    iblk m c 3 t (ix2 0 n) = m ((c : Thread nD τ).loc main_arg3) (ix1 n) := by
  have h : iblk m c 3 t (ix2 0 n) = V m c main_v11 (ix2 0 n) := by
    show V m c main_v11 (((cfg0.win 3).blk t).view.emb (ix2 0 n)) = _
    obtain ⟨e0, e1⟩ := idx3 t
    congr 1; funext a; apply Fin.ext
    match a with
    | ⟨0, _⟩ => show win0_3.index t (0 : Fin 2) * 1 + 1 * 0 = 0; omega
    | ⟨1, _⟩ => show win0_3.index t (1 : Fin 2) * 512 + 1 * n.val = n.val; omega
  rw [h, V_main_v11]
  pointwise

theorem V_main_v12 (c : Dev nD) : V m c main_v12 = shapeCast (α := EReal) S1x512 (m ((c : Thread nD τ).loc main_arg4)) shapeCasts_S512_S1x512 := by
  unfold V
  simp only [hostOps0, hostOps0_1, hostOps0_2, List.flatten_cons, List.flatten_nil, List.append_nil, List.cons_append, List.nil_append]
  after_results_simp
  rfl
theorem iblk4 (c : Dev nD) (t : Fin cfg0.N) (n : Fin 512) :
    iblk m c 4 t (ix2 0 n) = m ((c : Thread nD τ).loc main_arg4) (ix1 n) := by
  have h : iblk m c 4 t (ix2 0 n) = V m c main_v12 (ix2 0 n) := by
    show V m c main_v12 (((cfg0.win 4).blk t).view.emb (ix2 0 n)) = _
    obtain ⟨e0, e1⟩ := idx4 t
    congr 1; funext a; apply Fin.ext
    match a with
    | ⟨0, _⟩ => show win0_4.index t (0 : Fin 2) * 1 + 1 * 0 = 0; omega
    | ⟨1, _⟩ => show win0_4.index t (1 : Fin 2) * 512 + 1 * n.val = n.val; omega
  rw [h, V_main_v12]
  pointwise

theorem V_main_v13 (c : Dev nD) : V m c main_v13 = shapeCast (α := EReal) S1x128 (m ((c : Thread nD τ).loc main_arg7)) shapeCasts_S128_S1x128 := by
  unfold V
  simp only [hostOps0, hostOps0_1, hostOps0_2, List.flatten_cons, List.flatten_nil, List.append_nil, List.cons_append, List.nil_append]
  after_results_simp
  rfl
theorem iblk8 (c : Dev nD) (t : Fin cfg0.N) (n : Fin 128) :
    iblk m c 8 t (ix2 0 n) = m ((c : Thread nD τ).loc main_arg7) (ix1 n) := by
  have h : iblk m c 8 t (ix2 0 n) = V m c main_v13 (ix2 0 n) := by
    show V m c main_v13 (((cfg0.win 8).blk t).view.emb (ix2 0 n)) = _
    obtain ⟨e0, e1⟩ := idx8 t
    congr 1; funext a; apply Fin.ext
    match a with
    | ⟨0, _⟩ => show win0_8.index t (0 : Fin 2) * 1 + 1 * 0 = 0; omega
    | ⟨1, _⟩ => show win0_8.index t (1 : Fin 2) * 128 + 1 * n.val = n.val; omega
  rw [h, V_main_v13]
  pointwise

theorem V_main_v14 (c : Dev nD) : V m c main_v14 = shapeCast (α := EReal) S1x1024 (m ((c : Thread nD τ).loc main_arg11)) shapeCasts_S1024_S1x1024 := by
  unfold V
  simp only [hostOps0, hostOps0_1, hostOps0_2, List.flatten_cons, List.flatten_nil, List.append_nil, List.cons_append, List.nil_append]
  after_results_simp
  rfl
theorem iblk13 (c : Dev nD) (t : Fin cfg0.N) (n : Fin 1024) :
    iblk m c 13 t (ix2 0 n) = m ((c : Thread nD τ).loc main_arg11) (ix1 n) := by
  have h : iblk m c 13 t (ix2 0 n) = V m c main_v14 (ix2 0 n) := by
    show V m c main_v14 (((cfg0.win 13).blk t).view.emb (ix2 0 n)) = _
    obtain ⟨e0, e1⟩ := idx13 t
    congr 1; funext a; apply Fin.ext
    match a with
    | ⟨0, _⟩ => show win0_13.index t (0 : Fin 2) * 1 + 1 * 0 = 0; omega
    | ⟨1, _⟩ => show win0_13.index t (1 : Fin 2) * 1024 + 1 * n.val = n.val; omega
  rw [h, V_main_v14]
  pointwise

theorem V_main_v15 (c : Dev nD) : V m c main_v15 = shapeCast (α := EReal) S1x1024 (m ((c : Thread nD τ).loc main_arg12)) shapeCasts_S1024_S1x1024 := by
  unfold V
  simp only [hostOps0, hostOps0_1, hostOps0_2, List.flatten_cons, List.flatten_nil, List.append_nil, List.cons_append, List.nil_append]
  after_results_simp
  rfl
theorem iblk14 (c : Dev nD) (t : Fin cfg0.N) (n : Fin 1024) :
    iblk m c 14 t (ix2 0 n) = m ((c : Thread nD τ).loc main_arg12) (ix1 n) := by
  have h : iblk m c 14 t (ix2 0 n) = V m c main_v15 (ix2 0 n) := by
    show V m c main_v15 (((cfg0.win 14).blk t).view.emb (ix2 0 n)) = _
    obtain ⟨e0, e1⟩ := idx14 t
    congr 1; funext a; apply Fin.ext
    match a with
    | ⟨0, _⟩ => show win0_14.index t (0 : Fin 2) * 1 + 1 * 0 = 0; omega
    | ⟨1, _⟩ => show win0_14.index t (1 : Fin 2) * 1024 + 1 * n.val = n.val; omega
  rw [h, V_main_v15]
  pointwise

theorem V_main_v1 (c : Dev nD) : V m c main_v1 = extractStridedSlice (α := EReal) S512x1024 ![0, 0] (truncf (F := Ideal) .bf16 (m ((c : Thread nD τ).loc main_arg8)) bitsLt_bf16_f32) slices_S1024x1024_S512x1024_0_0 := by
  unfold V
  simp only [hostOps0, hostOps0_1, hostOps0_2, List.flatten_cons, List.flatten_nil, List.append_nil, List.cons_append, List.nil_append]
  after_results_simp
theorem iblk9 (c : Dev nD) (t : Fin cfg0.N) (k : Fin 512) (n : Fin 1024) :
    iblk m c 9 t (ix2 k n) = m ((c : Thread nD τ).loc main_arg8) (ix2 ⟨k.val, by omega⟩ n) := by
  have h : iblk m c 9 t (ix2 k n) = V m c main_v1 (ix2 k n) := by
    show V m c main_v1 (((cfg0.win 9).blk t).view.emb (ix2 k n)) = _
    obtain ⟨e0, e1⟩ := idx9 t
    congr 1; funext a; apply Fin.ext
    match a with
    | ⟨0, _⟩ => show win0_9.index t (0 : Fin 2) * 512 + 1 * k.val = k.val; omega
    | ⟨1, _⟩ => show win0_9.index t (1 : Fin 2) * 1024 + 1 * n.val = n.val; omega
  rw [h, V_main_v1]
  pointwise

theorem V_main_v2 (c : Dev nD) : V m c main_v2 = extractStridedSlice (α := EReal) S512x1024 ![512, 0] (truncf (F := Ideal) .bf16 (m ((c : Thread nD τ).loc main_arg8)) bitsLt_bf16_f32) slices_S1024x1024_S512x1024_512_0 := by
  unfold V
  simp only [hostOps0, hostOps0_1, hostOps0_2, List.flatten_cons, List.flatten_nil, List.append_nil, List.cons_append, List.nil_append]
  after_results_simp
theorem iblk10 (c : Dev nD) (t : Fin cfg0.N) (k : Fin 512) (n : Fin 1024) :
    iblk m c 10 t (ix2 k n) = m ((c : Thread nD τ).loc main_arg8) (ix2 ⟨512 + k.val, by omega⟩ n) := by
  have h : iblk m c 10 t (ix2 k n) = V m c main_v2 (ix2 k n) := by
    show V m c main_v2 (((cfg0.win 10).blk t).view.emb (ix2 k n)) = _
    obtain ⟨e0, e1⟩ := idx10 t
    congr 1; funext a; apply Fin.ext
    match a with
    | ⟨0, _⟩ => show win0_10.index t (0 : Fin 2) * 512 + 1 * k.val = k.val; omega
    | ⟨1, _⟩ => show win0_10.index t (1 : Fin 2) * 1024 + 1 * n.val = n.val; omega
  rw [h, V_main_v2]
  pointwise

theorem iblk5 (c : Dev nD) (t : Fin cfg0.N) (k n : Fin 512) : iblk m c 5 t (ix2 k n) = ind k n := by
  have h : iblk m c 5 t (ix2 k n) = V m c main_v10 (ix2 k n) := by
    show V m c main_v10 (((cfg0.win 5).blk t).view.emb (ix2 k n)) = _
    obtain ⟨e0, e1⟩ := idx5 t
    congr 1; funext a; apply Fin.ext
    match a with
    | ⟨0, _⟩ => show win0_5.index t (0 : Fin 2) * 512 + 1 * k.val = k.val; omega
    | ⟨1, _⟩ => show win0_5.index t (1 : Fin 2) * 512 + 1 * n.val = n.val; omega
  rw [h, ind_apply]

theorem emb15 (t : Fin cfg0.N) (r : Fin 256) (n : Fin 1024) : ((cfg0.win 15).blk t).view.emb (ix3 (0 : Fin 1) r n) = ix3 (bat t) (row t r) n := by
  obtain ⟨e0, e1, e2⟩ := idx15 t
  funext a; apply Fin.ext
  match a with
  | ⟨0, _⟩ => show win0_15.index t (0 : Fin 3) * 1 + 1 * 0 = t.val / 8; omega
  | ⟨1, _⟩ => show win0_15.index t (1 : Fin 3) * 256 + 1 * r.val = t.val % 8 * 256 + r.val; omega
  | ⟨2, _⟩ => show win0_15.index t (2 : Fin 3) * 1024 + 1 * n.val = n.val; omega

/-- The point whose block holds batch entry `b` and row `r`. -/
def pt (b : Fin 32) (r : Fin 2048) : Fin cfg0.N := ⟨b.val * 8 + r.val / 256, by have := b.isLt; have := r.isLt; have := N_eq; omega⟩
theorem bat_pt (b : Fin 32) (r : Fin 2048) : bat (pt b r) = b := Fin.ext (by simp only [bat, pt]; have := r.isLt; omega)
theorem row_pt (b : Fin 32) (r : Fin 2048) : row (pt b r) ⟨r.val % 256, Nat.mod_lt _ (by decide)⟩ = r :=
  Fin.ext (by simp only [row, pt]; have := r.isLt; omega)

theorem cover15 (i : S32x2048x1024.Idx) : ∃ t : Fin cfg0.N, (cfg0.win 15).flush t = true ∧ i ∈ ((cfg0.win 15).blk t).view.set := by
  obtain ⟨b, r, n, rfl⟩ := idx_three i
  refine ⟨pt b r, flush0_15 _, ?_⟩
  have h := ((cfg0.win 15).blk (pt b r)).view.emb_mem_set (ix3 0 (⟨r.val % 256, Nat.mod_lt _ (by decide)⟩ : Fin 256) n)
  rw [emb15, bat_pt, row_pt] at h
  exact h

end Cert.Proof.Join
end
-- ==== Proof.Join.lean ====
/-
  The layer-1 output projection with its layer norm: the two recurrences' outputs, normed over groups of 64 and of 128 columns, gated,
  joined, projected, added to the stream and normed again. The kernel computes 256 rows at a grid point and takes the group means by a
  contraction with an indicator matrix; that agrees with the reference where the first recurrence's outputs are finite.
-/
module

public import proofs.«01_k».proof.Defs
public import proofs.«01_k».proof.Proof.JoinRun
public import proofs.«01_k».proof.Proof.JoinRef
public import proofs.«01_k».proof.Proof.JoinBlocks
public import proofs.«01_k».proof.Proof.Gen.Pre_finite_rows
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Proof.Join

open Cert.JoinIdeal Cert.JoinIdeal.Gen
open Cert.Proof.Out (halfRow_eq)

variable (m : (ℓ : Loc nD τ sig) → Buf (Elt Ideal) ℓ)

/-! ## Finite outputs of the first recurrence -/

theorem inf_lit : Ideal.ofBits .bf16 0x7F80#16 = ⊤ := by
  simp [Ideal.ofBits, Ideal.ieee, -EReal.coe_mul]

theorem real_of_lt {x : EReal} (h : Ideal.cmp .olt (max x (-x)) (Ideal.ofBits .bf16 0x7F80#16) = 1#1) : IsReal x := by
  rw [inf_lit] at h
  induction x with
  | bot => simp [Ideal.cmp] at h
  | top => simp [Ideal.cmp] at h
  | coe a => exact ⟨a, rfl⟩

instance : Subsingleton Cert.Pre_finite_rows.S_.Idx := ⟨fun a b => funext fun i => i.elim0⟩

theorem finite_rows (y : Vec Ideal Cert.JoinIdeal.S2x32x2048x512 .bf16) (bo : Vec Ideal Cert.JoinIdeal.S32x2048x512 .f32) (g : Vec Ideal Cert.JoinIdeal.S32x2048x512 .f32) (gg : Vec Ideal Cert.JoinIdeal.S512 .f32) (gb : Vec Ideal Cert.JoinIdeal.S512 .f32) (o : Vec Ideal Cert.JoinIdeal.S2x32x2048x512 .bf16) (z : Vec Ideal Cert.JoinIdeal.S32x2048x2304 .f32) (ng : Vec Ideal Cert.JoinIdeal.S128 .f32) (w : Vec Ideal Cert.JoinIdeal.S1024x1024 .f32) (x : Vec Ideal Cert.JoinIdeal.S32x2048x1024 .f32) (gt : Vec Ideal Cert.JoinIdeal.S32x1x1024 .f32) (lg : Vec Ideal Cert.JoinIdeal.S1024 .f32) (lb : Vec Ideal Cert.JoinIdeal.S1024 .f32)
    (h : @Cert.Pre_finite_rows.fn Cert.Pre_finite_rows.Gen.facts Ideal _ y bo g gg gb o z ng w x gt lg lb = fun _ => 1#1) (i : S2x32x2048x512.Idx) : IsReal (y i) := by
  have h := congrFun h ix0
  unfold Cert.Pre_finite_rows.fn at h
  dsimp only at h
  exact real_of_lt (Host.reduce_andi_all _ _ _ _ _ h i)

/-- The sum of two real rows is real. -/
theorem both_real (y : Vec Ideal S2x32x2048x512 .bf16) (hy : ∀ i, IsReal (y i)) (b : Fin 32) (r : Fin 2048) (k : Fin 512) : IsReal (both y b r k) := by
  obtain ⟨p, ep⟩ := hy (ix4 0 b r k)
  obtain ⟨q, eq⟩ := hy (ix4 1 b r k)
  exact ⟨p + q, by unfold both; rw [ep, eq, EReal.coe_add]⟩

/-! ## The run -/

theorem flushed15_eq (c : Dev nD) (hy : ∀ i, IsReal (m ((c : Thread nD τ).loc main_arg0) i)) (t : Fin cfg0.N) :
    (dats m 0 c).flushed 15 t = ((cfg0.win 15).blk t).view.read (Elt Ideal) (G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  rw [Cert.JoinIdeal.Value.flushed15_A, out_eq]
  refine funext fun j => ?_
  obtain ⟨r, n, rfl⟩ := idx_unit j
  show _ = G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (((cfg0.win 15).blk t).view.emb (ix3 (0 : Fin 1) r n))
  rw [emb15]
  refine (body_apply _ _ _ _ _ _ _ _ _ _ _ _ _ _ _ _ _ r n).trans (lnorm_congr (fun k =>
    halfRow_eq (w := fun k n => m ((c : Thread nD τ).loc main_arg8) (ix2 k n))
      (fun k => (krow_congr (y' := both (m ((c : Thread nD τ).loc main_arg0)) (bat t) (row t r)) (e' := ind)
        (fun k => congrArg₂ (fun a b : EReal => a + b) ((part0_apply _ r k).trans (iblk0 m c t 0 r k)) ((part1_apply _ r k).trans (iblk0 m c t 1 r k)))
        (fun k n => iblk5 m c t k n) (fun k => iblk3 m c t k) (fun k => iblk4 m c t k) (fun k => iblk1 m c t r k) (fun k => iblk2 m c t r k) k).trans
          (krow_eq _ (both_real _ hy (bat t) (row t r)) _ _ _ _ k))
      (fun k => drow_congr (o' := both (m ((c : Thread nD τ).loc main_arg5)) (bat t) (row t r))
        (fun k => congrArg₂ (fun a b : EReal => a + b) ((part0_apply _ r k).trans (iblk6 m c t 0 r k)) ((part1_apply _ r k).trans (iblk6 m c t 1 r k)))
        (fun k => iblk7 m c t r k) (fun k => iblk8 m c t k) k)
      (fun k n => iblk9 m c t k n) (fun k n => iblk10 m c t k n) (fun k => iblk11 m c t r k) (fun k => iblk12 m c t k) k)
    (fun k => iblk13 m c t k) (fun k => iblk14 m c t k) n)

/-- Both programs run, from equal arguments with a finite first recurrence, to equal results. -/
theorem algebraic : Cert.algebraic_JoinIdeal_RefJoinIdeal_pre_finite_rows (hJoinIdeal := Cert.JoinIdeal.Gen.facts) (hRefJoinIdeal := Cert.RefJoinIdeal.Gen.facts) (hPre_finite_rows := Cert.Pre_finite_rows.Gen.facts) := by
  intro m g m' g' hpre hargs
  refine ⟨fun c => G15 (m ((c.tc : Thread _ _).loc Cert.JoinIdeal.main_arg0)) (m ((c.tc : Thread _ _).loc Cert.JoinIdeal.main_arg1)) (m ((c.tc : Thread _ _).loc Cert.JoinIdeal.main_arg2)) (m ((c.tc : Thread _ _).loc Cert.JoinIdeal.main_arg3)) (m ((c.tc : Thread _ _).loc Cert.JoinIdeal.main_arg4)) (m ((c.tc : Thread _ _).loc Cert.JoinIdeal.main_arg5)) (m ((c.tc : Thread _ _).loc Cert.JoinIdeal.main_arg6)) (m ((c.tc : Thread _ _).loc Cert.JoinIdeal.main_arg7)) (m ((c.tc : Thread _ _).loc Cert.JoinIdeal.main_arg8)) (m ((c.tc : Thread _ _).loc Cert.JoinIdeal.main_arg9)) (m ((c.tc : Thread _ _).loc Cert.JoinIdeal.main_arg10)) (m ((c.tc : Thread _ _).loc Cert.JoinIdeal.main_arg11)) (m ((c.tc : Thread _ _).loc Cert.JoinIdeal.main_arg12)), ?_, ?_⟩
  · refine (θ_run (Cert.JoinIdeal.defs (F := Ideal)) _ _).mono (fun r h c => ?_) (Cert.JoinIdeal.Value.run_blocks (F := Ideal) m g)
    obtain ⟨h15, hk⟩ := h c
    exact ⟨h15.trans ((Cert.JoinIdeal.Gen.dats m 0 c).arrAt_eq_of_cover 15 _ (fun t _ => flushed15_eq m c (finite_rows _ _ _ _ _ _ _ _ _ _ _ _ _ (hpre c)) t) cover15), hk⟩
  · refine (θ_run (Cert.RefJoinIdeal.defs (F := Ideal)) _ _).mono (fun r h c => ?_) (Cert.RefJoinIdeal.Value.run (F := Ideal) m' g')
    obtain ⟨h90, hk⟩ := h c
    obtain ⟨a0, a1, a2, a3, a4, a5, a6, a7, a8, a9, a10, a11, a12⟩ := hargs c
    refine ⟨h90.trans ?_, hk⟩
    rw [Cert.RefJoinIdeal.Read.val_main_v90_eq, ref15]
    show G15 (m' ((c.tc : Thread _ _).loc Cert.RefJoinIdeal.main_arg0)) (m' ((c.tc : Thread _ _).loc Cert.RefJoinIdeal.main_arg1)) (m' ((c.tc : Thread _ _).loc Cert.RefJoinIdeal.main_arg2)) (m' ((c.tc : Thread _ _).loc Cert.RefJoinIdeal.main_arg3)) (m' ((c.tc : Thread _ _).loc Cert.RefJoinIdeal.main_arg4)) (m' ((c.tc : Thread _ _).loc Cert.RefJoinIdeal.main_arg5)) (m' ((c.tc : Thread _ _).loc Cert.RefJoinIdeal.main_arg6)) (m' ((c.tc : Thread _ _).loc Cert.RefJoinIdeal.main_arg7)) (m' ((c.tc : Thread _ _).loc Cert.RefJoinIdeal.main_arg8)) (m' ((c.tc : Thread _ _).loc Cert.RefJoinIdeal.main_arg9)) (m' ((c.tc : Thread _ _).loc Cert.RefJoinIdeal.main_arg10)) (m' ((c.tc : Thread _ _).loc Cert.RefJoinIdeal.main_arg11)) (m' ((c.tc : Thread _ _).loc Cert.RefJoinIdeal.main_arg12)) = G15 (m ((c.tc : Thread _ _).loc Cert.JoinIdeal.main_arg0)) (m ((c.tc : Thread _ _).loc Cert.JoinIdeal.main_arg1)) (m ((c.tc : Thread _ _).loc Cert.JoinIdeal.main_arg2)) (m ((c.tc : Thread _ _).loc Cert.JoinIdeal.main_arg3)) (m ((c.tc : Thread _ _).loc Cert.JoinIdeal.main_arg4)) (m ((c.tc : Thread _ _).loc Cert.JoinIdeal.main_arg5)) (m ((c.tc : Thread _ _).loc Cert.JoinIdeal.main_arg6)) (m ((c.tc : Thread _ _).loc Cert.JoinIdeal.main_arg7)) (m ((c.tc : Thread _ _).loc Cert.JoinIdeal.main_arg8)) (m ((c.tc : Thread _ _).loc Cert.JoinIdeal.main_arg9)) (m ((c.tc : Thread _ _).loc Cert.JoinIdeal.main_arg10)) (m ((c.tc : Thread _ _).loc Cert.JoinIdeal.main_arg11)) (m ((c.tc : Thread _ _).loc Cert.JoinIdeal.main_arg12))
    rw [a0, a1, a2, a3, a4, a5, a6, a7, a8, a9, a10, a11, a12]

end Cert.Proof.Join
end
-- ==== Proof.Odd.lean ====
/-
  The modulated input projection of the second layer: `(x·(1 + scale) + shift) · W`, in two results. The first is W's first 1920 columns.
  The second is W's other 2064 columns, of which the last 16 are the gates: eight for the decay, eight for the step. The kernel wants each
  eight in a tile of 128 lanes, so it lays the weights out with columns of zeros between; the reference lays out the product instead. A
  column of zeros contracts to zero, whatever the row (`proj_zero`), which makes the two the same array.
-/
module

public import proofs.«01_k».proof.Defs
public import proofs.«01_k».proof.Proof.Gen.OddIdeal.Value
public import proofs.«01_k».proof.Proof.Gen.RefOddIdeal.Run
public import proofs.«01_k».proof.Proof.Gen.RefOddIdeal.Read
public import Idealize.ShloMosaic.Lib.KernelVsHost
public import proofs.«01_k».proof.Proof.Common

@[expose] public section

noncomputable section

open Idealize.ShloMosaic Idealize.ShloMosaic.TcCoe Idealize.SL.Sem
open Idealize.ShloMosaic.Pipeline (Dat)

namespace Cert.Proof.Odd

open Cert.OddIdeal Cert.OddIdeal.Gen

/-- One element of the projection: row `x`, modulated by `sc` and `sh`, against one column. -/
def proj (x sc sh w : Fin 1024 → EReal) : EReal := ∑ k, (x k * (1 + sc k) + sh k) * w k

/-- The first payload at an index. -/
theorem pay2_apply (x0 : Vec Ideal S1x512x1024 .f32) (x1 x2 : Vec Ideal S1x1x1024 .f32) (w : Vec Ideal S1024x1920 .bf16) (j : S1x512x1920.Idx) :
    k0_pay2 x0 x1 x2 w j = proj (fun k => x0 (ix3 0 (j 1) k)) (fun k => x1 (ix3 0 0 k)) (fun k => x2 (ix3 0 0 k)) (fun k => w (ix2 k (j 2))) := by
  unfold_payloads
  pointwise [proj]

/-- The second payload at an index. -/
theorem pay3_apply (x0 : Vec Ideal S1x512x1024 .f32) (x1 x2 : Vec Ideal S1x1x1024 .f32) (w : Vec Ideal S1024x2304 .bf16) (j : S1x512x2304.Idx) :
    k0_pay3 x0 x1 x2 w j = proj (fun k => x0 (ix3 0 (j 1) k)) (fun k => x1 (ix3 0 0 k)) (fun k => x2 (ix3 0 0 k)) (fun k => w (ix2 k (j 2))) := by
  unfold_payloads
  pointwise [proj]

variable (m : (ℓ : Loc nD τ sig) → Buf (Elt Ideal) ℓ) (ρ : Dev nD → PrngReg)

/-- The block indices at grid point `t`: batch entry `t / 4`, row tile `t % 4`; the weights' blocks do not move. -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val / 4 ∧ win0_5.index t (1 : Fin 3) = t.val % 4 ∧ win0_5.index t (2 : Fin 3) = 0 :=
  (by decide +kernel : ∀ t : Fin grid0.N, _)
theorem idx6 : ∀ t : Fin cfg0.N, win0_6.index t (0 : Fin 3) = t.val / 4 ∧ win0_6.index t (1 : Fin 3) = t.val % 4 ∧ win0_6.index t (2 : Fin 3) = 0 :=
  (by decide +kernel : ∀ t : Fin grid0.N, _)

theorem N_eq : cfg0.N = 128 := N_0

/-- The batch entry and the array row of row `r` of grid point `t`'s block. -/
def bat (t : Fin cfg0.N) : Fin 32 := ⟨t.val / 4, by have := t.isLt; have := N_eq; omega⟩
def row (t : Fin cfg0.N) (r : Fin 512) : Fin 2048 := ⟨t.val % 4 * 512 + r.val, by have := r.isLt; omega⟩

/-- The input blocks at an index, in the arrays as the launch finds them. -/
theorem iblk0 (c : Dev nD) (t : Fin cfg0.N) (r : Fin 512) (k : Fin 1024) :
    iblk m c 0 t (ix3 0 r k) = m ((c : Thread nD τ).loc main_arg0) (ix3 (bat t) (row t r) k) := by
  rw [← V_main_arg0 m c]
  show V m c main_arg0 (((cfg0.win 0).blk t).view.emb (ix3 0 r k)) = _
  obtain ⟨e0, e1, e2⟩ := idx0 t
  congr 1; funext a; apply Fin.ext
  match a with
  | ⟨0, _⟩ => show win0_0.index t (0 : Fin 3) * 1 + 1 * 0 = t.val / 4; omega
  | ⟨1, _⟩ => show win0_0.index t (1 : Fin 3) * 512 + 1 * r.val = t.val % 4 * 512 + r.val; omega
  | ⟨2, _⟩ => show win0_0.index t (2 : Fin 3) * 1024 + 1 * k.val = k.val; omega

theorem iblk1 (c : Dev nD) (t : Fin cfg0.N) (k : Fin 1024) :
    iblk m c 1 t (ix3 0 0 k) = m ((c : Thread nD τ).loc main_arg1) (ix3 (bat t) 0 k) := by
  rw [← V_main_arg1 m c]
  show V m c main_arg1 (((cfg0.win 1).blk t).view.emb (ix3 0 0 k)) = _
  obtain ⟨e0, e1, e2⟩ := idx1 t
  congr 1; funext a; apply Fin.ext
  match a with
  | ⟨0, _⟩ => show win0_1.index t (0 : Fin 3) * 1 + 1 * 0 = t.val / 4; omega
  | ⟨1, _⟩ => show win0_1.index t (1 : Fin 3) * 1 + 1 * 0 = 0; omega
  | ⟨2, _⟩ => show win0_1.index t (2 : Fin 3) * 1024 + 1 * k.val = k.val; omega

theorem iblk2 (c : Dev nD) (t : Fin cfg0.N) (k : Fin 1024) :
    iblk m c 2 t (ix3 0 0 k) = m ((c : Thread nD τ).loc main_arg2) (ix3 (bat t) 0 k) := by
  rw [← V_main_arg2 m c]
  show V m c main_arg2 (((cfg0.win 2).blk t).view.emb (ix3 0 0 k)) = _
  obtain ⟨e0, e1, e2⟩ := idx2 t
  congr 1; funext a; apply Fin.ext
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 1024 + 1 * k.val = k.val; omega

/-- The weights the region finds: the first 1920 columns, and the laid-out rest. -/
theorem V_main_v1 (c : Dev nD) : V m c main_v1
    = truncf (F := Ideal) .bf16 (extractStridedSlice S1024x1920 ![0, 0] (m ((c : Thread nD τ).loc main_arg3)) slices_S1024x3984_S1024x1920_0_0) bitsLt_bf16_f32 := by
  unfold V
  simp only [hostOps0, hostOps0_1, hostOps0_2, hostOps0_3, hostOps0_4, List.flatten_cons, List.flatten_nil, List.append_nil, List.cons_append, List.nil_append]
  after_results_simp

/-- The last 2064 columns, and the gates among them. -/
def rest (w : Vec Ideal S1024x3984 .f32) : Vec Ideal S1024x2064 .f32 := extractStridedSlice S1024x2064 ![0, 1920] w slices_S1024x3984_S1024x2064_0_1920
def gates (w : Vec Ideal S1024x3984 .f32) : Vec Ideal S1024x16 .f32 := extractStridedSlice S1024x16 ![0, 2048] (rest w) slices_S1024x2064_S1024x16_0_2048
/-- Eight columns in a tile of 128 lanes. -/
def tile (g : Vec Ideal S1024x8 .f32) : Vec Ideal S1024x128 .f32 :=
  pad S1024x128 ![0, 0] ![0, 120] ![0, 0] g (sitofp (F := Ideal) .f32 (constantI S_ 32 0#32)) pads_S1024x8_S1024x128_000_01200 h_S_
/-- The layout of the last 2064 columns. -/
def lay (w : Vec Ideal S1024x3984 .f32) : Vec Ideal S1024x2304 .f32 :=
  concatenate S1024x2304 1 [⟨S1024x2048, extractStridedSlice S1024x2048 ![0, 0] (rest w) slices_S1024x2064_S1024x2048_0_0⟩,
    ⟨S1024x128, tile (extractStridedSlice S1024x8 ![0, 0] (gates w) slices_S1024x16_S1024x8_0_0)⟩,
    ⟨S1024x128, tile (extractStridedSlice S1024x8 ![0, 8] (gates w) slices_S1024x16_S1024x8_0_8)⟩] concatenates_S1024x2048_S1024x128_S1024x128_S1024x2304_d1

theorem V_main_v10 (c : Dev nD) : V m c main_v10 = truncf (F := Ideal) .bf16 (lay (m ((c : Thread nD τ).loc main_arg3))) bitsLt_bf16_f32 := by
  unfold V
  simp only [hostOps0, hostOps0_1, hostOps0_2, hostOps0_3, hostOps0_4, List.flatten_cons, List.flatten_nil, List.append_nil, List.cons_append, List.nil_append]
  after_results_simp
  rfl

/-- Column `n` of the layout, at row `k`. -/
def lcol (w : Vec Ideal S1024x3984 .f32) (n : Fin 2304) (k : Fin 1024) : EReal :=
  if h : n.val < 2056 then w (ix2 k ⟨1920 + n.val, by omega⟩)
  else if n.val < 2176 then 0
  else if h : n.val < 2184 then w (ix2 k ⟨n.val + 1800, by omega⟩)
  else 0

theorem lcol_lo (w : Vec Ideal S1024x3984 .f32) (n : Fin 2304) (k : Fin 1024) (h : n.val < 2056) : lcol w n k = w (ix2 k ⟨1920 + n.val, by omega⟩) := by
  unfold lcol; rw [dif_pos h]
theorem lcol_gap (w : Vec Ideal S1024x3984 .f32) (n : Fin 2304) (k : Fin 1024) (h : ¬ n.val < 2056) (h' : n.val < 2176) : lcol w n k = 0 := by
  unfold lcol; rw [dif_neg h, if_pos h']
theorem lcol_hi (w : Vec Ideal S1024x3984 .f32) (n : Fin 2304) (k : Fin 1024) (h : ¬ n.val < 2176) (h' : n.val < 2184) : lcol w n k = w (ix2 k ⟨n.val + 1800, by omega⟩) := by
  unfold lcol; rw [dif_neg (by omega), if_neg h, dif_pos h']
theorem lcol_end (w : Vec Ideal S1024x3984 .f32) (n : Fin 2304) (k : Fin 1024) (h : ¬ n.val < 2184) : lcol w n k = 0 := by
  unfold lcol; rw [dif_neg (by omega), if_neg (by omega), dif_neg h]

theorem tile_apply (g : Vec Ideal S1024x8 .f32) (k : Fin 1024) (n : Fin 128) : tile g (ix2 k n) = if h : n.val < 8 then g (ix2 k ⟨n.val, h⟩) else 0 := by
  unfold tile
  split
  · next h =>
    exact pad_apply_of_inside (s := S1024x8) ![0, 0] ![0, 120] ![0, 0] g _ _ _ (ix2 k n) (ix2 k ⟨n.val, h⟩) (fun a => match a with
      | ⟨0, _⟩ => by show k.val = 0 + k.val * 1; omega
      | ⟨1, _⟩ => by show n.val = 0 + n.val * 1; omega)
  · next h =>
    refine (pad_apply_of_not_inside (s := S1024x8) ![0, 0] ![0, 120] ![0, 0] g _ _ _ (ix2 k n) 1 (fun e => h ?_)).trans ?_
    · have := e.2.2
      change (n.val - 0) / 1 < 8 at this
      omega
    · pointwise
      show (((0#32 : BitVec 32).toInt : ℝ) : EReal) = 0
      simp

/-- The pieces of the layout: the first 2048 columns, the eight of the decay, the eight of the step. -/
theorem rest_apply (w : Vec Ideal S1024x3984 .f32) (k : Fin 1024) (n : Fin 2048) :
    extractStridedSlice S1024x2048 ![0, 0] (rest w) slices_S1024x2064_S1024x2048_0_0 (ix2 k n) = w (ix2 k ⟨1920 + n.val, by omega⟩) := by
  unfold rest
  pointwise
theorem decay_apply (w : Vec Ideal S1024x3984 .f32) (k : Fin 1024) (n : Fin 8) :
    extractStridedSlice S1024x8 ![0, 0] (gates w) slices_S1024x16_S1024x8_0_0 (ix2 k n) = w (ix2 k ⟨3968 + n.val, by omega⟩) := by
  unfold gates rest
  pointwise
  exact congrArg (fun e => w (ix2 k e)) (Fin.ext (by show 1920 + (2048 + n.val) = 3968 + n.val; omega))
theorem step_apply (w : Vec Ideal S1024x3984 .f32) (k : Fin 1024) (n : Fin 8) :
    extractStridedSlice S1024x8 ![0, 8] (gates w) slices_S1024x16_S1024x8_0_8 (ix2 k n) = w (ix2 k ⟨3976 + n.val, by omega⟩) := by
  unfold gates rest
  pointwise
  exact congrArg (fun e => w (ix2 k e)) (Fin.ext (by show 1920 + (2048 + (8 + n.val)) = 3976 + n.val; omega))

theorem lay_apply (w : Vec Ideal S1024x3984 .f32) (k : Fin 1024) (n : Fin 2304) : lay w (ix2 k n) = lcol w n k := by
  unfold lay
  have hA : ∀ q : Fin 128, tile (extractStridedSlice S1024x8 ![0, 0] (gates w) slices_S1024x16_S1024x8_0_0) (ix2 k q)
      = if h : q.val < 8 then w (ix2 k ⟨3968 + q.val, by omega⟩) else 0 := fun q => by
    rw [tile_apply]
    split
    · exact decay_apply w k _
    · rfl
  have hB : ∀ q : Fin 128, tile (extractStridedSlice S1024x8 ![0, 8] (gates w) slices_S1024x16_S1024x8_0_8) (ix2 k q)
      = if h : q.val < 8 then w (ix2 k ⟨3976 + q.val, by omega⟩) else 0 := fun q => by
    rw [tile_apply]
    split
    · exact step_apply w k _
    · rfl
  have hC := rest_apply w k
  generalize tile (extractStridedSlice S1024x8 ![0, 0] (gates w) slices_S1024x16_S1024x8_0_0) = A at hA ⊢
  generalize tile (extractStridedSlice S1024x8 ![0, 8] (gates w) slices_S1024x16_S1024x8_0_8) = B at hB ⊢
  generalize extractStridedSlice S1024x2048 ![0, 0] (rest w) slices_S1024x2064_S1024x2048_0_0 = C at hC ⊢
  pointwise
  by_cases h1 : n.val < 2048
  · exact (dif_pos h1).trans ((hC _).trans (lcol_lo w n k (by omega)).symm)
  refine (dif_neg h1).trans ?_
  by_cases h2 : n.val - 2048 < 128
  · refine (dif_pos h2).trans ((hA _).trans ?_)
    by_cases h3 : n.val - 2048 < 8
    · refine (dif_pos h3).trans (Eq.trans ?_ (lcol_lo w n k (by omega)).symm)
      exact congrArg (fun e => w (ix2 k e)) (Fin.ext (by show 3968 + (n.val - 2048) = 1920 + n.val; omega))
    · exact (dif_neg h3).trans (lcol_gap w n k (by omega) (by omega)).symm
  · refine (dif_neg h2).trans ((hB _).trans ?_)
    by_cases h3 : n.val - 2048 - 128 < 8
    · refine (dif_pos h3).trans (Eq.trans ?_ (lcol_hi w n k (by omega) (by omega)).symm)
      exact congrArg (fun e => w (ix2 k e)) (Fin.ext (by show 3976 + (n.val - 2048 - 128) = n.val + 1800; omega))
    · exact (dif_neg h3).trans (lcol_end w n k (by omega)).symm

theorem iblk3 (c : Dev nD) (t : Fin cfg0.N) (k : Fin 1024) (n : Fin 1920) :
    iblk m c 3 t (ix2 k n) = m ((c : Thread nD τ).loc main_arg3) (ix2 k ⟨n.val, by omega⟩) := by
  have h : iblk m c 3 t (ix2 k n) = V m c main_v1 (ix2 k n) := by
    show V m c main_v1 (((cfg0.win 3).blk t).view.emb (ix2 k n)) = _
    obtain ⟨e0, e1⟩ := idx3 t
    congr 1; funext a; apply Fin.ext
    match a with
    | ⟨0, _⟩ => show win0_3.index t (0 : Fin 2) * 1024 + 1 * k.val = k.val; omega
    | ⟨1, _⟩ => show win0_3.index t (1 : Fin 2) * 1920 + 1 * n.val = n.val; omega
  rw [h, V_main_v1]
  pointwise

theorem iblk4 (c : Dev nD) (t : Fin cfg0.N) (k : Fin 1024) (n : Fin 2304) :
    iblk m c 4 t (ix2 k n) = lcol (m ((c : Thread nD τ).loc main_arg3)) n k := by
  have h : iblk m c 4 t (ix2 k n) = V m c main_v10 (ix2 k n) := by
    show V m c main_v10 (((cfg0.win 4).blk t).view.emb (ix2 k n)) = _
    obtain ⟨e0, e1⟩ := idx4 t
    congr 1; funext a; apply Fin.ext
    match a with
    | ⟨0, _⟩ => show win0_4.index t (0 : Fin 2) * 1024 + 1 * k.val = k.val; omega
    | ⟨1, _⟩ => show win0_4.index t (1 : Fin 2) * 2304 + 1 * n.val = n.val; omega
  rw [h, V_main_v10]
  exact lay_apply _ k n

/-- The projection of batch entry `b`, row `r`, against one column. -/
def at_ (x : Vec Ideal S32x2048x1024 .f32) (sc sh : Vec Ideal S32x1x1024 .f32) (b : Fin 32) (r : Fin 2048) (v : Fin 1024 → EReal) : EReal :=
  proj (fun k => x (ix3 b r k)) (fun k => sc (ix3 b 0 k)) (fun k => sh (ix3 b 0 k)) v

/-- The two result arrays. -/
def G5 (x : Vec Ideal S32x2048x1024 .f32) (sc sh : Vec Ideal S32x1x1024 .f32) (w : Vec Ideal S1024x3984 .f32) : Vec Ideal S32x2048x1920 .f32 :=
  fun i => at_ x sc sh (i 0) (i 1) (fun k => w (ix2 k ⟨(i 2).val, by have : (i 2).val < 1920 := (i 2).isLt; omega⟩))
def G6 (x : Vec Ideal S32x2048x1024 .f32) (sc sh : Vec Ideal S32x1x1024 .f32) (w : Vec Ideal S1024x3984 .f32) : Vec Ideal S32x2048x2304 .f32 :=
  fun i => at_ x sc sh (i 0) (i 1) (lcol w (i 2))

theorem emb5 (t : Fin cfg0.N) (r : Fin 512) (n : Fin 1920) : ((cfg0.win 5).blk t).view.emb (ix3 (0 : Fin 1) r n) = ix3 (bat t) (row t r) n := by
  obtain ⟨e0, e1, e2⟩ := idx5 t
  funext a; apply Fin.ext
  match a with
  | ⟨0, _⟩ => show win0_5.index t (0 : Fin 3) * 1 + 1 * 0 = t.val / 4; omega
  | ⟨1, _⟩ => show win0_5.index t (1 : Fin 3) * 512 + 1 * r.val = t.val % 4 * 512 + r.val; omega
  | ⟨2, _⟩ => show win0_5.index t (2 : Fin 3) * 1920 + 1 * n.val = n.val; omega
theorem emb6 (t : Fin cfg0.N) (r : Fin 512) (n : Fin 2304) : ((cfg0.win 6).blk t).view.emb (ix3 (0 : Fin 1) r n) = ix3 (bat t) (row t r) n := by
  obtain ⟨e0, e1, e2⟩ := idx6 t
  funext a; apply Fin.ext
  match a with
  | ⟨0, _⟩ => show win0_6.index t (0 : Fin 3) * 1 + 1 * 0 = t.val / 4; omega
  | ⟨1, _⟩ => show win0_6.index t (1 : Fin 3) * 512 + 1 * r.val = t.val % 4 * 512 + r.val; omega
  | ⟨2, _⟩ => show win0_6.index t (2 : Fin 3) * 2304 + 1 * n.val = n.val; omega

/-- Every point writes back its block of the result. -/
theorem flushed5_eq (c : Dev nD) (t : Fin cfg0.N) : (dats m 0 c).flushed 5 t = ((cfg0.win 5).blk t).view.read (Elt Ideal)
    (G5 (m ((c : Thread nD τ).loc main_arg0)) (m ((c : Thread nD τ).loc main_arg1)) (m ((c : Thread nD τ).loc main_arg2)) (m ((c : Thread nD τ).loc main_arg3))) := by
  rw [Cert.OddIdeal.Value.flushed5]
  unfold out0_5
  rw [View.canon_unit_zero hz3]
  simp only [View.ld_unit_zero (S := S1x512x1024) hz3, View.ld_unit_zero (S := S1x1x1024) hz3, View.ld_unit_zero (S := S1024x1920) hz2]
  suffices h : ∀ j : S1x512x1920.Idx, k0_pay2 (F := Ideal) (iblk m c 0 t) (iblk m c 1 t) (iblk m c 2 t) (iblk m c 3 t) j
      = G5 (m ((c : Thread nD τ).loc main_arg0)) (m ((c : Thread nD τ).loc main_arg1)) (m ((c : Thread nD τ).loc main_arg2)) (m ((c : Thread nD τ).loc main_arg3))
        (((cfg0.win 5).blk t).view.emb j) from funext h
  intro j
  obtain ⟨r, n, rfl⟩ := idx_unit j
  rw [emb5, pay2_apply]
  unfold G5 at_
  congr 1 <;> funext k
  · exact iblk0 m c t r k
  · exact iblk1 m c t k
  · exact iblk2 m c t k
  · exact iblk3 m c t k n

theorem flushed6_eq (c : Dev nD) (t : Fin cfg0.N) : (dats m 0 c).flushed 6 t = ((cfg0.win 6).blk t).view.read (Elt Ideal)
    (G6 (m ((c : Thread nD τ).loc main_arg0)) (m ((c : Thread nD τ).loc main_arg1)) (m ((c : Thread nD τ).loc main_arg2)) (m ((c : Thread nD τ).loc main_arg3))) := by
  rw [Cert.OddIdeal.Value.flushed6]
  unfold out0_6
  rw [View.canon_unit_zero hz3]
  simp only [View.ld_unit_zero (S := S1x512x1024) hz3, View.ld_unit_zero (S := S1x1x1024) hz3, View.ld_unit_zero (S := S1024x2304) hz2]
  suffices h : ∀ j : S1x512x2304.Idx, k0_pay3 (F := Ideal) (iblk m c 0 t) (iblk m c 1 t) (iblk m c 2 t) (iblk m c 4 t) j
      = G6 (m ((c : Thread nD τ).loc main_arg0)) (m ((c : Thread nD τ).loc main_arg1)) (m ((c : Thread nD τ).loc main_arg2)) (m ((c : Thread nD τ).loc main_arg3))
        (((cfg0.win 6).blk t).view.emb j) from funext h
  intro j
  obtain ⟨r, n, rfl⟩ := idx_unit j
  rw [emb6, pay3_apply]
  unfold G6 at_
  congr 1 <;> funext k
  · exact iblk0 m c t r k
  · exact iblk1 m c t k
  · exact iblk2 m c t k
  · exact iblk4 m c t k n

/-- The point whose block holds batch entry `b` and row `r`. -/
def pt (b : Fin 32) (r : Fin 2048) : Fin cfg0.N := ⟨b.val * 4 + r.val / 512, by have := b.isLt; have := r.isLt; have := N_eq; omega⟩
theorem bat_pt (b : Fin 32) (r : Fin 2048) : bat (pt b r) = b := Fin.ext (by simp only [bat, pt]; have := r.isLt; omega)
theorem row_pt (b : Fin 32) (r : Fin 2048) : row (pt b r) ⟨r.val % 512, Nat.mod_lt _ (by decide)⟩ = r :=
  Fin.ext (by simp only [row, pt]; have := r.isLt; omega)

theorem cover5 (i : S32x2048x1920.Idx) : ∃ t : Fin cfg0.N, (cfg0.win 5).flush t = true ∧ i ∈ ((cfg0.win 5).blk t).view.set := by
  obtain ⟨b, r, n, rfl⟩ := idx_three i
  refine ⟨pt b r, flush0_5 _, ?_⟩
  have h := ((cfg0.win 5).blk (pt b r)).view.emb_mem_set (ix3 0 (⟨r.val % 512, Nat.mod_lt _ (by decide)⟩ : Fin 512) n)
  rw [emb5, bat_pt, row_pt] at h
  exact h
theorem cover6 (i : S32x2048x2304.Idx) : ∃ t : Fin cfg0.N, (cfg0.win 6).flush t = true ∧ i ∈ ((cfg0.win 6).blk t).view.set := by
  obtain ⟨b, r, n, rfl⟩ := idx_three i
  refine ⟨pt b r, flush0_6 _, ?_⟩
  have h := ((cfg0.win 6).blk (pt b r)).view.emb_mem_set (ix3 0 (⟨r.val % 512, Nat.mod_lt _ (by decide)⟩ : Fin 512) n)
  rw [emb6, bat_pt, row_pt] at h
  exact h

end Cert.Proof.Odd

/-! ## The reference -/

namespace Cert.Proof.Odd

open Cert.RefOddIdeal Cert.RefOddIdeal.Read

/-- A column of zeros. -/
theorem proj_zero (x sc sh : Fin 1024 → EReal) : proj x sc sh (fun _ => 0) = 0 := by
  unfold proj
  exact Finset.sum_eq_zero fun k _ => mul_zero _

theorem ref5 (x : Vec Ideal Cert.OddIdeal.S32x2048x1024 .f32) (sc sh : Vec Ideal Cert.OddIdeal.S32x1x1024 .f32) (w : Vec Ideal Cert.OddIdeal.S1024x3984 .f32) :
    val_main_v12 (F := Ideal) x sc sh w = G5 x sc sh w := by
  funext i
  unfold val_main_v12 val_main_v6 val_main_v5 val_main_v4 val_main_v3 val_main_v2 val_main_v1 val_main_v0 val_main_cst G5 at_ proj
  pointwise

/-- The product, its slices, and the zeros. -/
theorem prod_apply (x : Vec Ideal Cert.OddIdeal.S32x2048x1024 .f32) (sc sh : Vec Ideal Cert.OddIdeal.S32x1x1024 .f32) (w : Vec Ideal Cert.OddIdeal.S1024x3984 .f32) (b : Fin 32) (r : Fin 2048) (n : Fin 3984) :
    val_main_v6 (F := Ideal) x sc sh w (ix3 b r n) = at_ x sc sh b r (fun k => w (ix2 k n)) := by
  unfold val_main_v6 val_main_v5 val_main_v4 val_main_v3 val_main_v2 val_main_v1 val_main_v0 val_main_cst at_ proj
  pointwise
theorem v8_apply (x : Vec Ideal Cert.OddIdeal.S32x2048x1024 .f32) (sc sh : Vec Ideal Cert.OddIdeal.S32x1x1024 .f32) (w : Vec Ideal Cert.OddIdeal.S1024x3984 .f32) (b : Fin 32) (r : Fin 2048) (n : Fin 2048) :
    val_main_v8 (F := Ideal) x sc sh w (ix3 b r n) = at_ x sc sh b r (fun k => w (ix2 k ⟨1920 + n.val, by omega⟩)) := by
  rw [← prod_apply]
  unfold val_main_v8
  generalize val_main_v6 (F := Ideal) x sc sh w = y
  pointwise
theorem v9_apply (x : Vec Ideal Cert.OddIdeal.S32x2048x1024 .f32) (sc sh : Vec Ideal Cert.OddIdeal.S32x1x1024 .f32) (w : Vec Ideal Cert.OddIdeal.S1024x3984 .f32) (b : Fin 32) (r : Fin 2048) (n : Fin 8) :
    val_main_v9 (F := Ideal) x sc sh w (ix3 b r n) = at_ x sc sh b r (fun k => w (ix2 k ⟨3968 + n.val, by omega⟩)) := by
  rw [← prod_apply]
  unfold val_main_v9
  generalize val_main_v6 (F := Ideal) x sc sh w = y
  pointwise
theorem v10_apply (x : Vec Ideal Cert.OddIdeal.S32x2048x1024 .f32) (sc sh : Vec Ideal Cert.OddIdeal.S32x1x1024 .f32) (w : Vec Ideal Cert.OddIdeal.S1024x3984 .f32) (b : Fin 32) (r : Fin 2048) (n : Fin 8) :
    val_main_v10 (F := Ideal) x sc sh w (ix3 b r n) = at_ x sc sh b r (fun k => w (ix2 k ⟨3976 + n.val, by omega⟩)) := by
  rw [← prod_apply]
  unfold val_main_v10
  generalize val_main_v6 (F := Ideal) x sc sh w = y
  pointwise
theorem v7_apply (b : Fin 32) (r : Fin 2048) (n : Fin 120) : val_main_v7 (F := Ideal) (ix3 b r n) = 0 := by
  unfold val_main_v7 val_main_cst_0
  pointwise

/-- A column past the gates is zero. -/
theorem at_zero (x : Vec Ideal Cert.OddIdeal.S32x2048x1024 .f32) (sc sh : Vec Ideal Cert.OddIdeal.S32x1x1024 .f32) (b : Fin 32) (r : Fin 2048)
    (v : Fin 1024 → EReal) (hv : v = fun _ => 0) : 0 = at_ x sc sh b r v := by
  subst hv
  exact (proj_zero _ _ _).symm

theorem ref6 (x : Vec Ideal Cert.OddIdeal.S32x2048x1024 .f32) (sc sh : Vec Ideal Cert.OddIdeal.S32x1x1024 .f32) (w : Vec Ideal Cert.OddIdeal.S1024x3984 .f32) :
    val_main_v11 (F := Ideal) x sc sh w = G6 x sc sh w := by
  funext i
  obtain ⟨b, r, n, rfl⟩ := idx_three i
  show _ = at_ x sc sh b r (lcol w n)
  unfold val_main_v11
  have hA := v8_apply x sc sh w b r
  have hB := v9_apply x sc sh w b r
  have hC := v10_apply x sc sh w b r
  have hD := v7_apply b r
  generalize val_main_v8 (F := Ideal) x sc sh w = A at hA ⊢
  generalize val_main_v9 (F := Ideal) x sc sh w = B at hB ⊢
  generalize val_main_v10 (F := Ideal) x sc sh w = C at hC ⊢
  generalize val_main_v7 (F := Ideal) = D at hD ⊢
  pointwise
  by_cases h1 : n.val < 2048
  · exact (dif_pos h1).trans ((hA _).trans (congrArg _ (funext fun k => (lcol_lo w n k (by omega)).symm)))
  refine (dif_neg h1).trans ?_
  by_cases h2 : n.val - 2048 < 8
  · refine (dif_pos h2).trans ((hB _).trans (congrArg _ (funext fun k => Eq.trans ?_ (lcol_lo w n k (by omega)).symm)))
    exact congrArg (fun e => w (ix2 k e)) (Fin.ext (by show 3968 + (n.val - 2048) = 1920 + n.val; omega))
  refine (dif_neg h2).trans ?_
  by_cases h3 : n.val - 2048 - 8 < 120
  · exact (dif_pos h3).trans ((hD _).trans (at_zero x sc sh b r _ (funext fun k => lcol_gap w n k (by omega) (by omega))))
  refine (dif_neg h3).trans ?_
  by_cases h4 : n.val - 2048 - 8 - 120 < 8
  · refine (dif_pos h4).trans ((hC _).trans (congrArg _ (funext fun k => Eq.trans ?_ (lcol_hi w n k (by omega) (by omega)).symm)))
    exact congrArg (fun e => w (ix2 k e)) (Fin.ext (by show 3976 + (n.val - 2048 - 8 - 120) = n.val + 1800; omega))
  · exact (dif_neg h4).trans ((hD _).trans (at_zero x sc sh b r _ (funext fun k => lcol_end w n k (by omega))))

/-- Both programs run, from equal arguments, to equal results. -/
theorem algebraic : Cert.algebraic_OddIdeal_RefOddIdeal (hOddIdeal := Cert.OddIdeal.Gen.facts) (hRefOddIdeal := Cert.RefOddIdeal.Gen.facts) := by
  intro m g m' g' _ hargs
  refine ⟨fun c => G5 (m ((c.tc : Thread _ _).loc Cert.OddIdeal.main_arg0)) (m ((c.tc : Thread _ _).loc Cert.OddIdeal.main_arg1)) (m ((c.tc : Thread _ _).loc Cert.OddIdeal.main_arg2)) (m ((c.tc : Thread _ _).loc Cert.OddIdeal.main_arg3)),
    fun c => G6 (m ((c.tc : Thread _ _).loc Cert.OddIdeal.main_arg0)) (m ((c.tc : Thread _ _).loc Cert.OddIdeal.main_arg1)) (m ((c.tc : Thread _ _).loc Cert.OddIdeal.main_arg2)) (m ((c.tc : Thread _ _).loc Cert.OddIdeal.main_arg3)), ?_, ?_⟩
  · refine (θ_run (Cert.OddIdeal.defs (F := Ideal)) _ _).mono (fun r h c => ?_) (Cert.OddIdeal.Value.run_blocks (F := Ideal) m g)
    obtain ⟨h5, h6, hk⟩ := h c
    exact ⟨h5.trans ((Cert.OddIdeal.Gen.dats m 0 c).arrAt_eq_of_cover 5 _ (fun t _ => flushed5_eq m c t) cover5),
      h6.trans ((Cert.OddIdeal.Gen.dats m 0 c).arrAt_eq_of_cover 6 _ (fun t _ => flushed6_eq m c t) cover6), hk⟩
  · refine (θ_run (Cert.RefOddIdeal.defs (F := Ideal)) _ _).mono (fun r h c => ?_) (Cert.RefOddIdeal.Value.run (F := Ideal) m' g')
    obtain ⟨h7, h8, hk⟩ := h c
    refine ⟨h7.trans ?_, h8.trans ?_, hk⟩
    · rw [val_main_v12_eq, ref5, (hargs c).1, (hargs c).2.1, (hargs c).2.2.1, (hargs c).2.2.2]
    · rw [val_main_v11_eq, ref6, (hargs c).1, (hargs c).2.1, (hargs c).2.2.1, (hargs c).2.2.2]

end Cert.Proof.Odd
end
-- ==== Proof.Mlp.lean ====
/-
  The feed-forward call: `layer_norm(√2·x + gate · relu²((x·(1 + scale) + shift)·W1)·W2)`. Each grid point computes 512 rows of one
  batch entry, the hidden units in four stretches of 1024; the reference contracts over all 4096 at once.
-/
module

public import proofs.«01_k».proof.Defs
public import proofs.«01_k».proof.Proof.Gen.MlpIdeal.Value
public import proofs.«01_k».proof.Proof.Gen.RefMlpIdeal.Run
public import proofs.«01_k».proof.Proof.Gen.RefMlpIdeal.Read
public import proofs.«01_k».proof.Proof.Rows

@[expose] public section

noncomputable section

open Idealize.ShloMosaic Idealize.ShloMosaic.TcCoe Idealize.SL.Sem
open Idealize.ShloMosaic.Pipeline (Dat)

namespace Cert.Proof.Mlp

open Cert.MlpIdeal Cert.MlpIdeal.Gen

/-- The last payload is the layer norm of the row it is given. -/
theorem pay1_apply (v9 v11 : FVec Ideal S1x1024 .f32) (h : FVec Ideal S512x1024 .f32) (r : Fin 512) (n : Fin 1024) :
    k0_pay1 v9 v11 h (multiReduction .add [1] S512 h 0x00000000#32 reduces_S512x1024_S512 (.inl rfl) rfl) (ix3 0 r n)
      = lnorm (fun k => h (ix2 r k)) (fun k => v9 (ix2 0 k)) (fun k => v11 (ix2 0 k)) n := by
  unfold_payloads
  pointwise [lnorm]

set_option maxHeartbeats 1000000 in
/-- The row before the layer norm. -/
theorem row_apply (x0 : Vec Ideal S1x512x1024 .f32) (x1 x2 x3 : Vec Ideal S1x1x1024 .f32) (x4 : Vec Ideal S1024x4096 .bf16)
    (x5 : Vec Ideal S4096x1024 .bf16) (r : Fin 512) (n : Fin 1024) :
    k0_pay8 (k0_pay2 x0) (k0_pay3 x3) (k0_pay6 x0 x1 x2) (k0_pay7 x0 x1 x2 (View.ld x4 r0_3) (View.ld x5 r0_4))
        (View.ld x4 r0_5) (View.ld x5 r0_6) (View.ld x4 r0_7) (View.ld x5 r0_8) (View.ld x4 r0_9) (View.ld x5 r0_10) (ix2 r n)
      = mlpRow (fun k => x0 (ix3 0 r k)) (fun k => x1 (ix3 0 0 k)) (fun k => x2 (ix3 0 0 k)) (fun k => x3 (ix3 0 0 k))
          (fun k f => x4 (ix2 k f)) (fun f k => x5 (ix2 f k)) n := by
  unfold mlpRow hid
  rw [sum_four]
  unfold_payloads
  pointwise

/-- What a grid point leaves in the result's block. -/
theorem out_apply (x0 : Vec Ideal S1x512x1024 .f32) (x1 x2 x3 : Vec Ideal S1x1x1024 .f32) (x4 : Vec Ideal S1024x4096 .bf16)
    (x5 : Vec Ideal S4096x1024 .bf16) (x6 x7 : Vec Ideal S1x1024 .f32) (r : Fin 512) (n : Fin 1024) :
    out0_8 x0 x1 x2 x3 x4 x5 x6 x7 (ix3 0 r n)
      = lnorm (mlpRow (fun k => x0 (ix3 0 r k)) (fun k => x1 (ix3 0 0 k)) (fun k => x2 (ix3 0 0 k)) (fun k => x3 (ix3 0 0 k))
          (fun k f => x4 (ix2 k f)) (fun f k => x5 (ix2 f k))) (fun k => x6 (ix2 0 k)) (fun k => x7 (ix2 0 k)) n := by
  unfold_out out0_8
  rw [View.canon_unit_zero hz3]
  simp only [View.ld_unit_zero (S := S1x512x1024) hz3, View.ld_unit_zero (S := S1x1x1024) hz3, View.ld_unit_zero (S := S1x1024) hz2]
  unfold k0_pay9
  refine (pay1_apply _ _ _ r n).trans (lnorm_congr (fun k => row_apply x0 x1 x2 x3 x4 x5 r k) (fun k => ?_) (fun k => ?_) n)
  · unfold_payloads; pointwise
  · unfold_payloads; pointwise

theorem N_eq : cfg0.N = 128 := N_0

/-! Each window's block index at a grid point. -/

theorem idx0 : ∀ t : Fin cfg0.N, win0_0.index t ((0 : Fin 3)) = t.val / 4 ∧ win0_0.index t ((1 : Fin 3)) = t.val % 4 ∧ win0_0.index t ((2 : Fin 3)) = 0 :=
  (by decide +kernel : ∀ t : Fin grid0.N, win0_0.index t ((0 : Fin 3)) = t.val / 4 ∧ win0_0.index t ((1 : Fin 3)) = t.val % 4 ∧ win0_0.index t ((2 : Fin 3)) = 0)
theorem idx8 : ∀ t : Fin cfg0.N, win0_8.index t ((0 : Fin 3)) = t.val / 4 ∧ win0_8.index t ((1 : Fin 3)) = t.val % 4 ∧ win0_8.index t ((2 : Fin 3)) = 0 :=
  (by decide +kernel : ∀ t : Fin grid0.N, win0_8.index t ((0 : Fin 3)) = t.val / 4 ∧ win0_8.index t ((1 : Fin 3)) = t.val % 4 ∧ win0_8.index t ((2 : Fin 3)) = 0)
theorem idx1 : ∀ t : Fin cfg0.N, win0_1.index t ((0 : Fin 3)) = t.val / 4 ∧ win0_1.index t ((1 : Fin 3)) = 0 ∧ win0_1.index t ((2 : Fin 3)) = 0 :=
  (by decide +kernel : ∀ t : Fin grid0.N, win0_1.index t ((0 : Fin 3)) = t.val / 4 ∧ win0_1.index t ((1 : Fin 3)) = 0 ∧ win0_1.index t ((2 : Fin 3)) = 0)
theorem idx2 : ∀ t : Fin cfg0.N, win0_2.index t ((0 : Fin 3)) = t.val / 4 ∧ win0_2.index t ((1 : Fin 3)) = 0 ∧ win0_2.index t ((2 : Fin 3)) = 0 :=
  (by decide +kernel : ∀ t : Fin grid0.N, win0_2.index t ((0 : Fin 3)) = t.val / 4 ∧ win0_2.index t ((1 : Fin 3)) = 0 ∧ win0_2.index t ((2 : Fin 3)) = 0)
theorem idx3 : ∀ t : Fin cfg0.N, win0_3.index t ((0 : Fin 3)) = t.val / 4 ∧ win0_3.index t ((1 : Fin 3)) = 0 ∧ win0_3.index t ((2 : Fin 3)) = 0 :=
  (by decide +kernel : ∀ t : Fin grid0.N, win0_3.index t ((0 : Fin 3)) = t.val / 4 ∧ win0_3.index t ((1 : Fin 3)) = 0 ∧ win0_3.index t ((2 : Fin 3)) = 0)
theorem idx4 : ∀ t : Fin cfg0.N, win0_4.index t ((0 : Fin 2)) = 0 ∧ win0_4.index t ((1 : Fin 2)) = 0 :=
  (by decide +kernel : ∀ t : Fin grid0.N, win0_4.index t ((0 : Fin 2)) = 0 ∧ win0_4.index t ((1 : Fin 2)) = 0)
theorem idx5 : ∀ t : Fin cfg0.N, win0_5.index t ((0 : Fin 2)) = 0 ∧ win0_5.index t ((1 : Fin 2)) = 0 :=
  (by decide +kernel : ∀ t : Fin grid0.N, win0_5.index t ((0 : Fin 2)) = 0 ∧ win0_5.index t ((1 : Fin 2)) = 0)
theorem idx6 : ∀ t : Fin cfg0.N, win0_6.index t ((0 : Fin 2)) = 0 ∧ win0_6.index t ((1 : Fin 2)) = 0 :=
  (by decide +kernel : ∀ t : Fin grid0.N, win0_6.index t ((0 : Fin 2)) = 0 ∧ win0_6.index t ((1 : Fin 2)) = 0)
theorem idx7 : ∀ t : Fin cfg0.N, win0_7.index t ((0 : Fin 2)) = 0 ∧ win0_7.index t ((1 : Fin 2)) = 0 :=
  (by decide +kernel : ∀ t : Fin grid0.N, win0_7.index t ((0 : Fin 2)) = 0 ∧ win0_7.index t ((1 : Fin 2)) = 0)

variable (m : (ℓ : Loc nD τ sig) → Buf (Elt Ideal) ℓ)

/-- The batch entry and the array row of row `r` of grid point `t`'s block. -/
def bat (t : Fin cfg0.N) : Fin 32 := ⟨t.val / 4, by have := t.isLt; have := N_eq; omega⟩
def row (t : Fin cfg0.N) (r : Fin 512) : Fin 2048 := ⟨t.val % 4 * 512 + r.val, by have := r.isLt; omega⟩

/-- The input blocks at an index, in the arrays as the launch finds them. -/
theorem iblk0 (c : Dev nD) (t : Fin cfg0.N) (r : Fin 512) (k : Fin 1024) :
    iblk m c 0 t (ix3 0 r k) = m ((c : Thread nD τ).loc main_arg0) (ix3 (bat t) (row t r) k) := by
  rw [← V_main_arg0 m c]
  show V m c main_arg0 (((cfg0.win 0).blk t).view.emb (ix3 0 r k)) = _
  obtain ⟨e0, e1, e2⟩ := idx0 t
  congr 1; funext a; apply Fin.ext
  match a with
  | ⟨0, _⟩ => show win0_0.index t (0 : Fin 3) * 1 + 1 * 0 = t.val / 4; omega
  | ⟨1, _⟩ => show win0_0.index t (1 : Fin 3) * 512 + 1 * r.val = t.val % 4 * 512 + r.val; omega
  | ⟨2, _⟩ => show win0_0.index t (2 : Fin 3) * 1024 + 1 * k.val = k.val; omega
theorem iblk1 (c : Dev nD) (t : Fin cfg0.N) (k : Fin 1024) :
    iblk m c 1 t (ix3 0 0 k) = m ((c : Thread nD τ).loc main_arg1) (ix3 (bat t) 0 k) := by
  rw [← V_main_arg1 m c]
  show V m c main_arg1 (((cfg0.win 1).blk t).view.emb (ix3 0 0 k)) = _
  obtain ⟨e0, e1, e2⟩ := idx1 t
  congr 1; funext a; apply Fin.ext
  match a with
  | ⟨0, _⟩ => show win0_1.index t (0 : Fin 3) * 1 + 1 * 0 = t.val / 4; omega
  | ⟨1, _⟩ => show win0_1.index t (1 : Fin 3) * 1 + 1 * 0 = 0; omega
  | ⟨2, _⟩ => show win0_1.index t (2 : Fin 3) * 1024 + 1 * k.val = k.val; omega
theorem iblk2 (c : Dev nD) (t : Fin cfg0.N) (k : Fin 1024) :
    iblk m c 2 t (ix3 0 0 k) = m ((c : Thread nD τ).loc main_arg2) (ix3 (bat t) 0 k) := by
  rw [← V_main_arg2 m c]
  show V m c main_arg2 (((cfg0.win 2).blk t).view.emb (ix3 0 0 k)) = _
  obtain ⟨e0, e1, e2⟩ := idx2 t
  congr 1; funext a; apply Fin.ext
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 1024 + 1 * k.val = k.val; omega
theorem iblk3 (c : Dev nD) (t : Fin cfg0.N) (k : Fin 1024) :
    iblk m c 3 t (ix3 0 0 k) = m ((c : Thread nD τ).loc main_arg3) (ix3 (bat t) 0 k) := by
  rw [← V_main_arg3 m c]
  show V m c main_arg3 (((cfg0.win 3).blk t).view.emb (ix3 0 0 k)) = _
  obtain ⟨e0, e1, e2⟩ := idx3 t
  congr 1; funext a; apply Fin.ext
  match a with
  | ⟨0, _⟩ => show win0_3.index t (0 : Fin 3) * 1 + 1 * 0 = t.val / 4; omega
  | ⟨1, _⟩ => show win0_3.index t (1 : Fin 3) * 1 + 1 * 0 = 0; omega
  | ⟨2, _⟩ => show win0_3.index t (2 : Fin 3) * 1024 + 1 * k.val = k.val; omega

/-- The weights rounded to bf16 and the layer norm's vectors as rows: what the host leaves for the launch. -/
theorem V_main_v0 (c : Dev nD) : V m c main_v0 = truncf (F := Ideal) .bf16 (m ((c : Thread nD τ).loc main_arg4)) bitsLt_bf16_f32 := by
  unfold V hostOps0
  after_results
theorem V_main_v1 (c : Dev nD) : V m c main_v1 = truncf (F := Ideal) .bf16 (m ((c : Thread nD τ).loc main_arg5)) bitsLt_bf16_f32 := by
  unfold V hostOps0
  after_results

theorem iblk4 (c : Dev nD) (t : Fin cfg0.N) (k : Fin 1024) (n : Fin 4096) :
    iblk m c 4 t (ix2 k n) = m ((c : Thread nD τ).loc main_arg4) (ix2 k n) := by
  have h : iblk m c 4 t (ix2 k n) = V m c main_v0 (ix2 k n) := by
    show V m c main_v0 (((cfg0.win 4).blk t).view.emb (ix2 k n)) = _
    obtain ⟨e0, e1⟩ := idx4 t
    congr 1; funext a; apply Fin.ext
    match a with
    | ⟨0, _⟩ => show win0_4.index t (0 : Fin 2) * 1024 + 1 * k.val = k.val; omega
    | ⟨1, _⟩ => show win0_4.index t (1 : Fin 2) * 4096 + 1 * n.val = n.val; omega
  rw [h, V_main_v0]
  pointwise

theorem iblk5 (c : Dev nD) (t : Fin cfg0.N) (k : Fin 4096) (n : Fin 1024) :
    iblk m c 5 t (ix2 k n) = m ((c : Thread nD τ).loc main_arg5) (ix2 k n) := by
  have h : iblk m c 5 t (ix2 k n) = V m c main_v1 (ix2 k n) := by
    show V m c main_v1 (((cfg0.win 5).blk t).view.emb (ix2 k n)) = _
    obtain ⟨e0, e1⟩ := idx5 t
    congr 1; funext a; apply Fin.ext
    match a with
    | ⟨0, _⟩ => show win0_5.index t (0 : Fin 2) * 4096 + 1 * k.val = k.val; omega
    | ⟨1, _⟩ => show win0_5.index t (1 : Fin 2) * 1024 + 1 * n.val = n.val; omega
  rw [h, V_main_v1]
  pointwise

theorem V_main_v2 (c : Dev nD) : V m c main_v2 = shapeCast (α := EReal) S1x1024 (m ((c : Thread nD τ).loc main_arg6)) shapeCasts_S1024_S1x1024 := by
  unfold V hostOps0
  after_results
  rfl
theorem iblk6 (c : Dev nD) (t : Fin cfg0.N) (n : Fin 1024) :
    iblk m c 6 t (ix2 0 n) = m ((c : Thread nD τ).loc main_arg6) (ix1 n) := by
  have h : iblk m c 6 t (ix2 0 n) = V m c main_v2 (ix2 0 n) := by
    show V m c main_v2 (((cfg0.win 6).blk t).view.emb (ix2 0 n)) = _
    obtain ⟨e0, e1⟩ := idx6 t
    congr 1; funext a; apply Fin.ext
    match a with
    | ⟨0, _⟩ => show win0_6.index t (0 : Fin 2) * 1 + 1 * 0 = 0; omega
    | ⟨1, _⟩ => show win0_6.index t (1 : Fin 2) * 1024 + 1 * n.val = n.val; omega
  rw [h, V_main_v2]
  pointwise

theorem V_main_v3 (c : Dev nD) : V m c main_v3 = shapeCast (α := EReal) S1x1024 (m ((c : Thread nD τ).loc main_arg7)) shapeCasts_S1024_S1x1024 := by
  unfold V hostOps0
  after_results
  rfl
theorem iblk7 (c : Dev nD) (t : Fin cfg0.N) (n : Fin 1024) :
    iblk m c 7 t (ix2 0 n) = m ((c : Thread nD τ).loc main_arg7) (ix1 n) := by
  have h : iblk m c 7 t (ix2 0 n) = V m c main_v3 (ix2 0 n) := by
    show V m c main_v3 (((cfg0.win 7).blk t).view.emb (ix2 0 n)) = _
    obtain ⟨e0, e1⟩ := idx7 t
    congr 1; funext a; apply Fin.ext
    match a with
    | ⟨0, _⟩ => show win0_7.index t (0 : Fin 2) * 1 + 1 * 0 = 0; omega
    | ⟨1, _⟩ => show win0_7.index t (1 : Fin 2) * 1024 + 1 * n.val = n.val; omega
  rw [h, V_main_v3]
  pointwise

/-- The result array: each row's layer norm. -/
def G8 (x : Vec Ideal S32x2048x1024 .f32) (sc sh g : Vec Ideal S32x1x1024 .f32) (w1 : Vec Ideal S1024x4096 .f32) (w2 : Vec Ideal S4096x1024 .f32)
    (lg lb : Vec Ideal S1024 .f32) : Vec Ideal S32x2048x1024 .f32 :=
  fun i => lnorm (mlpRow (fun k => x (ix3 (i 0) (i 1) k)) (fun k => sc (ix3 (i 0) 0 k)) (fun k => sh (ix3 (i 0) 0 k)) (fun k => g (ix3 (i 0) 0 k))
      (fun k f => w1 (ix2 k f)) (fun f k => w2 (ix2 f k))) (fun k => lg (ix1 k)) (fun k => lb (ix1 k)) (i 2)

theorem emb8 (t : Fin cfg0.N) (r : Fin 512) (n : Fin 1024) : ((cfg0.win 8).blk t).view.emb (ix3 (0 : Fin 1) r n) = ix3 (bat t) (row t r) n := by
  obtain ⟨e0, e1, e2⟩ := idx8 t
  funext a; apply Fin.ext
  match a with
  | ⟨0, _⟩ => show win0_8.index t (0 : Fin 3) * 1 + 1 * 0 = t.val / 4; omega
  | ⟨1, _⟩ => show win0_8.index t (1 : Fin 3) * 512 + 1 * r.val = t.val % 4 * 512 + r.val; omega
  | ⟨2, _⟩ => show win0_8.index t (2 : Fin 3) * 1024 + 1 * n.val = n.val; omega

/-- Every point writes back its block of the result. -/
theorem flushed8_eq (c : Dev nD) (t : Fin cfg0.N) : (dats m 0 c).flushed 8 t = ((cfg0.win 8).blk t).view.read (Elt Ideal)
    (G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.MlpIdeal.Value.flushed8]
  suffices h : ∀ j : S1x512x1024.Idx, out0_8 (F := Ideal) (iblk m c 0 t) (iblk m c 1 t) (iblk m c 2 t) (iblk m c 3 t) (iblk m c 4 t) (iblk m c 5 t) (iblk m c 6 t) (iblk m c 7 t) j
      = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb j) from funext h
  intro j
  obtain ⟨r, n, rfl⟩ := idx_unit j
  rw [emb8]
  exact (out_apply _ _ _ _ _ _ _ _ r n).trans (lnorm_congr (fun k =>
      mlpRow_congr (fun k => iblk0 m c t r k) (fun k => iblk1 m c t k) (fun k => iblk2 m c t k) (fun k => iblk3 m c t k)
        (fun k f => iblk4 m c t k f) (fun f k => iblk5 m c t f k) k)
    (fun k => iblk6 m c t k) (fun k => iblk7 m c t k) n)

/-- The point whose block holds batch entry `b` and row `r`. -/
def pt (b : Fin 32) (r : Fin 2048) : Fin cfg0.N := ⟨b.val * 4 + r.val / 512, by have := b.isLt; have := r.isLt; have := N_eq; omega⟩
theorem bat_pt (b : Fin 32) (r : Fin 2048) : bat (pt b r) = b := Fin.ext (by simp only [bat, pt]; have := r.isLt; omega)
theorem row_pt (b : Fin 32) (r : Fin 2048) : row (pt b r) ⟨r.val % 512, Nat.mod_lt _ (by decide)⟩ = r :=
  Fin.ext (by simp only [row, pt]; have := r.isLt; omega)

theorem cover8 (i : S32x2048x1024.Idx) : ∃ t : Fin cfg0.N, (cfg0.win 8).flush t = true ∧ i ∈ ((cfg0.win 8).blk t).view.set := by
  obtain ⟨b, r, n, rfl⟩ := idx_three i
  refine ⟨pt b r, flush0_8 _, ?_⟩
  have h := ((cfg0.win 8).blk (pt b r)).view.emb_mem_set (ix3 0 (⟨r.val % 512, Nat.mod_lt _ (by decide)⟩ : Fin 512) n)
  rw [emb8, bat_pt, row_pt] at h
  exact h

end Cert.Proof.Mlp

/-! ## The reference -/

namespace Cert.Proof.Mlp

open Cert.RefMlpIdeal Cert.RefMlpIdeal.Read

set_option maxHeartbeats 1000000 in
/-- The reference's row before the layer norm. -/
theorem ref_row (x : Vec Ideal Cert.MlpIdeal.S32x2048x1024 .f32) (sc sh g : Vec Ideal Cert.MlpIdeal.S32x1x1024 .f32)
    (w1 : Vec Ideal Cert.MlpIdeal.S1024x4096 .f32) (w2 : Vec Ideal Cert.MlpIdeal.S4096x1024 .f32) (b : Fin 32) (r : Fin 2048) (n : Fin 1024) :
    val_main_v15 (F := Ideal) x sc sh g w1 w2 (ix3 b r n)
      = mlpRow (fun k => x (ix3 b r k)) (fun k => sc (ix3 b 0 k)) (fun k => sh (ix3 b 0 k)) (fun k => g (ix3 b 0 k))
          (fun k f => w1 (ix2 k f)) (fun f k => w2 (ix2 f k)) n := by
  unfold val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_1 val_main_cst_0 mlpRow hid
  pointwise

/-- The reference's result at an index is the layer norm of that row. -/
theorem ref_norm (x : Vec Ideal Cert.MlpIdeal.S32x2048x1024 .f32) (sc sh g : Vec Ideal Cert.MlpIdeal.S32x1x1024 .f32)
    (w1 : Vec Ideal Cert.MlpIdeal.S1024x4096 .f32) (w2 : Vec Ideal Cert.MlpIdeal.S4096x1024 .f32) (lg lb : Vec Ideal Cert.MlpIdeal.S1024 .f32)
    (b : Fin 32) (r : Fin 2048) (n : Fin 1024) :
    val_main_v39 (F := Ideal) x sc sh g w1 w2 lg lb (ix3 b r n)
      = lnorm (fun k => val_main_v15 (F := Ideal) x sc sh g w1 w2 (ix3 b r k)) (fun k => lg (ix1 k)) (fun k => lb (ix1 k)) n := by
  unfold val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_cst_3 val_main_cst_6 val_main_cst_2 val_main_cst_5 val_main_cst_4 lnorm
  generalize val_main_v15 (F := Ideal) x sc sh g w1 w2 = h
  pointwise

theorem ref8 (x : Vec Ideal Cert.MlpIdeal.S32x2048x1024 .f32) (sc sh g : Vec Ideal Cert.MlpIdeal.S32x1x1024 .f32)
    (w1 : Vec Ideal Cert.MlpIdeal.S1024x4096 .f32) (w2 : Vec Ideal Cert.MlpIdeal.S4096x1024 .f32) (lg lb : Vec Ideal Cert.MlpIdeal.S1024 .f32) :
    val_main_v39 (F := Ideal) x sc sh g w1 w2 lg lb = G8 x sc sh g w1 w2 lg lb := by
  funext i
  obtain ⟨b, r, n, rfl⟩ := idx_three i
  exact (ref_norm x sc sh g w1 w2 lg lb b r n).trans
    (lnorm_congr (fun k => ref_row x sc sh g w1 w2 b r k) (fun _ => rfl) (fun _ => rfl) n)

/-- Both programs run, from equal arguments, to equal results. -/
theorem algebraic : Cert.algebraic_MlpIdeal_RefMlpIdeal (hMlpIdeal := Cert.MlpIdeal.Gen.facts) (hRefMlpIdeal := Cert.RefMlpIdeal.Gen.facts) := by
  intro m g m' g' _ hargs
  refine ⟨fun c => G8 (m ((c.tc : Thread _ _).loc Cert.MlpIdeal.main_arg0)) (m ((c.tc : Thread _ _).loc Cert.MlpIdeal.main_arg1)) (m ((c.tc : Thread _ _).loc Cert.MlpIdeal.main_arg2)) (m ((c.tc : Thread _ _).loc Cert.MlpIdeal.main_arg3)) (m ((c.tc : Thread _ _).loc Cert.MlpIdeal.main_arg4)) (m ((c.tc : Thread _ _).loc Cert.MlpIdeal.main_arg5)) (m ((c.tc : Thread _ _).loc Cert.MlpIdeal.main_arg6)) (m ((c.tc : Thread _ _).loc Cert.MlpIdeal.main_arg7)), ?_, ?_⟩
  · refine (θ_run (Cert.MlpIdeal.defs (F := Ideal)) _ _).mono (fun r h c => ?_) (Cert.MlpIdeal.Value.run_blocks (F := Ideal) m g)
    obtain ⟨h8, hk⟩ := h c
    exact ⟨h8.trans ((Cert.MlpIdeal.Gen.dats m 0 c).arrAt_eq_of_cover 8 _ (fun t _ => flushed8_eq m c t) cover8), hk⟩
  · refine (θ_run (Cert.RefMlpIdeal.defs (F := Ideal)) _ _).mono (fun r h c => ?_) (Cert.RefMlpIdeal.Value.run (F := Ideal) m' g')
    obtain ⟨h39, hk⟩ := h c
    obtain ⟨a0, a1, a2, a3, a4, a5, a6, a7⟩ := hargs c
    refine ⟨h39.trans ?_, hk⟩
    rw [val_main_v39_eq, ref8, a0, a1, a2, a3, a4, a5, a6, a7]

end Cert.Proof.Mlp
end
-- ==== Proof.AttnMath.lean ====
/-
  One row of attention with a sink, as a function of its scores. A query attends to 2048 positions of which all but a window are
  masked, and to 256 context positions that are never masked. The weights are `exp (score − m)` over their sum plus
  `exp (sink − m)`, where `m` is the largest of the scores and the sink.

  Two ways to compute it are shown equal for real scores:
  * over all 2048 positions, each weight divided before it multiplies its value;
  * over a span of 384 positions that holds the window, the sum divided once at the end.
-/
module

public import Idealize.ShloMosaic.Lib.Pointwise
public import Idealize.ShloMosaic.Lib.FinSumWindow

@[expose] public section

noncomputable section

open Idealize.ShloMosaic

namespace Cert.Proof.Attn

/-- All scores of a row: the 2048 positions first, then the 256 context positions. -/
def joined (sl : Fin 2048 → EReal) (sc : Fin 256 → EReal) (x : Fin 2304) : EReal :=
  if h : x.val < 2048 then sl ⟨x.val, h⟩ else sc ⟨x.val - 2048, by omega⟩

/-- The largest score or the sink, over all positions. -/
def top (sl : Fin 2048 → EReal) (sc : Fin 256 → EReal) (t : EReal) : EReal :=
  max (Finset.fold max ⊥ (joined sl sc) Finset.univ) t

/-- The sum of the weights over all positions and the sink's. -/
def total (sl : Fin 2048 → EReal) (sc : Fin 256 → EReal) (t : EReal) : EReal :=
  ∑ x : Fin 2304, Ideal.exp (joined sl sc x - top sl sc t) + Ideal.exp (t - top sl sc t)

/-- The row's result over all positions, each weight divided by the total. -/
def attend (sl : Fin 2048 → EReal) (sc : Fin 256 → EReal) (t : EReal) (v : Fin 2048 → EReal) (vc : Fin 256 → EReal) : EReal :=
  ∑ k, v k * Ideal.div (Ideal.exp (sl k - top sl sc t)) (total sl sc t)
    + ∑ c, vc c * Ideal.div (Ideal.exp (sc c - top sl sc t)) (total sl sc t)

/-- The largest score or the sink, over the context and a span. -/
def topSpan (ss : Fin 384 → EReal) (sc : Fin 256 → EReal) (t : EReal) : EReal :=
  max (max (Finset.fold max ⊥ sc Finset.univ) t) (Finset.fold max ⊥ ss Finset.univ)

/-- The weighted sum of values over the context and a span, not yet divided. -/
def accSpan (ss : Fin 384 → EReal) (sc : Fin 256 → EReal) (t : EReal) (vs : Fin 384 → EReal) (vc : Fin 256 → EReal) : EReal :=
  ∑ c, Ideal.exp (sc c - topSpan ss sc t) * vc c + ∑ j, Ideal.exp (ss j - topSpan ss sc t) * vs j

/-- The row's result over the context and a span, divided once by the total (the weighted sum of ones, and the sink's weight). -/
def attendSpan (ss : Fin 384 → EReal) (sc : Fin 256 → EReal) (t : EReal) (vs : Fin 384 → EReal) (vc : Fin 256 → EReal) : EReal :=
  Ideal.div (accSpan ss sc t vs vc) (accSpan ss sc t (fun _ => 1) (fun _ => 1) + Ideal.exp (t - topSpan ss sc t))

theorem fold_max_eq_sup {n : Nat} (f : Fin n → EReal) : Finset.fold max ⊥ f Finset.univ = Finset.univ.sup f := rfl

theorem joined_lo (sl : Fin 2048 → EReal) (sc : Fin 256 → EReal) (k : Fin 2048) : joined sl sc ⟨k.val, by omega⟩ = sl k :=
  dif_pos k.isLt
theorem joined_hi (sl : Fin 2048 → EReal) (sc : Fin 256 → EReal) (c : Fin 256) : joined sl sc ⟨2048 + c.val, by omega⟩ = sc c := by
  unfold joined
  rw [dif_neg (by simp)]
  exact congrArg sc (Fin.ext (by simp))

theorem forall_joined {P : EReal → Prop} (sl : Fin 2048 → EReal) (sc : Fin 256 → EReal) :
    (∀ x, P (joined sl sc x)) ↔ (∀ k, P (sl k)) ∧ (∀ c, P (sc c)) := by
  constructor
  · intro h
    exact ⟨fun k => joined_lo sl sc k ▸ h _, fun c => joined_hi sl sc c ▸ h _⟩
  · rintro ⟨h1, h2⟩ x
    unfold joined
    split
    · exact h1 _
    · exact h2 _

theorem sum_joined {M : Type} [AddCommMonoid M] (g : EReal → M) (sl : Fin 2048 → EReal) (sc : Fin 256 → EReal) :
    ∑ x : Fin 2304, g (joined sl sc x) = ∑ k, g (sl k) + ∑ c, g (sc c) := by
  refine (Fin.sum_univ_add (a := 2048) (b := 256) (fun x : Fin 2304 => g (joined sl sc x))).trans ?_
  exact congrArg₂ (· + ·) (Finset.sum_congr rfl fun k _ => congrArg g (joined_lo sl sc k))
    (Finset.sum_congr rfl fun c _ => congrArg g (joined_hi sl sc c))

/-- Position `j` of the span that begins at `k0`. -/
def at' (k0 : Nat) (h : k0 + 384 ≤ 2048) (j : Fin 384) : Fin 2048 := ⟨k0 + j.val, by omega⟩

section
variable (sl : Fin 2048 → EReal) (sc : Fin 256 → EReal) (t : EReal) (k0 : Nat) (h : k0 + 384 ≤ 2048)

/-- The largest score does not need the positions outside the span, which are masked. -/
theorem top_eq (hout : ∀ k : Fin 2048, ¬ (k0 ≤ k.val ∧ k.val < k0 + 384) → sl k = ⊥) :
    topSpan (fun j => sl (at' k0 h j)) sc t = top sl sc t := by
  refine eq_of_forall_ge_iff fun y => ?_
  unfold topSpan top
  rw [fold_max_eq_sup, fold_max_eq_sup, fold_max_eq_sup]
  simp only [max_le_iff, Finset.sup_le_iff, Finset.mem_univ, true_implies]
  rw [forall_joined (P := fun z => z ≤ y)]
  constructor
  · rintro ⟨⟨h1, h2⟩, h3⟩
    refine ⟨⟨fun k => ?_, h1⟩, h2⟩
    by_cases hk : k0 ≤ k.val ∧ k.val < k0 + 384
    · have := h3 ⟨k.val - k0, by omega⟩
      rwa [show at' k0 h ⟨k.val - k0, by omega⟩ = k from Fin.ext (by simp only [at']; omega)] at this
    · rw [hout k hk]; exact bot_le
  · rintro ⟨⟨h1, h2⟩, h3⟩
    exact ⟨⟨h2, h3⟩, fun j => h1 _⟩

/-- The largest score is a real number when the sink is and no score is `+∞`. -/
theorem top_real (τ : ℝ) (ht : t = τ) (h1 : ∀ k, sl k ≠ ⊤) (h2 : ∀ c, sc c ≠ ⊤) : ∃ μ : ℝ, top sl sc t = μ := by
  have hb : top sl sc t ≠ ⊥ := fun e => by
    have : t ≤ top sl sc t := le_max_right _ _
    rw [e, ht] at this
    exact absurd (le_bot_iff.mp this) (EReal.coe_ne_bot τ)
  have ht' : top sl sc t ≠ ⊤ := by
    refine ne_of_lt ?_
    unfold top
    rw [fold_max_eq_sup]
    refine max_lt ((Finset.sup_lt_iff (by exact bot_lt_top)).mpr fun x _ => ?_) (by rw [ht]; exact EReal.coe_lt_top τ)
    exact (forall_joined (P := fun z => z < ⊤) sl sc).mpr ⟨fun k => lt_top_iff_ne_top.mpr (h1 k), fun c => lt_top_iff_ne_top.mpr (h2 c)⟩ x
  exact ⟨(top sl sc t).toReal, (EReal.coe_toReal ht' hb).symm⟩

theorem sum_at (f : Fin 2048 → EReal) (hout : ∀ k : Fin 2048, ¬ (k0 ≤ k.val ∧ k.val < k0 + 384) → f k = 0) :
    ∑ j, f (at' k0 h j) = ∑ k, f k :=
  (FinSumWindow.sum_window k0 h f hout).symm

/-- The two computations agree on real values and sink, for scores that are real or masked, masked outside the span. -/
theorem attend_eq (τ : ℝ) (ht : t = τ) (v : Fin 2048 → EReal) (vc : Fin 256 → EReal) (u : Fin 2048 → ℝ) (w : Fin 256 → ℝ)
    (hv : ∀ k, v k = u k) (hw : ∀ c, vc c = w c) (b : Fin 256 → ℝ) (hb : ∀ c, sc c = b c)
    (h1 : ∀ k, sl k = ⊥ ∨ ∃ a : ℝ, sl k = a)
    (hout : ∀ k : Fin 2048, ¬ (k0 ≤ k.val ∧ k.val < k0 + 384) → sl k = ⊥) :
    attendSpan (fun j => sl (at' k0 h j)) sc t (fun j => v (at' k0 h j)) vc = attend sl sc t v vc := by
  obtain ⟨μ, hμ⟩ := top_real sl sc t τ ht
    (fun k => by rcases h1 k with e | ⟨a, e⟩ <;> rw [e]; exacts [bot_ne_top, EReal.coe_ne_top a])
    (fun c => by rw [hb]; exact EReal.coe_ne_top _)
  -- the weights as real numbers
  have hE : ∀ k, ∃ e : ℝ, 0 ≤ e ∧ Ideal.exp (sl k - (μ : EReal)) = e := fun k => by
    rcases h1 k with e | ⟨a, e⟩
    · refine ⟨0, le_refl _, ?_⟩
      rw [e, EReal.bot_sub, Ideal.exp_bot]; rfl
    · exact ⟨Real.exp (a - μ), (Real.exp_pos _).le, by rw [e, ← EReal.coe_sub, Ideal.exp_coe]⟩
  choose E hE0 hE using hE
  have hC : ∀ c, Ideal.exp (sc c - (μ : EReal)) = (Real.exp (b c - μ) : ℝ) := fun c => by
    rw [hb, ← EReal.coe_sub, Ideal.exp_coe]
  have hT : Ideal.exp (t - (μ : EReal)) = (Real.exp (τ - μ) : ℝ) := by rw [ht, ← EReal.coe_sub, Ideal.exp_coe]
  have hz : ∀ k : Fin 2048, ¬ (k0 ≤ k.val ∧ k.val < k0 + 384) → Ideal.exp (sl k - (μ : EReal)) = 0 := fun k hk => by
    rw [hout k hk, EReal.bot_sub, Ideal.exp_bot]
  have sumcoe : ∀ {n : Nat} (f : Fin n → ℝ), ∑ i, ((f i : ℝ) : EReal) = ((∑ i, f i : ℝ) : EReal) := fun f =>
    (map_sum (⟨⟨Real.toEReal, rfl⟩, fun a b => EReal.coe_add a b⟩ : ℝ →+ EReal) f Finset.univ).symm
  have hD : (0 : ℝ) < ∑ c, Real.exp (b c - μ) + ∑ k, E k + Real.exp (τ - μ) := by
    have := Real.exp_pos (τ - μ)
    have h1 : 0 ≤ ∑ c, Real.exp (b c - μ) := Finset.sum_nonneg fun c _ => (Real.exp_pos _).le
    have h2 : 0 ≤ ∑ k, E k := Finset.sum_nonneg fun k _ => hE0 k
    linarith
  have htot : total sl sc t = ((∑ c, Real.exp (b c - μ) + ∑ k, E k + Real.exp (τ - μ) : ℝ) : EReal) := by
    unfold total
    rw [hμ, sum_joined (fun z => Ideal.exp (z - (μ : EReal))), hT, Finset.sum_congr rfl (fun k _ => hE k), Finset.sum_congr rfl (fun c _ => hC c),
      sumcoe, sumcoe, ← EReal.coe_add, ← EReal.coe_add, add_comm (∑ k, E k)]
  have hnum : accSpan (fun j => sl (at' k0 h j)) sc t (fun j => v (at' k0 h j)) vc
      = ((∑ c, Real.exp (b c - μ) * w c + ∑ k, E k * u k : ℝ) : EReal) := by
    unfold accSpan
    rw [top_eq sl sc t k0 h hout, hμ, sum_at k0 h (fun k => Ideal.exp (sl k - (μ : EReal)) * v k) (fun k hk => by rw [hz k hk, zero_mul]),
      Finset.sum_congr rfl (fun k _ => by rw [hE k, hv k, ← EReal.coe_mul] : ∀ k ∈ Finset.univ, _ = ((E k * u k : ℝ) : EReal)),
      Finset.sum_congr rfl (fun c _ => by rw [hC c, hw c, ← EReal.coe_mul] : ∀ c ∈ Finset.univ, _ = ((Real.exp (b c - μ) * w c : ℝ) : EReal)),
      sumcoe, sumcoe, ← EReal.coe_add]
  have hden : accSpan (fun j => sl (at' k0 h j)) sc t (fun _ => 1) (fun _ => 1) + Ideal.exp (t - topSpan (fun j => sl (at' k0 h j)) sc t)
      = ((∑ c, Real.exp (b c - μ) + ∑ k, E k + Real.exp (τ - μ) : ℝ) : EReal) := by
    unfold accSpan
    rw [top_eq sl sc t k0 h hout, hμ, hT]
    simp only [mul_one]
    rw [sum_at k0 h (fun k => Ideal.exp (sl k - (μ : EReal))) hz, Finset.sum_congr rfl (fun k _ => hE k), Finset.sum_congr rfl (fun c _ => hC c),
      sumcoe, sumcoe, ← EReal.coe_add, ← EReal.coe_add]
  unfold attendSpan attend
  rw [hnum, hden, htot, hμ]
  simp only [Ideal.div_coe hD.ne', hE, hC, hv, hw, ← EReal.coe_mul, sumcoe, ← EReal.coe_add]
  refine congrArg _ ?_
  rw [add_mul, Finset.sum_mul, Finset.sum_mul, add_comm]
  congr 1 <;> exact Finset.sum_congr rfl fun i _ => by ring

end

/-- Scaling the query before the product is scaling the score after it, for real numbers. -/
theorem score_eq {n : Nat} (q k : Fin n → ℝ) (s : ℝ) :
    ∑ d, (q d : EReal) * (s : EReal) * (k d : EReal) = (∑ d, (k d : EReal) * (q d : EReal)) * (s : EReal) := by
  have sumcoe : ∀ (f : Fin n → ℝ), ∑ i, ((f i : ℝ) : EReal) = ((∑ i, f i : ℝ) : EReal) := fun f =>
    (map_sum (⟨⟨Real.toEReal, rfl⟩, fun a b => EReal.coe_add a b⟩ : ℝ →+ EReal) f Finset.univ).symm
  simp only [← EReal.coe_mul, sumcoe]
  refine congrArg _ ?_
  rw [Finset.sum_mul]
  exact Finset.sum_congr rfl fun i _ => by ring

end Cert.Proof.Attn
end
-- ==== Proof.AttnBody.lean ====
/-
  The body of the attention kernel, read at an index. Heads are taken two at a time: the lanes of a head pair are `64·h + d`, and
  the rows of the two heads are stacked, `128·h + r`, with zeros in the other head's lanes. The key and value lanes of a head group
  are copied to both halves (the values beside a half of ones, so that one product gives the weighted sum and the total).
-/
module

public import proofs.«01_k».proof.Proof.Gen.KernelIdeal.Value
public import proofs.«01_k».proof.Proof.Common
public import proofs.«01_k».proof.Proof.AttnMath

@[expose] public section

set_option maxRecDepth 16384

noncomputable section

open Idealize.ShloMosaic Idealize.ShloMosaic.TcCoe

namespace Cert.Proof.Attn

open Cert.KernelIdeal Cert.KernelIdeal.Gen

/-- Lane `d` of half `h`. -/
def ln (h : Fin 2) (d : Fin 64) : Fin 128 := ⟨64 * h.val + d.val, by omega⟩
/-- Row `r` of the stacked rows of head `h` of a pair. -/
def st (h : Fin 2) (r : Fin 128) : Fin 256 := ⟨128 * h.val + r.val, by omega⟩

/-- The entry a rotation pairs with entry `d`: the other half of the same 32 entries. -/
def partner (d : Fin 64) : Fin 64 := if h : d.val % 32 < 16 then ⟨d.val + 16, by omega⟩ else ⟨d.val - 16, by omega⟩

/-- A head's entries rotated by position: `c` are the cosines, `s` the sines with the sign of the partner's term. -/
def rope (x c s : Fin 64 → EReal) (d : Fin 64) : EReal := x d * c d + x (partner d) * s d

theorem low_lo (d : Fin 64) : k0_pay3 (ix2 0 (ln 0 d)) = 1#1 := by
  unfold k0_pay3
  pointwise
  revert d; decide
theorem low_hi (d : Fin 64) : k0_pay3 (ix2 0 (ln 1 d)) = 0#1 := by
  unfold k0_pay3
  pointwise
  revert d; decide
theorem fq_apply (h : Fin 2) (d : Fin 64) : k0_pay8 (ix2 0 (ln h d)) = if d.val % 32 < 16 then 1#1 else 0#1 := by
  unfold k0_pay8
  pointwise
  revert h d; decide

theorem rot_lo (d : Fin 64) (h : ((ln 0 d).val + 128 - 64) % 128 < 128) : (⟨((ln 0 d).val + 128 - 64) % 128, h⟩ : Fin 128) = ln 1 d :=
  Fin.ext (by simp only [ln]; omega)
theorem rot_back (d : Fin 64) (h : (((ln 1 d).val + 128 - 64) % 128 + 128 - 64) % 128 < 128) :
    (⟨(((ln 1 d).val + 128 - 64) % 128 + 128 - 64) % 128, h⟩ : Fin 128) = ln 1 d :=
  Fin.ext (by simp only [ln]; omega)
theorem rot_hi (d : Fin 64) (h : ((ln 1 d).val + 128 - 64) % 128 < 128) : (⟨((ln 1 d).val + 128 - 64) % 128, h⟩ : Fin 128) = ln 0 d :=
  Fin.ext (by simp only [ln]; omega)

section dup
variable (k : FVec Ideal S384x128 .f32) (kc v7 : FVec Ideal S256x128 .f32) (i : Fin 384) (c : Fin 256) (h : Fin 2) (d : Fin 64)

theorem dupk0 : k0_pay45 k0_pay3 k (ix2 i (ln h d)) = k (ix2 i (ln 0 d)) := by
  have a := low_lo; have b := low_hi
  generalize k0_pay3 = m at *
  unfold k0_pay45
  fin_cases h
  · pointwise; simp only [a, ValueIdx.select_one, Fin.zero_eta]
  · pointwise; simp only [b, ValueIdx.select_zero, Fin.mk_one, rot_hi]
theorem dupk1 : k0_pay46 k0_pay3 k (ix2 i (ln h d)) = k (ix2 i (ln 1 d)) := by
  have a := low_lo; have b := low_hi
  generalize k0_pay3 = m at *
  unfold k0_pay46
  fin_cases h
  · pointwise; simp only [a, ValueIdx.select_one, Fin.zero_eta, rot_lo]
  · pointwise; simp only [b, ValueIdx.select_zero, Fin.mk_one]
theorem dupc0 : k0_pay32 k0_pay3 kc (ix2 c (ln h d)) = kc (ix2 c (ln 0 d)) := by
  have a := low_lo; have b := low_hi
  generalize k0_pay3 = m at *
  unfold k0_pay32
  fin_cases h
  · pointwise; simp only [a, ValueIdx.select_one, Fin.zero_eta]
  · pointwise; simp only [b, ValueIdx.select_zero, Fin.mk_one, rot_hi]
theorem dupc1 : k0_pay34 k0_pay3 kc (k0_pay33 kc) (ix2 c (ln h d)) = kc (ix2 c (ln 1 d)) := by
  have a := low_lo; have b := low_hi
  generalize k0_pay3 = m at *
  unfold k0_pay34 k0_pay33
  fin_cases h
  · pointwise; simp only [a, ValueIdx.select_one, Fin.zero_eta, rot_lo]
  · pointwise; simp only [b, ValueIdx.select_zero, Fin.mk_one]

theorem one_lit : Ideal.ofBits .f32 0x3F800000#32 = 1 := by
  simp [Ideal.ofBits, Ideal.ieee, -EReal.coe_mul]; norm_num

theorem onek0_lo : k0_pay48 k (Scalar.ofBits (F := Ideal) .f32 0x3F800000#32) (k0_pay47 k0_pay3) (ix2 i (ln 0 d)) = k (ix2 i (ln 0 d)) := by
  have a := low_lo
  generalize k0_pay3 = m at *
  unfold k0_pay48 k0_pay47
  pointwise; simp only [a, ValueIdx.select_one]
theorem onek0_hi : k0_pay48 k (Scalar.ofBits (F := Ideal) .f32 0x3F800000#32) (k0_pay47 k0_pay3) (ix2 i (ln 1 d)) = 1 := by
  have b := low_hi
  generalize k0_pay3 = m at *
  unfold k0_pay48 k0_pay47
  pointwise; simp only [b, ValueIdx.select_zero]
theorem onek1_lo : k0_pay49 k0_pay3 k (ix2 i (ln 0 d)) = k (ix2 i (ln 1 d)) := by
  have a := low_lo
  generalize k0_pay3 = m at *
  unfold k0_pay49
  pointwise; simp only [a, ValueIdx.select_one, rot_lo]
theorem onek1_hi : k0_pay49 k0_pay3 k (ix2 i (ln 1 d)) = 1 := by
  have b := low_hi
  generalize k0_pay3 = m at *
  unfold k0_pay49
  pointwise; simp only [b, ValueIdx.select_zero]
theorem onec0_lo : k0_pay35 k0_pay3 kc (ix2 c (ln 0 d)) = kc (ix2 c (ln 0 d)) := by
  have a := low_lo
  generalize k0_pay3 = m at *
  unfold k0_pay35
  pointwise; simp only [a, ValueIdx.select_one]
theorem onec0_hi : k0_pay35 k0_pay3 kc (ix2 c (ln 1 d)) = 1 := by
  have b := low_hi
  generalize k0_pay3 = m at *
  unfold k0_pay35
  pointwise; simp only [b, ValueIdx.select_zero]
theorem onec1_lo : k0_pay36 k0_pay3 kc (ix2 c (ln 0 d)) = kc (ix2 c (ln 1 d)) := by
  have a := low_lo
  generalize k0_pay3 = m at *
  unfold k0_pay36
  pointwise; simp only [a, ValueIdx.select_one, rot_lo]
theorem onec1_hi : k0_pay36 k0_pay3 kc (ix2 c (ln 1 d)) = 1 := by
  have b := low_hi
  generalize k0_pay3 = m at *
  unfold k0_pay36
  pointwise; simp only [b, ValueIdx.select_zero]
end dup

/-! ## One pair of heads -/

/-- The queries of a pair: rotated, scaled, and stacked with zeros in the other head's lanes. -/
def pairQ (x c s : FVec Ideal S128x128 .f32) : FVec Ideal S256x128 .f32 := k0_pay22 k0_pay3 k0_pay8 c s x

theorem rot16 (h : Fin 2) (d : Fin 64) (e : d.val % 32 < 16) (w : ((ln h d).val + 128 - 112) % 128 < 128) :
    (⟨((ln h d).val + 128 - 112) % 128, w⟩ : Fin 128) = ln h (partner d) := by
  unfold partner
  rw [dif_pos e]
  exact Fin.ext (by simp only [ln]; omega)
theorem rot112 (h : Fin 2) (d : Fin 64) (e : ¬ d.val % 32 < 16) (w : ((ln h d).val + 128 - 16) % 128 < 128) :
    (⟨((ln h d).val + 128 - 16) % 128, w⟩ : Fin 128) = ln h (partner d) := by
  unfold partner
  rw [dif_neg e]
  exact Fin.ext (by simp only [ln]; omega)

theorem st_lo (r : Fin 128) : (st 0 r).val < 128 := by simp only [st]; omega
theorem st_hi (r : Fin 128) : ¬ (st 1 r).val < 128 := by simp only [st]; omega
theorem st_lo_eq (r : Fin 128) (w : (st 0 r).val < 128) : (⟨(st 0 r).val, w⟩ : Fin 128) = r := Fin.ext (by simp [st])
theorem st_hi_eq (r : Fin 128) (w : (st 1 r).val - 128 < 128) : (⟨(st 1 r).val - 128, w⟩ : Fin 128) = r := Fin.ext (by simp [st])

/-- The lanes of a head hold its rotated and scaled entries. -/
theorem pairQ_on (x c s : FVec Ideal S128x128 .f32) (h : Fin 2) (r : Fin 128) (d : Fin 64) :
    pairQ x c s (ix2 (st h r) (ln h d))
      = rope (fun d => x (ix2 r (ln h d))) (fun d => c (ix2 r (ln h d))) (fun d => s (ix2 r (ln h d))) d * Ideal.ofBits .f32 0x3E000000#32 := by
  have a := low_lo; have b := low_hi; have f := fq_apply
  unfold pairQ rope
  generalize k0_pay3 = m at *
  generalize k0_pay8 = m' at *
  unfold k0_pay22
  pointwise
  by_cases e : d.val % 32 < 16
  · fin_cases h
    · simp only [Fin.zero_eta, dif_pos (st_lo r), a, f, if_pos e, ValueIdx.select_one, rot16 _ d e, st_lo_eq]
    · simp only [Fin.mk_one, dif_neg (st_hi r), b, f, if_pos e, ValueIdx.select_one, ValueIdx.select_zero, rot16 _ d e, st_hi_eq]
  · fin_cases h
    · simp only [Fin.zero_eta, dif_pos (st_lo r), a, f, if_neg e, ValueIdx.select_one, ValueIdx.select_zero, rot112 _ d e, st_lo_eq]
    · simp only [Fin.mk_one, dif_neg (st_hi r), b, f, if_neg e, ValueIdx.select_zero, rot112 _ d e, st_hi_eq]

theorem pairQ_off0 (x c s : FVec Ideal S128x128 .f32) (r : Fin 128) (d : Fin 64) : pairQ x c s (ix2 (st 0 r) (ln 1 d)) = 0 := by
  have b := low_hi
  unfold pairQ
  generalize k0_pay3 = m at *
  generalize k0_pay8 = m' at *
  unfold k0_pay22
  pointwise
  simp only [dif_pos (st_lo r), b, ValueIdx.select_zero]
theorem pairQ_off1 (x c s : FVec Ideal S128x128 .f32) (r : Fin 128) (d : Fin 64) : pairQ x c s (ix2 (st 1 r) (ln 0 d)) = 0 := by
  have a := low_lo
  unfold pairQ
  generalize k0_pay3 = m at *
  generalize k0_pay8 = m' at *
  unfold k0_pay22
  pointwise
  simp only [dif_neg (st_hi r), a, ValueIdx.select_one]

/-- A sum over the lanes is the sum over the two halves. -/
theorem sum_lanes (f : Fin 128 → EReal) : ∑ l, f l = ∑ d, f (ln 0 d) + ∑ d, f (ln 1 d) := by
  refine (Fin.sum_univ_add (a := 64) (b := 64) f).trans ?_
  exact congrArg₂ (· + ·) (Finset.sum_congr rfl fun d _ => congrArg f (Fin.ext (by simp [ln])))
    (Finset.sum_congr rfl fun d _ => congrArg f (Fin.ext (by simp only [ln, Fin.val_natAdd]; omega)))

/-- A head's stacked row against lanes that hold the same key in both halves: the sum over the head's own lanes. -/
theorem pairQ_dot (x c s : FVec Ideal S128x128 .f32) (h : Fin 2) (r : Fin 128) (k : Fin 128 → EReal) (k' : Fin 64 → EReal)
    (hk : ∀ h d, k (ln h d) = k' d) :
    ∑ l, pairQ x c s (ix2 (st h r) l) * k l
      = ∑ d, rope (fun d => x (ix2 r (ln h d))) (fun d => c (ix2 r (ln h d))) (fun d => s (ix2 r (ln h d))) d * Ideal.ofBits .f32 0x3E000000#32 * k' d := by
  rw [sum_lanes]
  fin_cases h
  · simp only [Fin.zero_eta, pairQ_off0, zero_mul, Finset.sum_const_zero, add_zero, hk]
    exact Finset.sum_congr rfl fun d _ => congrArg (· * _) (pairQ_on x c s 0 r d)
  · simp only [Fin.mk_one, pairQ_off1, zero_mul, Finset.sum_const_zero, zero_add, hk]
    exact Finset.sum_congr rfl fun d _ => congrArg (· * _) (pairQ_on x c s 1 r d)

section pair
variable (ok : IVec S256x384 1) (Q : FVec Ideal S256x128 .f32) (K : FVec Ideal S384x128 .f32) (V : FVec Ideal S384x128 .f32)
    (kc vc : FVec Ideal S256x128 .f32) (sk : FVec Ideal S256x1 .f32)

/-- The pair's masked scores over the span, its largest scores, its weighted sums, and the block it stores. -/
def pairS : FVec Ideal S256x384 .f32 := k0_pay51 ok Q K
def pairM : FVec Ideal S256x1 .f32 := k0_pay55 ok Q (k0_pay42 Q sk kc) K
def pairAcc : FVec Ideal S256x128 .f32 := k0_pay60 vc (k0_pay38 Q kc) V (pairS ok Q K) (pairM ok Q K kc sk)
def pairOut : FVec Ideal S1x128x128 .f32 := k0_pay66 k0_pay3 sk (pairM ok Q K kc sk) (pairAcc ok Q K V kc vc sk) 64#32

theorem bot_lit : Ideal.ofBits .f32 0xFF800000#32 = ⊥ := by
  simp [Ideal.ofBits, Ideal.ieee, -EReal.coe_mul]

variable (p : Fin 256)

/-- The scores of a stacked row over the span and over the context. -/
def rowS (k : Fin 384) : EReal := Scalar.select (ok (ix2 p k)) (∑ l, Q (ix2 p l) * K (ix2 k l)) ⊥
def rowC (c : Fin 256) : EReal := ∑ l, Q (ix2 p l) * kc (ix2 c l)

theorem pairS_apply (k : Fin 384) : pairS ok Q K (ix2 p k) = rowS ok Q K p k := by
  unfold pairS rowS k0_pay51
  rw [← bot_lit]
  pointwise
theorem pairC_apply (c : Fin 256) : k0_pay38 Q kc (ix2 p c) = rowC Q kc p c := by
  unfold rowC k0_pay38
  pointwise
theorem pairM_apply (z : Fin 1) : pairM ok Q K kc sk (ix2 p z) = topSpan (rowS ok Q K p) (rowC Q kc p) (sk (ix2 p z)) := by
  have e1 := pairS_apply ok Q K p
  have e2 := pairC_apply Q kc p
  rw [Subsingleton.elim z 0]
  unfold topSpan
  rw [← (funext e1 : (fun k => pairS ok Q K (ix2 p k)) = rowS ok Q K p), ← (funext e2 : (fun c => k0_pay38 Q kc (ix2 p c)) = rowC Q kc p), ← bot_lit]
  unfold pairM k0_pay55 k0_pay42 pairS
  generalize k0_pay51 ok Q K = S
  generalize k0_pay38 Q kc = C
  pointwise

theorem pairAcc_apply (l : Fin 128) : pairAcc ok Q K V kc vc sk (ix2 p l)
    = accSpan (rowS ok Q K p) (rowC Q kc p) (sk (ix2 p 0)) (fun k => V (ix2 k l)) (fun c => vc (ix2 c l)) := by
  have e1 := pairS_apply ok Q K p
  have e2 := pairC_apply Q kc p
  have e3 := pairM_apply ok Q K kc sk p 0
  unfold accSpan
  simp only [← e1, ← e2, ← e3]
  unfold pairAcc k0_pay60
  generalize pairS ok Q K = S
  generalize k0_pay38 Q kc = C
  generalize pairM ok Q K kc sk = M
  pointwise

/-- The block a pair stores: in the lanes of head `h`, the row's attention. -/
theorem pairOut_apply (h : Fin 2) (r : Fin 128) (d : Fin 64) (hV : ∀ k, V (ix2 k (ln 1 d)) = 1) (hvc : ∀ c, vc (ix2 c (ln 1 d)) = 1) :
    pairOut ok Q K V kc vc sk (ix3 0 r (ln h d))
      = attendSpan (rowS ok Q K (st h r)) (rowC Q kc (st h r)) (sk (ix2 (st h r) 0)) (fun k => V (ix2 k (ln 0 d))) (fun c => vc (ix2 c (ln 0 d))) := by
  have e1 := pairAcc_apply ok Q K V kc vc sk (st h r) (ln 0 d)
  have e2 := pairAcc_apply ok Q K V kc vc sk (st h r) (ln 1 d)
  have e3 := pairM_apply ok Q K kc sk (st h r) 0
  simp only [hV, hvc] at e2
  unfold attendSpan
  rw [← e1, ← e2, ← e3]
  have a := low_lo; have b := low_hi
  unfold pairOut
  generalize k0_pay3 = m at *
  generalize pairAcc ok Q K V kc vc sk = A
  generalize pairM ok Q K kc sk = M
  unfold k0_pay66
  have s0 : ∀ w, (⟨r.val, w⟩ : Fin 256) = st 0 r := fun w => Fin.ext (by simp [st])
  have s1 : ∀ w, (⟨128 + r.val, w⟩ : Fin 256) = st 1 r := fun w => Fin.ext (by simp [st])
  fin_cases h
  · pointwise
    simp only [Fin.zero_eta, a, ValueIdx.select_one, rot_lo, s0]
  · pointwise
    simp only [Fin.mk_one, b, ValueIdx.select_zero, rot_hi, rot_back, s1]
end pair

end Cert.Proof.Attn
end
-- ==== Proof.AttnHost.lean ====
/-
  The arrays that the attention kernel's host prepares: the cosines and signed sines of the rotary angles, tiled twice, and the
  sink words spread over the lanes. The angles are the ones the reference computes.
-/
module

public import proofs.«01_k».proof.Proof.AttnBody
public import proofs.«01_k».proof.Proof.Gen.KernelIdeal.Value
public import proofs.«01_k».proof.Proof.Gen.ReferenceIdeal.Read

@[expose] public section

set_option maxRecDepth 16384

noncomputable section

open Idealize.ShloMosaic Idealize.ShloMosaic.TcCoe Idealize.ShloMosaic.Tactic

namespace Cert.Proof.Attn

open Cert.KernelIdeal Cert.KernelIdeal.Gen

variable (m : (ℓ : Loc nD τ sig) → Buf (Elt Ideal) ℓ)

/-- The angle of row `r` and frequency `f`, from the grid row and from the grid column. -/
def rowAng : FVec Ideal S2048x16 .f32 := Cert.ReferenceIdeal.Read.val_main_v26 (F := Ideal)
def colAng : FVec Ideal S2048x16 .f32 := Cert.ReferenceIdeal.Read.val_main_v51 (F := Ideal)

/-- The angles of the 64 entries of a head: twice the row angles, twice the column angles. -/
def angs (A B : FVec Ideal S2048x16 .f32) : FVec Ideal S2048x64 .f32 :=
  concatenate S2048x64 1 [⟨S2048x16, A⟩, ⟨S2048x16, A⟩, ⟨S2048x16, B⟩, ⟨S2048x16, B⟩] concatenates_S2048x16_S2048x16_S2048x16_S2048x16_S2048x64_d1
/-- Two copies side by side. -/
def twice (X : FVec Ideal S2048x64 .f32) : FVec Ideal S2048x128 .f32 :=
  shapeCast S2048x128 (broadcastInDim S1x2048x2x64 ![0, 1, 2, 3] bcast_S1x2048x1x64_S1x2048x2x64_0_1_2_3 (shapeCast S1x2048x1x64 X shapeCasts_S2048x64_S1x2048x1x64)) shapeCasts_S1x2048x2x64_S2048x128
/-- Minus one on the first 16 entries of each half of a head, one on the others. -/
def signs : FVec Ideal S64 .f32 :=
  shapeCast S64 (broadcastInDim S2x32 ![0, 1] bcast_S1x32_S2x32_0_1 (shapeCast S1x32
    (concatenate S32 0 [⟨S16, Host.negf (broadcastInDim S16 ![] bcast_S_S16 (constant (F := Ideal) S_ .f32 0x3F800000#32))⟩,
      ⟨S16, broadcastInDim S16 ![] bcast_S_S16 (constant (F := Ideal) S_ .f32 0x3F800000#32)⟩] concatenates_S16_S16_S32_d0) shapeCasts_S32_S1x32)) shapeCasts_S2x32_S64

theorem V_cos (c : Dev nD) : V (F := Ideal) m c main_v32 = twice (Host.cos (angs rowAng colAng)) := by
  unfold V
  simp only [hostOps0, hostOps0_1, hostOps0_2, hostOps0_3, hostOps0_4, List.flatten_cons, List.flatten_nil, List.append_nil, List.cons_append, List.nil_append]
  after_results_simp
  rfl

theorem V_sin (c : Dev nD) : V (F := Ideal) m c main_v39 = twice (mulf (Host.sin (angs rowAng colAng))
    (broadcastInDim S2048x64 ![0, 1] bcast_S1x64_S2048x64_0_1 (broadcastInDim S1x64 ![1] bcast_S64_S1x64_1 signs))) := by
  unfold V
  simp only [hostOps0, hostOps0_1, hostOps0_2, hostOps0_3, hostOps0_4, List.flatten_cons, List.flatten_nil, List.append_nil, List.cons_append, List.nil_append]
  after_results_simp
  rfl

theorem V_sink (c : Dev nD) (e : Fin 8) (l : Fin 128) : V (F := Ideal) m c main_v41 (ix2 e l) = (m (c, Proc.devRef .tc main_arg2) : FVec Ideal S8 .f32) (ix1 e) := by
  unfold V
  simp only [hostOps0, hostOps0_1, hostOps0_2, hostOps0_3, hostOps0_4, List.flatten_cons, List.flatten_nil, List.append_nil, List.cons_append, List.nil_append]
  after_results_simp
  pointwise

/-- The angle of entry `d` of a head at row `r`. -/
def ang (r : Fin 2048) (d : Fin 64) : EReal :=
  if d.val < 32 then rowAng (ix2 r ⟨d.val % 16, by omega⟩) else colAng (ix2 r ⟨d.val % 16, by omega⟩)

theorem angs_apply (r : Fin 2048) (d : Fin 64) : angs rowAng colAng (ix2 r d) = ang r d := by
  unfold angs ang
  generalize rowAng = A
  generalize colAng = B
  pointwise
  by_cases h1 : d.val < 16
  · refine (dif_pos h1).trans (Eq.trans ?_ (if_pos (show d.val < 32 by omega)).symm)
    exact congrArg (fun f => A (ix2 r f)) (Fin.ext (show d.val = d.val % 16 by omega))
  · refine (dif_neg h1).trans ?_
    by_cases h2 : d.val - 16 < 16
    · refine (dif_pos h2).trans (Eq.trans ?_ (if_pos (show d.val < 32 by omega)).symm)
      exact congrArg (fun f => A (ix2 r f)) (Fin.ext (show d.val - 16 = d.val % 16 by omega))
    · refine (dif_neg h2).trans (Eq.trans ?_ (if_neg (show ¬ d.val < 32 by omega)).symm)
      by_cases h3 : d.val - 16 - 16 < 16
      · refine (dif_pos h3).trans ?_
        exact congrArg (fun f => B (ix2 r f)) (Fin.ext (show d.val - 16 - 16 = d.val % 16 by omega))
      · refine (dif_neg h3).trans ?_
        exact congrArg (fun f => B (ix2 r f)) (Fin.ext (show d.val - 16 - 16 - 16 = d.val % 16 by omega))

theorem twice_apply (X : FVec Ideal S2048x64 .f32) (r : Fin 2048) (h : Fin 2) (d : Fin 64) : twice X (ix2 r (ln h d)) = X (ix2 r d) := by
  unfold twice
  pointwise
  exact congrArg (fun e => X (ix2 r e)) (Fin.ext (by simp only [ln]; omega))

theorem signs_apply (d : Fin 64) : signs (ix1 d) = if d.val % 32 < 16 then -1 else 1 := by
  unfold signs
  pointwise
  split <;> rfl

/-- The entries of the two tables at row `r`, entry `d` of either half. -/
theorem cos_apply (c : Dev nD) (r : Fin 2048) (h : Fin 2) (d : Fin 64) :
    V (F := Ideal) m c main_v32 (ix2 r (ln h d)) = FloatOps.hostUnary (F := Ideal) (φ := .f32) .cos (ang r d) := by
  rw [V_cos, twice_apply, ← angs_apply]
  rfl
theorem sin_apply (c : Dev nD) (r : Fin 2048) (h : Fin 2) (d : Fin 64) :
    V (F := Ideal) m c main_v39 (ix2 r (ln h d)) = FloatOps.hostUnary (F := Ideal) (φ := .f32) .sin (ang r d) * (if d.val % 32 < 16 then -1 else 1) := by
  rw [V_sin, twice_apply, ← angs_apply, ← signs_apply]
  generalize signs = S
  generalize angs rowAng colAng = T
  pointwise

end Cert.Proof.Attn
end
-- ==== Proof.AttnBlock.lean ====
/-
  The block the attention kernel stores at a grid point, as a function of the blocks it reads: 128 query rows of one batch entry,
  four pairs of heads side by side.
-/
module

public import proofs.«01_k».proof.Proof.AttnBody

@[expose] public section

set_option maxRecDepth 16384

noncomputable section

open Idealize.ShloMosaic Idealize.ShloMosaic.TcCoe

namespace Cert.Proof.Attn

open Cert.KernelIdeal Cert.KernelIdeal.Gen

/-- Entry `d` of head `h` of pair `j` among the 512 query columns. -/
def lq (j : Fin 4) (h : Fin 2) (d : Fin 64) : Fin 512 := ⟨128 * j.val + (64 * h.val + d.val), by omega⟩
/-- Key entry `d` of head group `g` among a block's 256 key and value columns, and the value entry. -/
def lk (g : Fin 2) (d : Fin 64) : Fin 256 := ⟨64 * g.val + d.val, by omega⟩
def lv (g : Fin 2) (d : Fin 64) : Fin 256 := ⟨128 + (64 * g.val + d.val), by omega⟩

/-- The columns of pair `j` of the query block. -/
def qx (q : Vec Ideal S1x128x512 .f32) (j : Fin 4) : FVec Ideal S128x128 .f32 := match j with
  | 0 => extractStridedSlice S128x128 ![0, 0] (k0_pay4 q) slices_S128x512_o0_0_S128x128
  | 1 => extractStridedSlice S128x128 ![0, 128] (k0_pay4 q) slices_S128x512_o0_128_S128x128
  | 2 => extractStridedSlice S128x128 ![0, 256] (k0_pay4 q) slices_S128x512_o0_256_S128x128
  | 3 => extractStridedSlice S128x128 ![0, 384] (k0_pay4 q) slices_S128x512_o0_384_S128x128

theorem qx_apply (q : Vec Ideal S1x128x512 .f32) (j : Fin 4) (h : Fin 2) (r : Fin 128) (d : Fin 64) :
    qx q j (ix2 r (ln h d)) = q (ix3 0 r (lq j h d)) := by
  fin_cases j <;> simp only [qx] <;> unfold k0_pay4 <;> pointwise <;>
    exact congrArg (fun l => q (ix3 0 r l)) (Fin.ext (by simp [ln, lq]))

/-- The rotated keys of the span. -/
def kx (kv : Vec Ideal S1x384x256 .f32) (c s : Vec Ideal S384x128 .f32) : FVec Ideal S384x128 .f32 :=
  k0_pay16 k0_pay8 (k0_pay12 kv) (k0_pay13 c) (k0_pay14 s) (k0_pay15 kv)

theorem kx_apply (kv : Vec Ideal S1x384x256 .f32) (c s : Vec Ideal S384x128 .f32) (g : Fin 2) (k : Fin 384) (d : Fin 64) :
    kx kv c s (ix2 k (ln g d)) = rope (fun d => kv (ix3 0 k (lk g d))) (fun d => c (ix2 k (ln g d))) (fun d => s (ix2 k (ln g d))) d := by
  have f := fq_apply
  have e0 : ∀ d w, (⟨(ln g d).val, w⟩ : Fin 256) = lk g d := fun d w => Fin.ext (by simp [ln, lk])
  unfold kx rope
  generalize k0_pay8 = m' at *
  unfold k0_pay16 k0_pay12 k0_pay13 k0_pay14 k0_pay15 k0_pay12 k0_pay11
  pointwise
  by_cases e : d.val % 32 < 16
  · have e1 : ∀ w, (⟨((ln g d).val + 128 - 112) % 128, w⟩ : Fin 256) = lk g (partner d) := fun w =>
      Fin.ext (by unfold partner; rw [dif_pos e]; simp only [ln, lk]; omega)
    simp only [f, if_pos e, ValueIdx.select_one, e0, e1]
  · have e1 : ∀ w, (⟨((ln g d).val + 128 - 16) % 128, w⟩ : Fin 256) = lk g (partner d) := fun w =>
      Fin.ext (by unfold partner; rw [dif_neg e]; simp only [ln, lk]; omega)
    simp only [f, if_neg e, ValueIdx.select_zero, e0, e1]

theorem vx_apply (kv : Vec Ideal S1x384x256 .f32) (g : Fin 2) (k : Fin 384) (d : Fin 64) :
    k0_pay17 (k0_pay11 kv) (ix2 k (ln g d)) = kv (ix3 0 k (lv g d)) := by
  unfold k0_pay17 k0_pay11
  pointwise
  exact congrArg (fun l => kv (ix3 0 k l)) (Fin.ext (by simp [ln, lv]))
theorem kcx_apply (x : Vec Ideal S1x256x256 .f32) (g : Fin 2) (k : Fin 256) (d : Fin 64) :
    k0_pay6 x (ix2 k (ln g d)) = x (ix3 0 k (lk g d)) := by
  unfold k0_pay6 k0_pay5
  pointwise
  exact congrArg (fun l => x (ix3 0 k l)) (Fin.ext (by simp [ln, lk]))
theorem vcx_apply (x : Vec Ideal S1x256x256 .f32) (g : Fin 2) (k : Fin 256) (d : Fin 64) :
    k0_pay7 x (ix2 k (ln g d)) = x (ix3 0 k (lv g d)) := by
  unfold k0_pay7 k0_pay5
  pointwise
  exact congrArg (fun l => x (ix3 0 k l)) (Fin.ext (by simp [ln, lv]))

theorem skx_apply (a b : Vec Ideal S1x1 .f32) (h : Fin 2) (r : Fin 128) :
    k0_pay20 a b (ix2 (st h r) 0) = if h = 0 then a (ix2 0 0) else b (ix2 0 0) := by
  unfold k0_pay20
  pointwise
  fin_cases h
  · simp only [Fin.zero_eta, dif_pos (st_lo r), if_pos]
  · simp only [Fin.mk_one, dif_neg (st_hi r)]; rfl

/-- The mask of a stacked row: the position words' distance. -/
def near (r k : BitVec 32) : BitVec 1 := IntOp.cmpi .sle (IntOp.absi (IntOp.subi r k)) 128#32

theorem ok_apply (a b : BitVec 32) (h : Fin 2) (r : Fin 128) (k : Fin 384) :
    k0_pay18 a b (ix2 (st h r) k) = near (a + BitVec.ofNat 32 r.val) (b + BitVec.ofNat 32 k.val) := by
  unfold k0_pay18 near
  pointwise
  fin_cases h
  · simp only [Fin.zero_eta, dif_pos (st_lo r)]
    rw [show (st 0 r).val = r.val by simp [st]]
    rfl
  · simp only [Fin.mk_one, dif_neg (st_hi r)]
    rw [show (st 1 r).val - 128 = r.val by simp [st]]
    rfl

/-- The four blocks stored, by pair: pairs 0 and 1 use head group 0, pairs 2 and 3 head group 1. -/
def blkOut (a b : BitVec 32) (q : Vec Ideal S1x128x512 .f32) (x : Vec Ideal S1x256x256 .f32) (c1 s1 : Vec Ideal S128x128 .f32)
    (kv : Vec Ideal S1x384x256 .f32) (c3 s3 : Vec Ideal S384x128 .f32) (sk : Fin 8 → Vec Ideal S1x1 .f32) (j : Fin 4) : FVec Ideal S1x128x128 .f32 :=
  match j with
  | 0 => pairOut (k0_pay18 a b) (pairQ (qx q 0) (k0_pay9 c1) (k0_pay10 s1)) (k0_pay45 k0_pay3 (kx kv c3 s3))
      (k0_pay48 (k0_pay17 (k0_pay11 kv)) (Scalar.ofBits (F := Ideal) .f32 0x3F800000#32) (k0_pay47 k0_pay3)) (k0_pay32 k0_pay3 (k0_pay6 x)) (k0_pay35 k0_pay3 (k0_pay7 x)) (k0_pay20 (sk 0) (sk 1))
  | 1 => pairOut (k0_pay18 a b) (pairQ (qx q 1) (k0_pay9 c1) (k0_pay10 s1)) (k0_pay45 k0_pay3 (kx kv c3 s3))
      (k0_pay48 (k0_pay17 (k0_pay11 kv)) (Scalar.ofBits (F := Ideal) .f32 0x3F800000#32) (k0_pay47 k0_pay3)) (k0_pay32 k0_pay3 (k0_pay6 x)) (k0_pay35 k0_pay3 (k0_pay7 x)) (k0_pay20 (sk 2) (sk 3))
  | 2 => pairOut (k0_pay18 a b) (pairQ (qx q 2) (k0_pay9 c1) (k0_pay10 s1)) (k0_pay46 k0_pay3 (kx kv c3 s3))
      (k0_pay49 k0_pay3 (k0_pay17 (k0_pay11 kv))) (k0_pay34 k0_pay3 (k0_pay6 x) (k0_pay33 (k0_pay6 x))) (k0_pay36 k0_pay3 (k0_pay7 x)) (k0_pay20 (sk 4) (sk 5))
  | 3 => pairOut (k0_pay18 a b) (pairQ (qx q 3) (k0_pay9 c1) (k0_pay10 s1)) (k0_pay46 k0_pay3 (kx kv c3 s3))
      (k0_pay49 k0_pay3 (k0_pay17 (k0_pay11 kv))) (k0_pay34 k0_pay3 (k0_pay6 x) (k0_pay33 (k0_pay6 x))) (k0_pay36 k0_pay3 (k0_pay7 x)) (k0_pay20 (sk 6) (sk 7))

/-- The head group of pair `j`, and the head of its half `h`. -/
def grp (j : Fin 4) : Fin 2 := ⟨j.val / 2, by omega⟩
def hd (j : Fin 4) (h : Fin 2) : Fin 8 := ⟨2 * j.val + h.val, by omega⟩

/-- A rotated query entry, from the block's row. -/
def qrow (q : Vec Ideal S1x128x512 .f32) (c1 s1 : Vec Ideal S128x128 .f32) (j : Fin 4) (h : Fin 2) (r : Fin 128) : Fin 64 → EReal :=
  rope (fun d => q (ix3 0 r (lq j h d))) (fun d => c1 (ix2 r (ln h d))) (fun d => s1 (ix2 r (ln h d)))
def krow (kv : Vec Ideal S1x384x256 .f32) (c3 s3 : Vec Ideal S384x128 .f32) (g : Fin 2) (k : Fin 384) : Fin 64 → EReal :=
  rope (fun d => kv (ix3 0 k (lk g d))) (fun d => c3 (ix2 k (ln g d))) (fun d => s3 (ix2 k (ln g d)))

theorem pay9_id (c : Vec Ideal S128x128 .f32) : k0_pay9 c = c := by
  funext i
  rw [ValueIdx.eq_ix2 i]
  unfold k0_pay9
  pointwise
theorem pay10_id (c : Vec Ideal S128x128 .f32) : k0_pay10 c = c := by
  funext i
  rw [ValueIdx.eq_ix2 i]
  unfold k0_pay10
  pointwise

theorem attendSpan_congr {ss ss' : Fin 384 → EReal} {sc sc' : Fin 256 → EReal} {t t' : EReal} {vs vs' : Fin 384 → EReal} {vc vc' : Fin 256 → EReal}
    (h1 : ∀ k, ss k = ss' k) (h2 : ∀ c, sc c = sc' c) (h3 : t = t') (h4 : ∀ k, vs k = vs' k) (h5 : ∀ c, vc c = vc' c) :
    attendSpan ss sc t vs vc = attendSpan ss' sc' t' vs' vc' := by
  rw [funext h1, funext h2, h3, funext h4, funext h5]

theorem blkOut_apply (a b : BitVec 32) (q : Vec Ideal S1x128x512 .f32) (x : Vec Ideal S1x256x256 .f32) (c1 s1 : Vec Ideal S128x128 .f32)
    (kv : Vec Ideal S1x384x256 .f32) (c3 s3 : Vec Ideal S384x128 .f32) (sk : Fin 8 → Vec Ideal S1x1 .f32) (j : Fin 4) (h : Fin 2) (r : Fin 128) (d : Fin 64) :
    blkOut a b q x c1 s1 kv c3 s3 sk j (ix3 0 r (ln h d))
      = attendSpan
          (fun k => Scalar.select (near (a + BitVec.ofNat 32 r.val) (b + BitVec.ofNat 32 k.val))
            (∑ d, qrow q c1 s1 j h r d * Ideal.ofBits .f32 0x3E000000#32 * krow kv c3 s3 (grp j) k d) ⊥)
          (fun c => ∑ d, qrow q c1 s1 j h r d * Ideal.ofBits .f32 0x3E000000#32 * x (ix3 0 c (lk (grp j) d)))
          (sk (hd j h) (ix2 0 0)) (fun k => kv (ix3 0 k (lv (grp j) d))) (fun c => x (ix3 0 c (lv (grp j) d))) := by
  have hS : ∀ (j : Fin 4) (K : FVec Ideal S384x128 .f32) (g : Fin 2) (hK : ∀ k h d, K (ix2 k (ln h d)) = kx kv c3 s3 (ix2 k (ln g d))) (k : Fin 384),
      rowS (k0_pay18 a b) (pairQ (qx q j) (k0_pay9 c1) (k0_pay10 s1)) K (st h r) k
        = Scalar.select (near (a + BitVec.ofNat 32 r.val) (b + BitVec.ofNat 32 k.val))
            (∑ d, qrow q c1 s1 j h r d * Ideal.ofBits .f32 0x3E000000#32 * krow kv c3 s3 g k d) ⊥ := by
    intro j K g hK k
    unfold rowS
    rw [ok_apply, pairQ_dot _ _ _ h r (fun l => K (ix2 k l)) (fun d => krow kv c3 s3 g k d) (fun h d => (hK k h d).trans (kx_apply kv c3 s3 g k d)), pay9_id, pay10_id]
    simp only [qx_apply]
    rfl
  have hC : ∀ (j : Fin 4) (K : FVec Ideal S256x128 .f32) (g : Fin 2) (hK : ∀ c h d, K (ix2 c (ln h d)) = k0_pay6 x (ix2 c (ln g d))) (c : Fin 256),
      rowC (pairQ (qx q j) (k0_pay9 c1) (k0_pay10 s1)) K (st h r) c
        = ∑ d, qrow q c1 s1 j h r d * Ideal.ofBits .f32 0x3E000000#32 * x (ix3 0 c (lk g d)) := by
    intro j K g hK c
    unfold rowC
    rw [pairQ_dot _ _ _ h r (fun l => K (ix2 c l)) (fun d => x (ix3 0 c (lk g d))) (fun h d => (hK c h d).trans (kcx_apply x g c d)), pay9_id, pay10_id]
    simp only [qx_apply]
    rfl
  have hT : ∀ (j : Fin 4) (e f : Fin 8) (he : hd j 0 = e) (hf : hd j 1 = f), k0_pay20 (sk e) (sk f) (ix2 (st h r) 0) = sk (hd j h) (ix2 0 0) := by
    intro j e f he hf
    rw [skx_apply, ← he, ← hf]
    fin_cases h <;> rfl
  match j with
  | 0 =>
    refine (pairOut_apply _ _ _ _ _ _ _ h r d (fun k => onek0_hi _ k d) (fun c => onec0_hi _ c d)).trans ?_
    exact attendSpan_congr (hS 0 _ 0 (fun k h d => dupk0 _ k h d)) (hC 0 _ 0 (fun c h d => dupc0 _ c h d)) (hT 0 0 1 rfl rfl)
      (fun k => (onek0_lo _ k d).trans (vx_apply kv 0 k d)) (fun c => (onec0_lo _ c d).trans (vcx_apply x 0 c d))
  | 1 =>
    refine (pairOut_apply _ _ _ _ _ _ _ h r d (fun k => onek0_hi _ k d) (fun c => onec0_hi _ c d)).trans ?_
    exact attendSpan_congr (hS 1 _ 0 (fun k h d => dupk0 _ k h d)) (hC 1 _ 0 (fun c h d => dupc0 _ c h d)) (hT 1 2 3 rfl rfl)
      (fun k => (onek0_lo _ k d).trans (vx_apply kv 0 k d)) (fun c => (onec0_lo _ c d).trans (vcx_apply x 0 c d))
  | 2 =>
    refine (pairOut_apply _ _ _ _ _ _ _ h r d (fun k => onek1_hi _ k d) (fun c => onec1_hi _ c d)).trans ?_
    exact attendSpan_congr (hS 2 _ 1 (fun k h d => dupk1 _ k h d)) (hC 2 _ 1 (fun c h d => dupc1 _ c h d)) (hT 2 4 5 rfl rfl)
      (fun k => (onek1_lo _ k d).trans (vx_apply kv 1 k d)) (fun c => (onec1_lo _ c d).trans (vcx_apply x 1 c d))
  | 3 =>
    refine (pairOut_apply _ _ _ _ _ _ _ h r d (fun k => onek1_hi _ k d) (fun c => onec1_hi _ c d)).trans ?_
    exact attendSpan_congr (hS 3 _ 1 (fun k h d => dupk1 _ k h d)) (hC 3 _ 1 (fun c h d => dupc1 _ c h d)) (hT 3 6 7 rfl rfl)
      (fun k => (onek1_lo _ k d).trans (vx_apply kv 1 k d)) (fun c => (onec1_lo _ c d).trans (vcx_apply x 1 c d))

end Cert.Proof.Attn
end
-- ==== Proof.AttnRot.lean ====
/-
  The reference's rotated queries and keys read at an index.
-/
module

public import proofs.«01_k».proof.Proof.AttnHost
public import proofs.«01_k».proof.Proof.AttnBlock

@[expose] public section

set_option maxRecDepth 16384

noncomputable section

open Idealize.ShloMosaic Idealize.ShloMosaic.TcCoe Idealize.ShloMosaic.Tactic

namespace Cert.Proof.Attn

open Cert.ReferenceIdeal Cert.ReferenceIdeal.Read

/-- The columns of the joint projection: queries, then keys, then values. -/
def qcol (n : Fin 512) : Fin 768 := ⟨n.val, by omega⟩
def kcol (g : Fin 2) (d : Fin 64) : Fin 768 := ⟨512 + (64 * g.val + d.val), by omega⟩
def vcol (g : Fin 2) (d : Fin 64) : Fin 768 := ⟨640 + (64 * g.val + d.val), by omega⟩

/-- The head of pair `j`, half `h` within its group. -/
def mem (j : Fin 4) (h : Fin 2) : Fin 4 := ⟨(2 * j.val + h.val) % 4, by omega⟩

/-! ## Rotations -/

/-- The two tables' entries as numbers. -/
def cosE (r : Fin 2048) (d : Fin 64) : EReal := FloatOps.hostUnary (F := Ideal) (φ := .f32) .cos (ang r d)
def sinE (r : Fin 2048) (d : Fin 64) : EReal := FloatOps.hostUnary (F := Ideal) (φ := .f32) .sin (ang r d)
/-- The sine with the sign of the rotation. -/
def sgnSin (r : Fin 2048) (d : Fin 64) : EReal := sinE r d * (if d.val % 32 < 16 then -1 else 1)

theorem rope_lo (x c s : Fin 64 → EReal) (d : Fin 64) (e : d.val % 32 < 16) :
    x d * c d - x (partner d) * s d = rope x c (fun d => s d * (if d.val % 32 < 16 then -1 else 1)) d := by
  unfold rope
  simp only [if_pos e, mul_neg, mul_one, ← sub_eq_add_neg]
theorem rope_hi (x c s : Fin 64 → EReal) (d : Fin 64) (e : ¬ d.val % 32 < 16) :
    x (partner d) * s d + x d * c d = rope x c (fun d => s d * (if d.val % 32 < 16 then -1 else 1)) d := by
  unfold rope
  simp only [if_neg e, mul_one]
  exact add_comm _ _

/-- The four quarters of a head, each rotated with its partner quarter, as one rotation of the whole. -/
theorem rope_quarters (x : Fin 64 → EReal) (cA sA cB sB : Fin 16 → EReal) (c s : Fin 64 → EReal)
    (hc : ∀ d : Fin 64, c d = if d.val < 32 then cA ⟨d.val % 16, by omega⟩ else cB ⟨d.val % 16, by omega⟩)
    (hs : ∀ d : Fin 64, s d = if d.val < 32 then sA ⟨d.val % 16, by omega⟩ else sB ⟨d.val % 16, by omega⟩) (d : Fin 64) :
    (if h : d.val < 32 then
      if h1 : d.val < 16 then
        x ⟨d.val, by omega⟩ * cA ⟨d.val, by omega⟩ - x ⟨16 + d.val, by omega⟩ * sA ⟨d.val, by omega⟩
      else
        x ⟨d.val - 16, by omega⟩ * sA ⟨d.val - 16, by omega⟩ + x ⟨16 + (d.val - 16), by omega⟩ * cA ⟨d.val - 16, by omega⟩
    else
      if h1 : d.val - 32 < 16 then
        x ⟨32 + (d.val - 32), by omega⟩ * cB ⟨d.val - 32, by omega⟩ - x ⟨32 + (16 + (d.val - 32)), by omega⟩ * sB ⟨d.val - 32, by omega⟩
      else
        x ⟨32 + (d.val - 32 - 16), by omega⟩ * sB ⟨d.val - 32 - 16, by omega⟩ + x ⟨32 + (16 + (d.val - 32 - 16)), by omega⟩ * cB ⟨d.val - 32 - 16, by omega⟩)
      = rope x c (fun d => s d * (if d.val % 32 < 16 then -1 else 1)) d := by
  have hf : ∀ (w : Fin 16 → EReal) (a b : ℕ) (ha : a < 16) (hb : b < 16), a = b → w ⟨a, ha⟩ = w ⟨b, hb⟩ := by
    intro w a b ha hb e; subst e; rfl
  have hx : ∀ (a : ℕ) (ha : a < 64) (y : Fin 64), a = y.val → x ⟨a, ha⟩ = x y := by
    intro a ha y e; subst e; rfl
  by_cases h : d.val < 32
  · by_cases h1 : d.val < 16
    · rw [dif_pos h, dif_pos h1, ← rope_lo _ _ _ _ (by omega), hc, hs, if_pos h, if_pos h]
      rw [hx (16 + d.val) _ (partner d) (by unfold partner; split <;> simp only <;> omega),
        hf cA d.val (d.val % 16) _ (by omega) (by omega), hf sA d.val (d.val % 16) _ (by omega) (by omega)]
    · rw [dif_pos h, dif_neg h1, ← rope_hi _ _ _ _ (by omega), hc, hs, if_pos h, if_pos h]
      rw [hx (d.val - 16) _ (partner d) (by unfold partner; split <;> simp only <;> omega), hx (16 + (d.val - 16)) _ d (by omega),
        hf cA (d.val - 16) (d.val % 16) _ (by omega) (by omega), hf sA (d.val - 16) (d.val % 16) _ (by omega) (by omega)]
  · by_cases h1 : d.val - 32 < 16
    · rw [dif_neg h, dif_pos h1, ← rope_lo _ _ _ _ (by omega), hc, hs, if_neg h, if_neg h]
      rw [hx (32 + (d.val - 32)) _ d (by omega), hx (32 + (16 + (d.val - 32))) _ (partner d) (by unfold partner; split <;> simp only <;> omega),
        hf cB (d.val - 32) (d.val % 16) _ (by omega) (by omega), hf sB (d.val - 32) (d.val % 16) _ (by omega) (by omega)]
    · rw [dif_neg h, dif_neg h1, ← rope_hi _ _ _ _ (by omega), hc, hs, if_neg h, if_neg h]
      rw [hx (32 + (d.val - 32 - 16)) _ (partner d) (by unfold partner; split <;> simp only <;> omega), hx (32 + (16 + (d.val - 32 - 16))) _ d (by omega),
        hf cB (d.val - 32 - 16) (d.val % 16) _ (by omega) (by omega), hf sB (d.val - 32 - 16) (d.val % 16) _ (by omega) (by omega)]

theorem cosE_quarters (r : Fin 2048) (d : Fin 64) :
    cosE r d = if d.val < 32 then val_main_v27 (F := Ideal) (ix2 r ⟨d.val % 16, by omega⟩) else val_main_v52 (F := Ideal) (ix2 r ⟨d.val % 16, by omega⟩) := by
  unfold cosE ang
  split <;> rfl
theorem sinE_quarters (r : Fin 2048) (d : Fin 64) :
    sinE r d = if d.val < 32 then val_main_v29 (F := Ideal) (ix2 r ⟨d.val % 16, by omega⟩) else val_main_v54 (F := Ideal) (ix2 r ⟨d.val % 16, by omega⟩) := by
  unfold sinE ang
  split <;> rfl

variable (x0 : FVec Ideal S32x2048x768 .f32) (x1 : FVec Ideal S32x256x768 .f32) (x2 : FVec Ideal S8 .f32)

theorem qrot (b : Fin 32) (r : Fin 2048) (g : Fin 2) (u : Fin 4) (d : Fin 64) :
    val_main_v70 (F := Ideal) x0 (ix5 b r g u d)
      = rope (fun d => x0 (ix3 b r ⟨(g.val * 4 + u.val) * 64 + d.val, by omega⟩)) (cosE r) (sgnSin r) d := by
  refine Eq.trans ?_ (rope_quarters (fun d => x0 (ix3 b r ⟨(g.val * 4 + u.val) * 64 + d.val, by omega⟩))
    (fun f => val_main_v27 (F := Ideal) (ix2 r f)) (fun f => val_main_v29 (F := Ideal) (ix2 r f))
    (fun f => val_main_v52 (F := Ideal) (ix2 r f)) (fun f => val_main_v54 (F := Ideal) (ix2 r f)) (cosE r) (sinE r) (cosE_quarters r) (sinE_quarters r) d)
  unfold val_main_v70 val_main_v69 val_main_v68 val_main_v67 val_main_v66 val_main_v65 val_main_v64 val_main_v63 val_main_v62 val_main_v61 val_main_v60 val_main_v59 val_main_v58 val_main_v57 val_main_v56 val_main_v55 val_main_v53
    val_main_v44 val_main_v43 val_main_v42 val_main_v41 val_main_v40 val_main_v39 val_main_v38 val_main_v37 val_main_v36 val_main_v35 val_main_v34 val_main_v33 val_main_v32 val_main_v31 val_main_v30 val_main_v28 val_main_v19 val_main_v1 val_main_v0
  generalize val_main_v27 (F := Ideal) = cA
  generalize val_main_v29 (F := Ideal) = sA
  generalize val_main_v52 (F := Ideal) = cB
  generalize val_main_v54 (F := Ideal) = sB
  pointwise

theorem krot (b : Fin 32) (r : Fin 2048) (g : Fin 2) (d : Fin 64) :
    val_main_v128 (F := Ideal) x0 (ix4 b r g d)
      = rope (fun d => x0 (ix3 b r ⟨512 + (g.val * 64 + d.val), by omega⟩)) (cosE r) (sgnSin r) d := by
  refine Eq.trans ?_ (rope_quarters (fun d => x0 (ix3 b r ⟨512 + (g.val * 64 + d.val), by omega⟩))
    (fun f => val_main_v86 (F := Ideal) (ix2 r f)) (fun f => val_main_v88 (F := Ideal) (ix2 r f))
    (fun f => val_main_v111 (F := Ideal) (ix2 r f)) (fun f => val_main_v113 (F := Ideal) (ix2 r f)) (cosE r) (sinE r) (cosE_quarters r) (sinE_quarters r) d)
  unfold val_main_v128 val_main_v127 val_main_v126 val_main_v125 val_main_v124 val_main_v123 val_main_v122 val_main_v121 val_main_v120 val_main_v119 val_main_v118 val_main_v117 val_main_v116 val_main_v115 val_main_v114 val_main_v112
    val_main_v103 val_main_v102 val_main_v101 val_main_v100 val_main_v99 val_main_v98 val_main_v97 val_main_v96 val_main_v95 val_main_v94 val_main_v93 val_main_v92 val_main_v91 val_main_v90 val_main_v89 val_main_v87 val_main_v78 val_main_v3 val_main_v2
  generalize val_main_v86 (F := Ideal) = cA
  generalize val_main_v88 (F := Ideal) = sA
  generalize val_main_v111 (F := Ideal) = cB
  generalize val_main_v113 (F := Ideal) = sB
  pointwise

end Cert.Proof.Attn
end
-- ==== Proof.AttnRef.lean ====
/-
  The reference attention read at an index: its row of scores over all positions and the weights made of it.
-/
module

public import proofs.«01_k».proof.Proof.AttnRot

@[expose] public section

set_option maxRecDepth 16384

noncomputable section

open Idealize.ShloMosaic Idealize.ShloMosaic.TcCoe Idealize.ShloMosaic.Tactic

namespace Cert.Proof.Attn

open Cert.ReferenceIdeal Cert.ReferenceIdeal.Read

variable (x0 : FVec Ideal S32x2048x768 .f32) (x1 : FVec Ideal S32x256x768 .f32) (x2 : FVec Ideal S8 .f32)

/-! ## A row of scores -/

/-- A latent position's score, masked outside the window, and a context position's. -/
def scoreL (b : Fin 32) (g : Fin 2) (u : Fin 4) (r k : Fin 2048) : EReal :=
  Scalar.select (near (BitVec.ofNat 32 r.val) (BitVec.ofNat 32 k.val))
    ((∑ d, val_main_v128 (F := Ideal) x0 (ix4 b k g d) * val_main_v70 (F := Ideal) x0 (ix5 b r g u d)) * Ideal.ofBits .f32 0x3E000000#32) ⊥
def scoreC (b : Fin 32) (g : Fin 2) (u : Fin 4) (r : Fin 2048) (c : Fin 256) : EReal :=
  (∑ d, x1 (ix3 b c (kcol g d)) * val_main_v70 (F := Ideal) x0 (ix5 b r g u d)) * Ideal.ofBits .f32 0x3E000000#32

theorem v142_eq (b : Fin 32) (g : Fin 2) (u : Fin 4) (r k : Fin 2048) :
    val_main_v142 (F := Ideal) x0 (ix5 b g u r k) = scoreL x0 b g u r k := by
  unfold scoreL near val_main_v142 val_main_call4_v1 val_main_call4_v2 val_main_v141 val_main_v140 val_main_v139 val_main_v138
  rw [← bot_lit]
  generalize val_main_v128 (F := Ideal) x0 = K
  generalize val_main_v70 (F := Ideal) x0 = Q
  unfold val_main_call4_v0 val_main_cst_8 val_main_cst_7 val_main_v137 val_main_v136 val_main_v135 val_main_v134 val_main_v133 val_main_v132 val_main_v131 val_main_v130 val_main_v129 val_main_c_6
  pointwise
  rfl

theorem v146_eq (b : Fin 32) (g : Fin 2) (u : Fin 4) (r : Fin 2048) (c : Fin 256) :
    val_main_v146 (F := Ideal) x0 x1 (ix5 b g u r c) = scoreC x0 x1 b g u r c := by
  unfold scoreC val_main_v146 val_main_v145 val_main_v144 val_main_v143
  generalize val_main_v70 (F := Ideal) x0 = Q
  have e : ∀ d : Fin 64, ∀ w, (⟨512 + (g.val * 64 + d.val), w⟩ : Fin 768) = kcol g d := fun d w => Fin.ext (by simp only [kcol]; omega)
  unfold val_main_cst_9 val_main_v9 val_main_v8
  pointwise
  simp only [e]

theorem v147_eq (b : Fin 32) (g : Fin 2) (u : Fin 4) (r : Fin 2048) (x : Fin 2304) :
    val_main_v147 (F := Ideal) x0 x1 (ix5 b g u r x) = joined (scoreL x0 b g u r) (scoreC x0 x1 b g u r) x := by
  rw [← funext (v142_eq x0 b g u r), ← funext (v146_eq x0 x1 b g u r)]
  unfold joined val_main_v147
  generalize val_main_v142 (F := Ideal) x0 = Q
  generalize val_main_v146 (F := Ideal) x0 x1 = P
  pointwise

theorem v151_row (P : FVec Ideal S32x2x4x2048x2304 .f32) (w : FVec Ideal S_ .f32) (e : EReal) (he : ∀ i, w i = e)
    (h : S32x2x4x2048x2304.ReducesTo [4] S32x2x4x2048) (h' : 0 < S_.numel)
    (b : Fin 32) (g : Fin 2) (u : Fin 4) (r : Fin 2048) :
    Host.reduce FloatOps.maximumf P w h h' (ix4 b g u r)
      = Finset.fold max e (fun x : Fin 2304 => P (ix5 b g u r x)) Finset.univ := by
  pointwise
  rw [he]

theorem cst10 (i : S_.Idx) : val_main_cst_10 (F := Ideal) i = Ideal.ofBits .f32 0xFF800000#32 := rfl

theorem v150_row (b : Fin 32) (g : Fin 2) (u : Fin 4) (r : Fin 2048) :
    val_main_v150 (F := Ideal) x0 x1 (ix4 b g u r)
      = Finset.fold max (Ideal.ofBits .f32 0xFF800000#32) (fun x : Fin 2304 => val_main_v147 (F := Ideal) x0 x1 (ix5 b g u r x)) Finset.univ := by
  have h := cst10
  unfold val_main_v150
  generalize val_main_v147 (F := Ideal) x0 x1 = P
  generalize val_main_cst_10 (F := Ideal) = w at h ⊢
  generalize Ideal.ofBits .f32 0xFF800000#32 = e at h ⊢
  exact v151_row P w e h _ _ b g u r

theorem v151_at (b : Fin 32) (g : Fin 2) (u : Fin 4) (r : Fin 2048) (z : Fin 1) :
    val_main_v151 (F := Ideal) x0 x1 (ix5 b g u r z) = val_main_v150 (F := Ideal) x0 x1 (ix4 b g u r) := by
  unfold val_main_v151
  generalize val_main_v150 (F := Ideal) x0 x1 = P
  pointwise

theorem v152_at (b : Fin 32) (g : Fin 2) (u : Fin 4) (r : Fin 2048) (z : Fin 1) :
    val_main_v152 (F := Ideal) x2 (ix5 b g u r z) = x2 (ix1 ⟨g.val * 4 + u.val, by omega⟩) := by
  unfold val_main_v152 val_main_v149 val_main_v148
  pointwise

theorem max_at (P Q : FVec Ideal S32x2x4x2048x1 .f32) (i : S32x2x4x2048x1.Idx) (p q : EReal) (hp : P i = p) (hq : Q i = q) :
    maximumf P Q i = max p q := by
  rw [← hp, ← hq]
  rfl

theorem v153_row (b : Fin 32) (g : Fin 2) (u : Fin 4) (r : Fin 2048) (z : Fin 1) (m t : EReal)
    (hm : val_main_v150 (F := Ideal) x0 x1 (ix4 b g u r) = m) (ht : x2 (ix1 ⟨g.val * 4 + u.val, by omega⟩) = t) :
    val_main_v153 (F := Ideal) x0 x1 x2 (ix5 b g u r z) = max m t := by
  unfold val_main_v153
  exact max_at _ _ _ _ _ ((v151_at x0 x1 b g u r z).trans hm) ((v152_at x2 b g u r z).trans ht)

theorem v153_eq (b : Fin 32) (g : Fin 2) (u : Fin 4) (r : Fin 2048) (z : Fin 1) (t : EReal) (ht : x2 (ix1 ⟨g.val * 4 + u.val, by omega⟩) = t) :
    val_main_v153 (F := Ideal) x0 x1 x2 (ix5 b g u r z) = top (scoreL x0 b g u r) (scoreC x0 x1 b g u r) t := by
  have e := v150_row x0 x1 b g u r
  rw [bot_lit, funext (v147_eq x0 x1 b g u r)] at e
  exact v153_row x0 x1 x2 b g u r z _ t e ht

theorem v164_eq (b : Fin 32) (g : Fin 2) (u : Fin 4) (r : Fin 2048) (x : Fin 2304) (t : EReal) (ht : x2 (ix1 ⟨g.val * 4 + u.val, by omega⟩) = t) :
    val_main_v164 (F := Ideal) x0 x1 x2 (ix5 b g u r x)
      = Ideal.div (Ideal.exp (joined (scoreL x0 b g u r) (scoreC x0 x1 b g u r) x - top (scoreL x0 b g u r) (scoreC x0 x1 b g u r) t))
          (total (scoreL x0 b g u r) (scoreC x0 x1 b g u r) t) := by
  unfold total
  rw [← v153_eq x0 x1 x2 b g u r 0 t ht, ← ht, ← funext (v147_eq x0 x1 b g u r)]
  unfold val_main_v164 val_main_v163 val_main_v162 val_main_v161 val_main_v160 val_main_v159 val_main_v158 val_main_v157 val_main_v156 val_main_v155 val_main_v154 val_main_cst_11
  generalize val_main_v153 (F := Ideal) x0 x1 x2 = M
  generalize val_main_v147 (F := Ideal) x0 x1 = P
  unfold val_main_v149 val_main_v148
  pointwise

theorem v172_row (b : Fin 32) (r : Fin 2048) (n : Fin 512) :
    val_main_v172 (F := Ideal) x0 x1 x2 (ix3 b r n)
      = ∑ x : Fin 2048, x0 (ix3 b x ⟨640 + (n.val / 256 * 64 + n.val % 64), by omega⟩) * val_main_v164 (F := Ideal) x0 x1 x2 (ix5 b ⟨n.val / 256, by omega⟩ ⟨n.val / 64 % 4, by omega⟩ r ⟨x.val, by omega⟩)
        + ∑ x : Fin 256, x1 (ix3 b x ⟨640 + (n.val / 256 * 64 + n.val % 64), by omega⟩) * val_main_v164 (F := Ideal) x0 x1 x2 (ix5 b ⟨n.val / 256, by omega⟩ ⟨n.val / 64 % 4, by omega⟩ r ⟨2048 + x.val, by omega⟩) := by
  unfold val_main_v172 val_main_v171 val_main_v170 val_main_v169 val_main_v167 val_main_v166 val_main_v165 val_main_v168 val_main_v11 val_main_v10 val_main_v5 val_main_v4
  generalize val_main_v164 (F := Ideal) x0 x1 x2 = P
  pointwise

/-- The reference's result: softmax over the row of scores with the sink, times the values. -/
theorem ref_apply (b : Fin 32) (r : Fin 2048) (j : Fin 4) (h : Fin 2) (d : Fin 64) :
    val_main_v172 (F := Ideal) x0 x1 x2 (ix3 b r (lq j h d))
      = attend (scoreL x0 b (grp j) (mem j h) r) (scoreC x0 x1 b (grp j) (mem j h) r) (x2 (ix1 (hd j h)))
          (fun k => x0 (ix3 b k (vcol (grp j) d))) (fun c => x1 (ix3 b c (vcol (grp j) d))) := by
  have hj := j.isLt
  have hh := h.isLt
  have hd' := d.isLt
  have eg : (⟨(lq j h d).val / 256, by omega⟩ : Fin 2) = grp j := Fin.ext (show (lq j h d).val / 256 = (grp j).val by simp only [lq, grp]; omega)
  have eu : (⟨(lq j h d).val / 64 % 4, by omega⟩ : Fin 4) = mem j h := Fin.ext (show (lq j h d).val / 64 % 4 = (mem j h).val by simp only [lq, mem]; omega)
  have ev : (⟨640 + ((lq j h d).val / 256 * 64 + (lq j h d).val % 64), by omega⟩ : Fin 768) = vcol (grp j) d :=
    Fin.ext (show 640 + ((lq j h d).val / 256 * 64 + (lq j h d).val % 64) = (vcol (grp j) d).val by simp only [lq, grp, vcol]; omega)
  have et : x2 (ix1 ⟨(grp j).val * 4 + (mem j h).val, by omega⟩) = x2 (ix1 (hd j h)) :=
    congrArg (fun e => x2 (ix1 e)) (Fin.ext (show (grp j).val * 4 + (mem j h).val = (hd j h).val by simp only [grp, mem, hd]; omega))
  rw [v172_row, eg, eu, ev]
  unfold attend
  congr 1
  · refine Finset.sum_congr rfl fun x _ => ?_
    rw [v164_eq x0 x1 x2 b _ _ r _ _ et, joined_lo]
  · refine Finset.sum_congr rfl fun x _ => ?_
    rw [v164_eq x0 x1 x2 b _ _ r _ _ et, joined_hi]

end Cert.Proof.Attn
end
-- ==== Proof.AttnReal.lean ====
/-
  The attention's numbers are real for finite arguments, the mask keeps a row's latent positions within the span its block reads,
  and a score may be scaled before or after its sum.
-/
module

public import proofs.«01_k».proof.Proof.AttnRef

@[expose] public section

set_option maxRecDepth 16384

noncomputable section

open Idealize.ShloMosaic Idealize.ShloMosaic.TcCoe Idealize.ShloMosaic.Tactic

namespace Cert.Proof.Attn

/-- An extended real that is a real number. -/
def IsReal (x : EReal) : Prop := ∃ a : ℝ, x = a

theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.neg {x : EReal} (hx : IsReal x) : IsReal (-x) := by
  obtain ⟨a, rfl⟩ := hx
  exact ⟨-a, (EReal.coe_neg a).symm⟩
theorem IsReal.sum {n : Nat} (f : Fin n → EReal) (h : ∀ i, IsReal (f i)) : IsReal (∑ i, f i) := by
  induction n with
  | zero => exact ⟨0, by simp⟩
  | succ n ih => rw [Fin.sum_univ_succ]; exact (h 0).add (ih _ fun i => h _)

/-! ## The literals -/

theorem eighth_lit : Ideal.ofBits .f32 0x3E000000#32 = ((0.125 : ℝ) : EReal) := by
  simp [Ideal.ofBits, Ideal.ieee, -EReal.coe_mul]
  norm_num
theorem tenk_lit : Ideal.ofBits .f32 0x461C4000#32 = ((10000 : ℝ) : EReal) := by
  simp [Ideal.ofBits, Ideal.ieee, -EReal.coe_mul]
  norm_num
theorem sixteen_lit : Ideal.ofBits .f32 0x41800000#32 = ((16 : ℝ) : EReal) := by
  simp [Ideal.ofBits, Ideal.ieee, -EReal.coe_mul]
  norm_num

/-! ## The tables -/

open Cert.ReferenceIdeal Cert.ReferenceIdeal.Read

/-- An angle: a position times a negative power of 10000. -/
def angle (p : BitVec 32) (f : ℕ) : EReal :=
  FloatOps.sitofp (F := Ideal) .f32 p
    * Ideal.pow (Ideal.ofBits .f32 0x461C4000#32) (Ideal.div (-FloatOps.sitofp (F := Ideal) .f32 (BitVec.ofNat 32 f)) (Ideal.ofBits .f32 0x41800000#32))

theorem angle_real (p : BitVec 32) (f : ℕ) : IsReal (angle p f) := by
  unfold angle
  rw [tenk_lit, sixteen_lit, Ideal.div_coe (by norm_num)]
  have h : ∀ q : BitVec 32, IsReal (FloatOps.sitofp (F := Ideal) .f32 q) := fun q => ⟨_, rfl⟩
  obtain ⟨e, he⟩ := ((h (BitVec.ofNat 32 f)).neg).mul (⟨1 / 16, rfl⟩ : IsReal (((1 / 16 : ℝ)) : EReal))
  refine (h p).mul ?_
  rw [he]
  exact ⟨Real.rpow 10000 e, rfl⟩

theorem rowAng_angle (r : Fin 2048) (f : Fin 16) : ∃ p, rowAng (ix2 r f) = angle p f.val := by
  unfold rowAng angle val_main_v26 val_main_v25 val_main_v24 val_main_v23 val_main_v22 val_main_v21
  generalize val_main_v20 (F := Ideal) = p
  unfold val_main_v18 val_main_v17 val_main_v16 val_main_v15 val_main_v14 val_main_v13 val_main_cst_0 val_main_cst
  refine ⟨p (ix1 r), ?_⟩
  pointwise
theorem colAng_angle (r : Fin 2048) (f : Fin 16) : ∃ p, colAng (ix2 r f) = angle p f.val := by
  unfold colAng angle val_main_v51 val_main_v50 val_main_v49 val_main_v48 val_main_v47 val_main_v46
  generalize val_main_v45 (F := Ideal) = p
  unfold val_main_v18 val_main_v17 val_main_v16 val_main_v15 val_main_v14 val_main_v13 val_main_cst_0 val_main_cst
  refine ⟨p (ix1 r), ?_⟩
  pointwise

theorem ang_real (r : Fin 2048) (d : Fin 64) : IsReal (ang r d) := by
  unfold ang
  split
  · obtain ⟨p, e⟩ := rowAng_angle r ⟨d.val % 16, by omega⟩
    rw [e]; exact angle_real _ _
  · obtain ⟨p, e⟩ := colAng_angle r ⟨d.val % 16, by omega⟩
    rw [e]; exact angle_real _ _

theorem cosE_real (r : Fin 2048) (d : Fin 64) : IsReal (cosE r d) := by
  unfold cosE
  obtain ⟨a, e⟩ := ang_real r d
  rw [e]
  exact ⟨Real.cos a, rfl⟩
theorem sgnSin_real (r : Fin 2048) (d : Fin 64) : IsReal (sgnSin r d) := by
  unfold sgnSin sinE
  obtain ⟨a, e⟩ := ang_real r d
  rw [e]
  refine IsReal.mul ⟨Real.sin a, rfl⟩ ?_
  split
  · exact ⟨-1, by simp⟩
  · exact ⟨1, by simp⟩

theorem rope_real (x c s : Fin 64 → EReal) (hx : ∀ d, IsReal (x d)) (hc : ∀ d, IsReal (c d)) (hs : ∀ d, IsReal (s d)) (d : Fin 64) : IsReal (rope x c s d) :=
  ((hx _).mul (hc _)).add ((hx _).mul (hs _))

/-! ## Scores -/

/-- The kernel scales the query's entries, the reference the sum. -/
theorem scaled (q k : Fin 64 → EReal) (hq : ∀ d, IsReal (q d)) (hk : ∀ d, IsReal (k d)) :
    ∑ d, q d * Ideal.ofBits .f32 0x3E000000#32 * k d = (∑ d, k d * q d) * Ideal.ofBits .f32 0x3E000000#32 := by
  choose u hu using hq
  choose w hw using hk
  rw [funext hu, funext hw, eighth_lit]
  exact score_eq u w 0.125

theorem scaled_real (q k : Fin 64 → EReal) (hq : ∀ d, IsReal (q d)) (hk : ∀ d, IsReal (k d)) :
    IsReal ((∑ d, k d * q d) * Ideal.ofBits .f32 0x3E000000#32) :=
  (IsReal.sum _ fun d => (hk d).mul (hq d)).mul ⟨_, eighth_lit⟩

/-! ## The mask -/

theorem near_dist (R k : ℕ) (hR : R < 2048) (hk : k < 2048) (h : near (BitVec.ofNat 32 R) (BitVec.ofNat 32 k) = 1#1) : R ≤ k + 128 ∧ k ≤ R + 128 := by
  have e : (BitVec.ofNat 32 R - BitVec.ofNat 32 k).toInt = (R : ℤ) - k := by
    rw [BitVec.toInt_sub, BitVec.toInt_ofNat', BitVec.toInt_ofNat']
    simp only [Int.bmod]
    omega
  unfold near IntOp.cmpi IntOp.absi IntOp.subi at h
  generalize BitVec.ofNat 32 R - BitVec.ofNat 32 k = D at e h
  have hb : ∀ w : Bool, BitVec.ofBool w = 1#1 → w = true := by decide
  have h' : (if D.msb = true then -D else D).sle 128#32 = true := hb _ h
  rw [BitVec.sle_iff_toInt_le, show (128#32).toInt = 128 from rfl, BitVec.msb_eq_toInt] at h'
  by_cases hn : D.toInt < 0
  · rw [if_pos (by simpa using hn), BitVec.toInt_neg, e] at h'
    simp only [Int.bmod] at h'
    omega
  · rw [if_neg (by simpa using hn), e] at h'
    omega

/-- The first position of the span that block `p` reads. -/
def spanStart (p : ℕ) : ℕ := min 1664 (128 * p - 128)

theorem span_fits (p : ℕ) : spanStart p + 384 ≤ 2048 := by
  unfold spanStart
  omega

theorem near_span (p : Fin 16) (r : Fin 128) (k : Fin 2048) (h : near (BitVec.ofNat 32 (128 * p.val + r.val)) (BitVec.ofNat 32 k.val) = 1#1) :
    spanStart p.val ≤ k.val ∧ k.val < spanStart p.val + 384 := by
  have := near_dist _ _ (by omega) k.isLt h
  unfold spanStart
  omega

end Cert.Proof.Attn
end
-- ==== Proof.AttnRun.lean ====
/-
  What a grid point of the attention kernel leaves in the output's staging buffer, as `blkOut` of the loaded blocks: its four
  stores are the four pairs of heads, side by side.
-/
module

public import proofs.«01_k».proof.Proof.AttnBlock
public import proofs.«01_k».proof.Proof.Gen.KernelIdeal.Value

@[expose] public section

set_option maxRecDepth 16384

noncomputable section

open Idealize.ShloMosaic Idealize.ShloMosaic.TcCoe

namespace Cert.Proof.Attn

open Cert.KernelIdeal Cert.KernelIdeal.Gen

/-- Four blocks of 128 columns side by side. -/
def beside (B : Fin 4 → FVec Ideal S1x128x128 .f32) (y : S1x128x512.Idx) : EReal :=
  B ⟨(y 2).val / 128, by have : (y 2).val < 512 := (y 2).isLt; omega⟩
    (ix3 0 ⟨(y 1).val, (y 1).isLt⟩ ⟨(y 2).val % 128, Nat.mod_lt _ (by decide)⟩)

theorem beside_emb (B : Fin 4 → FVec Ideal S1x128x128 .f32) (j : Fin 4) (o : ℕ) (ho : o = 128 * j.val) (inb) (x : S1x128x128.Idx) :
    B j x = beside B ((Rect.unit (s := S1x128x512) ![0, 0, o] ![1, 128, 128] inb).emb x) := by
  have h0 : (x 0).val < 1 := (x 0).isLt
  have h1 : (x 1).val < 128 := (x 1).isLt
  have h2 : (x 2).val < 128 := (x 2).isLt
  have e : ∀ a, ((Rect.unit (s := S1x128x512) ![0, 0, o] ![1, 128, 128] inb).emb x a).val = (![0, 0, o] : Fin 3 → ℕ) a + (x a).val :=
    fun a => congrArg (_ + ·) (Nat.one_mul _)
  have e1 := e 1
  have e2 := e 2
  simp only [Matrix.cons_val] at e1 e2
  unfold beside
  refine congr (congrArg B (Fin.ext ?_)) (funext fun a => Fin.ext ?_)
  · refine Eq.trans (b := (o + (x 2).val) / 128) ?_ (congrArg (· / 128) e2.symm)
    omega
  · match a with
    | ⟨0, _⟩ => show (x 0).val = 0; omega
    | ⟨1, _⟩ => exact (e1.trans (Nat.zero_add _)).symm
    | ⟨2, _⟩ =>
      refine Eq.trans (b := (o + (x 2).val) % 128) ?_ (congrArg (· % 128) e2.symm)
      show (x 2).val = (o + (x 2).val) % 128
      omega

theorem beside_apply (B : Fin 4 → FVec Ideal S1x128x128 .f32) (j : Fin 4) (h : Fin 2) (r : Fin 128) (d : Fin 64) :
    beside B (ix3 0 r (lq j h d)) = B j (ix3 0 r (ln h d)) := by
  unfold beside
  refine congr (congrArg B (Fin.ext ?_)) (congrArg (ix3 0 r) (Fin.ext ?_))
  · show (128 * j.val + (64 * h.val + d.val)) / 128 = j.val; omega
  · show (128 * j.val + (64 * h.val + d.val)) % 128 = 64 * h.val + d.val; omega

/-- The sink words' rectangle of head `e`. -/
theorem inb_sink (e : Fin 8) : ∀ a, (![e.val, 0] : Fin 2 → ℕ) a + S1x1.size a ≤ S8x128.size a := by
  intro a
  match a with
  | ⟨0, _⟩ => show e.val + 1 ≤ 8; omega
  | ⟨1, _⟩ => show 0 + 1 ≤ 128; omega

theorem zero3 : (![0, 0, 0] : Fin 3 → ℕ) = fun _ => 0 := funext fun a => by fin_cases a <;> rfl

theorem out_eq (c : Dev nD) (i : grid0.Coords) (arg2 : Memref sig .tc .vmem S1x128x512 .f32) (h2 : arg2.IsWhole)
    (arg3 : Memref sig .tc .vmem S1x2048x256 .f32) (h3 : arg3.IsWhole) (arg4 : Memref sig .tc .vmem S1x256x256 .f32) (h4 : arg4.IsWhole)
    (arg5 : Memref sig .tc .vmem S2048x128 .f32) (h5 : arg5.IsWhole) (arg6 : Memref sig .tc .vmem S2048x128 .f32) (h6 : arg6.IsWhole)
    (arg7 : Memref sig .tc .vmem S8x128 .f32) (h7 : arg7.IsWhole) (arg8 : Memref sig .tc .vmem S1x128x512 .f32) (h8 : arg8.IsWhole)
    (x0 : Vec Ideal S1x128x512 .f32) (x1 : Vec Ideal S1x2048x256 .f32) (x2 : Vec Ideal S1x256x256 .f32) (x3 x4 : Vec Ideal S2048x128 .f32) (x5 : Vec Ideal S8x128 .f32) :
    out0_A_6 (F := Ideal) c i arg2 h2 arg3 h3 arg4 h4 arg5 h5 arg6 h6 arg7 h7 arg8 h8 x0 x1 x2 x3 x4 x5
      = beside (blkOut (k0_mult1 i) (k0_mult2 i) x0 x2
          (View.ld x3 (Rect.unit (s := S2048x128) (k0_off1 i) S128x128.size (k0_off1_inb i)))
          (View.ld x4 (Rect.unit (s := S2048x128) (k0_off1 i) S128x128.size (k0_off1_inb i)))
          (View.ld x1 (Rect.unit (s := S1x2048x256) (k0_off2 i) S1x384x256.size (k0_off2_inb i)))
          (View.ld x3 (Rect.unit (s := S2048x128) (k0_off3 i) S384x128.size (k0_off3_inb i)))
          (View.ld x4 (Rect.unit (s := S2048x128) (k0_off3 i) S384x128.size (k0_off3_inb i)))
          (fun e => View.ld x5 (Rect.unit (s := S8x128) ![e.val, 0] S1x1.size (inb_sink e)))) := by
  have hx0 : View.readAt (Elt Ideal) arg2.view (Rect.unit ![0, 0, 0] S1x128x512.size inb_S1x128x512_S1x128x512_0_0_0).toLoadRect (h2.unread x0) = x0 := by
    rw [View.readAt_eq_ld, h2.read_unread]; exact View.ld_unit_zero zero3 _ _
  have hx2 : View.readAt (Elt Ideal) arg4.view (Rect.unit ![0, 0, 0] S1x256x256.size inb_S1x256x256_S1x256x256_0_0_0).toLoadRect (h4.unread x2) = x2 := by
    rw [View.readAt_eq_ld, h4.read_unread]; exact View.ld_unit_zero zero3 _ _
  have e1 : View.readAt (Elt Ideal) arg5.view (Rect.unit (s := S2048x128) (k0_off1 i) S128x128.size (k0_off1_inb i)).toLoadRect (h5.unread x3) = View.ld x3 (Rect.unit (s := S2048x128) (k0_off1 i) S128x128.size (k0_off1_inb i)) := by
    rw [View.readAt_eq_ld, h5.read_unread]
  have e2 : View.readAt (Elt Ideal) arg6.view (Rect.unit (s := S2048x128) (k0_off1 i) S128x128.size (k0_off1_inb i)).toLoadRect (h6.unread x4) = View.ld x4 (Rect.unit (s := S2048x128) (k0_off1 i) S128x128.size (k0_off1_inb i)) := by
    rw [View.readAt_eq_ld, h6.read_unread]
  have e3 : View.readAt (Elt Ideal) arg3.view (Rect.unit (s := S1x2048x256) (k0_off2 i) S1x384x256.size (k0_off2_inb i)).toLoadRect (h3.unread x1) = View.ld x1 (Rect.unit (s := S1x2048x256) (k0_off2 i) S1x384x256.size (k0_off2_inb i)) := by
    rw [View.readAt_eq_ld, h3.read_unread]
  have e4 : View.readAt (Elt Ideal) arg5.view (Rect.unit (s := S2048x128) (k0_off3 i) S384x128.size (k0_off3_inb i)).toLoadRect (h5.unread x3) = View.ld x3 (Rect.unit (s := S2048x128) (k0_off3 i) S384x128.size (k0_off3_inb i)) := by
    rw [View.readAt_eq_ld, h5.read_unread]
  have e5 : View.readAt (Elt Ideal) arg6.view (Rect.unit (s := S2048x128) (k0_off3 i) S384x128.size (k0_off3_inb i)).toLoadRect (h6.unread x4) = View.ld x4 (Rect.unit (s := S2048x128) (k0_off3 i) S384x128.size (k0_off3_inb i)) := by
    rw [View.readAt_eq_ld, h6.read_unread]
  have e6 : (fun e : Fin 8 => View.readAt (Elt Ideal) arg7.view (Rect.unit (s := S8x128) ![e.val, 0] S1x1.size (inb_sink e)).toLoadRect (h7.unread x5)) = fun e => View.ld x5 (Rect.unit (s := S8x128) ![e.val, 0] S1x1.size (inb_sink e)) := by
    funext e
    rw [View.readAt_eq_ld, h7.read_unread]
  rw [← e1, ← e2, ← e3, ← e4, ← e5, ← e6]
  refine Eq.trans ?_ (congrArg₂ (fun u v => beside (blkOut (k0_mult1 i) (k0_mult2 i) u v _ _ _ _ _ _)) hx0 hx2)
  unfold out0_A_6
  rw [View.read_writes_junk_eq_canon]
  funext y
  refine View.canon_apply_of_pieces _ _ ?_ y (cover0_A_6 c i arg2 h2 arg3 h3 arg4 h4 arg5 h5 arg6 h6 arg7 h7 arg8 h8 x0 x1 x2 x3 x4 x5 y)
  unfold kernelRun0_A
  dsimp only
  intro p hp
  simp only [List.mem_cons, List.not_mem_nil, or_false] at hp
  generalize hB : blkOut (k0_mult1 i) (k0_mult2 i) _ _ _ _ _ _ _ _ = B
  rcases hp with rfl | rfl | rfl | rfl
  · intro x
    refine Eq.trans ?_ (beside_emb B 3 384 rfl inb_S1x128x512_S1x128x128_0_0_384 x)
    rw [← hB]
    rfl
  · intro x
    refine Eq.trans ?_ (beside_emb B 2 256 rfl inb_S1x128x512_S1x128x128_0_0_256 x)
    rw [← hB]
    rfl
  · intro x
    refine Eq.trans ?_ (beside_emb B 1 128 rfl inb_S1x128x512_S1x128x128_0_0_128 x)
    rw [← hB]
    rfl
  · intro x
    refine Eq.trans ?_ (beside_emb B 0 0 rfl inb_S1x128x512_S1x128x128_0_0_0 x)
    rw [← hB]
    rfl

end Cert.Proof.Attn
end
-- ==== Proof.AttnPoint.lean ====
/-
  A block of rows of the attention kernel's result, from the blocks its grid point reads, is the reference's rows.
-/
module

public import proofs.«01_k».proof.Proof.AttnReal
public import proofs.«01_k».proof.Proof.AttnRun

@[expose] public section

set_option maxRecDepth 16384

noncomputable section

open Idealize.ShloMosaic Idealize.ShloMosaic.TcCoe

namespace Cert.Proof.Attn

open Cert.KernelIdeal Cert.KernelIdeal.Gen

/-! ## Where a grid point reads -/

theorem start_words : ∀ p : Fin 16, Scalar.muli (BitVec.ofNat 32 p.val) 128#32 = BitVec.ofNat 32 (128 * p.val) := by decide
theorem span_words : ∀ p : Fin 16, Scalar.minsi 1664#32 (Scalar.maxsi 0#32 (Scalar.subi (Scalar.muli (BitVec.ofNat 32 p.val) 128#32) 128#32)) = BitVec.ofNat 32 (spanStart p.val) := by decide

theorem mult1_eq (i : grid0.Coords) (p : Fin 16) (hp : (i 1).val = p.val) : k0_mult1 i = BitVec.ofNat 32 (128 * p.val) := by
  unfold k0_mult1
  rw [hp]
  exact start_words p
theorem mult2_eq (i : grid0.Coords) (p : Fin 16) (hp : (i 1).val = p.val) : k0_mult2 i = BitVec.ofNat 32 (spanStart p.val) := by
  unfold k0_mult2
  rw [hp]
  exact span_words p

theorem start_nat : ∀ p : Fin 16, (Scalar.indexCast (BitVec.ofNat 32 (128 * p.val))).toNat = 128 * p.val := by decide
theorem span_nat : ∀ p : Fin 16, (Scalar.indexCast (BitVec.ofNat 32 (spanStart p.val))).toNat = spanStart p.val := by decide

theorem off1_eq (i : grid0.Coords) (p : Fin 16) (hp : (i 1).val = p.val) : k0_off1 i = ![128 * p.val, 0] := by
  have e : k0_off1 i = ![(Scalar.indexCast (k0_mult1 i)).toNat, 0] := rfl
  rw [e, mult1_eq i p hp, start_nat]
theorem off2_eq (i : grid0.Coords) (p : Fin 16) (hp : (i 1).val = p.val) : k0_off2 i = ![0, spanStart p.val, 0] := by
  have e : k0_off2 i = ![0, (Scalar.indexCast (k0_mult2 i)).toNat, 0] := rfl
  rw [e, mult2_eq i p hp, span_nat]
theorem off3_eq (i : grid0.Coords) (p : Fin 16) (hp : (i 1).val = p.val) : k0_off3 i = ![spanStart p.val, 0] := by
  have e : k0_off3 i = ![(Scalar.indexCast (k0_mult2 i)).toNat, 0] := rfl
  rw [e, mult2_eq i p hp, span_nat]

/-- Reading a table's rows from row `n` on. -/
theorem ld_rows (X : Vec Ideal S2048x128 .f32) (o : Fin 2 → ℕ) (n : ℕ) (ho : o = ![n, 0]) (inb) (r l : Fin 128) (hr : n + r.val < 2048) :
    View.ld X (Rect.unit (s := S2048x128) o S128x128.size inb) (ix2 r l) = X (ix2 ⟨n + r.val, hr⟩ l) := by
  subst ho
  refine congrArg X (funext fun a => Fin.ext ?_)
  refine (congrArg (_ + ·) (Nat.one_mul _)).trans ?_
  match a with
  | ⟨0, _⟩ => rfl
  | ⟨1, _⟩ => exact Nat.zero_add _
theorem ld_span (X : Vec Ideal S2048x128 .f32) (o : Fin 2 → ℕ) (n : ℕ) (ho : o = ![n, 0]) (inb) (k : Fin 384) (l : Fin 128) (hr : n + k.val < 2048) :
    View.ld X (Rect.unit (s := S2048x128) o S384x128.size inb) (ix2 k l) = X (ix2 ⟨n + k.val, hr⟩ l) := by
  subst ho
  refine congrArg X (funext fun a => Fin.ext ?_)
  refine (congrArg (_ + ·) (Nat.one_mul _)).trans ?_
  match a with
  | ⟨0, _⟩ => rfl
  | ⟨1, _⟩ => exact Nat.zero_add _
/-- Reading the keys' and values' rows from row `n` on. -/
theorem ld_kv (X : Vec Ideal S1x2048x256 .f32) (o : Fin 3 → ℕ) (n : ℕ) (ho : o = ![0, n, 0]) (inb) (z : Fin 1) (k : Fin 384) (l : Fin 256) (hr : n + k.val < 2048) :
    View.ld X (Rect.unit (s := S1x2048x256) o S1x384x256.size inb) (ix3 z k l) = X (ix3 z ⟨n + k.val, hr⟩ l) := by
  subst ho
  refine congrArg X (funext fun a => Fin.ext ?_)
  refine (congrArg (_ + ·) (Nat.one_mul _)).trans ?_
  match a with
  | ⟨0, _⟩ => exact Nat.zero_add _
  | ⟨1, _⟩ => rfl
  | ⟨2, _⟩ => exact Nat.zero_add _
/-- Reading a sink. -/
theorem ld_sink (X : Vec Ideal S8x128 .f32) (e : Fin 8) (z y : Fin 1) :
    View.ld X (Rect.unit (s := S8x128) ![e.val, 0] S1x1.size (inb_sink e)) (ix2 z y) = X (ix2 e ⟨y.val, by omega⟩) := by
  refine congrArg X (funext fun a => Fin.ext ?_)
  refine (congrArg (_ + ·) (Nat.one_mul _)).trans ?_
  match a with
  | ⟨0, _⟩ => show e.val + z.val = e.val; omega
  | ⟨1, _⟩ => exact Nat.zero_add _

/-! ## The point -/

theorem rope_congr {x x' c c' s s' : Fin 64 → EReal} (hx : ∀ d, x d = x' d) (hc : ∀ d, c d = c' d) (hs : ∀ d, s d = s' d) : rope x c s = rope x' c' s' := by
  rw [funext hx, funext hc, funext hs]

/-- The rotated query of pair `j`, half `h` at a row, and the rotated key of group `g` at a position. -/
def qrotd (A : FVec Ideal S32x2048x768 .f32) (b : Fin 32) (r : Fin 2048) (j : Fin 4) (h : Fin 2) : Fin 64 → EReal :=
  rope (fun d => A (ix3 b r (qcol (lq j h d)))) (cosE r) (sgnSin r)
def krotd (A : FVec Ideal S32x2048x768 .f32) (b : Fin 32) (k : Fin 2048) (g : Fin 2) : Fin 64 → EReal :=
  rope (fun d => A (ix3 b k (kcol g d))) (cosE k) (sgnSin k)

theorem qrotd_ref (A : FVec Ideal S32x2048x768 .f32) (b : Fin 32) (r : Fin 2048) (j : Fin 4) (h : Fin 2) (d : Fin 64) :
    Cert.ReferenceIdeal.Read.val_main_v70 (F := Ideal) A (ix5 b r (grp j) (mem j h) d) = qrotd A b r j h d := by
  refine (qrot A b r (grp j) (mem j h) d).trans (congrFun (rope_congr (fun d => congrArg (fun l => A (ix3 b r l)) (Fin.ext ?_)) (fun _ => rfl) (fun _ => rfl)) d)
  show ((grp j).val * 4 + (mem j h).val) * 64 + d.val = (lq j h d).val
  simp only [grp, mem, lq]
  omega
theorem krotd_ref (A : FVec Ideal S32x2048x768 .f32) (b : Fin 32) (k : Fin 2048) (g : Fin 2) (d : Fin 64) :
    Cert.ReferenceIdeal.Read.val_main_v128 (F := Ideal) A (ix4 b k g d) = krotd A b k g d := by
  refine (krot A b k g d).trans (congrFun (rope_congr (fun d => congrArg (fun l => A (ix3 b k l)) (Fin.ext ?_)) (fun _ => rfl) (fun _ => rfl)) d)
  show 512 + (g.val * 64 + d.val) = (kcol g d).val
  simp only [kcol]
  omega

theorem select_neg (c : BitVec 1) (x y : EReal) (h : c ≠ 1#1) : Scalar.select c x y = y := if_neg h
theorem select_or (c : BitVec 1) (x y : EReal) : Scalar.select c x y = y ∨ Scalar.select c x y = x := by
  by_cases h : c = 1#1
  · exact Or.inr (if_pos h)
  · exact Or.inl (if_neg h)

section

variable (A : FVec Ideal S32x2048x768 .f32) (B : FVec Ideal S32x256x768 .f32) (s : FVec Ideal S8 .f32)

theorem scoreL_rot (b : Fin 32) (r k : Fin 2048) (j : Fin 4) (h : Fin 2) :
    scoreL A b (grp j) (mem j h) r k
      = Scalar.select (near (BitVec.ofNat 32 r.val) (BitVec.ofNat 32 k.val)) ((∑ d, krotd A b k (grp j) d * qrotd A b r j h d) * Ideal.ofBits .f32 0x3E000000#32) ⊥ := by
  unfold scoreL
  simp only [qrotd_ref, krotd_ref]
theorem scoreC_rot (b : Fin 32) (r : Fin 2048) (c : Fin 256) (j : Fin 4) (h : Fin 2) :
    scoreC A B b (grp j) (mem j h) r c = (∑ d, B (ix3 b c (kcol (grp j) d)) * qrotd A b r j h d) * Ideal.ofBits .f32 0x3E000000#32 := by
  unfold scoreC
  simp only [qrotd_ref]

variable (hA : ∀ i, IsReal (A i)) (hB : ∀ i, IsReal (B i)) (hs : ∀ i, IsReal (s i))
include hA hB hs

theorem point_eq (i : grid0.Coords) (p : Fin 16) (hp : (i 1).val = p.val) (b : Fin 32)
    (x0 : Vec Ideal S1x128x512 .f32) (x1 : Vec Ideal S1x2048x256 .f32) (x2 : Vec Ideal S1x256x256 .f32) (x3 x4 : Vec Ideal S2048x128 .f32) (x5 : Vec Ideal S8x128 .f32)
    (h0 : ∀ (r : Fin 128) (n : Fin 512), x0 (ix3 0 r n) = A (ix3 b ⟨128 * p.val + r.val, by omega⟩ (qcol n)))
    (h1 : ∀ (k : Fin 2048) (l : Fin 256), x1 (ix3 0 k l) = A (ix3 b k ⟨512 + l.val, by omega⟩))
    (h2 : ∀ (c : Fin 256) (l : Fin 256), x2 (ix3 0 c l) = B (ix3 b c ⟨512 + l.val, by omega⟩))
    (h3 : ∀ (r : Fin 2048) (h : Fin 2) (d : Fin 64), x3 (ix2 r (ln h d)) = cosE r d)
    (h4 : ∀ (r : Fin 2048) (h : Fin 2) (d : Fin 64), x4 (ix2 r (ln h d)) = sgnSin r d)
    (h5 : ∀ (e : Fin 8) (l : Fin 128), x5 (ix2 e l) = s (ix1 e))
    (j : Fin 4) (h : Fin 2) (r : Fin 128) (d : Fin 64) :
    beside (blkOut (k0_mult1 i) (k0_mult2 i) x0 x2
          (View.ld x3 (Rect.unit (s := S2048x128) (k0_off1 i) S128x128.size (k0_off1_inb i)))
          (View.ld x4 (Rect.unit (s := S2048x128) (k0_off1 i) S128x128.size (k0_off1_inb i)))
          (View.ld x1 (Rect.unit (s := S1x2048x256) (k0_off2 i) S1x384x256.size (k0_off2_inb i)))
          (View.ld x3 (Rect.unit (s := S2048x128) (k0_off3 i) S384x128.size (k0_off3_inb i)))
          (View.ld x4 (Rect.unit (s := S2048x128) (k0_off3 i) S384x128.size (k0_off3_inb i)))
          (fun e => View.ld x5 (Rect.unit (s := S8x128) ![e.val, 0] S1x1.size (inb_sink e)))) (ix3 0 r (lq j h d))
      = Cert.ReferenceIdeal.Read.val_main_v172 (F := Ideal) A B s (ix3 b ⟨128 * p.val + r.val, by omega⟩ (lq j h d)) := by
  have hqr : ∀ (r : Fin 2048) d, IsReal (qrotd A b r j h d) := fun r d => rope_real _ _ _ (fun _ => hA _) (cosE_real r) (sgnSin_real r) d
  have hkr : ∀ (k : Fin 2048) d, IsReal (krotd A b k (grp j) d) := fun k d => rope_real _ _ _ (fun _ => hA _) (cosE_real k) (sgnSin_real k) d
  have hfit := span_fits p.val
  -- the kernel's rotations are the reference's
  have eq : qrow x0 (View.ld x3 (Rect.unit (s := S2048x128) (k0_off1 i) S128x128.size (k0_off1_inb i))) (View.ld x4 (Rect.unit (s := S2048x128) (k0_off1 i) S128x128.size (k0_off1_inb i))) j h r
      = qrotd A b ⟨128 * p.val + r.val, by omega⟩ j h :=
    rope_congr (fun d => h0 r _) (fun d => (ld_rows x3 _ _ (off1_eq i p hp) _ r _ (by omega)).trans (h3 _ h d)) (fun d => (ld_rows x4 _ _ (off1_eq i p hp) _ r _ (by omega)).trans (h4 _ h d))
  have ek : ∀ k : Fin 384, krow (View.ld x1 (Rect.unit (s := S1x2048x256) (k0_off2 i) S1x384x256.size (k0_off2_inb i))) (View.ld x3 (Rect.unit (s := S2048x128) (k0_off3 i) S384x128.size (k0_off3_inb i)))
      (View.ld x4 (Rect.unit (s := S2048x128) (k0_off3 i) S384x128.size (k0_off3_inb i))) (grp j) k = krotd A b (at' (spanStart p.val) hfit k) (grp j) := fun k =>
    rope_congr (fun d => (ld_kv x1 _ _ (off2_eq i p hp) _ 0 k _ (by omega)).trans (h1 _ _)) (fun d => (ld_span x3 _ _ (off3_eq i p hp) _ k _ (by omega)).trans (h3 _ _ d))
      (fun d => (ld_span x4 _ _ (off3_eq i p hp) _ k _ (by omega)).trans (h4 _ _ d))
  rw [beside_apply, blkOut_apply, ref_apply, eq]
  simp only [ek]
  choose u hu using hA
  choose w hw using hB
  choose σ hσ using hs
  have hsc : ∀ c, IsReal (scoreC A B b (grp j) (mem j h) ⟨128 * p.val + r.val, by omega⟩ c) := fun c => by
    rw [scoreC_rot]
    exact scaled_real _ _ (hqr _) (fun d => ⟨_, hw _⟩)
  choose β hβ using hsc
  refine Eq.trans ?_ (attend_eq (scoreL A b (grp j) (mem j h) ⟨128 * p.val + r.val, by omega⟩) (scoreC A B b (grp j) (mem j h) ⟨128 * p.val + r.val, by omega⟩)
    (s (ix1 (hd j h))) (spanStart p.val) hfit (σ (ix1 (hd j h))) (hσ _) (fun k => A (ix3 b k (vcol (grp j) d))) (fun c => B (ix3 b c (vcol (grp j) d)))
    (fun k => u (ix3 b k (vcol (grp j) d))) (fun c => w (ix3 b c (vcol (grp j) d))) (fun k => hu _) (fun c => hw _) β hβ ?_ ?_)
  · refine attendSpan_congr (fun k => ?_) (fun c => ?_) ((ld_sink x5 (hd j h) 0 0).trans (h5 _ _)) (fun k => ?_) (fun c => ?_)
    · rw [scoreL_rot, mult1_eq i p hp, mult2_eq i p hp, ← BitVec.ofNat_add, ← BitVec.ofNat_add, scaled _ _ (hqr _) (hkr _)]
      rfl
    · rw [scoreC_rot]
      have ex : ∀ d, x2 (ix3 0 c (lk (grp j) d)) = B (ix3 b c (kcol (grp j) d)) := fun d => h2 c _
      simp only [ex]
      exact scaled _ _ (hqr _) (fun d => ⟨_, hw _⟩)
    · exact (ld_kv x1 _ _ (off2_eq i p hp) _ 0 k _ (by omega)).trans ((h1 _ _).trans (congrArg (fun l => A (ix3 b _ l)) (Fin.ext (show 512 + (128 + (64 * (grp j).val + d.val)) = 640 + (64 * (grp j).val + d.val) by omega))))
    · exact (h2 c _).trans (congrArg (fun l => B (ix3 b c l)) (Fin.ext (show 512 + (128 + (64 * (grp j).val + d.val)) = 640 + (64 * (grp j).val + d.val) by omega)))
  · intro k
    rw [scoreL_rot]
    refine (select_or _ _ _).imp_right fun e => ?_
    rw [e]
    exact scaled_real _ _ (hqr _) (hkr _)
  · intro k hk
    rw [scoreL_rot]
    exact select_neg _ _ _ fun e => hk (near_span p r k e)

end

end Cert.Proof.Attn
end
-- ==== Proof.Attn.lean ====
/-
  The windowed attention: every query row attends to the latent positions within 128 of it and to the context, with one sink term
  per head. Each grid point computes 128 rows of one batch entry from the 384 positions around them, with the four pairs of heads
  stacked; the reference takes the softmax over all positions with the distant ones masked.
-/
module

public import proofs.«01_k».proof.Defs
public import proofs.«01_k».proof.Proof.AttnPoint
public import proofs.«01_k».proof.Proof.Gen.Pre_finite
public import proofs.«01_k».proof.Proof.Gen.ReferenceIdeal.Run
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Proof.Attn

open Cert.KernelIdeal Cert.KernelIdeal.Gen

variable (m : (ℓ : Loc nD τ sig) → Buf (Elt Ideal) ℓ)

/-! ## Finite arguments -/

theorem inf_lit : Ideal.ofBits .f32 0x7F800000#32 = ⊤ := by
  simp [Ideal.ofBits, Ideal.ieee, -EReal.coe_mul]

theorem real_of_lt {x : EReal} (h : Ideal.cmp .olt (max x (-x)) (Ideal.ofBits .f32 0x7F800000#32) = 1#1) : IsReal x := by
  rw [inf_lit] at h
  induction x with
  | bot => simp [Ideal.cmp] at h
  | top => simp [Ideal.cmp] at h
  | coe a => exact ⟨a, rfl⟩

instance : Subsingleton S_.Idx := ⟨fun a b => funext fun i => i.elim0⟩

theorem finite_args (a0 : FVec Ideal S32x2048x768 .f32) (a1 : FVec Ideal S32x256x768 .f32) (a2 : FVec Ideal S8 .f32)
    (h : @Cert.Pre_finite.fn Cert.Pre_finite.Gen.facts Ideal _ a0 a1 a2 = fun _ => 1#1) :
    (∀ i, IsReal (a0 i)) ∧ (∀ i, IsReal (a1 i)) ∧ (∀ i, IsReal (a2 i)) := by
  have h := congrFun h ix0
  unfold Cert.Pre_finite.fn at h
  dsimp only at h
  obtain ⟨h01, h2⟩ := IntOp.andi_eq_one.1 h
  obtain ⟨h0, h1⟩ := IntOp.andi_eq_one.1 h01
  exact ⟨fun i => real_of_lt (Host.reduce_andi_all _ _ _ _ _ h0 i), fun i => real_of_lt (Host.reduce_andi_all _ _ _ _ _ h1 i), fun i => real_of_lt (Host.reduce_andi_all _ _ _ _ _ h2 i)⟩

/-! ## The blocks of a grid point -/

theorem N_eq : cfg0.N = 512 := N_0

theorem idx0 : ∀ t : Fin cfg0.N, win0_0.index t ((0 : Fin 3)) = t.val / 16 ∧ win0_0.index t ((1 : Fin 3)) = t.val % 16 ∧ win0_0.index t ((2 : Fin 3)) = 0 :=
  (by decide +kernel : ∀ t : Fin grid0.N, win0_0.index t ((0 : Fin 3)) = t.val / 16 ∧ win0_0.index t ((1 : Fin 3)) = t.val % 16 ∧ win0_0.index t ((2 : Fin 3)) = 0)
theorem idx1 : ∀ t : Fin cfg0.N, win0_1.index t ((0 : Fin 3)) = t.val / 16 ∧ win0_1.index t ((1 : Fin 3)) = 0 ∧ win0_1.index t ((2 : Fin 3)) = 2 :=
  (by decide +kernel : ∀ t : Fin grid0.N, win0_1.index t ((0 : Fin 3)) = t.val / 16 ∧ win0_1.index t ((1 : Fin 3)) = 0 ∧ win0_1.index t ((2 : Fin 3)) = 2)
theorem idx2 : ∀ t : Fin cfg0.N, win0_2.index t ((0 : Fin 3)) = t.val / 16 ∧ win0_2.index t ((1 : Fin 3)) = 0 ∧ win0_2.index t ((2 : Fin 3)) = 2 :=
  (by decide +kernel : ∀ t : Fin grid0.N, win0_2.index t ((0 : Fin 3)) = t.val / 16 ∧ win0_2.index t ((1 : Fin 3)) = 0 ∧ win0_2.index t ((2 : Fin 3)) = 2)
theorem idx3 : ∀ t : Fin cfg0.N, win0_3.index t ((0 : Fin 2)) = 0 ∧ win0_3.index t ((1 : Fin 2)) = 0 :=
  (by decide +kernel : ∀ t : Fin grid0.N, win0_3.index t ((0 : Fin 2)) = 0 ∧ win0_3.index t ((1 : Fin 2)) = 0)
theorem idx4 : ∀ t : Fin cfg0.N, win0_4.index t ((0 : Fin 2)) = 0 ∧ win0_4.index t ((1 : Fin 2)) = 0 :=
  (by decide +kernel : ∀ t : Fin grid0.N, win0_4.index t ((0 : Fin 2)) = 0 ∧ win0_4.index t ((1 : Fin 2)) = 0)
theorem idx5 : ∀ t : Fin cfg0.N, win0_5.index t ((0 : Fin 2)) = 0 ∧ win0_5.index t ((1 : Fin 2)) = 0 :=
  (by decide +kernel : ∀ t : Fin grid0.N, win0_5.index t ((0 : Fin 2)) = 0 ∧ win0_5.index t ((1 : Fin 2)) = 0)
theorem idx6 : ∀ t : Fin cfg0.N, win0_6.index t ((0 : Fin 3)) = t.val / 16 ∧ win0_6.index t ((1 : Fin 3)) = t.val % 16 ∧ win0_6.index t ((2 : Fin 3)) = 0 :=
  (by decide +kernel : ∀ t : Fin grid0.N, win0_6.index t ((0 : Fin 3)) = t.val / 16 ∧ win0_6.index t ((1 : Fin 3)) = t.val % 16 ∧ win0_6.index t ((2 : Fin 3)) = 0)
theorem coord1 : ∀ t : Fin cfg0.N, (grid0.coords t 1).val = t.val % 16 :=
  (by decide +kernel : ∀ t : Fin grid0.N, (grid0.coords t 1).val = t.val % 16)

/-- The batch entry and the block of rows of a grid point. -/
def bat (t : Fin cfg0.N) : Fin 32 := ⟨t.val / 16, by have := t.isLt; have := N_eq; omega⟩
def blk (t : Fin cfg0.N) : Fin 16 := ⟨t.val % 16, by omega⟩
def row (t : Fin cfg0.N) (r : Fin 128) : Fin 2048 := ⟨128 * (blk t).val + r.val, by have := (blk t).isLt; omega⟩

theorem iblk0 (c : Dev nD) (t : Fin cfg0.N) (r : Fin 128) (n : Fin 512) :
    X0_0 m c t (ix3 0 r n) = m ((c : Thread nD τ).loc main_arg0) (ix3 (bat t) ⟨128 * (blk t).val + r.val, by have := (blk t).isLt; omega⟩ (qcol n)) := by
  rw [← V_main_arg0 m c]
  unfold X0_0 Pipeline.Window.fill
  rw [dif_pos (moved0_0 t _)]
  show V m c main_arg0 (((cfg0.win 0).blk t).view.emb _) = _
  obtain ⟨e0, e1, e2⟩ := idx0 t
  congr 1; funext a; apply Fin.ext
  match a with
  | ⟨0, _⟩ => show win0_0.index t (0 : Fin 3) * 1 + 1 * 0 = t.val / 16; omega
  | ⟨1, _⟩ => show win0_0.index t (1 : Fin 3) * 128 + 1 * r.val = 128 * (t.val % 16) + r.val; omega
  | ⟨2, _⟩ => show win0_0.index t (2 : Fin 3) * 512 + 1 * n.val = n.val; omega
theorem iblk1 (c : Dev nD) (t : Fin cfg0.N) (k : Fin 2048) (l : Fin 256) :
    iblk m c 1 t (ix3 0 k l) = m ((c : Thread nD τ).loc main_arg0) (ix3 (bat t) k ⟨512 + l.val, by omega⟩) := by
  rw [← V_main_arg0 m c]
  show V m c main_arg0 (((cfg0.win 1).blk t).view.emb (ix3 0 k l)) = _
  obtain ⟨e0, e1, e2⟩ := idx1 t
  congr 1; funext a; apply Fin.ext
  match a with
  | ⟨0, _⟩ => show win0_1.index t (0 : Fin 3) * 1 + 1 * 0 = t.val / 16; omega
  | ⟨1, _⟩ => show win0_1.index t (1 : Fin 3) * 2048 + 1 * k.val = k.val; omega
  | ⟨2, _⟩ => show win0_1.index t (2 : Fin 3) * 256 + 1 * l.val = 512 + l.val; omega
theorem iblk2 (c : Dev nD) (t : Fin cfg0.N) (k l : Fin 256) :
    iblk m c 2 t (ix3 0 k l) = m ((c : Thread nD τ).loc main_arg1) (ix3 (bat t) k ⟨512 + l.val, by omega⟩) := by
  rw [← V_main_arg1 m c]
  show V m c main_arg1 (((cfg0.win 2).blk t).view.emb (ix3 0 k l)) = _
  obtain ⟨e0, e1, e2⟩ := idx2 t
  congr 1; funext a; apply Fin.ext
  match a with
  | ⟨0, _⟩ => show win0_2.index t (0 : Fin 3) * 1 + 1 * 0 = t.val / 16; omega
  | ⟨1, _⟩ => show win0_2.index t (1 : Fin 3) * 256 + 1 * k.val = k.val; omega
  | ⟨2, _⟩ => show win0_2.index t (2 : Fin 3) * 256 + 1 * l.val = 512 + l.val; omega
theorem iblk3 (c : Dev nD) (t : Fin cfg0.N) (r : Fin 2048) (l : Fin 128) : iblk m c 3 t (ix2 r l) = V m c main_v32 (ix2 r l) := by
  show V m c main_v32 (((cfg0.win 3).blk t).view.emb (ix2 r l)) = _
  obtain ⟨e0, e1⟩ := idx3 t
  congr 1; funext a; apply Fin.ext
  match a with
  | ⟨0, _⟩ => show win0_3.index t (0 : Fin 2) * 2048 + 1 * r.val = r.val; omega
  | ⟨1, _⟩ => show win0_3.index t (1 : Fin 2) * 128 + 1 * l.val = l.val; omega
theorem iblk4 (c : Dev nD) (t : Fin cfg0.N) (r : Fin 2048) (l : Fin 128) : iblk m c 4 t (ix2 r l) = V m c main_v39 (ix2 r l) := by
  show V m c main_v39 (((cfg0.win 4).blk t).view.emb (ix2 r l)) = _
  obtain ⟨e0, e1⟩ := idx4 t
  congr 1; funext a; apply Fin.ext
  match a with
  | ⟨0, _⟩ => show win0_4.index t (0 : Fin 2) * 2048 + 1 * r.val = r.val; omega
  | ⟨1, _⟩ => show win0_4.index t (1 : Fin 2) * 128 + 1 * l.val = l.val; omega
theorem iblk5 (c : Dev nD) (t : Fin cfg0.N) (e : Fin 8) (l : Fin 128) : iblk m c 5 t (ix2 e l) = V m c main_v41 (ix2 e l) := by
  show V m c main_v41 (((cfg0.win 5).blk t).view.emb (ix2 e l)) = _
  obtain ⟨e0, e1⟩ := idx5 t
  congr 1; funext a; apply Fin.ext
  match a with
  | ⟨0, _⟩ => show win0_5.index t (0 : Fin 2) * 8 + 1 * e.val = e.val; omega
  | ⟨1, _⟩ => show win0_5.index t (1 : Fin 2) * 128 + 1 * l.val = l.val; omega
theorem emb6 (t : Fin cfg0.N) (r : Fin 128) (n : Fin 512) :
    ((cfg0.win 6).blk t).view.emb (ix3 (0 : Fin 1) r n) = ix3 (bat t) (row t r) n := by
  obtain ⟨e0, e1, e2⟩ := idx6 t
  funext a; apply Fin.ext
  match a with
  | ⟨0, _⟩ => show win0_6.index t (0 : Fin 3) * 1 + 1 * 0 = t.val / 16; omega
  | ⟨1, _⟩ => show win0_6.index t (1 : Fin 3) * 128 + 1 * r.val = 128 * (t.val % 16) + r.val; omega
  | ⟨2, _⟩ => show win0_6.index t (2 : Fin 3) * 512 + 1 * n.val = n.val; omega

/-! ## The run -/

/-- The attention of the arguments, as the reference states it. -/
abbrev G (a0 : FVec Ideal S32x2048x768 .f32) (a1 : FVec Ideal S32x256x768 .f32) (a2 : FVec Ideal S8 .f32) : FVec Ideal S32x2048x512 .f32 :=
  Cert.ReferenceIdeal.Read.val_main_v172 (F := Ideal) a0 a1 a2

theorem col_lq (n : Fin 512) : ∃ j h d, n = lq j h d :=
  ⟨⟨n.val / 128, by omega⟩, ⟨n.val / 64 % 2, by omega⟩, ⟨n.val % 64, by omega⟩, Fin.ext (by simp only [lq]; omega)⟩

theorem flushed6_eq (c : Dev nD) (hfin : (∀ i, IsReal (m ((c : Thread nD τ).loc main_arg0) i)) ∧ (∀ i, IsReal (m ((c : Thread nD τ).loc main_arg1) i)) ∧ (∀ i, IsReal (m ((c : Thread nD τ).loc main_arg2) i)))
    (t : Fin cfg0.N) : (dats m 0 c).flushed 6 t = ((cfg0.win 6).blk t).view.read (Elt Ideal)
      (G (m ((c : Thread nD τ).loc main_arg0)) (m ((c : Thread nD τ).loc main_arg1)) (m ((c : Thread nD τ).loc main_arg2))) := by
  rw [Cert.KernelIdeal.Value.flushed6_A, out_eq]
  refine funext fun j => ?_
  obtain ⟨r, n, rfl⟩ : ∃ (r : Fin 128) (n : Fin 512), j = ix3 (0 : Fin 1) r n := ⟨j 1, j 2, by
    funext a
    match a with
    | ⟨0, _⟩ => exact Fin.ext (show (j 0).val = 0 by have : (j 0).val < 1 := (j 0).isLt; omega)
    | ⟨1, _⟩ => rfl
    | ⟨2, _⟩ => rfl⟩
  show _ = G _ _ _ (((cfg0.win 6).blk t).view.emb (ix3 (0 : Fin 1) r n))
  rw [emb6]
  obtain ⟨j, h, d, rfl⟩ := col_lq n
  exact point_eq _ _ _ hfin.1 hfin.2.1 hfin.2.2 (grid0.coords t) (blk t) (coord1 t) (bat t) _ _ _ _ _ _
    (iblk0 m c t) (iblk1 m c t) (iblk2 m c t) (fun r h d => (iblk3 m c t r _).trans (cos_apply m c r h d)) (fun r h d => (iblk4 m c t r _).trans (sin_apply m c r h d))
    (fun e l => (iblk5 m c t e l).trans (V_sink m c e l)) j h r d

/-- The point whose block holds batch entry `b` and row `r`. -/
def pt (b : Fin 32) (r : Fin 2048) : Fin cfg0.N := ⟨b.val * 16 + r.val / 128, by have := b.isLt; have := r.isLt; have := N_eq; omega⟩

theorem cover6 (i : S32x2048x512.Idx) : ∃ t : Fin cfg0.N, (cfg0.win 6).flush t = true ∧ i ∈ ((cfg0.win 6).blk t).view.set := by
  obtain ⟨b, r, n, rfl⟩ : ∃ (b : Fin 32) (r : Fin 2048) (n : Fin 512), i = ix3 b r n := ⟨i 0, i 1, i 2, ValueIdx.eq_ix3 i⟩
  refine ⟨pt b r, flush0_6 _, ?_⟩
  have h := ((cfg0.win 6).blk (pt b r)).view.emb_mem_set (ix3 0 (⟨r.val % 128, Nat.mod_lt _ (by decide)⟩ : Fin 128) n)
  have hb : bat (pt b r) = b := Fin.ext (show (b.val * 16 + r.val / 128) / 16 = b.val by have := r.isLt; omega)
  have hr : row (pt b r) ⟨r.val % 128, Nat.mod_lt _ (by decide)⟩ = r :=
    Fin.ext (show 128 * ((b.val * 16 + r.val / 128) % 16) + r.val % 128 = r.val by have := r.isLt; omega)
  rw [emb6, hb, hr] at h
  exact h

/-- Both programs run, from equal finite arguments, to equal results. -/
theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hargs
  refine ⟨fun c => G (m ((c.tc : Thread _ _).loc Cert.KernelIdeal.main_arg0)) (m ((c.tc : Thread _ _).loc Cert.KernelIdeal.main_arg1)) (m ((c.tc : Thread _ _).loc Cert.KernelIdeal.main_arg2)), ?_, ?_⟩
  · refine (θ_run (Cert.KernelIdeal.defs (F := Ideal)) _ _).mono (fun r h c => ?_) (Cert.KernelIdeal.Value.run_blocks (F := Ideal) m g)
    obtain ⟨h6, hk⟩ := h c
    exact ⟨h6.trans ((Cert.KernelIdeal.Gen.dats m 0 c).arrAt_eq_of_cover 6 _ (fun t _ => flushed6_eq m c (finite_args _ _ _ (hpre c)) t) cover6), hk⟩
  · refine (θ_run (Cert.ReferenceIdeal.defs (F := Ideal)) _ _).mono (fun r h c => ?_) (Cert.ReferenceIdeal.Value.run (F := Ideal) m' g')
    obtain ⟨hr, hk⟩ := h c
    obtain ⟨a0, a1, a2⟩ := hargs c
    refine ⟨hr.trans ?_, hk⟩
    rw [Cert.ReferenceIdeal.Read.val_main_v172_eq]
    show G (m' ((c.tc : Thread _ _).loc Cert.ReferenceIdeal.main_arg0)) (m' ((c.tc : Thread _ _).loc Cert.ReferenceIdeal.main_arg1)) (m' ((c.tc : Thread _ _).loc Cert.ReferenceIdeal.main_arg2)) = _
    rw [a0, a1, a2]

end Cert.Proof.Attn
end
-- ==== Proof.lean ====
/- The certificate: every program runs to the end with its arguments kept and its counters at zero, each kernel is its ideal reading, and
   each ideal reading computes what its reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.RefMlpIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.RefOutIdeal
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.RefInIdeal
public import proofs.«01_k».proof.Proof.Gen.Odd
public import proofs.«01_k».proof.Proof.Gen.Odd.Skeleton
public import proofs.«01_k».proof.Proof.Gen.Odd.Launch
public import proofs.«01_k».proof.Proof.Gen.Odd.Points
public import proofs.«01_k».proof.Proof.Gen.Odd.Frame
public import proofs.«01_k».proof.Proof.Gen.OddIdeal
public import proofs.«01_k».proof.Proof.Gen.OddIdeal.Skeleton
public import proofs.«01_k».proof.Proof.Gen.OddIdeal.Launch
public import proofs.«01_k».proof.Proof.Gen.OddIdeal.Points
public import proofs.«01_k».proof.Proof.Gen.OddIdeal.Frame
public import proofs.«01_k».proof.Proof.Gen.RefOddIdeal
public import proofs.«01_k».proof.Proof.Gen.Join
public import proofs.«01_k».proof.Proof.Gen.Join.Skeleton
public import proofs.«01_k».proof.Proof.Gen.Join.Launch
public import proofs.«01_k».proof.Proof.Gen.Join.Points
public import proofs.«01_k».proof.Proof.Gen.Join.Frame
public import proofs.«01_k».proof.Proof.Gen.JoinIdeal
public import proofs.«01_k».proof.Proof.Gen.JoinIdeal.Skeleton
public import proofs.«01_k».proof.Proof.Gen.JoinIdeal.Launch
public import proofs.«01_k».proof.Proof.Gen.JoinIdeal.Points
public import proofs.«01_k».proof.Proof.Gen.JoinIdeal.Frame
public import proofs.«01_k».proof.Proof.Gen.RefJoinIdeal
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.RefModIdeal
public import proofs.«01_k».proof.Proof.Gen.OutCtx
public import proofs.«01_k».proof.Proof.Gen.OutCtx.Skeleton
public import proofs.«01_k».proof.Proof.Gen.OutCtx.Launch
public import proofs.«01_k».proof.Proof.Gen.OutCtx.Points
public import proofs.«01_k».proof.Proof.Gen.OutCtx.Frame
public import proofs.«01_k».proof.Proof.Gen.OutCtxIdeal
public import proofs.«01_k».proof.Proof.Gen.OutCtxIdeal.Skeleton
public import proofs.«01_k».proof.Proof.Gen.OutCtxIdeal.Launch
public import proofs.«01_k».proof.Proof.Gen.OutCtxIdeal.Points
public import proofs.«01_k».proof.Proof.Gen.OutCtxIdeal.Frame
public import proofs.«01_k».proof.Proof.Gen.RefOutCtxIdeal
public import proofs.«01_k».proof.Proof.Gen.InCtx
public import proofs.«01_k».proof.Proof.Gen.InCtx.Skeleton
public import proofs.«01_k».proof.Proof.Gen.InCtx.Launch
public import proofs.«01_k».proof.Proof.Gen.InCtx.Points
public import proofs.«01_k».proof.Proof.Gen.InCtx.Frame
public import proofs.«01_k».proof.Proof.Gen.InCtxIdeal
public import proofs.«01_k».proof.Proof.Gen.InCtxIdeal.Skeleton
public import proofs.«01_k».proof.Proof.Gen.InCtxIdeal.Launch
public import proofs.«01_k».proof.Proof.Gen.InCtxIdeal.Points
public import proofs.«01_k».proof.Proof.Gen.InCtxIdeal.Frame
public import proofs.«01_k».proof.Proof.Gen.RefInCtxIdeal
public import proofs.«01_k».proof.Proof.Gen.OddCtx
public import proofs.«01_k».proof.Proof.Gen.OddCtx.Skeleton
public import proofs.«01_k».proof.Proof.Gen.OddCtx.Launch
public import proofs.«01_k».proof.Proof.Gen.OddCtx.Points
public import proofs.«01_k».proof.Proof.Gen.OddCtx.Frame
public import proofs.«01_k».proof.Proof.Gen.OddCtxIdeal
public import proofs.«01_k».proof.Proof.Gen.OddCtxIdeal.Skeleton
public import proofs.«01_k».proof.Proof.Gen.OddCtxIdeal.Launch
public import proofs.«01_k».proof.Proof.Gen.OddCtxIdeal.Points
public import proofs.«01_k».proof.Proof.Gen.OddCtxIdeal.Frame
public import proofs.«01_k».proof.Proof.Gen.RefOddCtxIdeal
public import proofs.«01_k».proof.Proof.Gen.Pre_finite
public import proofs.«01_k».proof.Proof.Gen.Pre_finite_rows
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.MlpIdeal.Value
public import proofs.«01_k».proof.Proof.Gen.RefMlpIdeal.Run
public import proofs.«01_k».proof.Proof.Gen.RefMlpIdeal.Read
public import proofs.«01_k».proof.Proof.Gen.OutIdeal.Value
public import proofs.«01_k».proof.Proof.Gen.RefOutIdeal.Run
public import proofs.«01_k».proof.Proof.Gen.RefOutIdeal.Read
public import proofs.«01_k».proof.Proof.Gen.InIdeal.Value
public import proofs.«01_k».proof.Proof.Gen.RefInIdeal.Run
public import proofs.«01_k».proof.Proof.Gen.RefInIdeal.Read
public import proofs.«01_k».proof.Proof.Gen.OddIdeal.Value
public import proofs.«01_k».proof.Proof.Gen.RefOddIdeal.Run
public import proofs.«01_k».proof.Proof.Gen.RefOddIdeal.Read
public import proofs.«01_k».proof.Proof.Gen.JoinIdeal.Value
public import proofs.«01_k».proof.Proof.Gen.RefJoinIdeal.Run
public import proofs.«01_k».proof.Proof.Gen.RefJoinIdeal.Read
public import proofs.«01_k».proof.Proof.Gen.ModIdeal.Value
public import proofs.«01_k».proof.Proof.Gen.RefModIdeal.Run
public import proofs.«01_k».proof.Proof.Gen.RefModIdeal.Read
public import proofs.«01_k».proof.Proof.Gen.OutCtxIdeal.Value
public import proofs.«01_k».proof.Proof.Gen.RefOutCtxIdeal.Run
public import proofs.«01_k».proof.Proof.Gen.RefOutCtxIdeal.Read
public import proofs.«01_k».proof.Proof.Gen.InCtxIdeal.Value
public import proofs.«01_k».proof.Proof.Gen.RefInCtxIdeal.Run
public import proofs.«01_k».proof.Proof.Gen.RefInCtxIdeal.Read
public import proofs.«01_k».proof.Proof.Gen.OddCtxIdeal.Value
public import proofs.«01_k».proof.Proof.Gen.RefOddCtxIdeal.Run
public import proofs.«01_k».proof.Proof.Gen.RefOddCtxIdeal.Read
public import proofs.«01_k».proof.Proof.Gen.Feat
public import proofs.«01_k».proof.Proof.Gen.Feat.Skeleton
public import proofs.«01_k».proof.Proof.Gen.Feat.Launch
public import proofs.«01_k».proof.Proof.Gen.Feat.Points
public import proofs.«01_k».proof.Proof.Gen.Feat.Frame
public import proofs.«01_k».proof.Proof.Gen.FeatIdeal
public import proofs.«01_k».proof.Proof.Gen.FeatIdeal.Skeleton
public import proofs.«01_k».proof.Proof.Gen.FeatIdeal.Launch
public import proofs.«01_k».proof.Proof.Gen.FeatIdeal.Points
public import proofs.«01_k».proof.Proof.Gen.FeatIdeal.Frame
public import proofs.«01_k».proof.Proof.Gen.RefFeatIdeal
public import proofs.«01_k».proof.Proof.Gen.FeatIdeal.Value
public import proofs.«01_k».proof.Proof.Gen.RefFeatIdeal.Run
public import proofs.«01_k».proof.Proof.Gen.RefFeatIdeal.Read
public import proofs.«01_k».proof.Proof.Gen.Pre_finite_keys
public import proofs.«01_k».proof.Proof.Mod
public import proofs.«01_k».proof.Proof.OutCtx
public import proofs.«01_k».proof.Proof.InCtx
public import proofs.«01_k».proof.Proof.OddCtx
public import proofs.«01_k».proof.Proof.Feat
public import proofs.«01_k».proof.Proof.In
public import proofs.«01_k».proof.Proof.Join
public import proofs.«01_k».proof.Proof.Odd
public import proofs.«01_k».proof.Proof.Mlp
public import proofs.«01_k».proof.Proof.Out
public import proofs.«01_k».proof.Proof.Attn
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-! The references' frames: each is a host program without counters. -/

theorem frame_RefMlpIdeal : Cert.quiescent_RefMlpIdeal (hRefMlpIdeal := Cert.RefMlpIdeal.Gen.facts) := fun m ρ _ =>
  (θ_run (Cert.RefMlpIdeal.defs (F := Ideal)) _ _).mono (fun r h => ⟨fun c => (h c).2, sem_eq_zero_of_no_sems (by decide) r.2⟩) (Cert.RefMlpIdeal.Value.run (F := Ideal) m ρ)
theorem frame_RefOutIdeal : Cert.quiescent_RefOutIdeal (hRefOutIdeal := Cert.RefOutIdeal.Gen.facts) := fun m ρ _ =>
  (θ_run (Cert.RefOutIdeal.defs (F := Ideal)) _ _).mono (fun r h => ⟨fun c => (h c).2, sem_eq_zero_of_no_sems (by decide) r.2⟩) (Cert.RefOutIdeal.Value.run (F := Ideal) m ρ)
theorem frame_RefInIdeal : Cert.quiescent_RefInIdeal (hRefInIdeal := Cert.RefInIdeal.Gen.facts) := fun m ρ _ =>
  (θ_run (Cert.RefInIdeal.defs (F := Ideal)) _ _).mono (fun r h => ⟨fun c => (h c).2.2, sem_eq_zero_of_no_sems (by decide) r.2⟩) (Cert.RefInIdeal.Value.run (F := Ideal) m ρ)
theorem frame_RefOddIdeal : Cert.quiescent_RefOddIdeal (hRefOddIdeal := Cert.RefOddIdeal.Gen.facts) := fun m ρ _ =>
  (θ_run (Cert.RefOddIdeal.defs (F := Ideal)) _ _).mono (fun r h => ⟨fun c => (h c).2.2, sem_eq_zero_of_no_sems (by decide) r.2⟩) (Cert.RefOddIdeal.Value.run (F := Ideal) m ρ)
theorem frame_ReferenceIdeal : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩) (Cert.ReferenceIdeal.Value.run (F := Ideal) m ρ)
theorem frame_ReferenceIdeal_finite : Cert.quiescent_ReferenceIdeal_pre_finite (hReferenceIdeal := Cert.ReferenceIdeal.Gen.facts) (hPre_finite := Cert.Pre_finite.Gen.facts) := fun m ρ _ =>
  (θ_run (Cert.ReferenceIdeal.defs (F := Ideal)) _ _).mono (fun r h => ⟨fun c => (h c).2, sem_eq_zero_of_no_sems (by decide) r.2⟩) (Cert.ReferenceIdeal.Value.run (F := Ideal) m ρ)
theorem frame_RefJoinIdeal : Cert.quiescent_RefJoinIdeal (hRefJoinIdeal := Cert.RefJoinIdeal.Gen.facts) := fun m ρ _ =>
  (θ_run (Cert.RefJoinIdeal.defs (F := Ideal)) _ _).mono (fun r h => ⟨fun c => (h c).2, sem_eq_zero_of_no_sems (by decide) r.2⟩) (Cert.RefJoinIdeal.Value.run (F := Ideal) m ρ)
theorem frame_RefJoinIdeal_finite_rows : Cert.quiescent_RefJoinIdeal_pre_finite_rows (hRefJoinIdeal := Cert.RefJoinIdeal.Gen.facts) (hPre_finite_rows := Cert.Pre_finite_rows.Gen.facts) := fun m ρ _ =>
  (θ_run (Cert.RefJoinIdeal.defs (F := Ideal)) _ _).mono (fun r h => ⟨fun c => (h c).2, sem_eq_zero_of_no_sems (by decide) r.2⟩) (Cert.RefJoinIdeal.Value.run (F := Ideal) m ρ)
theorem frame_RefModIdeal : Cert.quiescent_RefModIdeal (hRefModIdeal := Cert.RefModIdeal.Gen.facts) := fun m ρ _ =>
  (θ_run (Cert.RefModIdeal.defs (F := Ideal)) _ _).mono (fun r h => ⟨fun c => (h c).2, sem_eq_zero_of_no_sems (by decide) r.2⟩) (Cert.RefModIdeal.Value.run (F := Ideal) m ρ)
theorem frame_RefOutCtxIdeal : Cert.quiescent_RefOutCtxIdeal (hRefOutCtxIdeal := Cert.RefOutCtxIdeal.Gen.facts) := fun m ρ _ =>
  (θ_run (Cert.RefOutCtxIdeal.defs (F := Ideal)) _ _).mono (fun r h => ⟨fun c => (h c).2, sem_eq_zero_of_no_sems (by decide) r.2⟩) (Cert.RefOutCtxIdeal.Value.run (F := Ideal) m ρ)
theorem frame_RefInCtxIdeal : Cert.quiescent_RefInCtxIdeal (hRefInCtxIdeal := Cert.RefInCtxIdeal.Gen.facts) := fun m ρ _ =>
  (θ_run (Cert.RefInCtxIdeal.defs (F := Ideal)) _ _).mono (fun r h => ⟨fun c => (h c).2.2, sem_eq_zero_of_no_sems (by decide) r.2⟩) (Cert.RefInCtxIdeal.Value.run (F := Ideal) m ρ)
theorem frame_RefOddCtxIdeal : Cert.quiescent_RefOddCtxIdeal (hRefOddCtxIdeal := Cert.RefOddCtxIdeal.Gen.facts) := fun m ρ _ =>
  (θ_run (Cert.RefOddCtxIdeal.defs (F := Ideal)) _ _).mono (fun r h => ⟨fun c => (h c).2.2, sem_eq_zero_of_no_sems (by decide) r.2⟩) (Cert.RefOddCtxIdeal.Value.run (F := Ideal) m ρ)
theorem frame_RefFeatIdeal : Cert.quiescent_RefFeatIdeal (hRefFeatIdeal := Cert.RefFeatIdeal.Gen.facts) := fun m ρ _ =>
  (θ_run (Cert.RefFeatIdeal.defs (F := Ideal)) _ _).mono (fun r h => ⟨fun c => (h c).2.2, sem_eq_zero_of_no_sems (by decide) r.2⟩) (Cert.RefFeatIdeal.Value.run (F := Ideal) m ρ)
theorem frame_RefFeatIdeal_finite_keys : Cert.quiescent_RefFeatIdeal_pre_finite_keys (hRefFeatIdeal := Cert.RefFeatIdeal.Gen.facts) (hPre_finite_keys := Cert.Pre_finite_keys.Gen.facts) := fun m ρ _ =>
  (θ_run (Cert.RefFeatIdeal.defs (F := Ideal)) _ _).mono (fun r h => ⟨fun c => (h c).2.2, sem_eq_zero_of_no_sems (by decide) r.2⟩) (Cert.RefFeatIdeal.Value.run (F := Ideal) m ρ)

theorem claim : Cert.Claim :=
  ⟨Cert.Kernel.Gen.facts, Cert.KernelIdeal.Gen.facts, Cert.ReferenceIdeal.Gen.facts, Cert.Mlp.Gen.facts, Cert.MlpIdeal.Gen.facts, Cert.RefMlpIdeal.Gen.facts, Cert.Out.Gen.facts, Cert.OutIdeal.Gen.facts, Cert.RefOutIdeal.Gen.facts, Cert.In.Gen.facts, Cert.InIdeal.Gen.facts, Cert.RefInIdeal.Gen.facts, Cert.Odd.Gen.facts, Cert.OddIdeal.Gen.facts, Cert.RefOddIdeal.Gen.facts, Cert.Join.Gen.facts, Cert.JoinIdeal.Gen.facts, Cert.RefJoinIdeal.Gen.facts, Cert.Mod.Gen.facts, Cert.ModIdeal.Gen.facts, Cert.RefModIdeal.Gen.facts, Cert.OutCtx.Gen.facts, Cert.OutCtxIdeal.Gen.facts, Cert.RefOutCtxIdeal.Gen.facts, Cert.InCtx.Gen.facts, Cert.InCtxIdeal.Gen.facts, Cert.RefInCtxIdeal.Gen.facts, Cert.OddCtx.Gen.facts, Cert.OddCtxIdeal.Gen.facts, Cert.RefOddCtxIdeal.Gen.facts, Cert.Feat.Gen.facts, Cert.FeatIdeal.Gen.facts, Cert.RefFeatIdeal.Gen.facts, Cert.Pre_finite.Gen.facts, Cert.Pre_finite_rows.Gen.facts, Cert.Pre_finite_keys.Gen.facts,
    fun m ρ _ => Cert.Kernel.Gen.frame m ρ,
    fun m ρ _ => Cert.KernelIdeal.Gen.frame m ρ,
    fun m ρ _ => Cert.KernelIdeal.Gen.frame m ρ,
    frame_ReferenceIdeal,
    frame_ReferenceIdeal_finite,
    fun m ρ _ => Cert.Mlp.Gen.frame m ρ,
    fun m ρ _ => Cert.MlpIdeal.Gen.frame m ρ,
    frame_RefMlpIdeal,
    fun m ρ _ => Cert.Out.Gen.frame m ρ,
    fun m ρ _ => Cert.OutIdeal.Gen.frame m ρ,
    frame_RefOutIdeal,
    fun m ρ _ => Cert.In.Gen.frame m ρ,
    fun m ρ _ => Cert.InIdeal.Gen.frame m ρ,
    frame_RefInIdeal,
    fun m ρ _ => Cert.Odd.Gen.frame m ρ,
    fun m ρ _ => Cert.OddIdeal.Gen.frame m ρ,
    frame_RefOddIdeal,
    fun m ρ _ => Cert.Join.Gen.frame m ρ,
    fun m ρ _ => Cert.JoinIdeal.Gen.frame m ρ,
    fun m ρ _ => Cert.JoinIdeal.Gen.frame m ρ,
    frame_RefJoinIdeal,
    frame_RefJoinIdeal_finite_rows,
    fun m ρ _ => Cert.Mod.Gen.frame m ρ,
    fun m ρ _ => Cert.ModIdeal.Gen.frame m ρ,
    frame_RefModIdeal,
    fun m ρ _ => Cert.OutCtx.Gen.frame m ρ,
    fun m ρ _ => Cert.OutCtxIdeal.Gen.frame m ρ,
    frame_RefOutCtxIdeal,
    fun m ρ _ => Cert.InCtx.Gen.frame m ρ,
    fun m ρ _ => Cert.InCtxIdeal.Gen.frame m ρ,
    frame_RefInCtxIdeal,
    fun m ρ _ => Cert.OddCtx.Gen.frame m ρ,
    fun m ρ _ => Cert.OddCtxIdeal.Gen.frame m ρ,
    frame_RefOddCtxIdeal,
    fun m ρ _ => Cert.Feat.Gen.frame m ρ,
    fun m ρ _ => Cert.FeatIdeal.Gen.frame m ρ,
    fun m ρ _ => Cert.FeatIdeal.Gen.frame m ρ,
    frame_RefFeatIdeal,
    frame_RefFeatIdeal_finite_keys,
    trivial,
    Attn.algebraic,
    trivial,
    Mlp.algebraic,
    trivial,
    Out.algebraic,
    trivial,
    In.algebraic,
    trivial,
    Odd.algebraic,
    trivial,
    Join.algebraic,
    trivial,
    Mod.algebraic,
    trivial,
    OutCtx.algebraic,
    trivial,
    InCtx.algebraic,
    trivial,
    OddCtx.algebraic,
    trivial,
    Feat.algebraic⟩

end Cert.Proof

end
